-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  IdealRules.named_const.Statement Cert.Kernel2Ideal.κ "log2e" .f32 0x3FB8AA3B#32 (((Real.log 2)⁻¹ : ℝ) : EReal)
  ∧ IdealRules.named_const.Statement Cert.Kernel2Ideal.κ "mask" .f32 0xF149F2CA#32 ⊥

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v126_0)) (v1 : (c : Dev Cert.Kernel2Ideal.nD) → Buf (Elt Ideal) ((c.tc : Thread Cert.Kernel2Ideal.nD Cert.Kernel2Ideal.τ).loc Cert.Kernel2Ideal.main_v126_1)) (v2 : (c : Dev Cert.Kernel2Ideal.nD) → Buf (Elt Ideal) ((c.tc : Thread Cert.Kernel2Ideal.nD Cert.Kernel2Ideal.τ).loc Cert.Kernel2Ideal.main_v126_2)) (v3 : (c : Dev Cert.Kernel2Ideal.nD) → Buf (Elt Ideal) ((c.tc : Thread Cert.Kernel2Ideal.nD Cert.Kernel2Ideal.τ).loc Cert.Kernel2Ideal.main_v126_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v126_0) = v0 c
          ∧ r.2.mem ((c.tc : Thread Cert.Kernel2Ideal.nD Cert.Kernel2Ideal.τ).loc Cert.Kernel2Ideal.main_v126_1) = v1 c
          ∧ r.2.mem ((c.tc : Thread Cert.Kernel2Ideal.nD Cert.Kernel2Ideal.τ).loc Cert.Kernel2Ideal.main_v126_2) = v2 c
          ∧ r.2.mem ((c.tc : Thread Cert.Kernel2Ideal.nD Cert.Kernel2Ideal.τ).loc Cert.Kernel2Ideal.main_v126_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v85) = v0 c
          ∧ r.2.mem ((c.tc : Thread Cert.Reference2Ideal.nD Cert.Reference2Ideal.τ).loc Cert.Reference2Ideal.main_v87) = v1 c
          ∧ r.2.mem ((c.tc : Thread Cert.Reference2Ideal.nD Cert.Reference2Ideal.τ).loc Cert.Reference2Ideal.main_v89) = v2 c
          ∧ r.2.mem ((c.tc : Thread Cert.Reference2Ideal.nD Cert.Reference2Ideal.τ).loc Cert.Reference2Ideal.main_v84) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)) (v2 : (c : Dev Cert.Kernel3Ideal.nD) → Buf (Elt Ideal) ((c.tc : Thread Cert.Kernel3Ideal.nD Cert.Kernel3Ideal.τ).loc Cert.Kernel3Ideal.main_v7_2)) (v3 : (c : Dev Cert.Kernel3Ideal.nD) → Buf (Elt Ideal) ((c.tc : Thread Cert.Kernel3Ideal.nD Cert.Kernel3Ideal.τ).loc Cert.Kernel3Ideal.main_v7_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_v7_2) = v2 c
          ∧ r.2.mem ((c.tc : Thread Cert.Kernel3Ideal.nD Cert.Kernel3Ideal.τ).loc Cert.Kernel3Ideal.main_v7_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v66) = v0 c
          ∧ r.2.mem ((c.tc : Thread Cert.Reference3Ideal.nD Cert.Reference3Ideal.τ).loc Cert.Reference3Ideal.main_v68) = v1 c
          ∧ r.2.mem ((c.tc : Thread Cert.Reference3Ideal.nD Cert.Reference3Ideal.τ).loc Cert.Reference3Ideal.main_v69) = v2 c
          ∧ r.2.mem ((c.tc : Thread Cert.Reference3Ideal.nD Cert.Reference3Ideal.τ).loc Cert.Reference3Ideal.main_v71) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v29_0)) (v1 : (c : Dev Cert.Kernel4Ideal.nD) → Buf (Elt Ideal) ((c.tc : Thread Cert.Kernel4Ideal.nD Cert.Kernel4Ideal.τ).loc Cert.Kernel4Ideal.main_v29_1)) (v2 : (c : Dev Cert.Kernel4Ideal.nD) → Buf (Elt Ideal) ((c.tc : Thread Cert.Kernel4Ideal.nD Cert.Kernel4Ideal.τ).loc Cert.Kernel4Ideal.main_v29_2)) (v3 : (c : Dev Cert.Kernel4Ideal.nD) → Buf (Elt Ideal) ((c.tc : Thread Cert.Kernel4Ideal.nD Cert.Kernel4Ideal.τ).loc Cert.Kernel4Ideal.main_v29_3)) (v4 : (c : Dev Cert.Kernel4Ideal.nD) → Buf (Elt Ideal) ((c.tc : Thread Cert.Kernel4Ideal.nD Cert.Kernel4Ideal.τ).loc Cert.Kernel4Ideal.main_v29_4)) (v5 : (c : Dev Cert.Kernel4Ideal.nD) → Buf (Elt Ideal) ((c.tc : Thread Cert.Kernel4Ideal.nD Cert.Kernel4Ideal.τ).loc Cert.Kernel4Ideal.main_v29_5)) (v6 : (c : Dev Cert.Kernel4Ideal.nD) → Buf (Elt Ideal) ((c.tc : Thread Cert.Kernel4Ideal.nD Cert.Kernel4Ideal.τ).loc Cert.Kernel4Ideal.main_v29_6)) (v7 : (c : Dev Cert.Kernel4Ideal.nD) → Buf (Elt Ideal) ((c.tc : Thread Cert.Kernel4Ideal.nD Cert.Kernel4Ideal.τ).loc Cert.Kernel4Ideal.main_v29_7)) (v8 : (c : Dev Cert.Kernel4Ideal.nD) → Buf (Elt Ideal) ((c.tc : Thread Cert.Kernel4Ideal.nD Cert.Kernel4Ideal.τ).loc Cert.Kernel4Ideal.main_v29_8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v29_0) = v0 c
          ∧ r.2.mem ((c.tc : Thread Cert.Kernel4Ideal.nD Cert.Kernel4Ideal.τ).loc Cert.Kernel4Ideal.main_v29_1) = v1 c
          ∧ r.2.mem ((c.tc : Thread Cert.Kernel4Ideal.nD Cert.Kernel4Ideal.τ).loc Cert.Kernel4Ideal.main_v29_2) = v2 c
          ∧ r.2.mem ((c.tc : Thread Cert.Kernel4Ideal.nD Cert.Kernel4Ideal.τ).loc Cert.Kernel4Ideal.main_v29_3) = v3 c
          ∧ r.2.mem ((c.tc : Thread Cert.Kernel4Ideal.nD Cert.Kernel4Ideal.τ).loc Cert.Kernel4Ideal.main_v29_4) = v4 c
          ∧ r.2.mem ((c.tc : Thread Cert.Kernel4Ideal.nD Cert.Kernel4Ideal.τ).loc Cert.Kernel4Ideal.main_v29_5) = v5 c
          ∧ r.2.mem ((c.tc : Thread Cert.Kernel4Ideal.nD Cert.Kernel4Ideal.τ).loc Cert.Kernel4Ideal.main_v29_6) = v6 c
          ∧ r.2.mem ((c.tc : Thread Cert.Kernel4Ideal.nD Cert.Kernel4Ideal.τ).loc Cert.Kernel4Ideal.main_v29_7) = v7 c
          ∧ r.2.mem ((c.tc : Thread Cert.Kernel4Ideal.nD Cert.Kernel4Ideal.τ).loc Cert.Kernel4Ideal.main_v29_8) = v8 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v89) = v0 c
          ∧ r.2.mem ((c.tc : Thread Cert.Reference4Ideal.nD Cert.Reference4Ideal.τ).loc Cert.Reference4Ideal.main_v99) = v1 c
          ∧ r.2.mem ((c.tc : Thread Cert.Reference4Ideal.nD Cert.Reference4Ideal.τ).loc Cert.Reference4Ideal.main_v100) = v2 c
          ∧ r.2.mem ((c.tc : Thread Cert.Reference4Ideal.nD Cert.Reference4Ideal.τ).loc Cert.Reference4Ideal.main_v101) = v3 c
          ∧ r.2.mem ((c.tc : Thread Cert.Reference4Ideal.nD Cert.Reference4Ideal.τ).loc Cert.Reference4Ideal.main_v102) = v4 c
          ∧ r.2.mem ((c.tc : Thread Cert.Reference4Ideal.nD Cert.Reference4Ideal.τ).loc Cert.Reference4Ideal.main_v103) = v5 c
          ∧ r.2.mem ((c.tc : Thread Cert.Reference4Ideal.nD Cert.Reference4Ideal.τ).loc Cert.Reference4Ideal.main_v104) = v6 c
          ∧ r.2.mem ((c.tc : Thread Cert.Reference4Ideal.nD Cert.Reference4Ideal.τ).loc Cert.Reference4Ideal.main_v105) = v7 c
          ∧ r.2.mem ((c.tc : Thread Cert.Reference4Ideal.nD Cert.Reference4Ideal.τ).loc Cert.Reference4Ideal.main_v106) = v8 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v12_0)) (v1 : (c : Dev Cert.Kernel5Ideal.nD) → Buf (Elt Ideal) ((c.tc : Thread Cert.Kernel5Ideal.nD Cert.Kernel5Ideal.τ).loc Cert.Kernel5Ideal.main_v12_1)) (v2 : (c : Dev Cert.Kernel5Ideal.nD) → Buf (Elt Ideal) ((c.tc : Thread Cert.Kernel5Ideal.nD Cert.Kernel5Ideal.τ).loc Cert.Kernel5Ideal.main_v12_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v12_0) = v0 c
          ∧ r.2.mem ((c.tc : Thread Cert.Kernel5Ideal.nD Cert.Kernel5Ideal.τ).loc Cert.Kernel5Ideal.main_v12_1) = v1 c
          ∧ r.2.mem ((c.tc : Thread Cert.Kernel5Ideal.nD Cert.Kernel5Ideal.τ).loc Cert.Kernel5Ideal.main_v12_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v84) = v0 c
          ∧ r.2.mem ((c.tc : Thread Cert.Reference5Ideal.nD Cert.Reference5Ideal.τ).loc Cert.Reference5Ideal.main_v89) = v1 c
          ∧ r.2.mem ((c.tc : Thread Cert.Reference5Ideal.nD Cert.Reference5Ideal.τ).loc Cert.Reference5Ideal.main_v76) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel8_Kernel8Ideal : Prop :=
  IdealRules.named_const.Statement Cert.Kernel8Ideal.κ "mask" .f32 0xF149F2CA#32 ⊥
  ∧ IdealRules.named_const.Statement Cert.Kernel8Ideal.κ "log2e" .f32 0x3FB8AA3B#32 (((Real.log 2)⁻¹ : ℝ) : EReal)

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v62_0)) (v1 : (c : Dev Cert.Kernel8Ideal.nD) → Buf (Elt Ideal) ((c.tc : Thread Cert.Kernel8Ideal.nD Cert.Kernel8Ideal.τ).loc Cert.Kernel8Ideal.main_v62_1)) (v2 : (c : Dev Cert.Kernel8Ideal.nD) → Buf (Elt Ideal) ((c.tc : Thread Cert.Kernel8Ideal.nD Cert.Kernel8Ideal.τ).loc Cert.Kernel8Ideal.main_v62_2)) (v3 : (c : Dev Cert.Kernel8Ideal.nD) → Buf (Elt Ideal) ((c.tc : Thread Cert.Kernel8Ideal.nD Cert.Kernel8Ideal.τ).loc Cert.Kernel8Ideal.main_v62_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v62_0) = v0 c
          ∧ r.2.mem ((c.tc : Thread Cert.Kernel8Ideal.nD Cert.Kernel8Ideal.τ).loc Cert.Kernel8Ideal.main_v62_1) = v1 c
          ∧ r.2.mem ((c.tc : Thread Cert.Kernel8Ideal.nD Cert.Kernel8Ideal.τ).loc Cert.Kernel8Ideal.main_v62_2) = v2 c
          ∧ r.2.mem ((c.tc : Thread Cert.Kernel8Ideal.nD Cert.Kernel8Ideal.τ).loc Cert.Kernel8Ideal.main_v62_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v64) = v0 c
          ∧ r.2.mem ((c.tc : Thread Cert.Reference8Ideal.nD Cert.Reference8Ideal.τ).loc Cert.Reference8Ideal.main_v63) = v1 c
          ∧ r.2.mem ((c.tc : Thread Cert.Reference8Ideal.nD Cert.Reference8Ideal.τ).loc Cert.Reference8Ideal.main_v67) = v2 c
          ∧ r.2.mem ((c.tc : Thread Cert.Reference8Ideal.nD Cert.Reference8Ideal.τ).loc Cert.Reference8Ideal.main_v70) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v7_0)) (v1 : (c : Dev Cert.Kernel7Ideal.nD) → Buf (Elt Ideal) ((c.tc : Thread Cert.Kernel7Ideal.nD Cert.Kernel7Ideal.τ).loc Cert.Kernel7Ideal.main_v7_1)) (v2 : (c : Dev Cert.Kernel7Ideal.nD) → Buf (Elt Ideal) ((c.tc : Thread Cert.Kernel7Ideal.nD Cert.Kernel7Ideal.τ).loc Cert.Kernel7Ideal.main_v7_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7_0) = v0 c
          ∧ r.2.mem ((c.tc : Thread Cert.Kernel7Ideal.nD Cert.Kernel7Ideal.τ).loc Cert.Kernel7Ideal.main_v7_1) = v1 c
          ∧ r.2.mem ((c.tc : Thread Cert.Kernel7Ideal.nD Cert.Kernel7Ideal.τ).loc Cert.Kernel7Ideal.main_v7_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_v42) = v1 c
          ∧ r.2.mem ((c.tc : Thread Cert.Reference7Ideal.nD Cert.Reference7Ideal.τ).loc Cert.Reference7Ideal.main_v43) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v72_0)) (v1 : (c : Dev Cert.Kernel9Ideal.nD) → Buf (Elt Ideal) ((c.tc : Thread Cert.Kernel9Ideal.nD Cert.Kernel9Ideal.τ).loc Cert.Kernel9Ideal.main_v72_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v72_0) = v0 c
          ∧ r.2.mem ((c.tc : Thread Cert.Kernel9Ideal.nD Cert.Kernel9Ideal.τ).loc Cert.Kernel9Ideal.main_v72_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v83) = v0 c
          ∧ r.2.mem ((c.tc : Thread Cert.Reference9Ideal.nD Cert.Reference9Ideal.τ).loc Cert.Reference9Ideal.main_v85) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)) →
    ∃ (v0 : (c : Dev Cert.Kernel10Ideal.nD) → Buf (Elt Ideal) ((c.tc : Thread Cert.Kernel10Ideal.nD Cert.Kernel10Ideal.τ).loc Cert.Kernel10Ideal.main_v9_0)) (v1 : (c : Dev Cert.Kernel10Ideal.nD) → Buf (Elt Ideal) ((c.tc : Thread Cert.Kernel10Ideal.nD Cert.Kernel10Ideal.τ).loc Cert.Kernel10Ideal.main_v9_1)) (v2 : (c : Dev Cert.Kernel10Ideal.nD) → Buf (Elt Ideal) ((c.tc : Thread Cert.Kernel10Ideal.nD Cert.Kernel10Ideal.τ).loc Cert.Kernel10Ideal.main_v9_2)) (v3 : (c : Dev Cert.Kernel10Ideal.nD) → Buf (Elt Ideal) ((c.tc : Thread Cert.Kernel10Ideal.nD Cert.Kernel10Ideal.τ).loc Cert.Kernel10Ideal.main_v9_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v9_0) = v0 c
          ∧ r.2.mem ((c.tc : Thread Cert.Kernel10Ideal.nD Cert.Kernel10Ideal.τ).loc Cert.Kernel10Ideal.main_v9_1) = v1 c
          ∧ r.2.mem ((c.tc : Thread Cert.Kernel10Ideal.nD Cert.Kernel10Ideal.τ).loc Cert.Kernel10Ideal.main_v9_2) = v2 c
          ∧ r.2.mem ((c.tc : Thread Cert.Kernel10Ideal.nD Cert.Kernel10Ideal.τ).loc Cert.Kernel10Ideal.main_v9_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v44) = v0 c
          ∧ r.2.mem ((c.tc : Thread Cert.Reference10Ideal.nD Cert.Reference10Ideal.τ).loc Cert.Reference10Ideal.main_v20) = v1 c
          ∧ r.2.mem ((c.tc : Thread Cert.Reference10Ideal.nD Cert.Reference10Ideal.τ).loc Cert.Reference10Ideal.main_v45) = v2 c
          ∧ r.2.mem ((c.tc : Thread Cert.Reference10Ideal.nD Cert.Reference10Ideal.τ).loc Cert.Reference10Ideal.main_v46) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel8 : Cert.Kernel8.Facts) (hKernel8Ideal : Cert.Kernel8Ideal.Facts) (hReference8Ideal : Cert.Reference8Ideal.Facts) (hKernel7 : Cert.Kernel7.Facts) (hKernel7Ideal : Cert.Kernel7Ideal.Facts) (hReference7Ideal : Cert.Reference7Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite2 : Cert.Pre_finite2.Facts) (hPre_finite3 : Cert.Pre_finite3.Facts) (hPre_finite4 : Cert.Pre_finite4.Facts) (hPre_finite5 : Cert.Pre_finite5.Facts) (hPre_finite8 : Cert.Pre_finite8.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel7_Kernel7Ideal
    ∧ algebraic_Kernel7Ideal_Reference7Ideal (hKernel7Ideal := hKernel7Ideal) (hReference7Ideal := hReference7Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite2.lean ====
abbrev S8192x8x64 : Shape := ⟨3, ![8192, 8, 64]⟩
abbrev S8192x8 : Shape := ⟨2, ![8192, 8]⟩
abbrev S_ : Shape := ⟨0, ![]⟩

class Facts : Prop where
  bcast_S_S8192x8x64 : S_.BroadcastsInDim S8192x8x64 (![] : Fin 0 → Fin S8192x8x64.rank)
  reducesTo_S8192x8x64_S_d0_1_2 : S8192x8x64.ReducesTo [0, 1, 2] S_
  h_S_ : 0 < S_.numel
  bcast_S_S8192x8 : S_.BroadcastsInDim S8192x8 (![] : Fin 0 → Fin S8192x8.rank)
  reducesTo_S8192x8_S_d0_1 : S8192x8.ReducesTo [0, 1] S_

variable [Facts]

def fn_part1 {F : FTy → Type} [FloatOps F] (main_arg4 : FVec F S8192x8x64 .f32) (main_v13 : IVec S_ 1) (main_v16 : IVec S8192x8 1) : IVec S_ 1 :=
  let main_c_5 : IVec S_ 1 := constantI S_ 1 1#1
  let main_v17 : IVec S_ 1 := (fun x v => Host.reduce IntOp.andi x v reducesTo_S8192x8_S_d0_1 h_S_) main_v16 main_c_5
  let main_v18 : IVec S_ 1 := andi main_v13 main_v17
  let main_v19 : FVec F S8192x8x64 .f32 := Host.absf main_arg4
  let main_cst_6 : FVec F S_ .f32 := constant S_ .f32 0x7F800000#32
  let main_v20 : FVec F S8192x8x64 .f32 := broadcastInDim S8192x8x64 ![] bcast_S_S8192x8x64 main_cst_6
  let main_v21 : IVec S8192x8x64 1 := cmpf .olt main_v19 main_v20
  let main_c_7 : IVec S_ 1 := constantI S_ 1 1#1
  let main_v22 : IVec S_ 1 := (fun x v => Host.reduce IntOp.andi x v reducesTo_S8192x8x64_S_d0_1_2 h_S_) main_v21 main_c_7
  let main_v23 : IVec S_ 1 := andi main_v18 main_v22
  main_v23

def fn {F : FTy → Type} [FloatOps F] (main_arg0 : FVec F S8192x8x64 .f32) (main_arg1 : FVec F S8192x8x64 .f32) (main_arg2 : FVec F S8192x8x64 .f32) (main_arg3 : FVec F S8192x8 .f32) (main_arg4 : FVec F S8192x8x64 .f32) : IVec S_ 1 :=
  let main_v0 : FVec F S8192x8x64 .f32 := Host.absf main_arg0
  let main_cst : FVec F S_ .f32 := constant S_ .f32 0x7F800000#32
  let main_v1 : FVec F S8192x8x64 .f32 := broadcastInDim S8192x8x64 ![] bcast_S_S8192x8x64 main_cst
  let main_v2 : IVec S8192x8x64 1 := cmpf .olt main_v0 main_v1
  let main_c : IVec S_ 1 := constantI S_ 1 1#1
  let main_v3 : IVec S_ 1 := (fun x v => Host.reduce IntOp.andi x v reducesTo_S8192x8x64_S_d0_1_2 h_S_) main_v2 main_c
  let main_v4 : FVec F S8192x8x64 .f32 := Host.absf main_arg1
  let main_cst_0 : FVec F S_ .f32 := constant S_ .f32 0x7F800000#32
  let main_v5 : FVec F S8192x8x64 .f32 := broadcastInDim S8192x8x64 ![] bcast_S_S8192x8x64 main_cst_0
  let main_v6 : IVec S8192x8x64 1 := cmpf .olt main_v4 main_v5
  let main_c_1 : IVec S_ 1 := constantI S_ 1 1#1
  let main_v7 : IVec S_ 1 := (fun x v => Host.reduce IntOp.andi x v reducesTo_S8192x8x64_S_d0_1_2 h_S_) main_v6 main_c_1
  let main_v8 : IVec S_ 1 := andi main_v3 main_v7
  let main_v9 : FVec F S8192x8x64 .f32 := Host.absf main_arg2
  let main_cst_2 : FVec F S_ .f32 := constant S_ .f32 0x7F800000#32
  let main_v10 : FVec F S8192x8x64 .f32 := broadcastInDim S8192x8x64 ![] bcast_S_S8192x8x64 main_cst_2
  let main_v11 : IVec S8192x8x64 1 := cmpf .olt main_v9 main_v10
  let main_c_3 : IVec S_ 1 := constantI S_ 1 1#1
  let main_v12 : IVec S_ 1 := (fun x v => Host.reduce IntOp.andi x v reducesTo_S8192x8x64_S_d0_1_2 h_S_) main_v11 main_c_3
  let main_v13 : IVec S_ 1 := andi main_v8 main_v12
  let main_v14 : FVec F S8192x8 .f32 := Host.absf main_arg3
  let main_cst_4 : FVec F S_ .f32 := constant S_ .f32 0x7F800000#32
  let main_v15 : FVec F S8192x8 .f32 := broadcastInDim S8192x8 ![] bcast_S_S8192x8 main_cst_4
  let main_v16 : IVec S8192x8 1 := cmpf .olt main_v14 main_v15
  fn_part1 (F := F) main_arg4 main_v13 main_v16
-- ==== Pre_finite3.lean ====
abbrev S8192x1024 : Shape := ⟨2, ![8192, 1024]⟩
abbrev S8192x2816 : Shape := ⟨2, ![8192, 2816]⟩
abbrev S2816x1024 : Shape := ⟨2, ![2816, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x2816 : S_.BroadcastsInDim S8192x2816 (![] : Fin 0 → Fin S8192x2816.rank)
  reducesTo_S8192x2816_S_d0_1 : S8192x2816.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg5 : FVec F S8192x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S8192x1024 .f32 := Host.absf main_arg5
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  main_v23

def fn {F : FTy → Type} [FloatOps F] (main_arg0 : FVec F S8192x1024 .f32) (main_arg1 : FVec F S8192x2816 .f32) (main_arg2 : FVec F S2816x1024 .f32) (main_arg3 : FVec F S1024 .f32) (main_arg4 : FVec F S1024 .f32) (main_arg5 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x2816 .f32 := Host.absf main_arg1
  let main_cst_0 : FVec F S_ .f32 := constant S_ .f32 0x7F800000#32
  let main_v5 : FVec F S8192x2816 .f32 := broadcastInDim S8192x2816 ![] bcast_S_S8192x2816 main_cst_0
  let main_v6 : IVec S8192x2816 1 := cmpf .olt main_v4 main_v5
  let main_c_1 : IVec S_ 1 := constantI S_ 1 1#1
  let main_v7 : IVec S_ 1 := (fun x v => Host.reduce IntOp.andi x v reducesTo_S8192x2816_S_d0_1 h_S_) main_v6 main_c_1
  let main_v8 : IVec S_ 1 := andi main_v3 main_v7
  let main_v9 : FVec F S2816x1024 .f32 := Host.absf main_arg2
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg5 main_v13 main_v16
-- ==== Pre_finite4.lean ====
abbrev S8192x1024 : Shape := ⟨2, ![8192, 1024]⟩
abbrev S8192x512 : Shape := ⟨2, ![8192, 512]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S512x1024 : S_.BroadcastsInDim S512x1024 (![] : Fin 0 → Fin S512x1024.rank)
  reducesTo_S512x1024_S_d0_1 : S512x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg10 : FVec F S8192x1024 .f32) (main_v33 : IVec S_ 1) : IVec S_ 1 :=
  let main_v34 : FVec F S8192x1024 .f32 := Host.absf main_arg10
  let main_cst_12 : FVec F S_ .f32 := constant S_ .f32 0x7F800000#32
  let main_v35 : FVec F S8192x1024 .f32 := broadcastInDim S8192x1024 ![] bcast_S_S8192x1024 main_cst_12
  let main_v36 : IVec S8192x1024 1 := cmpf .olt main_v34 main_v35
  let main_c_13 : IVec S_ 1 := constantI S_ 1 1#1
  let main_v37 : IVec S_ 1 := (fun x v => Host.reduce IntOp.andi x v reducesTo_S8192x1024_S_d0_1 h_S_) main_v36 main_c_13
  let main_v38 : IVec S_ 1 := andi main_v33 main_v37
  main_v38

def fn_part1 {F : FTy → Type} [FloatOps F] (main_arg6 : FVec F S512x1024 .f32) (main_arg7 : FVec F S1024x1024 .f32) (main_arg8 : FVec F S1024 .f32) (main_arg10 : FVec F S8192x1024 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S512x1024 .f32 := Host.absf main_arg6
  let main_cst_6 : FVec F S_ .f32 := constant S_ .f32 0x7F800000#32
  let main_v20 : FVec F S512x1024 .f32 := broadcastInDim S512x1024 ![] bcast_S_S512x1024 main_cst_6
  let main_v21 : IVec S512x1024 1 := cmpf .olt main_v19 main_v20
  let main_c_7 : IVec S_ 1 := constantI S_ 1 1#1
  let main_v22 : IVec S_ 1 := (fun x v => Host.reduce IntOp.andi x v reducesTo_S512x1024_S_d0_1 h_S_) main_v21 main_c_7
  let main_v23 : IVec S_ 1 := andi main_v18 main_v22
  let main_v24 : FVec F S1024x1024 .f32 := Host.absf main_arg7
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg8
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg10 main_v33

def fn {F : FTy → Type} [FloatOps F] (main_arg0 : FVec F S8192x1024 .f32) (main_arg1 : FVec F S8192x512 .f32) (main_arg2 : FVec F S8192x512 .f32) (main_arg3 : FVec F S8192x1024 .f32) (main_arg4 : FVec F S8192x1024 .f32) (main_arg5 : FVec F S512x1024 .f32) (main_arg6 : FVec F S512x1024 .f32) (main_arg7 : FVec F S1024x1024 .f32) (main_arg8 : FVec F S1024 .f32) (main_arg9 : FVec F S1024 .f32) (main_arg10 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S512x1024 .f32 := Host.absf main_arg5
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg6 main_arg7 main_arg8 main_arg10 main_v13 main_v16
-- ==== Pre_finite5.lean ====
abbrev S8192x1024 : Shape := ⟨2, ![8192, 1024]⟩
abbrev S1024x5632 : Shape := ⟨2, ![1024, 5632]⟩
abbrev S3x2816 : Shape := ⟨2, ![3, 2816]⟩
abbrev S2816 : Shape := ⟨1, ![2816]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S3x2816 : S_.BroadcastsInDim S3x2816 (![] : Fin 0 → Fin S3x2816.rank)
  reducesTo_S3x2816_S_d0_1 : S3x2816.ReducesTo [0, 1] S_
  bcast_S_S2816 : S_.BroadcastsInDim S2816 (![] : Fin 0 → Fin S2816.rank)
  reducesTo_S2816_S_d0 : S2816.ReducesTo [0] S_
  bcast_S_S8192x2816 : S_.BroadcastsInDim S8192x2816 (![] : Fin 0 → Fin S8192x2816.rank)
  reducesTo_S8192x2816_S_d0_1 : S8192x2816.ReducesTo [0, 1] S_

variable [Facts]

def fn_part1 {F : FTy → Type} [FloatOps F] (main_arg4 : FVec F S8192x2816 .f32) (main_v13 : IVec S_ 1) (main_v16 : IVec S2816 1) : IVec S_ 1 :=
  let main_c_5 : IVec S_ 1 := constantI S_ 1 1#1
  let main_v17 : IVec S_ 1 := (fun x v => Host.reduce IntOp.andi x v reducesTo_S2816_S_d0 h_S_) main_v16 main_c_5
  let main_v18 : IVec S_ 1 := andi main_v13 main_v17
  let main_v19 : FVec F S8192x2816 .f32 := Host.absf main_arg4
  let main_cst_6 : FVec F S_ .f32 := constant S_ .f32 0x7F800000#32
  let main_v20 : FVec F S8192x2816 .f32 := broadcastInDim S8192x2816 ![] bcast_S_S8192x2816 main_cst_6
  let main_v21 : IVec S8192x2816 1 := cmpf .olt main_v19 main_v20
  let main_c_7 : IVec S_ 1 := constantI S_ 1 1#1
  let main_v22 : IVec S_ 1 := (fun x v => Host.reduce IntOp.andi x v reducesTo_S8192x2816_S_d0_1 h_S_) main_v21 main_c_7
  let main_v23 : IVec S_ 1 := andi main_v18 main_v22
  main_v23

def fn {F : FTy → Type} [FloatOps F] (main_arg0 : FVec F S8192x1024 .f32) (main_arg1 : FVec F S1024x5632 .f32) (main_arg2 : FVec F S3x2816 .f32) (main_arg3 : FVec F S2816 .f32) (main_arg4 : FVec F S8192x2816 .f32) (main_arg5 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x5632 .f32 := Host.absf main_arg1
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : IVec S_ 1 := andi main_v3 main_v7
  let main_v9 : FVec F S3x2816 .f32 := Host.absf main_arg2
  let main_cst_2 : FVec F S_ .f32 := constant S_ .f32 0x7F800000#32
  let main_v10 : FVec F S3x2816 .f32 := broadcastInDim S3x2816 ![] bcast_S_S3x2816 main_cst_2
  let main_v11 : IVec S3x2816 1 := cmpf .olt main_v9 main_v10
  let main_c_3 : IVec S_ 1 := constantI S_ 1 1#1
  let main_v12 : IVec S_ 1 := (fun x v => Host.reduce IntOp.andi x v reducesTo_S3x2816_S_d0_1 h_S_) main_v11 main_c_3
  let main_v13 : IVec S_ 1 := andi main_v8 main_v12
  let main_v14 : FVec F S2816 .f32 := Host.absf main_arg3
  let main_cst_4 : FVec F S_ .f32 := constant S_ .f32 0x7F800000#32
  let main_v15 : FVec F S2816 .f32 := broadcastInDim S2816 ![] bcast_S_S2816 main_cst_4
  let main_v16 : IVec S2816 1 := cmpf .olt main_v14 main_v15
  fn_part1 (F := F) main_arg4 main_v13 main_v16
-- ==== Pre_finite8.lean ====
abbrev S8192x8x64 : Shape := ⟨3, ![8192, 8, 64]⟩
abbrev S8192x8 : Shape := ⟨2, ![8192, 8]⟩
abbrev S_ : Shape := ⟨0, ![]⟩

class Facts : Prop where
  bcast_S_S8192x8x64 : S_.BroadcastsInDim S8192x8x64 (![] : Fin 0 → Fin S8192x8x64.rank)
  reducesTo_S8192x8x64_S_d0_1_2 : S8192x8x64.ReducesTo [0, 1, 2] S_
  h_S_ : 0 < S_.numel
  bcast_S_S8192x8 : S_.BroadcastsInDim S8192x8 (![] : Fin 0 → Fin S8192x8.rank)
  reducesTo_S8192x8_S_d0_1 : S8192x8.ReducesTo [0, 1] S_

variable [Facts]

def fn_part1 {F : FTy → Type} [FloatOps F] (main_v13 : IVec S_ 1) (main_v16 : IVec S8192x8 1) : IVec S_ 1 :=
  let main_c_5 : IVec S_ 1 := constantI S_ 1 1#1
  let main_v17 : IVec S_ 1 := (fun x v => Host.reduce IntOp.andi x v reducesTo_S8192x8_S_d0_1 h_S_) main_v16 main_c_5
  let main_v18 : IVec S_ 1 := andi main_v13 main_v17
  main_v18

def fn {F : FTy → Type} [FloatOps F] (main_arg0 : FVec F S8192x8x64 .f32) (main_arg1 : FVec F S8192x8x64 .f32) (main_arg2 : FVec F S8192x8x64 .f32) (main_arg3 : FVec F S8192x8 .f32) : IVec S_ 1 :=
  let main_v0 : FVec F S8192x8x64 .f32 := Host.absf main_arg0
  let main_cst : FVec F S_ .f32 := constant S_ .f32 0x7F800000#32
  let main_v1 : FVec F S8192x8x64 .f32 := broadcastInDim S8192x8x64 ![] bcast_S_S8192x8x64 main_cst
  let main_v2 : IVec S8192x8x64 1 := cmpf .olt main_v0 main_v1
  let main_c : IVec S_ 1 := constantI S_ 1 1#1
  let main_v3 : IVec S_ 1 := (fun x v => Host.reduce IntOp.andi x v reducesTo_S8192x8x64_S_d0_1_2 h_S_) main_v2 main_c
  let main_v4 : FVec F S8192x8x64 .f32 := Host.absf main_arg1
  let main_cst_0 : FVec F S_ .f32 := constant S_ .f32 0x7F800000#32
  let main_v5 : FVec F S8192x8x64 .f32 := broadcastInDim S8192x8x64 ![] bcast_S_S8192x8x64 main_cst_0
  let main_v6 : IVec S8192x8x64 1 := cmpf .olt main_v4 main_v5
  let main_c_1 : IVec S_ 1 := constantI S_ 1 1#1
  let main_v7 : IVec S_ 1 := (fun x v => Host.reduce IntOp.andi x v reducesTo_S8192x8x64_S_d0_1_2 h_S_) main_v6 main_c_1
  let main_v8 : IVec S_ 1 := andi main_v3 main_v7
  let main_v9 : FVec F S8192x8x64 .f32 := Host.absf main_arg2
  let main_cst_2 : FVec F S_ .f32 := constant S_ .f32 0x7F800000#32
  let main_v10 : FVec F S8192x8x64 .f32 := broadcastInDim S8192x8x64 ![] bcast_S_S8192x8x64 main_cst_2
  let main_v11 : IVec S8192x8x64 1 := cmpf .olt main_v9 main_v10
  let main_c_3 : IVec S_ 1 := constantI S_ 1 1#1
  let main_v12 : IVec S_ 1 := (fun x v => Host.reduce IntOp.andi x v reducesTo_S8192x8x64_S_d0_1_2 h_S_) main_v11 main_c_3
  let main_v13 : IVec S_ 1 := andi main_v8 main_v12
  let main_v14 : FVec F S8192x8 .f32 := Host.absf main_arg3
  let main_cst_4 : FVec F S_ .f32 := constant S_ .f32 0x7F800000#32
  let main_v15 : FVec F S8192x8 .f32 := broadcastInDim S8192x8 ![] bcast_S_S8192x8 main_cst_4
  let main_v16 : IVec S8192x8 1 := cmpf .olt main_v14 main_v15
  fn_part1 (F := F) main_v13 main_v16
-- ==== Kernel.lean ====
abbrev S8192x8 : Shape := ⟨2, ![8192, 8]⟩
abbrev S_ : Shape := ⟨0, ![]⟩
abbrev S8192x2304 : Shape := ⟨2, ![8192, 2304]⟩
abbrev S8192x4x2 : Shape := ⟨3, ![8192, 4, 2]⟩
abbrev S8192x4x128 : Shape := ⟨3, ![8192, 4, 128]⟩
abbrev S8192x512 : Shape := ⟨2, ![8192, 512]⟩
abbrev S8192x128 : Shape := ⟨2, ![8192, 128]⟩
abbrev S512x512 : Shape := ⟨2, ![512, 512]⟩
abbrev S512x128 : Shape := ⟨2, ![512, 128]⟩
abbrev S8x128 : Shape := ⟨2, ![8, 128]⟩
abbrev S1x128 : Shape := ⟨2, ![1, 128]⟩

abbrev nBuf : Space → Nat
  | .hbm => 11
  | .vmem => 7
  | .smem => 0
  | _ => 0

abbrev bufTy : (tb : Table) → Fin (tcTables nBuf tb) → BufTy
  | .hbm, ⟨0, _⟩ => ⟨S8192x8, .f32⟩
  | .hbm, ⟨1, _⟩ => ⟨S8192x8, .f32⟩
  | .hbm, ⟨2, _⟩ => ⟨S_, .i32⟩
  | .hbm, ⟨3, _⟩ => ⟨S_, .f32⟩
  | .hbm, ⟨4, _⟩ => ⟨S8192x2304, .f32⟩
  | .hbm, ⟨5, _⟩ => ⟨S8192x4x2, .f32⟩
  | .hbm, ⟨6, _⟩ => ⟨S_, .i32⟩
  | .hbm, ⟨7, _⟩ => ⟨S_, .f32⟩
  | .hbm, ⟨8, _⟩ => ⟨S8192x4x128, .f32⟩
  | .hbm, ⟨9, _⟩ => ⟨S8192x512, .f32⟩
  | .hbm, ⟨10, _⟩ => ⟨S8192x128, .bf16⟩
  | .local _ .vmem, ⟨0, _⟩ => ⟨S512x512, .f32⟩
  | .local _ .vmem, ⟨1, _⟩ => ⟨S512x512, .f32⟩
  | .local _ .vmem, ⟨2, _⟩ => ⟨S512x128, .f32⟩
  | .local _ .vmem, ⟨3, _⟩ => ⟨S512x128, .f32⟩
  | .local _ .vmem, ⟨4, _⟩ => ⟨S512x128, .bf16⟩
  | .local _ .vmem, ⟨5, _⟩ => ⟨S512x128, .bf16⟩
  | .local _ .vmem, ⟨6, _⟩ => ⟨S8x128, .f32⟩
  | _, _ => ⟨S8192x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c16_i32 : BitVec 32 := 16#32
  let c0_i32 : BitVec 32 := 0#32
  ![v0.toNat, c16_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S8192x8 : Shape := ⟨2, ![8192, 8]⟩
abbrev S_ : Shape := ⟨0, ![]⟩
abbrev S8192x128 : Shape := ⟨2, ![8192, 128]⟩

abbrev nBuf : Space → Nat
  | .hbm => 63
  | .vmem => 0
  | .smem => 0
  | _ => 0

abbrev bufTy : (tb : Table) → Fin (tcTables nBuf tb) → BufTy
  | .hbm, ⟨0, _⟩ => ⟨S8192x8, .f32⟩
  | .hbm, ⟨1, _⟩ => ⟨S8192x8, .f32⟩
  | .hbm, ⟨2, _⟩ => ⟨S8192x8, .f32⟩
  | .hbm, ⟨3, _⟩ => ⟨S_, .f32⟩
  | .hbm, ⟨4, _⟩ => ⟨S8192x8, .f32⟩
  | .hbm, ⟨5, _⟩ => ⟨S8192x8, .f32⟩
  | .hbm, ⟨6, _⟩ => ⟨S8192x8, .f32⟩
  | .hbm, ⟨7, _⟩ => ⟨S8192x8, .f32⟩
  | .hbm, ⟨8, _⟩ => ⟨S8192x8, .i1⟩
  | .hbm, ⟨9, _⟩ => ⟨S8192x8, .f32⟩
  | .hbm, ⟨10, _⟩ => ⟨S8192x8, .f32⟩
  | .hbm, ⟨11, _⟩ => ⟨S8192x8, .f32⟩
  | .hbm, ⟨12, _⟩ => ⟨S8192x8, .f32⟩
  | .hbm, ⟨13, _⟩ => ⟨S8192x8, .f32⟩
  | .hbm, ⟨14, _⟩ => ⟨S8192x8, .f32⟩
  | .hbm, ⟨15, _⟩ => ⟨S8192x8, .f32⟩
  | .hbm, ⟨16, _⟩ => ⟨S8192x8, .f32⟩
  | .hbm, ⟨17, _⟩ => ⟨S_, .f32⟩
  | .hbm, ⟨18, _⟩ => ⟨S8192x8, .f32⟩
  | .hbm, ⟨19, _⟩ => ⟨S8192x8, .i1⟩
  | .hbm, ⟨20, _⟩ => ⟨S_, .f32⟩
  | .hbm, ⟨21, _⟩ => ⟨S8192x8, .f32⟩
  | .hbm, ⟨22, _⟩ => ⟨S8192x8, .f32⟩
  | .hbm, ⟨23, _⟩ => ⟨S_, .f32⟩
  | .hbm, ⟨24, _⟩ => ⟨S8192x8, .f32⟩
  | .hbm, ⟨25, _⟩ => ⟨S8192x8, .i1⟩
  | .hbm, ⟨26, _⟩ => ⟨S_, .f32⟩
  | .hbm, ⟨27, _⟩ => ⟨S8192x8, .f32⟩
  | .hbm, ⟨28, _⟩ => ⟨S8192x8, .f32⟩
  | .hbm, ⟨29, _⟩ => ⟨S8192x8, .f32⟩
  | .hbm, ⟨30, _⟩ => ⟨S8192x8, .f32⟩
  | .hbm, ⟨31, _⟩ => ⟨S_, .f32⟩
  | .hbm, ⟨32, _⟩ => ⟨S_, .f32⟩
  | .hbm, ⟨33, _⟩ => ⟨S_, .i1⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S8192x8, .f32⟩
  | .hbm, ⟨39, _⟩ => ⟨S8192x8, .i1⟩
  | .hbm, ⟨40, _⟩ => ⟨S_, .f32⟩
  | .hbm, ⟨41, _⟩ => ⟨S8192x8, .f32⟩
  | .hbm, ⟨42, _⟩ => ⟨S8192x8, .f32⟩
  | .hbm, ⟨43, _⟩ => ⟨S8192x8, .f32⟩
  | .hbm, ⟨44, _⟩ => ⟨S8192x8, .f32⟩
  | .hbm, ⟨45, _⟩ => ⟨S8192x8, .f32⟩
  | .hbm, ⟨46, _⟩ => ⟨S_, .f32⟩
  | .hbm, ⟨47, _⟩ => ⟨S8192x8, .f32⟩
  | .hbm, ⟨48, _⟩ => ⟨S8192x8, .f32⟩
  | .hbm, ⟨49, _⟩ => ⟨S8192x8, .f32⟩
  | .hbm, ⟨50, _⟩ => ⟨S_, .f32⟩
  | .hbm, ⟨51, _⟩ => ⟨S_, .f32⟩
  | .hbm, ⟨52, _⟩ => ⟨S8192x8, .f32⟩
  | .hbm, ⟨53, _⟩ => ⟨S_, .f32⟩
  | .hbm, ⟨54, _⟩ => ⟨S_, .f32⟩
  | .hbm, ⟨55, _⟩ => ⟨S8192x8, .f32⟩
  | .hbm, ⟨56, _⟩ => ⟨S8192x8, .f32⟩
  | .hbm, ⟨57, _⟩ => ⟨S8192x8, .f32⟩
  | .hbm, ⟨58, _⟩ => ⟨S8192x8, .f32⟩
  | .hbm, ⟨59, _⟩ => ⟨S8192x8, .bf16⟩
  | .hbm, ⟨60, _⟩ => ⟨S_, .i32⟩
  | .hbm, ⟨61, _⟩ => ⟨S_, .bf16⟩
  | .hbm, ⟨62, _⟩ => ⟨S8192x128, .bf16⟩
  | _, _ => ⟨S8192x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_call0_cst : Ref sig .tc := ⟨.hbm, 3, rfl⟩
abbrev main_call0_call0_v0 : Ref sig .tc := ⟨.hbm, 4, rfl⟩
abbrev main_call0_call0_v1 : Ref sig .tc := ⟨.hbm, 5, rfl⟩
abbrev main_call0_call0_v2 : Ref sig .tc := ⟨.hbm, 6, rfl⟩
abbrev main_call0_call0_v3 : Ref sig .tc := ⟨.hbm, 7, rfl⟩
abbrev main_call0_call0_v4 : Ref sig .tc := ⟨.hbm, 8, rfl⟩
abbrev main_call0_call0_v5 : Ref sig .tc := ⟨.hbm, 9, rfl⟩
abbrev main_call0_call0_v6 : Ref sig .tc := ⟨.hbm, 10, rfl⟩
abbrev main_call0_call0_v7 : Ref sig .tc := ⟨.hbm, 11, rfl⟩
abbrev main_call0_call0_v8 : Ref sig .tc := ⟨.hbm, 12, rfl⟩
abbrev main_call0_call0_v9 : Ref sig .tc := ⟨.hbm, 13, rfl⟩
abbrev main_call0_call0_v10 : Ref sig .tc := ⟨.hbm, 14, rfl⟩
abbrev main_call0_call0_v11 : Ref sig .tc := ⟨.hbm, 15, rfl⟩
abbrev main_call0_v1_0 : Ref sig .tc := ⟨.hbm, 16, rfl⟩
abbrev main_call0_call0_cst_0 : Ref sig .tc := ⟨.hbm, 17, rfl⟩
abbrev main_call0_call0_v13 : Ref sig .tc := ⟨.hbm, 18, rfl⟩
abbrev main_call0_call0_v14 : Ref sig .tc := ⟨.hbm, 19, rfl⟩
abbrev main_call0_call0_cst_1 : Ref sig .tc := ⟨.hbm, 20, rfl⟩
abbrev main_call0_call0_v15 : Ref sig .tc := ⟨.hbm, 21, rfl⟩
abbrev main_call0_call0_v16 : Ref sig .tc := ⟨.hbm, 22, rfl⟩
abbrev main_call0_call0_cst_2 : Ref sig .tc := ⟨.hbm, 23, rfl⟩
abbrev main_call0_call0_v17 : Ref sig .tc := ⟨.hbm, 24, rfl⟩
abbrev main_call0_call0_v18 : Ref sig .tc := ⟨.hbm, 25, rfl⟩
abbrev main_call0_call0_cst_3 : Ref sig .tc := ⟨.hbm, 26, rfl⟩
abbrev main_call0_call0_v19 : Ref sig .tc := ⟨.hbm, 27, rfl⟩
abbrev main_call0_call0_v20 : Ref sig .tc := ⟨.hbm, 28, rfl⟩
abbrev main_call0_call0_v21 : Ref sig .tc := ⟨.hbm, 29, rfl⟩
abbrev main_v0_1 : Ref sig .tc := ⟨.hbm, 30, rfl⟩
abbrev main_call0_call0_cst_4 : Ref sig .tc := ⟨.hbm, 31, rfl⟩
abbrev main_call0_call0_cst_5 : Ref sig .tc := ⟨.hbm, 32, rfl⟩
abbrev main_call0_call0_v23 : Ref sig .tc := ⟨.hbm, 33, rfl⟩
abbrev main_call0_call0_cst_6 : Ref sig .tc := ⟨.hbm, 34, rfl⟩
abbrev main_call0_call0_cst_7 : Ref sig .tc := ⟨.hbm, 35, rfl⟩
abbrev main_call0_call0_v24 : Ref sig .tc := ⟨.hbm, 36, rfl⟩
abbrev main_call0_call0_cst_8 : Ref sig .tc := ⟨.hbm, 37, rfl⟩
abbrev main_call0_call0_v25 : Ref sig .tc := ⟨.hbm, 38, rfl⟩
abbrev main_call0_call0_v26 : Ref sig .tc := ⟨.hbm, 39, rfl⟩
abbrev main_call0_call0_cst_9 : Ref sig .tc := ⟨.hbm, 40, rfl⟩
abbrev main_call0_call0_v27 : Ref sig .tc := ⟨.hbm, 41, rfl⟩
abbrev main_call0_call0_v28 : Ref sig .tc := ⟨.hbm, 42, rfl⟩
abbrev main_call0_call0_v29 : Ref sig .tc := ⟨.hbm, 43, rfl⟩
abbrev main_call0_call0_v30 : Ref sig .tc := ⟨.hbm, 44, rfl⟩
abbrev main_call0_call0_v31 : Ref sig .tc := ⟨.hbm, 45, rfl⟩
abbrev main_call0_call0_cst_10 : Ref sig .tc := ⟨.hbm, 46, rfl⟩
abbrev main_call0_call0_v32 : Ref sig .tc := ⟨.hbm, 47, rfl⟩
abbrev main_v0_2 : Ref sig .tc := ⟨.hbm, 48, rfl⟩
abbrev main_v0_0 : Ref sig .tc := ⟨.hbm, 49, rfl⟩
abbrev main_call1_call0_cst : Ref sig .tc := ⟨.hbm, 50, rfl⟩
abbrev main_call1_call0_v0 : Ref sig .tc := ⟨.hbm, 51, rfl⟩
abbrev main_v1 : Ref sig .tc := ⟨.hbm, 52, rfl⟩
abbrev main_call2_call0_cst : Ref sig .tc := ⟨.hbm, 53, rfl⟩
abbrev main_call2_call0_v0 : Ref sig .tc := ⟨.hbm, 54, rfl⟩
abbrev main_v2 : Ref sig .tc := ⟨.hbm, 55, rfl⟩
abbrev main_call3_v0 : Ref sig .tc := ⟨.hbm, 56, rfl⟩
abbrev main_call3_v1 : Ref sig .tc := ⟨.hbm, 57, rfl⟩
abbrev main_v3 : Ref sig .tc := ⟨.hbm, 58, rfl⟩
abbrev main_v4 : Ref sig .tc := ⟨.hbm, 59, rfl⟩
abbrev main_c : Ref sig .tc := ⟨.hbm, 60, rfl⟩
abbrev main_call4_v0 : Ref sig .tc := ⟨.hbm, 61, rfl⟩
abbrev main_v5 : Ref sig .tc := ⟨.hbm, 62, rfl⟩

abbrev nD : Nat := 1
abbrev τ : Topo := Topo.v7x

variable {F : FTy → Type} [FloatOps F]
-- ==== Kernel2.lean ====
abbrev S8192x8x64 : Shape := ⟨3, ![8192, 8, 64]⟩
abbrev S8192x8 : Shape := ⟨2, ![8192, 8]⟩
abbrev S8192x8x1 : Shape := ⟨3, ![8192, 8, 1]⟩
abbrev S8192x8x3 : Shape := ⟨3, ![8192, 8, 3]⟩
abbrev S_ : Shape := ⟨0, ![]⟩
abbrev S8192x8x6 : Shape := ⟨3, ![8192, 8, 6]⟩
abbrev S8192x4x2x64 : Shape := ⟨4, ![8192, 4, 2, 64]⟩
abbrev S8192x4x1x64 : Shape := ⟨4, ![8192, 4, 1, 64]⟩
abbrev S8192x4x64 : Shape := ⟨3, ![8192, 4, 64]⟩
abbrev S8192x4x256 : Shape := ⟨3, ![8192, 4, 256]⟩
abbrev S8192x1024 : Shape := ⟨2, ![8192, 1024]⟩
abbrev S8x8192x8192 : Shape := ⟨3, ![8, 8192, 8192]⟩
abbrev S8x8192 : Shape := ⟨2, ![8, 8192]⟩
abbrev S8x8192x1 : Shape := ⟨3, ![8, 8192, 1]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x64x8192 : Shape := ⟨3, ![8, 64, 8192]⟩
abbrev S8x3x8192 : Shape := ⟨3, ![8, 3, 8192]⟩
abbrev S4x2x3x8192 : Shape := ⟨4, ![4, 2, 3, 8192]⟩
abbrev S4x3x2x8192 : Shape := ⟨4, ![4, 3, 2, 8192]⟩
abbrev S4x6x8192 : Shape := ⟨3, ![4, 6, 8192]⟩
abbrev S4x8x8192 : Shape := ⟨3, ![4, 8, 8192]⟩
abbrev S8192x512 : Shape := ⟨2, ![8192, 512]⟩
abbrev S8192x256 : Shape := ⟨2, ![8192, 256]⟩
abbrev S1x8x8192 : Shape := ⟨3, ![1, 8, 8192]⟩
abbrev S1024x256 : Shape := ⟨2, ![1024, 256]⟩
abbrev S8192x128 : Shape := ⟨2, ![8192, 128]⟩
abbrev S1024x128 : Shape := ⟨2, ![1024, 128]⟩
abbrev S1x128 : Shape := ⟨2, ![1, 128]⟩
abbrev S128x1024 : Shape := ⟨2, ![128, 1024]⟩
abbrev S1024x1 : Shape := ⟨2, ![1024, 1]⟩
abbrev S1024x1024 : Shape := ⟨2, ![1024, 1024]⟩
abbrev S1x1x1024 : Shape := ⟨3, ![1, 1, 1024]⟩
abbrev S1x1024 : Shape := ⟨2, ![1, 1024]⟩
abbrev S1024 : Shape := ⟨1, ![1024]⟩
abbrev S128x1 : Shape := ⟨2, ![128, 1]⟩

abbrev nBuf : Space → Nat
  | .hbm => 156
  | .vmem => 18
  | .smem => 0
  | _ => 0

abbrev hbmTy0_0 (i : Nat) : BufTy := match i % 128 with
  | 0 => ⟨S8192x8x64, .f32⟩
  | 1 => ⟨S8192x8x64, .f32⟩
  | 2 => ⟨S8192x8x64, .f32⟩
  | 3 => ⟨S8192x8, .f32⟩
  | 4 => ⟨S8192x8x64, .f32⟩
  | 5 => ⟨S8192x8, .bf16⟩
  | 6 => ⟨S8192x8, .f32⟩
  | 7 => ⟨S8192x8, .f32⟩
  | 8 => ⟨S8192x8, .bf16⟩
  | 9 => ⟨S8192x8, .f32⟩
  | 10 => ⟨S8192x8, .f32⟩
  | 11 => ⟨S8192x8, .bf16⟩
  | 12 => ⟨S8192x8, .f32⟩
  | 13 => ⟨S8192x8, .f32⟩
  | 14 => ⟨S8192x8x1, .f32⟩
  | 15 => ⟨S8192x8x1, .f32⟩
  | 16 => ⟨S8192x8x1, .f32⟩
  | 17 => ⟨S8192x8x3, .f32⟩
  | 18 => ⟨S_, .f32⟩
  | 19 => ⟨S8192x8x3, .f32⟩
  | 20 => ⟨S_, .f32⟩
  | 21 => ⟨S8192x8x64, .f32⟩
  | 22 => ⟨S8192x8x64, .f32⟩
  | 23 => ⟨S8192x8x6, .f32⟩
  | 24 => ⟨S_, .i32⟩
  | 25 => ⟨S_, .f32⟩
  | 26 => ⟨S8192x8x64, .f32⟩
  | 27 => ⟨S8192x4x2x64, .f32⟩
  | 28 => ⟨S8192x4x2x64, .f32⟩
  | 29 => ⟨S8192x4x1x64, .f32⟩
  | 30 => ⟨S8192x4x64, .f32⟩
  | 31 => ⟨S8192x4x1x64, .f32⟩
  | 32 => ⟨S8192x4x64, .f32⟩
  | 33 => ⟨S8192x4x1x64, .f32⟩
  | 34 => ⟨S8192x4x64, .f32⟩
  | 35 => ⟨S8192x4x1x64, .f32⟩
  | 36 => ⟨S8192x4x64, .f32⟩
  | 37 => ⟨S8192x4x256, .f32⟩
  | 38 => ⟨S8192x1024, .f32⟩
  | 39 => ⟨S8192x1024, .bf16⟩
  | 40 => ⟨S8192x8x3, .f32⟩
  | 41 => ⟨S8192x8x6, .f32⟩
  | 42 => ⟨S_, .i32⟩
  | 43 => ⟨S_, .f32⟩
  | 44 => ⟨S8192x8x64, .f32⟩
  | 45 => ⟨S8192x4x2x64, .f32⟩
  | 46 => ⟨S8192x4x2x64, .f32⟩
  | 47 => ⟨S8192x4x1x64, .f32⟩
  | 48 => ⟨S8192x4x64, .f32⟩
  | 49 => ⟨S8192x4x1x64, .f32⟩
  | 50 => ⟨S8192x4x64, .f32⟩
  | 51 => ⟨S8192x4x1x64, .f32⟩
  | 52 => ⟨S8192x4x64, .f32⟩
  | 53 => ⟨S8192x4x1x64, .f32⟩
  | 54 => ⟨S8192x4x64, .f32⟩
  | 55 => ⟨S8192x4x256, .f32⟩
  | 56 => ⟨S8192x1024, .f32⟩
  | 57 => ⟨S8192x1024, .bf16⟩
  | 58 => ⟨S8192x8x1, .f32⟩
  | 59 => ⟨S_, .i32⟩
  | 60 => ⟨S_, .f32⟩
  | 61 => ⟨S8192x8x64, .f32⟩
  | 62 => ⟨S8192x4x2x64, .f32⟩
  | 63 => ⟨S8192x4x2x64, .f32⟩
  | 64 => ⟨S8192x4x1x64, .f32⟩
  | 65 => ⟨S8192x4x64, .f32⟩
  | 66 => ⟨S8192x4x1x64, .f32⟩
  | 67 => ⟨S8192x4x64, .f32⟩
  | 68 => ⟨S8192x4x1x64, .f32⟩
  | 69 => ⟨S8192x4x64, .f32⟩
  | 70 => ⟨S8192x4x1x64, .f32⟩
  | 71 => ⟨S8192x4x64, .f32⟩
  | 72 => ⟨S8192x4x256, .f32⟩
  | 73 => ⟨S8192x1024, .f32⟩
  | 74 => ⟨S8192x1024, .bf16⟩
  | 75 => ⟨S_, .f32⟩
  | 76 => ⟨S8192x8x64, .f32⟩
  | 77 => ⟨S8192x4x2x64, .f32⟩
  | 78 => ⟨S8192x4x2x64, .f32⟩
  | 79 => ⟨S8192x4x1x64, .f32⟩
  | 80 => ⟨S8192x4x64, .f32⟩
  | 81 => ⟨S8192x4x1x64, .f32⟩
  | 82 => ⟨S8192x4x64, .f32⟩
  | 83 => ⟨S8192x4x1x64, .f32⟩
  | 84 => ⟨S8192x4x64, .f32⟩
  | 85 => ⟨S8192x4x1x64, .f32⟩
  | 86 => ⟨S8192x4x64, .f32⟩
  | 87 => ⟨S8192x4x256, .f32⟩
  | 88 => ⟨S8192x1024, .f32⟩
  | 89 => ⟨S8192x1024, .bf16⟩
  | 90 => ⟨S8x8192x8192, .f32⟩
  | 91 => ⟨S_, .f32⟩
  | 92 => ⟨S8x8192x8192, .f32⟩
  | 93 => ⟨S8x8192x8192, .f32⟩
  | 94 => ⟨S8x8192, .f32⟩
  | 95 => ⟨S8x8192x1, .f32⟩
  | 96 => ⟨S8x8192x8192, .f32⟩
  | 97 => ⟨S8x8192x8192, .f32⟩
  | 98 => ⟨S8x8192, .f32⟩
  | 99 => ⟨S8x1x8192, .f32⟩
  | 100 => ⟨S8x8192x8192, .f32⟩
  | 101 => ⟨S8x8192x8192, .f32⟩
  | 102 => ⟨S8192, .i32⟩
  | 103 => ⟨S1x8192, .i32⟩
  | 104 => ⟨S8192x1, .i32⟩
  | 105 => ⟨S8192x8192, .i32⟩
  | 106 => ⟨S8192x8192, .i32⟩
  | 107 => ⟨S8192x8192, .i1⟩
  | 108 => ⟨S1x8192x8192, .i1⟩
  | 109 => ⟨S_, .f32⟩
  | 110 => ⟨S_, .f32⟩
  | 111 => ⟨S8x8192x8192, .i1⟩
  | 112 => ⟨S8x8192x8192, .f32⟩
  | 113 => ⟨S8x8192x8192, .f32⟩
  | 114 => ⟨S_, .f32⟩
  | 115 => ⟨S_, .f32⟩
  | 116 => ⟨S_, .f32⟩
  | 117 => ⟨S8x8192, .f32⟩
  | 118 => ⟨S8x8192, .f32⟩
  | 119 => ⟨S8x8192, .f32⟩
  | 120 => ⟨S8x8192, .f32⟩
  | 121 => ⟨S8x8192, .f32⟩
  | 122 => ⟨S8x8192, .f32⟩
  | 123 => ⟨S8x8192x1, .f32⟩
  | 124 => ⟨S8x8192x8192, .f32⟩
  | 125 => ⟨S8x8192x8192, .f32⟩
  | 126 => ⟨S8x8192x8192, .f32⟩
  | 127 => ⟨S_, .f32⟩
  | _ => ⟨S8192x8x64, .f32⟩

abbrev hbmTy0_1 (i : Nat) : BufTy := match i % 128 with
  | 0 => ⟨S8x8192, .f32⟩
  | 1 => ⟨S8x64x8192, .f32⟩
  | 2 => ⟨S8192x8x64, .f32⟩
  | 3 => ⟨S8192x8, .f32⟩
  | 4 => ⟨S8192x8x1, .f32⟩
  | 5 => ⟨S8192x8x64, .f32⟩
  | 6 => ⟨S8192x8x64, .f32⟩
  | 7 => ⟨S8192x8x64, .f32⟩
  | 8 => ⟨S_, .f32⟩
  | 9 => ⟨S8192x8, .f32⟩
  | 10 => ⟨S8x8192, .f32⟩
  | 11 => ⟨S_, .f32⟩
  | 12 => ⟨S8x8192, .f32⟩
  | 13 => ⟨S8x8192, .f32⟩
  | 14 => ⟨S8x1x8192, .f32⟩
  | 15 => ⟨S8x1x8192, .f32⟩
  | 16 => ⟨S8x1x8192, .f32⟩
  | 17 => ⟨S8x3x8192, .f32⟩
  | 18 => ⟨S4x2x3x8192, .f32⟩
  | 19 => ⟨S4x3x2x8192, .f32⟩
  | 20 => ⟨S4x6x8192, .f32⟩
  | 21 => ⟨S_, .i32⟩
  | 22 => ⟨S_, .f32⟩
  | 23 => ⟨S4x8x8192, .f32⟩
  | 24 => ⟨S8192x512, .f32⟩
  | 25 => ⟨S8192x512, .bf16⟩
  | 26 => ⟨S8192x512, .bf16⟩
  | 27 => ⟨S8192x512, .f32⟩
  | _ => ⟨S8192x8x64, .f32⟩

abbrev hbmTy (i : Nat) : BufTy := match i / 128 with
  | 0 => hbmTy0_0 i
  | 1 => hbmTy0_1 i
  | _ => ⟨S8192x8x64, .f32⟩

abbrev bufTy : (tb : Table) → Fin (tcTables nBuf tb) → BufTy
  | .hbm, ⟨i, _⟩ => hbmTy i
  | .local _ .vmem, ⟨0, _⟩ => ⟨S8192x256, .bf16⟩
  | .local _ .vmem, ⟨1, _⟩ => ⟨S8192x256, .bf16⟩
  | .local _ .vmem, ⟨2, _⟩ => ⟨S8192x256, .bf16⟩
  | .local _ .vmem, ⟨3, _⟩ => ⟨S8192x256, .bf16⟩
  | .local _ .vmem, ⟨4, _⟩ => ⟨S1x8x8192, .f32⟩
  | .local _ .vmem, ⟨5, _⟩ => ⟨S1x8x8192, .f32⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S8192x128, .f32⟩
  | .local _ .vmem, ⟨11, _⟩ => ⟨S8192x128, .f32⟩
  | .local _ .vmem, ⟨12, _⟩ => ⟨S1024x128, .bf16⟩
  | .local _ .vmem, ⟨13, _⟩ => ⟨S1024x128, .bf16⟩
  | .local _ .vmem, ⟨14, _⟩ => ⟨S1024x128, .bf16⟩
  | .local _ .vmem, ⟨15, _⟩ => ⟨S1024x128, .bf16⟩
  | .local _ .vmem, ⟨16, _⟩ => ⟨S1024x128, .f32⟩
  | .local _ .vmem, ⟨17, _⟩ => ⟨S1024x128, .f32⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_call0_v0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c_1 : Ref sig .tc := ⟨.hbm, 42, rfl⟩
abbrev main_call1_v0 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_c_2 : Ref sig .tc := ⟨.hbm, 59, rfl⟩
abbrev main_call2_v0 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_3 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_cst_4 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_cst_5 : Ref sig .tc := ⟨.hbm, 109, rfl⟩
abbrev main_call3_v0 : Ref sig .tc := ⟨.hbm, 110, rfl⟩
abbrev main_call3_v1 : Ref sig .tc := ⟨.hbm, 111, rfl⟩
abbrev main_call3_v2 : Ref sig .tc := ⟨.hbm, 112, rfl⟩
abbrev main_v94 : Ref sig .tc := ⟨.hbm, 113, rfl⟩
abbrev main_cst_6 : Ref sig .tc := ⟨.hbm, 114, rfl⟩
abbrev main_v95 : Ref sig .tc := ⟨.hbm, 115, rfl⟩
abbrev main_cst_7 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_cst_8 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_cst_9 : Ref sig .tc := ⟨.hbm, 136, rfl⟩
abbrev main_v114 : Ref sig .tc := ⟨.hbm, 137, rfl⟩
abbrev main_v115 : Ref sig .tc := ⟨.hbm, 138, rfl⟩
abbrev main_cst_10 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_c_11 : Ref sig .tc := ⟨.hbm, 149, rfl⟩
abbrev main_call4_v0 : Ref sig .tc := ⟨.hbm, 150, rfl⟩
abbrev main_v125 : Ref sig .tc := ⟨.hbm, 151, rfl⟩
abbrev main_v126_0 : Ref sig .tc := ⟨.hbm, 152, rfl⟩
abbrev main_v126_1 : Ref sig .tc := ⟨.hbm, 153, rfl⟩
abbrev main_v126_2 : Ref sig .tc := ⟨.hbm, 154, rfl⟩
abbrev main_v126_3 : Ref sig .tc := ⟨.hbm, 155, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c1024_i32 : BitVec 32 := 1024#32
  let v20 : BitVec 32 := Scalar.muli arg1 c1024_i32
  v20
def k0_off1 (i : grid0.Coords) : Fin 2 → Nat :=
  let arg1 : BitVec 32 := BitVec.ofNat 32 (i 1).val
  let c1024_i32 : BitVec 32 := 1024#32
  let v20 : BitVec 32 := Scalar.muli arg1 c1024_i32
  let v21 : BitVec 32 := v20
  let v23 : Index := Scalar.indexCast v21
  let c0_9 : Index := 0#32
  ![v23.toNat, 0]
def k0_off2 (i : grid0.Coords) : Fin 3 → Nat :=
  let c0_14 : Index := 0#32
  let c0_15 : Index := 0#32
  let arg1 : BitVec 32 := BitVec.ofNat 32 (i 1).val
  let c1024_i32 : BitVec 32 := 1024#32
  let v20 : BitVec 32 := Scalar.muli arg1 c1024_i32
  let v21 : BitVec 32 := v20
  let v37 : Index := Scalar.indexCast v21
  ![0, 0, v37.toNat]
def k0_off3 (i : grid0.Coords) : Fin 3 → Nat :=
  let c0_16 : Index := 0#32
  let c4 : Index := 4#32
  let arg1 : BitVec 32 := BitVec.ofNat 32 (i 1).val
  let c1024_i32 : BitVec 32 := 1024#32
  let v20 : BitVec 32 := Scalar.muli arg1 c1024_i32
  let v21 : BitVec 32 := v20
  let v45 : Index := Scalar.indexCast v21
  ![0, 4, v45.toNat]
def k0_off4 (i : grid0.Coords) : Fin 3 → Nat :=
  let c0_18 : Index := 0#32
  let c2 : Index := 2#32
  let arg1 : BitVec 32 := BitVec.ofNat 32 (i 1).val
  let c1024_i32 : BitVec 32 := 1024#32
  let v20 : BitVec 32 := Scalar.muli arg1 c1024_i32
  let v21 : BitVec 32 := v20
  let v51 : Index := Scalar.indexCast v21
  ![0, 2, v51.toNat]
def k0_off5 (i : grid0.Coords) : Fin 2 → Nat :=
  let arg1 : BitVec 32 := BitVec.ofNat 32 (i 1).val
  let c1024_i32 : BitVec 32 := 1024#32
  let v20 : BitVec 32 := Scalar.muli arg1 c1024_i32
  let v21 : BitVec 32 := v20
  let v76 : Index := Scalar.indexCast v21
  let c128_25 : Index := 128#32
  ![v76.toNat, 128]
def k0_off6 (i : grid0.Coords) : Fin 3 → Nat :=
  let c0_30 : Index := 0#32
  let c1 : Index := 1#32
  let arg1 : BitVec 32 := BitVec.ofNat 32 (i 1).val
  let c1024_i32 : BitVec 32 := 1024#32
  let v20 : BitVec 32 := Scalar.muli arg1 c1024_i32
  let v21 : BitVec 32 := v20
  let v90 : Index := Scalar.indexCast v21
  ![0, 1, v90.toNat]
def k0_off7 (i : grid0.Coords) : Fin 3 → Nat :=
  let c0_31 : Index := 0#32
  let c5 : Index := 5#32
  let arg1 : BitVec 32 := BitVec.ofNat 32 (i 1).val
  let c1024_i32 : BitVec 32 := 1024#32
  let v20 : BitVec 32 := Scalar.muli arg1 c1024_i32
  let v21 : BitVec 32 := v20
  let v98 : Index := Scalar.indexCast v21
  ![0, 5, v98.toNat]
def k0_off8 (i : grid0.Coords) : Fin 3 → Nat :=
  let c0_33 : Index := 0#32
  let c3 : Index := 3#32
  let arg1 : BitVec 32 := BitVec.ofNat 32 (i 1).val
  let c1024_i32 : BitVec 32 := 1024#32
  let v20 : BitVec 32 := Scalar.muli arg1 c1024_i32
  let v21 : BitVec 32 := v20
  let v104 : Index := Scalar.indexCast v21
  ![0, 3, v104.toNat]
def k0_off9 (i : grid0.Coords) : Fin 2 → Nat :=
  let arg1 : BitVec 32 := BitVec.ofNat 32 (i 1).val
  let c1024_i32 : BitVec 32 := 1024#32
  let v20 : BitVec 32 := Scalar.muli arg1 c1024_i32
  let v21 : BitVec 32 := v20
  let v128 : Index := Scalar.indexCast v21
  let c0_40 : Index := 0#32
  ![v128.toNat, 0]
@[reducible] def k0_t1_loop (i : grid0.Coords) : Scf.Loop 32 :=
  let arg1 : BitVec 32 := BitVec.ofNat 32 (i 1).val
  let c1_i32 : BitVec 32 := 1#32
  let v137 : BitVec 32 := Scalar.addi arg1 c1_i32
  let c8_i32 : BitVec 32 := 8#32
  let v138 : BitVec 32 := Scalar.subi c8_i32 v137
  let c1_i32_43 : BitVec 32 := 1#32
  let v140 : BitVec 32 := Scalar.divsi v138 c1_i32_43
  let v141 : BitVec 32 := Scalar.muli v140 c1_i32_43
  let v142 : BitVec 32 := Scalar.addi v137 v141
  let c1_i32_44 : BitVec 32 := 1#32
  ⟨v137, v142, c1_i32_44⟩
def k0_mult2 (i : grid0.Coords) (k0_t1 : Fin (k0_t1_loop i).trips) : BitVec 32 :=
  let arg1 : BitVec 32 := BitVec.ofNat 32 (i 1).val
  let c1_i32 : BitVec 32 := 1#32
  let v137 : BitVec 32 := Scalar.addi arg1 c1_i32
  let c1_i32_44 : BitVec 32 := 1#32
  let arg11 : BitVec 32 := Scf.iv v137 c1_i32_44 k0_t1
  let c1024_i32_59 : BitVec 32 := 1024#32
  let v181 : BitVec 32 := Scalar.muli arg11 c1024_i32_59
  v181
def k0_off10 (i : grid0.Coords) (k0_t1 : Fin (k0_t1_loop i).trips) : Fin 2 → Nat :=
  let arg1 : BitVec 32 := BitVec.ofNat 32 (i 1).val
  let c1_i32 : BitVec 32 := 1#32
  let v137 : BitVec 32 := Scalar.addi arg1 c1_i32
  let c1_i32_44 : BitVec 32 := 1#32
  let arg11 : BitVec 32 := Scf.iv v137 c1_i32_44 k0_t1
  let c1024_i32_59 : BitVec 32 := 1024#32
  let v181 : BitVec 32 := Scalar.muli arg11 c1024_i32_59
  let v182 : BitVec 32 := v181
  let v184 : Index := Scalar.indexCast v182
  let c0_61 : Index := 0#32
  ![v184.toNat, 0]
def k0_off11 (i : grid0.Coords) (k0_t1 : Fin (k0_t1_loop i).trips) : Fin 3 → Nat :=
  let c0_65 : Index := 0#32
  let c0_66 : Index := 0#32
  let arg1 : BitVec 32 := BitVec.ofNat 32 (i 1).val
  let c1_i32 : BitVec 32 := 1#32
  let v137 : BitVec 32 := Scalar.addi arg1 c1_i32
  let c1_i32_44 : BitVec 32 := 1#32
  let arg11 : BitVec 32 := Scf.iv v137 c1_i32_44 k0_t1
  let c1024_i32_59 : BitVec 32 := 1024#32
  let v181 : BitVec 32 := Scalar.muli arg11 c1024_i32_59
  let v182 : BitVec 32 := v181
  let v193 : Index := Scalar.indexCast v182
  ![0, 0, v193.toNat]
def k0_off12 (i : grid0.Coords) (k0_t1 : Fin (k0_t1_loop i).trips) : Fin 3 → Nat :=
  let c0_67 : Index := 0#32
  let c4_68 : Index := 4#32
  let arg1 : BitVec 32 := BitVec.ofNat 32 (i 1).val
  let c1_i32 : BitVec 32 := 1#32
  let v137 : BitVec 32 := Scalar.addi arg1 c1_i32
  let c1_i32_44 : BitVec 32 := 1#32
  let arg11 : BitVec 32 := Scf.iv v137 c1_i32_44 k0_t1
  let c1024_i32_59 : BitVec 32 := 1024#32
  let v181 : BitVec 32 := Scalar.muli arg11 c1024_i32_59
  let v182 : BitVec 32 := v181
  let v201 : Index := Scalar.indexCast v182
  ![0, 4, v201.toNat]
def k0_off13 (i : grid0.Coords) (k0_t1 : Fin (k0_t1_loop i).trips) : Fin 3 → Nat :=
  let c0_70 : Index := 0#32
  let c2_71 : Index := 2#32
  let arg1 : BitVec 32 := BitVec.ofNat 32 (i 1).val
  let c1_i32 : BitVec 32 := 1#32
  let v137 : BitVec 32 := Scalar.addi arg1 c1_i32
  let c1_i32_44 : BitVec 32 := 1#32
  let arg11 : BitVec 32 := Scf.iv v137 c1_i32_44 k0_t1
  let c1024_i32_59 : BitVec 32 := 1024#32
  let v181 : BitVec 32 := Scalar.muli arg11 c1024_i32_59
  let v182 : BitVec 32 := v181
  let v207 : Index := Scalar.indexCast v182
  ![0, 2, v207.toNat]
def k0_off14 (i : grid0.Coords) (k0_t1 : Fin (k0_t1_loop i).trips) : Fin 2 → Nat :=
  let arg1 : BitVec 32 := BitVec.ofNat 32 (i 1).val
  let c1_i32 : BitVec 32 := 1#32
  let v137 : BitVec 32 := Scalar.addi arg1 c1_i32
  let c1_i32_44 : BitVec 32 := 1#32
  let arg11 : BitVec 32 := Scf.iv v137 c1_i32_44 k0_t1
  let c1024_i32_59 : BitVec 32 := 1024#32
  let v181 : BitVec 32 := Scalar.muli arg11 c1024_i32_59
  let v182 : BitVec 32 := v181
  let v232 : Index := Scalar.indexCast v182
  let c128_79 : Index := 128#32
  ![v232.toNat, 128]
def k0_off15 (i : grid0.Coords) (k0_t1 : Fin (k0_t1_loop i).trips) : Fin 3 → Nat :=
  let c0_83 : Index := 0#32
  let c1_84 : Index := 1#32
  let arg1 : BitVec 32 := BitVec.ofNat 32 (i 1).val
  let c1_i32 : BitVec 32 := 1#32
  let v137 : BitVec 32 := Scalar.addi arg1 c1_i32
  let c1_i32_44 : BitVec 32 := 1#32
  let arg11 : BitVec 32 := Scf.iv v137 c1_i32_44 k0_t1
  let c1024_i32_59 : BitVec 32 := 1024#32
  let v181 : BitVec 32 := Scalar.muli arg11 c1024_i32_59
  let v182 : BitVec 32 := v181
  let v241 : Index := Scalar.indexCast v182
  ![0, 1, v241.toNat]
def k0_off16 (i : grid0.Coords) (k0_t1 : Fin (k0_t1_loop i).trips) : Fin 3 → Nat :=
  let c0_85 : Index := 0#32
  let c5_86 : Index := 5#32
  let arg1 : BitVec 32 := BitVec.ofNat 32 (i 1).val
  let c1_i32 : BitVec 32 := 1#32
  let v137 : BitVec 32 := Scalar.addi arg1 c1_i32
  let c1_i32_44 : BitVec 32 := 1#32
  let arg11 : BitVec 32 := Scf.iv v137 c1_i32_44 k0_t1
  let c1024_i32_59 : BitVec 32 := 1024#32
  let v181 : BitVec 32 := Scalar.muli arg11 c1024_i32_59
  let v182 : BitVec 32 := v181
  let v249 : Index := Scalar.indexCast v182
  ![0, 5, v249.toNat]
def k0_off17 (i : grid0.Coords) (k0_t1 : Fin (k0_t1_loop i).trips) : Fin 3 → Nat :=
  let c0_88 : Index := 0#32
  let c3_89 : Index := 3#32
  let arg1 : BitVec 32 := BitVec.ofNat 32 (i 1).val
  let c1_i32 : BitVec 32 := 1#32
  let v137 : BitVec 32 := Scalar.addi arg1 c1_i32
  let c1_i32_44 : BitVec 32 := 1#32
  let arg11 : BitVec 32 := Scf.iv v137 c1_i32_44 k0_t1
  let c1024_i32_59 : BitVec 32 := 1024#32
  let v181 : BitVec 32 := Scalar.muli arg11 c1024_i32_59
  let v182 : BitVec 32 := v181
  let v255 : Index := Scalar.indexCast v182
  ![0, 3, v255.toNat]
def k0_off18 (i : grid0.Coords) (k0_t1 : Fin (k0_t1_loop i).trips) : Fin 2 → Nat :=
  let arg1 : BitVec 32 := BitVec.ofNat 32 (i 1).val
  let c1_i32 : BitVec 32 := 1#32
  let v137 : BitVec 32 := Scalar.addi arg1 c1_i32
  let c1_i32_44 : BitVec 32 := 1#32
  let arg11 : BitVec 32 := Scf.iv v137 c1_i32_44 k0_t1
  let c1024_i32_59 : BitVec 32 := 1024#32
  let v181 : BitVec 32 := Scalar.muli arg11 c1024_i32_59
  let v182 : BitVec 32 := v181
  let v280 : Index := Scalar.indexCast v182
  let c0_97 : Index := 0#32
  ![v280.toNat, 0]
@[reducible] def k0_t2_loop (i : grid0.Coords) : Scf.Loop 32 :=
  let arg1 : BitVec 32 := BitVec.ofNat 32 (i 1).val
  let c1_i32 : BitVec 32 := 1#32
  let v137 : BitVec 32 := Scalar.addi arg1 c1_i32
  let c8_i32 : BitVec 32 := 8#32
  let v138 : BitVec 32 := Scalar.subi c8_i32 v137
  let c1_i32_43 : BitVec 32 := 1#32
  let v140 : BitVec 32 := Scalar.divsi v138 c1_i32_43
  let v141 : BitVec 32 := Scalar.muli v140 c1_i32_43
  let v142 : BitVec 32 := Scalar.addi v137 v141
  let v139 : BitVec 32 := Scalar.addi v137 v138
  let c1_i32_45 : BitVec 32 := 1#32
  ⟨v142, v139, c1_i32_45⟩
def k0_mult3 (i : grid0.Coords) (k0_t2 : Fin (k0_t2_loop i).trips) : BitVec 32 :=
  let arg1 : BitVec 32 := BitVec.ofNat 32 (i 1).val
  let c1_i32 : BitVec 32 := 1#32
  let v137 : BitVec 32 := Scalar.addi arg1 c1_i32
  let c8_i32 : BitVec 32 := 8#32
  let v138 : BitVec 32 := Scalar.subi c8_i32 v137
  let c1_i32_43 : BitVec 32 := 1#32
  let v140 : BitVec 32 := Scalar.divsi v138 c1_i32_43
  let v141 : BitVec 32 := Scalar.muli v140 c1_i32_43
  let v142 : BitVec 32 := Scalar.addi v137 v141
  let c1_i32_45 : BitVec 32 := 1#32
  let arg11 : BitVec 32 := Scf.iv v142 c1_i32_45 k0_t2
  let c1024_i32_59 : BitVec 32 := 1024#32
  let v181 : BitVec 32 := Scalar.muli arg11 c1024_i32_59
  v181
def k0_off19 (i : grid0.Coords) (k0_t2 : Fin (k0_t2_loop i).trips) : Fin 2 → Nat :=
  let arg1 : BitVec 32 := BitVec.ofNat 32 (i 1).val
  let c1_i32 : BitVec 32 := 1#32
  let v137 : BitVec 32 := Scalar.addi arg1 c1_i32
  let c8_i32 : BitVec 32 := 8#32
  let v138 : BitVec 32 := Scalar.subi c8_i32 v137
  let c1_i32_43 : BitVec 32 := 1#32
  let v140 : BitVec 32 := Scalar.divsi v138 c1_i32_43
  let v141 : BitVec 32 := Scalar.muli v140 c1_i32_43
  let v142 : BitVec 32 := Scalar.addi v137 v141
  let c1_i32_45 : BitVec 32 := 1#32
  let arg11 : BitVec 32 := Scf.iv v142 c1_i32_45 k0_t2
  let c1024_i32_59 : BitVec 32 := 1024#32
  let v181 : BitVec 32 := Scalar.muli arg11 c1024_i32_59
  let v182 : BitVec 32 := v181
  let v184 : Index := Scalar.indexCast v182
  let c0_61 : Index := 0#32
  ![v184.toNat, 0]
def k0_off20 (i : grid0.Coords) (k0_t2 : Fin (k0_t2_loop i).trips) : Fin 3 → Nat :=
  let c0_65 : Index := 0#32
  let c0_66 : Index := 0#32
  let arg1 : BitVec 32 := BitVec.ofNat 32 (i 1).val
  let c1_i32 : BitVec 32 := 1#32
  let v137 : BitVec 32 := Scalar.addi arg1 c1_i32
  let c8_i32 : BitVec 32 := 8#32
  let v138 : BitVec 32 := Scalar.subi c8_i32 v137
  let c1_i32_43 : BitVec 32 := 1#32
  let v140 : BitVec 32 := Scalar.divsi v138 c1_i32_43
  let v141 : BitVec 32 := Scalar.muli v140 c1_i32_43
  let v142 : BitVec 32 := Scalar.addi v137 v141
  let c1_i32_45 : BitVec 32 := 1#32
  let arg11 : BitVec 32 := Scf.iv v142 c1_i32_45 k0_t2
  let c1024_i32_59 : BitVec 32 := 1024#32
  let v181 : BitVec 32 := Scalar.muli arg11 c1024_i32_59
  let v182 : BitVec 32 := v181
  let v193 : Index := Scalar.indexCast v182
  ![0, 0, v193.toNat]
def k0_off21 (i : grid0.Coords) (k0_t2 : Fin (k0_t2_loop i).trips) : Fin 3 → Nat :=
  let c0_67 : Index := 0#32
  let c4_68 : Index := 4#32
  let arg1 : BitVec 32 := BitVec.ofNat 32 (i 1).val
  let c1_i32 : BitVec 32 := 1#32
  let v137 : BitVec 32 := Scalar.addi arg1 c1_i32
  let c8_i32 : BitVec 32 := 8#32
  let v138 : BitVec 32 := Scalar.subi c8_i32 v137
  let c1_i32_43 : BitVec 32 := 1#32
  let v140 : BitVec 32 := Scalar.divsi v138 c1_i32_43
  let v141 : BitVec 32 := Scalar.muli v140 c1_i32_43
  let v142 : BitVec 32 := Scalar.addi v137 v141
  let c1_i32_45 : BitVec 32 := 1#32
  let arg11 : BitVec 32 := Scf.iv v142 c1_i32_45 k0_t2
  let c1024_i32_59 : BitVec 32 := 1024#32
  let v181 : BitVec 32 := Scalar.muli arg11 c1024_i32_59
  let v182 : BitVec 32 := v181
  let v201 : Index := Scalar.indexCast v182
  ![0, 4, v201.toNat]
def k0_off22 (i : grid0.Coords) (k0_t2 : Fin (k0_t2_loop i).trips) : Fin 3 → Nat :=
  let c0_70 : Index := 0#32
  let c2_71 : Index := 2#32
  let arg1 : BitVec 32 := BitVec.ofNat 32 (i 1).val
  let c1_i32 : BitVec 32 := 1#32
  let v137 : BitVec 32 := Scalar.addi arg1 c1_i32
  let c8_i32 : BitVec 32 := 8#32
  let v138 : BitVec 32 := Scalar.subi c8_i32 v137
  let c1_i32_43 : BitVec 32 := 1#32
  let v140 : BitVec 32 := Scalar.divsi v138 c1_i32_43
  let v141 : BitVec 32 := Scalar.muli v140 c1_i32_43
  let v142 : BitVec 32 := Scalar.addi v137 v141
  let c1_i32_45 : BitVec 32 := 1#32
  let arg11 : BitVec 32 := Scf.iv v142 c1_i32_45 k0_t2
  let c1024_i32_59 : BitVec 32 := 1024#32
  let v181 : BitVec 32 := Scalar.muli arg11 c1024_i32_59
  let v182 : BitVec 32 := v181
  let v207 : Index := Scalar.indexCast v182
  ![0, 2, v207.toNat]
def k0_off23 (i : grid0.Coords) (k0_t2 : Fin (k0_t2_loop i).trips) : Fin 2 → Nat :=
  let arg1 : BitVec 32 := BitVec.ofNat 32 (i 1).val
  let c1_i32 : BitVec 32 := 1#32
  let v137 : BitVec 32 := Scalar.addi arg1 c1_i32
  let c8_i32 : BitVec 32 := 8#32
  let v138 : BitVec 32 := Scalar.subi c8_i32 v137
  let c1_i32_43 : BitVec 32 := 1#32
  let v140 : BitVec 32 := Scalar.divsi v138 c1_i32_43
  let v141 : BitVec 32 := Scalar.muli v140 c1_i32_43
  let v142 : BitVec 32 := Scalar.addi v137 v141
  let c1_i32_45 : BitVec 32 := 1#32
  let arg11 : BitVec 32 := Scf.iv v142 c1_i32_45 k0_t2
  let c1024_i32_59 : BitVec 32 := 1024#32
  let v181 : BitVec 32 := Scalar.muli arg11 c1024_i32_59
  let v182 : BitVec 32 := v181
  let v232 : Index := Scalar.indexCast v182
  let c128_79 : Index := 128#32
  ![v232.toNat, 128]
def k0_off24 (i : grid0.Coords) (k0_t2 : Fin (k0_t2_loop i).trips) : Fin 3 → Nat :=
  let c0_83 : Index := 0#32
  let c1_84 : Index := 1#32
  let arg1 : BitVec 32 := BitVec.ofNat 32 (i 1).val
  let c1_i32 : BitVec 32 := 1#32
  let v137 : BitVec 32 := Scalar.addi arg1 c1_i32
  let c8_i32 : BitVec 32 := 8#32
  let v138 : BitVec 32 := Scalar.subi c8_i32 v137
  let c1_i32_43 : BitVec 32 := 1#32
  let v140 : BitVec 32 := Scalar.divsi v138 c1_i32_43
  let v141 : BitVec 32 := Scalar.muli v140 c1_i32_43
  let v142 : BitVec 32 := Scalar.addi v137 v141
  let c1_i32_45 : BitVec 32 := 1#32
  let arg11 : BitVec 32 := Scf.iv v142 c1_i32_45 k0_t2
  let c1024_i32_59 : BitVec 32 := 1024#32
  let v181 : BitVec 32 := Scalar.muli arg11 c1024_i32_59
  let v182 : BitVec 32 := v181
  let v241 : Index := Scalar.indexCast v182
  ![0, 1, v241.toNat]
def k0_off25 (i : grid0.Coords) (k0_t2 : Fin (k0_t2_loop i).trips) : Fin 3 → Nat :=
  let c0_85 : Index := 0#32
  let c5_86 : Index := 5#32
  let arg1 : BitVec 32 := BitVec.ofNat 32 (i 1).val
  let c1_i32 : BitVec 32 := 1#32
  let v137 : BitVec 32 := Scalar.addi arg1 c1_i32
  let c8_i32 : BitVec 32 := 8#32
  let v138 : BitVec 32 := Scalar.subi c8_i32 v137
  let c1_i32_43 : BitVec 32 := 1#32
  let v140 : BitVec 32 := Scalar.divsi v138 c1_i32_43
  let v141 : BitVec 32 := Scalar.muli v140 c1_i32_43
  let v142 : BitVec 32 := Scalar.addi v137 v141
  let c1_i32_45 : BitVec 32 := 1#32
  let arg11 : BitVec 32 := Scf.iv v142 c1_i32_45 k0_t2
  let c1024_i32_59 : BitVec 32 := 1024#32
  let v181 : BitVec 32 := Scalar.muli arg11 c1024_i32_59
  let v182 : BitVec 32 := v181
  let v249 : Index := Scalar.indexCast v182
  ![0, 5, v249.toNat]
def k0_off26 (i : grid0.Coords) (k0_t2 : Fin (k0_t2_loop i).trips) : Fin 3 → Nat :=
  let c0_88 : Index := 0#32
  let c3_89 : Index := 3#32
  let arg1 : BitVec 32 := BitVec.ofNat 32 (i 1).val
  let c1_i32 : BitVec 32 := 1#32
  let v137 : BitVec 32 := Scalar.addi arg1 c1_i32
  let c8_i32 : BitVec 32 := 8#32
  let v138 : BitVec 32 := Scalar.subi c8_i32 v137
  let c1_i32_43 : BitVec 32 := 1#32
  let v140 : BitVec 32 := Scalar.divsi v138 c1_i32_43
  let v141 : BitVec 32 := Scalar.muli v140 c1_i32_43
  let v142 : BitVec 32 := Scalar.addi v137 v141
  let c1_i32_45 : BitVec 32 := 1#32
  let arg11 : BitVec 32 := Scf.iv v142 c1_i32_45 k0_t2
  let c1024_i32_59 : BitVec 32 := 1024#32
  let v181 : BitVec 32 := Scalar.muli arg11 c1024_i32_59
  let v182 : BitVec 32 := v181
  let v255 : Index := Scalar.indexCast v182
  ![0, 3, v255.toNat]
def k0_off27 (i : grid0.Coords) (k0_t2 : Fin (k0_t2_loop i).trips) : Fin 2 → Nat :=
  let arg1 : BitVec 32 := BitVec.ofNat 32 (i 1).val
  let c1_i32 : BitVec 32 := 1#32
  let v137 : BitVec 32 := Scalar.addi arg1 c1_i32
  let c8_i32 : BitVec 32 := 8#32
  let v138 : BitVec 32 := Scalar.subi c8_i32 v137
  let c1_i32_43 : BitVec 32 := 1#32
  let v140 : BitVec 32 := Scalar.divsi v138 c1_i32_43
  let v141 : BitVec 32 := Scalar.muli v140 c1_i32_43
  let v142 : BitVec 32 := Scalar.addi v137 v141
  let c1_i32_45 : BitVec 32 := 1#32
  let arg11 : BitVec 32 := Scf.iv v142 c1_i32_45 k0_t2
  let c1024_i32_59 : BitVec 32 := 1024#32
  let v181 : BitVec 32 := Scalar.muli arg11 c1024_i32_59
  let v182 : BitVec 32 := v181
  let v280 : Index := Scalar.indexCast v182
  let c0_97 : Index := 0#32
  ![v280.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel2Ideal.lean ====
variable {F : FTy → Type} [FloatOps F] [Named F]
def κ : String → Option EReal := fun
  | "log2e" => some (((Real.log 2)⁻¹ : ℝ) : EReal)
  | "mask" => some ⊥
  | _ => none
-- ==== Reference2Ideal.lean ====
abbrev S8192x8x64 : Shape := ⟨3, ![8192, 8, 64]⟩
abbrev S8192x8 : Shape := ⟨2, ![8192, 8]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x64x8192 : Shape := ⟨3, ![8, 64, 8192]⟩
abbrev S8x8192x64 : Shape := ⟨3, ![8, 8192, 64]⟩
abbrev S8192x4x2 : Shape := ⟨3, ![8192, 4, 2]⟩
abbrev S8192x4x128 : Shape := ⟨3, ![8192, 4, 128]⟩
abbrev S8192x512 : Shape := ⟨2, ![8192, 512]⟩

abbrev nBuf : Space → Nat
  | .hbm => 123
  | .vmem => 0
  | .smem => 0
  | _ => 0

abbrev bufTy : (tb : Table) → Fin (tcTables nBuf tb) → BufTy
  | .hbm, ⟨0, _⟩ => ⟨S8192x8x64, .f32⟩
  | .hbm, ⟨1, _⟩ => ⟨S8192x8x64, .f32⟩
  | .hbm, ⟨2, _⟩ => ⟨S8192x8x64, .f32⟩
  | .hbm, ⟨3, _⟩ => ⟨S8192x8, .f32⟩
  | .hbm, ⟨4, _⟩ => ⟨S8192x8x64, .f32⟩
  | .hbm, ⟨5, _⟩ => ⟨S8x8192x8192, .f32⟩
  | .hbm, ⟨6, _⟩ => ⟨S_, .f32⟩
  | .hbm, ⟨7, _⟩ => ⟨S8x8192x8192, .f32⟩
  | .hbm, ⟨8, _⟩ => ⟨S8x8192x8192, .f32⟩
  | .hbm, ⟨9, _⟩ => ⟨S8x8192, .f32⟩
  | .hbm, ⟨10, _⟩ => ⟨S8x8192x1, .f32⟩
  | .hbm, ⟨11, _⟩ => ⟨S8x8192x8192, .f32⟩
  | .hbm, ⟨12, _⟩ => ⟨S8x8192x8192, .f32⟩
  | .hbm, ⟨13, _⟩ => ⟨S8x8192, .f32⟩
  | .hbm, ⟨14, _⟩ => ⟨S8x1x8192, .f32⟩
  | .hbm, ⟨15, _⟩ => ⟨S8x8192x8192, .f32⟩
  | .hbm, ⟨16, _⟩ => ⟨S8x8192x8192, .f32⟩
  | .hbm, ⟨17, _⟩ => ⟨S8192, .i32⟩
  | .hbm, ⟨18, _⟩ => ⟨S1x8192, .i32⟩
  | .hbm, ⟨19, _⟩ => ⟨S8192x1, .i32⟩
  | .hbm, ⟨20, _⟩ => ⟨S8192x8192, .i32⟩
  | .hbm, ⟨21, _⟩ => ⟨S8192x8192, .i32⟩
  | .hbm, ⟨22, _⟩ => ⟨S8192x8192, .i1⟩
  | .hbm, ⟨23, _⟩ => ⟨S1x8192x8192, .i1⟩
  | .hbm, ⟨24, _⟩ => ⟨S_, .f32⟩
  | .hbm, ⟨25, _⟩ => ⟨S_, .f32⟩
  | .hbm, ⟨26, _⟩ => ⟨S8x8192x8192, .i1⟩
  | .hbm, ⟨27, _⟩ => ⟨S8x8192x8192, .f32⟩
  | .hbm, ⟨28, _⟩ => ⟨S8x8192x8192, .f32⟩
  | .hbm, ⟨29, _⟩ => ⟨S_, .f32⟩
  | .hbm, ⟨30, _⟩ => ⟨S8x8192x8192, .f32⟩
  | .hbm, ⟨31, _⟩ => ⟨S_, .f32⟩
  | .hbm, ⟨32, _⟩ => ⟨S8x8192, .f32⟩
  | .hbm, ⟨33, _⟩ => ⟨S8x8192x1, .f32⟩
  | .hbm, ⟨34, _⟩ => ⟨S8x8192x8192, .f32⟩
  | .hbm, ⟨35, _⟩ => ⟨S8x8192x8192, .i1⟩
  | .hbm, ⟨36, _⟩ => ⟨S8x8192x8192, .f32⟩
  | .hbm, ⟨37, _⟩ => ⟨S_, .f32⟩
  | .hbm, ⟨38, _⟩ => ⟨S8x8192, .f32⟩
  | .hbm, ⟨39, _⟩ => ⟨S_, .f32⟩
  | .hbm, ⟨40, _⟩ => ⟨S8x8192, .f32⟩
  | .hbm, ⟨41, _⟩ => ⟨S8x8192, .f32⟩
  | .hbm, ⟨42, _⟩ => ⟨S_, .f32⟩
  | .hbm, ⟨43, _⟩ => ⟨S8x8192, .f32⟩
  | .hbm, ⟨44, _⟩ => ⟨S8x8192, .i1⟩
  | .hbm, ⟨45, _⟩ => ⟨S_, .f32⟩
  | .hbm, ⟨46, _⟩ => ⟨S8x8192, .f32⟩
  | .hbm, ⟨47, _⟩ => ⟨S8x8192, .i1⟩
  | .hbm, ⟨48, _⟩ => ⟨S_, .f32⟩
  | .hbm, ⟨49, _⟩ => ⟨S8x8192, .f32⟩
  | .hbm, ⟨50, _⟩ => ⟨S_, .f32⟩
  | .hbm, ⟨51, _⟩ => ⟨S8x8192, .f32⟩
  | .hbm, ⟨52, _⟩ => ⟨S_, .f32⟩
  | .hbm, ⟨53, _⟩ => ⟨S8x8192, .f32⟩
  | .hbm, ⟨54, _⟩ => ⟨S8x8192, .f32⟩
  | .hbm, ⟨55, _⟩ => ⟨S8x8192, .f32⟩
  | .hbm, ⟨56, _⟩ => ⟨S8x8192x1, .f32⟩
  | .hbm, ⟨57, _⟩ => ⟨S8x8192x8192, .f32⟩
  | .hbm, ⟨58, _⟩ => ⟨S8x8192x8192, .f32⟩
  | .hbm, ⟨59, _⟩ => ⟨S8x8192x8192, .f32⟩
  | .hbm, ⟨60, _⟩ => ⟨S_, .f32⟩
  | .hbm, ⟨61, _⟩ => ⟨S8x8192, .f32⟩
  | .hbm, ⟨62, _⟩ => ⟨S8x8192x1, .f32⟩
  | .hbm, ⟨63, _⟩ => ⟨S8x8192x8192, .f32⟩
  | .hbm, ⟨64, _⟩ => ⟨S8x8192x8192, .f32⟩
  | .hbm, ⟨65, _⟩ => ⟨S8x8192x1, .f32⟩
  | .hbm, ⟨66, _⟩ => ⟨S_, .f32⟩
  | .hbm, ⟨67, _⟩ => ⟨S8x8192x1, .f32⟩
  | .hbm, ⟨68, _⟩ => ⟨S8x8192x1, .f32⟩
  | .hbm, ⟨69, _⟩ => ⟨S8x64x8192, .f32⟩
  | .hbm, ⟨70, _⟩ => ⟨S8192x8x64, .f32⟩
  | .hbm, ⟨71, _⟩ => ⟨S8x64x8192, .f32⟩
  | .hbm, ⟨72, _⟩ => ⟨S8x8192x8192, .f32⟩
  | .hbm, ⟨73, _⟩ => ⟨S8x64x8192, .f32⟩
  | .hbm, ⟨74, _⟩ => ⟨S8192x8x64, .f32⟩
  | .hbm, ⟨75, _⟩ => ⟨S8x8192x8192, .f32⟩
  | .hbm, ⟨76, _⟩ => ⟨S8x8192x8192, .f32⟩
  | .hbm, ⟨77, _⟩ => ⟨S8x8192x8192, .f32⟩
  | .hbm, ⟨78, _⟩ => ⟨S_, .f32⟩
  | .hbm, ⟨79, _⟩ => ⟨S8x8192, .f32⟩
  | .hbm, ⟨80, _⟩ => ⟨S8x8192x1, .f32⟩
  | .hbm, ⟨81, _⟩ => ⟨S8x8192x1, .f32⟩
  | .hbm, ⟨82, _⟩ => ⟨S8x8192x8192, .f32⟩
  | .hbm, ⟨83, _⟩ => ⟨S8x8192x8192, .f32⟩
  | .hbm, ⟨84, _⟩ => ⟨S_, .f32⟩
  | .hbm, ⟨85, _⟩ => ⟨S8x8192, .f32⟩
  | .hbm, ⟨86, _⟩ => ⟨S8x8192x8192, .f32⟩
  | .hbm, ⟨87, _⟩ => ⟨S8x8192x8192, .f32⟩
  | .hbm, ⟨88, _⟩ => ⟨S8x8192x8192, .f32⟩
  | .hbm, ⟨89, _⟩ => ⟨S_, .f32⟩
  | .hbm, ⟨90, _⟩ => ⟨S8x8192x8192, .f32⟩
  | .hbm, ⟨91, _⟩ => ⟨S8x8192x8192, .f32⟩
  | .hbm, ⟨92, _⟩ => ⟨S8x8192x8192, .f32⟩
  | .hbm, ⟨93, _⟩ => ⟨S_, .f32⟩
  | .hbm, ⟨94, _⟩ => ⟨S8x8192, .f32⟩
  | .hbm, ⟨95, _⟩ => ⟨S8x1x8192, .f32⟩
  | .hbm, ⟨96, _⟩ => ⟨S_, .f32⟩
  | .hbm, ⟨97, _⟩ => ⟨S8x8192, .f32⟩
  | .hbm, ⟨98, _⟩ => ⟨S8192x8, .f32⟩
  | .hbm, ⟨99, _⟩ => ⟨S_, .f32⟩
  | .hbm, ⟨100, _⟩ => ⟨S8x8192, .f32⟩
  | .hbm, ⟨101, _⟩ => ⟨S8x8192x1, .f32⟩
  | .hbm, ⟨102, _⟩ => ⟨S_, .f32⟩
  | .hbm, ⟨103, _⟩ => ⟨S8x8192, .f32⟩
  | .hbm, ⟨104, _⟩ => ⟨S8192x8, .f32⟩
  | .hbm, ⟨105, _⟩ => ⟨S8192x8, .f32⟩
  | .hbm, ⟨106, _⟩ => ⟨S_, .f32⟩
  | .hbm, ⟨107, _⟩ => ⟨S8x8192x8192, .f32⟩
  | .hbm, ⟨108, _⟩ => ⟨S8x8192x8192, .f32⟩
  | .hbm, ⟨109, _⟩ => ⟨S8x8192x64, .f32⟩
  | .hbm, ⟨110, _⟩ => ⟨S8192x8x64, .f32⟩
  | .hbm, ⟨111, _⟩ => ⟨S8x8192x64, .f32⟩
  | .hbm, ⟨112, _⟩ => ⟨S8192x8x64, .f32⟩
  | .hbm, ⟨113, _⟩ => ⟨S8192x4x2, .f32⟩
  | .hbm, ⟨114, _⟩ => ⟨S_, .i32⟩
  | .hbm, ⟨115, _⟩ => ⟨S_, .f32⟩
  | .hbm, ⟨116, _⟩ => ⟨S8192x4x128, .f32⟩
  | .hbm, ⟨117, _⟩ => ⟨S8192x512, .f32⟩
  | .hbm, ⟨118, _⟩ => ⟨S8192x512, .f32⟩
  | .hbm, ⟨119, _⟩ => ⟨S8192x512, .f32⟩
  | .hbm, ⟨120, _⟩ => ⟨S8192x512, .bf16⟩
  | .hbm, ⟨121, _⟩ => ⟨S8192x512, .f32⟩
  | .hbm, ⟨122, _⟩ => ⟨S8192x512, .bf16⟩
  | _, _ => ⟨S8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_call0_v0 : Ref sig .tc := ⟨.hbm, 25, rfl⟩
abbrev main_v18_1 : Ref sig .tc := ⟨.hbm, 26, rfl⟩
abbrev main_call0_v2 : Ref sig .tc := ⟨.hbm, 27, rfl⟩
abbrev main_v18_0 : Ref sig .tc := ⟨.hbm, 28, rfl⟩
abbrev main_call0_cst : Ref sig .tc := ⟨.hbm, 29, rfl⟩
abbrev main_v18_2 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_12 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call1_cst : Ref sig .tc := ⟨.hbm, 89, rfl⟩
abbrev main_call1_v0 : Ref sig .tc := ⟨.hbm, 90, rfl⟩
abbrev main_v65 : Ref sig .tc := ⟨.hbm, 91, rfl⟩
abbrev main_v66 : Ref sig .tc := ⟨.hbm, 92, rfl⟩
abbrev main_cst_13 : Ref sig .tc := ⟨.hbm, 93, rfl⟩
abbrev main_v67 : Ref sig .tc := ⟨.hbm, 94, rfl⟩
abbrev main_v68 : Ref sig .tc := ⟨.hbm, 95, rfl⟩
abbrev main_cst_14 : Ref sig .tc := ⟨.hbm, 96, rfl⟩
abbrev main_v69 : Ref sig .tc := ⟨.hbm, 97, rfl⟩
abbrev main_v70 : Ref sig .tc := ⟨.hbm, 98, rfl⟩
abbrev main_cst_15 : Ref sig .tc := ⟨.hbm, 99, rfl⟩
abbrev main_v71 : Ref sig .tc := ⟨.hbm, 100, rfl⟩
abbrev main_v72 : Ref sig .tc := ⟨.hbm, 101, rfl⟩
abbrev main_cst_16 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_17 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_c : Ref sig .tc := ⟨.hbm, 114, rfl⟩
abbrev main_call2_v0 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩

abbrev nD : Nat := 1
abbrev τ : Topo := Topo.v7x

variable {F : FTy → Type} [FloatOps F]
-- ==== Kernel3.lean ====
abbrev S8192x1024 : Shape := ⟨2, ![8192, 1024]⟩
abbrev S8192x2816 : Shape := ⟨2, ![8192, 2816]⟩
abbrev S2816x1024 : Shape := ⟨2, ![2816, 1024]⟩
abbrev S1024 : Shape := ⟨1, ![1024]⟩
abbrev S_ : Shape := ⟨0, ![]⟩
abbrev S1x1024 : Shape := ⟨2, ![1, 1024]⟩
abbrev S4x704x1024 : Shape := ⟨3, ![4, 704, 1024]⟩
abbrev S4x8192x704 : Shape := ⟨3, ![4, 8192, 704]⟩
abbrev S512x1024 : Shape := ⟨2, ![512, 1024]⟩
abbrev S4x512x704 : Shape := ⟨3, ![4, 512, 704]⟩
abbrev S512 : Shape := ⟨1, ![512]⟩
abbrev S512x1 : Shape := ⟨2, ![512, 1]⟩
abbrev S1x704x1024 : Shape := ⟨3, ![1, 704, 1024]⟩
abbrev S704x1024 : Shape := ⟨2, ![704, 1024]⟩
abbrev S512x704 : Shape := ⟨2, ![512, 704]⟩
abbrev S1x512x704 : Shape := ⟨3, ![1, 512, 704]⟩

abbrev nBuf : Space → Nat
  | .hbm => 18
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S1x1024, .f32⟩
  | .hbm, ⟨12, _⟩ => ⟨S4x704x1024, .f32⟩
  | .hbm, ⟨13, _⟩ => ⟨S4x704x1024, .bf16⟩
  | .hbm, ⟨14, _⟩ => ⟨S8192x1024, .f32⟩
  | .hbm, ⟨15, _⟩ => ⟨S1x1024, .f32⟩
  | .hbm, ⟨16, _⟩ => ⟨S1x1024, .f32⟩
  | .hbm, ⟨17, _⟩ => ⟨S4x8192x704, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S4x704x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S4x512x704, .f32⟩
  | .local _ .vmem, ⟨11, _⟩ => ⟨S4x512x704, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4x512x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S8192x1024 : Shape := ⟨2, ![8192, 1024]⟩
abbrev S8192x2816 : Shape := ⟨2, ![8192, 2816]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4x704 : Shape := ⟨3, ![8192, 4, 704]⟩
abbrev S4x8192x704 : Shape := ⟨3, ![4, 8192, 704]⟩

abbrev nBuf : Space → Nat
  | .hbm => 97
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S1x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S_, .f32⟩
  | .hbm, ⟨52, _⟩ => ⟨S1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S8192x1, .f32⟩
  | .hbm, ⟨68, _⟩ => ⟨S8192x1024, .f32⟩
  | .hbm, ⟨69, _⟩ => ⟨S_, .f32⟩
  | .hbm, ⟨70, _⟩ => ⟨S8192, .f32⟩
  | .hbm, ⟨71, _⟩ => ⟨S8192x1, .f32⟩
  | .hbm, ⟨72, _⟩ => ⟨S_, .f32⟩
  | .hbm, ⟨73, _⟩ => ⟨S8192x1, .f32⟩
  | .hbm, ⟨74, _⟩ => ⟨S8192x1, .f32⟩
  | .hbm, ⟨75, _⟩ => ⟨S_, .f32⟩
  | .hbm, ⟨76, _⟩ => ⟨S8192, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S8192, .f32⟩
  | .hbm, ⟨82, _⟩ => ⟨S8192x1, .f32⟩
  | .hbm, ⟨83, _⟩ => ⟨S8192x1024, .f32⟩
  | .hbm, ⟨84, _⟩ => ⟨S8192x1, .f32⟩
  | .hbm, ⟨85, _⟩ => ⟨S_, .f32⟩
  | .hbm, ⟨86, _⟩ => ⟨S8192x1, .f32⟩
  | .hbm, ⟨87, _⟩ => ⟨S8192x1, .f32⟩
  | .hbm, ⟨88, _⟩ => ⟨S_, .f32⟩
  | .hbm, ⟨89, _⟩ => ⟨S8192, .f32⟩
  | .hbm, ⟨90, _⟩ => ⟨S8192x1024, .f32⟩
  | .hbm, ⟨91, _⟩ => ⟨S8192x1024, .f32⟩
  | .hbm, ⟨92, _⟩ => ⟨S8192x2816, .f32⟩
  | .hbm, ⟨93, _⟩ => ⟨S1x1024, .f32⟩
  | .hbm, ⟨94, _⟩ => ⟨S1x1024, .f32⟩
  | .hbm, ⟨95, _⟩ => ⟨S8192x4x704, .f32⟩
  | .hbm, ⟨96, _⟩ => ⟨S4x8192x704, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_cst_11 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_12 : Ref sig .tc := ⟨.hbm, 69, rfl⟩
abbrev main_v50 : Ref sig .tc := ⟨.hbm, 70, rfl⟩
abbrev main_v51 : Ref sig .tc := ⟨.hbm, 71, rfl⟩
abbrev main_cst_13 : Ref sig .tc := ⟨.hbm, 72, rfl⟩
abbrev main_v52 : Ref sig .tc := ⟨.hbm, 73, rfl⟩
abbrev main_v53 : Ref sig .tc := ⟨.hbm, 74, rfl⟩
abbrev main_cst_14 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_15 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_16 : Ref sig .tc := ⟨.hbm, 85, rfl⟩
abbrev main_v62 : Ref sig .tc := ⟨.hbm, 86, rfl⟩
abbrev main_v63 : Ref sig .tc := ⟨.hbm, 87, rfl⟩
abbrev main_cst_17 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩

abbrev nD : Nat := 1
abbrev τ : Topo := Topo.v7x

variable {F : FTy → Type} [FloatOps F]
-- ==== Kernel4.lean ====
abbrev S8192x1024 : Shape := ⟨2, ![8192, 1024]⟩
abbrev S8192x512 : Shape := ⟨2, ![8192, 512]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S8192x2048 : Shape := ⟨2, ![8192, 2048]⟩
abbrev S8192x2304 : Shape := ⟨2, ![8192, 2304]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 56
  | .vmem => 32
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x1024, .f32⟩
  | .hbm, ⟨4, _⟩ => ⟨S8192x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x2048, .f32⟩
  | .hbm, ⟨38, _⟩ => ⟨S_, .i32⟩
  | .hbm, ⟨39, _⟩ => ⟨S_, .f32⟩
  | .hbm, ⟨40, _⟩ => ⟨S8192x2304, .f32⟩
  | .hbm, ⟨41, _⟩ => ⟨S1x1024, .f32⟩
  | .hbm, ⟨42, _⟩ => ⟨S1024x1024, .bf16⟩
  | .hbm, ⟨43, _⟩ => ⟨S8192x512, .bf16⟩
  | .hbm, ⟨44, _⟩ => ⟨S8192x512, .bf16⟩
  | .hbm, ⟨45, _⟩ => ⟨S512x1024, .bf16⟩
  | .hbm, ⟨46, _⟩ => ⟨S512x1024, .bf16⟩
  | .hbm, ⟨47, _⟩ => ⟨S8192x1024, .f32⟩
  | .hbm, ⟨48, _⟩ => ⟨S1x1024, .f32⟩
  | .hbm, ⟨49, _⟩ => ⟨S1x1024, .f32⟩
  | .hbm, ⟨50, _⟩ => ⟨S8192x1024, .bf16⟩
  | .hbm, ⟨51, _⟩ => ⟨S8192x1024, .bf16⟩
  | .hbm, ⟨52, _⟩ => ⟨S8192x1024, .bf16⟩
  | .hbm, ⟨53, _⟩ => ⟨S8192x1024, .bf16⟩
  | .hbm, ⟨54, _⟩ => ⟨S8192x512, .bf16⟩
  | .hbm, ⟨55, _⟩ => ⟨S8192x512, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x1024, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S1x1024, .f32⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x512, .bf16⟩
  | .local _ .vmem, ⟨29, _⟩ => ⟨S512x512, .bf16⟩
  | .local _ .vmem, ⟨30, _⟩ => ⟨S512x512, .bf16⟩
  | .local _ .vmem, ⟨31, _⟩ => ⟨S512x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c : Ref sig .tc := ⟨.hbm, 38, rfl⟩
abbrev main_call0_v0 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29_0 : Ref sig .tc := ⟨.hbm, 47, rfl⟩
abbrev main_v29_1 : Ref sig .tc := ⟨.hbm, 48, rfl⟩
abbrev main_v29_2 : Ref sig .tc := ⟨.hbm, 49, rfl⟩
abbrev main_v29_3 : Ref sig .tc := ⟨.hbm, 50, rfl⟩
abbrev main_v29_4 : Ref sig .tc := ⟨.hbm, 51, rfl⟩
abbrev main_v29_5 : Ref sig .tc := ⟨.hbm, 52, rfl⟩
abbrev main_v29_6 : Ref sig .tc := ⟨.hbm, 53, rfl⟩
abbrev main_v29_7 : Ref sig .tc := ⟨.hbm, 54, rfl⟩
abbrev main_v29_8 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference4Ideal.lean ====
abbrev S8192x1024 : Shape := ⟨2, ![8192, 1024]⟩
abbrev S8192x512 : Shape := ⟨2, ![8192, 512]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 143
  | .vmem => 0
  | .smem => 0
  | _ => 0

abbrev hbmTy0_0 (i : Nat) : BufTy := match i % 128 with
  | 0 => ⟨S8192x1024, .f32⟩
  | 1 => ⟨S8192x512, .f32⟩
  | 2 => ⟨S8192x512, .f32⟩
  | 3 => ⟨S8192x1024, .f32⟩
  | 4 => ⟨S8192x1024, .f32⟩
  | 5 => ⟨S512x1024, .f32⟩
  | 6 => ⟨S512x1024, .f32⟩
  | 7 => ⟨S1024x1024, .f32⟩
  | 8 => ⟨S1024, .f32⟩
  | 9 => ⟨S1024, .f32⟩
  | 10 => ⟨S8192x1024, .f32⟩
  | 11 => ⟨S8192x1024, .f32⟩
  | 12 => ⟨S8192x1024, .f32⟩
  | 13 => ⟨S_, .f32⟩
  | 14 => ⟨S8192x1024, .f32⟩
  | 15 => ⟨S8192x1024, .f32⟩
  | 16 => ⟨S8192x1024, .f32⟩
  | 17 => ⟨S8192x1024, .f32⟩
  | 18 => ⟨S_, .f32⟩
  | 19 => ⟨S8192x1024, .f32⟩
  | 20 => ⟨S8192x1024, .f32⟩
  | 21 => ⟨S_, .f32⟩
  | 22 => ⟨S8192x1024, .f32⟩
  | 23 => ⟨S8192x1024, .f32⟩
  | 24 => ⟨S_, .f32⟩
  | 25 => ⟨S8192x1024, .f32⟩
  | 26 => ⟨S8192x1024, .f32⟩
  | 27 => ⟨S8192x1024, .f32⟩
  | 28 => ⟨S8192x1024, .f32⟩
  | 29 => ⟨S8192x1024, .f32⟩
  | 30 => ⟨S8192x1024, .f32⟩
  | 31 => ⟨S_, .f32⟩
  | 32 => ⟨S8192x1024, .f32⟩
  | 33 => ⟨S8192x1024, .f32⟩
  | 34 => ⟨S_, .f32⟩
  | 35 => ⟨S8192x1024, .f32⟩
  | 36 => ⟨S8192x1024, .f32⟩
  | 37 => ⟨S_, .f32⟩
  | 38 => ⟨S8192x1024, .f32⟩
  | 39 => ⟨S8192x1024, .f32⟩
  | 40 => ⟨S8192x1024, .f32⟩
  | 41 => ⟨S8192x1024, .f32⟩
  | 42 => ⟨S8192x1024, .f32⟩
  | 43 => ⟨S8192x1024, .f32⟩
  | 44 => ⟨S8192x1024, .f32⟩
  | 45 => ⟨S_, .f32⟩
  | 46 => ⟨S8192, .f32⟩
  | 47 => ⟨S8192x1, .f32⟩
  | 48 => ⟨S_, .f32⟩
  | 49 => ⟨S8192x1, .f32⟩
  | 50 => ⟨S8192x1, .f32⟩
  | 51 => ⟨S8192x1024, .f32⟩
  | 52 => ⟨S8192x1024, .f32⟩
  | 53 => ⟨S8192x1024, .f32⟩
  | 54 => ⟨S_, .f32⟩
  | 55 => ⟨S8192x1024, .f32⟩
  | 56 => ⟨S8192x1024, .f32⟩
  | 57 => ⟨S_, .f32⟩
  | 58 => ⟨S8192, .f32⟩
  | 59 => ⟨S8192x1, .f32⟩
  | 60 => ⟨S_, .f32⟩
  | 61 => ⟨S8192x1, .f32⟩
  | 62 => ⟨S8192x1, .f32⟩
  | 63 => ⟨S8192x1024, .f32⟩
  | 64 => ⟨S8192x1024, .f32⟩
  | 65 => ⟨S_, .f32⟩
  | 66 => ⟨S8192x1, .f32⟩
  | 67 => ⟨S8192x1, .f32⟩
  | 68 => ⟨S8192x1, .f32⟩
  | 69 => ⟨S8192x1, .f32⟩
  | 70 => ⟨S_, .f32⟩
  | 71 => ⟨S8192x1, .f32⟩
  | 72 => ⟨S8192x1, .f32⟩
  | 73 => ⟨S8192x1024, .f32⟩
  | 74 => ⟨S8192x1024, .f32⟩
  | 75 => ⟨S1x1024, .f32⟩
  | 76 => ⟨S8192x1024, .f32⟩
  | 77 => ⟨S8192x1024, .f32⟩
  | 78 => ⟨S1x1024, .f32⟩
  | 79 => ⟨S8192x1024, .f32⟩
  | 80 => ⟨S8192x1024, .f32⟩
  | 81 => ⟨S8192x1024, .f32⟩
  | 82 => ⟨S_, .f32⟩
  | 83 => ⟨S1024, .f32⟩
  | 84 => ⟨S1x1024, .f32⟩
  | 85 => ⟨S_, .f32⟩
  | 86 => ⟨S1024, .f32⟩
  | 87 => ⟨S8192x1024, .f32⟩
  | 88 => ⟨S_, .f32⟩
  | 89 => ⟨S1024, .f32⟩
  | 90 => ⟨S1x1024, .f32⟩
  | 91 => ⟨S8192x1024, .f32⟩
  | 92 => ⟨S8192x1024, .f32⟩
  | 93 => ⟨S_, .f32⟩
  | 94 => ⟨S1024, .f32⟩
  | 95 => ⟨S8192x1024, .f32⟩
  | 96 => ⟨S_, .f32⟩
  | 97 => ⟨S8192, .f32⟩
  | 98 => ⟨S8192x1, .f32⟩
  | 99 => ⟨S8192x1024, .f32⟩
  | 100 => ⟨S8192x1024, .f32⟩
  | 101 => ⟨S8192x1, .f32⟩
  | 102 => ⟨S8192x1024, .f32⟩
  | 103 => ⟨S_, .f32⟩
  | 104 => ⟨S8192, .f32⟩
  | 105 => ⟨S8192x1, .f32⟩
  | 106 => ⟨S_, .f32⟩
  | 107 => ⟨S8192x1, .f32⟩
  | 108 => ⟨S8192x1, .f32⟩
  | 109 => ⟨S_, .f32⟩
  | 110 => ⟨S8192, .f32⟩
  | 111 => ⟨S8192x1024, .f32⟩
  | 112 => ⟨S8192x1024, .f32⟩
  | 113 => ⟨S8192x1024, .f32⟩
  | 114 => ⟨S_, .f32⟩
  | 115 => ⟨S8192, .f32⟩
  | 116 => ⟨S8192x1, .f32⟩
  | 117 => ⟨S8192x1024, .f32⟩
  | 118 => ⟨S8192x1, .f32⟩
  | 119 => ⟨S_, .f32⟩
  | 120 => ⟨S8192x1, .f32⟩
  | 121 => ⟨S8192x1, .f32⟩
  | 122 => ⟨S_, .f32⟩
  | 123 => ⟨S8192, .f32⟩
  | 124 => ⟨S8192x1024, .f32⟩
  | 125 => ⟨S8192x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S8192x1024, .f32⟩
  | 5 => ⟨S8192x512, .f32⟩
  | 6 => ⟨S8192x512, .f32⟩
  | 7 => ⟨S1x1024, .f32⟩
  | 8 => ⟨S1x1024, .f32⟩
  | 9 => ⟨S8192x1024, .bf16⟩
  | 10 => ⟨S8192x1024, .bf16⟩
  | 11 => ⟨S8192x1024, .bf16⟩
  | 12 => ⟨S8192x1024, .bf16⟩
  | 13 => ⟨S8192x512, .bf16⟩
  | 14 => ⟨S8192x512, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_v19 : Ref sig .tc := ⟨.hbm, 36, rfl⟩
abbrev main_cst_5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_v28 : Ref sig .tc := ⟨.hbm, 47, rfl⟩
abbrev main_cst_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_cst_9 : Ref sig .tc := ⟨.hbm, 57, rfl⟩
abbrev main_v36 : Ref sig .tc := ⟨.hbm, 58, rfl⟩
abbrev main_v37 : Ref sig .tc := ⟨.hbm, 59, rfl⟩
abbrev main_cst_10 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_11 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_12 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_cst_14 : Ref sig .tc := ⟨.hbm, 85, rfl⟩
abbrev main_v59 : Ref sig .tc := ⟨.hbm, 86, rfl⟩
abbrev main_v60 : Ref sig .tc := ⟨.hbm, 87, rfl⟩
abbrev main_cst_15 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_16 : Ref sig .tc := ⟨.hbm, 93, rfl⟩
abbrev main_v65 : Ref sig .tc := ⟨.hbm, 94, rfl⟩
abbrev main_v66 : Ref sig .tc := ⟨.hbm, 95, rfl⟩
abbrev main_cst_17 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_18 : Ref sig .tc := ⟨.hbm, 103, rfl⟩
abbrev main_v73 : Ref sig .tc := ⟨.hbm, 104, rfl⟩
abbrev main_v74 : Ref sig .tc := ⟨.hbm, 105, rfl⟩
abbrev main_cst_19 : Ref sig .tc := ⟨.hbm, 106, rfl⟩
abbrev main_v75 : Ref sig .tc := ⟨.hbm, 107, rfl⟩
abbrev main_v76 : Ref sig .tc := ⟨.hbm, 108, rfl⟩
abbrev main_cst_20 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_21 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_22 : Ref sig .tc := ⟨.hbm, 119, rfl⟩
abbrev main_v85 : Ref sig .tc := ⟨.hbm, 120, rfl⟩
abbrev main_v86 : Ref sig .tc := ⟨.hbm, 121, rfl⟩
abbrev main_cst_23 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩

abbrev nD : Nat := 1
abbrev τ : Topo := Topo.v7x

variable {F : FTy → Type} [FloatOps F]
-- ==== Kernel5.lean ====
abbrev S8192x1024 : Shape := ⟨2, ![8192, 1024]⟩
abbrev S1024x5632 : Shape := ⟨2, ![1024, 5632]⟩
abbrev S3x2816 : Shape := ⟨2, ![3, 2816]⟩
abbrev S2816 : Shape := ⟨1, ![2816]⟩
abbrev S8192x2816 : Shape := ⟨2, ![8192, 2816]⟩
abbrev S8192x5632 : Shape := ⟨2, ![8192, 5632]⟩
abbrev S8192x2x4x704 : Shape := ⟨4, ![8192, 2, 4, 704]⟩
abbrev S4x2x8192x704 : Shape := ⟨4, ![4, 2, 8192, 704]⟩
abbrev S_ : Shape := ⟨0, ![]⟩
abbrev S8x2816 : Shape := ⟨2, ![8, 2816]⟩
abbrev S8x4x704 : Shape := ⟨3, ![8, 4, 704]⟩
abbrev S4x8x704 : Shape := ⟨3, ![4, 8, 704]⟩
abbrev S4x1x704 : Shape := ⟨3, ![4, 1, 704]⟩
abbrev S1024x8x704 : Shape := ⟨3, ![1024, 8, 704]⟩
abbrev S8x704x1024 : Shape := ⟨3, ![8, 704, 1024]⟩
abbrev S8192x4x704 : Shape := ⟨3, ![8192, 4, 704]⟩
abbrev S4x8192x704 : Shape := ⟨3, ![4, 8192, 704]⟩
abbrev S4x2x256x704 : Shape := ⟨4, ![4, 2, 256, 704]⟩
abbrev S4x1x8x704 : Shape := ⟨4, ![4, 1, 8, 704]⟩
abbrev S4x2x8x704 : Shape := ⟨4, ![4, 2, 8, 704]⟩
abbrev S4x256x704 : Shape := ⟨3, ![4, 256, 704]⟩
abbrev S256x1024 : Shape := ⟨2, ![256, 1024]⟩
abbrev S8x1 : Shape := ⟨2, ![8, 1]⟩
abbrev S1x8x704 : Shape := ⟨3, ![1, 8, 704]⟩
abbrev S8x704 : Shape := ⟨2, ![8, 704]⟩
abbrev S1x1x704 : Shape := ⟨3, ![1, 1, 704]⟩
abbrev S1x704 : Shape := ⟨2, ![1, 704]⟩
abbrev S1x1x256x704 : Shape := ⟨4, ![1, 1, 256, 704]⟩
abbrev S256x704 : Shape := ⟨2, ![256, 704]⟩
abbrev S1x1x8x704 : Shape := ⟨4, ![1, 1, 8, 704]⟩
abbrev S256x1 : Shape := ⟨2, ![256, 1]⟩
abbrev S1x256x704 : Shape := ⟨3, ![1, 256, 704]⟩
abbrev S1x704x1024 : Shape := ⟨3, ![1, 704, 1024]⟩
abbrev S704x1024 : Shape := ⟨2, ![704, 1024]⟩
abbrev S704 : Shape := ⟨1, ![704]⟩

abbrev nBuf : Space → Nat
  | .hbm => 23
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S3x2816, .f32⟩
  | .hbm, ⟨3, _⟩ => ⟨S2816, .f32⟩
  | .hbm, ⟨4, _⟩ => ⟨S8192x2816, .f32⟩
  | .hbm, ⟨5, _⟩ => ⟨S8192x1024, .f32⟩
  | .hbm, ⟨6, _⟩ => ⟨S8192x5632, .f32⟩
  | .hbm, ⟨7, _⟩ => ⟨S8192x2x4x704, .f32⟩
  | .hbm, ⟨8, _⟩ => ⟨S4x2x8192x704, .f32⟩
  | .hbm, ⟨9, _⟩ => ⟨S_, .i32⟩
  | .hbm, ⟨10, _⟩ => ⟨S_, .f32⟩
  | .hbm, ⟨11, _⟩ => ⟨S8x2816, .f32⟩
  | .hbm, ⟨12, _⟩ => ⟨S8x4x704, .f32⟩
  | .hbm, ⟨13, _⟩ => ⟨S4x8x704, .f32⟩
  | .hbm, ⟨14, _⟩ => ⟨S4x1x704, .f32⟩
  | .hbm, ⟨15, _⟩ => ⟨S1024x8x704, .f32⟩
  | .hbm, ⟨16, _⟩ => ⟨S8x704x1024, .f32⟩
  | .hbm, ⟨17, _⟩ => ⟨S8x704x1024, .bf16⟩
  | .hbm, ⟨18, _⟩ => ⟨S8192x4x704, .f32⟩
  | .hbm, ⟨19, _⟩ => ⟨S4x8192x704, .f32⟩
  | .hbm, ⟨20, _⟩ => ⟨S4x2x8192x704, .bf16⟩
  | .hbm, ⟨21, _⟩ => ⟨S4x8x704, .f32⟩
  | .hbm, ⟨22, _⟩ => ⟨S8192x1024, .f32⟩
  | .local _ .vmem, ⟨0, _⟩ => ⟨S4x2x256x704, .f32⟩
  | .local _ .vmem, ⟨1, _⟩ => ⟨S4x2x256x704, .f32⟩
  | .local _ .vmem, ⟨2, _⟩ => ⟨S4x1x8x704, .f32⟩
  | .local _ .vmem, ⟨3, _⟩ => ⟨S4x1x8x704, .f32⟩
  | .local _ .vmem, ⟨4, _⟩ => ⟨S4x2x8x704, .f32⟩
  | .local _ .vmem, ⟨5, _⟩ => ⟨S4x2x8x704, .f32⟩
  | .local _ .vmem, ⟨6, _⟩ => ⟨S4x256x704, .f32⟩
  | .local _ .vmem, ⟨7, _⟩ => ⟨S4x256x704, .f32⟩
  | .local _ .vmem, ⟨8, _⟩ => ⟨S4x8x704, .f32⟩
  | .local _ .vmem, ⟨9, _⟩ => ⟨S4x8x704, .f32⟩
  | .local _ .vmem, ⟨10, _⟩ => ⟨S4x8x704, .f32⟩
  | .local _ .vmem, ⟨11, _⟩ => ⟨S4x1x704, .f32⟩
  | .local _ .vmem, ⟨12, _⟩ => ⟨S8x704x1024, .bf16⟩
  | .local _ .vmem, ⟨13, _⟩ => ⟨S256x1024, .f32⟩
  | .local _ .vmem, ⟨14, _⟩ => ⟨S256x1024, .f32⟩
  | .local _ .vmem, ⟨15, _⟩ => ⟨S4x2x256x704, .bf16⟩
  | .local _ .vmem, ⟨16, _⟩ => ⟨S4x2x256x704, .bf16⟩
  | .local _ .vmem, ⟨17, _⟩ => ⟨S4x8x704, .f32⟩
  | .local _ .vmem, ⟨18, _⟩ => ⟨S256x1024, .f32⟩
  | .local _ .vmem, ⟨19, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 4 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v2.toNat, c0_i32_2.toNat]

def cc0_transform_2 (i : grid0.Coords) : Fin 4 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  let c0_i32_1 : BitVec 32 := 0#32
  let c0_i32_2 : BitVec 32 := 0#32
  ![c0_i32.toNat, c0_i32_0.toNat, v2.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  let c0_i32_1 : BitVec 32 := 0#32
  ![c0_i32.toNat, v2.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x2x256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x8x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x2x8x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x8x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x8x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x704x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x2x256x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4x8x704 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference5Ideal.lean ====
abbrev S8192x1024 : Shape := ⟨2, ![8192, 1024]⟩
abbrev S1024x5632 : Shape := ⟨2, ![1024, 5632]⟩
abbrev S3x2816 : Shape := ⟨2, ![3, 2816]⟩
abbrev S2816 : Shape := ⟨1, ![2816]⟩
abbrev S8192x2816 : Shape := ⟨2, ![8192, 2816]⟩
abbrev S_ : Shape := ⟨0, ![]⟩
abbrev S8192x5632 : Shape := ⟨2, ![8192, 5632]⟩
abbrev S2x2816 : Shape := ⟨2, ![2, 2816]⟩
abbrev S8194x2816 : Shape := ⟨2, ![8194, 2816]⟩
abbrev S1x2816 : Shape := ⟨2, ![1, 2816]⟩
abbrev S8192x4x704 : Shape := ⟨3, ![8192, 4, 704]⟩
abbrev S4x8192x704 : Shape := ⟨3, ![4, 8192, 704]⟩
abbrev S4x1x8192x704 : Shape := ⟨4, ![4, 1, 8192, 704]⟩
abbrev S4x2x8192x704 : Shape := ⟨4, ![4, 2, 8192, 704]⟩
abbrev S4x2816 : Shape := ⟨2, ![4, 2816]⟩
abbrev S8x2816 : Shape := ⟨2, ![8, 2816]⟩
abbrev S8x4x704 : Shape := ⟨3, ![8, 4, 704]⟩
abbrev S4x8x704 : Shape := ⟨3, ![4, 8, 704]⟩

abbrev nBuf : Space → Nat
  | .hbm => 130
  | .vmem => 0
  | .smem => 0
  | _ => 0

abbrev hbmTy0_0 (i : Nat) : BufTy := match i % 128 with
  | 0 => ⟨S8192x1024, .f32⟩
  | 1 => ⟨S1024x5632, .f32⟩
  | 2 => ⟨S3x2816, .f32⟩
  | 3 => ⟨S2816, .f32⟩
  | 4 => ⟨S8192x2816, .f32⟩
  | 5 => ⟨S8192x1024, .f32⟩
  | 6 => ⟨S_, .f32⟩
  | 7 => ⟨S8192x1024, .f32⟩
  | 8 => ⟨S8192x1024, .f32⟩
  | 9 => ⟨S8192x5632, .f32⟩
  | 10 => ⟨S8192x2816, .f32⟩
  | 11 => ⟨S8192x2816, .f32⟩
  | 12 => ⟨S_, .f32⟩
  | 13 => ⟨S2x2816, .f32⟩
  | 14 => ⟨S8194x2816, .f32⟩
  | 15 => ⟨S_, .f32⟩
  | 16 => ⟨S2x2816, .f32⟩
  | 17 => ⟨S1x2816, .f32⟩
  | 18 => ⟨S2816, .f32⟩
  | 19 => ⟨S8192x2816, .f32⟩
  | 20 => ⟨S1x2816, .f32⟩
  | 21 => ⟨S8192x2816, .f32⟩
  | 22 => ⟨S8192x2816, .f32⟩
  | 23 => ⟨S1x2816, .f32⟩
  | 24 => ⟨S8192x2816, .f32⟩
  | 25 => ⟨S8192x2816, .f32⟩
  | 26 => ⟨S1x2816, .f32⟩
  | 27 => ⟨S2816, .f32⟩
  | 28 => ⟨S8192x2816, .f32⟩
  | 29 => ⟨S1x2816, .f32⟩
  | 30 => ⟨S8192x2816, .f32⟩
  | 31 => ⟨S8192x2816, .f32⟩
  | 32 => ⟨S8192x2816, .f32⟩
  | 33 => ⟨S1x2816, .f32⟩
  | 34 => ⟨S2816, .f32⟩
  | 35 => ⟨S8192x2816, .f32⟩
  | 36 => ⟨S1x2816, .f32⟩
  | 37 => ⟨S8192x2816, .f32⟩
  | 38 => ⟨S8192x2816, .f32⟩
  | 39 => ⟨S8192x2816, .f32⟩
  | 40 => ⟨S8192x2816, .f32⟩
  | 41 => ⟨S8192x2816, .f32⟩
  | 42 => ⟨S_, .f32⟩
  | 43 => ⟨S8192x2816, .f32⟩
  | 44 => ⟨S8192x2816, .f32⟩
  | 45 => ⟨S_, .f32⟩
  | 46 => ⟨S8192x2816, .f32⟩
  | 47 => ⟨S8192x2816, .f32⟩
  | 48 => ⟨S_, .f32⟩
  | 49 => ⟨S8192x2816, .f32⟩
  | 50 => ⟨S8192x2816, .f32⟩
  | 51 => ⟨S8192x2816, .f32⟩
  | 52 => ⟨S8192x2816, .f32⟩
  | 53 => ⟨S8192x2816, .f32⟩
  | 54 => ⟨S8192x2816, .f32⟩
  | 55 => ⟨S8192x2816, .f32⟩
  | 56 => ⟨S8192x2816, .f32⟩
  | 57 => ⟨S8192x2816, .f32⟩
  | 58 => ⟨S8192x2816, .f32⟩
  | 59 => ⟨S8192x2816, .f32⟩
  | 60 => ⟨S8192x2816, .f32⟩
  | 61 => ⟨S8192x2816, .f32⟩
  | 62 => ⟨S8192x2816, .f32⟩
  | 63 => ⟨S_, .f32⟩
  | 64 => ⟨S2816, .f32⟩
  | 65 => ⟨S1x2816, .f32⟩
  | 66 => ⟨S_, .f32⟩
  | 67 => ⟨S2816, .f32⟩
  | 68 => ⟨S_, .f32⟩
  | 69 => ⟨S8194x2816, .f32⟩
  | 70 => ⟨S1x2816, .f32⟩
  | 71 => ⟨S_, .f32⟩
  | 72 => ⟨S3x2816, .f32⟩
  | 73 => ⟨S8192x2816, .f32⟩
  | 74 => ⟨S8192x2816, .f32⟩
  | 75 => ⟨S8192x2816, .f32⟩
  | 76 => ⟨S_, .f32⟩
  | 77 => ⟨S2816, .f32⟩
  | 78 => ⟨S1x2816, .f32⟩
  | 79 => ⟨S_, .f32⟩
  | 80 => ⟨S2816, .f32⟩
  | 81 => ⟨S_, .f32⟩
  | 82 => ⟨S8194x2816, .f32⟩
  | 83 => ⟨S8194x2816, .f32⟩
  | 84 => ⟨S1x2816, .f32⟩
  | 85 => ⟨S_, .f32⟩
  | 86 => ⟨S3x2816, .f32⟩
  | 87 => ⟨S3x2816, .f32⟩
  | 88 => ⟨S_, .f32⟩
  | 89 => ⟨S2816, .f32⟩
  | 90 => ⟨S1x2816, .f32⟩
  | 91 => ⟨S_, .f32⟩
  | 92 => ⟨S2816, .f32⟩
  | 93 => ⟨S8192x2816, .f32⟩
  | 94 => ⟨S8192x2816, .f32⟩
  | 95 => ⟨S8192x2816, .f32⟩
  | 96 => ⟨S_, .f32⟩
  | 97 => ⟨S2816, .f32⟩
  | 98 => ⟨S1x2816, .f32⟩
  | 99 => ⟨S_, .f32⟩
  | 100 => ⟨S2816, .f32⟩
  | 101 => ⟨S_, .f32⟩
  | 102 => ⟨S8194x2816, .f32⟩
  | 103 => ⟨S8194x2816, .f32⟩
  | 104 => ⟨S1x2816, .f32⟩
  | 105 => ⟨S_, .f32⟩
  | 106 => ⟨S3x2816, .f32⟩
  | 107 => ⟨S3x2816, .f32⟩
  | 108 => ⟨S2x2816, .f32⟩
  | 109 => ⟨S8192x2816, .f32⟩
  | 110 => ⟨S8192x5632, .f32⟩
  | 111 => ⟨S8192x1024, .f32⟩
  | 112 => ⟨S_, .f32⟩
  | 113 => ⟨S8192x1024, .f32⟩
  | 114 => ⟨S8192x1024, .f32⟩
  | 115 => ⟨S8192x1024, .f32⟩
  | 116 => ⟨S8192x4x704, .f32⟩
  | 117 => ⟨S4x8192x704, .f32⟩
  | 118 => ⟨S8192x4x704, .f32⟩
  | 119 => ⟨S4x8192x704, .f32⟩
  | 120 => ⟨S4x1x8192x704, .f32⟩
  | 121 => ⟨S4x1x8192x704, .f32⟩
  | 122 => ⟨S4x2x8192x704, .f32⟩
  | 123 => ⟨S4x2x8192x704, .bf16⟩
  | 124 => ⟨S1x2816, .f32⟩
  | 125 => ⟨S_, .f32⟩
  | 126 => ⟨S4x2816, .f32⟩
  | 127 => ⟨S8x2816, .f32⟩
  | _ => ⟨S8192x1024, .f32⟩

abbrev hbmTy0_1 (i : Nat) : BufTy := match i % 128 with
  | 0 => ⟨S8x4x704, .f32⟩
  | 1 => ⟨S4x8x704, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_v31_2 : Ref sig .tc := ⟨.hbm, 47, rfl⟩
abbrev main_call0_cst_1 : Ref sig .tc := ⟨.hbm, 48, rfl⟩
abbrev main_call0_v6 : Ref sig .tc := ⟨.hbm, 49, rfl⟩
abbrev main_call0_v7 : Ref sig .tc := ⟨.hbm, 50, rfl⟩
abbrev main_v31_1 : Ref sig .tc := ⟨.hbm, 51, rfl⟩
abbrev main_v31_0 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_2 : Ref sig .tc := ⟨.hbm, 63, rfl⟩
abbrev main_v39 : Ref sig .tc := ⟨.hbm, 64, rfl⟩
abbrev main_v40 : Ref sig .tc := ⟨.hbm, 65, rfl⟩
abbrev main_cst_3 : Ref sig .tc := ⟨.hbm, 66, rfl⟩
abbrev main_v41 : Ref sig .tc := ⟨.hbm, 67, rfl⟩
abbrev main_cst_4 : Ref sig .tc := ⟨.hbm, 68, rfl⟩
abbrev main_v42 : Ref sig .tc := ⟨.hbm, 69, rfl⟩
abbrev main_v43 : Ref sig .tc := ⟨.hbm, 70, rfl⟩
abbrev main_cst_5 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_6 : Ref sig .tc := ⟨.hbm, 76, rfl⟩
abbrev main_v48 : Ref sig .tc := ⟨.hbm, 77, rfl⟩
abbrev main_v49 : Ref sig .tc := ⟨.hbm, 78, rfl⟩
abbrev main_cst_7 : Ref sig .tc := ⟨.hbm, 79, rfl⟩
abbrev main_v50 : Ref sig .tc := ⟨.hbm, 80, rfl⟩
abbrev main_cst_8 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_9 : Ref sig .tc := ⟨.hbm, 85, rfl⟩
abbrev main_v54 : Ref sig .tc := ⟨.hbm, 86, rfl⟩
abbrev main_v55 : Ref sig .tc := ⟨.hbm, 87, rfl⟩
abbrev main_cst_10 : Ref sig .tc := ⟨.hbm, 88, rfl⟩
abbrev main_v56 : Ref sig .tc := ⟨.hbm, 89, rfl⟩
abbrev main_v57 : Ref sig .tc := ⟨.hbm, 90, rfl⟩
abbrev main_cst_11 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_12 : Ref sig .tc := ⟨.hbm, 96, rfl⟩
abbrev main_v62 : Ref sig .tc := ⟨.hbm, 97, rfl⟩
abbrev main_v63 : Ref sig .tc := ⟨.hbm, 98, rfl⟩
abbrev main_cst_13 : Ref sig .tc := ⟨.hbm, 99, rfl⟩
abbrev main_v64 : Ref sig .tc := ⟨.hbm, 100, rfl⟩
abbrev main_cst_14 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_15 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_16 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_17 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩

abbrev nD : Nat := 1
abbrev τ : Topo := Topo.v7x

variable {F : FTy → Type} [FloatOps F]
-- ==== Kernel8.lean ====
abbrev S8192x8x64 : Shape := ⟨3, ![8192, 8, 64]⟩
abbrev S8192x8 : Shape := ⟨2, ![8192, 8]⟩
abbrev S8192x8x1 : Shape := ⟨3, ![8192, 8, 1]⟩
abbrev S8192x8x3 : Shape := ⟨3, ![8192, 8, 3]⟩
abbrev S_ : Shape := ⟨0, ![]⟩
abbrev S8192x8x6 : Shape := ⟨3, ![8192, 8, 6]⟩
abbrev S8192x4x2x64 : Shape := ⟨4, ![8192, 4, 2, 64]⟩
abbrev S8192x4x1x64 : Shape := ⟨4, ![8192, 4, 1, 64]⟩
abbrev S8192x4x64 : Shape := ⟨3, ![8192, 4, 64]⟩
abbrev S8192x4x256 : Shape := ⟨3, ![8192, 4, 256]⟩
abbrev S8192x1024 : Shape := ⟨2, ![8192, 1024]⟩
abbrev S8192x512 : Shape := ⟨2, ![8192, 512]⟩
abbrev S1024x256 : Shape := ⟨2, ![1024, 256]⟩
abbrev S8192x256 : Shape := ⟨2, ![8192, 256]⟩
abbrev S1024x128 : Shape := ⟨2, ![1024, 128]⟩
abbrev S1024x1 : Shape := ⟨2, ![1024, 1]⟩
abbrev S1024x1024 : Shape := ⟨2, ![1024, 1024]⟩
abbrev S1024 : Shape := ⟨1, ![1024]⟩
abbrev S1x128 : Shape := ⟨2, ![1, 128]⟩

abbrev nBuf : Space → Nat
  | .hbm => 78
  | .vmem => 14
  | .smem => 0
  | _ => 0

abbrev bufTy : (tb : Table) → Fin (tcTables nBuf tb) → BufTy
  | .hbm, ⟨0, _⟩ => ⟨S8192x8x64, .f32⟩
  | .hbm, ⟨1, _⟩ => ⟨S8192x8x64, .f32⟩
  | .hbm, ⟨2, _⟩ => ⟨S8192x8x64, .f32⟩
  | .hbm, ⟨3, _⟩ => ⟨S8192x8, .f32⟩
  | .hbm, ⟨4, _⟩ => ⟨S8192x8, .bf16⟩
  | .hbm, ⟨5, _⟩ => ⟨S8192x8, .f32⟩
  | .hbm, ⟨6, _⟩ => ⟨S8192x8, .f32⟩
  | .hbm, ⟨7, _⟩ => ⟨S8192x8, .bf16⟩
  | .hbm, ⟨8, _⟩ => ⟨S8192x8, .f32⟩
  | .hbm, ⟨9, _⟩ => ⟨S8192x8, .f32⟩
  | .hbm, ⟨10, _⟩ => ⟨S8192x8, .bf16⟩
  | .hbm, ⟨11, _⟩ => ⟨S8192x8, .f32⟩
  | .hbm, ⟨12, _⟩ => ⟨S8192x8, .f32⟩
  | .hbm, ⟨13, _⟩ => ⟨S8192x8x1, .f32⟩
  | .hbm, ⟨14, _⟩ => ⟨S8192x8x1, .f32⟩
  | .hbm, ⟨15, _⟩ => ⟨S8192x8x1, .f32⟩
  | .hbm, ⟨16, _⟩ => ⟨S8192x8x3, .f32⟩
  | .hbm, ⟨17, _⟩ => ⟨S_, .f32⟩
  | .hbm, ⟨18, _⟩ => ⟨S8192x8x3, .f32⟩
  | .hbm, ⟨19, _⟩ => ⟨S_, .f32⟩
  | .hbm, ⟨20, _⟩ => ⟨S8192x8x64, .f32⟩
  | .hbm, ⟨21, _⟩ => ⟨S8192x8x64, .f32⟩
  | .hbm, ⟨22, _⟩ => ⟨S8192x8x6, .f32⟩
  | .hbm, ⟨23, _⟩ => ⟨S_, .i32⟩
  | .hbm, ⟨24, _⟩ => ⟨S_, .f32⟩
  | .hbm, ⟨25, _⟩ => ⟨S8192x8x64, .f32⟩
  | .hbm, ⟨26, _⟩ => ⟨S8192x4x2x64, .f32⟩
  | .hbm, ⟨27, _⟩ => ⟨S8192x4x2x64, .f32⟩
  | .hbm, ⟨28, _⟩ => ⟨S8192x4x1x64, .f32⟩
  | .hbm, ⟨29, _⟩ => ⟨S8192x4x64, .f32⟩
  | .hbm, ⟨30, _⟩ => ⟨S8192x4x1x64, .f32⟩
  | .hbm, ⟨31, _⟩ => ⟨S8192x4x64, .f32⟩
  | .hbm, ⟨32, _⟩ => ⟨S8192x4x1x64, .f32⟩
  | .hbm, ⟨33, _⟩ => ⟨S8192x4x64, .f32⟩
  | .hbm, ⟨34, _⟩ => ⟨S8192x4x1x64, .f32⟩
  | .hbm, ⟨35, _⟩ => ⟨S8192x4x64, .f32⟩
  | .hbm, ⟨36, _⟩ => ⟨S8192x4x256, .f32⟩
  | .hbm, ⟨37, _⟩ => ⟨S8192x1024, .f32⟩
  | .hbm, ⟨38, _⟩ => ⟨S8192x1024, .bf16⟩
  | .hbm, ⟨39, _⟩ => ⟨S8192x8x3, .f32⟩
  | .hbm, ⟨40, _⟩ => ⟨S8192x8x6, .f32⟩
  | .hbm, ⟨41, _⟩ => ⟨S_, .i32⟩
  | .hbm, ⟨42, _⟩ => ⟨S_, .f32⟩
  | .hbm, ⟨43, _⟩ => ⟨S8192x8x64, .f32⟩
  | .hbm, ⟨44, _⟩ => ⟨S8192x4x2x64, .f32⟩
  | .hbm, ⟨45, _⟩ => ⟨S8192x4x2x64, .f32⟩
  | .hbm, ⟨46, _⟩ => ⟨S8192x4x1x64, .f32⟩
  | .hbm, ⟨47, _⟩ => ⟨S8192x4x64, .f32⟩
  | .hbm, ⟨48, _⟩ => ⟨S8192x4x1x64, .f32⟩
  | .hbm, ⟨49, _⟩ => ⟨S8192x4x64, .f32⟩
  | .hbm, ⟨50, _⟩ => ⟨S8192x4x1x64, .f32⟩
  | .hbm, ⟨51, _⟩ => ⟨S8192x4x64, .f32⟩
  | .hbm, ⟨52, _⟩ => ⟨S8192x4x1x64, .f32⟩
  | .hbm, ⟨53, _⟩ => ⟨S8192x4x64, .f32⟩
  | .hbm, ⟨54, _⟩ => ⟨S8192x4x256, .f32⟩
  | .hbm, ⟨55, _⟩ => ⟨S8192x1024, .f32⟩
  | .hbm, ⟨56, _⟩ => ⟨S8192x1024, .bf16⟩
  | .hbm, ⟨57, _⟩ => ⟨S8192x8x1, .f32⟩
  | .hbm, ⟨58, _⟩ => ⟨S_, .i32⟩
  | .hbm, ⟨59, _⟩ => ⟨S_, .f32⟩
  | .hbm, ⟨60, _⟩ => ⟨S8192x8x64, .f32⟩
  | .hbm, ⟨61, _⟩ => ⟨S8192x4x2x64, .f32⟩
  | .hbm, ⟨62, _⟩ => ⟨S8192x4x2x64, .f32⟩
  | .hbm, ⟨63, _⟩ => ⟨S8192x4x1x64, .f32⟩
  | .hbm, ⟨64, _⟩ => ⟨S8192x4x64, .f32⟩
  | .hbm, ⟨65, _⟩ => ⟨S8192x4x1x64, .f32⟩
  | .hbm, ⟨66, _⟩ => ⟨S8192x4x64, .f32⟩
  | .hbm, ⟨67, _⟩ => ⟨S8192x4x1x64, .f32⟩
  | .hbm, ⟨68, _⟩ => ⟨S8192x4x64, .f32⟩
  | .hbm, ⟨69, _⟩ => ⟨S8192x4x1x64, .f32⟩
  | .hbm, ⟨70, _⟩ => ⟨S8192x4x64, .f32⟩
  | .hbm, ⟨71, _⟩ => ⟨S8192x4x256, .f32⟩
  | .hbm, ⟨72, _⟩ => ⟨S8192x1024, .f32⟩
  | .hbm, ⟨73, _⟩ => ⟨S8192x1024, .bf16⟩
  | .hbm, ⟨74, _⟩ => ⟨S8192x512, .bf16⟩
  | .hbm, ⟨75, _⟩ => ⟨S8192x512, .f32⟩
  | .hbm, ⟨76, _⟩ => ⟨S8192x512, .f32⟩
  | .hbm, ⟨77, _⟩ => ⟨S8192x512, .f32⟩
  | .local _ .vmem, ⟨0, _⟩ => ⟨S1024x256, .bf16⟩
  | .local _ .vmem, ⟨1, _⟩ => ⟨S1024x256, .bf16⟩
  | .local _ .vmem, ⟨2, _⟩ => ⟨S8192x256, .bf16⟩
  | .local _ .vmem, ⟨3, _⟩ => ⟨S8192x256, .bf16⟩
  | .local _ .vmem, ⟨4, _⟩ => ⟨S8192x256, .bf16⟩
  | .local _ .vmem, ⟨5, _⟩ => ⟨S8192x256, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_c_1 : Ref sig .tc := ⟨.hbm, 41, rfl⟩
abbrev main_call1_v0 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_c_2 : Ref sig .tc := ⟨.hbm, 58, rfl⟩
abbrev main_call2_v0 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62_0 : Ref sig .tc := ⟨.hbm, 74, rfl⟩
abbrev main_v62_1 : Ref sig .tc := ⟨.hbm, 75, rfl⟩
abbrev main_v62_2 : Ref sig .tc := ⟨.hbm, 76, rfl⟩
abbrev main_v62_3 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32 : BitVec 32 := 0#32
  let arg1 : BitVec 32 := BitVec.ofNat 32 (i 1).val
  let v6 : BitVec 32 := Scalar.subi arg1 c0_i32
  let c1_i32 : BitVec 32 := 1#32
  let v8 : BitVec 32 := Scalar.divsi v6 c1_i32
  let v9 : BitVec 32 := Scalar.muli v8 c1_i32
  let v10 : BitVec 32 := Scalar.addi c0_i32 v9
  let c1_i32_3 : BitVec 32 := 1#32
  ⟨c0_i32, v10, c1_i32_3⟩
def k0_mult1 (i : grid0.Coords) (k0_t1 : Fin (k0_t1_loop i).trips) : BitVec 32 :=
  let c0_i32 : BitVec 32 := 0#32
  let c1_i32_3 : BitVec 32 := 1#32
  let arg9 : BitVec 32 := Scf.iv c0_i32 c1_i32_3 k0_t1
  let c1024_i32_29 : BitVec 32 := 1024#32
  let v108 : BitVec 32 := Scalar.muli arg9 c1024_i32_29
  v108
def k0_off1 (i : grid0.Coords) (k0_t1 : Fin (k0_t1_loop i).trips) : Fin 2 → Nat :=
  let c0_i32 : BitVec 32 := 0#32
  let c1_i32_3 : BitVec 32 := 1#32
  let arg9 : BitVec 32 := Scf.iv c0_i32 c1_i32_3 k0_t1
  let c1024_i32_29 : BitVec 32 := 1024#32
  let v108 : BitVec 32 := Scalar.muli arg9 c1024_i32_29
  let v109 : BitVec 32 := v108
  let v110 : Index := Scalar.indexCast v109
  let c0_30 : Index := 0#32
  ![v110.toNat, 0]
def k0_off2 (i : grid0.Coords) (k0_t1 : Fin (k0_t1_loop i).trips) : Fin 2 → Nat :=
  let c0_i32 : BitVec 32 := 0#32
  let c1_i32_3 : BitVec 32 := 1#32
  let arg9 : BitVec 32 := Scf.iv c0_i32 c1_i32_3 k0_t1
  let c1024_i32_29 : BitVec 32 := 1024#32
  let v108 : BitVec 32 := Scalar.muli arg9 c1024_i32_29
  let v109 : BitVec 32 := v108
  let v133 : Index := Scalar.indexCast v109
  let c128_36 : Index := 128#32
  ![v133.toNat, 128]
@[reducible] def k0_t2_loop (i : grid0.Coords) : Scf.Loop 32 :=
  let c0_i32 : BitVec 32 := 0#32
  let arg1 : BitVec 32 := BitVec.ofNat 32 (i 1).val
  let v6 : BitVec 32 := Scalar.subi arg1 c0_i32
  let c1_i32 : BitVec 32 := 1#32
  let v8 : BitVec 32 := Scalar.divsi v6 c1_i32
  let v9 : BitVec 32 := Scalar.muli v8 c1_i32
  let v10 : BitVec 32 := Scalar.addi c0_i32 v9
  let v7 : BitVec 32 := Scalar.addi c0_i32 v6
  let c1_i32_4 : BitVec 32 := 1#32
  ⟨v10, v7, c1_i32_4⟩
def k0_mult2 (i : grid0.Coords) (k0_t2 : Fin (k0_t2_loop i).trips) : BitVec 32 :=
  let c0_i32 : BitVec 32 := 0#32
  let arg1 : BitVec 32 := BitVec.ofNat 32 (i 1).val
  let v6 : BitVec 32 := Scalar.subi arg1 c0_i32
  let c1_i32 : BitVec 32 := 1#32
  let v8 : BitVec 32 := Scalar.divsi v6 c1_i32
  let v9 : BitVec 32 := Scalar.muli v8 c1_i32
  let v10 : BitVec 32 := Scalar.addi c0_i32 v9
  let c1_i32_4 : BitVec 32 := 1#32
  let arg9 : BitVec 32 := Scf.iv v10 c1_i32_4 k0_t2
  let c1024_i32_29 : BitVec 32 := 1024#32
  let v108 : BitVec 32 := Scalar.muli arg9 c1024_i32_29
  v108
def k0_off3 (i : grid0.Coords) (k0_t2 : Fin (k0_t2_loop i).trips) : Fin 2 → Nat :=
  let c0_i32 : BitVec 32 := 0#32
  let arg1 : BitVec 32 := BitVec.ofNat 32 (i 1).val
  let v6 : BitVec 32 := Scalar.subi arg1 c0_i32
  let c1_i32 : BitVec 32 := 1#32
  let v8 : BitVec 32 := Scalar.divsi v6 c1_i32
  let v9 : BitVec 32 := Scalar.muli v8 c1_i32
  let v10 : BitVec 32 := Scalar.addi c0_i32 v9
  let c1_i32_4 : BitVec 32 := 1#32
  let arg9 : BitVec 32 := Scf.iv v10 c1_i32_4 k0_t2
  let c1024_i32_29 : BitVec 32 := 1024#32
  let v108 : BitVec 32 := Scalar.muli arg9 c1024_i32_29
  let v109 : BitVec 32 := v108
  let v110 : Index := Scalar.indexCast v109
  let c0_30 : Index := 0#32
  ![v110.toNat, 0]
def k0_off4 (i : grid0.Coords) (k0_t2 : Fin (k0_t2_loop i).trips) : Fin 2 → Nat :=
  let c0_i32 : BitVec 32 := 0#32
  let arg1 : BitVec 32 := BitVec.ofNat 32 (i 1).val
  let v6 : BitVec 32 := Scalar.subi arg1 c0_i32
  let c1_i32 : BitVec 32 := 1#32
  let v8 : BitVec 32 := Scalar.divsi v6 c1_i32
  let v9 : BitVec 32 := Scalar.muli v8 c1_i32
  let v10 : BitVec 32 := Scalar.addi c0_i32 v9
  let c1_i32_4 : BitVec 32 := 1#32
  let arg9 : BitVec 32 := Scf.iv v10 c1_i32_4 k0_t2
  let c1024_i32_29 : BitVec 32 := 1024#32
  let v108 : BitVec 32 := Scalar.muli arg9 c1024_i32_29
  let v109 : BitVec 32 := v108
  let v133 : Index := Scalar.indexCast v109
  let c128_36 : Index := 128#32
  ![v133.toNat, 128]
def k0_mult3 (i : grid0.Coords) : BitVec 32 :=
  let arg1 : BitVec 32 := BitVec.ofNat 32 (i 1).val
  let c1024_i32 : BitVec 32 := 1024#32
  let v13 : BitVec 32 := Scalar.muli arg1 c1024_i32
  v13
def k0_off5 (i : grid0.Coords) : Fin 2 → Nat :=
  let arg1 : BitVec 32 := BitVec.ofNat 32 (i 1).val
  let c1024_i32 : BitVec 32 := 1024#32
  let v13 : BitVec 32 := Scalar.muli arg1 c1024_i32
  let v14 : BitVec 32 := v13
  let v15 : Index := Scalar.indexCast v14
  let c0_5 : Index := 0#32
  ![v15.toNat, 0]
def k0_off6 (i : grid0.Coords) : Fin 2 → Nat :=
  let arg1 : BitVec 32 := BitVec.ofNat 32 (i 1).val
  let c1024_i32 : BitVec 32 := 1024#32
  let v13 : BitVec 32 := Scalar.muli arg1 c1024_i32
  let v14 : BitVec 32 := v13
  let v43 : Index := Scalar.indexCast v14
  let c128_12 : Index := 128#32
  ![v43.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel8Ideal.lean ====
variable {F : FTy → Type} [FloatOps F] [Named F]
def κ : String → Option EReal := fun
  | "log2e" => some (((Real.log 2)⁻¹ : ℝ) : EReal)
  | "mask" => some ⊥
  | _ => none
-- ==== Reference8Ideal.lean ====
abbrev S8192x8x64 : Shape := ⟨3, ![8192, 8, 64]⟩
abbrev S8192x8 : Shape := ⟨2, ![8192, 8]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x64x8192 : Shape := ⟨3, ![8, 64, 8192]⟩
abbrev S8192x512 : Shape := ⟨2, ![8192, 512]⟩

abbrev nBuf : Space → Nat
  | .hbm => 91
  | .vmem => 0
  | .smem => 0
  | _ => 0

abbrev bufTy : (tb : Table) → Fin (tcTables nBuf tb) → BufTy
  | .hbm, ⟨0, _⟩ => ⟨S8192x8x64, .f32⟩
  | .hbm, ⟨1, _⟩ => ⟨S8192x8x64, .f32⟩
  | .hbm, ⟨2, _⟩ => ⟨S8192x8x64, .f32⟩
  | .hbm, ⟨3, _⟩ => ⟨S8192x8, .f32⟩
  | .hbm, ⟨4, _⟩ => ⟨S8x8192x8192, .f32⟩
  | .hbm, ⟨5, _⟩ => ⟨S_, .f32⟩
  | .hbm, ⟨6, _⟩ => ⟨S8x8192x8192, .f32⟩
  | .hbm, ⟨7, _⟩ => ⟨S8x8192x8192, .f32⟩
  | .hbm, ⟨8, _⟩ => ⟨S8x8192, .f32⟩
  | .hbm, ⟨9, _⟩ => ⟨S8x8192x1, .f32⟩
  | .hbm, ⟨10, _⟩ => ⟨S8x8192x8192, .f32⟩
  | .hbm, ⟨11, _⟩ => ⟨S8x8192x8192, .f32⟩
  | .hbm, ⟨12, _⟩ => ⟨S8x8192, .f32⟩
  | .hbm, ⟨13, _⟩ => ⟨S8x1x8192, .f32⟩
  | .hbm, ⟨14, _⟩ => ⟨S8x8192x8192, .f32⟩
  | .hbm, ⟨15, _⟩ => ⟨S8x8192x8192, .f32⟩
  | .hbm, ⟨16, _⟩ => ⟨S8192, .i32⟩
  | .hbm, ⟨17, _⟩ => ⟨S1x8192, .i32⟩
  | .hbm, ⟨18, _⟩ => ⟨S8192x1, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S1x8192x8192, .i1⟩
  | .hbm, ⟨23, _⟩ => ⟨S_, .f32⟩
  | .hbm, ⟨24, _⟩ => ⟨S_, .f32⟩
  | .hbm, ⟨25, _⟩ => ⟨S8x8192x8192, .i1⟩
  | .hbm, ⟨26, _⟩ => ⟨S8x8192x8192, .f32⟩
  | .hbm, ⟨27, _⟩ => ⟨S8x8192x8192, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8x8192, .f32⟩
  | .hbm, ⟨32, _⟩ => ⟨S8x8192, .f32⟩
  | .hbm, ⟨33, _⟩ => ⟨S8x8192, .f32⟩
  | .hbm, ⟨34, _⟩ => ⟨S8x8192, .f32⟩
  | .hbm, ⟨35, _⟩ => ⟨S8x8192, .f32⟩
  | .hbm, ⟨36, _⟩ => ⟨S8x8192, .f32⟩
  | .hbm, ⟨37, _⟩ => ⟨S8x8192x1, .f32⟩
  | .hbm, ⟨38, _⟩ => ⟨S8x8192x8192, .f32⟩
  | .hbm, ⟨39, _⟩ => ⟨S8x8192x8192, .f32⟩
  | .hbm, ⟨40, _⟩ => ⟨S8x8192x8192, .f32⟩
  | .hbm, ⟨41, _⟩ => ⟨S_, .f32⟩
  | .hbm, ⟨42, _⟩ => ⟨S8x8192, .f32⟩
  | .hbm, ⟨43, _⟩ => ⟨S8x8192x8192, .f32⟩
  | .hbm, ⟨44, _⟩ => ⟨S_, .f32⟩
  | .hbm, ⟨45, _⟩ => ⟨S8x8192x8192, .f32⟩
  | .hbm, ⟨46, _⟩ => ⟨S8x8192x8192, .f32⟩
  | .hbm, ⟨47, _⟩ => ⟨S8x8192, .f32⟩
  | .hbm, ⟨48, _⟩ => ⟨S8x8192x1, .f32⟩
  | .hbm, ⟨49, _⟩ => ⟨S8x8192x8192, .f32⟩
  | .hbm, ⟨50, _⟩ => ⟨S8x8192x8192, .f32⟩
  | .hbm, ⟨51, _⟩ => ⟨S8x8192, .f32⟩
  | .hbm, ⟨52, _⟩ => ⟨S8x1x8192, .f32⟩
  | .hbm, ⟨53, _⟩ => ⟨S8x8192x8192, .f32⟩
  | .hbm, ⟨54, _⟩ => ⟨S8x8192x8192, .f32⟩
  | .hbm, ⟨55, _⟩ => ⟨S8192, .i32⟩
  | .hbm, ⟨56, _⟩ => ⟨S1x8192, .i32⟩
  | .hbm, ⟨57, _⟩ => ⟨S8192x1, .i32⟩
  | .hbm, ⟨58, _⟩ => ⟨S8192x8192, .i32⟩
  | .hbm, ⟨59, _⟩ => ⟨S8192x8192, .i32⟩
  | .hbm, ⟨60, _⟩ => ⟨S8192x8192, .i1⟩
  | .hbm, ⟨61, _⟩ => ⟨S1x8192x8192, .i1⟩
  | .hbm, ⟨62, _⟩ => ⟨S_, .f32⟩
  | .hbm, ⟨63, _⟩ => ⟨S_, .f32⟩
  | .hbm, ⟨64, _⟩ => ⟨S8x8192x8192, .i1⟩
  | .hbm, ⟨65, _⟩ => ⟨S8x8192x8192, .f32⟩
  | .hbm, ⟨66, _⟩ => ⟨S8x8192x8192, .f32⟩
  | .hbm, ⟨67, _⟩ => ⟨S_, .f32⟩
  | .hbm, ⟨68, _⟩ => ⟨S8x8192, .f32⟩
  | .hbm, ⟨69, _⟩ => ⟨S_, .f32⟩
  | .hbm, ⟨70, _⟩ => ⟨S8x8192, .f32⟩
  | .hbm, ⟨71, _⟩ => ⟨S8x8192, .f32⟩
  | .hbm, ⟨72, _⟩ => ⟨S8x8192x1, .f32⟩
  | .hbm, ⟨73, _⟩ => ⟨S8x8192x8192, .f32⟩
  | .hbm, ⟨74, _⟩ => ⟨S8x8192x8192, .f32⟩
  | .hbm, ⟨75, _⟩ => ⟨S8x8192x8192, .f32⟩
  | .hbm, ⟨76, _⟩ => ⟨S_, .f32⟩
  | .hbm, ⟨77, _⟩ => ⟨S8x8192, .f32⟩
  | .hbm, ⟨78, _⟩ => ⟨S8x8192x1, .f32⟩
  | .hbm, ⟨79, _⟩ => ⟨S8x8192x8192, .f32⟩
  | .hbm, ⟨80, _⟩ => ⟨S8x8192x8192, .f32⟩
  | .hbm, ⟨81, _⟩ => ⟨S8x64x8192, .f32⟩
  | .hbm, ⟨82, _⟩ => ⟨S8192x8x64, .f32⟩
  | .hbm, ⟨83, _⟩ => ⟨S8192x512, .f32⟩
  | .hbm, ⟨84, _⟩ => ⟨S8192x512, .bf16⟩
  | .hbm, ⟨85, _⟩ => ⟨S8192x8, .f32⟩
  | .hbm, ⟨86, _⟩ => ⟨S8192x8x64, .f32⟩
  | .hbm, ⟨87, _⟩ => ⟨S8192x512, .f32⟩
  | .hbm, ⟨88, _⟩ => ⟨S8192x8, .f32⟩
  | .hbm, ⟨89, _⟩ => ⟨S8192x8x64, .f32⟩
  | .hbm, ⟨90, _⟩ => ⟨S8192x512, .f32⟩
  | _, _ => ⟨S8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_5 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v49 : Ref sig .tc := ⟨.hbm, 66, rfl⟩
abbrev main_cst_6 : Ref sig .tc := ⟨.hbm, 67, rfl⟩
abbrev main_v50 : Ref sig .tc := ⟨.hbm, 68, rfl⟩
abbrev main_cst_7 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_8 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩

abbrev nD : Nat := 1
abbrev τ : Topo := Topo.v7x

variable {F : FTy → Type} [FloatOps F]
-- ==== Kernel7.lean ====
abbrev S8192x1024 : Shape := ⟨2, ![8192, 1024]⟩
abbrev S8192x2816 : Shape := ⟨2, ![8192, 2816]⟩
abbrev S2816x1024 : Shape := ⟨2, ![2816, 1024]⟩
abbrev S1024 : Shape := ⟨1, ![1024]⟩
abbrev S8192x4x704 : Shape := ⟨3, ![8192, 4, 704]⟩
abbrev S4x8192x704 : Shape := ⟨3, ![4, 8192, 704]⟩
abbrev S4x704x1024 : Shape := ⟨3, ![4, 704, 1024]⟩
abbrev S1x1024 : Shape := ⟨2, ![1, 1024]⟩
abbrev S8x128 : Shape := ⟨2, ![8, 128]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 16
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S8192x1024, .f32⟩
  | .hbm, ⟨6, _⟩ => ⟨S8192x4x704, .f32⟩
  | .hbm, ⟨7, _⟩ => ⟨S4x8192x704, .f32⟩
  | .hbm, ⟨8, _⟩ => ⟨S4x8192x704, .bf16⟩
  | .hbm, ⟨9, _⟩ => ⟨S4x704x1024, .f32⟩
  | .hbm, ⟨10, _⟩ => ⟨S4x704x1024, .bf16⟩
  | .hbm, ⟨11, _⟩ => ⟨S1x1024, .f32⟩
  | .hbm, ⟨12, _⟩ => ⟨S1x1024, .f32⟩
  | .hbm, ⟨13, _⟩ => ⟨S8192x1024, .f32⟩
  | .hbm, ⟨14, _⟩ => ⟨S8192x1024, .f32⟩
  | .hbm, ⟨15, _⟩ => ⟨S8x128, .f32⟩
  | .local _ .vmem, ⟨0, _⟩ => ⟨S4x512x704, .bf16⟩
  | .local _ .vmem, ⟨1, _⟩ => ⟨S4x512x704, .bf16⟩
  | .local _ .vmem, ⟨2, _⟩ => ⟨S4x704x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference7Ideal.lean ====
abbrev S8192x1024 : Shape := ⟨2, ![8192, 1024]⟩
abbrev S8192x2816 : Shape := ⟨2, ![8192, 2816]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x128 : Shape := ⟨2, ![8, 128]⟩

abbrev nBuf : Space → Nat
  | .hbm => 64
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S8192, .f32⟩
  | .hbm, ⟨58, _⟩ => ⟨S_, .f32⟩
  | .hbm, ⟨59, _⟩ => ⟨S8192, .f32⟩
  | .hbm, ⟨60, _⟩ => ⟨S8192, .f32⟩
  | .hbm, ⟨61, _⟩ => ⟨S8192x1024, .f32⟩
  | .hbm, ⟨62, _⟩ => ⟨S8192x1024, .f32⟩
  | .hbm, ⟨63, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_cst_10 : Ref sig .tc := ⟨.hbm, 54, rfl⟩
abbrev main_cst_11 : Ref sig .tc := ⟨.hbm, 55, rfl⟩
abbrev main_v37 : Ref sig .tc := ⟨.hbm, 56, rfl⟩
abbrev main_v38 : Ref sig .tc := ⟨.hbm, 57, rfl⟩
abbrev main_cst_12 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]
-- ==== Kernel9.lean ====
abbrev S8192x8x64 : Shape := ⟨3, ![8192, 8, 64]⟩
abbrev S8192x8 : Shape := ⟨2, ![8192, 8]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x64x8192 : Shape := ⟨3, ![8, 64, 8192]⟩
abbrev S8192x512 : Shape := ⟨2, ![8192, 512]⟩
abbrev S8192x1024 : Shape := ⟨2, ![8192, 1024]⟩
abbrev S4x8x8192 : Shape := ⟨3, ![4, 8, 8192]⟩
abbrev S512x512 : Shape := ⟨2, ![512, 512]⟩
abbrev S512x1024 : Shape := ⟨2, ![512, 1024]⟩
abbrev S4x8x512 : Shape := ⟨3, ![4, 8, 512]⟩
abbrev S1x128 : Shape := ⟨2, ![1, 128]⟩
abbrev S512x128 : Shape := ⟨2, ![512, 128]⟩
abbrev S512x1 : Shape := ⟨2, ![512, 1]⟩
abbrev S512 : Shape := ⟨1, ![512]⟩
abbrev S128x512 : Shape := ⟨2, ![128, 512]⟩
abbrev S8x512 : Shape := ⟨2, ![8, 512]⟩
abbrev S1x8x512 : Shape := ⟨3, ![1, 8, 512]⟩

abbrev nBuf : Space → Nat
  | .hbm => 95
  | .vmem => 12
  | .smem => 0
  | _ => 0

abbrev bufTy : (tb : Table) → Fin (tcTables nBuf tb) → BufTy
  | .hbm, ⟨0, _⟩ => ⟨S8192x8x64, .f32⟩
  | .hbm, ⟨1, _⟩ => ⟨S8192x8x64, .f32⟩
  | .hbm, ⟨2, _⟩ => ⟨S8192x8x64, .f32⟩
  | .hbm, ⟨3, _⟩ => ⟨S8192x8, .f32⟩
  | .hbm, ⟨4, _⟩ => ⟨S8192x8x64, .f32⟩
  | .hbm, ⟨5, _⟩ => ⟨S8x8192x8192, .f32⟩
  | .hbm, ⟨6, _⟩ => ⟨S_, .f32⟩
  | .hbm, ⟨7, _⟩ => ⟨S8x8192x8192, .f32⟩
  | .hbm, ⟨8, _⟩ => ⟨S8x8192x8192, .f32⟩
  | .hbm, ⟨9, _⟩ => ⟨S8x8192, .f32⟩
  | .hbm, ⟨10, _⟩ => ⟨S8x8192x1, .f32⟩
  | .hbm, ⟨11, _⟩ => ⟨S8x8192x8192, .f32⟩
  | .hbm, ⟨12, _⟩ => ⟨S8x8192x8192, .f32⟩
  | .hbm, ⟨13, _⟩ => ⟨S8x8192, .f32⟩
  | .hbm, ⟨14, _⟩ => ⟨S8x1x8192, .f32⟩
  | .hbm, ⟨15, _⟩ => ⟨S8x8192x8192, .f32⟩
  | .hbm, ⟨16, _⟩ => ⟨S8x8192x8192, .f32⟩
  | .hbm, ⟨17, _⟩ => ⟨S8192, .i32⟩
  | .hbm, ⟨18, _⟩ => ⟨S1x8192, .i32⟩
  | .hbm, ⟨19, _⟩ => ⟨S8192x1, .i32⟩
  | .hbm, ⟨20, _⟩ => ⟨S8192x8192, .i32⟩
  | .hbm, ⟨21, _⟩ => ⟨S8192x8192, .i32⟩
  | .hbm, ⟨22, _⟩ => ⟨S8192x8192, .i1⟩
  | .hbm, ⟨23, _⟩ => ⟨S1x8192x8192, .i1⟩
  | .hbm, ⟨24, _⟩ => ⟨S_, .f32⟩
  | .hbm, ⟨25, _⟩ => ⟨S_, .f32⟩
  | .hbm, ⟨26, _⟩ => ⟨S8x8192x8192, .i1⟩
  | .hbm, ⟨27, _⟩ => ⟨S8x8192x8192, .f32⟩
  | .hbm, ⟨28, _⟩ => ⟨S8x8192x8192, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S8x8192, .f32⟩
  | .hbm, ⟨33, _⟩ => ⟨S8x8192, .f32⟩
  | .hbm, ⟨34, _⟩ => ⟨S8x8192, .f32⟩
  | .hbm, ⟨35, _⟩ => ⟨S8x8192, .f32⟩
  | .hbm, ⟨36, _⟩ => ⟨S8x8192, .f32⟩
  | .hbm, ⟨37, _⟩ => ⟨S8x8192, .f32⟩
  | .hbm, ⟨38, _⟩ => ⟨S8x8192x1, .f32⟩
  | .hbm, ⟨39, _⟩ => ⟨S8x8192x8192, .f32⟩
  | .hbm, ⟨40, _⟩ => ⟨S8x8192x8192, .f32⟩
  | .hbm, ⟨41, _⟩ => ⟨S8x8192x8192, .f32⟩
  | .hbm, ⟨42, _⟩ => ⟨S_, .f32⟩
  | .hbm, ⟨43, _⟩ => ⟨S8x8192, .f32⟩
  | .hbm, ⟨44, _⟩ => ⟨S8x8192x8192, .f32⟩
  | .hbm, ⟨45, _⟩ => ⟨S_, .f32⟩
  | .hbm, ⟨46, _⟩ => ⟨S8x8192x8192, .f32⟩
  | .hbm, ⟨47, _⟩ => ⟨S8x8192x8192, .f32⟩
  | .hbm, ⟨48, _⟩ => ⟨S8x8192, .f32⟩
  | .hbm, ⟨49, _⟩ => ⟨S8x8192x1, .f32⟩
  | .hbm, ⟨50, _⟩ => ⟨S8x8192x8192, .f32⟩
  | .hbm, ⟨51, _⟩ => ⟨S8x8192x8192, .f32⟩
  | .hbm, ⟨52, _⟩ => ⟨S8x8192, .f32⟩
  | .hbm, ⟨53, _⟩ => ⟨S8x1x8192, .f32⟩
  | .hbm, ⟨54, _⟩ => ⟨S8x8192x8192, .f32⟩
  | .hbm, ⟨55, _⟩ => ⟨S8x8192x8192, .f32⟩
  | .hbm, ⟨56, _⟩ => ⟨S8192, .i32⟩
  | .hbm, ⟨57, _⟩ => ⟨S1x8192, .i32⟩
  | .hbm, ⟨58, _⟩ => ⟨S8192x1, .i32⟩
  | .hbm, ⟨59, _⟩ => ⟨S8192x8192, .i32⟩
  | .hbm, ⟨60, _⟩ => ⟨S8192x8192, .i32⟩
  | .hbm, ⟨61, _⟩ => ⟨S8192x8192, .i1⟩
  | .hbm, ⟨62, _⟩ => ⟨S1x8192x8192, .i1⟩
  | .hbm, ⟨63, _⟩ => ⟨S_, .f32⟩
  | .hbm, ⟨64, _⟩ => ⟨S_, .f32⟩
  | .hbm, ⟨65, _⟩ => ⟨S8x8192x8192, .i1⟩
  | .hbm, ⟨66, _⟩ => ⟨S8x8192x8192, .f32⟩
  | .hbm, ⟨67, _⟩ => ⟨S8x8192x8192, .f32⟩
  | .hbm, ⟨68, _⟩ => ⟨S_, .f32⟩
  | .hbm, ⟨69, _⟩ => ⟨S8x8192, .f32⟩
  | .hbm, ⟨70, _⟩ => ⟨S_, .f32⟩
  | .hbm, ⟨71, _⟩ => ⟨S8x8192, .f32⟩
  | .hbm, ⟨72, _⟩ => ⟨S8x8192, .f32⟩
  | .hbm, ⟨73, _⟩ => ⟨S8x8192x1, .f32⟩
  | .hbm, ⟨74, _⟩ => ⟨S8x8192x8192, .f32⟩
  | .hbm, ⟨75, _⟩ => ⟨S8x8192x8192, .f32⟩
  | .hbm, ⟨76, _⟩ => ⟨S8x8192x8192, .f32⟩
  | .hbm, ⟨77, _⟩ => ⟨S_, .f32⟩
  | .hbm, ⟨78, _⟩ => ⟨S8x8192, .f32⟩
  | .hbm, ⟨79, _⟩ => ⟨S8x8192x1, .f32⟩
  | .hbm, ⟨80, _⟩ => ⟨S8x8192x8192, .f32⟩
  | .hbm, ⟨81, _⟩ => ⟨S8x8192x8192, .f32⟩
  | .hbm, ⟨82, _⟩ => ⟨S8x64x8192, .f32⟩
  | .hbm, ⟨83, _⟩ => ⟨S8192x8x64, .f32⟩
  | .hbm, ⟨84, _⟩ => ⟨S8192x512, .f32⟩
  | .hbm, ⟨85, _⟩ => ⟨S8192x512, .f32⟩
  | .hbm, ⟨86, _⟩ => ⟨S8192x512, .bf16⟩
  | .hbm, ⟨87, _⟩ => ⟨S8192x8, .f32⟩
  | .hbm, ⟨88, _⟩ => ⟨S8192x8x64, .f32⟩
  | .hbm, ⟨89, _⟩ => ⟨S8192x512, .f32⟩
  | .hbm, ⟨90, _⟩ => ⟨S8192x8, .f32⟩
  | .hbm, ⟨91, _⟩ => ⟨S8192x8x64, .f32⟩
  | .hbm, ⟨92, _⟩ => ⟨S8192x512, .f32⟩
  | .hbm, ⟨93, _⟩ => ⟨S8192x1024, .bf16⟩
  | .hbm, ⟨94, _⟩ => ⟨S4x8x8192, .f32⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x1024, .bf16⟩
  | .local _ .vmem, ⟨9, _⟩ => ⟨S512x1024, .bf16⟩
  | .local _ .vmem, ⟨10, _⟩ => ⟨S4x8x512, .f32⟩
  | .local _ .vmem, ⟨11, _⟩ => ⟨S4x8x512, .f32⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_5 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_v49 : Ref sig .tc := ⟨.hbm, 67, rfl⟩
abbrev main_cst_6 : Ref sig .tc := ⟨.hbm, 68, rfl⟩
abbrev main_v50 : Ref sig .tc := ⟨.hbm, 69, rfl⟩
abbrev main_cst_7 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_8 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72_0 : Ref sig .tc := ⟨.hbm, 93, rfl⟩
abbrev main_v72_1 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S8192x8x64 : Shape := ⟨3, ![8192, 8, 64]⟩
abbrev S8192x8 : Shape := ⟨2, ![8192, 8]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x64x8192 : Shape := ⟨3, ![8, 64, 8192]⟩
abbrev S8x3x8192 : Shape := ⟨3, ![8, 3, 8192]⟩
abbrev S4x2x3x8192 : Shape := ⟨4, ![4, 2, 3, 8192]⟩
abbrev S4x3x2x8192 : Shape := ⟨4, ![4, 3, 2, 8192]⟩
abbrev S4x6x8192 : Shape := ⟨3, ![4, 6, 8192]⟩
abbrev S8192x4x2x64 : Shape := ⟨4, ![8192, 4, 2, 64]⟩
abbrev S8192x4x64 : Shape := ⟨3, ![8192, 4, 64]⟩
abbrev S8192x4x1x64 : Shape := ⟨4, ![8192, 4, 1, 64]⟩
abbrev S8192x4x256 : Shape := ⟨3, ![8192, 4, 256]⟩
abbrev S8192x1024 : Shape := ⟨2, ![8192, 1024]⟩
abbrev S4x2x8192 : Shape := ⟨3, ![4, 2, 8192]⟩
abbrev S4x8x8192 : Shape := ⟨3, ![4, 8, 8192]⟩

abbrev nBuf : Space → Nat
  | .hbm => 111
  | .vmem => 0
  | .smem => 0
  | _ => 0

abbrev bufTy : (tb : Table) → Fin (tcTables nBuf tb) → BufTy
  | .hbm, ⟨0, _⟩ => ⟨S8192x8x64, .f32⟩
  | .hbm, ⟨1, _⟩ => ⟨S8192x8x64, .f32⟩
  | .hbm, ⟨2, _⟩ => ⟨S8192x8x64, .f32⟩
  | .hbm, ⟨3, _⟩ => ⟨S8192x8, .f32⟩
  | .hbm, ⟨4, _⟩ => ⟨S8192x8x64, .f32⟩
  | .hbm, ⟨5, _⟩ => ⟨S8x8192x8192, .f32⟩
  | .hbm, ⟨6, _⟩ => ⟨S_, .f32⟩
  | .hbm, ⟨7, _⟩ => ⟨S8x8192x8192, .f32⟩
  | .hbm, ⟨8, _⟩ => ⟨S8x8192x8192, .f32⟩
  | .hbm, ⟨9, _⟩ => ⟨S8x8192, .f32⟩
  | .hbm, ⟨10, _⟩ => ⟨S8x8192x1, .f32⟩
  | .hbm, ⟨11, _⟩ => ⟨S8x8192x8192, .f32⟩
  | .hbm, ⟨12, _⟩ => ⟨S8x8192x8192, .f32⟩
  | .hbm, ⟨13, _⟩ => ⟨S8x8192, .f32⟩
  | .hbm, ⟨14, _⟩ => ⟨S8x1x8192, .f32⟩
  | .hbm, ⟨15, _⟩ => ⟨S8x8192x8192, .f32⟩
  | .hbm, ⟨16, _⟩ => ⟨S8x8192x8192, .f32⟩
  | .hbm, ⟨17, _⟩ => ⟨S8192, .i32⟩
  | .hbm, ⟨18, _⟩ => ⟨S1x8192, .i32⟩
  | .hbm, ⟨19, _⟩ => ⟨S8192x1, .i32⟩
  | .hbm, ⟨20, _⟩ => ⟨S8192x8192, .i32⟩
  | .hbm, ⟨21, _⟩ => ⟨S8192x8192, .i32⟩
  | .hbm, ⟨22, _⟩ => ⟨S8192x8192, .i1⟩
  | .hbm, ⟨23, _⟩ => ⟨S1x8192x8192, .i1⟩
  | .hbm, ⟨24, _⟩ => ⟨S_, .f32⟩
  | .hbm, ⟨25, _⟩ => ⟨S_, .f32⟩
  | .hbm, ⟨26, _⟩ => ⟨S8x8192x8192, .i1⟩
  | .hbm, ⟨27, _⟩ => ⟨S8x8192x8192, .f32⟩
  | .hbm, ⟨28, _⟩ => ⟨S8x8192x8192, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S8x8192, .f32⟩
  | .hbm, ⟨33, _⟩ => ⟨S8x8192, .f32⟩
  | .hbm, ⟨34, _⟩ => ⟨S8x8192, .f32⟩
  | .hbm, ⟨35, _⟩ => ⟨S8x8192, .f32⟩
  | .hbm, ⟨36, _⟩ => ⟨S8x8192, .f32⟩
  | .hbm, ⟨37, _⟩ => ⟨S8x8192, .f32⟩
  | .hbm, ⟨38, _⟩ => ⟨S8x8192x1, .f32⟩
  | .hbm, ⟨39, _⟩ => ⟨S8x8192x8192, .f32⟩
  | .hbm, ⟨40, _⟩ => ⟨S8x8192x8192, .f32⟩
  | .hbm, ⟨41, _⟩ => ⟨S8x8192x8192, .f32⟩
  | .hbm, ⟨42, _⟩ => ⟨S_, .f32⟩
  | .hbm, ⟨43, _⟩ => ⟨S8x8192, .f32⟩
  | .hbm, ⟨44, _⟩ => ⟨S8x8192x8192, .f32⟩
  | .hbm, ⟨45, _⟩ => ⟨S_, .f32⟩
  | .hbm, ⟨46, _⟩ => ⟨S8x8192x8192, .f32⟩
  | .hbm, ⟨47, _⟩ => ⟨S8x8192x8192, .f32⟩
  | .hbm, ⟨48, _⟩ => ⟨S8x8192, .f32⟩
  | .hbm, ⟨49, _⟩ => ⟨S8x8192x1, .f32⟩
  | .hbm, ⟨50, _⟩ => ⟨S8x8192x8192, .f32⟩
  | .hbm, ⟨51, _⟩ => ⟨S8x8192x8192, .f32⟩
  | .hbm, ⟨52, _⟩ => ⟨S8x8192, .f32⟩
  | .hbm, ⟨53, _⟩ => ⟨S8x1x8192, .f32⟩
  | .hbm, ⟨54, _⟩ => ⟨S8x8192x8192, .f32⟩
  | .hbm, ⟨55, _⟩ => ⟨S8x8192x8192, .f32⟩
  | .hbm, ⟨56, _⟩ => ⟨S8192, .i32⟩
  | .hbm, ⟨57, _⟩ => ⟨S1x8192, .i32⟩
  | .hbm, ⟨58, _⟩ => ⟨S8192x1, .i32⟩
  | .hbm, ⟨59, _⟩ => ⟨S8192x8192, .i32⟩
  | .hbm, ⟨60, _⟩ => ⟨S8192x8192, .i32⟩
  | .hbm, ⟨61, _⟩ => ⟨S8192x8192, .i1⟩
  | .hbm, ⟨62, _⟩ => ⟨S1x8192x8192, .i1⟩
  | .hbm, ⟨63, _⟩ => ⟨S_, .f32⟩
  | .hbm, ⟨64, _⟩ => ⟨S_, .f32⟩
  | .hbm, ⟨65, _⟩ => ⟨S8x8192x8192, .i1⟩
  | .hbm, ⟨66, _⟩ => ⟨S8x8192x8192, .f32⟩
  | .hbm, ⟨67, _⟩ => ⟨S8x8192x8192, .f32⟩
  | .hbm, ⟨68, _⟩ => ⟨S_, .f32⟩
  | .hbm, ⟨69, _⟩ => ⟨S8x8192, .f32⟩
  | .hbm, ⟨70, _⟩ => ⟨S_, .f32⟩
  | .hbm, ⟨71, _⟩ => ⟨S8x8192, .f32⟩
  | .hbm, ⟨72, _⟩ => ⟨S8x8192, .f32⟩
  | .hbm, ⟨73, _⟩ => ⟨S8x8192x1, .f32⟩
  | .hbm, ⟨74, _⟩ => ⟨S8x8192x8192, .f32⟩
  | .hbm, ⟨75, _⟩ => ⟨S8x8192x8192, .f32⟩
  | .hbm, ⟨76, _⟩ => ⟨S8x8192x8192, .f32⟩
  | .hbm, ⟨77, _⟩ => ⟨S_, .f32⟩
  | .hbm, ⟨78, _⟩ => ⟨S8x8192, .f32⟩
  | .hbm, ⟨79, _⟩ => ⟨S8x8192x1, .f32⟩
  | .hbm, ⟨80, _⟩ => ⟨S8x8192x8192, .f32⟩
  | .hbm, ⟨81, _⟩ => ⟨S8x8192x8192, .f32⟩
  | .hbm, ⟨82, _⟩ => ⟨S8x64x8192, .f32⟩
  | .hbm, ⟨83, _⟩ => ⟨S8192x8x64, .f32⟩
  | .hbm, ⟨84, _⟩ => ⟨S8192x8x64, .f32⟩
  | .hbm, ⟨85, _⟩ => ⟨S_, .f32⟩
  | .hbm, ⟨86, _⟩ => ⟨S8192x8, .f32⟩
  | .hbm, ⟨87, _⟩ => ⟨S8x8192, .f32⟩
  | .hbm, ⟨88, _⟩ => ⟨S_, .f32⟩
  | .hbm, ⟨89, _⟩ => ⟨S8x8192, .f32⟩
  | .hbm, ⟨90, _⟩ => ⟨S8x8192, .f32⟩
  | .hbm, ⟨91, _⟩ => ⟨S8x1x8192, .f32⟩
  | .hbm, ⟨92, _⟩ => ⟨S8x1x8192, .f32⟩
  | .hbm, ⟨93, _⟩ => ⟨S8x1x8192, .f32⟩
  | .hbm, ⟨94, _⟩ => ⟨S8x3x8192, .f32⟩
  | .hbm, ⟨95, _⟩ => ⟨S4x2x3x8192, .f32⟩
  | .hbm, ⟨96, _⟩ => ⟨S4x3x2x8192, .f32⟩
  | .hbm, ⟨97, _⟩ => ⟨S4x6x8192, .f32⟩
  | .hbm, ⟨98, _⟩ => ⟨S8192x4x2x64, .f32⟩
  | .hbm, ⟨99, _⟩ => ⟨S_, .f32⟩
  | .hbm, ⟨100, _⟩ => ⟨S8192x4x64, .f32⟩
  | .hbm, ⟨101, _⟩ => ⟨S8192x4x1x64, .f32⟩
  | .hbm, ⟨102, _⟩ => ⟨S8192x4x64, .f32⟩
  | .hbm, ⟨103, _⟩ => ⟨S8192x4x1x64, .f32⟩
  | .hbm, ⟨104, _⟩ => ⟨S8192x4x64, .f32⟩
  | .hbm, ⟨105, _⟩ => ⟨S8192x4x256, .f32⟩
  | .hbm, ⟨106, _⟩ => ⟨S8192x1024, .f32⟩
  | .hbm, ⟨107, _⟩ => ⟨S8192x1024, .bf16⟩
  | .hbm, ⟨108, _⟩ => ⟨S_, .f32⟩
  | .hbm, ⟨109, _⟩ => ⟨S4x2x8192, .f32⟩
  | .hbm, ⟨110, _⟩ => ⟨S4x8x8192, .f32⟩
  | _, _ => ⟨S8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_5 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_v49 : Ref sig .tc := ⟨.hbm, 67, rfl⟩
abbrev main_cst_6 : Ref sig .tc := ⟨.hbm, 68, rfl⟩
abbrev main_v50 : Ref sig .tc := ⟨.hbm, 69, rfl⟩
abbrev main_cst_7 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_8 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_9 : Ref sig .tc := ⟨.hbm, 85, rfl⟩
abbrev main_v64 : Ref sig .tc := ⟨.hbm, 86, rfl⟩
abbrev main_v65 : Ref sig .tc := ⟨.hbm, 87, rfl⟩
abbrev main_cst_10 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_11 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_12 : Ref sig .tc := ⟨.hbm, 108, rfl⟩
abbrev main_v84 : Ref sig .tc := ⟨.hbm, 109, rfl⟩
abbrev main_v85 : Ref sig .tc := ⟨.hbm, 110, rfl⟩

abbrev nD : Nat := 1
abbrev τ : Topo := Topo.v7x

variable {F : FTy → Type} [FloatOps F]
-- ==== Kernel10.lean ====
abbrev S8192x1024 : Shape := ⟨2, ![8192, 1024]⟩
abbrev S8192x512 : Shape := ⟨2, ![8192, 512]⟩
abbrev S512x1024 : Shape := ⟨2, ![512, 1024]⟩
abbrev S1024x1024 : Shape := ⟨2, ![1024, 1024]⟩
abbrev S1024 : Shape := ⟨1, ![1024]⟩
abbrev S8192x2048 : Shape := ⟨2, ![8192, 2048]⟩
abbrev S_ : Shape := ⟨0, ![]⟩
abbrev S8192x2304 : Shape := ⟨2, ![8192, 2304]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 25
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x1024, .f32⟩
  | .hbm, ⟨4, _⟩ => ⟨S8192x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S8192x2048, .f32⟩
  | .hbm, ⟨11, _⟩ => ⟨S_, .i32⟩
  | .hbm, ⟨12, _⟩ => ⟨S_, .f32⟩
  | .hbm, ⟨13, _⟩ => ⟨S8192x2304, .f32⟩
  | .hbm, ⟨14, _⟩ => ⟨S8192x512, .bf16⟩
  | .hbm, ⟨15, _⟩ => ⟨S8192x512, .bf16⟩
  | .hbm, ⟨16, _⟩ => ⟨S512x1024, .bf16⟩
  | .hbm, ⟨17, _⟩ => ⟨S512x1024, .bf16⟩
  | .hbm, ⟨18, _⟩ => ⟨S1024x1024, .bf16⟩
  | .hbm, ⟨19, _⟩ => ⟨S1x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | .hbm, ⟨24, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev main_v9_2 : Ref sig .tc := ⟨.hbm, 23, rfl⟩
abbrev main_v9_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference10Ideal.lean ====
abbrev S8192x1024 : Shape := ⟨2, ![8192, 1024]⟩
abbrev S8192x512 : Shape := ⟨2, ![8192, 512]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 67
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x1024, .f32⟩
  | .hbm, ⟨4, _⟩ => ⟨S8192x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S8192x1, .f32⟩
  | .hbm, ⟨57, _⟩ => ⟨S8192x1024, .f32⟩
  | .hbm, ⟨58, _⟩ => ⟨S8192x1024, .f32⟩
  | .hbm, ⟨59, _⟩ => ⟨S1x1024, .f32⟩
  | .hbm, ⟨60, _⟩ => ⟨S8192x1024, .f32⟩
  | .hbm, ⟨61, _⟩ => ⟨S8192x1024, .f32⟩
  | .hbm, ⟨62, _⟩ => ⟨S1x1024, .f32⟩
  | .hbm, ⟨63, _⟩ => ⟨S8192x1024, .f32⟩
  | .hbm, ⟨64, _⟩ => ⟨S8192x1024, .f32⟩
  | .hbm, ⟨65, _⟩ => ⟨S8192x1024, .bf16⟩
  | .hbm, ⟨66, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]
-- ==== Proof.Forget.Pay.lean ====
/- The forget gate's gradient: what one grid point computes, read at an index. -/
module

public import proofs.«01_k».proof.Proof.Gen.KernelIdeal.Value
public import Idealize.ShloMosaic.Lib.Pointwise
public import Idealize.ShloMosaic.Lib.Pipeline.ValueKit

@[expose] public section

set_option maxRecDepth 16384

noncomputable section

namespace Cert.KernelIdeal.Forget

open Cert.KernelIdeal Cert.KernelIdeal.Gen Idealize.ShloMosaic Idealize.ShloMosaic.TcCoe Idealize.SL.Sem
open Idealize.ShloMosaic.Pipeline (Dat)

/-- The lane numbers of a row. -/
abbrev lanes : IVec S1x128 32 := iota .tc S1x128 32 [1] iota_S1x128_d1_w32

theorem word_eq (l a : ℕ) (hl : l < 128) (ha : a < 128) : IntOp.cmpi .eq (BitVec.ofNat 32 l) (BitVec.ofNat 32 a) = BitVec.ofBool (decide (l = a)) := by
  have h1 : (BitVec.ofNat 32 l = BitVec.ofNat 32 a) ↔ l = a := by
    rw [← BitVec.toNat_inj, BitVec.toNat_ofNat, BitVec.toNat_ofNat]; omega
  show BitVec.ofBool (BitVec.ofNat 32 l == BitVec.ofNat 32 a) = _
  exact congrArg BitVec.ofBool (by rw [Bool.eq_iff_iff]; simpa using h1)

/-- A lane's test against two lane numbers. -/
theorem sel_pair {α : Type} (l a b : ℕ) (hl : l < 128) (ha : a < 128) (hb : b < 128) (x y : α) :
    Scalar.select (IntOp.ori (IntOp.cmpi .eq (BitVec.ofNat 32 l) (BitVec.ofNat 32 a)) (IntOp.cmpi .eq (BitVec.ofNat 32 l) (BitVec.ofNat 32 b))) x y
      = if l = a ∨ l = b then x else y := by
  rw [word_eq l a hl ha, word_eq l b hl hb]
  have hb : ∀ p q : Bool, Scalar.select (IntOp.ori (BitVec.ofBool p) (BitVec.ofBool q)) x y = if p = true ∨ q = true then x else y := by
    intro p q; cases p <;> cases q <;> rfl
  rw [hb]; simp only [decide_eq_true_eq]

/-- The upper triangle's test on two row numbers. -/
theorem sel_sge {α : Type} (k r : ℕ) (hk : k < 512) (hr : r < 512) (x y : α) :
    Scalar.select (IntOp.cmpi .sge (BitVec.ofNat 32 k) (BitVec.ofNat 32 r)) x y = if r ≤ k then x else y := by
  have h1 : (BitVec.ofNat 32 r).sle (BitVec.ofNat 32 k) = decide (r ≤ k) := by
    rw [Bool.eq_iff_iff, BitVec.sle_iff_toInt_le, BitVec.toInt_eq_toNat_of_lt, BitVec.toInt_eq_toNat_of_lt, BitVec.toNat_ofNat, BitVec.toNat_ofNat]
    · simp only [decide_eq_true_eq]; omega
    all_goals first | omega | (rw [BitVec.toNat_ofNat]; omega)
  show Scalar.select (BitVec.ofBool ((BitVec.ofNat 32 r).sle (BitVec.ofNat 32 k))) x y = _
  rw [h1]
  by_cases h : r ≤ k <;> simp [Scalar.select, h]

/-- The eight heads' columns, each pair at the first two lanes of its tile, brought side by side. -/
def gath (X : FVec Ideal S512x512 .f32) (k : Fin 512) (l : Fin 128) : EReal :=
  if h : (l : ℕ) < 8 then X (ix2 k ⟨(l : ℕ) / 2 * 128 + (l : ℕ) % 2, by omega⟩) else 0

theorem pay1_at (X : FVec Ideal S512x512 .f32) (a b d e : FVec Ideal S512x128 .f32) (w : FVec Ideal S1x128 .f32)
    (ha : ∀ (k : Fin 512) (l : Fin 128), a (ix2 k l) = X (ix2 k ⟨0 + (l : ℕ), by omega⟩))
    (hb : ∀ (k : Fin 512) (l : Fin 128), b (ix2 k l) = X (ix2 k ⟨128 + (l : ℕ), by omega⟩))
    (hd : ∀ (k : Fin 512) (l : Fin 128), d (ix2 k l) = X (ix2 k ⟨256 + (l : ℕ), by omega⟩))
    (he : ∀ (k : Fin 512) (l : Fin 128), e (ix2 k l) = X (ix2 k ⟨384 + (l : ℕ), by omega⟩))
    (r : Fin 512) (l : Fin 128) :
    k0_pay1 (F := Ideal) lanes (k0_pay5 (F := Ideal) a b d) (k0_pay6 (F := Ideal) e) w (ix2 r l) = (∑ k : Fin 512, if r ≤ k then gath X k l else 0) + w (ix2 0 l) := by
  pointwise [k0_pay1, k0_pay5, k0_pay6]
  refine congrArg (· + w (ix2 0 l)) (Finset.sum_congr rfl fun k _ => ?_)
  rw [sel_sge k r k.isLt r.isLt]
  refine if_congr Iff.rfl ?_ rfl
  rw [sel_pair l 6 7 l.isLt (by omega) (by omega), sel_pair l 4 5 l.isLt (by omega) (by omega), sel_pair l 2 3 l.isLt (by omega) (by omega),
    sel_pair l 0 1 l.isLt (by omega) (by omega), ha, hb, hd, he]
  unfold gath
  have hl := l.isLt
  by_cases h8 : (l : ℕ) < 8
  · rw [dif_pos h8]
    split_ifs <;> first | omega | exact congrArg (fun j => X (ix2 k j)) (Fin.ext (by dsimp only; omega))
  · rw [dif_neg h8, if_neg (by omega), if_neg (by omega), if_neg (by omega), if_neg (by omega)]

theorem pay2_at (v3 : IVec S1x128 32) (a e : FVec Ideal S512x128 .f32) (w : FVec Ideal S1x128 .f32) (f : FVec Ideal S512x128 .f32) (r : Fin 512) (l : Fin 128) :
    k0_pay2 (F := Ideal) v3 a e w f (ix2 r l) = k0_pay1 (F := Ideal) v3 a e w (ix2 r l) * Ideal.logistic (0 - f (ix2 r l)) := by
  pointwise [k0_pay2]

theorem pay3_at (v3 : IVec S1x128 32) (a e : FVec Ideal S512x128 .f32) (w : FVec Ideal S1x128 .f32) (r : Fin 8) (l : Fin 128) :
    k0_pay3 (F := Ideal) v3 a e w (ix2 r l) = k0_pay1 (F := Ideal) v3 a e w (ix2 0 l) := by
  pointwise [k0_pay3]

theorem pay4_at (r : Fin 8) (l : Fin 128) : k0_pay4 (F := Ideal) (ix2 r l) = 0 := by
  pointwise [k0_pay4]

/-- A tail of a sum over all rows, cut at the end of its tile. -/
theorem tail_split (D : ℕ → EReal) (b r : ℕ) (hb : b < 16) (hr : r < 512) :
    (∑ K : Fin 8192, if b * 512 + r ≤ (K : ℕ) then D K else 0)
      = (∑ k : Fin 512, if r ≤ (k : ℕ) then D (b * 512 + k) else 0) + ∑ K : Fin 8192, if (b + 1) * 512 ≤ (K : ℕ) then D K else 0 := by
  have hf : ∀ (n s : ℕ) (E : ℕ → EReal), (∑ K : Fin n, if s ≤ (K : ℕ) then E K else 0) = ∑ K ∈ Finset.Ico s n, E K := fun n s E => by
    rw [Fin.sum_univ_eq_sum_range (fun K => if s ≤ K then E K else 0), ← Finset.sum_filter]
    exact Finset.sum_congr (by ext K; simp only [Finset.mem_filter, Finset.mem_range, Finset.mem_Ico]; omega) fun _ _ => rfl
  rw [hf 8192 (b * 512 + r) D, hf 512 r fun k => D (b * 512 + k), hf 8192 ((b + 1) * 512) D,
    Finset.sum_Ico_add (fun k => D k) r 512 (b * 512)]
  rw [show r + b * 512 = b * 512 + r by omega, show 512 + b * 512 = (b + 1) * 512 by omega]
  exact (Finset.sum_Ico_consecutive _ (by omega) (by omega)).symm

end Cert.KernelIdeal.Forget

end
-- ==== Proof.Forget.Carry.lean ====
/- The forget gate's gradient: what the grid points write back, over the whole arrays. -/
module

public import proofs.«01_k».proof.Proof.Forget.Pay
public import Idealize.ShloMosaic.Lib.Pipeline.ReadBack

@[expose] public section

set_option maxRecDepth 16384

noncomputable section

namespace Cert.KernelIdeal.Forget

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![15 - t.val, 0] ∧ win0_1.index t = ![15 - t.val, 16] ∧ win0_2.index t = ![15 - t.val, 0] ∧ t.val < 16 :=
  (by decide +kernel : ∀ t : Fin grid0.N, _)

/-- The row gradients `dc`, nothing past the eight heads. -/
def D (A : FVec Ideal S8192x8 .f32) (l : ℕ) (K : ℕ) : EReal := if h : K < 8192 ∧ l < 8 then A (ix2 ⟨K, h.1⟩ ⟨l, h.2⟩) else 0

theorem V_dc (c : Dev nD) : V m c main_v3 = shapeCast S8192x512 (pad S8192x4x128 ![0, 0, 0] ![0, 0, 126] ![0, 0, 0] (shapeCast S8192x4x2 (m ((c : Thread nD τ).loc main_arg1) : FVec Ideal S8192x8 .f32) shapeCasts_S8192x8_S8192x4x2) (sitofp (F := Ideal) .f32 (constantI S_ 32 0#32)) pads_S8192x4x2_S8192x4x128_000_000_01260 h_S_) shapeCasts_S8192x4x128_S8192x512 := by
  dsimp only [V, hostOps0, hostOps0_1, hostOps0_2, hostOps0_3, hostOps0_4, List.flatten_cons, List.flatten_nil, List.append_nil, List.cons_append, List.nil_append]
  simp only [StableHlo.TRef.binary, StableHlo.TRef.unary, StableHlo.TRef.toBuf, StableHlo.TRef.ofBuf, cast_eq]
  after_results_simp
  rfl

theorem V_f (c : Dev nD) : V m c main_v0 = pad S8192x2304 ![0, 2048] ![0, 248] ![0, 0] (m ((c : Thread nD τ).loc main_arg0) : FVec Ideal S8192x8 .f32) (sitofp (F := Ideal) .f32 (constantI S_ 32 0#32)) pads_S8192x8_S8192x2304_000_20482480 h_S_ := by
  dsimp only [V, hostOps0, hostOps0_1, hostOps0_2, hostOps0_3, hostOps0_4, List.flatten_cons, List.flatten_nil, List.append_nil, List.cons_append, List.nil_append]
  simp only [StableHlo.TRef.binary, StableHlo.TRef.unary, StableHlo.TRef.toBuf, StableHlo.TRef.ofBuf, cast_eq]
  after_results_simp

theorem dc_block (c : Dev nD) (t : Fin cfg0.N) (k : Fin 512) (l : Fin 128) :
    gath (iblk m c 0 t) k l = D (m ((c : Thread nD τ).loc main_arg1)) l ((15 - t.val) * 512 + k) := by
  unfold gath D
  have ht := (idx t).2.2.2
  by_cases h : (l : ℕ) < 8
  · rw [dif_pos h, dif_pos ⟨by omega, h⟩]
    show (V m c main_v3) (((cfg0.win 0).blk t).view.emb _) = _
    rw [V_dc]
    generalize m ((c : Thread nD τ).loc main_arg1) = A
    have hl : (l : ℕ) / 2 * 128 + (l : ℕ) % 2 < 512 := by omega
    have hk : (15 - t.val) * 512 + (k : ℕ) < 8192 := by omega
    have e : ((cfg0.win 0).blk t).view.emb (ix2 k ⟨(l : ℕ) / 2 * 128 + (l : ℕ) % 2, hl⟩)
        = ix2 ⟨(15 - t.val) * 512 + (k : ℕ), hk⟩ ⟨(l : ℕ) / 2 * 128 + (l : ℕ) % 2, hl⟩ := by blk_ext [idx t]
    rw [e]
    pointwise
    rw [dif_pos ⟨hk, by omega, by omega⟩]
    exact congrArg (fun j => A (ix2 _ j)) (Fin.ext (by dsimp only; omega))
  · rw [dif_neg h, dif_neg (fun h' => h h'.2)]

theorem f_block (c : Dev nD) (t : Fin cfg0.N) (k : Fin 512) (l : Fin 128) (h : (l : ℕ) < 8) :
    (iblk m c 1 t : FVec Ideal S512x128 .f32) (ix2 k l) = (m ((c : Thread nD τ).loc main_arg0) : FVec Ideal S8192x8 .f32) (ix2 ⟨(15 - t.val) * 512 + k, by have := (idx t).2.2.2; omega⟩ ⟨l, h⟩) := by
  show (V m c main_v0) (((cfg0.win 1).blk t).view.emb _) = _
  rw [V_f]
  generalize (m ((c : Thread nD τ).loc main_arg0) : FVec Ideal S8192x8 .f32) = A
  have ht := (idx t).2.2.2
  have hk : (15 - t.val) * 512 + (k : ℕ) < 8192 := by omega
  have hl : 2048 + (l : ℕ) < 2304 := by omega
  have e : ((cfg0.win 1).blk t).view.emb (ix2 k l) = ix2 ⟨(15 - t.val) * 512 + (k : ℕ), hk⟩ ⟨2048 + (l : ℕ), hl⟩ := by blk_ext [idx t]
  rw [e]
  pointwise
  rw [dif_pos]
  intro a
  match a with
  | ⟨0, _⟩ => exact ⟨by simp, by simp [Nat.mod_one], by simpa using hk⟩
  | ⟨1, _⟩ => exact ⟨by simp, by simp [Nat.mod_one], by simpa using h⟩

/-- What the points from the last row down to point `t`'s block have summed. -/
def tail (c : Dev nD) (l : ℕ) (K0 : ℕ) : EReal :=
  ∑ K : Fin 8192, if K0 ≤ (K : ℕ) then D (m ((c : Thread nD τ).loc main_arg1)) l K else 0

theorem pay_tail (c : Dev nD) (t : Fin cfg0.N) (w : FVec Ideal S1x128 .f32) (r : Fin 512) (l : Fin 128)
    (hw : w (ix2 0 l) = tail m c l ((15 - t.val + 1) * 512)) :
    k0_pay1 (F := Ideal) lanes
      (k0_pay5 (View.ld (iblk m c 0 t) (Rect.unit ![0, 0] ![512, 128] inb_S512x512_S512x128_0_0))
        (View.ld (iblk m c 0 t) (Rect.unit ![0, 128] ![512, 128] inb_S512x512_S512x128_0_128))
        (View.ld (iblk m c 0 t) (Rect.unit ![0, 256] ![512, 128] inb_S512x512_S512x128_0_256)))
      (k0_pay6 (View.ld (iblk m c 0 t) (Rect.unit ![0, 384] ![512, 128] inb_S512x512_S512x128_0_384))) w (ix2 r l) = tail m c l ((15 - t.val) * 512 + r) := by
  have ht := (idx t).2.2.2
  rw [pay1_at (iblk m c 0 t) _ _ _ _ w (fun k l => by pointwise) (fun k l => by pointwise) (fun k l => by pointwise) (fun k l => by pointwise), hw]
  unfold tail
  rw [tail_split _ (15 - t.val) r (by omega) r.isLt]
  refine congrArg (· + _) (Finset.sum_congr rfl fun k _ => ?_)
  rw [dc_block]
  rfl

theorem carry (c : Dev nD) (n : ℕ) (hn : n < cfg0.N) (r : Fin 8) (l : Fin 128) :
    (outsAt0 m c n hn).2 (ix2 r l) = tail m c l ((15 - n) * 512) := by
  have hN : n < 16 := lt_of_lt_of_eq hn N_0
  induction n generalizing r with
  | zero =>
    rw [outsAt0_A m c ⟨0, hn⟩ rfl]; frame_out
    rw [pay3_at, View.readCov_fill _ _ _ _ _ (by decide)]
    refine pay_tail m c ⟨0, hn⟩ _ 0 l ?_
    pointwise [k0_pay4]
    unfold tail
    exact (Finset.sum_eq_zero fun K _ => if_neg (by have := K.isLt; omega)).symm
  | succ n ih =>
    rw [outsAt0_B m c ⟨n + 1, hn⟩ (by dsimp only; omega)]; frame_out
    rw [pay3_at]
    refine pay_tail m c ⟨n + 1, hn⟩ _ 0 l ?_
    rw [(Memref.isWhole_whole _).read_unread]
    pointwise
    refine (ih (Nat.lt_of_succ_lt hn) 0 (by omega)).trans ?_
    exact congrArg (tail m c l) (by omega)

/-- The gradient over the whole array: the sum of the row gradients from the row on, times `σ(−f)`. -/
def G (A0 A1 : FVec Ideal S8192x8 .f32) (r : Fin 8192) (l : Fin 128) : EReal :=
  if h : (l : ℕ) < 8 then (∑ K : Fin 8192, if r ≤ K then A1 (ix2 K ⟨l, h⟩) else 0) * Ideal.logistic (0 - A0 (ix2 r ⟨l, h⟩)) else 0

theorem G_eq (c : Dev nD) (t : Fin cfg0.N) (r : Fin 512) (l : Fin 128) (hr : (15 - t.val) * 512 + (r : ℕ) < 8192) :
    tail m c l ((15 - t.val) * 512 + r) * Ideal.logistic (0 - (iblk m c 1 t : FVec Ideal S512x128 .f32) (ix2 r l))
      = G (m ((c : Thread nD τ).loc main_arg0)) (m ((c : Thread nD τ).loc main_arg1)) ⟨(15 - t.val) * 512 + r, hr⟩ l := by
  unfold G tail
  by_cases h : (l : ℕ) < 8
  · rw [dif_pos h, f_block m c t r l h]
    refine congrArg (· * _) (Finset.sum_congr rfl fun K _ => if_congr Iff.rfl ?_ rfl)
    unfold D
    rw [dif_pos ⟨K.isLt, h⟩]
  · rw [dif_neg h, Finset.sum_eq_zero fun K _ => ?_, zero_mul]
    unfold D
    rw [dif_neg (fun h' => h h'.2), ite_self]

theorem point (c : Dev nD) (t : Fin cfg0.N) (r : Fin 512) (l : Fin 128) :
    (outsAt0 m c t.val t.isLt).1 (ix2 r l) = tail m c l ((15 - t.val) * 512 + r) * Ideal.logistic (0 - (iblk m c 1 t : FVec Ideal S512x128 .f32) (ix2 r l)) := by
  have ht := (idx t).2.2.2
  by_cases h0 : t.val % 16 = 0
  · rw [outsAt0_A m c t h0]; frame_out
    rw [pay2_at, View.readCov_fill _ _ _ _ _ (by decide)]
    refine congrArg (· * _) (pay_tail m c t _ r l ?_)
    pointwise [k0_pay4]
    unfold tail
    exact (Finset.sum_eq_zero fun K _ => if_neg (by have := K.isLt; omega)).symm
  · rw [outsAt0_B m c t h0]; frame_out
    rw [pay2_at]
    refine congrArg (· * _) (pay_tail m c t _ r l ?_)
    rw [(Memref.isWhole_whole _).read_unread]
    pointwise
    exact (carry m c (t.val - 1) _ 0 l).trans (congrArg (tail m c l) (by omega))

theorem final (c : Dev nD) : (dats m 0 c).arrAt 2 cfg0.N
    = fun i : S8192x128.Idx => G (m ((c : Thread nD τ).loc main_arg0)) (m ((c : Thread nD τ).loc main_arg1)) (i 0) (i 1) := by
  refine (dats m 0 c).arrAt_eq_of_covers 2 _ (by decide +kernel) fun t _ y => ?_
  have ht := (idx t).2.2.2
  blk_simp
  rw [after0_2]
  idx_vars y
  rw [point, G_eq m c t _ _ (by omega)]
  refine congrArg₂ (G _ _) (Fin.ext ?_) (Fin.ext ?_)
  all_goals (blk_simp [idx t] <;> try omega)

end Cert.KernelIdeal.Forget

end
-- ==== Proof.Forget.Ref.lean ====
module

public import proofs.«01_k».proof.Proof.Gen.ReferenceIdeal.Run
public import Idealize.ShloMosaic.Lib.Pointwise

@[expose] public section

set_option maxRecDepth 16384

noncomputable section

/-! The reference's result, entry by entry: the suffix sum of the cotangent times the logistic derivative. -/

namespace Cert.ReferenceIdeal.Forget

open Cert.ReferenceIdeal Idealize.ShloMosaic Idealize.ShloMosaic.TcCoe Idealize.SL.Sem

theorem foldl_add {M : Nat} (g : Fin M → EReal) (v : EReal) :
    (List.finRange M).foldl (fun r n => r + g n) v = v + ∑ n, g n := by
  rw [Fin.sum_univ_def]
  generalize List.finRange M = L
  induction L generalizing v with
  | nil => simp
  | cons a L ih => rw [List.foldl_cons, ih, List.map_cons, List.sum_cons, add_assoc]

theorem sum_col {N : Nat} (g : (⟨2, ![N, 1]⟩ : Shape).Idx → EReal) :
    ∑ w, g w = ∑ n : Fin N, g (ix2 n (0 : Fin 1)) := by
  refine (Function.Bijective.sum_comp (e := fun n : Fin N => (ix2 n (0 : Fin 1) : (⟨2, ![N, 1]⟩ : Shape).Idx)) ⟨?_, ?_⟩ g).symm
  · intro a b hab
    exact congrFun hab 0
  · intro w
    refine ⟨w 0, funext fun a => ?_⟩
    match a with
    | ⟨0, _⟩ => rfl
    | ⟨1, _⟩ => exact Subsingleton.elim (α := Fin 1) _ _

theorem shift {N : Nat} (x : Fin N → EReal) (r : Fin N) :
    (∑ n : Fin N, if h : (r : ℕ) + n < N then x ⟨r + n, h⟩ else 0) = ∑ K : Fin N, if r ≤ K then x K else 0 := by
  have hr := r.isLt
  let F : ℕ → EReal := fun k => if h : k < N then x ⟨k, h⟩ else 0
  have e1 : (∑ n : Fin N, if h : (r : ℕ) + n < N then x ⟨r + n, h⟩ else 0) = ∑ k ∈ Finset.Ico (r : ℕ) (r + N), F k := by
    rw [Finset.sum_Ico_eq_sum_range, Nat.add_sub_cancel_left, Finset.sum_range]
  have e2 : (∑ K : Fin N, if r ≤ K then x K else 0) = ∑ k ∈ Finset.range N, if (r : ℕ) ≤ k then F k else 0 := by
    rw [Finset.sum_range]
    refine Finset.sum_congr rfl fun K _ => ?_
    by_cases h : r ≤ K
    · rw [if_pos h, if_pos (Fin.le_def.1 h)]
      simp only [F, dif_pos K.isLt]
    · rw [if_neg h, if_neg fun h' => h (Fin.le_def.2 h')]
  rw [e1, e2, ← Finset.sum_filter]
  symm
  refine Finset.sum_subset (fun k hk => ?_) fun k hk hn => ?_
  · rw [Finset.mem_filter, Finset.mem_range] at hk
    rw [Finset.mem_Ico]
    omega
  · rw [Finset.mem_filter, Finset.mem_range] at hn
    rw [Finset.mem_Ico] at hk
    exact dif_neg (by omega)

/-- The reversed running sum over the rows of a matrix, as a window sum: row `r` sums the rows from `r` on. -/
theorem suffix {N M Nm1 : Nat} (hN : Nm1 + 1 = N) (x : FVec Ideal ⟨2, ![N, M]⟩ .f32) {u : Shape} (init : FVec Ideal u .f32)
    (h : (⟨2, ![N, M]⟩ : Shape).ReduceWindows ![N, 1] ![1, 1] ![0, 0] ![Nm1, 0] ⟨2, ![N, M]⟩) (hu : 0 < u.numel)
    (hi : init (Shape.Idx.first hu) = (0 : EReal)) (r : Fin N) (l : Fin M) :
    Host.reduceWindowAdd ![N, 1] ![1, 1] ![0, 0] ![Nm1, 0] x init h hu (ix2 r l)
      = ∑ K : Fin N, if r ≤ K then (x (ix2 K l) : EReal) else 0 := by
  have e : Host.reduceWindowAdd ![N, 1] ![1, 1] ![0, 0] ![Nm1, 0] x init h hu (ix2 r l)
      = (0 : EReal) + ∑ n : Fin N, if h : (r : ℕ) + n < N then (x (ix2 ⟨r + n, h⟩ l) : EReal) else 0 := by
    refine Eq.trans ?_ (congrArg ((0 : EReal) + ·)
      (sum_col (N := N) fun w => if h : (r : ℕ) + (w 0).val < N then (x (ix2 ⟨r + (w 0).val, h⟩ l) : EReal) else 0))
    rw [← Equiv.sum_comp (⟨2, ![N, 1]⟩ : Shape).rowMajor.symm, ← foldl_add]
    show (List.finRange _).foldl _ (init (Shape.Idx.first hu)) = _
    rw [hi]
    congr 1
    funext v n
    refine congrArg (v + ·) ?_
    have hl := l.isLt
    have q1 : ((⟨2, ![N, 1]⟩ : Shape).rowMajor.symm n 1).val < 1 := ((⟨2, ![N, 1]⟩ : Shape).rowMajor.symm n 1).isLt
    split
    · next hin =>
      have h0 : 0 ≤ r.val * 1 + ((⟨2, ![N, 1]⟩ : Shape).rowMajor.symm n 0).val
        ∧ r.val * 1 + ((⟨2, ![N, 1]⟩ : Shape).rowMajor.symm n 0).val - 0 < N := hin 0
      rw [dif_pos (by omega)]
      refine congrArg x (funext fun a => Fin.ext ?_)
      match a with
      | ⟨0, _⟩ => show r.val * 1 + ((⟨2, ![N, 1]⟩ : Shape).rowMajor.symm n 0).val - 0 = r.val + ((⟨2, ![N, 1]⟩ : Shape).rowMajor.symm n 0).val; omega
      | ⟨1, _⟩ => show l.val * 1 + ((⟨2, ![N, 1]⟩ : Shape).rowMajor.symm n 1).val - 0 = l.val; omega
    · next hin =>
      rw [dif_neg]
      intro hh
      refine hin fun a => ?_
      match a with
      | ⟨0, _⟩ =>
        show 0 ≤ r.val * 1 + ((⟨2, ![N, 1]⟩ : Shape).rowMajor.symm n 0).val
          ∧ r.val * 1 + ((⟨2, ![N, 1]⟩ : Shape).rowMajor.symm n 0).val - 0 < N
        omega
      | ⟨1, _⟩ =>
        show 0 ≤ l.val * 1 + ((⟨2, ![N, 1]⟩ : Shape).rowMajor.symm n 1).val
          ∧ l.val * 1 + ((⟨2, ![N, 1]⟩ : Shape).rowMajor.symm n 1).val - 0 < M
        omega
  rw [e, zero_add]
  exact shift (fun K => (x (ix2 K l) : EReal)) r

theorem coe_max' (a b : ℝ) : ((max a b : ℝ) : EReal) = max (a : EReal) b :=
  EReal.coe_strictMono.monotone.map_max

/-- The softplus derivative as its own exponentials, at every extended real. -/
theorem softplus_slope (x : EReal) :
    Ideal.exp ((if x = ⊤ then 0 else x)
      - (if max x 0 + Ideal.log1p (Ideal.exp (-(max x (-x)))) = ⊤ then 0
          else max x 0 + Ideal.log1p (Ideal.exp (-(max x (-x)))))) = Ideal.logistic x := by
  induction x with
  | bot =>
    unfold Ideal.logistic Ideal.log1p Ideal.div
    simp only [bot_ne_top, if_false]
    have e : max (⊥ : EReal) 0 = 0 := max_eq_right bot_le
    have e2 : (1 : EReal) + ⊤ = ⊤ := by decide
    simp [e, e2]
  | top =>
    unfold Ideal.logistic Ideal.log1p Ideal.div
    have e : Ideal.log 1 = 0 := by
      rw [← EReal.coe_one, Ideal.log_coe, if_neg (by norm_num), Real.log_one, EReal.coe_zero]
    have e0 : Ideal.exp 0 = 1 := by
      rw [← EReal.coe_zero, Ideal.exp_coe, Real.exp_zero, EReal.coe_one]
    simp [e, e0]
  | coe r =>
    have h1 : (0 : ℝ) < 1 + Real.exp (-(max r (-r))) := by positivity
    have h2 : max (r : EReal) 0 + Ideal.log1p (Ideal.exp (-(max (r : EReal) (-(r : EReal)))))
        = ((max r 0 + Real.log (1 + Real.exp (-(max r (-r)))) : ℝ) : EReal) := by
      rw [← EReal.coe_neg, ← coe_max', ← EReal.coe_neg, Ideal.exp_coe, Ideal.log1p, ← EReal.coe_one, ← EReal.coe_add,
        Ideal.log_coe, if_neg (not_le.2 h1), ← EReal.coe_zero, ← coe_max', ← EReal.coe_add]
    rw [h2, if_neg (EReal.coe_ne_top _), if_neg (EReal.coe_ne_top _), ← EReal.coe_sub, Ideal.exp_coe, Ideal.logistic_coe]
    refine congrArg _ ?_
    rw [Real.exp_sub, Real.exp_add, Real.exp_log h1]
    have hp := Real.exp_pos r
    rcases le_total r 0 with h | h
    · rw [max_eq_right h, max_eq_right (by linarith), neg_neg, Real.exp_zero, Real.exp_neg]
      field_simp
      ring
    · rw [max_eq_left h, max_eq_left (by linarith)]
      field_simp

/-- A scalar constant broadcast over the matrix. -/
def fill (w : BitVec 32) : FVec Ideal S8192x8 .f32 := broadcastInDim S8192x8 ![] Gen.bcast_S_S8192x8 (constant S_ .f32 w)

/-- `log (exp x + exp 0)` as it is printed. -/
def softplus (x : FVec Ideal S8192x8 .f32) : FVec Ideal S8192x8 .f32 :=
  select (cmpf .une (subf x (fill 0x00000000#32)) (subf x (fill 0x00000000#32))) (addf x (fill 0x00000000#32))
    (addf (maximumf x (fill 0x00000000#32)) (Host.log1p (Host.exp (Host.negf (Host.absf (subf x (fill 0x00000000#32)))))))

/-- The result of the reference as a term of its two arguments. -/
def term (A0 A1 : FVec Ideal S8192x8 .f32) : FVec Ideal S8192x128 .bf16 :=
  pad S8192x128 ![0, 0] ![0, 120] ![0, 0]
    (truncf .bf16 (Host.negf (mulf (Host.negf (Host.reduceWindowAdd ![8192, 1] ![1, 1] ![0, 0] ![8191, 0] A1
      (broadcastInDim S_ ![] Gen.bcast_S_S_ (constant S_ .f32 0x00000000#32)) Gen.reduceWindows_S8192x8_S8192x8_w8192s1p0_8191_w1s1p0_0 Gen.h_S_))
      (Host.exp (subf (select (cmpf .oeq (Host.negf A0) (fill 0x7F800000#32)) (fill 0x00000000#32) (Host.negf A0))
        (select (cmpf .oeq (softplus (Host.negf A0)) (fill 0x7F800000#32)) (fill 0x00000000#32) (softplus (Host.negf A0))))))) Gen.bitsLt_bf16_f32)
    (sitofp .bf16 (constantI S_ 32 0#32)) Gen.pads_S8192x8_S8192x128_000_01200 Gen.h_S_

theorem ref_at (A0 A1 : FVec Ideal S8192x8 .f32) (r : Fin 8192) (l : Fin 128) :
    term A0 A1 (ix2 r l) = if h : (l : ℕ) < 8 then
      (∑ K : Fin 8192, if r ≤ K then (A1 (ix2 K ⟨l, h⟩) : EReal) else 0) * Ideal.logistic (0 - A0 (ix2 r ⟨l, h⟩)) else 0 := by
  pointwise [term, softplus, fill]
  have z : Ideal.ofBits FTy.f32 0 = 0 := by simp [Ideal.ofBits, Ideal.ieee]
  split
  · next h =>
    rw [suffix (by norm_num) A1 _ _ _ (by pointwise), zero_sub]
    generalize -(A0 (ix2 r ⟨l, h⟩) : EReal) = x
    generalize (∑ K : Fin 8192, if r ≤ K then (A1 (ix2 K ⟨l, h⟩) : EReal) else 0) = y
    have e : Ideal.ofBits FTy.f32 2139095040#32 = ⊤ := by simp [Ideal.ofBits, Ideal.ieee]
    rw [e]
    simp only [ne_eq, not_true_eq_false, if_false]
    refine Eq.trans ?_ (congrArg (y * ·) (softplus_slope x))
    rw [EReal.neg_mul, neg_neg]
    rfl
  · show (((0#32).toInt : ℝ) : EReal) = 0
    simp

theorem term_eq (A0 A1 : FVec Ideal S8192x8 .f32) : term A0 A1 = fun i : S8192x128.Idx => if h : (i 1).val < 8 then
      (∑ K : Fin 8192, if (i 0 : Fin 8192) ≤ K then (A1 (ix2 K ⟨(i 1).val, h⟩) : EReal) else 0)
        * Ideal.logistic (0 - A0 (ix2 (i 0) ⟨(i 1).val, h⟩)) else 0 := by
  funext i
  idx_vars i
  exact ref_at A0 A1 _ _

/-- The reference's run, its result read. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5)
          = term (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  Cert.ReferenceIdeal.Value.run m ρ

end Cert.ReferenceIdeal.Forget

end
-- ==== Proof.Fox.Trip.lean ====
/- The attention gradient: one step of the body's loop over the query blocks, and the state the loop reaches, as plain functions of the point's blocks. -/
module

public import proofs.«01_k».proof.Proof.Gen.Kernel2Ideal.Loops
public import Idealize.ShloMosaic.Lib.VecWindow

@[expose] public section

set_option maxRecDepth 16384
set_option maxHeartbeats 1000000

noncomputable section

namespace Cert.Kernel2Ideal.Fox

open Cert.Kernel2Ideal Cert.Kernel2Ideal.Gen Idealize.ShloMosaic Idealize.ShloMosaic.TcCoe Idealize.SL.Sem
open Idealize.ShloMosaic.View (ld)

variable {F : FTy → Type} [FloatOps F] [Named F]

/-- The gradients a point carries from block to block: of the keys, the values and the gates, of each of the pair's two heads. -/
abbrev Carry (F : FTy → Type) [FloatOps F] := FVec F S1024x128 .f32 × FVec F S1024x128 .f32 × FVec F S1024x1 .f32 × FVec F S1024x128 .f32 × FVec F S1024x128 .f32 × FVec F S1024x1 .f32

/-- The blocks a point finds: the pair's queries, its incoming gradients, its row statistics, the keys and the values of the point's rows. -/
structure In (F : FTy → Type) [FloatOps F] where
  q : Vec F S8192x256 .bf16
  o : Vec F S8192x256 .bf16
  s : Vec F S1x8x8192 .f32
  k : Vec F S1024x256 .bf16
  v : Vec F S1024x256 .bf16

/-- Each head's keys and values, and its keys transposed. -/
def In.k0 (X : In F) : FVec F S1024x128 .bf16 := k0_pay39 (ld X.k (Rect.unit (s := S1024x256) ![0, 0] S1024x128.size inb_S1024x256_S1024x128_0_0))
def In.k1 (X : In F) : FVec F S1024x128 .bf16 := k0_pay40 (ld X.k (Rect.unit (s := S1024x256) ![0, 128] S1024x128.size inb_S1024x256_S1024x128_0_128))
def In.v0 (X : In F) : FVec F S1024x128 .bf16 := k0_pay41 (ld X.v (Rect.unit (s := S1024x256) ![0, 0] S1024x128.size inb_S1024x256_S1024x128_0_0))
def In.v1 (X : In F) : FVec F S1024x128 .bf16 := k0_pay42 (ld X.v (Rect.unit (s := S1024x256) ![0, 128] S1024x128.size inb_S1024x256_S1024x128_0_128))
def In.k0t (X : In F) : FVec F S128x1024 .bf16 := k0_pay43 (ld X.k (Rect.unit (s := S1024x256) ![0, 0] S1024x128.size inb_S1024x256_S1024x128_0_0))
def In.k1t (X : In F) : FVec F S128x1024 .bf16 := k0_pay44 (ld X.k (Rect.unit (s := S1024x256) ![0, 128] S1024x128.size inb_S1024x256_S1024x128_0_128))

variable (X : In F) (i : grid0.Coords) (k : Fin (k0_t1_loop i).trips)

def q0 : Vec F S1024x128 .bf16 := ld X.q (Rect.unit (s := S8192x256) (k0_off10 i k) S1024x128.size (k0_off10_inb i k))
def o0 : Vec F S1024x128 .bf16 := ld X.o (Rect.unit (s := S8192x256) (k0_off10 i k) S1024x128.size (k0_off10_inb i k))
def m0 : Vec F S1x1x1024 .f32 := ld X.s (Rect.unit (s := S1x8x8192) (k0_off11 i k) S1x1x1024.size (k0_off11_inb i k))
def l0 : Vec F S1x1x1024 .f32 := ld X.s (Rect.unit (s := S1x8x8192) (k0_off12 i k) S1x1x1024.size (k0_off12_inb i k))
def d0 : Vec F S1x1x1024 .f32 := ld X.s (Rect.unit (s := S1x8x8192) (k0_off13 i k) S1x1x1024.size (k0_off13_inb i k))
def q1 : Vec F S1024x128 .bf16 := ld X.q (Rect.unit (s := S8192x256) (k0_off14 i k) S1024x128.size (k0_off14_inb i k))
def o1 : Vec F S1024x128 .bf16 := ld X.o (Rect.unit (s := S8192x256) (k0_off14 i k) S1024x128.size (k0_off14_inb i k))
def m1 : Vec F S1x1x1024 .f32 := ld X.s (Rect.unit (s := S1x8x8192) (k0_off15 i k) S1x1x1024.size (k0_off15_inb i k))
def l1 : Vec F S1x1x1024 .f32 := ld X.s (Rect.unit (s := S1x8x8192) (k0_off16 i k) S1x1x1024.size (k0_off16_inb i k))
def d1 : Vec F S1x1x1024 .f32 := ld X.s (Rect.unit (s := S1x8x8192) (k0_off17 i k) S1x1x1024.size (k0_off17_inb i k))

/-- What a step makes of the carried gradients. -/
def carryStep (a : Carry F) : Carry F :=
  (k0_pay10 X.k0 X.v0 a.1 (q0 X i k) (o0 X i k) (m0 X i k) (l0 X i k) (d0 X i k),
   k0_pay9 X.k0 a.2.1 (q0 X i k) (o0 X i k) (m0 X i k) (l0 X i k),
   k0_pay8 X.k0 X.v0 a.2.2.1 (q0 X i k) (o0 X i k) (m0 X i k) (l0 X i k) (d0 X i k),
   k0_pay71 a.2.2.2.1 (k0_pay13 (q1 X i k)) (k0_pay17 X.k1 X.v1 (q1 X i k) (o1 X i k) (m1 X i k) (l1 X i k) (d1 X i k)),
   k0_pay70 a.2.2.2.2.1 (k0_pay19 X.k1 (q1 X i k) (o1 X i k) (m1 X i k) (l1 X i k)),
   k0_pay18 X.k1 X.v1 a.2.2.2.2.2 (q1 X i k) (o1 X i k) (m1 X i k) (l1 X i k) (d1 X i k))

/-- The query gradients of the step's rows. -/
def rowsStep (d : Vec F S8192x128 .f32) : FVec F S1024x128 .f32 :=
  k0_pay72 X.k1t (k0_pay12 k0_pay2 (k0_pay11 X.k0 X.v0 X.k0t (q0 X i k) (o0 X i k) (m0 X i k) (l0 X i k) (d0 X i k)))
    (k0_pay17 X.k1 X.v1 (q1 X i k) (o1 X i k) (m1 X i k) (l1 X i k) (d1 X i k))
    (ld d (Rect.unit (s := S8192x128) (k0_off18 i k) S1024x128.size (k0_off18_inb i k)))

/-- The carried gradients and the query gradients before step `k`. -/
def state (S : Carry F × Vec F S8192x128 .f32) : ℕ → Carry F × Vec F S8192x128 .f32
  | 0 => S
  | k + 1 => if h : k < (k0_t1_loop i).trips then
      (carryStep X i ⟨k, h⟩ (state S k).1, VecWindow.put (state S k).2 (k0_off18 i ⟨k, h⟩) S1024x128.size (rowsStep X i ⟨k, h⟩ (state S k).2))
    else state S k

theorem tripR_eq (𝒱 : Variants) (c : Dev nD) (bd : Option 𝒱.V) (arg2 : Memref sig .tc .vmem S8192x256 .bf16) (harg2 : arg2.IsWhole) (arg3 : Memref sig .tc .vmem S8192x256 .bf16) (harg3 : arg3.IsWhole) (arg4 : Memref sig .tc .vmem S1x8x8192 .f32) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S8192x128 .f32) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .f32) (harg10 : arg10.IsWhole) (arg1 : BitVec 32) (v0 : IVec S1x128 32) (v21 : BitVec 32) (v60 : FVec F S1024x1 .f32) (v63 : FVec F S1024x128 .f32) (v65 : FVec F S1024x128 .f32) (v75 : FVec F S128x1024 .f32) (v113 : FVec F S1024x1 .f32) (v116 : FVec F S1024x128 .f32) (v118 : FVec F S1024x128 .f32) (v119 : FVec F S128x1024 .f32) (v124 : IVec S128x1024 1) (v125 : FVec F S128x1024 .f32) (v137 : BitVec 32) (a : Carry F) (f : BufTy.Contents (Elt F) arg7.view.ty) :
    tripR_k0_t1 (F := F) 𝒱 c bd i arg2 harg2 arg3 harg3 arg4 harg4 arg5 harg5 arg6 harg6 arg7 harg7 arg8 harg8 arg9 harg9 arg10 harg10 arg1 v0 X.k0 X.k1 X.v0 X.v1 X.k0t X.k1t v21 v60 v63 v65 v75 v113 v116 v118 v119 v124 v125 v137 (harg2.unread X.q) (harg3.unread X.o) (harg4.unread X.s) k a f = carryStep X i k a := by
  unfold tripR_k0_t1 trip_k0_t1
  unfold trip_k0_t1.sl.r trip_k0_t1.sl.r_1 trip_k0_t1.sl.r_2 trip_k0_t1.sl.r_5 trip_k0_t1.sl.r_6 trip_k0_t1.sl.r_7 trip_k0_t1.sl.r_8
  unfold carryStep q0 o0 m0 l0 d0 q1 o1 m1 l1 d1
  simp only [View.readAt_eq_ld, Memref.IsWhole.read_unread]

theorem tripL_eq (𝒱 : Variants) (c : Dev nD) (bd : Option 𝒱.V) (arg2 : Memref sig .tc .vmem S8192x256 .bf16) (harg2 : arg2.IsWhole) (arg3 : Memref sig .tc .vmem S8192x256 .bf16) (harg3 : arg3.IsWhole) (arg4 : Memref sig .tc .vmem S1x8x8192 .f32) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S8192x128 .f32) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .f32) (harg10 : arg10.IsWhole) (arg1 : BitVec 32) (v0 : IVec S1x128 32) (v21 : BitVec 32) (v60 : FVec F S1024x1 .f32) (v63 : FVec F S1024x128 .f32) (v65 : FVec F S1024x128 .f32) (v75 : FVec F S128x1024 .f32) (v113 : FVec F S1024x1 .f32) (v116 : FVec F S1024x128 .f32) (v118 : FVec F S1024x128 .f32) (v119 : FVec F S128x1024 .f32) (v124 : IVec S128x1024 1) (v125 : FVec F S128x1024 .f32) (v137 : BitVec 32) (a : Carry F) (f : BufTy.Contents (Elt F) arg7.view.ty) :
    tripL_k0_t1 (F := F) 𝒱 c bd i arg2 harg2 arg3 harg3 arg4 harg4 arg5 harg5 arg6 harg6 arg7 harg7 arg8 harg8 arg9 harg9 arg10 harg10 arg1 v0 X.k0 X.k1 X.v0 X.v1 X.k0t X.k1t v21 v60 v63 v65 v75 v113 v116 v118 v119 v124 v125 v137 (harg2.unread X.q) (harg3.unread X.o) (harg4.unread X.s) k a f = [⟨Rect.unit (s := S8192x128) (k0_off18 i k) S1024x128.size (k0_off18_inb i k), rowsStep X i k (arg7.view.read (Elt F) f)⟩] := by
  unfold tripL_k0_t1 trip_k0_t1
  unfold trip_k0_t1.sl.r_4 trip_k0_t1.sl.r_3 trip_k0_t1.sl.r_6
  unfold rowsStep q0 o0 m0 l0 d0 q1 o1 m1 l1 d1
  simp only [View.readAt_eq_ld, Memref.IsWhole.read_unread]

theorem st_eq (𝒱 : Variants) (c : Dev nD) (bd : Option 𝒱.V) (arg2 : Memref sig .tc .vmem S8192x256 .bf16) (harg2 : arg2.IsWhole) (arg3 : Memref sig .tc .vmem S8192x256 .bf16) (harg3 : arg3.IsWhole) (arg4 : Memref sig .tc .vmem S1x8x8192 .f32) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S8192x128 .f32) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .f32) (harg10 : arg10.IsWhole) (arg1 : BitVec 32) (v0 : IVec S1x128 32) (v21 : BitVec 32) (v60 : FVec F S1024x1 .f32) (v63 : FVec F S1024x128 .f32) (v65 : FVec F S1024x128 .f32) (v75 : FVec F S128x1024 .f32) (v113 : FVec F S1024x1 .f32) (v116 : FVec F S1024x128 .f32) (v118 : FVec F S1024x128 .f32) (v119 : FVec F S128x1024 .f32) (v124 : IVec S128x1024 1) (v125 : FVec F S128x1024 .f32) (v137 : BitVec 32) (G : BufTy.Contents (Elt F) arg7.view.ty) (a : Carry F) (n : ℕ) :
    (st_k0_t1 (F := F) 𝒱 c bd i arg2 harg2 arg3 harg3 arg4 harg4 arg5 harg5 arg6 harg6 arg7 harg7 arg8 harg8 arg9 harg9 arg10 harg10 arg1 v0 X.k0 X.k1 X.v0 X.v1 X.k0t X.k1t v21 v60 v63 v65 v75 v113 v116 v118 v119 v124 v125 v137 (harg2.unread X.q) (harg3.unread X.o) (harg4.unread X.s) G a n).1 = (state X i (a, arg7.view.read (Elt F) G) n).1
    ∧ arg7.view.read (Elt F) (arg7.view.writes (Elt F) G (st_k0_t1 (F := F) 𝒱 c bd i arg2 harg2 arg3 harg3 arg4 harg4 arg5 harg5 arg6 harg6 arg7 harg7 arg8 harg8 arg9 harg9 arg10 harg10 arg1 v0 X.k0 X.k1 X.v0 X.v1 X.k0t X.k1t v21 v60 v63 v65 v75 v113 v116 v118 v119 v124 v125 v137 (harg2.unread X.q) (harg3.unread X.o) (harg4.unread X.s) G a n).2) = (state X i (a, arg7.view.read (Elt F) G) n).2 := by
  induction n with
  | zero => exact ⟨rfl, rfl⟩
  | succ n ih =>
    by_cases h : n < (k0_t1_loop i).trips
    · have e := st_k0_t1_succ (F := F) 𝒱 c bd i arg2 harg2 arg3 harg3 arg4 harg4 arg5 harg5 arg6 harg6 arg7 harg7 arg8 harg8 arg9 harg9 arg10 harg10 arg1 v0 X.k0 X.k1 X.v0 X.v1 X.k0t X.k1t v21 v60 v63 v65 v75 v113 v116 v118 v119 v124 v125 v137 (harg2.unread X.q) (harg3.unread X.o) (harg4.unread X.s) G a ⟨n, h⟩
      rw [show (⟨n, h⟩ : Fin (k0_t1_loop i).trips).val + 1 = n + 1 from rfl] at e
      rw [e, show state X i (a, arg7.view.read (Elt F) G) (n + 1) = _ from dif_pos h]
      rw [tripR_eq, tripL_eq]
      dsimp only
      rw [ih.1, ih.2, List.singleton_append, View.read_writes_cons_put _ _ _ _ _ rfl, ih.2]
      exact ⟨rfl, rfl⟩
    · have e : st_k0_t1 (F := F) 𝒱 c bd i arg2 harg2 arg3 harg3 arg4 harg4 arg5 harg5 arg6 harg6 arg7 harg7 arg8 harg8 arg9 harg9 arg10 harg10 arg1 v0 X.k0 X.k1 X.v0 X.v1 X.k0t X.k1t v21 v60 v63 v65 v75 v113 v116 v118 v119 v124 v125 v137 (harg2.unread X.q) (harg3.unread X.o) (harg4.unread X.s) G a (n + 1) = st_k0_t1 (F := F) 𝒱 c bd i arg2 harg2 arg3 harg3 arg4 harg4 arg5 harg5 arg6 harg6 arg7 harg7 arg8 harg8 arg9 harg9 arg10 harg10 arg1 v0 X.k0 X.k1 X.v0 X.v1 X.k0t X.k1t v21 v60 v63 v65 v75 v113 v116 v118 v119 v124 v125 v137 (harg2.unread X.q) (harg3.unread X.o) (harg4.unread X.s) G a n := by
        rw [st_k0_t1.eq_2]; unfold st_k0_t1Step; exact dif_neg h
      rw [e, show state X i (a, arg7.view.read (Elt F) G) (n + 1) = _ from dif_neg h]
      exact ih

end Cert.Kernel2Ideal.Fox

end
-- ==== Proof.Fox.Run.lean ====
/- The attention gradient: the body at any point, its outputs named. -/
module

public import proofs.«01_k».proof.Proof.Fox.Trip

@[expose] public section

set_option maxRecDepth 16384

noncomputable section

namespace Cert.Kernel2Ideal.Fox

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.View (ld)

variable {F : FTy → Type} [FloatOps F] [Named F]

local notation "𝕄" => MT nD τ sig Unit (Elt F) ℕ (UR sig nD τ) ℕ

variable (X : In F) (i : grid0.Coords)

/-- The rows of the diagonal block. -/
def Q0 : Vec F S1024x128 .bf16 := ld X.q (Rect.unit (s := S8192x256) (k0_off1 i) S1024x128.size (k0_off1_inb i))
def O0 : Vec F S1024x128 .bf16 := ld X.o (Rect.unit (s := S8192x256) (k0_off1 i) S1024x128.size (k0_off1_inb i))
def M0 : Vec F S1x1x1024 .f32 := ld X.s (Rect.unit (s := S1x8x8192) (k0_off2 i) S1x1x1024.size (k0_off2_inb i))
def L0 : Vec F S1x1x1024 .f32 := ld X.s (Rect.unit (s := S1x8x8192) (k0_off3 i) S1x1x1024.size (k0_off3_inb i))
def D0 : Vec F S1x1x1024 .f32 := ld X.s (Rect.unit (s := S1x8x8192) (k0_off4 i) S1x1x1024.size (k0_off4_inb i))
def Q1 : Vec F S1024x128 .bf16 := ld X.q (Rect.unit (s := S8192x256) (k0_off5 i) S1024x128.size (k0_off5_inb i))
def O1 : Vec F S1024x128 .bf16 := ld X.o (Rect.unit (s := S8192x256) (k0_off5 i) S1024x128.size (k0_off5_inb i))
def M1 : Vec F S1x1x1024 .f32 := ld X.s (Rect.unit (s := S1x8x8192) (k0_off6 i) S1x1x1024.size (k0_off6_inb i))
def L1 : Vec F S1x1x1024 .f32 := ld X.s (Rect.unit (s := S1x8x8192) (k0_off7 i) S1x1x1024.size (k0_off7_inb i))
def D1 : Vec F S1x1x1024 .f32 := ld X.s (Rect.unit (s := S1x8x8192) (k0_off8 i) S1x1x1024.size (k0_off8_inb i))

/-- The diagonal block's scores of the first head. -/
def S0 : FVec F S1024x1024 .f32 := k0_pay50 (ld X.k (Rect.unit (s := S1024x256) ![0, 0] S1024x128.size inb_S1024x256_S1024x128_0_0)) (Q0 X i)

/-- What the diagonal block gives the carried gradients. -/
def diag : Carry F :=
  (k0_pay56 X.v0 k0_pay45 (k0_pay48 (Q0 X i)) (k0_pay49 (O0 X i)) (S0 X i) (M0 X i) (L0 X i) (D0 X i),
   k0_pay55 k0_pay45 (k0_pay49 (O0 X i)) (S0 X i) (M0 X i) (L0 X i),
   k0_pay54 X.v0 k0_pay46 (k0_pay49 (O0 X i)) (S0 X i) (M0 X i) (L0 X i) (D0 X i),
   k0_pay65 X.k1 X.v1 k0_pay45 (k0_pay58 (Q1 X i)) (k0_pay59 (O1 X i)) (M1 X i) (L1 X i) (D1 X i),
   k0_pay64 X.k1 k0_pay45 (k0_pay58 (Q1 X i)) (k0_pay59 (O1 X i)) (M1 X i) (L1 X i),
   k0_pay63 X.k1 X.v1 k0_pay46 (k0_pay58 (Q1 X i)) (k0_pay59 (O1 X i)) (M1 X i) (L1 X i) (D1 X i))

/-- The query gradients of the diagonal block's rows. -/
def diagRows (d : Vec F S8192x128 .f32) : FVec F S1024x128 .f32 :=
  k0_pay69 (k0_pay57 X.v0 X.k0t k0_pay47 (k0_pay49 (O0 X i)) (S0 X i) (M0 X i) (L0 X i) (D0 X i))
    (k0_pay66 X.k1 X.v1 X.k1t (k0_pay58 (Q1 X i)) (k0_pay59 (O1 X i)) (M1 X i) (L1 X i) (D1 X i)) k0_pay67 k0_pay68
    (ld d (Rect.unit (s := S8192x128) (k0_off9 i) S1024x128.size (k0_off9_inb i)))

/-- What the point's loop ends with, the query gradients being `d` before the point. -/
def final (d : Vec F S8192x128 .f32) : Carry F × Vec F S8192x128 .f32 :=
  state X i (diag X i, VecWindow.put d (k0_off9 i) S1024x128.size (diagRows X i d)) (k0_t1_loop i).trips

/-- The outputs' blocks after the point. -/
def dqOut (d : Vec F S8192x128 .f32) : Vec F S8192x128 .f32 := (final X i d).2
def dkOut (d : Vec F S8192x128 .f32) : Vec F S1024x128 .bf16 := k0_pay76 (final X i d).1.1 (final X i d).1.2.2.2.1
def dvOut (d : Vec F S8192x128 .f32) : Vec F S1024x128 .bf16 := k0_pay77 (final X i d).1.2.1 (final X i d).1.2.2.2.2.1
def dcOut (d : Vec F S8192x128 .f32) : Vec F S1024x128 .f32 :=
  k0_pay1 (iota .tc S1x128 32 [1] iota_S1x128_d1_w32) (final X i d).1.2.2.2.2.2 (k0_pay78 (iota .tc S1x128 32 [1] iota_S1x128_d1_w32)) (k0_pay79 (final X i d).1.2.2.1) k0_pay80

/-- The body's first statement clears the query gradients at the points that open a pair of heads. -/
abbrev Opens (i : grid0.Coords) : Prop := (Scalar.cmpi .ne (Scalar.extui (Scalar.cmpi .eq (BitVec.ofNat 32 (i 1).val) 0#32)) 0#32) = 1#1

/-- The loop's second half runs no trip. -/
theorem trips2 (i : grid0.Coords) : (k0_t2_loop i).trips = 0 := by
  have h : ∀ j : Fin 8, (Scf.Loop.trips (⟨Scalar.addi (Scalar.addi (BitVec.ofNat 32 j.val) 1#32) (Scalar.muli (Scalar.divsi (Scalar.subi 8#32 (Scalar.addi (BitVec.ofNat 32 j.val) 1#32)) 1#32) 1#32), Scalar.addi (Scalar.addi (BitVec.ofNat 32 j.val) 1#32) (Scalar.subi 8#32 (Scalar.addi (BitVec.ofNat 32 j.val) 1#32)), 1#32⟩ : Scf.Loop 32)) = 0 := by decide +kernel
  exact h (i 1)

set_option maxHeartbeats 4000000 in
/-- The body at a point that continues a pair of heads. -/
theorem runB (c : Dev nD) (arg2 : Memref sig .tc .vmem S8192x256 .bf16) (harg2 : arg2.IsWhole) (arg3 : Memref sig .tc .vmem S8192x256 .bf16) (harg3 : arg3.IsWhole) (arg4 : Memref sig .tc .vmem S1x8x8192 .f32) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S8192x128 .f32) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .f32) (harg10 : arg10.IsWhole) (hc : ¬Opens i) (d : Vec F S8192x128 .f32) (E : Set ℕ) (K : PUnit → sProp 𝕄) :
    iprop(owns (c : Thread nD τ) arg2 fullShare X.q ∗ owns (c : Thread nD τ) arg3 fullShare X.o ∗ owns (c : Thread nD τ) arg4 fullShare X.s ∗ owns (c : Thread nD τ) arg5 fullShare X.k ∗ owns (c : Thread nD τ) arg6 fullShare X.v ∗ owns (c : Thread nD τ) arg7 fullShare d ∗ (∃ d, owns (c : Thread nD τ) arg8 fullShare d) ∗ (∃ d, owns (c : Thread nD τ) arg9 fullShare d) ∗ (∃ d, owns (c : Thread nD τ) arg10 fullShare d)
      ∗ (iprop(owns (c : Thread nD τ) arg2 fullShare X.q ∗ owns (c : Thread nD τ) arg3 fullShare X.o ∗ owns (c : Thread nD τ) arg4 fullShare X.s ∗ owns (c : Thread nD τ) arg5 fullShare X.k ∗ owns (c : Thread nD τ) arg6 fullShare X.v ∗ owns (c : Thread nD τ) arg7 fullShare (dqOut X i d) ∗ owns (c : Thread nD τ) arg8 fullShare (dkOut X i d) ∗ owns (c : Thread nD τ) arg9 fullShare (dvOut X i d) ∗ owns (c : Thread nD τ) arg10 fullShare (dcOut X i d)) -∗ K ⟨⟩))
    ⊢ wp frame (wpE (defs₀ (F := F)) Variants.none c none) E (cc0_fox_bwd i arg2 harg2 arg3 harg3 arg4 harg4 arg5 harg5 arg6 harg6 arg7 harg7 arg8 harg8 arg9 harg9 arg10 harg10) K := by
  simp only [cc0_fox_bwd_eq_skeleton]; unfold cc0_fox_bwd_skel
  simp only [k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc)
  sl_step
  delta runB.sl.r_19 runB.sl.r_20
  rw [show Scf.trips (k0_t2_loop i).lb (k0_t2_loop i).ub (k0_t2_loop i).st = 0 from trips2 i]
  simp only [st_k0_t2.eq_1, List.nil_append, View.writes_append]
  have E : runB.sl.r X c arg5 harg5 = X.k0 ∧ runB.sl.r_1 X c arg5 harg5 = X.k1 ∧ runB.sl.r_2 X c arg6 harg6 = X.v0 ∧ runB.sl.r_3 X c arg6 harg6 = X.v1 ∧ runB.sl.r_4 X c arg5 harg5 = X.k0t ∧ runB.sl.r_5 X c arg5 harg5 = X.k1t ∧ runB.sl.r_9 X i c arg2 harg2 arg3 harg3 arg4 harg4 arg5 harg5 arg6 harg6 = (diag X i).2.2.1 ∧ runB.sl.r_10 X i c arg2 harg2 arg3 harg3 arg4 harg4 arg5 harg5 = (diag X i).2.1 ∧ runB.sl.r_11 X i c arg2 harg2 arg3 harg3 arg4 harg4 arg5 harg5 arg6 harg6 = (diag X i).1 ∧ runB.sl.r_12 X i c arg2 harg2 arg3 harg3 arg4 harg4 arg5 harg5 arg6 harg6 = k0_pay57 X.v0 X.k0t k0_pay47 (k0_pay49 (O0 X i)) (S0 X i) (M0 X i) (L0 X i) (D0 X i) ∧ runB.sl.r_15 X i c arg2 harg2 arg3 harg3 arg4 harg4 arg5 harg5 arg6 harg6 = (diag X i).2.2.2.2.2 ∧ runB.sl.r_16 X i c arg2 harg2 arg3 harg3 arg4 harg4 arg5 harg5 = (diag X i).2.2.2.2.1 ∧ runB.sl.r_17 X i c arg2 harg2 arg3 harg3 arg4 harg4 arg5 harg5 arg6 harg6 = (diag X i).2.2.2.1 ∧ runB.sl.r_18 X i c arg2 harg2 arg3 harg3 arg4 harg4 arg5 harg5 arg6 harg6 = k0_pay66 X.k1 X.v1 X.k1t (k0_pay58 (Q1 X i)) (k0_pay59 (O1 X i)) (M1 X i) (L1 X i) (D1 X i) := by
    refine ⟨?_, ?_, ?_, ?_, ?_, ?_, ?_, ?_, ?_, ?_, ?_, ?_, ?_, ?_⟩ <;>
    · repeat delta runB.sl.r runB.sl.r_1 runB.sl.r_2 runB.sl.r_3 runB.sl.r_4 runB.sl.r_5 runB.sl.r_6 runB.sl.r_7 runB.sl.r_8 runB.sl.r_9 runB.sl.r_10 runB.sl.r_11 runB.sl.r_12 runB.sl.r_13 runB.sl.r_14 runB.sl.r_15 runB.sl.r_16 runB.sl.r_17 runB.sl.r_18
      simp only [View.readAt_eq_ld, Memref.IsWhole.read_unread]; rfl
  obtain ⟨e0, e1, e2, e3, e4, e5, e6, e7, e8, e9, e10, e11, e12, e13⟩ := E
  rw [e0, e1, e2, e3, e4, e5, e6, e7, e8, e9, e10, e11, e12, e13]
  subst hf5
  iapply Hk
  isplitl [H0]
  · iexists _
    isplitr
    rotate_left
    · iexact H0
    · ipureintro
      exact harg2.read_unread _
  isplitl [H1]
  · iexists _
    isplitr
    rotate_left
    · iexact H1
    · ipureintro
      exact harg3.read_unread _
  isplitl [H2]
  · iexists _
    isplitr
    rotate_left
    · iexact H2
    · ipureintro
      exact harg4.read_unread _
  isplitl [H3]
  · iexists _
    isplitr
    rotate_left
    · iexact H3
    · ipureintro
      exact harg5.read_unread _
  isplitl [H4]
  · iexists _
    isplitr
    rotate_left
    · iexact H4
    · ipureintro
      exact harg6.read_unread _
  isplitl [H5]
  · iexists _
    isplitr
    rotate_left
    · iexact H5
    · ipureintro
      refine (st_eq X i _ c _ arg2 harg2 arg3 harg3 arg4 harg4 arg5 harg5 arg6 harg6 arg7 harg7 arg8 harg8 arg9 harg9 arg10 harg10 _ _ _ _ _ _ _ _ _ _ _ _ _ _ _ _ _).2.trans ?_
      rw [View.read_writes_cons_put _ _ _ _ _ rfl, View.writes_nil]
      rfl
  isplitl [H6]
  · iexists _
    isplitr
    rotate_left
    · iexact H6
    · ipureintro
      refine (View.read_writes_full _ _ _ _ _).trans ?_
      refine congrArg (fun a : Carry F => k0_pay76 a.1 a.2.2.2.1) ((st_eq X i _ c _ arg2 harg2 arg3 harg3 arg4 harg4 arg5 harg5 arg6 harg6 arg7 harg7 arg8 harg8 arg9 harg9 arg10 harg10 _ _ _ _ _ _ _ _ _ _ _ _ _ _ _ _ _).1.trans ?_)
      rw [View.read_writes_cons_put _ _ _ _ _ rfl, View.writes_nil]
      rfl
  isplitl [H7]
  · iexists _
    isplitr
    rotate_left
    · iexact H7
    · ipureintro
      refine (View.read_writes_full _ _ _ _ _).trans ?_
      refine congrArg (fun a : Carry F => k0_pay77 a.2.1 a.2.2.2.2.1) ((st_eq X i _ c _ arg2 harg2 arg3 harg3 arg4 harg4 arg5 harg5 arg6 harg6 arg7 harg7 arg8 harg8 arg9 harg9 arg10 harg10 _ _ _ _ _ _ _ _ _ _ _ _ _ _ _ _ _).1.trans ?_)
      rw [View.read_writes_cons_put _ _ _ _ _ rfl, View.writes_nil]
      rfl
  · iexists _
    isplitr
    rotate_left
    · iexact H8
    · ipureintro
      refine (View.read_writes_full _ _ _ _ _).trans ?_
      refine congrArg (fun a : Carry F => k0_pay1 (iota .tc S1x128 32 [1] iota_S1x128_d1_w32) a.2.2.2.2.2 (k0_pay78 (iota .tc S1x128 32 [1] iota_S1x128_d1_w32)) (k0_pay79 a.2.2.1) k0_pay80) ((st_eq X i _ c _ arg2 harg2 arg3 harg3 arg4 harg4 arg5 harg5 arg6 harg6 arg7 harg7 arg8 harg8 arg9 harg9 arg10 harg10 _ _ _ _ _ _ _ _ _ _ _ _ _ _ _ _ _).1.trans ?_)
      rw [View.read_writes_cons_put _ _ _ _ _ rfl, View.writes_nil]
      rfl

set_option maxHeartbeats 4000000 in
/-- The body at a point that opens a pair of heads. -/
theorem runA (c : Dev nD) (arg2 : Memref sig .tc .vmem S8192x256 .bf16) (harg2 : arg2.IsWhole) (arg3 : Memref sig .tc .vmem S8192x256 .bf16) (harg3 : arg3.IsWhole) (arg4 : Memref sig .tc .vmem S1x8x8192 .f32) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S8192x128 .f32) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .f32) (harg10 : arg10.IsWhole) (hc : Opens i) (E : Set ℕ) (K : PUnit → sProp 𝕄) :
    iprop(owns (c : Thread nD τ) arg2 fullShare X.q ∗ owns (c : Thread nD τ) arg3 fullShare X.o ∗ owns (c : Thread nD τ) arg4 fullShare X.s ∗ owns (c : Thread nD τ) arg5 fullShare X.k ∗ owns (c : Thread nD τ) arg6 fullShare X.v ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
      ∗ (iprop(owns (c : Thread nD τ) arg2 fullShare X.q ∗ owns (c : Thread nD τ) arg3 fullShare X.o ∗ owns (c : Thread nD τ) arg4 fullShare X.s ∗ owns (c : Thread nD τ) arg5 fullShare X.k ∗ owns (c : Thread nD τ) arg6 fullShare X.v ∗ owns (c : Thread nD τ) arg7 fullShare (dqOut X i k0_pay38) ∗ owns (c : Thread nD τ) arg8 fullShare (dkOut X i k0_pay38) ∗ owns (c : Thread nD τ) arg9 fullShare (dvOut X i k0_pay38) ∗ owns (c : Thread nD τ) arg10 fullShare (dcOut X i k0_pay38)) -∗ K ⟨⟩))
    ⊢ wp frame (wpE (defs₀ (F := F)) Variants.none c none) E (cc0_fox_bwd i arg2 harg2 arg3 harg3 arg4 harg4 arg5 harg5 arg6 harg6 arg7 harg7 arg8 harg8 arg9 harg9 arg10 harg10) K := by
  simp only [cc0_fox_bwd_eq_skeleton]; unfold cc0_fox_bwd_skel
  simp only [k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc)
  sl_step
  delta runA.sl.r_19 runA.sl.r_20
  rw [show Scf.trips (k0_t2_loop i).lb (k0_t2_loop i).ub (k0_t2_loop i).st = 0 from trips2 i]
  simp only [st_k0_t2.eq_1, List.nil_append, View.writes_append]
  have E : runA.sl.r X c arg5 harg5 = X.k0 ∧ runA.sl.r_1 X c arg5 harg5 = X.k1 ∧ runA.sl.r_2 X c arg6 harg6 = X.v0 ∧ runA.sl.r_3 X c arg6 harg6 = X.v1 ∧ runA.sl.r_4 X c arg5 harg5 = X.k0t ∧ runA.sl.r_5 X c arg5 harg5 = X.k1t ∧ runA.sl.r_9 X i c arg2 harg2 arg3 harg3 arg4 harg4 arg5 harg5 arg6 harg6 = (diag X i).2.2.1 ∧ runA.sl.r_10 X i c arg2 harg2 arg3 harg3 arg4 harg4 arg5 harg5 = (diag X i).2.1 ∧ runA.sl.r_11 X i c arg2 harg2 arg3 harg3 arg4 harg4 arg5 harg5 arg6 harg6 = (diag X i).1 ∧ runA.sl.r_12 X i c arg2 harg2 arg3 harg3 arg4 harg4 arg5 harg5 arg6 harg6 = k0_pay57 X.v0 X.k0t k0_pay47 (k0_pay49 (O0 X i)) (S0 X i) (M0 X i) (L0 X i) (D0 X i) ∧ runA.sl.r_15 X i c arg2 harg2 arg3 harg3 arg4 harg4 arg5 harg5 arg6 harg6 = (diag X i).2.2.2.2.2 ∧ runA.sl.r_16 X i c arg2 harg2 arg3 harg3 arg4 harg4 arg5 harg5 = (diag X i).2.2.2.2.1 ∧ runA.sl.r_17 X i c arg2 harg2 arg3 harg3 arg4 harg4 arg5 harg5 arg6 harg6 = (diag X i).2.2.2.1 ∧ runA.sl.r_18 X i c arg2 harg2 arg3 harg3 arg4 harg4 arg5 harg5 arg6 harg6 = k0_pay66 X.k1 X.v1 X.k1t (k0_pay58 (Q1 X i)) (k0_pay59 (O1 X i)) (M1 X i) (L1 X i) (D1 X i) := by
    refine ⟨?_, ?_, ?_, ?_, ?_, ?_, ?_, ?_, ?_, ?_, ?_, ?_, ?_, ?_⟩ <;>
    · repeat delta runA.sl.r runA.sl.r_1 runA.sl.r_2 runA.sl.r_3 runA.sl.r_4 runA.sl.r_5 runA.sl.r_6 runA.sl.r_7 runA.sl.r_8 runA.sl.r_9 runA.sl.r_10 runA.sl.r_11 runA.sl.r_12 runA.sl.r_13 runA.sl.r_14 runA.sl.r_15 runA.sl.r_16 runA.sl.r_17 runA.sl.r_18
      simp only [View.readAt_eq_ld, Memref.IsWhole.read_unread]; rfl
  obtain ⟨e0, e1, e2, e3, e4, e5, e6, e7, e8, e9, e10, e11, e12, e13⟩ := E
  rw [e0, e1, e2, e3, e4, e5, e6, e7, e8, e9, e10, e11, e12, e13]
  iapply Hk
  isplitl [H0]
  · iexists _
    isplitr
    rotate_left
    · iexact H0
    · ipureintro
      exact harg2.read_unread _
  isplitl [H1]
  · iexists _
    isplitr
    rotate_left
    · iexact H1
    · ipureintro
      exact harg3.read_unread _
  isplitl [H2]
  · iexists _
    isplitr
    rotate_left
    · iexact H2
    · ipureintro
      exact harg4.read_unread _
  isplitl [H3]
  · iexists _
    isplitr
    rotate_left
    · iexact H3
    · ipureintro
      exact harg5.read_unread _
  isplitl [H4]
  · iexists _
    isplitr
    rotate_left
    · iexact H4
    · ipureintro
      exact harg6.read_unread _
  isplitl [H5]
  · iexists _
    isplitr
    rotate_left
    · iexact H5
    · ipureintro
      refine (st_eq X i _ c _ arg2 harg2 arg3 harg3 arg4 harg4 arg5 harg5 arg6 harg6 arg7 harg7 arg8 harg8 arg9 harg9 arg10 harg10 _ _ _ _ _ _ _ _ _ _ _ _ _ _ _ _ _).2.trans ?_
      rw [View.read_writes_cons_put _ _ _ _ _ rfl, View.readAt_eq_ld, show View.read (Elt F) arg7.view (arg7.view.writes (Elt F) arg7.view.junk runA.sl.H5_1) = k0_pay38 from View.read_writes_full _ _ _ _ _]
      rfl
  isplitl [H6]
  · iexists _
    isplitr
    rotate_left
    · iexact H6
    · ipureintro
      refine (View.read_writes_full _ _ _ _ _).trans ?_
      refine congrArg (fun a : Carry F => k0_pay76 a.1 a.2.2.2.1) ((st_eq X i _ c _ arg2 harg2 arg3 harg3 arg4 harg4 arg5 harg5 arg6 harg6 arg7 harg7 arg8 harg8 arg9 harg9 arg10 harg10 _ _ _ _ _ _ _ _ _ _ _ _ _ _ _ _ _).1.trans ?_)
      rw [View.read_writes_cons_put _ _ _ _ _ rfl, View.readAt_eq_ld, show View.read (Elt F) arg7.view (arg7.view.writes (Elt F) arg7.view.junk runA.sl.H5_1) = k0_pay38 from View.read_writes_full _ _ _ _ _]
      rfl
  isplitl [H7]
  · iexists _
    isplitr
    rotate_left
    · iexact H7
    · ipureintro
      refine (View.read_writes_full _ _ _ _ _).trans ?_
      refine congrArg (fun a : Carry F => k0_pay77 a.2.1 a.2.2.2.2.1) ((st_eq X i _ c _ arg2 harg2 arg3 harg3 arg4 harg4 arg5 harg5 arg6 harg6 arg7 harg7 arg8 harg8 arg9 harg9 arg10 harg10 _ _ _ _ _ _ _ _ _ _ _ _ _ _ _ _ _).1.trans ?_)
      rw [View.read_writes_cons_put _ _ _ _ _ rfl, View.readAt_eq_ld, show View.read (Elt F) arg7.view (arg7.view.writes (Elt F) arg7.view.junk runA.sl.H5_1) = k0_pay38 from View.read_writes_full _ _ _ _ _]
      rfl
  · iexists _
    isplitr
    rotate_left
    · iexact H8
    · ipureintro
      refine (View.read_writes_full _ _ _ _ _).trans ?_
      refine congrArg (fun a : Carry F => k0_pay1 (iota .tc S1x128 32 [1] iota_S1x128_d1_w32) a.2.2.2.2.2 (k0_pay78 (iota .tc S1x128 32 [1] iota_S1x128_d1_w32)) (k0_pay79 a.2.2.1) k0_pay80) ((st_eq X i _ c _ arg2 harg2 arg3 harg3 arg4 harg4 arg5 harg5 arg6 harg6 arg7 harg7 arg8 harg8 arg9 harg9 arg10 harg10 _ _ _ _ _ _ _ _ _ _ _ _ _ _ _ _ _).1.trans ?_)
      rw [View.read_writes_cons_put _ _ _ _ _ rfl, View.readAt_eq_ld, show View.read (Elt F) arg7.view (arg7.view.writes (Elt F) arg7.view.junk runA.sl.H5_1) = k0_pay38 from View.read_writes_full _ _ _ _ _]
      rfl

end Cert.Kernel2Ideal.Fox

end
-- ==== Proof.Fox.Pay.lean ====
/- The attention's gradient: what one block of keys and queries gives, read at an index. -/
module

public import proofs.«01_k».proof.Proof.Fox.Run
public import Idealize.ShloMosaic.Lib.Pointwise

@[expose] public section

set_option maxRecDepth 16384

noncomputable section

namespace Cert.Kernel2Ideal.Fox

open Cert.Kernel2Ideal Cert.Kernel2Ideal.Gen Idealize.ShloMosaic Idealize.ShloMosaic.TcCoe Idealize.SL.Sem

/-- The reciprocal of the natural logarithm of two. -/
abbrev L2 : EReal := (((Real.log 2)⁻¹ : ℝ) : EReal)

theorem log2e_eq : Named.named (F := Ideal) (φ := .f32) κ "log2e" 0x3FB8AA3B#32 = L2 := IdealRules.named_const.ideal_named_scalar κ _ _ _ rfl
theorem mask_eq : Named.named (F := Ideal) (φ := .f32) κ "mask" 0xF149F2CA#32 = (⊥ : EReal) := IdealRules.named_const.ideal_named_scalar κ _ _ _ rfl

abbrev Blk := FVec Ideal S1024x128 .bf16
abbrev Row := FVec Ideal S1x1x1024 .f32

/-- A product of a key row and a query row. -/
def mm (a b : Blk) (r t : Fin 1024) : EReal := ∑ l : Fin 128, a (ix2 r l) * b (ix2 t l)

/-- The probability of a score. -/
def pA (s : EReal) (m il : Row) (t : Fin 1024) : EReal := Ideal.exp2 (s - m (ix3 0 0 t)) * il (ix3 0 0 t)

/-- The score's gradient. -/
def dA (s : EReal) (v o : Blk) (m il δ : Row) (r t : Fin 1024) : EReal := pA s m il t * (mm v o r t - δ (ix3 0 0 t))

/-- The scores of a block below the diagonal, -/
def sB (k q : Blk) (r t : Fin 1024) : EReal := mm k q r t * L2
/-- and of one on it. -/
def sD (k q : Blk) (r t : Fin 1024) : EReal := if r ≤ t then mm k q r t * L2 else ⊥

theorem sel_sge {α : Type} (k r : Fin 1024) (x y : α) :
    Scalar.select (IntOp.cmpi .sge (BitVec.ofNat 32 (k : ℕ)) (BitVec.ofNat 32 (r : ℕ))) x y = if r ≤ k then x else y := by
  have hk := k.isLt; have hr := r.isLt
  have h1 : (BitVec.ofNat 32 (r : ℕ)).sle (BitVec.ofNat 32 (k : ℕ)) = decide (r ≤ k) := by
    rw [Bool.eq_iff_iff, BitVec.sle_iff_toInt_le, BitVec.toInt_eq_toNat_of_lt, BitVec.toInt_eq_toNat_of_lt, BitVec.toNat_ofNat, BitVec.toNat_ofNat]
    · simp only [decide_eq_true_eq, Fin.le_def]; omega
    all_goals first | omega | (rw [BitVec.toNat_ofNat]; omega)
  show Scalar.select (BitVec.ofBool ((BitVec.ofNat 32 (r : ℕ)).sle (BitVec.ofNat 32 (k : ℕ)))) x y = _
  rw [h1]
  by_cases h : r ≤ k <;> simp [Scalar.select, h]

variable (k v q o a : Blk) (A : FVec Ideal S1024x128 .f32) (C : FVec Ideal S1024x1 .f32) (m il δ : Row) (S : FVec Ideal S1024x1024 .f32)
  (T : FVec Ideal S128x1024 .bf16) (r t : Fin 1024) (l : Fin 128)

/-! ### Reshapes to the same shape, transposes and constants -/

theorem pay3_eq : k0_pay3 (F := Ideal) k = k := by funext j; pointwise [k0_pay3]
theorem pay4_eq : k0_pay4 (F := Ideal) k = k := by funext j; pointwise [k0_pay4]
theorem pay13_eq : k0_pay13 (F := Ideal) k = k := by funext j; pointwise [k0_pay13]
theorem pay14_eq : k0_pay14 (F := Ideal) k = k := by funext j; pointwise [k0_pay14]
theorem pay39_eq : k0_pay39 (F := Ideal) k = k := by funext j; pointwise [k0_pay39]
theorem pay40_eq : k0_pay40 (F := Ideal) k = k := by funext j; pointwise [k0_pay40]
theorem pay41_eq : k0_pay41 (F := Ideal) k = k := by funext j; pointwise [k0_pay41]
theorem pay42_eq : k0_pay42 (F := Ideal) k = k := by funext j; pointwise [k0_pay42]
theorem pay48_eq : k0_pay48 (F := Ideal) k = k := by funext j; pointwise [k0_pay48]
theorem pay49_eq : k0_pay49 (F := Ideal) k = k := by funext j; pointwise [k0_pay49]
theorem pay58_eq : k0_pay58 (F := Ideal) k = k := by funext j; pointwise [k0_pay58]
theorem pay59_eq : k0_pay59 (F := Ideal) k = k := by funext j; pointwise [k0_pay59]
theorem pay43_at : k0_pay43 (F := Ideal) k (ix2 l r) = k (ix2 r l) := by pointwise [k0_pay43, pay39_eq]
theorem pay44_at : k0_pay44 (F := Ideal) k (ix2 l r) = k (ix2 r l) := by pointwise [k0_pay44, pay40_eq]
theorem pay45_at : k0_pay45 (F := Ideal) (ix2 r l) = 0 := by pointwise [k0_pay45]
theorem pay46_at : k0_pay46 (F := Ideal) (ix2 r 0) = 0 := by pointwise [k0_pay46]

/-! ### On the diagonal, the first head -/

theorem pay50_at : k0_pay50 (F := Ideal) k q (ix2 r t) = sD k q r t := by
  pointwise [k0_pay50, log2e_eq, mask_eq, pay39_eq, pay48_eq]
  rw [sel_sge t r]; rfl
theorem pay51_at : k0_pay51 (F := Ideal) S m il (ix2 r t) = pA (S (ix2 r t)) m il t := by
  pointwise [k0_pay51]; rfl
theorem pay52_at : k0_pay52 (F := Ideal) v o S m il δ (ix2 r t) = dA (S (ix2 r t)) v o m il δ r t := by
  pointwise [k0_pay52, pay51_at]; rfl
theorem pay54_at : k0_pay54 (F := Ideal) v C o S m il δ (ix2 r 0) = C (ix2 r 0) + ∑ t, dA (S (ix2 r t)) v o m il δ r t := by
  pointwise [k0_pay54, pay52_at]
theorem pay55_at : k0_pay55 (F := Ideal) A o S m il (ix2 r l) = A (ix2 r l) + ∑ t, pA (S (ix2 r t)) m il t * o (ix2 t l) := by
  pointwise [k0_pay55, pay51_at]
theorem pay56_at : k0_pay56 (F := Ideal) v A q o S m il δ (ix2 r l) = A (ix2 r l) + ∑ t, dA (S (ix2 r t)) v o m il δ r t * q (ix2 t l) := by
  pointwise [k0_pay56, k0_pay53, pay52_at]

/-! ### On the diagonal, the second head -/

theorem pay60_at : k0_pay60 (F := Ideal) k q m il (ix2 r t) = pA (sD k q r t) m il t := by
  pointwise [k0_pay60, log2e_eq, mask_eq]
  rw [sel_sge t r]; rfl
theorem pay61_at : k0_pay61 (F := Ideal) k v q o m il δ (ix2 r t) = dA (sD k q r t) v o m il δ r t := by
  pointwise [k0_pay61, pay60_at]; rfl
theorem pay63_at : k0_pay63 (F := Ideal) k v C q o m il δ (ix2 r 0) = C (ix2 r 0) + ∑ t, dA (sD k q r t) v o m il δ r t := by
  pointwise [k0_pay63, pay61_at]
theorem pay64_at : k0_pay64 (F := Ideal) k A q o m il (ix2 r l) = A (ix2 r l) + ∑ t, pA (sD k q r t) m il t * o (ix2 t l) := by
  pointwise [k0_pay64, pay60_at]
theorem pay65_at : k0_pay65 (F := Ideal) k v A q o m il δ (ix2 r l) = A (ix2 r l) + ∑ t, dA (sD k q r t) v o m il δ r t * q (ix2 t l) := by
  pointwise [k0_pay65, k0_pay62, pay61_at]

/-! ### Below the diagonal, the first head -/

theorem pay5_at : k0_pay5 (F := Ideal) k q m il (ix2 r t) = pA (sB k q r t) m il t := by
  pointwise [k0_pay5, log2e_eq, pay3_eq]; rfl
theorem pay6_at : k0_pay6 (F := Ideal) k v q o m il δ (ix2 r t) = dA (sB k q r t) v o m il δ r t := by
  pointwise [k0_pay6, pay5_at, pay4_eq]; rfl
theorem pay8_at : k0_pay8 (F := Ideal) k v C q o m il δ (ix2 r 0) = C (ix2 r 0) + ∑ t, dA (sB k q r t) v o m il δ r t := by
  pointwise [k0_pay8, pay6_at]
theorem pay9_at : k0_pay9 (F := Ideal) k A q o m il (ix2 r l) = A (ix2 r l) + ∑ t, pA (sB k q r t) m il t * o (ix2 t l) := by
  pointwise [k0_pay9, pay5_at, pay4_eq]
theorem pay10_at : k0_pay10 (F := Ideal) k v A q o m il δ (ix2 r l) = A (ix2 r l) + ∑ t, dA (sB k q r t) v o m il δ r t * q (ix2 t l) := by
  pointwise [k0_pay10, k0_pay7, pay6_at, pay3_eq]

/-! ### Below the diagonal, the second head -/

theorem pay15_at : k0_pay15 (F := Ideal) k q m il (ix2 r t) = pA (sB k q r t) m il t := by
  pointwise [k0_pay15, log2e_eq, pay13_eq]; rfl
theorem pay16_at : k0_pay16 (F := Ideal) k v q o m il δ (ix2 r t) = dA (sB k q r t) v o m il δ r t := by
  pointwise [k0_pay16, pay15_at, pay14_eq]; rfl
theorem pay18_at : k0_pay18 (F := Ideal) k v C q o m il δ (ix2 r 0) = C (ix2 r 0) + ∑ t, dA (sB k q r t) v o m il δ r t := by
  pointwise [k0_pay18, pay16_at]
theorem pay70_at : k0_pay70 (F := Ideal) A (k0_pay19 k q o m il) (ix2 r l) = A (ix2 r l) + ∑ t, pA (sB k q r t) m il t * o (ix2 t l) := by
  pointwise [k0_pay70, k0_pay19, pay15_at, pay14_eq]
theorem pay71_at : k0_pay71 (F := Ideal) A (k0_pay13 q) (k0_pay17 k v q o m il δ) (ix2 r l) = A (ix2 r l) + ∑ t, dA (sB k q r t) v o m il δ r t * q (ix2 t l) := by
  pointwise [k0_pay71, k0_pay17, pay16_at, pay13_eq]

/-! ### The query gradients' rows -/

/-- The scale of the scores. -/
abbrev SC : EReal := Ideal.ofBits .f32 0x3E000000#32

/-- The lower and the upper half of the lanes. -/
theorem sel_half {α : Type} (l : Fin 128) (x y : α) :
    Scalar.select (IntOp.cmpi .sge (BitVec.ofNat 32 (l : ℕ)) 64#32) x y = if 64 ≤ (l : ℕ) then x else y := by
  have h : ∀ l : Fin 128, IntOp.cmpi .sge (BitVec.ofNat 32 (l : ℕ)) 64#32 = BitVec.ofBool (decide (64 ≤ (l : ℕ))) := by decide +kernel
  rw [h]; by_cases hl : 64 ≤ (l : ℕ) <;> simp [Scalar.select, hl]
theorem sel_half' {α : Type} (l : Fin 128) (x y : α) :
    Scalar.select (IntOp.xori (IntOp.cmpi .sge (BitVec.ofNat 32 (l : ℕ)) 64#32) 1#1) x y = if 64 ≤ (l : ℕ) then y else x := by
  have h : ∀ l : Fin 128, IntOp.xori (IntOp.cmpi .sge (BitVec.ofNat 32 (l : ℕ)) 64#32) 1#1 = BitVec.ofBool (!decide (64 ≤ (l : ℕ))) := by decide +kernel
  rw [h]; by_cases hl : 64 ≤ (l : ℕ) <;> simp [Scalar.select, hl]

theorem rowsD_at (v0 v1 k1 q1 o0 o1 : Blk) (T0 T1 : FVec Ideal S128x1024 .bf16) (m0 il0 δ0 m1 il1 δ1 : Row) :
    k0_pay69 (F := Ideal) (k0_pay57 v0 T0 k0_pay47 o0 S m0 il0 δ0) (k0_pay66 k1 v1 T1 q1 o1 m1 il1 δ1) k0_pay67 k0_pay68 A (ix2 t l)
      = A (ix2 t l) + (if 64 ≤ (l : ℕ) then ∑ r, T1 (ix2 l r) * dA (sD k1 q1 r t) v1 o1 m1 il1 δ1 r t
          else ∑ r, T0 (ix2 l r) * dA (S (ix2 r t)) v0 o0 m0 il0 δ0 r t) * SC := by
  pointwise [k0_pay69, k0_pay57, k0_pay53, k0_pay66, k0_pay62, k0_pay67, k0_pay68, k0_pay47, pay52_at, pay61_at]
  rw [sel_half, sel_half']
  by_cases h : 64 ≤ (l : ℕ) <;> simp only [h, if_true, if_false, add_zero, zero_add]

theorem rowsB_at (k0 k1 v0 v1 q0 q1 o0 o1 : Blk) (T0 T1 : FVec Ideal S128x1024 .bf16) (m0 il0 δ0 m1 il1 δ1 : Row) :
    k0_pay72 (F := Ideal) T1 (k0_pay12 k0_pay2 (k0_pay11 k0 v0 T0 q0 o0 m0 il0 δ0)) (k0_pay17 k1 v1 q1 o1 m1 il1 δ1) A (ix2 t l)
      = A (ix2 t l) + (if 64 ≤ (l : ℕ) then ∑ r, T1 (ix2 l r) * dA (sB k1 q1 r t) v1 o1 m1 il1 δ1 r t
          else ∑ r, T0 (ix2 l r) * dA (sB k0 q0 r t) v0 o0 m0 il0 δ0 r t) * SC := by
  pointwise [k0_pay72, k0_pay12, k0_pay2, k0_pay11, k0_pay7, k0_pay17, pay6_at, pay16_at]
  rw [sel_half, sel_half']
  by_cases h : 64 ≤ (l : ℕ) <;> simp only [h, if_true, if_false, add_zero, zero_add]

/-! ### What a point's outputs hold -/

theorem pay76_at (B : FVec Ideal S1024x128 .f32) : k0_pay76 (F := Ideal) A B (ix2 r l) = if 64 ≤ (l : ℕ) then B (ix2 r l) else A (ix2 r l) := by
  pointwise [k0_pay76]
  exact sel_half _ _ _
theorem pay77_at (B : FVec Ideal S1024x128 .f32) : k0_pay77 (F := Ideal) A B (ix2 r l) = if 64 ≤ (l : ℕ) then B (ix2 r l) else A (ix2 r l) := by
  pointwise [k0_pay77]
  exact sel_half _ _ _
theorem sel_lane {α : Type} (a : Fin 2) (l : Fin 128) (x y : α) :
    Scalar.select (IntOp.cmpi .eq (BitVec.ofNat 32 (l : ℕ)) (BitVec.ofNat 32 (a : ℕ))) x y = if (l : ℕ) = a then x else y := by
  have h : ∀ (a : Fin 2) (l : Fin 128), IntOp.cmpi .eq (BitVec.ofNat 32 (l : ℕ)) (BitVec.ofNat 32 (a : ℕ)) = BitVec.ofBool (decide ((l : ℕ) = a)) := by decide +kernel
  rw [h]; by_cases hl : (l : ℕ) = a <;> simp [Scalar.select, hl]
theorem pay1_at (D : FVec Ideal S1024x1 .f32) :
    k0_pay1 (F := Ideal) (iota .tc S1x128 32 [1] iota_S1x128_d1_w32) D (k0_pay78 (iota .tc S1x128 32 [1] iota_S1x128_d1_w32)) (k0_pay79 C) k0_pay80 (ix2 r l)
      = if (l : ℕ) = 0 then 0 - C (ix2 r 0) else if (l : ℕ) = 1 then 0 - D (ix2 r 0) else 0 := by
  pointwise [k0_pay1, k0_pay78, k0_pay79, k0_pay80]
  exact (sel_lane 0 l _ _).trans (if_congr Iff.rfl rfl (sel_lane 1 l _ _))

end Cert.Kernel2Ideal.Fox

end
-- ==== Proof.Fox.Step.lean ====
/- The attention's gradient: one grid point's sums over all query rows. -/
module

public import proofs.«01_k».proof.Proof.Fox.Pay

@[expose] public section

set_option maxRecDepth 16384

noncomputable section

namespace Cert.Kernel2Ideal.Fox

open Cert.Kernel2Ideal Cert.Kernel2Ideal.Gen Idealize.ShloMosaic Idealize.ShloMosaic.TcCoe Idealize.SL.Sem
open Idealize.ShloMosaic.View (ld)

/-! ### The offsets of the loads -/

theorem trips1 (i : grid0.Coords) : (k0_t1_loop i).trips = 7 - (i 1).val := by
  have h : ∀ j : Fin 8, (Scf.Loop.trips (⟨Scalar.addi (BitVec.ofNat 32 j.val) 1#32, Scalar.addi (Scalar.addi (BitVec.ofNat 32 j.val) 1#32) (Scalar.muli (Scalar.divsi (Scalar.subi 8#32 (Scalar.addi (BitVec.ofNat 32 j.val) 1#32)) 1#32) 1#32), 1#32⟩ : Scf.Loop 32)) = 7 - j.val := by decide +kernel
  exact h (i 1)

theorem offD (j : Fin 8) : (Scalar.indexCast (Scalar.muli (BitVec.ofNat 32 j.val) 1024#32)).toNat = 1024 * j.val := by
  revert j; decide +kernel
theorem offB (j k : Fin 8) : (Scalar.indexCast (Scalar.muli (Scf.iv (Scalar.addi (BitVec.ofNat 32 j.val) 1#32) 1#32 k.val) 1024#32)).toNat = 1024 * (j.val + 1 + k.val) := by
  revert j k; decide +kernel

variable (X : In Ideal) (i : grid0.Coords) (k : Fin (k0_t1_loop i).trips)

theorem trip_lt : (i 1).val + 1 + k.val < 8 := by
  have h := k.isLt; have h2 := trips1 i; omega

/-- The block of query rows a trip is at. -/
def bT : Fin 8 := ⟨(i 1).val + 1 + k.val, trip_lt i k⟩
/-- The block of query rows on the diagonal. -/
def bD : Fin 8 := ⟨(i 1).val, (i 1).isLt⟩

theorem offB' : (Scalar.indexCast (Scalar.muli (Scf.iv (Scalar.addi (BitVec.ofNat 32 (i 1).val) 1#32) 1#32 k) 1024#32)).toNat = 1024 * (bT i k).val :=
  offB (i 1) ⟨k.val, by have := trip_lt i k; omega⟩

/-- Row `t` of query block `b`. -/
def row (b : Fin 8) (t : Fin 1024) : Fin 8192 := ⟨1024 * b.val + t.val, by omega⟩
/-- Lane `l` of head `e` of the pair. -/
def la (e : Fin 2) (l : Fin 128) : Fin 256 := ⟨128 * e.val + l.val, by omega⟩

def kB (e : Fin 2) : Blk := fun j => X.k (ix2 (j 0) (la e (j 1)))
def vB (e : Fin 2) : Blk := fun j => X.v (ix2 (j 0) (la e (j 1)))
def qB (e : Fin 2) (b : Fin 8) : Blk := fun j => X.q (ix2 (row b (j 0)) (la e (j 1)))
def oB (e : Fin 2) (b : Fin 8) : Blk := fun j => X.o (ix2 (row b (j 0)) (la e (j 1)))
def sR (e : Fin 8) (b : Fin 8) : Row := fun j => X.s (ix3 0 e (row b (j 2)))

theorem k0_eq : X.k0 = kB X 0 := by
  funext j; idx_vars j; unfold In.k0 kB; pointwise [pay39_eq]
  exact congrArg X.k ((ix2_inj ..).2 ⟨by first | rfl | exact Fin.ext (by simp [la]), Fin.ext (by simp [la])⟩)
theorem k1_eq : X.k1 = kB X 1 := by
  funext j; idx_vars j; unfold In.k1 kB; pointwise [pay40_eq]
  exact congrArg X.k ((ix2_inj ..).2 ⟨by first | rfl | exact Fin.ext (by simp [la]), Fin.ext (by simp [la])⟩)
theorem v0_eq : X.v0 = vB X 0 := by
  funext j; idx_vars j; unfold In.v0 vB; pointwise [pay41_eq]
  exact congrArg X.v ((ix2_inj ..).2 ⟨by first | rfl | exact Fin.ext (by simp [la]), Fin.ext (by simp [la])⟩)
theorem v1_eq : X.v1 = vB X 1 := by
  funext j; idx_vars j; unfold In.v1 vB; pointwise [pay42_eq]
  exact congrArg X.v ((ix2_inj ..).2 ⟨by first | rfl | exact Fin.ext (by simp [la]), Fin.ext (by simp [la])⟩)
theorem k0t_at (l : Fin 128) (r : Fin 1024) : X.k0t (ix2 l r) = X.k (ix2 r (la 0 l)) := by
  unfold In.k0t; pointwise [pay43_at]
  exact congrArg X.k ((ix2_inj ..).2 ⟨by first | rfl | exact Fin.ext (by simp [la]), Fin.ext (by simp [la])⟩)
theorem k1t_at (l : Fin 128) (r : Fin 1024) : X.k1t (ix2 l r) = X.k (ix2 r (la 1 l)) := by
  unfold In.k1t; pointwise [pay44_at]
  exact congrArg X.k ((ix2_inj ..).2 ⟨by first | rfl | exact Fin.ext (by simp [la]), Fin.ext (by simp [la])⟩)

theorem q0_eq : q0 X i k = qB X 0 (bT i k) := by
  funext j; idx_vars j; unfold q0 qB
  pointwise [k0_off10, offB' i k]
  exact congrArg X.q ((ix2_inj ..).2 ⟨Fin.ext (by simp [row]), Fin.ext (by simp [la])⟩)
theorem o0_eq : o0 X i k = oB X 0 (bT i k) := by
  funext j; idx_vars j; unfold o0 oB
  pointwise [k0_off10, offB' i k]
  exact congrArg X.o ((ix2_inj ..).2 ⟨Fin.ext (by simp [row]), Fin.ext (by simp [la])⟩)
theorem m0_eq : m0 X i k = sR X 0 (bT i k) := by
  funext j; idx_vars j; unfold m0 sR
  pointwise [k0_off11, offB' i k]
  exact congrArg X.s (congrArg (ix3 0 _) (Fin.ext (by simp [row])))
theorem l0_eq : l0 X i k = sR X 4 (bT i k) := by
  funext j; idx_vars j; unfold l0 sR
  pointwise [k0_off12, offB' i k]
  exact congrArg X.s (congrArg (ix3 0 _) (Fin.ext (by simp [row])))
theorem d0_eq : d0 X i k = sR X 2 (bT i k) := by
  funext j; idx_vars j; unfold d0 sR
  pointwise [k0_off13, offB' i k]
  exact congrArg X.s (congrArg (ix3 0 _) (Fin.ext (by simp [row])))
theorem q1_eq : q1 X i k = qB X 1 (bT i k) := by
  funext j; idx_vars j; unfold q1 qB
  pointwise [k0_off14, offB' i k]
  exact congrArg X.q ((ix2_inj ..).2 ⟨Fin.ext (by simp [row]), Fin.ext (by simp [la])⟩)
theorem o1_eq : o1 X i k = oB X 1 (bT i k) := by
  funext j; idx_vars j; unfold o1 oB
  pointwise [k0_off14, offB' i k]
  exact congrArg X.o ((ix2_inj ..).2 ⟨Fin.ext (by simp [row]), Fin.ext (by simp [la])⟩)
theorem m1_eq : m1 X i k = sR X 1 (bT i k) := by
  funext j; idx_vars j; unfold m1 sR
  pointwise [k0_off15, offB' i k]
  exact congrArg X.s (congrArg (ix3 0 _) (Fin.ext (by simp [row])))
theorem l1_eq : l1 X i k = sR X 5 (bT i k) := by
  funext j; idx_vars j; unfold l1 sR
  pointwise [k0_off16, offB' i k]
  exact congrArg X.s (congrArg (ix3 0 _) (Fin.ext (by simp [row])))
theorem d1_eq : d1 X i k = sR X 3 (bT i k) := by
  funext j; idx_vars j; unfold d1 sR
  pointwise [k0_off17, offB' i k]
  exact congrArg X.s (congrArg (ix3 0 _) (Fin.ext (by simp [row])))
theorem Q0_eq : Q0 X i = qB X 0 (bD i) := by
  funext j; idx_vars j; unfold Q0 qB
  pointwise [k0_off1, offD (i 1)]
  exact congrArg X.q ((ix2_inj ..).2 ⟨Fin.ext (by simp [row, bD]), Fin.ext (by simp [la])⟩)
theorem O0_eq : O0 X i = oB X 0 (bD i) := by
  funext j; idx_vars j; unfold O0 oB
  pointwise [k0_off1, offD (i 1)]
  exact congrArg X.o ((ix2_inj ..).2 ⟨Fin.ext (by simp [row, bD]), Fin.ext (by simp [la])⟩)
theorem M0_eq : M0 X i = sR X 0 (bD i) := by
  funext j; idx_vars j; unfold M0 sR
  pointwise [k0_off2, offD (i 1)]
  exact congrArg X.s (congrArg (ix3 0 _) (Fin.ext (by simp [row, bD])))
theorem L0_eq : L0 X i = sR X 4 (bD i) := by
  funext j; idx_vars j; unfold L0 sR
  pointwise [k0_off3, offD (i 1)]
  exact congrArg X.s (congrArg (ix3 0 _) (Fin.ext (by simp [row, bD])))
theorem D0_eq : D0 X i = sR X 2 (bD i) := by
  funext j; idx_vars j; unfold D0 sR
  pointwise [k0_off4, offD (i 1)]
  exact congrArg X.s (congrArg (ix3 0 _) (Fin.ext (by simp [row, bD])))
theorem Q1_eq : Q1 X i = qB X 1 (bD i) := by
  funext j; idx_vars j; unfold Q1 qB
  pointwise [k0_off5, offD (i 1)]
  exact congrArg X.q ((ix2_inj ..).2 ⟨Fin.ext (by simp [row, bD]), Fin.ext (by simp [la])⟩)
theorem O1_eq : O1 X i = oB X 1 (bD i) := by
  funext j; idx_vars j; unfold O1 oB
  pointwise [k0_off5, offD (i 1)]
  exact congrArg X.o ((ix2_inj ..).2 ⟨Fin.ext (by simp [row, bD]), Fin.ext (by simp [la])⟩)
theorem M1_eq : M1 X i = sR X 1 (bD i) := by
  funext j; idx_vars j; unfold M1 sR
  pointwise [k0_off6, offD (i 1)]
  exact congrArg X.s (congrArg (ix3 0 _) (Fin.ext (by simp [row, bD])))
theorem L1_eq : L1 X i = sR X 5 (bD i) := by
  funext j; idx_vars j; unfold L1 sR
  pointwise [k0_off7, offD (i 1)]
  exact congrArg X.s (congrArg (ix3 0 _) (Fin.ext (by simp [row, bD])))
theorem D1_eq : D1 X i = sR X 3 (bD i) := by
  funext j; idx_vars j; unfold D1 sR
  pointwise [k0_off8, offD (i 1)]
  exact congrArg X.s (congrArg (ix3 0 _) (Fin.ext (by simp [row, bD])))

/-! ### A point's scores, probabilities and their gradients, at every query row -/

/-- The row of the statistics that holds the `a`-th of head `e`. -/
def se (a : Fin 3) (e : Fin 2) : Fin 8 := ⟨2 * a.val + e.val, by omega⟩

def sX (j : Fin 8) (e : Fin 2) (r : Fin 1024) (K : Fin 8192) : EReal :=
  if 1024 * j.val + r.val ≤ K.val then (∑ l, (X.k (ix2 r (la e l)) : EReal) * X.q (ix2 K (la e l))) * L2 else ⊥
def pX (j : Fin 8) (e : Fin 2) (r : Fin 1024) (K : Fin 8192) : EReal :=
  Ideal.exp2 (sX X j e r K - X.s (ix3 0 (se 0 e) K)) * X.s (ix3 0 (se 2 e) K)
def dX (j : Fin 8) (e : Fin 2) (r : Fin 1024) (K : Fin 8192) : EReal :=
  pX X j e r K * ((∑ l, (X.v (ix2 r (la e l)) : EReal) * X.o (ix2 K (la e l))) - X.s (ix3 0 (se 1 e) K))

theorem exp2_bot : Ideal.exp2 ⊥ = 0 := by
  rfl

theorem pX_zero (j : Fin 8) (e : Fin 2) (r : Fin 1024) (K : Fin 8192) (h : K.val < 1024 * j.val) : pX X j e r K = 0 := by
  unfold pX sX
  rw [if_neg (by omega), EReal.bot_sub, exp2_bot, zero_mul]
theorem dX_zero (j : Fin 8) (e : Fin 2) (r : Fin 1024) (K : Fin 8192) (h : K.val < 1024 * j.val) : dX X j e r K = 0 := by
  unfold dX
  rw [pX_zero X j e r K h, zero_mul]

theorem pB_eq (j b : Fin 8) (h : j < b) (e : Fin 2) (r t : Fin 1024) :
    pA (sB (kB X e) (qB X e b) r t) (sR X (se 0 e) b) (sR X (se 2 e) b) t = pX X j e r (row b t) := by
  unfold pX sX
  rw [if_pos (by have := Fin.lt_def.1 h; have := r.isLt; simp only [row]; omega)]
  rfl
theorem pD_eq (j : Fin 8) (e : Fin 2) (r t : Fin 1024) :
    pA (sD (kB X e) (qB X e j) r t) (sR X (se 0 e) j) (sR X (se 2 e) j) t = pX X j e r (row j t) := by
  unfold pX sX pA sD
  rw [if_congr (show r ≤ t ↔ 1024 * j.val + r.val ≤ (row j t).val by simp only [row, Fin.le_def]; omega) rfl rfl]
  rfl
theorem dB_eq (j b : Fin 8) (h : j < b) (e : Fin 2) (r t : Fin 1024) :
    dA (sB (kB X e) (qB X e b) r t) (vB X e) (oB X e b) (sR X (se 0 e) b) (sR X (se 2 e) b) (sR X (se 1 e) b) r t = dX X j e r (row b t) := by
  unfold dX dA
  rw [pB_eq X j b h]; rfl
theorem dD_eq (j : Fin 8) (e : Fin 2) (r t : Fin 1024) :
    dA (sD (kB X e) (qB X e j) r t) (vB X e) (oB X e j) (sR X (se 0 e) j) (sR X (se 2 e) j) (sR X (se 1 e) j) r t = dX X j e r (row j t) := by
  unfold dX dA
  rw [pD_eq X j]; rfl

/-! ### The carried gradients -/

/-- A sum over one block of query rows. -/
def bsum (f : Fin 8192 → EReal) (b : ℕ) : EReal := if h : b < 8 then ∑ t, f (row ⟨b, h⟩ t) else 0

theorem bsum_row (f : Fin 8192 → EReal) (b : Fin 8) : bsum f b.val = ∑ t, f (row b t) := dif_pos b.isLt

theorem bsum_all (f : Fin 8192 → EReal) : ∑ b ∈ Finset.range 8, bsum f b = ∑ K, f K := by
  rw [Finset.sum_range, Fin.sum_univ_tiles 8 1024 rfl f]
  refine Finset.sum_congr rfl fun b _ => ?_
  rw [bsum_row]
  exact Finset.sum_congr rfl fun t _ => congrArg f (Fin.ext (by simp only [row]; omega))

theorem bsum_first (f : Fin 8192 → EReal) (j : Fin 8) (h : ∀ K : Fin 8192, K.val < 1024 * j.val → f K = 0) :
    ∑ b ∈ Finset.range (j.val + 1), bsum f b = ∑ t, f (row j t) := by
  rw [Finset.sum_range_succ, bsum_row, Finset.sum_eq_zero, zero_add]
  intro b hb
  have hb' := Finset.mem_range.1 hb
  have hj := j.isLt
  unfold bsum
  rw [dif_pos (by omega)]
  refine Finset.sum_eq_zero fun t _ => h _ ?_
  have := t.isLt
  simp only [row]; omega

/-- The carried gradients hold the sums over the first `n` query blocks. -/
structure Upto (j : Fin 8) (n : ℕ) (a : Carry Ideal) : Prop where
  dk0 : ∀ r l, a.1 (ix2 r l) = ∑ b ∈ Finset.range n, bsum (fun K => dX X j 0 r K * X.q (ix2 K (la 0 l))) b
  dv0 : ∀ r l, a.2.1 (ix2 r l) = ∑ b ∈ Finset.range n, bsum (fun K => pX X j 0 r K * X.o (ix2 K (la 0 l))) b
  dc0 : ∀ r, a.2.2.1 (ix2 r 0) = ∑ b ∈ Finset.range n, bsum (fun K => dX X j 0 r K) b
  dk1 : ∀ r l, a.2.2.2.1 (ix2 r l) = ∑ b ∈ Finset.range n, bsum (fun K => dX X j 1 r K * X.q (ix2 K (la 1 l))) b
  dv1 : ∀ r l, a.2.2.2.2.1 (ix2 r l) = ∑ b ∈ Finset.range n, bsum (fun K => pX X j 1 r K * X.o (ix2 K (la 1 l))) b
  dc1 : ∀ r, a.2.2.2.2.2 (ix2 r 0) = ∑ b ∈ Finset.range n, bsum (fun K => dX X j 1 r K) b

theorem S0_at (r t : Fin 1024) : S0 X i (ix2 r t) = sD (kB X 0) (qB X 0 (bD i)) r t := by
  unfold S0
  rw [pay50_at, Q0_eq, ← k0_eq]
  unfold In.k0
  rw [pay39_eq]

theorem diag_upto : Upto X (bD i) ((bD i).val + 1) (diag X i) := by
  have hd : ∀ (e : Fin 2) (r : Fin 1024) (K : Fin 8192), K.val < 1024 * (bD i).val → dX X (bD i) e r K = 0 := fun e r K h => dX_zero X _ e r K h
  have hz : ∀ (e : Fin 2) (r : Fin 1024) (g : Fin 8192 → EReal) (K : Fin 8192), K.val < 1024 * (bD i).val → dX X (bD i) e r K * g K = 0 :=
    fun e r g K h => by rw [dX_zero X _ e r K h, zero_mul]
  have hp : ∀ (e : Fin 2) (r : Fin 1024) (g : Fin 8192 → EReal) (K : Fin 8192), K.val < 1024 * (bD i).val → pX X (bD i) e r K * g K = 0 :=
    fun e r g K h => by rw [pX_zero X _ e r K h, zero_mul]
  constructor
  · intro r l
    rw [bsum_first _ _ (hz 0 r fun K => X.q (ix2 K (la 0 l)))]
    show k0_pay56 (F := Ideal) X.v0 k0_pay45 (k0_pay48 (Q0 X i)) (k0_pay49 (O0 X i)) (S0 X i) (M0 X i) (L0 X i) (D0 X i) (ix2 r l) = _
    rw [pay56_at, pay45_at, zero_add, pay48_eq, Q0_eq, pay49_eq, O0_eq, M0_eq, L0_eq, D0_eq, v0_eq]
    refine Finset.sum_congr rfl fun t _ => ?_
    rw [S0_at, ← dD_eq X (bD i) 0 r t]
    rfl
  · intro r l
    rw [bsum_first _ _ (hp 0 r fun K => X.o (ix2 K (la 0 l)))]
    show k0_pay55 (F := Ideal) k0_pay45 (k0_pay49 (O0 X i)) (S0 X i) (M0 X i) (L0 X i) (ix2 r l) = _
    rw [pay55_at, pay45_at, zero_add, pay49_eq, O0_eq, M0_eq, L0_eq]
    refine Finset.sum_congr rfl fun t _ => ?_
    rw [S0_at, ← pD_eq X (bD i) 0 r t]
    rfl
  · intro r
    rw [bsum_first _ _ (hd 0 r)]
    show k0_pay54 (F := Ideal) X.v0 k0_pay46 (k0_pay49 (O0 X i)) (S0 X i) (M0 X i) (L0 X i) (D0 X i) (ix2 r 0) = _
    rw [pay54_at, pay46_at, zero_add, pay49_eq, O0_eq, M0_eq, L0_eq, D0_eq, v0_eq]
    refine Finset.sum_congr rfl fun t _ => ?_
    rw [S0_at, ← dD_eq X (bD i) 0 r t]
    rfl
  · intro r l
    rw [bsum_first _ _ (hz 1 r fun K => X.q (ix2 K (la 1 l)))]
    show k0_pay65 (F := Ideal) X.k1 X.v1 k0_pay45 (k0_pay58 (Q1 X i)) (k0_pay59 (O1 X i)) (M1 X i) (L1 X i) (D1 X i) (ix2 r l) = _
    rw [pay65_at, pay45_at, zero_add, pay58_eq, pay59_eq, Q1_eq, O1_eq, M1_eq, L1_eq, k1_eq, D1_eq, v1_eq]
    refine Finset.sum_congr rfl fun t _ => ?_
    rw [← dD_eq X (bD i) 1 r t]
    rfl
  · intro r l
    rw [bsum_first _ _ (hp 1 r fun K => X.o (ix2 K (la 1 l)))]
    show k0_pay64 (F := Ideal) X.k1 k0_pay45 (k0_pay58 (Q1 X i)) (k0_pay59 (O1 X i)) (M1 X i) (L1 X i) (ix2 r l) = _
    rw [pay64_at, pay45_at, zero_add, pay58_eq, pay59_eq, Q1_eq, O1_eq, M1_eq, L1_eq, k1_eq]
    refine Finset.sum_congr rfl fun t _ => ?_
    rw [← pD_eq X (bD i) 1 r t]
    rfl
  · intro r
    rw [bsum_first _ _ (hd 1 r)]
    show k0_pay63 (F := Ideal) X.k1 X.v1 k0_pay46 (k0_pay58 (Q1 X i)) (k0_pay59 (O1 X i)) (M1 X i) (L1 X i) (D1 X i) (ix2 r 0) = _
    rw [pay63_at, pay46_at, zero_add, pay58_eq, pay59_eq, Q1_eq, O1_eq, M1_eq, L1_eq, k1_eq, D1_eq, v1_eq]
    refine Finset.sum_congr rfl fun t _ => ?_
    rw [← dD_eq X (bD i) 1 r t]
    rfl

theorem bD_lt : bD i < bT i k := by
  rw [Fin.lt_def]; simp only [bD, bT]; omega

theorem step_upto (a : Carry Ideal) (h : Upto X (bD i) (bT i k).val a) : Upto X (bD i) ((bT i k).val + 1) (carryStep X i k a) := by
  constructor
  · intro r l
    rw [Finset.sum_range_succ, bsum_row, ← h.dk0]
    show k0_pay10 (F := Ideal) X.k0 X.v0 a.1 (q0 X i k) (o0 X i k) (m0 X i k) (l0 X i k) (d0 X i k) (ix2 r l) = _
    rw [pay10_at, q0_eq, o0_eq, m0_eq, l0_eq, k0_eq, d0_eq, v0_eq]
    refine congrArg (_ + ·) (Finset.sum_congr rfl fun t _ => ?_)
    rw [← dB_eq X (bD i) (bT i k) (bD_lt i k) 0 r t]
    rfl
  · intro r l
    rw [Finset.sum_range_succ, bsum_row, ← h.dv0]
    show k0_pay9 (F := Ideal) X.k0 a.2.1 (q0 X i k) (o0 X i k) (m0 X i k) (l0 X i k) (ix2 r l) = _
    rw [pay9_at, q0_eq, o0_eq, m0_eq, l0_eq, k0_eq]
    refine congrArg (_ + ·) (Finset.sum_congr rfl fun t _ => ?_)
    rw [← pB_eq X (bD i) (bT i k) (bD_lt i k) 0 r t]
    rfl
  · intro r
    rw [Finset.sum_range_succ, bsum_row, ← h.dc0]
    show k0_pay8 (F := Ideal) X.k0 X.v0 a.2.2.1 (q0 X i k) (o0 X i k) (m0 X i k) (l0 X i k) (d0 X i k) (ix2 r 0) = _
    rw [pay8_at, q0_eq, o0_eq, m0_eq, l0_eq, k0_eq, d0_eq, v0_eq]
    refine congrArg (_ + ·) (Finset.sum_congr rfl fun t _ => ?_)
    rw [← dB_eq X (bD i) (bT i k) (bD_lt i k) 0 r t]
    rfl
  · intro r l
    rw [Finset.sum_range_succ, bsum_row, ← h.dk1]
    show k0_pay71 (F := Ideal) a.2.2.2.1 (k0_pay13 (q1 X i k)) (k0_pay17 X.k1 X.v1 (q1 X i k) (o1 X i k) (m1 X i k) (l1 X i k) (d1 X i k)) (ix2 r l) = _
    rw [pay71_at, q1_eq, o1_eq, m1_eq, l1_eq, k1_eq, d1_eq, v1_eq]
    refine congrArg (_ + ·) (Finset.sum_congr rfl fun t _ => ?_)
    rw [← dB_eq X (bD i) (bT i k) (bD_lt i k) 1 r t]
    rfl
  · intro r l
    rw [Finset.sum_range_succ, bsum_row, ← h.dv1]
    show k0_pay70 (F := Ideal) a.2.2.2.2.1 (k0_pay19 X.k1 (q1 X i k) (o1 X i k) (m1 X i k) (l1 X i k)) (ix2 r l) = _
    rw [pay70_at, q1_eq, o1_eq, m1_eq, l1_eq, k1_eq]
    refine congrArg (_ + ·) (Finset.sum_congr rfl fun t _ => ?_)
    rw [← pB_eq X (bD i) (bT i k) (bD_lt i k) 1 r t]
    rfl
  · intro r
    rw [Finset.sum_range_succ, bsum_row, ← h.dc1]
    show k0_pay18 (F := Ideal) X.k1 X.v1 a.2.2.2.2.2 (q1 X i k) (o1 X i k) (m1 X i k) (l1 X i k) (d1 X i k) (ix2 r 0) = _
    rw [pay18_at, q1_eq, o1_eq, m1_eq, l1_eq, k1_eq, d1_eq, v1_eq]
    refine congrArg (_ + ·) (Finset.sum_congr rfl fun t _ => ?_)
    rw [← dB_eq X (bD i) (bT i k) (bD_lt i k) 1 r t]
    rfl

/-- A point's loop ends with the sums over all query rows. -/
theorem state_upto (d : Vec Ideal S8192x128 .f32) : ∀ n, n ≤ (k0_t1_loop i).trips → Upto X (bD i) ((bD i).val + 1 + n) (state X i (diag X i, d) n).1
  | 0, _ => diag_upto X i
  | n + 1, hn => by
    have h := state_upto d n (by omega)
    unfold state
    rw [dif_pos (show n < (k0_t1_loop i).trips by omega)]
    exact step_upto X i ⟨n, by omega⟩ _ h

theorem final_upto (d : Vec Ideal S8192x128 .f32) : Upto X (bD i) 8 (final X i d).1 := by
  have h := state_upto X i (VecWindow.put d (k0_off9 i) S1024x128.size (diagRows X i d)) _ le_rfl
  rw [show (bD i).val + 1 + (k0_t1_loop i).trips = 8 by rw [trips1]; simp only [bD]; have := (i 1).isLt; have h8 : ((i 1).val < 8) := (i 1).isLt; omega] at h
  exact h

/-! ### A point's outputs -/

theorem dkOut_at (d : Vec Ideal S8192x128 .f32) (r : Fin 1024) (l : Fin 128) :
    dkOut X i d (ix2 r l) = if 64 ≤ (l : ℕ) then ∑ K, dX X (bD i) 1 r K * X.q (ix2 K (la 1 l)) else ∑ K, dX X (bD i) 0 r K * X.q (ix2 K (la 0 l)) := by
  unfold dkOut
  rw [pay76_at, (final_upto X i d).dk0, (final_upto X i d).dk1, bsum_all, bsum_all]
theorem dvOut_at (d : Vec Ideal S8192x128 .f32) (r : Fin 1024) (l : Fin 128) :
    dvOut X i d (ix2 r l) = if 64 ≤ (l : ℕ) then ∑ K, pX X (bD i) 1 r K * X.o (ix2 K (la 1 l)) else ∑ K, pX X (bD i) 0 r K * X.o (ix2 K (la 0 l)) := by
  unfold dvOut
  rw [pay77_at, (final_upto X i d).dv0, (final_upto X i d).dv1, bsum_all, bsum_all]
theorem dcOut_at (d : Vec Ideal S8192x128 .f32) (r : Fin 1024) (l : Fin 128) :
    dcOut X i d (ix2 r l) = if (l : ℕ) = 0 then 0 - ∑ K, dX X (bD i) 0 r K else if (l : ℕ) = 1 then 0 - ∑ K, dX X (bD i) 1 r K else 0 := by
  unfold dcOut
  rw [pay1_at, (final_upto X i d).dc0, (final_upto X i d).dc1, bsum_all, bsum_all]

/-! ### The query gradients -/

/-- What a point adds to a query row's gradient. -/
def rowX (j : Fin 8) (K : Fin 8192) (l : Fin 128) : EReal :=
  (if 64 ≤ (l : ℕ) then ∑ r, X.k (ix2 r (la 1 l)) * dX X j 1 r K else ∑ r, X.k (ix2 r (la 0 l)) * dX X j 0 r K) * SC

theorem rowX_zero (j : Fin 8) (K : Fin 8192) (l : Fin 128) (h : K.val < 1024 * j.val) : rowX X j K l = 0 := by
  unfold rowX
  simp only [dX_zero X j _ _ K h, mul_zero, Finset.sum_const_zero, ite_self, zero_mul]

theorem put_at (x : Vec Ideal S8192x128 .f32) (off : Fin 2 → ℕ) (b : Fin 8) (h0 : off 0 = 1024 * b.val) (h1 : off 1 = 0) (w : FVec Ideal S1024x128 .f32) (K : Fin 8192) (l : Fin 128) :
    VecWindow.put x off S1024x128.size w (ix2 K l)
      = if h : 1024 * b.val ≤ K.val ∧ K.val < 1024 * b.val + 1024 then w (ix2 ⟨K.val - 1024 * b.val, by omega⟩ l) else x (ix2 K l) := by
  unfold VecWindow.put
  by_cases h : 1024 * b.val ≤ K.val ∧ K.val < 1024 * b.val + 1024
  · have hl := l.isLt
    have hc : ∀ a, off a ≤ ((ix2 K l : S8192x128.Idx) a).val ∧ ((ix2 K l : S8192x128.Idx) a).val < off a + S1024x128.size a := by
      intro a
      match a with
      | ⟨0, _⟩ => show off 0 ≤ K.val ∧ K.val < off 0 + 1024; omega
      | ⟨1, _⟩ => show off 1 ≤ l.val ∧ l.val < off 1 + 128; omega
    rw [dif_pos h, dif_pos hc]
    refine congrArg w (funext fun a => Fin.ext ?_)
    match a with
    | ⟨0, _⟩ => exact (Rect.unitLocal_val _ hc 0).trans (by rw [h0]; rfl)
    | ⟨1, _⟩ => exact (Rect.unitLocal_val _ hc 1).trans (by rw [h1]; rfl)
  · rw [dif_neg h, dif_neg]
    intro hh
    refine h ?_
    have : off 0 ≤ K.val ∧ K.val < off 0 + 1024 := hh 0
    omega

theorem off9_0 : k0_off9 i 0 = 1024 * (bD i).val := offD (i 1)
theorem off18_0 : k0_off18 i k 0 = 1024 * (bT i k).val := offB' i k

theorem diagRows_at (d : Vec Ideal S8192x128 .f32) (t : Fin 1024) (l : Fin 128) :
    diagRows X i d (ix2 t l) = d (ix2 (row (bD i) t) l) + rowX X (bD i) (row (bD i) t) l := by
  unfold diagRows
  rw [rowsD_at, pay49_eq, pay58_eq, pay59_eq, O0_eq, M0_eq, L0_eq, D0_eq, Q1_eq, O1_eq, M1_eq, L1_eq, D1_eq, v0_eq, v1_eq, k1_eq]
  unfold rowX
  simp only [S0_at, k0t_at, k1t_at]
  congr 1
  · pointwise [k0_off9, offD (i 1)]
    exact congrArg d ((ix2_inj ..).2 ⟨Fin.ext (by simp [row, bD]), rfl⟩)
  · simp only [← dD_eq X (bD i)]
    rfl

theorem rowsStep_at (d : Vec Ideal S8192x128 .f32) (t : Fin 1024) (l : Fin 128) :
    rowsStep X i k d (ix2 t l) = d (ix2 (row (bT i k) t) l) + rowX X (bD i) (row (bT i k) t) l := by
  unfold rowsStep
  rw [rowsB_at, q0_eq, o0_eq, m0_eq, l0_eq, d0_eq, q1_eq, o1_eq, m1_eq, l1_eq, d1_eq, v0_eq, v1_eq, k0_eq, k1_eq]
  unfold rowX
  simp only [k0t_at, k1t_at]
  congr 1
  · pointwise [k0_off18, offB' i k]
    exact congrArg d ((ix2_inj ..).2 ⟨Fin.ext (by simp [row]), rfl⟩)
  · simp only [← dB_eq X (bD i) (bT i k) (bD_lt i k)]
    rfl

theorem state_rows (d : Vec Ideal S8192x128 .f32) (K : Fin 8192) (l : Fin 128) : ∀ n, n ≤ (k0_t1_loop i).trips →
    (state X i (diag X i, VecWindow.put d (k0_off9 i) S1024x128.size (diagRows X i d)) n).2 (ix2 K l)
      = if K.val < 1024 * ((bD i).val + 1 + n) then d (ix2 K l) + rowX X (bD i) K l else d (ix2 K l)
  | 0, _ => by
    unfold state
    show VecWindow.put _ _ _ _ _ = _
    rw [put_at d _ (bD i) (off9_0 i) rfl]
    by_cases h : 1024 * (bD i).val ≤ K.val ∧ K.val < 1024 * (bD i).val + 1024
    · rw [dif_pos h, diagRows_at, if_pos (by omega)]
      have e : row (bD i) ⟨K.val - 1024 * (bD i).val, by omega⟩ = K := Fin.ext (by simp only [row]; omega)
      rw [e]
    · rw [dif_neg h]
      split
      · rw [rowX_zero X _ K l (by omega), add_zero]
      · rfl
  | n + 1, hn => by
    have ih := fun K' => state_rows d K' l n (by omega)
    unfold state
    rw [dif_pos (show n < (k0_t1_loop i).trips by omega)]
    show VecWindow.put _ _ _ _ _ = _
    rw [put_at _ _ (bT i ⟨n, by omega⟩) (off18_0 i _) rfl]
    have hb : (bT i ⟨n, by omega⟩).val = (bD i).val + 1 + n := rfl
    by_cases h : 1024 * (bT i ⟨n, by omega⟩).val ≤ K.val ∧ K.val < 1024 * (bT i ⟨n, by omega⟩).val + 1024
    · rw [dif_pos h, rowsStep_at]
      have e : row (bT i ⟨n, by omega⟩) ⟨K.val - 1024 * (bT i ⟨n, by omega⟩).val, by omega⟩ = K := Fin.ext (by simp only [row]; omega)
      rw [e, ih K, if_neg (by omega), if_pos (by omega)]
    · rw [dif_neg h, ih K]
      exact if_congr (by omega) rfl rfl

theorem dqOut_at (d : Vec Ideal S8192x128 .f32) (K : Fin 8192) (l : Fin 128) :
    dqOut X i d (ix2 K l) = d (ix2 K l) + rowX X (bD i) K l := by
  unfold dqOut final
  rw [state_rows X i d K l _ le_rfl, if_pos]
  rw [trips1]; simp only [bD]
  have h8 : (i 1).val < 8 := (i 1).isLt
  have := K.isLt
  omega

end Cert.Kernel2Ideal.Fox

end
-- ==== Proof.Fox.Frame.lean ====
/- The attention gradient: the run, every output named. -/
module

public import proofs.«01_k».proof.Proof.Fox.Run
public import proofs.«01_k».proof.Proof.Gen.Kernel2Ideal.Frame
public import Idealize.ShloMosaic.Lib.Claim

@[expose] public section

set_option maxRecDepth 16384

noncomputable section

namespace Cert.Kernel2Ideal.Fox

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The points that open a pair of heads are the multiples of eight. -/
theorem opens_iff : ∀ t : Fin cfg0.N, Opens (grid0.coords t) ↔ t.val % 8 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [Opens, e0, e1]
    word_cmp
   : ∀ t : Fin grid0.N, Opens (grid0.coords t) ↔ t.val % 8 = 0)

abbrev ms0 (t : Fin cfg0.N) : Memref sig .tc .vmem S8192x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x8x8192 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x256 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S8192x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x128 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S1024x128 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S1024x128 .f32 := win0_8.stage (cfg0.slots t 8)
abbrev hs8 (t : Fin cfg0.N) : (ms8 t).IsWhole := hstage0_8 ((cfg0.slots t 8).cast nbuf0_8)

/-- A point's input blocks. -/
def blocks (c : Dev nD) (t : Fin cfg0.N) : In F := ⟨iblk m c 0 t, iblk m c 1 t, iblk m c 2 t, iblk m c 3 t, iblk m c 4 t⟩

/-- The query gradients' block after position `n`: cleared where a pair of heads opens, else gone on with. -/
def dqAt (c : Dev nD) : (n : ℕ) → n < cfg0.N → Vec F S8192x128 .f32
  | 0, h => dqOut (blocks m c ⟨0, h⟩) (grid0.coords ⟨0, h⟩) k0_pay38
  | n + 1, h => dqOut (blocks m c ⟨n + 1, h⟩) (grid0.coords ⟨n + 1, h⟩) (if (n + 1) % 8 = 0 then k0_pay38 else dqAt c n (Nat.lt_of_succ_lt h))

/-- The query gradients' block as the point's own additions find it. -/
def start (c : Dev nD) (t : Fin cfg0.N) : Vec F S8192x128 .f32 :=
  if t.val % 8 = 0 then k0_pay38 else dqAt m c (t.val - 1) (Nat.lt_of_le_of_lt (Nat.sub_le _ _) t.isLt)

theorem dqAt_eq (c : Dev nD) (t : Fin cfg0.N) : dqAt m c t.val t.isLt = dqOut (blocks m c t) (grid0.coords t) (start m c t) := by
  obtain ⟨n, h⟩ := t
  cases n with
  | zero => rfl
  | succ n => rfl

/-- The proof data: inputs keep their blocks, outputs hold what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dqAt m c t.val t.isLt
    | ⟨6, _⟩ => dkOut (blocks m c t) (grid0.coords t) (start m c t)
    | ⟨7, _⟩ => dvOut (blocks m c t) (grid0.coords t) (start m c t)
    | ⟨8, _⟩ => dcOut (blocks m c t) (grid0.coords t) (start m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = dqOut (blocks m c t) (grid0.coords t) (start m c t) := by dsimp only [dats]; exact dqAt_eq m c t
theorem after0_6 (c : Dev nD) (t : Fin cfg0.N) : (dats m 0 c).after 6 t = dkOut (blocks m c t) (grid0.coords t) (start m c t) := by dsimp only [dats]
theorem after0_7 (c : Dev nD) (t : Fin cfg0.N) : (dats m 0 c).after 7 t = dvOut (blocks m c t) (grid0.coords t) (start m c t) := by dsimp only [dats]
theorem after0_8 (c : Dev nD) (t : Fin cfg0.N) : (dats m 0 c).after 8 t = dcOut (blocks m c t) (grid0.coords t) (start m c t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- Inside a pair of heads the query gradients' buffer holds what the point before left. -/
theorem before0_5 (c : Dev nD) (t : Fin cfg0.N) (h : ¬t.val % 8 = 0) (d) : (dats m 0 c).before 5 t d = start m c t := by
  have h0 : t.val ≠ 0 := fun e => h (by rw [e])
  have hf : (cfg0.win 5).flush ⟨t.val - 1, Nat.lt_of_le_of_lt (Nat.sub_le _ _) t.isLt⟩ = false := by
    rw [← Bool.not_eq_true]; intro e
    have := (flush0_5 _).mp e; dsimp only at this; omega
  rw [(dats m 0 c).before_out_kept 5 rfl t h0 hf (fun _ => rfl) (fun _ _ => rfl) d]
  unfold start; rw [if_neg h]
  dsimp only [dats]

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  by_cases h : t.val % 8 = 0
  · rw [show start m c t = k0_pay38 from if_pos h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply runA (blocks m c t) (grid0.coords t) c _ (hs0 t) _ (hs1 t) _ (hs2 t) _ (hs3 t) _ (hs4 t) _ (hs5 t) _ (hs6 t) _ (hs7 t) _ (hs8 t) ((opens_iff t).mpr h) Set.univ _
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · simp only [before0_5 m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply runB (blocks m c t) (grid0.coords t) c _ (hs0 t) _ (hs1 t) _ (hs2 t) _ (hs3 t) _ (hs4 t) _ (hs5 t) _ (hs6 t) _ (hs7 t) _ (hs8 t) (fun e => h ((opens_iff t).mp e)) (start m c t) Set.univ _
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every fair execution ends with the pipeline's arrays as computed and no counter raised. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged, no counter raised. -/
theorem unchanged_quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Kernel2Ideal.Fox

end
-- ==== Proof.Fox.Out.lean ====
/- The attention's gradient: the four outputs over the whole arrays. -/
module

public import proofs.«01_k».proof.Proof.Fox.Step
public import proofs.«01_k».proof.Proof.Fox.Frame
public import Idealize.ShloMosaic.Lib.Pipeline.ReadBack
public import Idealize.ShloMosaic.Lib.Pipeline.ValueKit

@[expose] public section

set_option maxRecDepth 16384

noncomputable section

namespace Cert.Kernel2Ideal.Fox

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

theorem idxIn : ∀ t : Fin cfg0.N, win0_0.index t = ![0, t.val / 8] ∧ win0_1.index t = ![0, t.val / 8] ∧ win0_2.index t = ![t.val / 8, 0, 0]
    ∧ win0_3.index t = ![t.val % 8, t.val / 8] ∧ win0_4.index t = ![t.val % 8, t.val / 8] ∧ t.val < 32 :=
  (by decide +kernel : ∀ t : Fin grid0.N, _)
theorem idxOut : ∀ t : Fin cfg0.N, win0_5.index t = ![0, t.val / 8] ∧ win0_6.index t = ![t.val % 8, t.val / 8] ∧ win0_7.index t = ![t.val % 8, t.val / 8]
    ∧ win0_8.index t = ![t.val % 8, t.val / 8] ∧ t.val < 32 :=
  (by decide +kernel : ∀ t : Fin grid0.N, _)

theorem N_lt (t : Fin cfg0.N) : t.val < 32 := Nat.lt_of_lt_of_eq t.isLt N_0

/-- The pair of heads and the key block of a point. -/
def pt (t : Fin cfg0.N) : Fin 4 := ⟨t.val / 8, by have := N_lt t; omega⟩
def jt (t : Fin cfg0.N) : Fin 8 := ⟨t.val % 8, by omega⟩

theorem bD_coords (t : Fin cfg0.N) : bD (grid0.coords t) = jt t := by
  have e1 : (grid0.coords t 1).val = t.val / 1 % 8 := Pipeline.Grid.coords_val t 1 (by decide) rfl
  refine Fin.ext ?_
  show (grid0.coords t 1).val = t.val % 8
  omega

/-- Lane `l` of head `e` of pair `p`, over all heads. -/
def gl (p : Fin 4) (e : Fin 2) (l : Fin 128) : Fin 1024 := ⟨256 * p.val + 128 * e.val + l.val, by omega⟩

/-- The call's operands. -/
structure Arr where
  Q : FVec Ideal S8192x1024 .bf16
  O : FVec Ideal S8192x1024 .bf16
  S : FVec Ideal S4x8x8192 .f32
  Y : FVec Ideal S8192x1024 .bf16
  W : FVec Ideal S8192x1024 .bf16

section
variable (A : Arr) (p : Fin 4) (e : Fin 2) (R K : Fin 8192)
def sA : EReal := if R.val ≤ K.val then (∑ l, A.Y (ix2 R (gl p e l)) * A.Q (ix2 K (gl p e l))) * L2 else ⊥
def pA' : EReal := Ideal.exp2 (sA A p e R K - A.S (ix3 p (se 0 e) K)) * A.S (ix3 p (se 2 e) K)
def dA' : EReal := pA' A p e R K * ((∑ l, A.W (ix2 R (gl p e l)) * A.O (ix2 K (gl p e l))) - A.S (ix3 p (se 1 e) K))
end

/-- The operands the host lines leave. -/
def arr (c : Dev nD) : Arr := ⟨V m c main_v30, V m c main_v75, V m c main_v125, V m c main_v46, V m c main_v61⟩

section
variable (c : Dev nD) (t : Fin cfg0.N)

theorem blk_q (K : Fin 8192) (e : Fin 2) (l : Fin 128) : (blocks m c t).q (ix2 K (la e l)) = (arr m c).Q (ix2 K (gl (pt t) e l)) := by
  show (V m c main_v30) (((cfg0.win 0).blk t).view.emb _) = V m c main_v30 _
  have h : ((cfg0.win 0).blk t).view.emb (ix2 K (la e l)) = ix2 K (gl (pt t) e l) := by blk_ext [idxIn t] <;> simp [gl, la, pt] <;> omega
  rw [h]
theorem blk_o (K : Fin 8192) (e : Fin 2) (l : Fin 128) : (blocks m c t).o (ix2 K (la e l)) = (arr m c).O (ix2 K (gl (pt t) e l)) := by
  show (V m c main_v75) (((cfg0.win 1).blk t).view.emb _) = V m c main_v75 _
  have h : ((cfg0.win 1).blk t).view.emb (ix2 K (la e l)) = ix2 K (gl (pt t) e l) := by blk_ext [idxIn t] <;> simp [gl, la, pt] <;> omega
  rw [h]
theorem blk_s (a : Fin 8) (K : Fin 8192) : (blocks m c t).s (ix3 0 a K) = (arr m c).S (ix3 (pt t) a K) := by
  show (V m c main_v125) (((cfg0.win 2).blk t).view.emb _) = V m c main_v125 _
  have h : ((cfg0.win 2).blk t).view.emb (ix3 0 a K) = ix3 (pt t) a K := by blk_ext [idxIn t] <;> simp [pt] <;> omega
  rw [h]
theorem blk_k (r : Fin 1024) (e : Fin 2) (l : Fin 128) : (blocks m c t).k (ix2 r (la e l)) = (arr m c).Y (ix2 (row (jt t) r) (gl (pt t) e l)) := by
  show (V m c main_v46) (((cfg0.win 3).blk t).view.emb _) = V m c main_v46 _
  have h : ((cfg0.win 3).blk t).view.emb (ix2 r (la e l)) = ix2 (row (jt t) r) (gl (pt t) e l) := by blk_ext [idxIn t] <;> simp [gl, la, pt, row, jt] <;> omega
  rw [h]
theorem blk_v (r : Fin 1024) (e : Fin 2) (l : Fin 128) : (blocks m c t).v (ix2 r (la e l)) = (arr m c).W (ix2 (row (jt t) r) (gl (pt t) e l)) := by
  show (V m c main_v61) (((cfg0.win 4).blk t).view.emb _) = V m c main_v61 _
  have h : ((cfg0.win 4).blk t).view.emb (ix2 r (la e l)) = ix2 (row (jt t) r) (gl (pt t) e l) := by blk_ext [idxIn t] <;> simp [gl, la, pt, row, jt] <;> omega
  rw [h]

variable (e : Fin 2) (r : Fin 1024) (K : Fin 8192)

theorem sX_eq : sX (blocks m c t) (jt t) e r K = sA (arr m c) (pt t) e (row (jt t) r) K := by
  unfold sX sA
  refine if_congr Iff.rfl (congrArg (· * L2) (Finset.sum_congr rfl fun l _ => ?_)) rfl
  rw [blk_k, blk_q]
theorem pX_eq : pX (blocks m c t) (jt t) e r K = pA' (arr m c) (pt t) e (row (jt t) r) K := by
  unfold pX pA'
  rw [sX_eq, blk_s, blk_s]
theorem dX_eq : dX (blocks m c t) (jt t) e r K = dA' (arr m c) (pt t) e (row (jt t) r) K := by
  unfold dX dA'
  rw [pX_eq, blk_s]
  refine congrArg (fun x => _ * (x - _)) (Finset.sum_congr rfl fun l _ => ?_)
  rw [blk_v, blk_o]
end

/-- The head of a pair a lane belongs to. -/
def hd (l : Fin 128) : Fin 2 := if 64 ≤ l.val then 1 else 0

/-- Pair and lane of a column of the outputs. -/
def pc (x : Fin 512) : Fin 4 := ⟨x.val / 128, by omega⟩
def lc (x : Fin 512) : Fin 128 := ⟨x.val % 128, by omega⟩

section
variable (A : Arr)
/-- One key block's part of the query gradient. -/
def rowA (p : Fin 4) (l : Fin 128) (K : Fin 8192) (j : Fin 8) : EReal := (∑ r : Fin 1024, A.Y (ix2 (row j r) (gl p (hd l) l)) * dA' A p (hd l) (row j r) K) * SC
def GdqP (K : Fin 8192) (p : Fin 4) (l : Fin 128) : EReal := ∑ j : Fin 8, rowA A p l K j
def GdkP (R : Fin 8192) (p : Fin 4) (l : Fin 128) : EReal := ∑ K : Fin 8192, dA' A p (hd l) R K * A.Q (ix2 K (gl p (hd l) l))
def GdvP (R : Fin 8192) (p : Fin 4) (l : Fin 128) : EReal := ∑ K : Fin 8192, pA' A p (hd l) R K * A.O (ix2 K (gl p (hd l) l))
def GdcP (R : Fin 8192) (p : Fin 4) (l : Fin 128) : EReal :=
  if l.val = 0 then 0 - ∑ K : Fin 8192, dA' A p 0 R K else if l.val = 1 then 0 - ∑ K : Fin 8192, dA' A p 1 R K else 0
def Gdq (K : Fin 8192) (x : Fin 512) : EReal := GdqP A K (pc x) (lc x)
def Gdk (R : Fin 8192) (x : Fin 512) : EReal := GdkP A R (pc x) (lc x)
def Gdv (R : Fin 8192) (x : Fin 512) : EReal := GdvP A R (pc x) (lc x)
def Gdc (R : Fin 8192) (x : Fin 512) : EReal := GdcP A R (pc x) (lc x)
end

section
variable (c : Dev nD) (t : Fin cfg0.N)

theorem dk_point (d : Vec Ideal S8192x128 .f32) (r : Fin 1024) (l : Fin 128) : dkOut (blocks m c t) (grid0.coords t) d (ix2 r l) = GdkP (arr m c) (row (jt t) r) (pt t) l := by
  rw [dkOut_at, bD_coords]
  unfold GdkP hd
  split_ifs <;> exact Finset.sum_congr rfl fun K _ => by rw [dX_eq, blk_q]
theorem dv_point (d : Vec Ideal S8192x128 .f32) (r : Fin 1024) (l : Fin 128) : dvOut (blocks m c t) (grid0.coords t) d (ix2 r l) = GdvP (arr m c) (row (jt t) r) (pt t) l := by
  rw [dvOut_at, bD_coords]
  unfold GdvP hd
  split_ifs <;> exact Finset.sum_congr rfl fun K _ => by rw [pX_eq, blk_o]
theorem dc_point (d : Vec Ideal S8192x128 .f32) (r : Fin 1024) (l : Fin 128) : dcOut (blocks m c t) (grid0.coords t) d (ix2 r l) = GdcP (arr m c) (row (jt t) r) (pt t) l := by
  rw [dcOut_at, bD_coords]
  unfold GdcP
  simp only [dX_eq]
theorem row_point (K : Fin 8192) (l : Fin 128) : rowX (blocks m c t) (jt t) K l = rowA (arr m c) (pt t) l K (jt t) := by
  unfold rowX rowA hd
  split_ifs <;> exact congrArg (· * SC) (Finset.sum_congr rfl fun r _ => by rw [dX_eq, blk_k])
end

/-- The query gradients' block after a point: the key blocks so far. -/
theorem dqAt_sum (c : Dev nD) (K : Fin 8192) (l : Fin 128) : ∀ (n : ℕ) (h : n < cfg0.N),
    dqAt m c n h (ix2 K l) = ∑ j ∈ Finset.range (n % 8 + 1), if hj : j < 8 then rowA (arr m c) (pt ⟨n, h⟩) l K ⟨j, hj⟩ else 0 := by
  have one (t : Fin cfg0.N) (d : Vec Ideal S8192x128 .f32) : dqOut (blocks m c t) (grid0.coords t) d (ix2 K l) = d (ix2 K l) + rowA (arr m c) (pt t) l K (jt t) := by
    rw [dqOut_at, bD_coords, row_point]
  have z : (k0_pay38 (F := Ideal)) (ix2 K l) = 0 := by pointwise [k0_pay38]
  intro n
  induction n with
  | zero =>
    intro h
    refine (one ⟨0, h⟩ _).trans ?_
    rw [z, zero_add, Nat.zero_mod, zero_add, Finset.sum_range_one, dif_pos (by norm_num)]
    rfl
  | succ n ih =>
    intro h
    have hj : (n + 1) % 8 < 8 := by omega
    refine (one ⟨n + 1, h⟩ _).trans ?_
    by_cases h0 : (n + 1) % 8 = 0
    · rw [if_pos h0, z, zero_add, h0, zero_add, Finset.sum_range_one, dif_pos (by norm_num)]
      exact congrArg (rowA _ _ l K) (Fin.ext h0)
    · rw [if_neg h0, ih, Finset.sum_range_succ _ ((n + 1) % 8), dif_pos hj]
      have e1 : n % 8 + 1 = (n + 1) % 8 := by omega
      have e2 : pt ⟨n, Nat.lt_of_succ_lt h⟩ = pt ⟨n + 1, h⟩ := Fin.ext (by simp only [pt]; omega)
      rw [e1, e2]
      rfl

theorem flush5 : ∀ t : Fin cfg0.N, (cfg0.win 5).flush t = true → t.val % 8 = 7 := (by decide +kernel : ∀ t : Fin grid0.N, _)

/-- The column of a pair's lane. -/
def col (p : Fin 4) (l : Fin 128) : Fin 512 := ⟨128 * p.val + l.val, by omega⟩
theorem pc_col (p : Fin 4) (l : Fin 128) : pc (col p l) = p := Fin.ext (by simp only [pc, col]; omega)
theorem lc_col (p : Fin 4) (l : Fin 128) : lc (col p l) = l := Fin.ext (by simp only [lc, col]; omega)

section
variable (c : Dev nD)

theorem final5 : (dats m 0 c).arrAt 5 cfg0.N = fun i : S8192x512.Idx => Gdq (arr m c) (i 0) (i 1) := by
  refine (dats m 0 c).arrAt_eq_of_covers 5 _ (by decide +kernel) fun t hf y => ?_
  have h7 := flush5 t hf
  blk_simp
  rw [after0_5, ← dqAt_eq]
  idx_vars y
  have a0 : ((View.whole main_v126_0).slice (win0_5.rect t)).emb (ix2 y0 y1) = ix2 y0 (col (pt t) y1) := by blk_ext [idxOut t] <;> simp [pt, col] <;> omega
  rw [a0, dqAt_sum, h7, Finset.sum_range]
  show _ = GdqP _ y0 (pc (col (pt t) y1)) (lc (col (pt t) y1))
  rw [pc_col, lc_col]
  exact Finset.sum_congr rfl fun j _ => dif_pos j.isLt

theorem final6 : (dats m 0 c).arrAt 6 cfg0.N = fun i : S8192x512.Idx => Gdk (arr m c) (i 0) (i 1) := by
  refine (dats m 0 c).arrAt_eq_of_covers 6 _ (by decide +kernel) fun t hf y => ?_
  blk_simp
  rw [after0_6]
  idx_vars y
  have a0 : ((View.whole main_v126_1).slice (win0_6.rect t)).emb (ix2 y0 y1) = ix2 (row (jt t) y0) (col (pt t) y1) := by blk_ext [idxOut t] <;> simp [pt, col, row, jt] <;> omega
  rw [a0, dk_point]
  show _ = GdkP _ (row (jt t) y0) (pc (col (pt t) y1)) (lc (col (pt t) y1))
  rw [pc_col, lc_col]

theorem final7 : (dats m 0 c).arrAt 7 cfg0.N = fun i : S8192x512.Idx => Gdv (arr m c) (i 0) (i 1) := by
  refine (dats m 0 c).arrAt_eq_of_covers 7 _ (by decide +kernel) fun t hf y => ?_
  blk_simp
  rw [after0_7]
  idx_vars y
  have a0 : ((View.whole main_v126_2).slice (win0_7.rect t)).emb (ix2 y0 y1) = ix2 (row (jt t) y0) (col (pt t) y1) := by blk_ext [idxOut t] <;> simp [pt, col, row, jt] <;> omega
  rw [a0, dv_point]
  show _ = GdvP _ (row (jt t) y0) (pc (col (pt t) y1)) (lc (col (pt t) y1))
  rw [pc_col, lc_col]

theorem final8 : (dats m 0 c).arrAt 8 cfg0.N = fun i : S8192x512.Idx => Gdc (arr m c) (i 0) (i 1) := by
  refine (dats m 0 c).arrAt_eq_of_covers 8 _ (by decide +kernel) fun t hf y => ?_
  blk_simp
  rw [after0_8]
  idx_vars y
  have a0 : ((View.whole main_v126_3).slice (win0_8.rect t)).emb (ix2 y0 y1) = ix2 (row (jt t) y0) (col (pt t) y1) := by blk_ext [idxOut t] <;> simp [pt, col, row, jt] <;> omega
  rw [a0, dc_point]
  show _ = GdcP _ (row (jt t) y0) (pc (col (pt t) y1)) (lc (col (pt t) y1))
  rw [pc_col, lc_col]
end

end Cert.Kernel2Ideal.Fox

end
-- ==== Proof.Fox.Math.lean ====
/- The forgetting attention and its gradient over the reals. -/
module

public import Idealize.ShloMosaic.Lib.Pointwise

@[expose] public section

noncomputable section

namespace Cert.Attn

open Idealize.ShloMosaic

/-! ### Reals among the extended reals -/

theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem coe_sum' {ι : Type*} (s : Finset ι) {f : ι → EReal} {g : ι → ℝ} (h : ∀ i ∈ s, f i = (g i : EReal)) : ∑ i ∈ s, f i = ((∑ i ∈ s, g i : ℝ) : EReal) :=
  (Finset.sum_congr rfl h).trans (coe_sum s g)

theorem fold_max_real {ι : Type*} (s : Finset ι) (f : ι → EReal) (hf : ∀ i ∈ s, f i < ⊤) (i : ι) (hi : i ∈ s) (hb : ⊥ < f i) :
    ∃ r : ℝ, s.fold max ⊥ f = (r : EReal) := by
  have h1 : s.fold max ⊥ f < ⊤ := (Finset.fold_max_lt _).2 ⟨bot_lt_top, hf⟩
  have h2 : ⊥ < s.fold max ⊥ f := (Finset.lt_fold_max _).2 (Or.inr ⟨i, hi, hb⟩)
  exact ⟨_, (EReal.coe_toReal h1.ne h2.ne').symm⟩

/-! ### The attention -/

/-- Queries, keys, values and the results' cotangents of eight heads, and the gates' running sums. -/
structure Data where
  q : Fin 8192 → Fin 8 → Fin 64 → ℝ
  k : Fin 8192 → Fin 8 → Fin 64 → ℝ
  v : Fin 8192 → Fin 8 → Fin 64 → ℝ
  o : Fin 8192 → Fin 8 → Fin 64 → ℝ
  c : Fin 8192 → Fin 8 → ℝ

variable (D : Data) (h : Fin 8) (K R : Fin 8192)

/-- The score of query row `K` at key row `R`. -/
def x : ℝ := (∑ d, D.q K h d * D.k R h d) * (1 / 8) + D.c K h - D.c R h
/-- Its exponential, nothing past the diagonal. -/
def E : ℝ := if R ≤ K then Real.exp (x D h K R) else 0
def Z : ℝ := ∑ R, E D h K R
def P : ℝ := E D h K R / Z D h K
def DP : ℝ := ∑ d, D.v R h d * D.o K h d
def Δ : ℝ := ∑ R, P D h K R * DP D h K R
def DS : ℝ := P D h K R * (DP D h K R - Δ D h K)

/-- The gradients. -/
def gq (d : Fin 64) : ℝ := (∑ R, D.k R h d * DS D h K R) * (1 / 8)
def gk (d : Fin 64) : ℝ := ∑ K, DS D h K R * (D.q K h d * (1 / 8))
def gv (d : Fin 64) : ℝ := ∑ K, P D h K R * D.o K h d
def gc : ℝ := 0 - ∑ K, DS D h K R

theorem E_nonneg : 0 ≤ E D h K R := by
  unfold E; split_ifs
  · exact (Real.exp_pos _).le
  · exact le_rfl

theorem Z_pos : 0 < Z D h K :=
  Finset.sum_pos' (fun R _ => E_nonneg D h K R) ⟨K, Finset.mem_univ _, by unfold E; rw [if_pos le_rfl]; exact Real.exp_pos _⟩

theorem sum_P : ∑ R, P D h K R = 1 := by
  unfold P
  rw [← Finset.sum_div]
  exact div_self (Z_pos D h K).ne'

theorem sum_DS : ∑ R, DS D h K R = 0 := by
  unfold DS
  simp only [mul_sub]
  rw [Finset.sum_sub_distrib, ← Finset.sum_mul, sum_P, one_mul]
  exact sub_self _

theorem P_zero (hn : ¬R ≤ K) : P D h K R = 0 := by
  unfold P E; rw [if_neg hn, zero_div]
theorem DS_zero (hn : ¬R ≤ K) : DS D h K R = 0 := by
  unfold DS; rw [P_zero D h K R hn, zero_mul]

/-! ### Exponentials above a reference level -/

/-- The exponential relative to the level `M`. -/
def W (M : ℝ) : ℝ := E D h K R * Real.exp (-M)

variable (M : ℝ)

theorem sum_W : ∑ R, W D h K R M = Z D h K * Real.exp (-M) := (Finset.sum_mul ..).symm

theorem ZM_pos : 0 < Z D h K * Real.exp (-M) := mul_pos (Z_pos D h K) (Real.exp_pos _)

theorem W_div : W D h K R M / (Z D h K * Real.exp (-M)) = P D h K R := by
  unfold W P
  exact mul_div_mul_right _ _ (Real.exp_pos _).ne'

/-- The extended reals' exponential of a masked score above the level. -/
theorem exp_score : Ideal.exp ((if R ≤ K then (x D h K R : EReal) else ⊥) - (M : EReal)) = (W D h K R M : EReal) := by
  unfold W E
  split_ifs with hR
  · rw [← EReal.coe_sub, Ideal.exp_coe, sub_eq_add_neg, Real.exp_add]
  · rw [EReal.bot_sub, Ideal.exp_bot, zero_mul, EReal.coe_zero]

/-- The kernel's two-based exponential, normalised. -/
theorem exp2_score (μ : ℝ) (hR : R ≤ K) :
    (2 : ℝ) ^ (x D h K R * (Real.log 2)⁻¹ - μ) * (1 / (Z D h K * Real.exp (-(μ * Real.log 2)))) = P D h K R := by
  rw [← W_div D h K R (μ * Real.log 2), W, E, if_pos hR, mul_one_div, Real.rpow_def_of_pos two_pos, ← Real.exp_add]
  have hl : Real.log 2 ≠ 0 := (Real.log_pos one_lt_two).ne'
  congr 2
  field_simp
  ring

/-- The kernel's inner product of a result row and its cotangent. -/
theorem delta : ∑ d, (∑ R, D.v R h d * W D h K R M) / (Z D h K * Real.exp (-M)) * D.o K h d = Δ D h K := by
  unfold Δ DP
  simp only [Finset.sum_div, mul_div_assoc, W_div, Finset.sum_mul, Finset.mul_sum]
  rw [Finset.sum_comm]
  exact Finset.sum_congr rfl fun R _ => Finset.sum_congr rfl fun d _ => by ring

/-- The reference's row gradient. -/
theorem ref_DS : (DP D h K R / (Z D h K * Real.exp (-M)) + -∑ R', DP D h K R' * (1 / ((Z D h K * Real.exp (-M)) * (Z D h K * Real.exp (-M)))) * W D h K R' M) * W D h K R M
    = DS D h K R := by
  have hz := (ZM_pos D h K M).ne'
  have e : ∑ R', DP D h K R' * (1 / ((Z D h K * Real.exp (-M)) * (Z D h K * Real.exp (-M)))) * W D h K R' M = Δ D h K / (Z D h K * Real.exp (-M)) := by
    unfold Δ
    rw [Finset.sum_div]
    refine Finset.sum_congr rfl fun R' _ => ?_
    rw [← W_div D h K R' M]
    field_simp
  rw [e, DS, ← W_div D h K R M]
  field_simp
  ring

end Cert.Attn

end
-- ==== Proof.Fox.Lanes.lean ====
/- The attention's gradient: the four operands that lay a head and its features in 128 lanes. -/
module

public import proofs.«01_k».proof.Proof.Fox.Out
public import proofs.«01_k».proof.Proof.Fox.Math

@[expose] public section

set_option maxRecDepth 16384

noncomputable section

namespace Cert.Kernel2Ideal.Fox

open Cert.Kernel2Ideal Cert.Kernel2Ideal.Gen Idealize.ShloMosaic Idealize.ShloMosaic.TcCoe Idealize.SL.Sem

/-- A head's own lanes and its features, two heads to 256 lanes: own, features, features, own. -/
def lanes (a f : FVec Ideal S8192x8x64 .f32) : FVec Ideal S8192x1024 .bf16 :=
  let A : FVec Ideal S8192x4x2x64 .f32 := shapeCast S8192x4x2x64 a shapeCasts_S8192x8x64_S8192x4x2x64
  let B : FVec Ideal S8192x4x2x64 .f32 := shapeCast S8192x4x2x64 f shapeCasts_S8192x8x64_S8192x4x2x64
  let A0 : FVec Ideal S8192x4x64 .f32 := shapeCast S8192x4x64 (extractStridedSlice S8192x4x1x64 ![0, 0, 0, 0] A slices_S8192x4x2x64_S8192x4x1x64_0_0_0_0) shapeCasts_S8192x4x1x64_S8192x4x64
  let B0 : FVec Ideal S8192x4x64 .f32 := shapeCast S8192x4x64 (extractStridedSlice S8192x4x1x64 ![0, 0, 0, 0] B slices_S8192x4x2x64_S8192x4x1x64_0_0_0_0) shapeCasts_S8192x4x1x64_S8192x4x64
  let B1 : FVec Ideal S8192x4x64 .f32 := shapeCast S8192x4x64 (extractStridedSlice S8192x4x1x64 ![0, 0, 1, 0] B slices_S8192x4x2x64_S8192x4x1x64_0_0_1_0) shapeCasts_S8192x4x1x64_S8192x4x64
  let A1 : FVec Ideal S8192x4x64 .f32 := shapeCast S8192x4x64 (extractStridedSlice S8192x4x1x64 ![0, 0, 1, 0] A slices_S8192x4x2x64_S8192x4x1x64_0_0_1_0) shapeCasts_S8192x4x1x64_S8192x4x64
  truncf .bf16 (shapeCast S8192x1024 (concatenate S8192x4x256 2 [⟨S8192x4x64, A0⟩, ⟨S8192x4x64, B0⟩, ⟨S8192x4x64, B1⟩, ⟨S8192x4x64, A1⟩]
    concatenates_S8192x4x64_S8192x4x64_S8192x4x64_S8192x4x64_S8192x4x256_d2 : FVec Ideal S8192x4x256 .f32) shapeCasts_S8192x4x256_S8192x1024) bitsLt_bf16_f32

/-- The head a pair's member is. -/
def hh (p : Fin 4) (e : Fin 2) : Fin 8 := ⟨2 * p.val + e.val, by omega⟩

variable (a f : FVec Ideal S8192x8x64 .f32) (K : Fin 8192) (p : Fin 4)

/-- A head's own lanes, and its features'. -/
def ol (e : Fin 2) (d : Fin 64) : Fin 128 := ⟨64 * e.val + d.val, by omega⟩
def fl (e : Fin 2) (d : Fin 64) : Fin 128 := ⟨64 * (1 - e.val) + d.val, by omega⟩

theorem lanes_own (e : Fin 2) (d : Fin 64) : lanes a f (ix2 K (gl p e (ol e d))) = a (ix3 K (hh p e) d) := by
  have hx : (gl p e (ol e d)).val = 256 * p.val + 128 * e.val + (64 * e.val + d.val) := rfl
  generalize gl p e (ol e d) = x at hx ⊢
  unfold lanes
  pointwise
  have he := e.isLt
  split_ifs <;> first
    | exact congrArg a ((ix3_inj ..).2 ⟨rfl, Fin.ext (by simp only [hh]; omega), Fin.ext (by dsimp only; omega)⟩)
    | (exfalso; omega)

theorem lanes_feat (e : Fin 2) (d : Fin 64) : lanes a f (ix2 K (gl p e (fl e d))) = f (ix3 K (hh p e) d) := by
  have hx : (gl p e (fl e d)).val = 256 * p.val + 128 * e.val + (64 * (1 - e.val) + d.val) := rfl
  generalize gl p e (fl e d) = x at hx ⊢
  unfold lanes
  pointwise
  have he := e.isLt
  split_ifs <;> first
    | exact congrArg f ((ix3_inj ..).2 ⟨rfl, Fin.ext (by simp only [hh]; omega), Fin.ext (by dsimp only; omega)⟩)
    | (exfalso; omega)

theorem sum_lanes (e : Fin 2) (g : Fin 128 → EReal) : ∑ l, g l = (∑ d, g (ol e d)) + ∑ d, g (fl e d) := by
  have h : ∑ l, g l = (∑ d : Fin 64, g ⟨d, by omega⟩) + ∑ d : Fin 64, g ⟨64 + d, by omega⟩ := Fin.sum_univ_add (a := 64) (b := 64) g
  rw [h]
  match e with
  | ⟨0, _⟩ => exact congrArg₂ (· + ·) (Finset.sum_congr rfl fun d _ => congrArg g (Fin.ext (by simp [ol]))) (Finset.sum_congr rfl fun d _ => congrArg g (Fin.ext (by simp [fl])))
  | ⟨1, _⟩ =>
    rw [add_comm]
    exact congrArg₂ (· + ·) (Finset.sum_congr rfl fun d _ => congrArg g (Fin.ext (by simp [ol]))) (Finset.sum_congr rfl fun d _ => congrArg g (Fin.ext (by simp [fl])))

/-- The product of two heads' lanes: of their own lanes, and of their features. -/
theorem dot_lanes (a' f' : FVec Ideal S8192x8x64 .f32) (R : Fin 8192) (e : Fin 2) :
    ∑ l, lanes a f (ix2 R (gl p e l)) * lanes a' f' (ix2 K (gl p e l))
      = (∑ d, a (ix3 R (hh p e) d) * a' (ix3 K (hh p e) d)) + ∑ d, f (ix3 R (hh p e) d) * f' (ix3 K (hh p e) d) := by
  rw [sum_lanes e]
  simp only [lanes_own, lanes_feat]

variable (m : (ℓ : Loc nD τ sig) → Buf (Elt Ideal) ℓ) (c : Dev nD)

def zero0 : FVec Ideal S_ .f32 := sitofp (F := Ideal) .f32 (constantI S_ 32 0#32)

/-- The split of the row sums into three parts. -/
def parts (x : FVec Ideal S8192x8 .f32) : FVec Ideal S8192x8x3 .f32 :=
  let r (y : FVec Ideal S8192x8 .f32) : FVec Ideal S8192x8 .f32 := extf .f32 (truncf .bf16 y bitsLt_bf16_f32 : FVec Ideal S8192x8 .bf16) bitsLt_bf16_f32
  let b (y : FVec Ideal S8192x8 .f32) : FVec Ideal S8192x8x1 .f32 := broadcastInDim S8192x8x1 ![0, 1] bcast_S8192x8_S8192x8x1_0_1 y
  let x1 : FVec Ideal S8192x8 .f32 := subf x (r x)
  let x2 : FVec Ideal S8192x8 .f32 := subf x1 (r x1)
  concatenate S8192x8x3 2 [⟨S8192x8x1, b (r x)⟩, ⟨S8192x8x1, b (r x1)⟩, ⟨S8192x8x1, b (r x2)⟩] concatenates_S8192x8x1_S8192x8x1_S8192x8x1_S8192x8x3_d2

def ones : FVec Ideal S8192x8x3 .f32 := broadcastInDim S8192x8x3 ![] bcast_S_S8192x8x3 (constant S_ .f32 0x3F800000#32 : FVec Ideal S_ .f32)

def feat (u v : FVec Ideal S8192x8x3 .f32) : FVec Ideal S8192x8x64 .f32 :=
  pad S8192x8x64 ![0, 0, 0] ![0, 0, 58] ![0, 0, 0] (concatenate S8192x8x6 2 [⟨S8192x8x3, u⟩, ⟨S8192x8x3, v⟩] concatenates_S8192x8x3_S8192x8x3_S8192x8x6_d2 : FVec Ideal S8192x8x6 .f32) zero0 pads_S8192x8x6_S8192x8x64_000_000_0580 h_S_

theorem feat_at (u v : FVec Ideal S8192x8x3 .f32) (h : Fin 8) (d : Fin 64) :
    feat u v (ix3 K h d) = if h3 : d.val < 3 then u (ix3 K h ⟨d.val, h3⟩) else if h6 : d.val < 6 then v (ix3 K h ⟨d.val - 3, by omega⟩) else 0 := by
  unfold feat
  pointwise [zero0]
  have z : FloatOps.sitofp (F := Ideal) FTy.f32 0#32 = (0 : EReal) := by
    show (((0#32 : BitVec 32).toInt : ℝ) : EReal) = 0
    norm_num
  rw [z]
  split_ifs <;> first | rfl | (exfalso; omega)

theorem parts_at (x : FVec Ideal S8192x8 .f32) (h : Fin 8) (n : Fin 3) :
    parts x (ix3 K h n) = if n.val = 0 then x (ix2 K h) else if n.val = 1 then x (ix2 K h) - x (ix2 K h) else x (ix2 K h) - x (ix2 K h) - (x (ix2 K h) - x (ix2 K h)) := by
  unfold parts
  pointwise
  split_ifs <;> first | rfl | (exfalso; omega)

theorem ones_at (h : Fin 8) (n : Fin 3) : ones (ix3 K h n) = 1 := by
  unfold ones
  pointwise

theorem eighth : Ideal.ofBits .f32 0x3E000000#32 = ((1 / 8 : ℝ) : EReal) := by
  simp [Ideal.ofBits, Ideal.ieee, -EReal.coe_mul]; norm_num

/-- The product of the features: the difference of the two rows' running sums. -/
theorem dot_feat (x : FVec Ideal S8192x8 .f32) (y : Fin 8192 → Fin 8 → ℝ) (hx : ∀ K h, x (ix2 K h) = (y K h : EReal)) (h : Fin 8) (K R : Fin 8192) :
    ∑ d, feat ones (Host.negf (parts x)) (ix3 R h d) * feat (parts x) ones (ix3 K h d) = ((y K h - y R h : ℝ) : EReal) := by
  have e := Fin.sum_univ_add (a := 6) (b := 58) fun d : Fin 64 => feat ones (Host.negf (parts x)) (ix3 R h d) * feat (parts x) ones (ix3 K h d)
  refine e.trans ?_
  have hn (K : Fin 8192) (n : Fin 3) : Host.negf (parts x) (ix3 K h n) = -(parts x (ix3 K h n)) := by pointwise
  have z : ∑ i : Fin 58, feat ones (Host.negf (parts x)) (ix3 R h (Fin.natAdd 6 i)) * feat (parts x) ones (ix3 K h (Fin.natAdd 6 i)) = 0 :=
    Finset.sum_eq_zero fun i _ => by
      rw [feat_at, dif_neg (by simp; omega), dif_neg (by simp), zero_mul]
  rw [z, add_zero, Fin.sum_univ_six]
  simp [feat_at, ones_at, hn, parts_at, hx, ← EReal.coe_sub, ← EReal.coe_neg, ← EReal.coe_add]
  ring_nf

theorem V_q : V m c main_v30 = lanes (mulf (m ((c : Thread nD τ).loc main_arg0) : FVec Ideal S8192x8x64 .f32) (broadcastInDim S8192x8x64 ![] bcast_S_S8192x8x64 (constant S_ .f32 0x3E000000#32 : FVec Ideal S_ .f32)))
    (feat (parts (m ((c : Thread nD τ).loc main_arg3))) ones) := by
  dsimp only [V, hostOps0, hostOps0_1, hostOps0_2, hostOps0_3, hostOps0_4, hostOps0_5, hostOps0_6, hostOps0_7, hostOps0_8, hostOps0_9, List.flatten_cons, List.flatten_nil, List.append_nil, List.cons_append, List.nil_append]
  simp only [StableHlo.TRef.ternary, StableHlo.TRef.binary, StableHlo.TRef.unary, StableHlo.TRef.toBuf, StableHlo.TRef.ofBuf, cast_eq]
  after_results_simp
  rfl

theorem V_k : V m c main_v46 = lanes (m ((c : Thread nD τ).loc main_arg1))
    (feat ones (Host.negf (parts (m ((c : Thread nD τ).loc main_arg3))))) := by
  dsimp only [V, hostOps0, hostOps0_1, hostOps0_2, hostOps0_3, hostOps0_4, hostOps0_5, hostOps0_6, hostOps0_7, hostOps0_8, hostOps0_9, List.flatten_cons, List.flatten_nil, List.append_nil, List.cons_append, List.nil_append]
  simp only [StableHlo.TRef.ternary, StableHlo.TRef.binary, StableHlo.TRef.unary, StableHlo.TRef.toBuf, StableHlo.TRef.ofBuf, cast_eq]
  after_results_simp
  rfl

theorem V_v : V m c main_v61 = lanes (m ((c : Thread nD τ).loc main_arg2))
    (pad S8192x8x64 ![0, 0, 0] ![0, 0, 63] ![0, 0, 0] (extractStridedSlice S8192x8x1 ![0, 0, 0] ones slices_S8192x8x3_S8192x8x1_0_0_0 : FVec Ideal S8192x8x1 .f32) zero0 pads_S8192x8x1_S8192x8x64_000_000_0630 h_S_) := by
  dsimp only [V, hostOps0, hostOps0_1, hostOps0_2, hostOps0_3, hostOps0_4, hostOps0_5, hostOps0_6, hostOps0_7, hostOps0_8, hostOps0_9, List.flatten_cons, List.flatten_nil, List.append_nil, List.cons_append, List.nil_append]
  simp only [StableHlo.TRef.ternary, StableHlo.TRef.binary, StableHlo.TRef.unary, StableHlo.TRef.toBuf, StableHlo.TRef.ofBuf, cast_eq]
  after_results_simp
  rfl

theorem V_o : V m c main_v75 = lanes (m ((c : Thread nD τ).loc main_arg4))
    (broadcastInDim S8192x8x64 ![] bcast_S_S8192x8x64 (constant S_ .f32 0x00000000#32 : FVec Ideal S_ .f32)) := by
  dsimp only [V, hostOps0, hostOps0_1, hostOps0_2, hostOps0_3, hostOps0_4, hostOps0_5, hostOps0_6, hostOps0_7, hostOps0_8, hostOps0_9, List.flatten_cons, List.flatten_nil, List.append_nil, List.cons_append, List.nil_append]
  simp only [StableHlo.TRef.ternary, StableHlo.TRef.binary, StableHlo.TRef.unary, StableHlo.TRef.toBuf, StableHlo.TRef.ofBuf, cast_eq]
  after_results_simp
  rfl

/-- The arguments are the reals of `D`. -/
structure Is (D : Attn.Data) (a0 a1 a2 : FVec Ideal S8192x8x64 .f32) (a3 : FVec Ideal S8192x8 .f32) (a4 : FVec Ideal S8192x8x64 .f32) : Prop where
  q : ∀ K h d, a0 (ix3 K h d) = (D.q K h d : EReal)
  k : ∀ K h d, a1 (ix3 K h d) = (D.k K h d : EReal)
  v : ∀ K h d, a2 (ix3 K h d) = (D.v K h d : EReal)
  c : ∀ K h, a3 (ix2 K h) = (D.c K h : EReal)
  o : ∀ K h d, a4 (ix3 K h d) = (D.o K h d : EReal)

variable {D : Attn.Data} (I : Is D (m ((c : Thread nD τ).loc main_arg0)) (m ((c : Thread nD τ).loc main_arg1)) (m ((c : Thread nD τ).loc main_arg2)) (m ((c : Thread nD τ).loc main_arg3)) (m ((c : Thread nD τ).loc main_arg4)))
include I
variable (e : Fin 2) (R : Fin 8192)

theorem own_q (d : Fin 64) : (arr m c).Q (ix2 K (gl p e (ol e d))) = ((D.q K (hh p e) d * (1 / 8) : ℝ) : EReal) := by
  show V m c main_v30 _ = _
  rw [V_q, lanes_own]
  pointwise
  rw [I.q, eighth, EReal.coe_mul]
theorem own_k (d : Fin 64) : (arr m c).Y (ix2 R (gl p e (ol e d))) = ((D.k R (hh p e) d : ℝ) : EReal) := by
  show V m c main_v46 _ = _
  rw [V_k, lanes_own, I.k]
theorem own_o (d : Fin 64) : (arr m c).O (ix2 K (gl p e (ol e d))) = ((D.o K (hh p e) d : ℝ) : EReal) := by
  show V m c main_v75 _ = _
  rw [V_o, lanes_own, I.o]

theorem dot_qk : ∑ l, (arr m c).Y (ix2 R (gl p e l)) * (arr m c).Q (ix2 K (gl p e l)) = ((Attn.x D (hh p e) K R : ℝ) : EReal) := by
  rw [show (arr m c).Y = _ from V_k m c, show (arr m c).Q = _ from V_q m c, dot_lanes, dot_feat _ D.c I.c, Attn.coe_sum' Finset.univ (g := fun d => D.k R (hh p e) d * (D.q K (hh p e) d * (1 / 8))), ← EReal.coe_add]
  · refine congrArg _ ?_
    unfold Attn.x
    rw [Finset.sum_mul, add_sub_assoc]
    exact congrArg (· + _) (Finset.sum_congr rfl fun d _ => by ring)
  · intro d _
    pointwise
    rw [I.q, I.k, eighth, EReal.coe_mul, EReal.coe_mul]

theorem dot_vo : ∑ l, (arr m c).W (ix2 R (gl p e l)) * (arr m c).O (ix2 K (gl p e l)) = ((Attn.DP D (hh p e) K R : ℝ) : EReal) := by
  rw [show (arr m c).W = _ from V_v m c, show (arr m c).O = _ from V_o m c, dot_lanes]
  have z : ∀ (g : Fin 64 → EReal), ∑ d, g d * (broadcastInDim S8192x8x64 ![] bcast_S_S8192x8x64 (constant S_ .f32 0x00000000#32 : FVec Ideal S_ .f32)) (ix3 K (hh p e) d) = 0 := fun g =>
    Finset.sum_eq_zero fun d _ => by
      pointwise
      rw [mul_zero]
  rw [z, add_zero]
  exact Attn.coe_sum' Finset.univ fun d _ => by rw [I.v, I.o, EReal.coe_mul]

end Cert.Kernel2Ideal.Fox

end
-- ==== Proof.Fox.Finite.lean ====
/- The attention's gradient: finite arguments are real numbers. -/
module

public import proofs.«01_k».proof.Proof.Fox.Lanes
public import proofs.«01_k».proof.Proof.Gen.Pre_finite2
public import Idealize.ShloMosaic.Lib.ReduceAll

@[expose] public section

set_option maxRecDepth 16384

noncomputable section

namespace Cert.Pre_finite2.Fox

open Cert.Pre_finite2 Idealize.ShloMosaic Idealize.SL.Sem

theorem and_one {a b : BitVec 1} (h : IntOp.andi a b = 1#1) : a = 1#1 ∧ b = 1#1 := by
  revert a b; decide

theorem inf : Ideal.ofBits .f32 0x7F800000#32 = ⊤ := by simp [Ideal.ofBits, Ideal.ieee]

theorem real {x : EReal} (h : Ideal.cmp .olt (max x (-x)) (Ideal.ofBits .f32 0x7F800000#32) = 1#1) : x = (x.toReal : EReal) := by
  rw [inf] at h
  have h' : max x (-x) < ⊤ := by
    by_contra hn
    simp [Ideal.cmp, hn] at h
  refine (EReal.coe_toReal (lt_of_le_of_lt (le_max_left _ _) h').ne fun hb => ?_).symm
  rw [hb] at h'
  simp at h'

variable [Facts] (a0 a1 a2 a4 : FVec Ideal S8192x8x64 .f32) (a3 : FVec Ideal S8192x8 .f32)

theorem reals (h : fn a0 a1 a2 a3 a4 ix0 = 1#1) :
    (∀ i, a0 i = ((a0 i).toReal : EReal)) ∧ (∀ i, a1 i = ((a1 i).toReal : EReal)) ∧ (∀ i, a2 i = ((a2 i).toReal : EReal)) ∧ (∀ i, a3 i = ((a3 i).toReal : EReal)) ∧ ∀ i, a4 i = ((a4 i).toReal : EReal) := by
  dsimp only [fn, fn_part1] at h
  obtain ⟨h, h4⟩ := and_one h
  obtain ⟨h, h3⟩ := and_one h
  obtain ⟨h, h2⟩ := and_one h
  obtain ⟨h0, h1⟩ := and_one h
  haveI : Subsingleton S_.Idx := ⟨fun i j => funext fun k => k.elim0⟩
  exact ⟨fun i => real (Host.reduce_andi_all _ _ _ _ _ h0 i), fun i => real (Host.reduce_andi_all _ _ _ _ _ h1 i), fun i => real (Host.reduce_andi_all _ _ _ _ _ h2 i),
    fun i => real (Host.reduce_andi_all _ _ _ _ _ h3 i), fun i => real (Host.reduce_andi_all _ _ _ _ _ h4 i)⟩

end Cert.Pre_finite2.Fox

end
-- ==== Proof.Fox.Stats.lean ====
/- The attention's gradient: the rows' level, inner product and normaliser. -/
module

public import proofs.«01_k».proof.Proof.Fox.Lanes

@[expose] public section

set_option maxRecDepth 16384

noncomputable section

namespace Cert.Kernel2Ideal.Fox

open Cert.Kernel2Ideal Cert.Kernel2Ideal.Gen Idealize.ShloMosaic Idealize.ShloMosaic.TcCoe Idealize.SL.Sem

/-- The masked scores. -/
def scoresT (q k : FVec Ideal S8192x8x64 .f32) (g : FVec Ideal S8192x8 .f32) : FVec Ideal S8x8192x8192 .f32 :=
  let n : IVec S8192 32 := iotaInDim S8192 32 0
  let mask : IVec S8192x8192 1 := cmpi .sle (broadcastInDim S8192x8192 ![0, 1] bcast_S1x8192_S8192x8192_0_1 (broadcastInDim S1x8192 ![1] bcast_S8192_S1x8192_1 n : IVec S1x8192 32))
    (broadcastInDim S8192x8192 ![0, 1] bcast_S8192x1_S8192x8192_0_1 (broadcastInDim S8192x1 ![0] bcast_S8192_S8192x1_0 n : IVec S8192x1 32))
  let gT : FVec Ideal S8x8192 .f32 := transpose S8x8192 [1, 0] g transposes_S8192x8_S8x8192_1_0
  let d : FVec Ideal S8x8192x8192 .f32 := Host.dotGeneral dot_S8192x8x64_S8192x8x64_S8x8192x8192_2_2_0_0_1_1 none q k
  select (broadcastInDim S8x8192x8192 ![0, 1, 2] bcast_S1x8192x8192_S8x8192x8192_0_1_2 (broadcastInDim S1x8192x8192 ![1, 2] bcast_S8192x8192_S1x8192x8192_1_2 mask : IVec S1x8192x8192 1))
    (subf (addf (mulf d (broadcastInDim S8x8192x8192 ![] bcast_S_S8x8192x8192 (constant S_ .f32 0x3E000000#32 : FVec Ideal S_ .f32)))
      (broadcastInDim S8x8192x8192 ![0, 1, 2] bcast_S8x8192x1_S8x8192x8192_0_1_2 (broadcastInDim S8x8192x1 ![0, 1] bcast_S8x8192_S8x8192x1_0_1 gT : FVec Ideal S8x8192x1 .f32)))
      (broadcastInDim S8x8192x8192 ![0, 1, 2] bcast_S8x1x8192_S8x8192x8192_0_1_2 (broadcastInDim S8x1x8192 ![0, 2] bcast_S8x8192_S8x1x8192_0_2 gT : FVec Ideal S8x1x8192 .f32)))
    (broadcastInDim S8x8192x8192 ![] bcast_S_S8x8192x8192 (constant S_ .f32 0xFF800000#32 : FVec Ideal S_ .f32))

def ln2 : FVec Ideal S_ .f32 := Host.log (constant S_ .f32 0x40000000#32 : FVec Ideal S_ .f32)

/-- The rows' level: their greatest score, in units of `log 2`, rounded up. -/
def levelT (s : FVec Ideal S8x8192x8192 .f32) : FVec Ideal S8x8192 .f32 :=
  Host.ceil (Host.divf (Host.reduce FloatOps.maximumf s (constant S_ .f32 0xFF800000#32 : FVec Ideal S_ .f32) reducesTo_S8x8192x8192_S8x8192_d2 h_S_ : FVec Ideal S8x8192 .f32) (broadcastInDim S8x8192 ![] bcast_S_S8x8192 ln2))

/-- The exponentials above the level. -/
def expT (s : FVec Ideal S8x8192x8192 .f32) (l : FVec Ideal S8x8192 .f32) : FVec Ideal S8x8192x8192 .f32 :=
  Host.exp (subf s (broadcastInDim S8x8192x8192 ![0, 1, 2] bcast_S8x8192x1_S8x8192x8192_0_1_2 (broadcastInDim S8x8192x1 ![0, 1] bcast_S8x8192_S8x8192x1_0_1
    (mulf l (broadcastInDim S8x8192 ![] bcast_S_S8x8192 ln2) : FVec Ideal S8x8192 .f32) : FVec Ideal S8x8192x1 .f32)))

def sumT (w : FVec Ideal S8x8192x8192 .f32) : FVec Ideal S8x8192 .f32 :=
  Host.reduceAdd w (constant S_ .f32 0x00000000#32 : FVec Ideal S_ .f32) reducesTo_S8x8192x8192_S8x8192_d2 h_S_

/-- The inner product of a result row and its cotangent. -/
def deltaT (v o : FVec Ideal S8192x8x64 .f32) (w : FVec Ideal S8x8192x8192 .f32) : FVec Ideal S8192x8 .f32 :=
  let r : FVec Ideal S8192x8x64 .f32 := transpose S8192x8x64 [2, 0, 1] (Host.dotGeneral dot_S8192x8x64_S8x8192x8192_S8x64x8192_0_2_2_1_1_0 none v w : FVec Ideal S8x64x8192 .f32) transposes_S8x64x8192_S8192x8x64_2_0_1
  let l : FVec Ideal S8192x8x64 .f32 := broadcastInDim S8192x8x64 ![0, 1, 2] bcast_S8192x8x1_S8192x8x64_0_1_2 (broadcastInDim S8192x8x1 ![0, 1] bcast_S8192x8_S8192x8x1_0_1
    (transpose S8192x8 [1, 0] (sumT w) transposes_S8x8192_S8192x8_1_0 : FVec Ideal S8192x8 .f32) : FVec Ideal S8192x8x1 .f32)
  Host.reduceAdd (mulf (Host.divf r l) o) (constant S_ .f32 0x00000000#32 : FVec Ideal S_ .f32) reducesTo_S8192x8x64_S8192x8_d2 h_S_

/-- The three rows of a head, over two heads a pair. -/
def stack3 (a b d : FVec Ideal S8x1x8192 .f32) : FVec Ideal S4x8x8192 .f32 :=
  let s : FVec Ideal S8x3x8192 .f32 := concatenate S8x3x8192 1 [⟨S8x1x8192, a⟩, ⟨S8x1x8192, b⟩, ⟨S8x1x8192, d⟩] concatenates_S8x1x8192_S8x1x8192_S8x1x8192_S8x3x8192_d1
  pad S4x8x8192 ![0, 0, 0] ![0, 2, 0] ![0, 0, 0] (shapeCast S4x6x8192 (transpose S4x3x2x8192 [0, 2, 1, 3] (shapeCast S4x2x3x8192 s shapeCasts_S8x3x8192_S4x2x3x8192 : FVec Ideal S4x2x3x8192 .f32)
    transposes_S4x2x3x8192_S4x3x2x8192_0_2_1_3 : FVec Ideal S4x3x2x8192 .f32) shapeCasts_S4x3x2x8192_S4x6x8192 : FVec Ideal S4x6x8192 .f32) zero0 pads_S4x6x8192_S4x8x8192_000_020_000 h_S_

def line (y : FVec Ideal S8x8192 .f32) : FVec Ideal S8x1x8192 .f32 := broadcastInDim S8x1x8192 ![0, 2] bcast_S8x8192_S8x1x8192_0_2 y

def stack (a b d : FVec Ideal S8x8192 .f32) : FVec Ideal S4x8x8192 .f32 := stack3 (line a) (line b) (line d)

def statsT (q k v : FVec Ideal S8192x8x64 .f32) (g : FVec Ideal S8192x8 .f32) (o : FVec Ideal S8192x8x64 .f32) : FVec Ideal S4x8x8192 .f32 :=
  let s := scoresT q k g
  let l := levelT s
  let w := expT s l
  stack l (transpose S8x8192 [1, 0] (deltaT v o w) transposes_S8192x8_S8x8192_1_0)
    (Host.divf (broadcastInDim S8x8192 ![] bcast_S_S8x8192 (constant S_ .f32 0x3F800000#32 : FVec Ideal S_ .f32)) (sumT w))

variable (m : (ℓ : Loc nD τ sig) → Buf (Elt Ideal) ℓ) (c : Dev nD)

theorem V_s : V m c main_v125 = statsT (m ((c : Thread nD τ).loc main_arg0)) (m ((c : Thread nD τ).loc main_arg1)) (m ((c : Thread nD τ).loc main_arg2)) (m ((c : Thread nD τ).loc main_arg3)) (m ((c : Thread nD τ).loc main_arg4)) := by
  dsimp only [V, hostOps0, hostOps0_1, hostOps0_2, hostOps0_3, hostOps0_4, hostOps0_5, hostOps0_6, hostOps0_7, hostOps0_8, hostOps0_9, List.flatten_cons, List.flatten_nil, List.append_nil, List.cons_append, List.nil_append]
  simp only [StableHlo.TRef.ternary, StableHlo.TRef.binary, StableHlo.TRef.unary, StableHlo.TRef.toBuf, StableHlo.TRef.ofBuf, cast_eq]
  after_results_simp
  change stack3 _ _ _ = stack3 _ _ _
  refine congr (congr (congrArg stack3 ?_) ?_) ?_
  · dsimp only [Matrix.cons_val]
    after_results_simp
    rfl
  · dsimp only [Matrix.cons_val]
    after_results_simp
    rfl
  · dsimp only [Matrix.cons_val]
    after_results_simp
    rfl

theorem stack_at (a b d : FVec Ideal S8x8192 .f32) (p : Fin 4) (n : Fin 3) (e : Fin 2) (K : Fin 8192) :
    stack a b d (ix3 p (se n e) K) = (if n = 0 then a else if n = 1 then b else d) (ix2 (hh p e) K) := by
  have hx : (se n e).val = 2 * n.val + e.val := rfl
  generalize se n e = x at hx ⊢
  unfold stack stack3 line
  pointwise
  have hz : zero0 (Shape.Idx.first h_S_) = (0 : EReal) := by
    show (((0#32 : BitVec 32).toInt : ℝ) : EReal) = 0
    norm_num
  have he := e.isLt
  have hp : (⟨p.val * 2 + x.val % 2, by omega⟩ : Fin 8) = hh p e := Fin.ext (by simp only [hh]; omega)
  rcases (by omega : n.val = 0 ∨ n.val = 1 ∨ n.val = 2) with hn | hn | hn
  · rw [dif_pos (by omega), dif_pos (by omega), hp, (Fin.ext hn : n = 0)]; rfl
  · rw [dif_pos (by omega), dif_neg (by omega), dif_pos (by omega), hp, (Fin.ext hn : n = 1)]; rfl
  · rw [dif_pos (by omega), dif_neg (by omega), dif_neg (by omega), hp, (Fin.ext hn : n = 2)]; rfl

theorem two : Ideal.ofBits .f32 0x40000000#32 = ((2 : ℝ) : EReal) := by
  simp [Ideal.ofBits, Ideal.ieee, -EReal.coe_mul]; try norm_num
theorem neg_inf : Ideal.ofBits .f32 0xFF800000#32 = ⊥ := by
  simp [Ideal.ofBits, Ideal.ieee]

variable (q k v : FVec Ideal S8192x8x64 .f32) (g : FVec Ideal S8192x8 .f32) (o : FVec Ideal S8192x8x64 .f32)
variable {D : Attn.Data} (I : Is D q k v g o) (h : Fin 8) (K R : Fin 8192)

include I in
theorem scores_at : scoresT q k g (ix3 h K R) = if R ≤ K then (Attn.x D h K R : EReal) else ⊥ := by
  unfold scoresT
  pointwise
  rw [neg_inf, eighth, I.c, I.c, Attn.coe_sum' Finset.univ (g := fun d => D.q K h d * D.k R h d) fun d _ => by rw [I.q, I.k, EReal.coe_mul],
    ← EReal.coe_mul, ← EReal.coe_add, ← EReal.coe_sub]
  have hs : Scalar.select (IntOp.cmpi CmpIPredicate.sle (BitVec.ofNat 32 ↑R) (BitVec.ofNat 32 ↑K)) (Attn.x D h K R : EReal) ⊥ = if R ≤ K then (Attn.x D h K R : EReal) else ⊥ := by
    have hw : (IntOp.cmpi CmpIPredicate.sle (BitVec.ofNat 32 R.val) (BitVec.ofNat 32 K.val) = 1#1) ↔ R ≤ K := by
      have h1 := R.isLt
      have h2 := K.isLt
      rw [Fin.le_def]
      word_cmp
    by_cases hR : R ≤ K
    · rw [if_pos hR, hw.2 hR]; rfl
    · rw [if_neg hR]; exact if_neg fun h' => hR (hw.1 h')
  exact hs

theorem expT_at (s : FVec Ideal S8x8192x8192 .f32) (l : FVec Ideal S8x8192 .f32) :
    expT s l (ix3 h K R) = Ideal.exp (s (ix3 h K R) - l (ix2 h K) * ((Real.log 2 : ℝ) : EReal)) := by
  unfold expT
  pointwise [ln2]
  rw [two, Ideal.log_coe, if_neg (by norm_num)]

theorem sumT_at (w : FVec Ideal S8x8192x8192 .f32) : sumT w (ix2 h K) = ∑ R, w (ix3 h K R) := by
  unfold sumT
  pointwise

theorem deltaT_at (w : FVec Ideal S8x8192x8192 .f32) :
    deltaT v o w (ix2 K h) = ∑ d, Ideal.div (∑ R, v (ix3 R h d) * w (ix3 h K R)) (sumT w (ix2 h K)) * o (ix3 K h d) := by
  unfold deltaT
  pointwise

end Cert.Kernel2Ideal.Fox

end
-- ==== Proof.Fox.Value.lean ====
/- The attention's gradient: the kernel's blocks hold the gradients of the softmax. -/
module

public import proofs.«01_k».proof.Proof.Fox.Stats

@[expose] public section

set_option maxRecDepth 16384

noncomputable section

namespace Cert.Kernel2Ideal.Fox

open Cert.Kernel2Ideal Cert.Kernel2Ideal.Gen Idealize.ShloMosaic Idealize.ShloMosaic.TcCoe Idealize.SL.Sem

variable (q k v : FVec Ideal S8192x8x64 .f32) (g : FVec Ideal S8192x8 .f32) (o : FVec Ideal S8192x8x64 .f32)
variable {D : Attn.Data} (I : Is D q k v g o) (h : Fin 8) (K R : Fin 8192)

include I in
theorem row_max : ∃ r : ℝ, Finset.univ.fold max (⊥ : EReal) (fun R => scoresT q k g (ix3 h K R)) = (r : EReal) := by
  refine Attn.fold_max_real _ _ (fun R _ => ?_) K (Finset.mem_univ _) ?_
  · rw [scores_at q k v g o I]
    split_ifs
    · exact EReal.coe_lt_top _
    · exact bot_lt_top
  · rw [scores_at q k v g o I, if_pos le_rfl]
    exact EReal.bot_lt_coe _

include I in
theorem level_real : ∃ μ : ℝ, levelT (scoresT q k g) (ix2 h K) = (μ : EReal) := by
  obtain ⟨r, hr⟩ := row_max q k v g o I h K
  refine ⟨((⌈r * (1 / Real.log 2)⌉ : ℤ) : ℝ), ?_⟩
  unfold levelT
  pointwise [ln2]
  rw [neg_inf, hr, two, Ideal.log_coe, if_neg (by norm_num), Ideal.div_coe (Real.log_pos one_lt_two).ne', ← EReal.coe_mul]
  rfl

/-- The rows' level. -/
def lev : ℝ := (levelT (scoresT q k g) (ix2 h K)).toReal

include I in
theorem lev_eq : levelT (scoresT q k g) (ix2 h K) = (lev q k g h K : EReal) := by
  obtain ⟨μ, hμ⟩ := level_real q k v g o I h K
  unfold lev
  rw [hμ]; rfl

include I in
theorem w_eq : expT (scoresT q k g) (levelT (scoresT q k g)) (ix3 h K R) = (Attn.W D h K R (lev q k g h K * Real.log 2) : EReal) := by
  rw [expT_at, scores_at q k v g o I, lev_eq q k v g o I, ← EReal.coe_mul, Attn.exp_score]

include I in
theorem l_eq : sumT (expT (scoresT q k g) (levelT (scoresT q k g))) (ix2 h K) = ((Attn.Z D h K * Real.exp (-(lev q k g h K * Real.log 2)) : ℝ) : EReal) := by
  rw [sumT_at, Attn.coe_sum' _ fun R _ => w_eq q k v g o I h K R, Attn.sum_W]

include I in
theorem delta_eq : deltaT v o (expT (scoresT q k g) (levelT (scoresT q k g))) (ix2 K h) = (Attn.Δ D h K : EReal) := by
  rw [deltaT_at, l_eq q k v g o I, ← Attn.delta D h K (lev q k g h K * Real.log 2)]
  refine Attn.coe_sum' _ fun d _ => ?_
  rw [Attn.coe_sum' _ fun R _ => by rw [I.v, w_eq q k v g o I, ← EReal.coe_mul], Ideal.div_coe (Attn.ZM_pos D h K _).ne', ← EReal.coe_mul, I.o, ← EReal.coe_mul, mul_one_div]

variable (m : (ℓ : Loc nD τ sig) → Buf (Elt Ideal) ℓ) (c : Dev nD) (p : Fin 4) (e : Fin 2)
variable (J : Is D (m ((c : Thread nD τ).loc main_arg0)) (m ((c : Thread nD τ).loc main_arg1)) (m ((c : Thread nD τ).loc main_arg2)) (m ((c : Thread nD τ).loc main_arg3)) (m ((c : Thread nD τ).loc main_arg4)))

def lev' : ℝ := lev (m ((c : Thread nD τ).loc main_arg0)) (m ((c : Thread nD τ).loc main_arg1)) (m ((c : Thread nD τ).loc main_arg3)) h K

include J in
theorem st0 : (arr m c).S (ix3 p (se 0 e) K) = (lev' (hh p e) K m c : EReal) := by
  rw [show (arr m c).S = _ from V_s m c]
  unfold statsT
  rw [stack_at, if_pos rfl]
  exact lev_eq _ _ _ _ _ J _ _

include J in
theorem st1 : (arr m c).S (ix3 p (se 1 e) K) = (Attn.Δ D (hh p e) K : EReal) := by
  rw [show (arr m c).S = _ from V_s m c]
  unfold statsT
  rw [stack_at, if_neg (by decide), if_pos rfl]
  refine Eq.trans ?_ (delta_eq _ _ _ _ _ J _ _)
  pointwise

include J in
theorem st2 : (arr m c).S (ix3 p (se 2 e) K) = ((1 / (Attn.Z D (hh p e) K * Real.exp (-(lev' (hh p e) K m c * Real.log 2))) : ℝ) : EReal) := by
  rw [show (arr m c).S = _ from V_s m c]
  unfold statsT
  rw [stack_at, if_neg (by decide), if_neg (by decide)]
  pointwise
  rw [l_eq _ _ _ _ _ J, Ideal.div_coe (Attn.ZM_pos D _ K _).ne', one_mul]
  rfl

include J in
theorem p_eq : pA' (arr m c) p e R K = (Attn.P D (hh p e) K R : EReal) := by
  unfold pA' sA
  rw [st0 K m c p e J, st2 K m c p e J]
  by_cases hR : R ≤ K
  · rw [if_pos (show R.val ≤ K.val from hR), dot_qk (I := J), ← EReal.coe_mul, ← EReal.coe_sub, Ideal.exp2_coe, ← EReal.coe_mul]
    exact congrArg _ (Attn.exp2_score D _ K R _ hR)
  · rw [if_neg (show ¬R.val ≤ K.val from hR), EReal.bot_sub, exp2_bot, zero_mul, Attn.P_zero D _ K R hR]; rfl

include J in
theorem d_eq : dA' (arr m c) p e R K = (Attn.DS D (hh p e) K R : EReal) := by
  unfold dA'
  rw [p_eq K R m c p e J, st1 K m c p e J, dot_vo (I := J), ← EReal.coe_sub, ← EReal.coe_mul]
  rfl

/-! ### The blocks of the results -/

/-- Head and entry of a column of the results. -/
def hx (x : Fin 512) : Fin 8 := ⟨x.val / 64, by omega⟩
def dx (x : Fin 512) : Fin 64 := ⟨x.val % 64, by omega⟩

variable (x : Fin 512)

theorem hd_val (l : Fin 128) : (hd l).val = l.val / 64 := by
  unfold hd
  by_cases h : 64 ≤ l.val
  · rw [if_pos h]; show 1 = _; omega
  · rw [if_neg h]; show 0 = _; omega

theorem hh_hx : hh (pc x) (hd (lc x)) = hx x := by
  refine Fin.ext ?_
  simp only [hh, pc, hd_val, hx, lc]
  omega

theorem gl_own : gl (pc x) (hd (lc x)) (lc x) = gl (pc x) (hd (lc x)) (ol (hd (lc x)) (dx x)) := by
  refine congrArg _ (Fin.ext ?_)
  simp only [ol, hd_val, lc, dx]
  omega

theorem sum_rows (f : Fin 8192 → ℝ) : ∑ j : Fin 8, ∑ r : Fin 1024, f (row j r) = ∑ R, f R := by
  rw [Fin.sum_univ_tiles 8 1024 (by norm_num) f]
  exact Finset.sum_congr rfl fun j _ => Finset.sum_congr rfl fun r _ => congrArg f (Fin.ext (by simp only [row]; omega))

include J in
theorem gdq_eq : Gdq (arr m c) K x = (Attn.gq D (hx x) K (dx x) : EReal) := by
  unfold Gdq GdqP rowA
  rw [gl_own, Attn.coe_sum' _ (g := fun j => (∑ r : Fin 1024, D.k (row j r) (hx x) (dx x) * Attn.DS D (hx x) K (row j r)) * (1 / 8)) fun j _ => ?_]
  · refine congrArg _ ?_
    unfold Attn.gq
    rw [← sum_rows, Finset.sum_mul]
  · rw [Attn.coe_sum' _ fun r _ => by rw [own_k (I := J), d_eq _ _ m c _ _ J, hh_hx, ← EReal.coe_mul], show SC = _ from eighth, ← EReal.coe_mul]

include J in
theorem gdk_eq : Gdk (arr m c) R x = (Attn.gk D (hx x) R (dx x) : EReal) := by
  unfold Gdk GdkP
  rw [gl_own]
  exact Attn.coe_sum' _ fun K _ => by rw [own_q (I := J), d_eq _ _ m c _ _ J, hh_hx, ← EReal.coe_mul]

include J in
theorem gdv_eq : Gdv (arr m c) R x = (Attn.gv D (hx x) R (dx x) : EReal) := by
  unfold Gdv GdvP
  rw [gl_own]
  exact Attn.coe_sum' _ fun K _ => by rw [own_o (I := J), p_eq _ _ m c _ _ J, hh_hx, ← EReal.coe_mul]

/-- The running sums' gradient: a head in each of the first two lanes of a pair. -/
def gcx (D : Attn.Data) (R : Fin 8192) (x : Fin 512) : ℝ :=
  if x.val % 128 = 0 then Attn.gc D (hh (pc x) 0) R else if x.val % 128 = 1 then Attn.gc D (hh (pc x) 1) R else 0

include J in
theorem gdc_eq : Gdc (arr m c) R x = (gcx D R x : EReal) := by
  unfold Gdc GdcP gcx Attn.gc
  have hs (e : Fin 2) : 0 - ∑ K, dA' (arr m c) (pc x) e R K = ((0 - ∑ K, Attn.DS D (hh (pc x) e) K R : ℝ) : EReal) := by
    rw [Attn.coe_sum' _ fun K _ => d_eq K R m c (pc x) e J, ← EReal.coe_zero, ← EReal.coe_sub]
  by_cases h0 : x.val % 128 = 0
  · rw [if_pos (show (lc x).val = 0 from h0), if_pos h0]; exact hs 0
  · rw [if_neg (show ¬(lc x).val = 0 from h0), if_neg h0]
    by_cases h1 : x.val % 128 = 1
    · rw [if_pos (show (lc x).val = 1 from h1), if_pos h1]; exact hs 1
    · rw [if_neg (show ¬(lc x).val = 1 from h1), if_neg h1]; rfl

end Cert.Kernel2Ideal.Fox

end
-- ==== Proof.Fox.Ref.lean ====
/- The attention's gradient: the reference's results, entry by entry. -/
module

public import proofs.«01_k».proof.Proof.Fox.Value
public import proofs.«01_k».proof.Proof.Gen.Reference2Ideal.Run

@[expose] public section

set_option maxRecDepth 16384

noncomputable section

namespace Cert.Reference2Ideal.Fox

open Cert.Reference2Ideal Cert.Reference2Ideal.Gen Cert.Reference2Ideal.Value Idealize.ShloMosaic Idealize.ShloMosaic.TcCoe Idealize.SL.Sem
open Cert.Kernel2Ideal.Fox (scoresT sumT Is scores_at sumT_at row_max neg_inf eighth)

/-- The rows' greatest score. -/
def maxT (s : FVec Ideal S8x8192x8192 .f32) : FVec Ideal S8x8192 .f32 :=
  maximumf (broadcastInDim S8x8192 ![] bcast_S_S8x8192 (constant S_ .f32 0xFF800000#32 : FVec Ideal S_ .f32))
    (Host.reduce FloatOps.maximumf s (constant S_ .f32 0xFF800000#32 : FVec Ideal S_ .f32) reducesTo_S8x8192x8192_S8x8192_d2 h_S_ : FVec Ideal S8x8192 .f32)

/-- A row's value, over the row. -/
def wide (y : FVec Ideal S8x8192x1 .f32) : FVec Ideal S8x8192x8192 .f32 := broadcastInDim S8x8192x8192 ![0, 1, 2] bcast_S8x8192x1_S8x8192x8192_0_1_2 y
def tall (y : FVec Ideal S8x8192 .f32) : FVec Ideal S8x8192x1 .f32 := broadcastInDim S8x8192x1 ![0, 1] bcast_S8x8192_S8x8192x1_0_1 y

def weightT (s : FVec Ideal S8x8192x8192 .f32) : FVec Ideal S8x8192x8192 .f32 := Host.exp (subf s (wide (tall (maxT s))))

def maskT : IVec S8x8192x8192 1 :=
  let n : IVec S8192 32 := iotaInDim S8192 32 0
  broadcastInDim S8x8192x8192 ![0, 1, 2] bcast_S1x8192x8192_S8x8192x8192_0_1_2 (broadcastInDim S1x8192x8192 ![1, 2] bcast_S8192x8192_S1x8192x8192_1_2
    (cmpi .sle (broadcastInDim S8192x8192 ![0, 1] bcast_S1x8192_S8192x8192_0_1 (broadcastInDim S1x8192 ![1] bcast_S8192_S1x8192_1 n : IVec S1x8192 32))
      (broadcastInDim S8192x8192 ![0, 1] bcast_S8192x1_S8192x8192_0_1 (broadcastInDim S8192x1 ![0] bcast_S8192_S8192x1_0 n : IVec S8192x1 32)) : IVec S8192x8192 1) : IVec S1x8192x8192 1)

def zeroT : FVec Ideal S_ .f32 := constant S_ .f32 0x00000000#32

def turnT (o : FVec Ideal S8192x8x64 .f32) : FVec Ideal S8x64x8192 .f32 := transpose S8x64x8192 [1, 2, 0] o transposes_S8192x8x64_S8x64x8192_1_2_0

def dpT (v o : FVec Ideal S8192x8x64 .f32) : FVec Ideal S8x8192x8192 .f32 :=
  Host.dotGeneral dot_S8x64x8192_S8192x8x64_S8x8192x8192_1_2_2_0_0_1 none (turnT o) v

/-- The part of the gradient that comes through the normaliser. -/
def backT (d w : FVec Ideal S8x8192x8192 .f32) (l : FVec Ideal S8x8192 .f32) : FVec Ideal S8x8192 .f32 :=
  Host.reduceAdd (Host.negf (shapeCast S8x8192x1 (Host.reduceAdd (mulf (mulf d (wide (Host.divf (broadcastInDim S8x8192x1 ![] bcast_S_S8x8192x1 (constant S_ .f32 0x3F800000#32 : FVec Ideal S_ .f32)) (mulf (tall l) (tall l))))) w)
    zeroT reducesTo_S8x8192x8192_S8x8192_d2 h_S_ : FVec Ideal S8x8192 .f32) shapeCasts_S8x8192_S8x8192x1 : FVec Ideal S8x8192x1 .f32)) zeroT reducesTo_S8x8192x1_S8x8192_d2 h_S_

def scoreT (d w : FVec Ideal S8x8192x8192 .f32) (l : FVec Ideal S8x8192 .f32) : FVec Ideal S8x8192x8192 .f32 :=
  select maskT (mulf (addf (Host.divf d (wide (tall l))) (broadcastInDim S8x8192x8192 ![0, 1] bcast_S8x8192_S8x8192x8192_0_1 (backT d w l))) w)
    (broadcastInDim S8x8192x8192 ![] bcast_S_S8x8192x8192 zeroT)

/-- The scores' gradient. -/
def gradT (q k v : FVec Ideal S8192x8x64 .f32) (g : FVec Ideal S8192x8 .f32) (o : FVec Ideal S8192x8x64 .f32) : FVec Ideal S8x8192x8192 .f32 :=
  scoreT (dpT v o) (weightT (scoresT q k g)) (sumT (weightT (scoresT q k g)))

def scaledT (x : FVec Ideal S8x8192x8192 .f32) : FVec Ideal S8x8192x8192 .f32 :=
  mulf x (broadcastInDim S8x8192x8192 ![] bcast_S_S8x8192x8192 (constant S_ .f32 0x3E000000#32 : FVec Ideal S_ .f32))

def flatT (y : FVec Ideal S8192x8x64 .f32) : FVec Ideal S8192x512 .f32 := shapeCast S8192x512 y shapeCasts_S8192x8x64_S8192x512

def dqT (x : FVec Ideal S8x8192x8192 .f32) (k : FVec Ideal S8192x8x64 .f32) : FVec Ideal S8192x8x64 .f32 :=
  transpose S8192x8x64 [1, 0, 2] (Host.dotGeneral dot_S8x8192x8192_S8192x8x64_S8x8192x64_2_0_1_2_0_1 none (scaledT x) k : FVec Ideal S8x8192x64 .f32) transposes_S8x8192x64_S8192x8x64_1_0_2
def dkT (x : FVec Ideal S8x8192x8192 .f32) (q : FVec Ideal S8192x8x64 .f32) : FVec Ideal S8192x8x64 .f32 :=
  transpose S8192x8x64 [1, 0, 2] (Host.dotGeneral dot_S8x8192x8192_S8192x8x64_S8x8192x64_1_0_2_2_0_1 none (scaledT x) q : FVec Ideal S8x8192x64 .f32) transposes_S8x8192x64_S8192x8x64_1_0_2
def dvT (w : FVec Ideal S8x8192x8192 .f32) (o : FVec Ideal S8192x8x64 .f32) : FVec Ideal S8192x8x64 .f32 :=
  transpose S8192x8x64 [2, 0, 1] (Host.dotGeneral dot_S8x64x8192_S8x8192x8192_S8x64x8192_2_1_1_2_0_0 none (turnT o) (Host.divf w (wide (tall (sumT w)))) : FVec Ideal S8x64x8192 .f32) transposes_S8x64x8192_S8192x8x64_2_0_1
def dcT (x : FVec Ideal S8x8192x8192 .f32) : FVec Ideal S8192x8 .f32 :=
  addf (transpose S8192x8 [1, 0] (Host.reduceAdd (shapeCast S8x1x8192 (Host.reduceAdd (Host.negf x) zeroT reducesTo_S8x8192x8192_S8x8192_d1 h_S_ : FVec Ideal S8x8192 .f32) shapeCasts_S8x8192_S8x1x8192 : FVec Ideal S8x1x8192 .f32)
      zeroT reducesTo_S8x1x8192_S8x8192_d1 h_S_ : FVec Ideal S8x8192 .f32) transposes_S8x8192_S8192x8_1_0)
    (transpose S8192x8 [1, 0] (Host.reduceAdd (shapeCast S8x8192x1 (Host.reduceAdd x zeroT reducesTo_S8x8192x8192_S8x8192_d2 h_S_ : FVec Ideal S8x8192 .f32) shapeCasts_S8x8192_S8x8192x1 : FVec Ideal S8x8192x1 .f32)
      zeroT reducesTo_S8x8192x1_S8x8192_d2 h_S_ : FVec Ideal S8x8192 .f32) transposes_S8x8192_S8192x8_1_0)
def padT (y : FVec Ideal S8192x8 .f32) : FVec Ideal S8192x512 .f32 :=
  shapeCast S8192x512 (pad S8192x4x128 ![0, 0, 0] ![0, 0, 126] ![0, 0, 0] (shapeCast S8192x4x2 y shapeCasts_S8192x8_S8192x4x2 : FVec Ideal S8192x4x2 .f32)
    (sitofp (F := Ideal) .f32 (constantI S_ 32 0#32) : FVec Ideal S_ .f32) pads_S8192x4x2_S8192x4x128_000_000_01260 h_S_ : FVec Ideal S8192x4x128 .f32) shapeCasts_S8192x4x128_S8192x512

variable (m : (ℓ : Loc nD τ sig) → Buf (Elt Ideal) ℓ) (c : Dev nD)

theorem r85 : res_main_v85 m c = flatT (dqT (gradT (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1))) := by
  unfold res_main_v85; rfl
theorem r87 : res_main_v87 m c = truncf .bf16 (flatT (dkT (gradT (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg0)))) bitsLt_bf16_f32 := by
  unfold res_main_v87; rfl
theorem r89 : res_main_v89 m c = truncf .bf16 (flatT (dvT (weightT (scoresT (m ((c : Thread nD τ).loc main_arg0)) (m ((c : Thread nD τ).loc main_arg1)) (m ((c : Thread nD τ).loc main_arg3)))) (m ((c : Thread nD τ).loc main_arg4)))) bitsLt_bf16_f32 := by
  unfold res_main_v89; rfl
theorem r84 : res_main_v84 m c = padT (dcT (gradT (m ((c : Thread nD τ).loc main_arg0)) (m ((c : Thread nD τ).loc main_arg1)) (m ((c : Thread nD τ).loc main_arg2)) (m ((c : Thread nD τ).loc main_arg3)) (m ((c : Thread nD τ).loc main_arg4)))) := by
  unfold res_main_v84; rfl

/-! ### Entry by entry -/

theorem mask_at {α : Type} (h : Fin 8) (K R : Fin 8192) (a b : α) : Scalar.select (maskT (ix3 h K R)) a b = if R ≤ K then a else b := by
  unfold maskT
  pointwise
  have hw : (IntOp.cmpi CmpIPredicate.sle (BitVec.ofNat 32 R.val) (BitVec.ofNat 32 K.val) = 1#1) ↔ R ≤ K := by
    have h1 := R.isLt
    have h2 := K.isLt
    rw [Fin.le_def]
    word_cmp
  by_cases hR : R ≤ K
  · rw [if_pos hR, hw.2 hR]; rfl
  · rw [if_neg hR]; exact if_neg fun h' => hR (hw.1 h')

variable (q k v : FVec Ideal S8192x8x64 .f32) (g : FVec Ideal S8192x8 .f32) (o : FVec Ideal S8192x8x64 .f32)
variable (h : Fin 8) (K R : Fin 8192) (d w x : FVec Ideal S8x8192x8192 .f32) (l : FVec Ideal S8x8192 .f32)

theorem weight_at : weightT x (ix3 h K R) = Ideal.exp (x (ix3 h K R) - maxT x (ix2 h K)) := by
  unfold weightT
  pointwise [wide, tall]

theorem red_at : (Host.reduce FloatOps.maximumf x (constant S_ .f32 0xFF800000#32 : FVec Ideal S_ .f32) reducesTo_S8x8192x8192_S8x8192_d2 h_S_ : FVec Ideal S8x8192 .f32) (ix2 h K)
    = Finset.univ.fold max ⊥ fun R => x (ix3 h K R) := by
  pointwise
  rw [neg_inf]

theorem floor_at : (broadcastInDim S8x8192 ![] bcast_S_S8x8192 (constant S_ .f32 0xFF800000#32 : FVec Ideal S_ .f32)) (ix2 h K) = (⊥ : EReal) := by
  pointwise
  exact neg_inf

theorem maximum_at (a b : FVec Ideal S8x8192 .f32) (i : S8x8192.Idx) : maximumf a b i = max (a i) (b i) := rfl

theorem max_at : maxT x (ix2 h K) = max ⊥ (Finset.univ.fold max ⊥ fun R => x (ix3 h K R)) := by
  unfold maxT
  rw [maximum_at, red_at, floor_at]

theorem dp_at : dpT v o (ix3 h K R) = ∑ n, o (ix3 K h n) * v (ix3 R h n) := by
  unfold dpT
  pointwise [turnT]

theorem back_at : backT d w l (ix2 h K) = -∑ R, d (ix3 h K R) * Ideal.div 1 (l (ix2 h K) * l (ix2 h K)) * w (ix3 h K R) := by
  unfold backT
  pointwise [wide, tall, zeroT]
  exact Fin.sum_univ_one _

theorem score_at : scoreT d w l (ix3 h K R) = if R ≤ K then (Ideal.div (d (ix3 h K R)) (l (ix2 h K)) + backT d w l (ix2 h K)) * w (ix3 h K R) else 0 := by
  rw [← mask_at h K R]
  unfold scoreT
  pointwise [wide, tall, zeroT]

theorem dq_at (n : Fin 64) : dqT x k (ix3 K h n) = ∑ R, x (ix3 h K R) * ((1 / 8 : ℝ) : EReal) * k (ix3 R h n) := by
  unfold dqT
  pointwise [scaledT]
  rw [eighth]

theorem dk_at (n : Fin 64) : dkT x q (ix3 R h n) = ∑ K, x (ix3 h K R) * ((1 / 8 : ℝ) : EReal) * q (ix3 K h n) := by
  unfold dkT
  pointwise [scaledT]
  rw [eighth]

theorem dv_at (n : Fin 64) : dvT w o (ix3 R h n) = ∑ K, o (ix3 K h n) * Ideal.div (w (ix3 h K R)) (sumT w (ix2 h K)) := by
  unfold dvT
  pointwise [turnT, wide, tall]

theorem dc_at : dcT x (ix2 R h) = (∑ K, -x (ix3 h K R)) + ∑ M, x (ix3 h R M) := by
  unfold dcT
  pointwise [zeroT]
  exact congrArg₂ (· + ·) (Fin.sum_univ_one _) (Fin.sum_univ_one _)

/-! ### Over the reals -/

variable {D : Attn.Data} (I : Is D q k v g o)

include I in
theorem max_real : ∃ M : ℝ, maxT (scoresT q k g) (ix2 h K) = (M : EReal) := by
  obtain ⟨r, hr⟩ := row_max q k v g o I h K
  refine ⟨r, ?_⟩
  rw [max_at, hr]
  exact max_eq_right bot_le

include I in
theorem weight_eq (M : ℝ) (hM : maxT (scoresT q k g) (ix2 h K) = (M : EReal)) : weightT (scoresT q k g) (ix3 h K R) = (Attn.W D h K R M : EReal) := by
  rw [weight_at, hM, scores_at q k v g o I, Attn.exp_score]

include I in
theorem sum_eq (M : ℝ) (hM : maxT (scoresT q k g) (ix2 h K) = (M : EReal)) :
    sumT (weightT (scoresT q k g)) (ix2 h K) = ((Attn.Z D h K * Real.exp (-M) : ℝ) : EReal) := by
  rw [sumT_at, Attn.coe_sum' _ fun R _ => weight_eq q k v g o h K R I M hM, Attn.sum_W]

include I in
theorem dp_eq : dpT v o (ix3 h K R) = (Attn.DP D h K R : EReal) := by
  rw [dp_at]
  exact Attn.coe_sum' _ fun n _ => by rw [I.o, I.v, ← EReal.coe_mul, mul_comm]

include I in
theorem grad_eq : gradT q k v g o (ix3 h K R) = (Attn.DS D h K R : EReal) := by
  obtain ⟨M, hM⟩ := max_real q k v g o h K I
  unfold gradT
  rw [score_at]
  by_cases hR : R ≤ K
  · have hz := (Attn.ZM_pos D h K M).ne'
    rw [if_pos hR, back_at, sum_eq q k v g o h K I M hM, weight_eq q k v g o h K R I M hM, dp_eq q k v g o h K R I, Ideal.div_coe hz, ← EReal.coe_mul (Attn.Z D h K * _), Ideal.div_coe (mul_ne_zero hz hz), one_mul,
      Attn.coe_sum' _ fun R' _ => by rw [weight_eq q k v g o h K R' I M hM, dp_eq q k v g o h K R' I, ← EReal.coe_mul, ← EReal.coe_mul], ← EReal.coe_neg, ← EReal.coe_mul, ← EReal.coe_add, ← EReal.coe_mul,
      ← Attn.ref_DS D h K R M, mul_one_div]
  · rw [if_neg hR, Attn.DS_zero D h K R hR]; rfl

include I in
theorem p_eq : Ideal.div (weightT (scoresT q k g) (ix3 h K R)) (sumT (weightT (scoresT q k g)) (ix2 h K)) = (Attn.P D h K R : EReal) := by
  obtain ⟨M, hM⟩ := max_real q k v g o h K I
  rw [sum_eq q k v g o h K I M hM, weight_eq q k v g o h K R I M hM, Ideal.div_coe (Attn.ZM_pos D h K M).ne', ← EReal.coe_mul, mul_one_div, Attn.W_div]

include I in
theorem dq_eq (n : Fin 64) : dqT (gradT q k v g o) k (ix3 K h n) = (Attn.gq D h K n : EReal) := by
  rw [dq_at, Attn.coe_sum' _ fun R _ => by rw [grad_eq q k v g o h K R I, I.k, ← EReal.coe_mul, ← EReal.coe_mul]]
  unfold Attn.gq
  rw [Finset.sum_mul]
  exact congrArg _ (Finset.sum_congr rfl fun R _ => by ring)

include I in
theorem dk_eq (n : Fin 64) : dkT (gradT q k v g o) q (ix3 R h n) = (Attn.gk D h R n : EReal) := by
  rw [dk_at, Attn.coe_sum' _ fun K _ => by rw [grad_eq q k v g o h K R I, I.q, ← EReal.coe_mul, ← EReal.coe_mul]]
  exact congrArg _ (Finset.sum_congr rfl fun K _ => by ring)

include I in
theorem dv_eq (n : Fin 64) : dvT (weightT (scoresT q k g)) o (ix3 R h n) = (Attn.gv D h R n : EReal) := by
  rw [dv_at]
  exact Attn.coe_sum' _ fun K _ => by rw [p_eq q k v g o h K R I, I.o, ← EReal.coe_mul, mul_comm]

include I in
theorem dc_eq : dcT (gradT q k v g o) (ix2 R h) = (Attn.gc D h R : EReal) := by
  rw [dc_at, Attn.coe_sum' _ fun K _ => by rw [grad_eq q k v g o h K R I, ← EReal.coe_neg], Attn.coe_sum' _ fun M _ => grad_eq q k v g o h R M I, Attn.sum_DS, EReal.coe_zero, add_zero]
  unfold Attn.gc
  rw [Finset.sum_neg_distrib, zero_sub]

theorem flat_at (y : FVec Ideal S8192x8x64 .f32) (z : Fin 512) : flatT y (ix2 K z) = y (ix3 K (Cert.Kernel2Ideal.Fox.hx z) (Cert.Kernel2Ideal.Fox.dx z)) := by
  unfold flatT
  pointwise
  rfl

theorem pad_at (y : FVec Ideal S8192x8 .f32) (z : Fin 512) :
    padT y (ix2 K z) = if z.val % 128 = 0 then y (ix2 K (Cert.Kernel2Ideal.Fox.hh (Cert.Kernel2Ideal.Fox.pc z) 0)) else if z.val % 128 = 1 then y (ix2 K (Cert.Kernel2Ideal.Fox.hh (Cert.Kernel2Ideal.Fox.pc z) 1)) else 0 := by
  unfold padT
  pointwise
  have hz : FloatOps.sitofp (F := Ideal) FTy.f32 0#32 = (0 : EReal) := by
    show (((0#32 : BitVec 32).toInt : ℝ) : EReal) = 0
    norm_num
  by_cases h0 : z.val % 128 = 0
  · rw [if_pos h0, dif_pos (by omega)]
    exact congrArg (fun a => y (ix2 K a)) (Fin.ext (by show z.val / 128 * 2 + z.val % 128 = 2 * (z.val / 128) + 0; omega))
  · rw [if_neg h0]
    by_cases h1 : z.val % 128 = 1
    · rw [if_pos h1, dif_pos (by omega)]
      exact congrArg (fun a => y (ix2 K a)) (Fin.ext (by show z.val / 128 * 2 + z.val % 128 = 2 * (z.val / 128) + 1; omega))
    · rw [if_neg h1, dif_neg (by omega), hz]

end Cert.Reference2Ideal.Fox

end
-- ==== Proof.Fox.Claim.lean ====
/- The attention's gradient: kernel and reference end with one set of arrays. -/
module

public import proofs.«01_k».proof.Defs
public import proofs.«01_k».proof.Proof.Fox.Finite
public import proofs.«01_k».proof.Proof.Fox.Ref

@[expose] public section

set_option maxRecDepth 16384

noncomputable section

namespace Cert.Fox

open Idealize.ShloMosaic Idealize.ShloMosaic.TcCoe Idealize.SL.Sem
open Cert.Kernel2Ideal (S8192x8x64 S8192x8 S8192x512)
open Cert.Kernel2Ideal.Fox (Is hx dx gcx)

variable (a0 a1 a2 a4 : FVec Ideal S8192x8x64 .f32) (a3 : FVec Ideal S8192x8 .f32)

/-- The arguments, real. -/
def data : Attn.Data where
  q K h d := (a0 (ix3 K h d)).toReal
  k K h d := (a1 (ix3 K h d)).toReal
  v K h d := (a2 (ix3 K h d)).toReal
  o K h d := (a4 (ix3 K h d)).toReal
  c K h := (a3 (ix2 K h)).toReal

theorem data_is (h : Cert.Pre_finite2.fn a0 a1 a2 a3 a4 = fun _ => 1#1) : Is (data a0 a1 a2 a4 a3) a0 a1 a2 a3 a4 := by
  obtain ⟨h0, h1, h2, h3, h4⟩ := Cert.Pre_finite2.Fox.reals a0 a1 a2 a4 a3 (congrFun h ix0)
  exact ⟨fun _ _ _ => h0 _, fun _ _ _ => h1 _, fun _ _ _ => h2 _, fun _ _ => h3 _, fun _ _ _ => h4 _⟩

/-- The four results. -/
def G0 (D : Attn.Data) : FVec Ideal S8192x512 .f32 := fun i => (Attn.gq D (hx (i 1)) (i 0) (dx (i 1)) : EReal)
def G1 (D : Attn.Data) : FVec Ideal S8192x512 .bf16 := fun i => (Attn.gk D (hx (i 1)) (i 0) (dx (i 1)) : EReal)
def G2 (D : Attn.Data) : FVec Ideal S8192x512 .bf16 := fun i => (Attn.gv D (hx (i 1)) (i 0) (dx (i 1)) : EReal)
def G3 (D : Attn.Data) : FVec Ideal S8192x512 .f32 := fun i => (gcx D (i 0) (i 1) : EReal)

section
variable (m : (ℓ : Loc Cert.Kernel2Ideal.nD Cert.Kernel2Ideal.τ Cert.Kernel2Ideal.sig) → Buf (Elt Ideal) ℓ) (c : Dev Cert.Kernel2Ideal.nD)

/-- The device's arguments, real. -/
def dat : Attn.Data := data (m ((c : Thread Cert.Kernel2Ideal.nD Cert.Kernel2Ideal.τ).loc Cert.Kernel2Ideal.main_arg0)) (m ((c : Thread Cert.Kernel2Ideal.nD Cert.Kernel2Ideal.τ).loc Cert.Kernel2Ideal.main_arg1))
  (m ((c : Thread Cert.Kernel2Ideal.nD Cert.Kernel2Ideal.τ).loc Cert.Kernel2Ideal.main_arg2)) (m ((c : Thread Cert.Kernel2Ideal.nD Cert.Kernel2Ideal.τ).loc Cert.Kernel2Ideal.main_arg4))
  (m ((c : Thread Cert.Kernel2Ideal.nD Cert.Kernel2Ideal.τ).loc Cert.Kernel2Ideal.main_arg3))

open Cert.Kernel2Ideal Cert.Kernel2Ideal.Gen Cert.Kernel2Ideal.Fox in
theorem kernel (ρ : Dev Cert.Kernel2Ideal.nD → PrngReg) (h : Cert.Pre_Kernel2Ideal_finite2 m) :
    θ_run defs (onTc (τ := τ) (main (F := Ideal))) ⟨m, fun _ => 0, ρ⟩ fun r => ∀ c : Dev nD,
      r.2.mem ((c : Thread nD τ).loc main_v126_0) = G0 (dat m c)
      ∧ r.2.mem ((c : Thread nD τ).loc main_v126_1) = G1 (dat m c)
      ∧ r.2.mem ((c : Thread nD τ).loc main_v126_2) = G2 (dat m c)
      ∧ r.2.mem ((c : Thread nD τ).loc main_v126_3) = G3 (dat m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run _ _ _).mono (fun r hr c => ?_) (θ_run_and (run_main m ρ) (unchanged_quiet m ρ))
  have J := data_is _ _ _ _ _ (h c)
  refine ⟨((hr.1 c).1 5).trans ((final5 m c).trans (funext fun i => gdq_eq _ m c J _)), ((hr.1 c).1 6).trans ((final6 m c).trans (funext fun i => gdk_eq _ m c J _)),
    ((hr.1 c).1 7).trans ((final7 m c).trans (funext fun i => gdv_eq _ m c J _)), ((hr.1 c).1 8).trans ((final8 m c).trans (funext fun i => gdc_eq _ m c J _)), hr.2.1 c⟩

end

section
open Cert.Reference2Ideal Cert.Reference2Ideal.Fox
variable (m : (ℓ : Loc nD τ sig) → Buf (Elt Ideal) ℓ) (c : Dev nD)
variable {D : Attn.Data} (I : Is D (m ((c : Thread nD τ).loc main_arg0)) (m ((c : Thread nD τ).loc main_arg1)) (m ((c : Thread nD τ).loc main_arg2)) (m ((c : Thread nD τ).loc main_arg3)) (m ((c : Thread nD τ).loc main_arg4)))

include I in
theorem ref0 : Cert.Reference2Ideal.Value.res_main_v85 m c = G0 D := by
  rw [r85]
  funext i
  rw [eq_ix2 i]
  exact (flat_at _ _ _).trans (dq_eq _ _ _ _ _ _ _ I _)

include I in
theorem ref1 : Cert.Reference2Ideal.Value.res_main_v87 m c = G1 D := by
  rw [r87]
  funext i
  rw [eq_ix2 i]
  exact (flat_at _ _ _).trans (dk_eq _ _ _ _ _ _ _ I _)

include I in
theorem ref2 : Cert.Reference2Ideal.Value.res_main_v89 m c = G2 D := by
  rw [r89]
  funext i
  rw [eq_ix2 i]
  exact (flat_at _ _ _).trans (dv_eq _ _ _ _ _ _ _ I _)

include I in
theorem lanes_eq (K : Fin 8192) (z : Fin 512) :
    (if z.val % 128 = 0 then dcT (gradT (m ((c : Thread nD τ).loc main_arg0)) (m ((c : Thread nD τ).loc main_arg1)) (m ((c : Thread nD τ).loc main_arg2)) (m ((c : Thread nD τ).loc main_arg3)) (m ((c : Thread nD τ).loc main_arg4))) (ix2 K (Cert.Kernel2Ideal.Fox.hh (Cert.Kernel2Ideal.Fox.pc z) 0))
      else if z.val % 128 = 1 then dcT (gradT (m ((c : Thread nD τ).loc main_arg0)) (m ((c : Thread nD τ).loc main_arg1)) (m ((c : Thread nD τ).loc main_arg2)) (m ((c : Thread nD τ).loc main_arg3)) (m ((c : Thread nD τ).loc main_arg4))) (ix2 K (Cert.Kernel2Ideal.Fox.hh (Cert.Kernel2Ideal.Fox.pc z) 1))
      else 0) = (gcx D K z : EReal) := by
  unfold gcx
  rw [dc_eq _ _ _ _ _ _ _ I, dc_eq _ _ _ _ _ _ _ I]
  by_cases h0 : z.val % 128 = 0
  · rw [if_pos h0, if_pos h0]
  · rw [if_neg h0, if_neg h0]
    by_cases h1 : z.val % 128 = 1
    · rw [if_pos h1, if_pos h1]
    · rw [if_neg h1, if_neg h1]; rfl

include I in
theorem ref3 : Cert.Reference2Ideal.Value.res_main_v84 m c = G3 D := by
  rw [r84]
  funext i
  rw [eq_ix2 i]
  exact (pad_at _ _ _).trans (lanes_eq _ _ I _ _)

end

/-- The kernel's gradients are the derivative of the attention. -/
theorem algebraic : Cert.algebraic_Kernel2Ideal_Reference2Ideal_pre_finite2 := by
  intro m ρ m' ρ' hpre hag
  refine ⟨fun c => G0 (dat m c), fun c => G1 (dat m c), fun c => G2 (dat m c), fun c => G3 (dat m c), kernel m ρ hpre, ?_⟩
  refine (θ_run _ _ _).mono (fun r h c => ?_) (Cert.Reference2Ideal.Value.run m' ρ')
  have J : Is (dat m c) _ _ _ _ _ := data_is _ _ _ _ _ (hpre c)
  have e := hag c
  obtain ⟨D, hD⟩ : ∃ D, D = dat m c := ⟨_, rfl⟩
  rw [← hD, ← e.1, ← e.2.1, ← e.2.2.1, ← e.2.2.2.1, ← e.2.2.2.2, hD] at J
  obtain ⟨h0, h1, h2, h3, hk⟩ := h c
  exact ⟨h0.trans (ref0 m' c J), h1.trans (ref1 m' c J), h2.trans (ref2 m' c J), h3.trans (ref3 m' c J), hk⟩

end Cert.Fox

end
-- ==== Proof.Norm.Math.lean ====
/- A layer norm's gradient along one row: the form that the kernels write out and the form that differentiation gives are equal at finite rows. -/
module

public import proofs.«01_k».proof.Proof.Fox.Math

@[expose] public section

noncomputable section

namespace Cert.Norm

open Idealize.ShloMosaic

/-- The row's width, the small constant under the root, one half with a minus, and two, as printed. -/
abbrev W : EReal := Ideal.ofBits .f32 0x44800000#32
abbrev eps : EReal := Ideal.ofBits .f32 0x3727C5AC#32
abbrev half : EReal := Ideal.ofBits .f32 0xBF000000#32
abbrev two : EReal := Ideal.ofBits .f32 0x40000000#32

variable (x t : Fin 1024 → EReal)

def dev (l : Fin 1024) : EReal := x l - Ideal.div (∑ k, x k) W
def var : EReal := Ideal.div (∑ k, dev x k * dev x k) W + eps
def scaled (l : Fin 1024) : EReal := dev x l * Ideal.rsqrt (var x)
/-- The kernels' gradient, of the cotangent times the gain. -/
def grad (l : Fin 1024) : EReal :=
  Ideal.rsqrt (var x) * ((t l - Ideal.div (∑ k, t k) W) - scaled x l * Ideal.div (∑ k, t k * scaled x k) W)
/-- The cotangent of the row's squared deviations. -/
def pull : EReal := Ideal.div ((∑ k, dev x k * t k) * (half * Ideal.div (Ideal.rsqrt (var x)) (var x))) W
/-- The gradient as differentiation gives it. -/
def back (l : Fin 1024) : EReal :=
  (t l * Ideal.rsqrt (var x) + pull x t * (two * dev x l))
    + Ideal.div ((∑ k, -(t k * Ideal.rsqrt (var x))) + ∑ k, -(pull x t * (two * dev x k))) W

theorem W_eq : W = ((1024 : ℝ) : EReal) := by
  simp [W, Ideal.ofBits, Ideal.ieee, -EReal.coe_mul]; norm_num
theorem half_eq : half = ((-(1 / 2) : ℝ) : EReal) := by
  simp [half, Ideal.ofBits, Ideal.ieee, -EReal.coe_mul]; norm_num
theorem two_eq : two = ((2 : ℝ) : EReal) := by
  simp [two, Ideal.ofBits, Ideal.ieee, -EReal.coe_mul]; norm_num
theorem eps_eq : ∃ e : ℝ, 0 < e ∧ eps = (e : EReal) := by
  refine ⟨10995116 * 2 ^ (-40 : ℤ), by positivity, ?_⟩
  simp [eps, Ideal.ofBits, Ideal.ieee, -EReal.coe_mul]

variable {x t}

theorem div_real {a b : EReal} {a' b' : ℝ} (ha : a = a') (hb : b = b') (h0 : b' ≠ 0) : Ideal.div a b = ((a' / b' : ℝ) : EReal) := by
  rw [ha, hb, Ideal.div_coe h0, ← EReal.coe_mul, mul_one_div]

theorem grad_eq (x' t' : Fin 1024 → ℝ) (hx : ∀ l, x l = (x' l : EReal)) (ht : ∀ l, t l = (t' l : EReal)) (l : Fin 1024) :
    grad x t l = back x t l := by
  obtain ⟨e, he, hE⟩ := eps_eq
  have n0 : (1024 : ℝ) ≠ 0 := by norm_num
  have hd : ∀ l, dev x l = ((x' l - (∑ k, x' k) / 1024 : ℝ) : EReal) := fun l => by
    rw [dev, div_real (Attn.coe_sum' _ fun k _ => hx k) W_eq n0, hx, ← EReal.coe_sub]
  have s0 : ∑ k, (x' k - (∑ k, x' k) / 1024) = 0 := by
    rw [Finset.sum_sub_distrib, Finset.sum_const, Finset.card_univ, Fintype.card_fin, nsmul_eq_mul]; push_cast; ring
  obtain ⟨D, hD⟩ : ∃ D : Fin 1024 → ℝ, ∀ k, D k = x' k - (∑ k, x' k) / 1024 := ⟨_, fun _ => rfl⟩
  simp only [← hD] at hd s0
  have hv : var x = (((∑ k, D k * D k) / 1024 + e : ℝ) : EReal) := by
    rw [var, div_real (Attn.coe_sum' _ fun k _ => by rw [hd, ← EReal.coe_mul]) W_eq n0, hE, ← EReal.coe_add]
  generalize hV : (∑ k, D k * D k) / 1024 + e = v at *
  have vpos : 0 < v := by
    have : 0 ≤ ∑ k, D k * D k := Finset.sum_nonneg fun k _ => mul_self_nonneg _
    rw [← hV]; positivity
  have hr : Ideal.rsqrt (var x) = (((Real.sqrt v)⁻¹ : ℝ) : EReal) := by
    rw [hv, Ideal.rsqrt_coe, if_neg (not_lt.2 vpos.le), if_neg vpos.ne']
  have hq : (Real.sqrt v)⁻¹ * (Real.sqrt v)⁻¹ * v = 1 := by
    have := Real.mul_self_sqrt vpos.le
    have := (Real.sqrt_pos.2 vpos).ne'
    field_simp
    nlinarith
  generalize (Real.sqrt v)⁻¹ = r at *
  have hs : ∀ l, scaled x l = ((D l * r : ℝ) : EReal) := fun l => by rw [scaled, hd, hr, ← EReal.coe_mul]
  have hp : pull x t = (((∑ k, D k * t' k) * (-(1 / 2) * (r / v)) / 1024 : ℝ) : EReal) := by
    rw [pull]
    refine div_real ?_ W_eq n0
    rw [Attn.coe_sum' _ fun k _ => by rw [hd, ht, ← EReal.coe_mul], half_eq, div_real hr hv vpos.ne', ← EReal.coe_mul, ← EReal.coe_mul]
  have hL : grad x t l = ((r * ((t' l - (∑ k, t' k) / 1024) - D l * r * ((∑ k, t' k * (D k * r)) / 1024)) : ℝ) : EReal) := by
    rw [grad, hr, hs, div_real (Attn.coe_sum' _ fun k _ => ht k) W_eq n0,
      div_real (Attn.coe_sum' _ fun k _ => by rw [ht, hs, ← EReal.coe_mul]) W_eq n0, ht,
      ← EReal.coe_sub, ← EReal.coe_mul, ← EReal.coe_sub, ← EReal.coe_mul]
  generalize hP : (∑ k, D k * t' k) * (-(1 / 2) * (r / v)) / 1024 = p at *
  have hR : back x t l = ((t' l * r + p * (2 * D l)) + ((∑ k, -(t' k * r)) + ∑ k, -(p * (2 * D k))) / 1024 : ℝ) := by
    rw [back, hr, hp, two_eq, hd, ht,
      div_real (a' := (∑ k, -(t' k * r)) + ∑ k, -(p * (2 * D k))) (by
        rw [Attn.coe_sum' _ fun k _ => by rw [ht, ← EReal.coe_mul, ← EReal.coe_neg],
          Attn.coe_sum' _ fun k _ => by rw [hd, ← EReal.coe_mul, ← EReal.coe_mul, ← EReal.coe_neg], ← EReal.coe_add]) W_eq n0,
      ← EReal.coe_mul, ← EReal.coe_mul, ← EReal.coe_mul, ← EReal.coe_add, ← EReal.coe_add]
  rw [hL, hR]
  refine congrArg _ ?_
  have a1 : ∑ k, t' k * (D k * r) = (∑ k, D k * t' k) * r := by
    rw [Finset.sum_mul]; exact Finset.sum_congr rfl fun k _ => by ring
  have a2 : ∑ k, -(t' k * r) = -((∑ k, t' k) * r) := by rw [Finset.sum_neg_distrib, Finset.sum_mul]
  have a3 : ∑ k, -(p * (2 * D k)) = 0 := by
    rw [Finset.sum_neg_distrib, ← Finset.mul_sum, ← Finset.mul_sum, s0]; ring
  rw [a1, a2, a3, ← hP]
  have a4 : r / v = r * r * r := by
    rw [div_eq_iff vpos.ne']; linear_combination (-r) * hq
  rw [a4]
  ring

end Cert.Norm

end
-- ==== Proof.Norm.Pay.lean ====
/- The feed-forward output's gradient: what one grid point computes, read at an index. -/
module

public import proofs.«01_k».proof.Proof.Gen.Kernel3Ideal.Value
public import proofs.«01_k».proof.Proof.Norm.Math
public import Idealize.ShloMosaic.Lib.Pointwise
public import Idealize.ShloMosaic.Lib.Pipeline.ValueKit

@[expose] public section

set_option maxRecDepth 16384

noncomputable section

namespace Cert.Kernel3Ideal.Norm

open Cert.Kernel3Ideal Cert.Kernel3Ideal.Gen Idealize.ShloMosaic Idealize.ShloMosaic.TcCoe Idealize.SL.Sem Cert.Norm

variable (d x : FVec Ideal S512x1024 .f32) (g : FVec Ideal S1x1024 .f32) (r : Fin 512) (l : Fin 1024)

theorem pay5_at : k0_pay5 (F := Ideal) x (ix2 r l) = dev (fun k => x (ix2 r k)) l := by
  pointwise [k0_pay5, dev]

theorem pay6_at (z : Fin 1) : k0_pay6 (F := Ideal) x (ix2 r z) = Ideal.rsqrt (var (fun k => x (ix2 r k))) := by
  pointwise [k0_pay6]
  simp only [pay5_at]
  rfl

theorem pay7_at : k0_pay7 (F := Ideal) x (ix2 r l) = scaled (fun k => x (ix2 r k)) l := by
  pointwise [k0_pay7]
  rw [pay5_at, pay6_at]
  rfl

theorem du_at : k0_pay10 (F := Ideal) (k0_pay8 d x g) (k0_pay9 x) (ix2 r l)
    = grad (fun k => x (ix2 r k)) (fun k => d (ix2 r k) * g (ix2 0 k)) l := by
  pointwise [k0_pay10, k0_pay8, k0_pay9]
  simp only [pay6_at, pay7_at]
  rfl

theorem dg_at (w : FVec Ideal S1x1024 .f32) (z : Fin 1) : k0_pay11 (F := Ideal) d (k0_pay7 x) w (ix2 z l)
    = w (ix2 z l) + ∑ r : Fin 512, d (ix2 r l) * scaled (fun k => x (ix2 r k)) l := by
  pointwise [k0_pay11]
  simp only [pay7_at]

theorem db_at (w : FVec Ideal S1x1024 .f32) (z : Fin 1) : k0_pay12 (F := Ideal) d w (ix2 z l)
    = w (ix2 z l) + ∑ r : Fin 512, d (ix2 r l) := by
  pointwise [k0_pay12]

theorem back_at (a b : FVec Ideal S512x1024 .f32) (w : FVec Ideal S1x704x1024 .bf16) (z : Fin 1) (f : Fin 704) :
    k0_pay14 (F := Ideal) a b w (ix3 z r f) = ∑ k : Fin 1024, k0_pay10 (F := Ideal) a b (ix2 r k) * w (ix3 0 f k) := by
  pointwise [k0_pay14, k0_pay13]

theorem pay15_eq (a b : FVec Ideal S512x1024 .f32) (w : FVec Ideal S1x704x1024 .bf16) : k0_pay15 (F := Ideal) a b w = k0_pay14 (F := Ideal) a b w := rfl
theorem pay1_eq (a b : FVec Ideal S512x1024 .f32) (w : FVec Ideal S1x704x1024 .bf16) : k0_pay1 (F := Ideal) (k0_pay13 a b) w = k0_pay14 (F := Ideal) a b w := rfl
theorem pay2_eq (a b : FVec Ideal S512x1024 .f32) (w : FVec Ideal S1x704x1024 .bf16) : k0_pay2 (F := Ideal) (k0_pay13 a b) w = k0_pay14 (F := Ideal) a b w := rfl

theorem zero3 (z : Fin 1) : k0_pay3 (F := Ideal) (ix2 z l) = 0 := by pointwise [k0_pay3]
theorem zero4 (z : Fin 1) : k0_pay4 (F := Ideal) (ix2 z l) = 0 := by pointwise [k0_pay4]

end Cert.Kernel3Ideal.Norm

end
-- ==== Proof.Norm.Out.lean ====
/- The feed-forward output's gradient: what the grid points write back, over the whole arrays. -/
module

public import proofs.«01_k».proof.Proof.Norm.Pay
public import Idealize.ShloMosaic.Lib.Pipeline.ReadBack

@[expose] public section

set_option maxRecDepth 16384

noncomputable section

namespace Cert.Kernel3Ideal.Norm

open Cert.Kernel3Ideal Cert.Kernel3Ideal.Gen Idealize.ShloMosaic Idealize.ShloMosaic.TcCoe Idealize.SL.Sem Cert.Norm
open Idealize.ShloMosaic.Pipeline (Dat)

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0] ∧ win0_3.index t = ![0, 0, 0]
    ∧ win0_4.index t = ![t.val, 0] ∧ win0_5.index t = ![0, 0] ∧ win0_6.index t = ![0, 0] ∧ win0_7.index t = ![0, t.val, 0] ∧ t.val < 16 :=
  (by decide +kernel : ∀ t : Fin grid0.N, _)

/-- The sum before the norm. -/
def pre (h : FVec Ideal S8192x1024 .f32) (a : FVec Ideal S8192x2816 .f32) (w : FVec Ideal S2816x1024 .f32) : FVec Ideal S8192x1024 .f32 :=
  addf (mulf (broadcastInDim S8192x1024 ![] bcast_S_S8192x1024 (constant S_ .f32 0x3FB504F3#32)) h) (Host.dotGeneral dot_S8192x2816_S2816x1024_S8192x1024_1_0_0_1_n_n none a w)

theorem V_u : V m c main_v3 = pre (m ((c : Thread nD τ).loc main_arg0)) (m ((c : Thread nD τ).loc main_arg1)) (m ((c : Thread nD τ).loc main_arg2)) := by
  dsimp only [V, hostOps0, List.flatten_cons, List.flatten_nil, List.append_nil, List.cons_append, List.nil_append]
  after_results_simp
  rfl

theorem V_g : V m c main_v4 = broadcastInDim S1x1024 ![1] bcast_S1024_S1x1024_1 (m ((c : Thread nD τ).loc main_arg3) : FVec Ideal S1024 .f32) := by
  dsimp only [V, hostOps0, List.flatten_cons, List.flatten_nil, List.append_nil, List.cons_append, List.nil_append]
  after_results_simp

theorem V_w : V m c main_v6 = (truncf (F := Ideal) .bf16 (shapeCast S4x704x1024 (m ((c : Thread nD τ).loc main_arg2) : FVec Ideal S2816x1024 .f32) shapeCasts_S2816x1024_S4x704x1024) bitsLt_bf16_f32 : FVec Ideal S4x704x1024 .bf16) := by
  dsimp only [V, hostOps0, List.flatten_cons, List.flatten_nil, List.append_nil, List.cons_append, List.nil_append]
  after_results_simp
  rfl

theorem V_d : V m c main_arg5 = m ((c : Thread nD τ).loc main_arg5) := by
  dsimp only [V, hostOps0, List.flatten_cons, List.flatten_nil, List.append_nil, List.cons_append, List.nil_append]
  after_results_simp

/-! The arguments, entry by entry. -/

abbrev U (R : Fin 8192) (l : Fin 1024) : EReal := pre (m ((c : Thread nD τ).loc main_arg0)) (m ((c : Thread nD τ).loc main_arg1)) (m ((c : Thread nD τ).loc main_arg2)) (ix2 R l)
abbrev A2 (F : Fin 2816) (l : Fin 1024) : EReal := (m ((c : Thread nD τ).loc main_arg2) : FVec Ideal S2816x1024 .f32) (ix2 F l)
abbrev A3 (l : Fin 1024) : EReal := (m ((c : Thread nD τ).loc main_arg3) : FVec Ideal S1024 .f32) (ix1 l)
abbrev A5 (R : Fin 8192) (l : Fin 1024) : EReal := (m ((c : Thread nD τ).loc main_arg5) : FVec Ideal S8192x1024 .f32) (ix2 R l)

variable (t : Fin cfg0.N) (r : Fin 512)

/-- The array's row of a block's row. -/
def row : Fin 8192 := ⟨t.val * 512 + r, by have := (idx t).2.2.2.2.2.2.2.2; omega⟩

theorem d_block (l : Fin 1024) : (iblk m c 0 t : FVec Ideal S512x1024 .f32) (ix2 r l) = A5 m c (row t r) l := by
  show (V m c main_arg5) (((cfg0.win 0).blk t).view.emb _) = _
  rw [V_d]
  refine congrArg (m ((c : Thread nD τ).loc main_arg5) : FVec Ideal S8192x1024 .f32) ?_
  unfold row
  blk_ext [idx t]

theorem u_block (l : Fin 1024) : (iblk m c 1 t : FVec Ideal S512x1024 .f32) (ix2 r l) = U m c (row t r) l := by
  show (V m c main_v3) (((cfg0.win 1).blk t).view.emb _) = _
  rw [V_u]
  refine congrArg (pre _ _ _) ?_
  unfold row
  blk_ext [idx t]

theorem g_block (z : Fin 1) (l : Fin 1024) : (iblk m c 2 t : FVec Ideal S1x1024 .f32) (ix2 z l) = A3 m c l := by
  show (V m c main_v4) (((cfg0.win 2).blk t).view.emb _) = _
  rw [V_g]
  have e : ((cfg0.win 2).blk t).view.emb (ix2 z l) = ix2 z l := by blk_ext [idx t]
  rw [e]
  pointwise

theorem w_read (A : FVec Ideal S2816x1024 .f32) (q : Fin 4) (f : Fin 704) (l : Fin 1024) :
    (truncf (F := Ideal) .bf16 (shapeCast S4x704x1024 A shapeCasts_S2816x1024_S4x704x1024) bitsLt_bf16_f32 : FVec Ideal S4x704x1024 .bf16) (ix3 q f l)
      = A (ix2 ⟨q.val * 704 + f, by omega⟩ l) := by
  pointwise

theorem w_block (q : Fin 4) (f : Fin 704) (l : Fin 1024) : (iblk m c 3 t : FVec Ideal S4x704x1024 .bf16) (ix3 q f l) = A2 m c ⟨q.val * 704 + f, by omega⟩ l := by
  show (V m c main_v6) (((cfg0.win 3).blk t).view.emb _) = _
  rw [V_w]
  have e : ((cfg0.win 3).blk t).view.emb (ix3 q f l) = ix3 q f l := by blk_ext [idx t]
  rw [e]
  exact w_read _ q f l

/-! The results. -/

def G4 (R : Fin 8192) (l : Fin 1024) : EReal := grad (U m c R) (fun k => A5 m c R k * A3 m c k) l
def T5 (l : Fin 1024) (K : ℕ) : EReal := if h : K < 8192 then A5 m c ⟨K, h⟩ l * scaled (U m c ⟨K, h⟩) l else 0
def T6 (l : Fin 1024) (K : ℕ) : EReal := if h : K < 8192 then A5 m c ⟨K, h⟩ l else 0
def G7 (q : Fin 4) (R : Fin 8192) (f : Fin 704) : EReal := ∑ k : Fin 1024, G4 m c R k * A2 m c ⟨q.val * 704 + f, by omega⟩ k

theorem du (l : Fin 1024) : k0_pay10 (F := Ideal) (k0_pay8 (iblk m c 0 t) (iblk m c 1 t) (iblk m c 2 t)) (k0_pay9 (iblk m c 1 t)) (ix2 r l) = G4 m c (row t r) l := by
  rw [du_at]
  simp only [d_block, u_block, g_block]
  rfl

theorem dg (w : FVec Ideal S1x1024 .f32) (z : Fin 1) (l : Fin 1024) : k0_pay11 (F := Ideal) (iblk m c 0 t) (k0_pay7 (iblk m c 1 t)) w (ix2 z l)
    = w (ix2 z l) + ∑ K ∈ Finset.Ico (t.val * 512) ((t.val + 1) * 512), T5 m c l K := by
  rw [dg_at]
  simp only [d_block, u_block]
  rw [Finset.sum_Ico_eq_sum_range, show (t.val + 1) * 512 - t.val * 512 = 512 by omega, Finset.sum_range]
  refine congrArg _ (Finset.sum_congr rfl fun r _ => ?_)
  rw [T5, dif_pos (show t.val * 512 + r.val < 8192 from (row t r).isLt)]
  rfl

theorem db (w : FVec Ideal S1x1024 .f32) (z : Fin 1) (l : Fin 1024) : k0_pay12 (F := Ideal) (iblk m c 0 t) w (ix2 z l)
    = w (ix2 z l) + ∑ K ∈ Finset.Ico (t.val * 512) ((t.val + 1) * 512), T6 m c l K := by
  rw [db_at]
  simp only [d_block]
  rw [Finset.sum_Ico_eq_sum_range, show (t.val + 1) * 512 - t.val * 512 = 512 by omega, Finset.sum_range]
  refine congrArg _ (Finset.sum_congr rfl fun r _ => ?_)
  rw [T6, dif_pos (show t.val * 512 + r.val < 8192 from (row t r).isLt)]
  rfl

theorem carry5 (n : ℕ) (hn : n < cfg0.N) (z : Fin 1) (l : Fin 1024) :
    (outsAt0 m c n hn).2.1 (ix2 z l) = ∑ K ∈ Finset.range ((n + 1) * 512), T5 m c l K := by
  have hN : n < 16 := lt_of_lt_of_eq hn N_0
  induction n generalizing z with
  | zero =>
    rw [outsAt0_A m c ⟨0, hn⟩ rfl]; frame_out
    refine (dg m c ⟨0, hn⟩ _ z l).trans ?_
    rw [zero3, zero_add, Finset.range_eq_Ico]
    simp only [zero_mul]
  | succ n ih =>
    rw [outsAt0_B m c ⟨n + 1, hn⟩ (by dsimp only; omega)]; frame_out
    refine (dg m c ⟨n + 1, hn⟩ _ z l).trans ?_
    rw [Finset.range_eq_Ico, ← Finset.sum_Ico_consecutive _ (Nat.zero_le ((n + 1) * 512)) (by omega), ← Finset.range_eq_Ico]
    exact congrArg (· + _) (ih (Nat.lt_of_succ_lt hn) z (by omega))

theorem carry6 (n : ℕ) (hn : n < cfg0.N) (z : Fin 1) (l : Fin 1024) :
    (outsAt0 m c n hn).2.2.1 (ix2 z l) = ∑ K ∈ Finset.range ((n + 1) * 512), T6 m c l K := by
  have hN : n < 16 := lt_of_lt_of_eq hn N_0
  induction n generalizing z with
  | zero =>
    rw [outsAt0_A m c ⟨0, hn⟩ rfl]; frame_out
    refine (db m c ⟨0, hn⟩ _ z l).trans ?_
    rw [zero4, zero_add, Finset.range_eq_Ico]
    simp only [zero_mul]
  | succ n ih =>
    rw [outsAt0_B m c ⟨n + 1, hn⟩ (by dsimp only; omega)]; frame_out
    refine (db m c ⟨n + 1, hn⟩ _ z l).trans ?_
    rw [Finset.range_eq_Ico, ← Finset.sum_Ico_consecutive _ (Nat.zero_le ((n + 1) * 512)) (by omega), ← Finset.range_eq_Ico]
    exact congrArg (· + _) (ih (Nat.lt_of_succ_lt hn) z (by omega))

/-- The rows' sums over all rows. -/
def G5 (l : Fin 1024) : EReal := ∑ R : Fin 8192, A5 m c R l * scaled (U m c R) l
def G6 (l : Fin 1024) : EReal := ∑ R : Fin 8192, A5 m c R l

theorem sum5 (l : Fin 1024) : ∑ K ∈ Finset.range ((15 + 1) * 512), T5 m c l K = G5 m c l := by
  rw [G5, show (15 + 1) * 512 = 8192 from rfl, Finset.sum_range]
  exact Finset.sum_congr rfl fun R _ => by rw [T5, dif_pos R.isLt]

theorem sum6 (l : Fin 1024) : ∑ K ∈ Finset.range ((15 + 1) * 512), T6 m c l K = G6 m c l := by
  rw [G6, show (15 + 1) * 512 = 8192 from rfl, Finset.sum_range]
  exact Finset.sum_congr rfl fun R _ => by rw [T6, dif_pos R.isLt]

theorem out4 (l : Fin 1024) : (outsAt0 m c t.val t.isLt).1 (ix2 r l) = G4 m c (row t r) l := by
  by_cases h0 : t.val % 16 = 0
  · rw [outsAt0_A m c t h0]; frame_out
    exact du m c t r l
  · rw [outsAt0_B m c t h0]; frame_out
    exact du m c t r l

theorem G7_congr {q q' : Fin 4} {R R' : Fin 8192} {f f' : Fin 704} (hq : q = q') (hR : R = R') (hf : f = f') : G7 m c q R f = G7 m c q' R' f' := by
  rw [hq, hR, hf]

theorem piece (w : FVec Ideal S1x704x1024 .bf16) (q : Fin 4) (z : Fin 1) (f : Fin 704) (hw : ∀ k, w (ix3 0 f k) = A2 m c ⟨q.val * 704 + f, by omega⟩ k) :
    k0_pay14 (F := Ideal) (k0_pay8 (iblk m c 0 t) (iblk m c 1 t) (iblk m c 2 t)) (k0_pay9 (iblk m c 1 t)) w (ix3 z r f) = G7 m c q (row t r) f := by
  rw [back_at]
  simp only [du, hw]
  rfl

theorem out7 (q : Fin 4) (f : Fin 704) : (outsAt0 m c t.val t.isLt).2.2.2 (ix3 q r f) = G7 m c q (row t r) f := by
  by_cases t0 : t.val % 16 = 0
  · rw [outsAt0_A m c t t0]; frame_out
    canon_tiles x h
    all_goals
      idx_vars x
      obtain rfl : r = x1 := Fin.ext h1
      obtain rfl : f = x2 := Fin.ext h2
    · rw [pay2_eq]
      obtain rfl : q = 3 := Fin.ext (by have : q.val = 3 + x0.val := h0; omega)
      exact piece m c t r _ 3 _ _ fun k => by pointwise; exact w_block m c t _ _ _
    · rw [pay1_eq]
      obtain rfl : q = 2 := Fin.ext (by have : q.val = 2 + x0.val := h0; omega)
      exact piece m c t r _ 2 _ _ fun k => by pointwise; exact w_block m c t _ _ _
    · rw [pay15_eq]
      obtain rfl : q = 1 := Fin.ext (by have : q.val = 1 + x0.val := h0; omega)
      exact piece m c t r _ 1 _ _ fun k => by pointwise; exact w_block m c t _ _ _
    · obtain rfl : q = 0 := Fin.ext (by have : q.val = x0.val := h0; omega)
      exact piece m c t r _ 0 _ _ fun k => by
        pointwise
        exact (w_block m c t 0 f k).trans (congrArg (fun F => A2 m c F k) (Fin.ext (by show 0 * 704 + f.val = f.val; omega)))
  · rw [outsAt0_B m c t t0]; frame_out
    canon_tiles x h
    all_goals
      idx_vars x
      obtain rfl : r = x1 := Fin.ext h1
      obtain rfl : f = x2 := Fin.ext h2
    · rw [pay2_eq]
      obtain rfl : q = 3 := Fin.ext (by have : q.val = 3 + x0.val := h0; omega)
      exact piece m c t r _ 3 _ _ fun k => by pointwise; exact w_block m c t _ _ _
    · rw [pay1_eq]
      obtain rfl : q = 2 := Fin.ext (by have : q.val = 2 + x0.val := h0; omega)
      exact piece m c t r _ 2 _ _ fun k => by pointwise; exact w_block m c t _ _ _
    · rw [pay15_eq]
      obtain rfl : q = 1 := Fin.ext (by have : q.val = 1 + x0.val := h0; omega)
      exact piece m c t r _ 1 _ _ fun k => by pointwise; exact w_block m c t _ _ _
    · obtain rfl : q = 0 := Fin.ext (by have : q.val = x0.val := h0; omega)
      exact piece m c t r _ 0 _ _ fun k => by
        pointwise
        exact (w_block m c t 0 f k).trans (congrArg (fun F => A2 m c F k) (Fin.ext (by show 0 * 704 + f.val = f.val; omega)))

theorem final4 : (dats m 0 c).arrAt 4 cfg0.N = fun i : S8192x1024.Idx => G4 m c (i 0) (i 1) := by
  refine (dats m 0 c).arrAt_eq_of_covers 4 _ (by decide +kernel) fun t _ y => ?_
  have ht := (idx t).2.2.2.2.2.2.2.2
  blk_simp
  rw [after0_4]
  idx_vars y
  rw [out4]
  refine congrArg₂ (G4 m c) (Fin.ext ?_) (Fin.ext ?_)
  all_goals (blk_simp [idx t, row] <;> try omega)

theorem last5 : ∀ t : Fin cfg0.N, (cfg0.win 5).flush t = true → t.val = 15 :=
  (by decide +kernel : ∀ t : Fin grid0.N, _)

theorem final5 : (dats m 0 c).arrAt 5 cfg0.N = fun i : S1x1024.Idx => G5 m c (i 1) := by
  refine (dats m 0 c).arrAt_eq_of_covers 5 _ (by decide +kernel) fun t hf y => ?_
  have ht := last5 t hf
  blk_simp
  rw [after0_5]
  idx_vars y
  rw [carry5, ht, sum5]
  refine congrArg (G5 m c) (Fin.ext ?_)
  blk_simp [idx t] <;> try omega

theorem last6 : ∀ t : Fin cfg0.N, (cfg0.win 6).flush t = true → t.val = 15 :=
  (by decide +kernel : ∀ t : Fin grid0.N, _)

theorem final6 : (dats m 0 c).arrAt 6 cfg0.N = fun i : S1x1024.Idx => G6 m c (i 1) := by
  refine (dats m 0 c).arrAt_eq_of_covers 6 _ (by decide +kernel) fun t hf y => ?_
  have ht := last6 t hf
  blk_simp
  rw [after0_6]
  idx_vars y
  rw [carry6, ht, sum6]
  refine congrArg (G6 m c) (Fin.ext ?_)
  blk_simp [idx t] <;> try omega

theorem final7 : (dats m 0 c).arrAt 7 cfg0.N = fun i : S4x8192x704.Idx => G7 m c (i 0) (i 1) (i 2) := by
  refine (dats m 0 c).arrAt_eq_of_covers 7 _ (by decide +kernel) fun t _ y => ?_
  have ht := (idx t).2.2.2.2.2.2.2.2
  blk_simp
  rw [after0_7]
  idx_vars y
  rw [out7]
  refine G7_congr m c (Fin.ext ?_) (Fin.ext ?_) (Fin.ext ?_)
  all_goals (blk_simp [idx t, row] <;> try omega)

end Cert.Kernel3Ideal.Norm

end
-- ==== Proof.Norm.RefTerm.lean ====
/- A layer norm's gradient as differentiation prints it, read row by row. -/
module

public import proofs.«01_k».proof.Proof.Norm.Math
public import proofs.«01_k».proof.Proof.Gen.Reference3Ideal.Run

@[expose] public section

set_option maxRecDepth 16384

noncomputable section

namespace Cert.Reference3Ideal.Norm

open Cert.Reference3Ideal Cert.Reference3Ideal.Gen Idealize.ShloMosaic Idealize.ShloMosaic.TcCoe Idealize.SL.Sem Cert.Norm

variable (u d : FVec Ideal S8192x1024 .f32) (g : FVec Ideal S1024 .f32)

def sumT (x : FVec Ideal S8192x1024 .f32) : FVec Ideal S8192 .f32 := Host.reduceAdd x (constant S_ .f32 0x00000000#32) reducesTo_S8192x1024_S8192_d1 h_S_
def widthT : FVec Ideal S8192x1 .f32 := broadcastInDim S8192x1 ![] bcast_S_S8192x1 (constant S_ .f32 0x44800000#32)
def wide (x : FVec Ideal S8192x1 .f32) : FVec Ideal S8192x1024 .f32 := broadcastInDim S8192x1024 ![0, 1] bcast_S8192x1_S8192x1024_0_1 x
def colT (x : FVec Ideal S8192 .f32) : FVec Ideal S8192x1 .f32 := broadcastInDim S8192x1 ![0] bcast_S8192_S8192x1_0 x
def castT (x : FVec Ideal S8192 .f32) : FVec Ideal S8192x1 .f32 := shapeCast S8192x1 x shapeCasts_S8192_S8192x1
def rowsT (x : FVec Ideal S8192x1 .f32) : FVec Ideal S8192x1024 .f32 :=
  broadcastInDim S8192x1024 ![0] bcast_S8192_S8192x1024_0 (Host.reduceAdd x (constant S_ .f32 0x00000000#32) reducesTo_S8192x1_S8192_d1 h_S_)

def devT : FVec Ideal S8192x1024 .f32 := subf u (wide (Host.divf (colT (sumT u)) widthT))
def varT : FVec Ideal S8192x1 .f32 :=
  addf (Host.divf (colT (sumT (mulf (devT u) (devT u)))) widthT) (broadcastInDim S8192x1 ![] bcast_S_S8192x1 (constant S_ .f32 0x3727C5AC#32))
def scaledT : FVec Ideal S8192x1024 .f32 := mulf (devT u) (wide (Host.rsqrt (varT u)))
def gainT : FVec Ideal S8192x1024 .f32 :=
  mulf (shapeCast S8192x1024 d shapeCasts_S8192x1024_S8192x1024) (broadcastInDim S8192x1024 ![0, 1] bcast_S1x1024_S8192x1024_0_1 (broadcastInDim S1x1024 ![1] bcast_S1024_S1x1024_1 g))
def directT : FVec Ideal S8192x1024 .f32 := mulf (gainT d g) (wide (Host.rsqrt (varT u)))
def pullT : FVec Ideal S8192x1 .f32 :=
  Host.divf (mulf (castT (sumT (mulf (devT u) (gainT d g)))) (mulf (broadcastInDim S8192x1 ![] bcast_S_S8192x1 (constant S_ .f32 0xBF000000#32)) (Host.divf (Host.rsqrt (varT u)) (varT u)))) widthT
def spreadT : FVec Ideal S8192x1024 .f32 :=
  mulf (rowsT (pullT u d g)) (mulf (broadcastInDim S8192x1024 ![] bcast_S_S8192x1024 (constant S_ .f32 0x40000000#32)) (devT u))
def duT : FVec Ideal S8192x1024 .f32 :=
  addf (addf (directT u d g) (spreadT u d g)) (rowsT (Host.divf (addf (castT (sumT (Host.negf (directT u d g)))) (castT (sumT (Host.negf (spreadT u d g))))) widthT))
def totalT (x : FVec Ideal S8192x1024 .f32) : FVec Ideal S1x1024 .f32 :=
  broadcastInDim S1x1024 ![1] bcast_S1024_S1x1024_1 (Host.reduceAdd (shapeCast S1x1024 (Host.reduceAdd x (constant S_ .f32 0x00000000#32) reducesTo_S8192x1024_S1024_d0 h_S_) shapeCasts_S1024_S1x1024)
    (constant S_ .f32 0x00000000#32) reducesTo_S1x1024_S1024_d0 h_S_)
def dgT : FVec Ideal S1x1024 .f32 := totalT (mulf (scaledT u) (shapeCast S8192x1024 d shapeCasts_S8192x1024_S8192x1024))

variable (x : FVec Ideal S8192x1024 .f32) (R : Fin 8192) (l : Fin 1024) (z : Fin 1)

theorem sumT_at : sumT x (ix1 R) = ∑ k : Fin 1024, x (ix2 R k) := by pointwise [sumT]
theorem widthT_at : widthT (ix2 R z) = W := by pointwise [widthT]
theorem wide_at (x : FVec Ideal S8192x1 .f32) : wide x (ix2 R l) = x (ix2 R 0) := by pointwise [wide]
theorem colT_at (x : FVec Ideal S8192 .f32) : colT x (ix2 R z) = x (ix1 R) := by pointwise [colT]
theorem castT_at (x : FVec Ideal S8192 .f32) : castT x (ix2 R z) = x (ix1 R) := by pointwise [castT]
theorem rowsT_at (x : FVec Ideal S8192x1 .f32) : rowsT x (ix2 R l) = x (ix2 R 0) := by
  pointwise [rowsT]
  try exact Fin.sum_univ_one _
theorem totalT_at : totalT x (ix2 z l) = ∑ R : Fin 8192, x (ix2 R l) := by
  pointwise [totalT]
  try exact Fin.sum_univ_one _

/-- A row. -/
abbrev at' (x : FVec Ideal S8192x1024 .f32) (R : Fin 8192) (l : Fin 1024) : EReal := x (ix2 R l)

theorem devT_at : devT u (ix2 R l) = dev (at' u R) l := by
  pointwise [devT, wide_at, colT_at, sumT_at, widthT_at]
  rfl
theorem varT_at : varT u (ix2 R z) = var (at' u R) := by
  pointwise [varT, colT_at, sumT_at, widthT_at, devT_at]
  rfl
theorem scaledT_at : scaledT u (ix2 R l) = scaled (at' u R) l := by
  pointwise [scaledT, wide_at, devT_at, varT_at]
  rfl
theorem gainT_at : gainT d g (ix2 R l) = d (ix2 R l) * g (ix1 l) := by
  pointwise [gainT]
theorem directT_at : directT u d g (ix2 R l) = d (ix2 R l) * g (ix1 l) * Ideal.rsqrt (var (at' u R)) := by
  pointwise [directT, wide_at, gainT_at, varT_at]
theorem pullT_at : pullT u d g (ix2 R z) = pull (at' u R) fun k => d (ix2 R k) * g (ix1 k) := by
  pointwise [pullT, castT_at, sumT_at, widthT_at, devT_at, gainT_at, varT_at]
  rfl
theorem spreadT_at : spreadT u d g (ix2 R l) = pull (at' u R) (fun k => d (ix2 R k) * g (ix1 k)) * (two * dev (at' u R) l) := by
  pointwise [spreadT, rowsT_at, pullT_at, devT_at]
theorem duT_at : duT u d g (ix2 R l) = back (at' u R) (fun k => d (ix2 R k) * g (ix1 k)) l := by
  pointwise [duT, rowsT_at, castT_at, sumT_at, widthT_at, directT_at, spreadT_at]
  rfl
theorem dgT_at : dgT u d (ix2 z l) = ∑ R : Fin 8192, d (ix2 R l) * scaled (at' u R) l := by
  rw [dgT, totalT_at]
  refine Finset.sum_congr rfl fun R _ => ?_
  pointwise [scaledT_at]
  exact mul_comm _ _

/-- The sum before the norm. -/
def preT (h : FVec Ideal S8192x1024 .f32) (a : FVec Ideal S8192x2816 .f32) (w : FVec Ideal S2816x1024 .f32) : FVec Ideal S8192x1024 .f32 :=
  addf (mulf (broadcastInDim S8192x1024 ![] bcast_S_S8192x1024 (constant S_ .f32 0x3FB504F3#32)) h) (Host.dotGeneral dot_S8192x2816_S2816x1024_S8192x1024_1_0_0_1_n_n none a w)
/-- The product with the transposed weight, cut into four pieces. -/
def backT (d : FVec Ideal S8192x1024 .f32) (w : FVec Ideal S2816x1024 .f32) : FVec Ideal S4x8192x704 .f32 :=
  transpose S4x8192x704 [1, 0, 2] (shapeCast S8192x4x704 (Host.dotGeneral dot_S8192x1024_S2816x1024_S8192x2816_1_1_0_0_n_n none d w) shapeCasts_S8192x2816_S8192x4x704) transposes_S8192x4x704_S4x8192x704_1_0_2

theorem backT_at (w : FVec Ideal S2816x1024 .f32) (q : Fin 4) (f : Fin 704) : backT x w (ix3 q R f) = ∑ k : Fin 1024, x (ix2 R k) * w (ix2 ⟨q.val * 704 + f, by omega⟩ k) := by
  pointwise [backT]

variable (m : (ℓ : Loc nD τ sig) → Buf (Elt Ideal) ℓ) (c : Dev nD)

theorem r66 : Value.res_main_v66 m c = duT (preT (m ((c : Thread nD τ).loc main_arg0)) (m ((c : Thread nD τ).loc main_arg1)) (m ((c : Thread nD τ).loc main_arg2))) (m ((c : Thread nD τ).loc main_arg5)) (m ((c : Thread nD τ).loc main_arg3)) := by
  unfold Value.res_main_v66
  rfl

theorem r71 : Value.res_main_v71 m c = backT (duT (preT (m ((c : Thread nD τ).loc main_arg0)) (m ((c : Thread nD τ).loc main_arg1)) (m ((c : Thread nD τ).loc main_arg2))) (m ((c : Thread nD τ).loc main_arg5)) (m ((c : Thread nD τ).loc main_arg3)))
    (m ((c : Thread nD τ).loc main_arg2)) := by
  unfold Value.res_main_v71
  rfl

end Cert.Reference3Ideal.Norm

end
-- ==== Proof.Norm.Claim.lean ====
/- The feed-forward output's gradient: kernel and reference end with one set of arrays. -/
module

public import proofs.«01_k».proof.Defs
public import proofs.«01_k».proof.Proof.Fox.Finite
public import proofs.«01_k».proof.Proof.Gen.Pre_finite3
public import proofs.«01_k».proof.Proof.Norm.Out
public import proofs.«01_k».proof.Proof.Norm.RefTerm

@[expose] public section

set_option maxRecDepth 16384

noncomputable section

namespace Cert.Pre_finite3.Norm

open Cert.Pre_finite3 Idealize.ShloMosaic Idealize.SL.Sem
open Cert.Pre_finite2.Fox (and_one real)

variable [Facts] (a0 a5 : FVec Ideal S8192x1024 .f32) (a1 : FVec Ideal S8192x2816 .f32) (a2 : FVec Ideal S2816x1024 .f32) (a3 a4 : FVec Ideal S1024 .f32)

theorem reals (h : fn a0 a1 a2 a3 a4 a5 ix0 = 1#1) :
    (∀ i, a0 i = ((a0 i).toReal : EReal)) ∧ (∀ i, a1 i = ((a1 i).toReal : EReal)) ∧ (∀ i, a2 i = ((a2 i).toReal : EReal)) ∧ (∀ i, a3 i = ((a3 i).toReal : EReal)) ∧ ∀ i, a5 i = ((a5 i).toReal : EReal) := by
  dsimp only [fn, fn_part1] at h
  obtain ⟨h, h4⟩ := and_one h
  obtain ⟨h, h3⟩ := and_one h
  obtain ⟨h, h2⟩ := and_one h
  obtain ⟨h0, h1⟩ := and_one h
  haveI : Subsingleton S_.Idx := ⟨fun i j => funext fun k => k.elim0⟩
  exact ⟨fun i => real (Host.reduce_andi_all _ _ _ _ _ h0 i), fun i => real (Host.reduce_andi_all _ _ _ _ _ h1 i), fun i => real (Host.reduce_andi_all _ _ _ _ _ h2 i),
    fun i => real (Host.reduce_andi_all _ _ _ _ _ h3 i), fun i => real (Host.reduce_andi_all _ _ _ _ _ h4 i)⟩

end Cert.Pre_finite3.Norm

namespace Cert.Norm

open Idealize.ShloMosaic Idealize.ShloMosaic.TcCoe Idealize.SL.Sem
open Cert.Kernel3Ideal (S8192x1024 S8192x2816 S2816x1024 S1024 S1x1024 S4x8192x704)

/-- The weight of the residual, as printed. -/
abbrev alpha : EReal := Ideal.ofBits .f32 0x3FB504F3#32

theorem alpha_eq : ∃ e : ℝ, alpha = (e : EReal) := by
  refine ⟨11863283 * 2 ^ (-23 : ℤ), ?_⟩
  simp [alpha, Ideal.ofBits, Ideal.ieee, -EReal.coe_mul]

theorem pre_at (h : FVec Ideal S8192x1024 .f32) (a : FVec Ideal S8192x2816 .f32) (w : FVec Ideal S2816x1024 .f32) (R : Fin 8192) (l : Fin 1024) :
    Cert.Kernel3Ideal.Norm.pre h a w (ix2 R l) = alpha * h (ix2 R l) + ∑ k : Fin 2816, a (ix2 R k) * w (ix2 k l) := by
  pointwise [Cert.Kernel3Ideal.Norm.pre]

theorem pre_real (h : FVec Ideal S8192x1024 .f32) (a : FVec Ideal S8192x2816 .f32) (w : FVec Ideal S2816x1024 .f32)
    (hh : ∀ i, h i = ((h i).toReal : EReal)) (ha : ∀ i, a i = ((a i).toReal : EReal)) (hw : ∀ i, w i = ((w i).toReal : EReal)) (R : Fin 8192) (l : Fin 1024) :
    ∃ r : ℝ, Cert.Kernel3Ideal.Norm.pre h a w (ix2 R l) = r := by
  obtain ⟨e, he⟩ := alpha_eq
  refine ⟨e * (h (ix2 R l)).toReal + ∑ k : Fin 2816, (a (ix2 R k)).toReal * (w (ix2 k l)).toReal, ?_⟩
  rw [pre_at, Attn.coe_sum' (g := fun k => (a (ix2 R k)).toReal * (w (ix2 k l)).toReal) _ fun k _ => by rw [EReal.coe_mul, ← ha, ← hw], he,
    EReal.coe_add, EReal.coe_mul, ← hh]

section
open Cert.Kernel3Ideal Cert.Kernel3Ideal.Norm
variable (m : (ℓ : Loc nD τ sig) → Buf (Elt Ideal) ℓ) (c : Dev nD)
variable (H : Cert.Pre_finite3.fn (F := Ideal) (m ((c : Thread nD τ).loc main_arg0)) (m ((c : Thread nD τ).loc main_arg1)) (m ((c : Thread nD τ).loc main_arg2)) (m ((c : Thread nD τ).loc main_arg3)) (m ((c : Thread nD τ).loc main_arg4))
  (m ((c : Thread nD τ).loc main_arg5)) = fun _ => 1#1)

include H in
theorem row_eq (R : Fin 8192) (l : Fin 1024) : G4 m c R l = back (U m c R) (fun k => A5 m c R k * A3 m c k) l := by
  obtain ⟨h0, h1, h2, h3, h5⟩ := Cert.Pre_finite3.Norm.reals _ _ _ _ _ _ (congrFun H ix0)
  choose r hr using pre_real _ _ _ h0 h1 h2 R
  exact grad_eq r (fun k => (A5 m c R k).toReal * (A3 m c k).toReal) hr (fun k => by rw [EReal.coe_mul, ← h5, ← h3]) l

include H in
theorem du_eq : (fun i : S8192x1024.Idx => G4 m c (i 0) (i 1))
    = Cert.Reference3Ideal.Norm.duT (Cert.Reference3Ideal.Norm.preT (m ((c : Thread nD τ).loc main_arg0)) (m ((c : Thread nD τ).loc main_arg1)) (m ((c : Thread nD τ).loc main_arg2))) (m ((c : Thread nD τ).loc main_arg5)) (m ((c : Thread nD τ).loc main_arg3)) := by
  funext i
  rw [eq_ix2 i]
  exact (row_eq m c H _ _).trans (Cert.Reference3Ideal.Norm.duT_at _ _ _ _ _).symm

theorem dg_eq : (fun i : S1x1024.Idx => G5 m c (i 1))
    = Cert.Reference3Ideal.Norm.dgT (Cert.Reference3Ideal.Norm.preT (m ((c : Thread nD τ).loc main_arg0)) (m ((c : Thread nD τ).loc main_arg1)) (m ((c : Thread nD τ).loc main_arg2))) (m ((c : Thread nD τ).loc main_arg5)) := by
  funext i
  rw [eq_ix2 i]
  exact (Cert.Reference3Ideal.Norm.dgT_at _ _ _ _).symm

theorem db_eq : (fun i : S1x1024.Idx => G6 m c (i 1)) = Cert.Reference3Ideal.Norm.totalT (m ((c : Thread nD τ).loc main_arg5)) := by
  funext i
  rw [eq_ix2 i]
  exact (Cert.Reference3Ideal.Norm.totalT_at _ _ _).symm

include H in
theorem back_eq : (fun i : S4x8192x704.Idx => G7 m c (i 0) (i 1) (i 2))
    = Cert.Reference3Ideal.Norm.backT (Cert.Reference3Ideal.Norm.duT (Cert.Reference3Ideal.Norm.preT (m ((c : Thread nD τ).loc main_arg0)) (m ((c : Thread nD τ).loc main_arg1)) (m ((c : Thread nD τ).loc main_arg2)))
      (m ((c : Thread nD τ).loc main_arg5)) (m ((c : Thread nD τ).loc main_arg3))) (m ((c : Thread nD τ).loc main_arg2)) := by
  rw [← du_eq m c H]
  have g : ∀ q R f, G7 m c q R f = Cert.Reference3Ideal.Norm.backT (fun i : S8192x1024.Idx => G4 m c (i 0) (i 1)) (m ((c : Thread nD τ).loc main_arg2)) (ix3 q R f) := fun q R f => by
    rw [Cert.Reference3Ideal.Norm.backT_at]
    rfl
  funext i
  rw [eq_ix3 i]
  exact g _ _ _

end

/-- The kernel's gradients are the derivative of the sum and its norm. -/
theorem algebraic : Cert.algebraic_Kernel3Ideal_Reference3Ideal_pre_finite3 := by
  intro m ρ m' ρ' hpre hag
  refine ⟨fun c => fun i => Cert.Kernel3Ideal.Norm.G4 m c (i 0) (i 1), fun c => fun i => Cert.Kernel3Ideal.Norm.G5 m c (i 1), fun c => fun i => Cert.Kernel3Ideal.Norm.G6 m c (i 1),
    fun c => fun i => Cert.Kernel3Ideal.Norm.G7 m c (i 0) (i 1) (i 2), ?_, ?_⟩
  · refine (θ_run _ _ _).mono (fun r h c => ?_) (Cert.Kernel3Ideal.Value.run_blocks m ρ)
    obtain ⟨h4, h5, h6, h7, hk⟩ := h c
    exact ⟨h4.trans (Cert.Kernel3Ideal.Norm.final4 m c), h5.trans (Cert.Kernel3Ideal.Norm.final5 m c), h6.trans (Cert.Kernel3Ideal.Norm.final6 m c), h7.trans (Cert.Kernel3Ideal.Norm.final7 m c), hk⟩
  · refine (θ_run _ _ _).mono (fun r h c => ?_) (Cert.Reference3Ideal.Value.run m' ρ')
    obtain ⟨h4, h5, h6, h7, hk⟩ := h c
    obtain ⟨e0, e1, e2, e3, e4, e5⟩ := hag c
    have w5 := h5.trans (show _ = Cert.Reference3Ideal.Norm.dgT (Cert.Reference3Ideal.Norm.preT (m' ((c : Thread Cert.Reference3Ideal.nD Cert.Reference3Ideal.τ).loc Cert.Reference3Ideal.main_arg0))
      (m' ((c : Thread Cert.Reference3Ideal.nD Cert.Reference3Ideal.τ).loc Cert.Reference3Ideal.main_arg1)) (m' ((c : Thread Cert.Reference3Ideal.nD Cert.Reference3Ideal.τ).loc Cert.Reference3Ideal.main_arg2)))
      (m' ((c : Thread Cert.Reference3Ideal.nD Cert.Reference3Ideal.τ).loc Cert.Reference3Ideal.main_arg5)) from rfl)
    have w6 := h6.trans (show _ = Cert.Reference3Ideal.Norm.totalT (m' ((c : Thread Cert.Reference3Ideal.nD Cert.Reference3Ideal.τ).loc Cert.Reference3Ideal.main_arg5)) from rfl)
    have w4 := h4.trans (Cert.Reference3Ideal.Norm.r66 m' c)
    have w7 := h7.trans (Cert.Reference3Ideal.Norm.r71 m' c)
    rw [e0, e1, e2, e3, e5] at w4 w7
    rw [e0, e1, e2, e5] at w5
    rw [e5] at w6
    exact ⟨w4.trans (du_eq m c (hpre c)).symm, w5.trans (dg_eq m c).symm, w6.trans (db_eq m c).symm, w7.trans (back_eq m c (hpre c)).symm, hk⟩

end Cert.Norm

end
-- ==== Proof.Mixer.Pay.lean ====
/- The mixer's gradient: what one grid point computes, entry by entry. -/
module

public import proofs.«01_k».proof.Proof.Norm.Pay
public import proofs.«01_k».proof.Proof.Gen.Kernel4Ideal.Value

@[expose] public section

set_option maxRecDepth 16384

noncomputable section

namespace Cert.Kernel4Ideal.Mixer

open Cert.Kernel4Ideal Cert.Kernel4Ideal.Gen Idealize.ShloMosaic Idealize.ShloMosaic.TcCoe Idealize.SL.Sem Cert.Norm

variable (d x : FVec Ideal S512x1024 .f32) (g : FVec Ideal S1x1024 .f32) (r : Fin 512) (l : Fin 1024)

theorem du_at : k0_pay8 (F := Ideal) (k0_pay6 d x g) (k0_pay7 x) (ix2 r l)
    = grad (fun k => x (ix2 r k)) (fun k => d (ix2 r k) * g (ix2 0 k)) l :=
  Cert.Kernel3Ideal.Norm.du_at d x g r l

theorem dg_at (w : FVec Ideal S1x1024 .f32) (z : Fin 1) : k0_pay9 (F := Ideal) d (k0_pay5 x) w (ix2 z l)
    = w (ix2 z l) + ∑ r : Fin 512, d (ix2 r l) * scaled (fun k => x (ix2 r k)) l :=
  Cert.Kernel3Ideal.Norm.dg_at d x l w z

theorem db_at (w : FVec Ideal S1x1024 .f32) (z : Fin 1) : k0_pay10 (F := Ideal) d w (ix2 z l)
    = w (ix2 z l) + ∑ r : Fin 512, d (ix2 r l) :=
  Cert.Kernel3Ideal.Norm.db_at d l w z

variable (a b : FVec Ideal S512x1024 .f32) (w : FVec Ideal S1024x1024 .bf16) (f : FVec Ideal S512x1024 .f32)

/-- The gradient of the mixed heads. -/
theorem dm_at : k0_pay11 (F := Ideal) a b w (ix2 r l) = ∑ k : Fin 1024, k0_pay8 (F := Ideal) a b (ix2 r k) * w (ix2 l k) := by
  pointwise [k0_pay11]

theorem sg_at : k0_pay12 (F := Ideal) f (ix2 r l) = Ideal.logistic (f (ix2 r l)) := by
  pointwise [k0_pay12]

theorem dya_at : k0_pay13 (F := Ideal) a b w f (ix2 r l) = k0_pay11 (F := Ideal) a b w (ix2 r l) * Ideal.logistic (f (ix2 r l)) := by
  pointwise [k0_pay13, sg_at]

variable (e : FVec Ideal S512x1024 .f32) (X : FVec Ideal S512x512 .bf16) (P : FVec Ideal S512x1024 .bf16)

theorem one_eq : Ideal.ofBits .f32 0x3F800000#32 = 1 := by
  simp [Ideal.ofBits, Ideal.ieee, -EReal.coe_mul]; try norm_num

theorem dga_at : k0_pay15 (F := Ideal) (k0_pay12 f) (k0_pay14 a b w f X P) (ix2 r l)
    = k0_pay11 (F := Ideal) a b w (ix2 r l) * (∑ k : Fin 512, X (ix2 r k) * P (ix2 k l)) * Ideal.logistic (f (ix2 r l)) * (1 - Ideal.logistic (f (ix2 r l))) := by
  pointwise [k0_pay15, k0_pay14, sg_at]
  try rw [one_eq]

theorem da_at (y : FVec Ideal S512x1024 .bf16) (j : Fin 512) : k0_pay16 (F := Ideal) y P (ix2 r j) = ∑ k : Fin 1024, y (ix2 r k) * P (ix2 j k) := by
  pointwise [k0_pay16]

theorem dyb_at : k0_pay18 (F := Ideal) e f (ix2 r l) = e (ix2 r l) * Ideal.logistic (f (ix2 r l)) := by
  pointwise [k0_pay18, k0_pay17]

theorem dgb_at : k0_pay19 (F := Ideal) e f X P (ix2 r l)
    = e (ix2 r l) * (∑ k : Fin 512, X (ix2 r k) * P (ix2 k l)) * Ideal.logistic (f (ix2 r l)) * (1 - Ideal.logistic (f (ix2 r l))) := by
  pointwise [k0_pay19, k0_pay17]
  try rw [one_eq]

theorem dbb_at (j : Fin 512) : k0_pay20 (F := Ideal) e f P (ix2 r j) = ∑ k : Fin 1024, (e (ix2 r k) * Ideal.logistic (f (ix2 r k))) * P (ix2 j k) := by
  pointwise [k0_pay20, dyb_at]

theorem zero1 (z : Fin 1) : k0_pay1 (F := Ideal) (ix2 z l) = 0 := by pointwise [k0_pay1]
theorem zero2 (z : Fin 1) : k0_pay2 (F := Ideal) (ix2 z l) = 0 := by pointwise [k0_pay2]

end Cert.Kernel4Ideal.Mixer

end
-- ==== Proof.Mixer.Out.lean ====
/- The mixer's gradient: what the grid points write back, over the whole arrays. -/
module

public import proofs.«01_k».proof.Proof.Mixer.Pay
public import Idealize.ShloMosaic.Lib.Pipeline.ReadBack

@[expose] public section

set_option maxRecDepth 16384

noncomputable section

namespace Cert.Kernel4Ideal.Mixer

open Cert.Kernel4Ideal Cert.Kernel4Ideal.Gen Idealize.ShloMosaic Idealize.ShloMosaic.TcCoe Idealize.SL.Sem Cert.Norm
open Idealize.ShloMosaic.Pipeline (Dat)

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] ∧ win0_6.index t = ![t.val, 0] ∧ win0_7.index t = ![t.val, 1]
    ∧ win0_8.index t = ![0, 0] ∧ win0_9.index t = ![0, 0] ∧ win0_10.index t = ![t.val, 0] ∧ win0_11.index t = ![0, 0] ∧ win0_12.index t = ![0, 0]
    ∧ win0_13.index t = ![t.val, 0] ∧ win0_14.index t = ![t.val, 0] ∧ win0_15.index t = ![t.val, 0] ∧ win0_16.index t = ![t.val, 0]
    ∧ win0_17.index t = ![t.val, 0] ∧ win0_18.index t = ![t.val, 0] ∧ t.val < 16 :=
  (by decide +kernel : ∀ t : Fin grid0.N, _)

/-- The logistic function, as the host writes it. -/
def gateT (f : FVec Ideal S8192x1024 .f32) : FVec Ideal S8192x1024 .f32 :=
  Host.divf (broadcastInDim S8192x1024 ![] bcast_S_S8192x1024 (constant S_ .f32 0x3F800000#32)) (addf (broadcastInDim S8192x1024 ![] bcast_S_S8192x1024 (constant S_ .f32 0x3F800000#32)) (Host.exp (Host.negf f)))

/-- The heads' product. -/
def headT (a : FVec Ideal S8192x512 .f32) (p : FVec Ideal S512x1024 .f32) : FVec Ideal S8192x1024 .f32 :=
  Host.dotGeneral dot_S8192x512_S512x1024_S8192x1024_1_0_0_1_n_n none a p

/-- The sum before the norm. -/
def pre (h : FVec Ideal S8192x1024 .f32) (a b : FVec Ideal S8192x512 .f32) (ga gb : FVec Ideal S8192x1024 .f32) (p q : FVec Ideal S512x1024 .f32) (w : FVec Ideal S1024x1024 .f32) : FVec Ideal S8192x1024 .f32 :=
  addf (mulf (broadcastInDim S8192x1024 ![] bcast_S_S8192x1024 (constant S_ .f32 0x3FB504F3#32)) h)
    (Host.dotGeneral dot_S8192x1024_S1024x1024_S8192x1024_1_0_0_1_n_n none (addf (mulf (gateT ga) (headT a p)) (mulf (gateT gb) (headT b q))) w)

/-- The two gates side by side, and columns of zeros. -/
def gatesT (ga gb : FVec Ideal S8192x1024 .f32) : FVec Ideal S8192x2304 .f32 :=
  pad S8192x2304 ![0, 0] ![0, 256] ![0, 0] (concatenate S8192x2048 1 [⟨S8192x1024, ga⟩, ⟨S8192x1024, gb⟩] concatenates_S8192x1024_S8192x1024_S8192x2048_d1 : FVec Ideal S8192x2048 .f32)
    (sitofp .f32 (constantI S_ 32 0#32) : FVec Ideal S_ .f32) pads_S8192x2048_S8192x2304_000_02560 h_S_

theorem V_u : V m c main_v20 = pre (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) := by
  dsimp only [V, hostOps0, hostOps0_1, hostOps0_2, List.flatten_cons, List.flatten_nil, List.append_nil, List.cons_append, List.nil_append]
  simp only [StableHlo.TRef.binary, StableHlo.TRef.unary, StableHlo.TRef.toBuf, StableHlo.TRef.ofBuf, cast_eq]
  after_results_simp
  rfl

theorem V_gates : V m c main_v22 = gatesT (m ((c : Thread nD τ).loc main_arg3)) (m ((c : Thread nD τ).loc main_arg4)) := by
  dsimp only [V, hostOps0, hostOps0_1, hostOps0_2, List.flatten_cons, List.flatten_nil, List.append_nil, List.cons_append, List.nil_append]
  simp only [StableHlo.TRef.binary, StableHlo.TRef.unary, StableHlo.TRef.toBuf, StableHlo.TRef.ofBuf, cast_eq]
  after_results_simp
  change gatesT _ _ = gatesT _ _
  refine congr (congrArg gatesT ?_) ?_ <;> after_results_simp

theorem V_g : V m c main_v23 = broadcastInDim S1x1024 ![1] bcast_S1024_S1x1024_1 (m ((c : Thread nD τ).loc main_arg8) : FVec Ideal S1024 .f32) := by
  dsimp only [V, hostOps0, hostOps0_1, hostOps0_2, List.flatten_cons, List.flatten_nil, List.append_nil, List.cons_append, List.nil_append]
  simp only [StableHlo.TRef.binary, StableHlo.TRef.unary, StableHlo.TRef.toBuf, StableHlo.TRef.ofBuf, cast_eq]
  after_results_simp

theorem V_w : V m c main_v24 = (truncf (F := Ideal) .bf16 (m ((c : Thread nD τ).loc main_arg7) : FVec Ideal S1024x1024 .f32) bitsLt_bf16_f32 : FVec Ideal S1024x1024 .bf16) := by
  dsimp only [V, hostOps0, hostOps0_1, hostOps0_2, List.flatten_cons, List.flatten_nil, List.append_nil, List.cons_append, List.nil_append]
  simp only [StableHlo.TRef.binary, StableHlo.TRef.unary, StableHlo.TRef.toBuf, StableHlo.TRef.ofBuf, cast_eq]
  after_results_simp

theorem V_a : V m c main_v25 = (truncf (F := Ideal) .bf16 (m ((c : Thread nD τ).loc main_arg1) : FVec Ideal S8192x512 .f32) bitsLt_bf16_f32 : FVec Ideal S8192x512 .bf16) := by
  dsimp only [V, hostOps0, hostOps0_1, hostOps0_2, List.flatten_cons, List.flatten_nil, List.append_nil, List.cons_append, List.nil_append]
  simp only [StableHlo.TRef.binary, StableHlo.TRef.unary, StableHlo.TRef.toBuf, StableHlo.TRef.ofBuf, cast_eq]
  after_results_simp

theorem V_b : V m c main_v26 = (truncf (F := Ideal) .bf16 (m ((c : Thread nD τ).loc main_arg2) : FVec Ideal S8192x512 .f32) bitsLt_bf16_f32 : FVec Ideal S8192x512 .bf16) := by
  dsimp only [V, hostOps0, hostOps0_1, hostOps0_2, List.flatten_cons, List.flatten_nil, List.append_nil, List.cons_append, List.nil_append]
  simp only [StableHlo.TRef.binary, StableHlo.TRef.unary, StableHlo.TRef.toBuf, StableHlo.TRef.ofBuf, cast_eq]
  after_results_simp

theorem V_p : V m c main_v27 = (truncf (F := Ideal) .bf16 (m ((c : Thread nD τ).loc main_arg5) : FVec Ideal S512x1024 .f32) bitsLt_bf16_f32 : FVec Ideal S512x1024 .bf16) := by
  dsimp only [V, hostOps0, hostOps0_1, hostOps0_2, List.flatten_cons, List.flatten_nil, List.append_nil, List.cons_append, List.nil_append]
  simp only [StableHlo.TRef.binary, StableHlo.TRef.unary, StableHlo.TRef.toBuf, StableHlo.TRef.ofBuf, cast_eq]
  after_results_simp

theorem V_q : V m c main_v28 = (truncf (F := Ideal) .bf16 (m ((c : Thread nD τ).loc main_arg6) : FVec Ideal S512x1024 .f32) bitsLt_bf16_f32 : FVec Ideal S512x1024 .bf16) := by
  dsimp only [V, hostOps0, hostOps0_1, hostOps0_2, List.flatten_cons, List.flatten_nil, List.append_nil, List.cons_append, List.nil_append]
  simp only [StableHlo.TRef.binary, StableHlo.TRef.unary, StableHlo.TRef.toBuf, StableHlo.TRef.ofBuf, cast_eq]
  after_results_simp

theorem V_d : V m c main_arg10 = m ((c : Thread nD τ).loc main_arg10) := by
  dsimp only [V, hostOps0, hostOps0_1, hostOps0_2, List.flatten_cons, List.flatten_nil, List.append_nil, List.cons_append, List.nil_append]
  simp only [StableHlo.TRef.binary, StableHlo.TRef.unary, StableHlo.TRef.toBuf, StableHlo.TRef.ofBuf, cast_eq]
  after_results_simp

/-! The arguments, entry by entry. -/

abbrev U (R : Fin 8192) (l : Fin 1024) : EReal := pre (m ((c : Thread nD τ).loc main_arg0)) (m ((c : Thread nD τ).loc main_arg1)) (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7)) (ix2 R l)
abbrev A1 (R : Fin 8192) (j : Fin 512) : EReal := (m ((c : Thread nD τ).loc main_arg1) : FVec Ideal S8192x512 .f32) (ix2 R j)
abbrev A2 (R : Fin 8192) (j : Fin 512) : EReal := (m ((c : Thread nD τ).loc main_arg2) : FVec Ideal S8192x512 .f32) (ix2 R j)
abbrev A3 (R : Fin 8192) (l : Fin 1024) : EReal := (m ((c : Thread nD τ).loc main_arg3) : FVec Ideal S8192x1024 .f32) (ix2 R l)
abbrev A4 (R : Fin 8192) (l : Fin 1024) : EReal := (m ((c : Thread nD τ).loc main_arg4) : FVec Ideal S8192x1024 .f32) (ix2 R l)
abbrev A5 (j : Fin 512) (l : Fin 1024) : EReal := (m ((c : Thread nD τ).loc main_arg5) : FVec Ideal S512x1024 .f32) (ix2 j l)
abbrev A6 (j : Fin 512) (l : Fin 1024) : EReal := (m ((c : Thread nD τ).loc main_arg6) : FVec Ideal S512x1024 .f32) (ix2 j l)
abbrev A7 (k l : Fin 1024) : EReal := (m ((c : Thread nD τ).loc main_arg7) : FVec Ideal S1024x1024 .f32) (ix2 k l)
abbrev A8 (l : Fin 1024) : EReal := (m ((c : Thread nD τ).loc main_arg8) : FVec Ideal S1024 .f32) (ix1 l)
abbrev A10 (R : Fin 8192) (l : Fin 1024) : EReal := (m ((c : Thread nD τ).loc main_arg10) : FVec Ideal S8192x1024 .f32) (ix2 R l)

theorem gates_left (ga gb : FVec Ideal S8192x1024 .f32) (R : Fin 8192) (L : Fin 2304) (l : Fin 1024) (h : L.val = l.val) : gatesT ga gb (ix2 R L) = ga (ix2 R l) := by
  pointwise [gatesT]
  rw [dif_pos (by omega), dif_pos (by omega)]
  exact congrArg (fun k => ga (ix2 R k)) (Fin.ext h)

theorem gates_right (ga gb : FVec Ideal S8192x1024 .f32) (R : Fin 8192) (L : Fin 2304) (l : Fin 1024) (h : L.val = 1024 + l.val) : gatesT ga gb (ix2 R L) = gb (ix2 R l) := by
  pointwise [gatesT]
  rw [dif_pos (by omega), dif_neg (by omega)]
  exact congrArg (fun k => gb (ix2 R k)) (Fin.ext (by show L.val - 1024 = l.val; omega))

variable (t : Fin cfg0.N) (r : Fin 512)

theorem small : t.val < 16 := by have := idx t; tauto

/-- The array's row of a block's row. -/
def row : Fin 8192 := ⟨t.val * 512 + r, by have := small t; omega⟩

theorem d_block (l : Fin 1024) : (iblk m c 0 t : FVec Ideal S512x1024 .f32) (ix2 r l) = A10 m c (row t r) l := by
  show (V m c main_arg10) (((cfg0.win 0).blk t).view.emb _) = _
  rw [V_d]
  refine congrArg (m ((c : Thread nD τ).loc main_arg10) : FVec Ideal S8192x1024 .f32) ?_
  unfold row
  blk_ext [idx t]

theorem u_block (l : Fin 1024) : (iblk m c 1 t : FVec Ideal S512x1024 .f32) (ix2 r l) = U m c (row t r) l := by
  show (V m c main_v20) (((cfg0.win 1).blk t).view.emb _) = _
  rw [V_u]
  refine congrArg (pre _ _ _ _ _ _ _ _) ?_
  unfold row
  blk_ext [idx t]

theorem g_block (z : Fin 1) (l : Fin 1024) : (iblk m c 2 t : FVec Ideal S1x1024 .f32) (ix2 z l) = A8 m c l := by
  show (V m c main_v23) (((cfg0.win 2).blk t).view.emb _) = _
  rw [V_g]
  have e : ((cfg0.win 2).blk t).view.emb (ix2 z l) = ix2 z l := by blk_ext [idx t]
  rw [e]
  pointwise

theorem w_block (k l : Fin 1024) : (iblk m c 3 t : FVec Ideal S1024x1024 .bf16) (ix2 k l) = A7 m c k l := by
  show (V m c main_v24) (((cfg0.win 3).blk t).view.emb _) = _
  rw [V_w]
  refine congrArg (m ((c : Thread nD τ).loc main_arg7) : FVec Ideal S1024x1024 .f32) ?_
  blk_ext [idx t]

theorem a_block (j : Fin 512) : (iblk m c 4 t : FVec Ideal S512x512 .bf16) (ix2 r j) = A1 m c (row t r) j := by
  show (V m c main_v25) (((cfg0.win 4).blk t).view.emb _) = _
  rw [V_a]
  refine congrArg (m ((c : Thread nD τ).loc main_arg1) : FVec Ideal S8192x512 .f32) ?_
  unfold row
  blk_ext [idx t]

theorem b_block (j : Fin 512) : (iblk m c 5 t : FVec Ideal S512x512 .bf16) (ix2 r j) = A2 m c (row t r) j := by
  show (V m c main_v26) (((cfg0.win 5).blk t).view.emb _) = _
  rw [V_b]
  refine congrArg (m ((c : Thread nD τ).loc main_arg2) : FVec Ideal S8192x512 .f32) ?_
  unfold row
  blk_ext [idx t]

theorem ga_block (l : Fin 1024) : (X0_6 m c t : FVec Ideal S512x1024 .f32) (ix2 r l) = A3 m c (row t r) l := by
  unfold X0_6 Pipeline.Window.fill
  rw [dif_pos (moved0_6 t _)]
  show (V m c main_v22) (((cfg0.win 6).blk t).view.emb _) = _
  rw [V_gates]
  refine Eq.trans (congrArg (gatesT _ _) ?_) (gates_left _ _ (row t r) ⟨l, by omega⟩ l rfl)
  unfold row
  blk_ext [idx t]

theorem gb_block (l : Fin 1024) : (X0_7 m c t : FVec Ideal S512x1024 .f32) (ix2 r l) = A4 m c (row t r) l := by
  unfold X0_7 Pipeline.Window.fill
  rw [dif_pos (moved0_7 t _)]
  show (V m c main_v22) (((cfg0.win 7).blk t).view.emb _) = _
  rw [V_gates]
  refine Eq.trans (congrArg (gatesT _ _) ?_) (gates_right _ _ (row t r) ⟨1024 + l, by omega⟩ l rfl)
  unfold row
  blk_ext [idx t]

theorem p_block (j : Fin 512) (l : Fin 1024) : (iblk m c 8 t : FVec Ideal S512x1024 .bf16) (ix2 j l) = A5 m c j l := by
  show (V m c main_v27) (((cfg0.win 8).blk t).view.emb _) = _
  rw [V_p]
  refine congrArg (m ((c : Thread nD τ).loc main_arg5) : FVec Ideal S512x1024 .f32) ?_
  blk_ext [idx t]

theorem q_block (j : Fin 512) (l : Fin 1024) : (iblk m c 9 t : FVec Ideal S512x1024 .bf16) (ix2 j l) = A6 m c j l := by
  show (V m c main_v28) (((cfg0.win 9).blk t).view.emb _) = _
  rw [V_q]
  refine congrArg (m ((c : Thread nD τ).loc main_arg6) : FVec Ideal S512x1024 .f32) ?_
  blk_ext [idx t]

/-! The results. -/

def G10 (R : Fin 8192) (l : Fin 1024) : EReal := grad (U m c R) (fun k => A10 m c R k * A8 m c k) l
def T11 (l : Fin 1024) (K : ℕ) : EReal := if h : K < 8192 then A10 m c ⟨K, h⟩ l * scaled (U m c ⟨K, h⟩) l else 0
def T12 (l : Fin 1024) (K : ℕ) : EReal := if h : K < 8192 then A10 m c ⟨K, h⟩ l else 0
/-- The gradient of the mixed heads. -/
def M (R : Fin 8192) (l : Fin 1024) : EReal := ∑ k : Fin 1024, G10 m c R k * A7 m c l k
def G13 (R : Fin 8192) (l : Fin 1024) : EReal := M m c R l * Ideal.logistic (A3 m c R l)
def G14 (R : Fin 8192) (l : Fin 1024) : EReal := M m c R l * Ideal.logistic (A4 m c R l)
def G15 (R : Fin 8192) (l : Fin 1024) : EReal := M m c R l * (∑ j : Fin 512, A1 m c R j * A5 m c j l) * Ideal.logistic (A3 m c R l) * (1 - Ideal.logistic (A3 m c R l))
def G16 (R : Fin 8192) (l : Fin 1024) : EReal := M m c R l * (∑ j : Fin 512, A2 m c R j * A6 m c j l) * Ideal.logistic (A4 m c R l) * (1 - Ideal.logistic (A4 m c R l))
def G17 (R : Fin 8192) (j : Fin 512) : EReal := ∑ k : Fin 1024, G13 m c R k * A5 m c j k
def G18 (R : Fin 8192) (j : Fin 512) : EReal := ∑ k : Fin 1024, G14 m c R k * A6 m c j k

theorem du (l : Fin 1024) : k0_pay8 (F := Ideal) (k0_pay6 (iblk m c 0 t) (iblk m c 1 t) (iblk m c 2 t)) (k0_pay7 (iblk m c 1 t)) (ix2 r l) = G10 m c (row t r) l := by
  rw [du_at]
  simp only [d_block, u_block, g_block]
  rfl

theorem dg (w : FVec Ideal S1x1024 .f32) (z : Fin 1) (l : Fin 1024) : k0_pay9 (F := Ideal) (iblk m c 0 t) (k0_pay5 (iblk m c 1 t)) w (ix2 z l)
    = w (ix2 z l) + ∑ K ∈ Finset.Ico (t.val * 512) ((t.val + 1) * 512), T11 m c l K := by
  rw [dg_at]
  simp only [d_block, u_block]
  rw [Finset.sum_Ico_eq_sum_range, show (t.val + 1) * 512 - t.val * 512 = 512 by omega, Finset.sum_range]
  refine congrArg _ (Finset.sum_congr rfl fun r _ => ?_)
  rw [T11, dif_pos (show t.val * 512 + r.val < 8192 from (row t r).isLt)]
  rfl

theorem db (w : FVec Ideal S1x1024 .f32) (z : Fin 1) (l : Fin 1024) : k0_pay10 (F := Ideal) (iblk m c 0 t) w (ix2 z l)
    = w (ix2 z l) + ∑ K ∈ Finset.Ico (t.val * 512) ((t.val + 1) * 512), T12 m c l K := by
  rw [db_at]
  simp only [d_block]
  rw [Finset.sum_Ico_eq_sum_range, show (t.val + 1) * 512 - t.val * 512 = 512 by omega, Finset.sum_range]
  refine congrArg _ (Finset.sum_congr rfl fun r _ => ?_)
  rw [T12, dif_pos (show t.val * 512 + r.val < 8192 from (row t r).isLt)]
  rfl

/-- The gradient of the mixed heads, at a grid point. -/
abbrev dm : FVec Ideal S512x1024 .f32 := k0_pay11 (F := Ideal) (k0_pay6 (iblk m c 0 t) (iblk m c 1 t) (iblk m c 2 t)) (k0_pay7 (iblk m c 1 t)) (iblk m c 3 t)

theorem dm_eq (l : Fin 1024) : dm m c t (ix2 r l) = M m c (row t r) l := by
  rw [dm, dm_at]
  simp only [du, w_block]
  rfl

theorem dya (l : Fin 1024) : k0_pay13 (F := Ideal) (k0_pay6 (iblk m c 0 t) (iblk m c 1 t) (iblk m c 2 t)) (k0_pay7 (iblk m c 1 t)) (iblk m c 3 t) (X0_6 m c t) (ix2 r l) = G13 m c (row t r) l := by
  rw [dya_at, ga_block]
  exact congrArg (· * _) (dm_eq m c t r l)

theorem dyb (l : Fin 1024) : k0_pay18 (F := Ideal) (dm m c t) (X0_7 m c t) (ix2 r l) = G14 m c (row t r) l := by
  rw [dyb_at, gb_block, dm_eq]
  rfl

theorem dga (l : Fin 1024) : k0_pay15 (F := Ideal) (k0_pay12 (X0_6 m c t))
    (k0_pay14 (k0_pay6 (iblk m c 0 t) (iblk m c 1 t) (iblk m c 2 t)) (k0_pay7 (iblk m c 1 t)) (iblk m c 3 t) (X0_6 m c t) (iblk m c 4 t) (iblk m c 8 t)) (ix2 r l) = G15 m c (row t r) l := by
  rw [dga_at]
  simp only [a_block, p_block, ga_block]
  exact congrArg (fun x => x * _ * _ * _) (dm_eq m c t r l)

theorem dgb (l : Fin 1024) : k0_pay19 (F := Ideal) (dm m c t) (X0_7 m c t) (iblk m c 5 t) (iblk m c 9 t) (ix2 r l) = G16 m c (row t r) l := by
  rw [dgb_at]
  simp only [b_block, q_block, gb_block, dm_eq]
  rfl

theorem da (j : Fin 512) : k0_pay16 (F := Ideal) (k0_pay13 (k0_pay6 (iblk m c 0 t) (iblk m c 1 t) (iblk m c 2 t)) (k0_pay7 (iblk m c 1 t)) (iblk m c 3 t) (X0_6 m c t)) (iblk m c 8 t) (ix2 r j) = G17 m c (row t r) j := by
  rw [da_at]
  simp only [dya, p_block]
  rfl

theorem dbb (j : Fin 512) : k0_pay20 (F := Ideal) (dm m c t) (X0_7 m c t) (iblk m c 9 t) (ix2 r j) = G18 m c (row t r) j := by
  rw [dbb_at]
  simp only [dm_eq, gb_block, q_block]
  rfl

theorem carry11 (n : ℕ) (hn : n < cfg0.N) (z : Fin 1) (l : Fin 1024) :
    (outsAt0 m c n hn).2.1 (ix2 z l) = ∑ K ∈ Finset.range ((n + 1) * 512), T11 m c l K := by
  have hN : n < 16 := lt_of_lt_of_eq hn N_0
  induction n generalizing z with
  | zero =>
    rw [outsAt0_A m c ⟨0, hn⟩ rfl]; frame_out
    refine (dg m c ⟨0, hn⟩ _ z l).trans ?_
    rw [zero1, zero_add, Finset.range_eq_Ico]
    simp only [zero_mul]
  | succ n ih =>
    rw [outsAt0_B m c ⟨n + 1, hn⟩ (by dsimp only; omega)]; frame_out
    refine (dg m c ⟨n + 1, hn⟩ _ z l).trans ?_
    rw [Finset.range_eq_Ico, ← Finset.sum_Ico_consecutive _ (Nat.zero_le ((n + 1) * 512)) (by omega), ← Finset.range_eq_Ico]
    exact congrArg (· + _) (ih (Nat.lt_of_succ_lt hn) z (by omega))

theorem carry12 (n : ℕ) (hn : n < cfg0.N) (z : Fin 1) (l : Fin 1024) :
    (outsAt0 m c n hn).2.2.1 (ix2 z l) = ∑ K ∈ Finset.range ((n + 1) * 512), T12 m c l K := by
  have hN : n < 16 := lt_of_lt_of_eq hn N_0
  induction n generalizing z with
  | zero =>
    rw [outsAt0_A m c ⟨0, hn⟩ rfl]; frame_out
    refine (db m c ⟨0, hn⟩ _ z l).trans ?_
    rw [zero2, zero_add, Finset.range_eq_Ico]
    simp only [zero_mul]
  | succ n ih =>
    rw [outsAt0_B m c ⟨n + 1, hn⟩ (by dsimp only; omega)]; frame_out
    refine (db m c ⟨n + 1, hn⟩ _ z l).trans ?_
    rw [Finset.range_eq_Ico, ← Finset.sum_Ico_consecutive _ (Nat.zero_le ((n + 1) * 512)) (by omega), ← Finset.range_eq_Ico]
    exact congrArg (· + _) (ih (Nat.lt_of_succ_lt hn) z (by omega))

/-- The rows' sums over all rows. -/
def G11 (l : Fin 1024) : EReal := ∑ R : Fin 8192, A10 m c R l * scaled (U m c R) l
def G12 (l : Fin 1024) : EReal := ∑ R : Fin 8192, A10 m c R l

theorem sum11 (l : Fin 1024) : ∑ K ∈ Finset.range ((15 + 1) * 512), T11 m c l K = G11 m c l := by
  rw [G11, show (15 + 1) * 512 = 8192 from rfl, Finset.sum_range]
  exact Finset.sum_congr rfl fun R _ => by rw [T11, dif_pos R.isLt]

theorem sum12 (l : Fin 1024) : ∑ K ∈ Finset.range ((15 + 1) * 512), T12 m c l K = G12 m c l := by
  rw [G12, show (15 + 1) * 512 = 8192 from rfl, Finset.sum_range]
  exact Finset.sum_congr rfl fun R _ => by rw [T12, dif_pos R.isLt]

theorem out10 (l : Fin 1024) : (outsAt0 m c t.val t.isLt).1 (ix2 r l) = G10 m c (row t r) l := by
  by_cases h0 : t.val % 16 = 0
  · rw [outsAt0_A m c t h0]; frame_out
    exact du m c t r l
  · rw [outsAt0_B m c t h0]; frame_out
    exact du m c t r l

theorem final10 : (dats m 0 c).arrAt 10 cfg0.N = fun i : S8192x1024.Idx => G10 m c (i 0) (i 1) := by
  refine (dats m 0 c).arrAt_eq_of_covers 10 _ (by decide +kernel) fun t _ y => ?_
  have ht := small t
  blk_simp
  rw [after0_10]
  idx_vars y
  rw [out10]
  refine congrArg₂ (G10 m c) (Fin.ext ?_) (Fin.ext ?_)
  all_goals (blk_simp [idx t, row] <;> try omega)

theorem out13 (l : Fin 1024) : (outsAt0 m c t.val t.isLt).2.2.2.1 (ix2 r l) = G13 m c (row t r) l := by
  by_cases h0 : t.val % 16 = 0
  · rw [outsAt0_A m c t h0]; frame_out
    exact dya m c t r l
  · rw [outsAt0_B m c t h0]; frame_out
    exact dya m c t r l

theorem final13 : (dats m 0 c).arrAt 13 cfg0.N = fun i : S8192x1024.Idx => G13 m c (i 0) (i 1) := by
  refine (dats m 0 c).arrAt_eq_of_covers 13 _ (by decide +kernel) fun t _ y => ?_
  have ht := small t
  blk_simp
  rw [after0_13]
  idx_vars y
  rw [out13]
  refine congrArg₂ (G13 m c) (Fin.ext ?_) (Fin.ext ?_)
  all_goals (blk_simp [idx t, row] <;> try omega)

theorem out14 (l : Fin 1024) : (outsAt0 m c t.val t.isLt).2.2.2.2.1 (ix2 r l) = G14 m c (row t r) l := by
  by_cases h0 : t.val % 16 = 0
  · rw [outsAt0_A m c t h0]; frame_out
    exact dyb m c t r l
  · rw [outsAt0_B m c t h0]; frame_out
    exact dyb m c t r l

theorem final14 : (dats m 0 c).arrAt 14 cfg0.N = fun i : S8192x1024.Idx => G14 m c (i 0) (i 1) := by
  refine (dats m 0 c).arrAt_eq_of_covers 14 _ (by decide +kernel) fun t _ y => ?_
  have ht := small t
  blk_simp
  rw [after0_14]
  idx_vars y
  rw [out14]
  refine congrArg₂ (G14 m c) (Fin.ext ?_) (Fin.ext ?_)
  all_goals (blk_simp [idx t, row] <;> try omega)

theorem out15 (l : Fin 1024) : (outsAt0 m c t.val t.isLt).2.2.2.2.2.1 (ix2 r l) = G15 m c (row t r) l := by
  by_cases h0 : t.val % 16 = 0
  · rw [outsAt0_A m c t h0]; frame_out
    exact dga m c t r l
  · rw [outsAt0_B m c t h0]; frame_out
    exact dga m c t r l

theorem final15 : (dats m 0 c).arrAt 15 cfg0.N = fun i : S8192x1024.Idx => G15 m c (i 0) (i 1) := by
  refine (dats m 0 c).arrAt_eq_of_covers 15 _ (by decide +kernel) fun t _ y => ?_
  have ht := small t
  blk_simp
  rw [after0_15]
  idx_vars y
  rw [out15]
  refine congrArg₂ (G15 m c) (Fin.ext ?_) (Fin.ext ?_)
  all_goals (blk_simp [idx t, row] <;> try omega)

theorem out16 (l : Fin 1024) : (outsAt0 m c t.val t.isLt).2.2.2.2.2.2.1 (ix2 r l) = G16 m c (row t r) l := by
  by_cases h0 : t.val % 16 = 0
  · rw [outsAt0_A m c t h0]; frame_out
    exact dgb m c t r l
  · rw [outsAt0_B m c t h0]; frame_out
    exact dgb m c t r l

theorem final16 : (dats m 0 c).arrAt 16 cfg0.N = fun i : S8192x1024.Idx => G16 m c (i 0) (i 1) := by
  refine (dats m 0 c).arrAt_eq_of_covers 16 _ (by decide +kernel) fun t _ y => ?_
  have ht := small t
  blk_simp
  rw [after0_16]
  idx_vars y
  rw [out16]
  refine congrArg₂ (G16 m c) (Fin.ext ?_) (Fin.ext ?_)
  all_goals (blk_simp [idx t, row] <;> try omega)

theorem out17 (l : Fin 512) : (outsAt0 m c t.val t.isLt).2.2.2.2.2.2.2.1 (ix2 r l) = G17 m c (row t r) l := by
  by_cases h0 : t.val % 16 = 0
  · rw [outsAt0_A m c t h0]; frame_out
    exact da m c t r l
  · rw [outsAt0_B m c t h0]; frame_out
    exact da m c t r l

theorem final17 : (dats m 0 c).arrAt 17 cfg0.N = fun i : S8192x512.Idx => G17 m c (i 0) (i 1) := by
  refine (dats m 0 c).arrAt_eq_of_covers 17 _ (by decide +kernel) fun t _ y => ?_
  have ht := small t
  blk_simp
  rw [after0_17]
  idx_vars y
  rw [out17]
  refine congrArg₂ (G17 m c) (Fin.ext ?_) (Fin.ext ?_)
  all_goals (blk_simp [idx t, row] <;> try omega)

theorem out18 (l : Fin 512) : (outsAt0 m c t.val t.isLt).2.2.2.2.2.2.2.2 (ix2 r l) = G18 m c (row t r) l := by
  by_cases h0 : t.val % 16 = 0
  · rw [outsAt0_A m c t h0]; frame_out
    exact dbb m c t r l
  · rw [outsAt0_B m c t h0]; frame_out
    exact dbb m c t r l

theorem final18 : (dats m 0 c).arrAt 18 cfg0.N = fun i : S8192x512.Idx => G18 m c (i 0) (i 1) := by
  refine (dats m 0 c).arrAt_eq_of_covers 18 _ (by decide +kernel) fun t _ y => ?_
  have ht := small t
  blk_simp
  rw [after0_18]
  idx_vars y
  rw [out18]
  refine congrArg₂ (G18 m c) (Fin.ext ?_) (Fin.ext ?_)
  all_goals (blk_simp [idx t, row] <;> try omega)

theorem last11 : ∀ t : Fin cfg0.N, (cfg0.win 11).flush t = true → t.val = 15 :=
  (by decide +kernel : ∀ t : Fin grid0.N, _)

theorem final11 : (dats m 0 c).arrAt 11 cfg0.N = fun i : S1x1024.Idx => G11 m c (i 1) := by
  refine (dats m 0 c).arrAt_eq_of_covers 11 _ (by decide +kernel) fun t hf y => ?_
  have ht := last11 t hf
  blk_simp
  rw [after0_11]
  idx_vars y
  rw [carry11, ht, sum11]
  refine congrArg (G11 m c) (Fin.ext ?_)
  blk_simp [idx t] <;> try omega

theorem last12 : ∀ t : Fin cfg0.N, (cfg0.win 12).flush t = true → t.val = 15 :=
  (by decide +kernel : ∀ t : Fin grid0.N, _)

theorem final12 : (dats m 0 c).arrAt 12 cfg0.N = fun i : S1x1024.Idx => G12 m c (i 1) := by
  refine (dats m 0 c).arrAt_eq_of_covers 12 _ (by decide +kernel) fun t hf y => ?_
  have ht := last12 t hf
  blk_simp
  rw [after0_12]
  idx_vars y
  rw [carry12, ht, sum12]
  refine congrArg (G12 m c) (Fin.ext ?_)
  blk_simp [idx t] <;> try omega

end Cert.Kernel4Ideal.Mixer

end
-- ==== Proof.Mixer.RefTerm.lean ====
/- The mixer's gradient as differentiation prints it, entry by entry. -/
module

public import proofs.«01_k».proof.Proof.Mixer.Out
public import proofs.«01_k».proof.Proof.Norm.RefTerm
public import proofs.«01_k».proof.Proof.Gen.Reference4Ideal.Run

@[expose] public section

set_option maxRecDepth 16384

noncomputable section

namespace Cert.Reference4Ideal.Mixer

open Cert.Reference4Ideal Cert.Reference4Ideal.Gen Idealize.ShloMosaic Idealize.ShloMosaic.TcCoe Idealize.SL.Sem Cert.Norm
open Cert.Kernel4Ideal.Mixer (gateT headT pre)
open Cert.Reference3Ideal.Norm (duT dgT totalT)

variable (x y f : FVec Ideal S8192x1024 .f32) (w : FVec Ideal S1024x1024 .f32) (p : FVec Ideal S512x1024 .f32) (a : FVec Ideal S8192x512 .f32)

/-- The gradient of the mixed heads. -/
def mixT : FVec Ideal S8192x1024 .f32 := Host.dotGeneral dot_S8192x1024_S1024x1024_S8192x1024_1_1_0_0_n_n none x w
/-- The gradient of a head's output. -/
def outT : FVec Ideal S8192x1024 .f32 := mulf (gateT f) x
def outNarrowT : FVec Ideal S8192x1024 .bf16 := truncf .bf16 (outT x f) bitsLt_bf16_f32
/-- The gradient of a gate's argument. -/
def gateGradT : FVec Ideal S8192x1024 .bf16 :=
  truncf .bf16 (mulf (mulf x y) (mulf (gateT f) (subf (broadcastInDim S8192x1024 ![] bcast_S_S8192x1024 (constant S_ .f32 0x3F800000#32)) (gateT f)))) bitsLt_bf16_f32
/-- The gradient of the heads. -/
def headGradT : FVec Ideal S8192x512 .bf16 := truncf .bf16 (Host.dotGeneral dot_S8192x1024_S512x1024_S8192x512_1_1_0_0_n_n none x p) bitsLt_bf16_f32

variable (R : Fin 8192) (l : Fin 1024)

theorem gateT_at : gateT f (ix2 R l) = Ideal.logistic (f (ix2 R l)) := by
  pointwise [gateT]
  rfl
theorem headT_at : headT a p (ix2 R l) = ∑ j : Fin 512, a (ix2 R j) * p (ix2 j l) := by
  pointwise [headT]
theorem mixT_at : mixT x w (ix2 R l) = ∑ k : Fin 1024, x (ix2 R k) * w (ix2 l k) := by
  pointwise [mixT]
theorem outT_at : outT x f (ix2 R l) = x (ix2 R l) * Ideal.logistic (f (ix2 R l)) := by
  pointwise [outT, gateT_at]
  exact mul_comm _ _
theorem outNarrowT_at : outNarrowT x f (ix2 R l) = x (ix2 R l) * Ideal.logistic (f (ix2 R l)) := by
  pointwise [outNarrowT, outT_at]
theorem gateGradT_at : gateGradT x y f (ix2 R l) = x (ix2 R l) * y (ix2 R l) * Ideal.logistic (f (ix2 R l)) * (1 - Ideal.logistic (f (ix2 R l))) := by
  pointwise [gateGradT, gateT_at]
  rw [mul_assoc (x (ix2 R l) * y (ix2 R l))]
theorem headGradT_at (j : Fin 512) : headGradT x p (ix2 R j) = ∑ k : Fin 1024, x (ix2 R k) * p (ix2 j k) := by
  pointwise [headGradT]

variable (m : (ℓ : Loc nD τ sig) → Buf (Elt Ideal) ℓ) (c : Dev nD)

/-- The sum before the norm, its gradient, and the gradient of the mixed heads. -/
abbrev sumT : FVec Ideal S8192x1024 .f32 := pre (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6)) (m ((c : Thread nD τ).loc main_arg7))
abbrev normT : FVec Ideal S8192x1024 .f32 := duT (sumT m c) (m ((c : Thread nD τ).loc main_arg10)) (m ((c : Thread nD τ).loc main_arg8))
abbrev headsT : FVec Ideal S8192x1024 .f32 := mixT (normT m c) (m ((c : Thread nD τ).loc main_arg7))

theorem r89 : Value.res_main_v89 m c = normT m c := by
  unfold Value.res_main_v89
  rfl
theorem r99 : Value.res_main_v99 m c = dgT (sumT m c) (m ((c : Thread nD τ).loc main_arg10)) := by
  unfold Value.res_main_v99
  rfl
theorem r101 : Value.res_main_v101 m c = outNarrowT (headsT m c) (m ((c : Thread nD τ).loc main_arg3)) := by
  unfold Value.res_main_v101
  rfl
theorem r102 : Value.res_main_v102 m c = outNarrowT (headsT m c) (m ((c : Thread nD τ).loc main_arg4)) := by
  unfold Value.res_main_v102
  rfl
theorem r103 : Value.res_main_v103 m c = gateGradT (headsT m c) (headT (m ((c : Thread nD τ).loc main_arg1)) (m ((c : Thread nD τ).loc main_arg5))) (m ((c : Thread nD τ).loc main_arg3)) := by
  unfold Value.res_main_v103
  rfl
theorem r104 : Value.res_main_v104 m c = gateGradT (headsT m c) (headT (m ((c : Thread nD τ).loc main_arg2)) (m ((c : Thread nD τ).loc main_arg6))) (m ((c : Thread nD τ).loc main_arg4)) := by
  unfold Value.res_main_v104
  rfl
theorem r105 : Value.res_main_v105 m c = headGradT (outT (headsT m c) (m ((c : Thread nD τ).loc main_arg3))) (m ((c : Thread nD τ).loc main_arg5)) := by
  unfold Value.res_main_v105
  rfl
theorem r106 : Value.res_main_v106 m c = headGradT (outT (headsT m c) (m ((c : Thread nD τ).loc main_arg4))) (m ((c : Thread nD τ).loc main_arg6)) := by
  unfold Value.res_main_v106
  rfl

end Cert.Reference4Ideal.Mixer

end
-- ==== Proof.Mixer.Claim.lean ====
/- The mixer's gradient: kernel and reference end with one set of arrays. -/
module

public import proofs.«01_k».proof.Proof.Norm.Claim
public import proofs.«01_k».proof.Proof.Gen.Pre_finite4
public import proofs.«01_k».proof.Proof.Mixer.RefTerm

@[expose] public section

set_option maxRecDepth 16384

noncomputable section

namespace Cert.Pre_finite4.Mixer

open Cert.Pre_finite4 Idealize.ShloMosaic Idealize.SL.Sem
open Cert.Pre_finite2.Fox (and_one real)

variable [Facts] (a0 a3 a4 a10 : FVec Ideal S8192x1024 .f32) (a1 a2 : FVec Ideal S8192x512 .f32) (a5 a6 : FVec Ideal S512x1024 .f32) (a7 : FVec Ideal S1024x1024 .f32) (a8 a9 : FVec Ideal S1024 .f32)

theorem reals (h : fn a0 a1 a2 a3 a4 a5 a6 a7 a8 a9 a10 ix0 = 1#1) :
    (∀ i, a0 i = ((a0 i).toReal : EReal)) ∧ (∀ i, a1 i = ((a1 i).toReal : EReal)) ∧ (∀ i, a2 i = ((a2 i).toReal : EReal)) ∧ (∀ i, a5 i = ((a5 i).toReal : EReal)) ∧ (∀ i, a6 i = ((a6 i).toReal : EReal))
      ∧ (∀ i, a7 i = ((a7 i).toReal : EReal)) ∧ (∀ i, a8 i = ((a8 i).toReal : EReal)) ∧ ∀ i, a10 i = ((a10 i).toReal : EReal) := by
  dsimp only [fn, fn_part1, fn_part2] at h
  obtain ⟨h, h7⟩ := and_one h
  obtain ⟨h, h6⟩ := and_one h
  obtain ⟨h, h5⟩ := and_one h
  obtain ⟨h, h4⟩ := and_one h
  obtain ⟨h, h3⟩ := and_one h
  obtain ⟨h, h2⟩ := and_one h
  obtain ⟨h0, h1⟩ := and_one h
  haveI : Subsingleton S_.Idx := ⟨fun i j => funext fun k => k.elim0⟩
  exact ⟨fun i => real (Host.reduce_andi_all _ _ _ _ _ h0 i), fun i => real (Host.reduce_andi_all _ _ _ _ _ h1 i), fun i => real (Host.reduce_andi_all _ _ _ _ _ h2 i),
    fun i => real (Host.reduce_andi_all _ _ _ _ _ h3 i), fun i => real (Host.reduce_andi_all _ _ _ _ _ h4 i), fun i => real (Host.reduce_andi_all _ _ _ _ _ h5 i),
    fun i => real (Host.reduce_andi_all _ _ _ _ _ h6 i), fun i => real (Host.reduce_andi_all _ _ _ _ _ h7 i)⟩

end Cert.Pre_finite4.Mixer

namespace Cert.Mixer

open Idealize.ShloMosaic Idealize.ShloMosaic.TcCoe Idealize.SL.Sem Cert.Norm
open Cert.Kernel4Ideal Cert.Kernel4Ideal.Mixer
open Cert.Reference4Ideal.Mixer (gateT_at headT_at mixT outT outNarrowT gateGradT headGradT)

/-- A gate is real whatever its argument is. -/
theorem gate_real (x : EReal) : ∃ r : ℝ, Ideal.logistic x = r := by
  induction x using EReal.rec with
  | bot => exact ⟨0, by simp⟩
  | coe y => exact ⟨_, Ideal.logistic_coe y⟩
  | top => exact ⟨1, by simp⟩

section
variable (h ga gb : FVec Ideal S8192x1024 .f32) (a b : FVec Ideal S8192x512 .f32) (p q : FVec Ideal S512x1024 .f32) (w : FVec Ideal S1024x1024 .f32) (R : Fin 8192) (l : Fin 1024)

theorem pre_at : pre h a b ga gb p q w (ix2 R l) = alpha * h (ix2 R l)
    + ∑ k : Fin 1024, (Ideal.logistic (ga (ix2 R k)) * (∑ j : Fin 512, a (ix2 R j) * p (ix2 j k)) + Ideal.logistic (gb (ix2 R k)) * (∑ j : Fin 512, b (ix2 R j) * q (ix2 j k))) * w (ix2 k l) := by
  pointwise [pre, gateT_at, headT_at]

variable {a b p q} in
theorem head_real (ha : ∀ i, a i = ((a i).toReal : EReal)) (hp : ∀ i, p i = ((p i).toReal : EReal)) :
    ∃ r : ℝ, (∑ j : Fin 512, a (ix2 R j) * p (ix2 j l)) = r :=
  ⟨_, Attn.coe_sum' (g := fun j => (a (ix2 R j)).toReal * (p (ix2 j l)).toReal) _ fun j _ => by rw [EReal.coe_mul, ← ha, ← hp]⟩

variable {h a b p q w} in
theorem pre_real (hh : ∀ i, h i = ((h i).toReal : EReal)) (ha : ∀ i, a i = ((a i).toReal : EReal)) (hb : ∀ i, b i = ((b i).toReal : EReal))
    (hp : ∀ i, p i = ((p i).toReal : EReal)) (hq : ∀ i, q i = ((q i).toReal : EReal)) (hw : ∀ i, w i = ((w i).toReal : EReal)) :
    ∃ r : ℝ, pre h a b ga gb p q w (ix2 R l) = r := by
  obtain ⟨e, he⟩ := alpha_eq
  choose x hx using fun k => gate_real (ga (ix2 R k))
  choose y hy using fun k => gate_real (gb (ix2 R k))
  choose u hu using fun k => head_real R k ha hp
  choose v hv using fun k => head_real R k hb hq
  refine ⟨e * (h (ix2 R l)).toReal + ∑ k : Fin 1024, (x k * u k + y k * v k) * (w (ix2 k l)).toReal, ?_⟩
  rw [pre_at, Attn.coe_sum' (g := fun k => (x k * u k + y k * v k) * (w (ix2 k l)).toReal) _ fun k _ => by
    rw [hx, hy, hu, hv, EReal.coe_mul, EReal.coe_add, EReal.coe_mul, EReal.coe_mul, ← hw], he, EReal.coe_add, EReal.coe_mul, ← hh]

end

variable (m : (ℓ : Loc nD τ sig) → Buf (Elt Ideal) ℓ) (c : Dev nD)
variable (H : Cert.Pre_finite4.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) = fun _ => 1#1)

/-- The sum before the norm, its gradient, and the gradient of the mixed heads, of the kernel's arguments. -/
abbrev sumK : FVec Ideal S8192x1024 .f32 := pre (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
abbrev normK : FVec Ideal S8192x1024 .f32 := Cert.Reference3Ideal.Norm.duT (sumK m c) (m ((c : Thread nD τ).loc main_arg10)) (m ((c : Thread nD τ).loc main_arg8))
abbrev headsK : FVec Ideal S8192x1024 .f32 := mixT (normK m c) (m ((c : Thread nD τ).loc main_arg7))

include H in
theorem row_eq (R : Fin 8192) (l : Fin 1024) : G10 m c R l = normK m c (ix2 R l) := by
  obtain ⟨h0, h1, h2, h5, h6, h7, h8, h10⟩ := Cert.Pre_finite4.Mixer.reals _ _ _ _ _ _ _ _ _ _ _ (congrFun H ix0)
  choose r hr using fun l => pre_real (m ((c : Thread nD τ).loc main_arg3)) (m ((c : Thread nD τ).loc main_arg4)) R l h0 h1 h2 h5 h6 h7
  exact (grad_eq r (fun k => (A10 m c R k).toReal * (A8 m c k).toReal) hr (fun k => by rw [EReal.coe_mul, ← h10, ← h8]) l).trans (Cert.Reference3Ideal.Norm.duT_at _ _ _ _ _).symm

include H in
theorem mix_eq (R : Fin 8192) (l : Fin 1024) : M m c R l = headsK m c (ix2 R l) := by
  rw [Cert.Kernel4Ideal.Mixer.M, headsK, Cert.Reference4Ideal.Mixer.mixT_at]
  simp only [row_eq m c H]

include H in
theorem du_eq : (fun i : S8192x1024.Idx => G10 m c (i 0) (i 1)) = normK m c := by
  funext i
  rw [eq_ix2 i]
  exact row_eq m c H _ _

theorem dg_eq : (fun i : S1x1024.Idx => G11 m c (i 1)) = Cert.Reference3Ideal.Norm.dgT (sumK m c) (m ((c : Thread nD τ).loc main_arg10)) := by
  funext i
  rw [eq_ix2 i]
  exact (Cert.Reference3Ideal.Norm.dgT_at _ _ _ _).symm

theorem db_eq : (fun i : S1x1024.Idx => G12 m c (i 1)) = Cert.Reference3Ideal.Norm.totalT (m ((c : Thread nD τ).loc main_arg10)) := by
  funext i
  rw [eq_ix2 i]
  exact (Cert.Reference3Ideal.Norm.totalT_at _ _ _).symm

include H in
theorem dya_eq : (fun i : S8192x1024.Idx => G13 m c (i 0) (i 1)) = outNarrowT (headsK m c) (m ((c : Thread nD τ).loc main_arg3)) := by
  have g : ∀ R l, G13 m c R l = outNarrowT (headsK m c) (m ((c : Thread nD τ).loc main_arg3)) (ix2 R l) := fun R l => by
    rw [Cert.Reference4Ideal.Mixer.outNarrowT_at, G13, mix_eq m c H]
  funext i
  rw [eq_ix2 i]
  exact g _ _

include H in
theorem dyb_eq : (fun i : S8192x1024.Idx => G14 m c (i 0) (i 1)) = outNarrowT (headsK m c) (m ((c : Thread nD τ).loc main_arg4)) := by
  have g : ∀ R l, G14 m c R l = outNarrowT (headsK m c) (m ((c : Thread nD τ).loc main_arg4)) (ix2 R l) := fun R l => by
    rw [Cert.Reference4Ideal.Mixer.outNarrowT_at, G14, mix_eq m c H]
  funext i
  rw [eq_ix2 i]
  exact g _ _

include H in
theorem dga_eq : (fun i : S8192x1024.Idx => G15 m c (i 0) (i 1)) = gateGradT (headsK m c) (headT (m ((c : Thread nD τ).loc main_arg1)) (m ((c : Thread nD τ).loc main_arg5))) (m ((c : Thread nD τ).loc main_arg3)) := by
  have g : ∀ R l, G15 m c R l = gateGradT (headsK m c) (headT (m ((c : Thread nD τ).loc main_arg1)) (m ((c : Thread nD τ).loc main_arg5))) (m ((c : Thread nD τ).loc main_arg3)) (ix2 R l) := fun R l => by
    rw [Cert.Reference4Ideal.Mixer.gateGradT_at, headT_at, G15, mix_eq m c H]
  funext i
  rw [eq_ix2 i]
  exact g _ _

include H in
theorem dgb_eq : (fun i : S8192x1024.Idx => G16 m c (i 0) (i 1)) = gateGradT (headsK m c) (headT (m ((c : Thread nD τ).loc main_arg2)) (m ((c : Thread nD τ).loc main_arg6))) (m ((c : Thread nD τ).loc main_arg4)) := by
  have g : ∀ R l, G16 m c R l = gateGradT (headsK m c) (headT (m ((c : Thread nD τ).loc main_arg2)) (m ((c : Thread nD τ).loc main_arg6))) (m ((c : Thread nD τ).loc main_arg4)) (ix2 R l) := fun R l => by
    rw [Cert.Reference4Ideal.Mixer.gateGradT_at, headT_at, G16, mix_eq m c H]
  funext i
  rw [eq_ix2 i]
  exact g _ _

include H in
theorem da_eq : (fun i : S8192x512.Idx => G17 m c (i 0) (i 1)) = headGradT (outT (headsK m c) (m ((c : Thread nD τ).loc main_arg3))) (m ((c : Thread nD τ).loc main_arg5)) := by
  have g : ∀ R j, G17 m c R j = headGradT (outT (headsK m c) (m ((c : Thread nD τ).loc main_arg3))) (m ((c : Thread nD τ).loc main_arg5)) (ix2 R j) := fun R j => by
    rw [Cert.Reference4Ideal.Mixer.headGradT_at, G17]
    simp only [Cert.Reference4Ideal.Mixer.outT_at, G13, mix_eq m c H]
  funext i
  rw [eq_ix2 i]
  exact g _ _

include H in
theorem dbb_eq : (fun i : S8192x512.Idx => G18 m c (i 0) (i 1)) = headGradT (outT (headsK m c) (m ((c : Thread nD τ).loc main_arg4))) (m ((c : Thread nD τ).loc main_arg6)) := by
  have g : ∀ R j, G18 m c R j = headGradT (outT (headsK m c) (m ((c : Thread nD τ).loc main_arg4))) (m ((c : Thread nD τ).loc main_arg6)) (ix2 R j) := fun R j => by
    rw [Cert.Reference4Ideal.Mixer.headGradT_at, G18]
    simp only [Cert.Reference4Ideal.Mixer.outT_at, G14, mix_eq m c H]
  funext i
  rw [eq_ix2 i]
  exact g _ _

set_option maxHeartbeats 4000000 in
/-- The kernel's gradients are the derivative of the gates, the heads' sum, and its norm. -/
theorem algebraic : Cert.algebraic_Kernel4Ideal_Reference4Ideal_pre_finite4 := by
  intro m ρ m' ρ' hpre hag
  refine ⟨fun c => fun i => G10 m c (i 0) (i 1), fun c => fun i => G11 m c (i 1), fun c => fun i => G12 m c (i 1), fun c => fun i => G13 m c (i 0) (i 1), fun c => fun i => G14 m c (i 0) (i 1), fun c => fun i => G15 m c (i 0) (i 1), fun c => fun i => G16 m c (i 0) (i 1), fun c => fun i => G17 m c (i 0) (i 1), fun c => fun i => G18 m c (i 0) (i 1), ?_, ?_⟩
  · refine (θ_run _ _ _).mono (fun r h c => ?_) (Cert.Kernel4Ideal.Value.run_blocks m ρ)
    obtain ⟨h10, h11, h12, h13, h14, h15, h16, h17, h18, hk⟩ := h c
    exact ⟨h10.trans (final10 m c), h11.trans (final11 m c), h12.trans (final12 m c), h13.trans (final13 m c), h14.trans (final14 m c), h15.trans (final15 m c), h16.trans (final16 m c), h17.trans (final17 m c), h18.trans (final18 m c), hk⟩
  · refine (θ_run _ _ _).mono (fun r h c => ?_) (Cert.Reference4Ideal.Value.run m' ρ')
    obtain ⟨h10, h11, h12, h13, h14, h15, h16, h17, h18, hk⟩ := h c
    obtain ⟨e0, e1, e2, e3, e4, e5, e6, e7, e8, e9, e10⟩ := hag c
    have w12 := h12.trans (show _ = Cert.Reference3Ideal.Norm.totalT (m' ((c : Thread Cert.Reference4Ideal.nD Cert.Reference4Ideal.τ).loc Cert.Reference4Ideal.main_arg10)) from rfl)
    rw [e10] at w12
    have w10 := h10.trans (Cert.Reference4Ideal.Mixer.r89 m' c)
    simp only [Cert.Reference4Ideal.Mixer.sumT, Cert.Reference4Ideal.Mixer.normT, Cert.Reference4Ideal.Mixer.headsT] at w10
    rw [e0, e1, e2, e3, e4, e5, e6, e7, e8, e10] at w10
    have w11 := h11.trans (Cert.Reference4Ideal.Mixer.r99 m' c)
    simp only [Cert.Reference4Ideal.Mixer.sumT, Cert.Reference4Ideal.Mixer.normT, Cert.Reference4Ideal.Mixer.headsT] at w11
    rw [e0, e1, e2, e3, e4, e5, e6, e7, e10] at w11
    have w13 := h13.trans (Cert.Reference4Ideal.Mixer.r101 m' c)
    simp only [Cert.Reference4Ideal.Mixer.sumT, Cert.Reference4Ideal.Mixer.normT, Cert.Reference4Ideal.Mixer.headsT] at w13
    rw [e0, e1, e2, e3, e4, e5, e6, e7, e8, e10] at w13
    have w14 := h14.trans (Cert.Reference4Ideal.Mixer.r102 m' c)
    simp only [Cert.Reference4Ideal.Mixer.sumT, Cert.Reference4Ideal.Mixer.normT, Cert.Reference4Ideal.Mixer.headsT] at w14
    rw [e0, e1, e2, e3, e4, e5, e6, e7, e8, e10] at w14
    have w15 := h15.trans (Cert.Reference4Ideal.Mixer.r103 m' c)
    simp only [Cert.Reference4Ideal.Mixer.sumT, Cert.Reference4Ideal.Mixer.normT, Cert.Reference4Ideal.Mixer.headsT] at w15
    rw [e0, e1, e2, e3, e4, e5, e6, e7, e8, e10] at w15
    have w16 := h16.trans (Cert.Reference4Ideal.Mixer.r104 m' c)
    simp only [Cert.Reference4Ideal.Mixer.sumT, Cert.Reference4Ideal.Mixer.normT, Cert.Reference4Ideal.Mixer.headsT] at w16
    rw [e0, e1, e2, e3, e4, e5, e6, e7, e8, e10] at w16
    have w17 := h17.trans (Cert.Reference4Ideal.Mixer.r105 m' c)
    simp only [Cert.Reference4Ideal.Mixer.sumT, Cert.Reference4Ideal.Mixer.normT, Cert.Reference4Ideal.Mixer.headsT] at w17
    rw [e0, e1, e2, e3, e4, e5, e6, e7, e8, e10] at w17
    have w18 := h18.trans (Cert.Reference4Ideal.Mixer.r106 m' c)
    simp only [Cert.Reference4Ideal.Mixer.sumT, Cert.Reference4Ideal.Mixer.normT, Cert.Reference4Ideal.Mixer.headsT] at w18
    rw [e0, e1, e2, e3, e4, e5, e6, e7, e8, e10] at w18
    exact ⟨w10.trans (du_eq m c (hpre c)).symm, w11.trans (dg_eq m c).symm, w12.trans (db_eq m c).symm, w13.trans (dya_eq m c (hpre c)).symm, w14.trans (dyb_eq m c (hpre c)).symm, w15.trans (dga_eq m c (hpre c)).symm, w16.trans (dgb_eq m c (hpre c)).symm, w17.trans (da_eq m c (hpre c)).symm, w18.trans (dbb_eq m c (hpre c)).symm, hk⟩

end Cert.Mixer

end
-- ==== Proof.Conv.Pay.lean ====
/- The gated convolution's gradient: what one grid point computes, entry by entry. -/
module

public import proofs.«01_k».proof.Proof.Norm.Pay
public import proofs.«01_k».proof.Proof.Gen.Kernel5Ideal.Value

@[expose] public section

set_option maxRecDepth 16384

noncomputable section

namespace Cert.Kernel5Ideal.Conv

open Cert.Kernel5Ideal Cert.Kernel5Ideal.Gen Idealize.ShloMosaic Idealize.ShloMosaic.TcCoe Idealize.SL.Sem

variable (v0 v1 : BitVec 1) (cw : FVec Ideal S1x8x704 .f32) (cb : FVec Ideal S1x1x704 .f32) (g : FVec Ideal S1x1x256x704 .f32) (h : FVec Ideal S1x1x8x704 .f32)
  (da : FVec Ideal S1x256x704 .f32) (up : FVec Ideal S1x1x256x704 .f32) (gn un : FVec Ideal S1x1x8x704 .f32) (dn : FVec Ideal S1x8x704 .f32)

/-- The gate's rows, one down and two down. -/
def g1 : FVec Ideal S256x704 .f32 := k0_pay40 v0 g h
def g2 : FVec Ideal S256x704 .f32 := k0_pay41 v0 g h
/-- The convolution. -/
def cv : FVec Ideal S256x704 .f32 := k0_pay43 (k0_pay36 cw) (k0_pay37 cb) (k0_pay38 g) (k0_pay40 v0 g h) (k0_pay42 v0 (k0_pay36 cw) g h)
/-- The gradient of the values beside the gate. -/
def dup : FVec Ideal S256x704 .bf16 := k0_pay46 (k0_pay36 cw) (k0_pay37 cb) (k0_pay38 g) (k0_pay40 v0 g h) (k0_pay42 v0 (k0_pay36 cw) g h) da
/-- The gradient of the convolution, in these rows and in the first of the next block. -/
def dc : FVec Ideal S256x704 .f32 := k0_pay47 (k0_pay36 cw) (k0_pay37 cb) (k0_pay38 g) (k0_pay40 v0 g h) (k0_pay42 v0 (k0_pay36 cw) g h) da up
def cn : FVec Ideal S8x704 .f32 := k0_pay18 (k0_pay4 cw) (k0_pay5 cb) (k0_pay6 g) gn
def dcn : FVec Ideal S8x704 .f32 := k0_pay20 (k0_pay17 gn) (cn cw cb g gn) (k0_pay19 (k0_pay4 cw)) un dn
/-- The gradient of the gate. -/
def dg : FVec Ideal S256x704 .bf16 :=
  k0_pay26 v1 (dcn cw cb g gn un dn) (k0_pay21 v1 (k0_pay4 cw) (dc v0 cw cb g h da up) (k0_pay17 gn) (cn cw cb g gn) (k0_pay19 (k0_pay4 cw)) un dn)
    (k0_pay22 (k0_pay4 cw)) (iota .tc S256x1 32 [0] iota_S256x1_d0_w32) (k0_pay23 (dc v0 cw cb g h da up))
    (k0_pay24 v1 (k0_pay17 gn) (cn cw cb g gn) (k0_pay19 (k0_pay4 cw)) un dn) k0_pay25
/-- The sums over the block's rows, added to what was there. -/
def part (old : FVec Ideal S1x8x704 .f32) : FVec Ideal S1x8x704 .f32 :=
  k0_pay35 (iota .tc S8x1 32 [0] iota_S8x1_d0_w32) (dc v0 cw cb g h da up) k0_pay30 (k0_pay31 (g2 v0 g h) (dc v0 cw cb g h da up))
    (k0_pay32 (g1 v0 g h) (dc v0 cw cb g h da up)) (k0_pay33 (k0_pay6 g) (dc v0 cw cb g h da up)) (k0_pay34 (iota .tc S8x1 32 [0] iota_S8x1_d0_w32)) old

variable (r : Fin 256) (l : Fin 704) (j : Fin 8)

theorem select_eq (n k : ℕ) (hn : n < 4294967296) (hk : k < 4294967296) (a b : EReal) :
    Scalar.select (IntOp.cmpi CmpIPredicate.eq (BitVec.ofNat 32 n) (BitVec.ofNat 32 k)) a b = if n = k then a else b := by
  by_cases e : n = k
  · subst e; simp [Scalar.select, IntOp.cmpi]
  · have : ¬ (BitVec.ofNat 32 n = BitVec.ofNat 32 k) := fun q => e (by
      have := congrArg BitVec.toNat q
      simp only [BitVec.toNat_ofNat] at this
      omega)
    simp only [Scalar.select, IntOp.cmpi, beq_eq_false_iff_ne.mpr this, if_neg e]
    rfl

theorem add4 {b c p q x y x' y' : EReal} (d : EReal) (h : b = c) (hx : x = x') (hy : y = y') : b + p * x + q * y + d = c + p * x' + q * y' + d := by rw [h, hx, hy]

theorem add3 {b p q x y x' y' : EReal} (hx : x = x') (hy : y = y') : b + p * x + q * y = b + p * x' + q * y' := by rw [hx, hy]

/-- A column's entry `k` rows before, and `k` rows after; zero outside the rows. -/
def back (F : ℕ → EReal) (k n : ℕ) : EReal := if k ≤ n then F (n - k) else 0
def ahead (F : ℕ → EReal) (k n : ℕ) : EReal := if n + k < 8192 then F (n + k) else 0

section
variable (w : ℕ → EReal) (b : EReal) (G U D : ℕ → EReal)

/-- One column: the convolution, its gradient, and those of the gate and of the values beside it. -/
def conv (n : ℕ) : EReal := b + w 0 * back G 2 n + w 1 * back G 1 n + w 2 * G n
def dconv (n : ℕ) : EReal := D n * U n * (Ideal.logistic (conv w b G n) * (1 + conv w b G n * (1 - Ideal.logistic (conv w b G n))))
def dgate (n : ℕ) : EReal := w 2 * dconv w b G U D n + w 1 * ahead (dconv w b G U D) 1 n + w 0 * ahead (dconv w b G U D) 2 n
def dval (n : ℕ) : EReal := D n * conv w b G n * Ideal.logistic (conv w b G n)

/-- What the gradient of a tap, or of the bias, sums over the rows. -/
def term (j n : ℕ) : EReal := if j = 3 then dconv w b G U D n else if j = 2 then dconv w b G U D n * G n else
  if j = 1 then dconv w b G U D n * back G 1 n else if j = 0 then dconv w b G U D n * back G 2 n else 0

variable {T : ℕ} (hT : T < 32) (hw : cw (ix3 0 0 l) = w 0 ∧ cw (ix3 0 1 l) = w 1 ∧ cw (ix3 0 2 l) = w 2) (hb : cb (ix3 0 0 l) = b)
  (hg : ∀ r : Fin 256, g (ix4 0 0 r l) = G (256 * T + r)) (hh : 0 < T → ∀ j : Fin 8, h (ix4 0 0 j l) = G (256 * T - 8 + j))
  (hu : ∀ r : Fin 256, up (ix4 0 0 r l) = U (256 * T + r)) (hd : ∀ r : Fin 256, da (ix3 0 r l) = D (256 * T + r))
  (hgn : T < 31 → ∀ j : Fin 8, gn (ix4 0 0 j l) = G (256 * T + 256 + j)) (hun : T < 31 → ∀ j : Fin 8, un (ix4 0 0 j l) = U (256 * T + 256 + j))
  (hdn : T < 31 → ∀ j : Fin 8, dn (ix3 0 j l) = D (256 * T + 256 + j))
  (h0 : v0 = IntOp.cmpi CmpIPredicate.eq (BitVec.ofNat 32 T) 0#32) (h1 : v1 = IntOp.cmpi CmpIPredicate.eq (BitVec.ofNat 32 T) 31#32)

include hT hg hh h0 in
theorem g1_at : g1 v0 g h (ix2 r l) = back G 1 (256 * T + r) := by
  pointwise [g1, k0_pay40, k0_pay39, k0_pay38]
  rw [h0, select_eq _ _ (by omega) (by omega), select_eq _ _ (by omega) (by omega), back]
  by_cases hr : r.val = 0
  · rw [if_pos hr]
    by_cases ht : T = 0
    · rw [if_pos ht, if_neg (by omega)]
    · rw [if_neg ht, if_pos (by omega), hh (by omega)]; congr 1; simp; omega
  · rw [if_neg hr, if_pos (by omega), hg]; congr 1; simp; omega

include hT hg hh h0 in
theorem g2_at : g2 v0 g h (ix2 r l) = back G 2 (256 * T + r) := by
  pointwise [g2, k0_pay41, k0_pay39, k0_pay38]
  simp only [h0]
  rw [select_eq _ _ (by omega) (by omega), select_eq _ _ (by omega) (by omega), select_eq _ _ (by omega) (by omega), select_eq _ _ (by omega) (by omega), back]
  by_cases hr : r.val = 1
  · rw [if_pos hr]
    by_cases ht : T = 0
    · rw [if_pos ht, if_neg (by omega)]
    · rw [if_neg ht, if_pos (by omega), hh (by omega)]; congr 1; simp; omega
  · rw [if_neg hr]
    by_cases hr : r.val = 0
    · rw [if_pos hr]
      by_cases ht : T = 0
      · rw [if_pos ht, if_neg (by omega)]
      · rw [if_neg ht, if_pos (by omega), hh (by omega)]; congr 1; simp; omega
    · rw [if_neg hr, if_pos (by omega), hg]; congr 1; simp; omega

include hT hw hb hg hh h0 in
theorem cv_at : cv v0 cw cb g h (ix2 r l) = conv w b G (256 * T + r) := by
  pointwise [cv, k0_pay43, k0_pay42, k0_pay36, k0_pay37, k0_pay38]
  rw [conv, ← g1_at v0 g h r l G hT hg hh h0, ← g2_at v0 g h r l G hT hg hh h0, ← hw.1, ← hw.2.1, ← hw.2.2, hb, ← hg r]
  rfl

include hT hw hb hg hh hd h0 in
theorem dup_at : dup v0 cw cb g h da (ix2 r l) = dval w b G D (256 * T + r) := by
  rw [dval, ← cv_at v0 cw cb g h r l w b G hT hw hb hg hh h0, ← hd r]
  pointwise [dup, k0_pay46, k0_pay45, k0_pay44, cv]

include hT hw hb hg hh hd hu h0 in
theorem dc_at : dc v0 cw cb g h da up (ix2 r l) = dconv w b G U D (256 * T + r) := by
  rw [dconv, ← cv_at v0 cw cb g h r l w b G hT hw hb hg hh h0, ← hd r, ← hu r]
  pointwise [dc, k0_pay47, k0_pay45, k0_pay44, cv]

include hT hw hb hg hgn in
theorem cn_at (ht : T < 31) : cn cw cb g gn (ix2 j l) + k0_pay19 (F := Ideal) (k0_pay4 cw) (ix2 0 l) * k0_pay17 (F := Ideal) gn (ix2 j l) = conv w b G (256 * T + 256 + j) := by
  pointwise [cn, k0_pay18, k0_pay17, k0_pay19, k0_pay4, k0_pay5, k0_pay6]
  simp only [select_eq _ _ (show j.val < 4294967296 by omega) (show 1 < 4294967296 by omega), select_eq _ _ (show j.val < 4294967296 by omega) (show 0 < 4294967296 by omega), hg, hgn ht]
  rw [conv, ← hw.1, ← hw.2.1, ← hw.2.2, hb]
  refine add4 _ rfl ?_ ?_
  · rw [back]
    split_ifs <;> first | omega | (refine congrArg G ?_; omega)
  · rw [back]
    split_ifs <;> first | omega | (refine congrArg G ?_; omega)

include hT hw hb hg hgn hun hdn in
theorem dcn_at (ht : T < 31) : dcn cw cb g gn un dn (ix2 j l) = dconv w b G U D (256 * T + 256 + j) := by
  rw [dconv, ← cn_at cw cb g gn l j w b G hT hw hb hg hgn ht, ← hun ht j, ← hdn ht j]
  pointwise [dcn, k0_pay20]

include hT hw hb hg hh hd hu h0 in
theorem part_at (old) : part v0 cw cb g h da up old (ix3 0 j l) = old (ix3 0 j l) + ∑ r : Fin 256, term w b G U D j (256 * T + r) := by
  pointwise [part, k0_pay35, k0_pay34, k0_pay33, k0_pay32, k0_pay31, k0_pay30, k0_pay6]
  rw [select_eq _ _ (by omega) (by omega), select_eq _ _ (by omega) (by omega), select_eq _ _ (by omega) (by omega), select_eq _ _ (by omega) (by omega)]
  simp only [dc_at v0 cw cb g h da up _ l w b G U D hT hw hb hg hh hu hd h0, g1_at v0 g h _ l G hT hg hh h0, g2_at v0 g h _ l G hT hg hh h0, hg]
  refine congrArg (old (ix3 0 j l) + ·) ?_
  unfold term
  split_ifs <;> first | rfl | exact (Finset.sum_const_zero).symm

include hT hw hb hg hh hd hu hgn hun hdn h0 h1 in
theorem dg_at : dg v0 v1 cw cb g h da up gn un dn (ix2 r l) = dgate w b G U D (256 * T + r) := by
  pointwise [dg, k0_pay26, k0_pay21, k0_pay22, k0_pay23, k0_pay24, k0_pay25]
  have tap (i : Fin 8) : k0_pay4 cw (ix2 i l) = cw (ix3 0 i l) := by pointwise [k0_pay4]
  rw [tap, tap, tap]
  have dcn_at' : ∀ ht : T < 31, ∀ j : Fin 8, k0_pay20 (F := Ideal) (k0_pay17 gn) (cn cw cb g gn) (k0_pay19 (k0_pay4 cw)) un dn (ix2 j l) = dconv w b G U D (256 * T + 256 + j) :=
    fun ht j => dcn_at cw cb g gn un dn l j w b G U D hT hw hb hg hgn hun hdn ht
  simp only [h1, select_eq _ _ (show r.val < 4294967296 by omega) (show 255 < 4294967296 by omega), select_eq _ _ (show r.val < 4294967296 by omega) (show 254 < 4294967296 by omega),
    select_eq _ _ (show T < 4294967296 by omega) (show 31 < 4294967296 by omega)]
  simp only [dc_at v0 cw cb g h da up _ l w b G U D hT hw hb hg hh hu hd h0]
  rw [dgate, ← hw.1, ← hw.2.1, ← hw.2.2]
  refine add3 ?_ ?_
  · rw [ahead]
    by_cases hr : r.val = 255
    · rw [if_pos hr]
      by_cases ht : T = 31
      · rw [if_pos ht, if_neg (by omega)]
      · rw [if_neg ht, if_pos (by omega), dcn_at' (by omega)]; congr 1; simp; omega
    · rw [if_neg hr, if_pos (by omega)]; congr 1; simp; omega
  · rw [ahead]
    by_cases hr : r.val = 255
    · rw [if_pos hr]
      by_cases ht : T = 31
      · rw [if_pos ht, if_neg (by omega)]
      · rw [if_neg ht, if_pos (by omega), dcn_at cw cb g gn un dn l 1 w b G U D hT hw hb hg hgn hun hdn (by omega)]; congr 1; simp; omega
    · rw [if_neg hr]
      by_cases hr : r.val = 254
      · rw [if_pos hr]
        by_cases ht : T = 31
        · rw [if_pos ht, if_neg (by omega)]
        · rw [if_neg ht, if_pos (by omega), dcn_at' (by omega)]; congr 1; simp; omega
      · rw [if_neg hr, if_pos (by omega)]; congr 1; simp; omega

end

end Cert.Kernel5Ideal.Conv

end
-- ==== Proof.Conv.Out.lean ====
/- The gated convolution's gradient: what the grid points write back, over the whole arrays. -/
module

public import proofs.«01_k».proof.Proof.Conv.Pay
public import Idealize.ShloMosaic.Lib.Pipeline.ReadBack

@[expose] public section

set_option maxRecDepth 16384

noncomputable section

namespace Cert.Kernel5Ideal.Conv

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![0, 0, t.val, 0] ∧ win0_1.index t = ![0, 0, t.val * 32 - 1, 0] ∧ win0_2.index t = ![0, 0, min (t.val * 32 + 32) 1023, 0]
    ∧ win0_3.index t = ![0, t.val, 0] ∧ win0_4.index t = ![0, min (t.val * 32 + 32) 1023, 0] ∧ win0_5.index t = ![0, 0, 0] ∧ win0_6.index t = ![0, 0, 0] ∧ win0_7.index t = ![0, 0, 0]
    ∧ win0_8.index t = ![t.val, 0] ∧ win0_9.index t = ![0, 0, t.val, 0] ∧ win0_10.index t = ![0, 0, 0] ∧ win0_11.index t = ![t.val, 0]
    ∧ (grid0.coords t 0).val = t.val ∧ t.val < 32 :=
  (by decide +kernel : ∀ t : Fin grid0.N, _)

/-- The gate and the values beside it, in chunks of columns. -/
def guT (h : FVec Ideal S8192x1024 .f32) (w : FVec Ideal S1024x5632 .f32) : FVec Ideal S4x2x8192x704 .f32 :=
  transpose S4x2x8192x704 [2, 1, 0, 3] (shapeCast S8192x2x4x704 (Host.dotGeneral dot_S8192x1024_S1024x5632_S8192x5632_1_0_0_1_n_n none h w) shapeCasts_S8192x5632_S8192x2x4x704) transposes_S8192x2x4x704_S4x2x8192x704_2_1_0_3

/-- The taps, in chunks of columns and with rows of zeros. -/
def tapsT (k : FVec Ideal S3x2816 .f32) : FVec Ideal S4x8x704 .f32 :=
  transpose S4x8x704 [1, 0, 2] (shapeCast S8x4x704 (pad S8x2816 ![0, 0] ![5, 0] ![0, 0] k (sitofp .f32 (constantI S_ 32 0#32) : FVec Ideal S_ .f32) pads_S3x2816_S8x2816_050_000 h_S_) shapeCasts_S8x2816_S8x4x704)
    transposes_S8x4x704_S4x8x704_1_0_2

def biasT (b : FVec Ideal S2816 .f32) : FVec Ideal S4x1x704 .f32 := shapeCast S4x1x704 b shapeCasts_S2816_S4x1x704

def wT (w : FVec Ideal S1024x5632 .f32) : FVec Ideal S8x704x1024 .bf16 :=
  truncf .bf16 (transpose S8x704x1024 [1, 2, 0] (shapeCast S1024x8x704 w shapeCasts_S1024x5632_S1024x8x704) transposes_S1024x8x704_S8x704x1024_1_2_0) bitsLt_bf16_f32

def dT (d : FVec Ideal S8192x2816 .f32) : FVec Ideal S4x8192x704 .f32 :=
  transpose S4x8192x704 [1, 0, 2] (shapeCast S8192x4x704 d shapeCasts_S8192x2816_S8192x4x704) transposes_S8192x4x704_S4x8192x704_1_0_2

abbrev A0 : FVec Ideal S8192x1024 .f32 := m ((c : Thread nD τ).loc main_arg0)
abbrev A1 : FVec Ideal S1024x5632 .f32 := m ((c : Thread nD τ).loc main_arg1)
abbrev A2 : FVec Ideal S3x2816 .f32 := m ((c : Thread nD τ).loc main_arg2)
abbrev A3 : FVec Ideal S2816 .f32 := m ((c : Thread nD τ).loc main_arg3)
abbrev A4 : FVec Ideal S8192x2816 .f32 := m ((c : Thread nD τ).loc main_arg4)
abbrev A5 : FVec Ideal S8192x1024 .f32 := m ((c : Thread nD τ).loc main_arg5)

theorem V_gu : V m c main_v2 = guT (A0 m c) (A1 m c) := by
  dsimp only [V, hostOps0, hostOps0_1, hostOps0_2, List.flatten_cons, List.flatten_nil, List.append_nil, List.cons_append, List.nil_append]
  simp only [StableHlo.TRef.binary, StableHlo.TRef.unary, StableHlo.TRef.toBuf, StableHlo.TRef.ofBuf, cast_eq]
  after_results_simp
  rfl

theorem V_taps : V m c main_v5 = tapsT (A2 m c) := by
  dsimp only [V, hostOps0, hostOps0_1, hostOps0_2, List.flatten_cons, List.flatten_nil, List.append_nil, List.cons_append, List.nil_append]
  simp only [StableHlo.TRef.binary, StableHlo.TRef.unary, StableHlo.TRef.toBuf, StableHlo.TRef.ofBuf, cast_eq]
  after_results_simp
  rfl

theorem V_bias : V m c main_v6 = biasT (A3 m c) := by
  dsimp only [V, hostOps0, hostOps0_1, hostOps0_2, List.flatten_cons, List.flatten_nil, List.append_nil, List.cons_append, List.nil_append]
  simp only [StableHlo.TRef.binary, StableHlo.TRef.unary, StableHlo.TRef.toBuf, StableHlo.TRef.ofBuf, cast_eq]
  after_results_simp
  rfl

theorem V_w : V m c main_v9 = wT (A1 m c) := by
  dsimp only [V, hostOps0, hostOps0_1, hostOps0_2, List.flatten_cons, List.flatten_nil, List.append_nil, List.cons_append, List.nil_append]
  simp only [StableHlo.TRef.binary, StableHlo.TRef.unary, StableHlo.TRef.toBuf, StableHlo.TRef.ofBuf, cast_eq]
  after_results_simp
  rfl

theorem V_d : V m c main_v11 = dT (A4 m c) := by
  dsimp only [V, hostOps0, hostOps0_1, hostOps0_2, List.flatten_cons, List.flatten_nil, List.append_nil, List.cons_append, List.nil_append]
  simp only [StableHlo.TRef.binary, StableHlo.TRef.unary, StableHlo.TRef.toBuf, StableHlo.TRef.ofBuf, cast_eq]
  after_results_simp
  rfl

theorem V_res : V m c main_arg5 = A5 m c := by
  dsimp only [V, hostOps0, hostOps0_1, hostOps0_2, List.flatten_cons, List.flatten_nil, List.append_nil, List.cons_append, List.nil_append]
  simp only [StableHlo.TRef.binary, StableHlo.TRef.unary, StableHlo.TRef.toBuf, StableHlo.TRef.ofBuf, cast_eq]
  after_results_simp

section
variable (H : FVec Ideal S8192x1024 .f32) (W : FVec Ideal S1024x5632 .f32) (K : FVec Ideal S3x2816 .f32) (B : FVec Ideal S2816 .f32) (D : FVec Ideal S8192x2816 .f32)

/-- The columns, by rows. -/
def GU (C : Fin 5632) (n : ℕ) : EReal := if h : n < 8192 then ∑ k : Fin 1024, H (ix2 ⟨n, h⟩ k) * W (ix2 k C) else 0
def DA (C : Fin 2816) (n : ℕ) : EReal := if h : n < 8192 then D (ix2 ⟨n, h⟩ C) else 0
def WC (C : Fin 2816) (j : ℕ) : EReal := if h : j < 3 then K (ix2 ⟨j, h⟩ C) else 0
/-- A chunk's column among all. -/
def at0 (i : Fin 4) (l : Fin 704) : Fin 2816 := ⟨i.val * 704 + l.val, by omega⟩
def lo (C : Fin 2816) : Fin 5632 := ⟨C.val, by omega⟩
def hi (C : Fin 2816) : Fin 5632 := ⟨2816 + C.val, by omega⟩

theorem gu_lo (i : Fin 4) (n : Fin 8192) (l : Fin 704) : guT H W (ix4 i 0 n l) = GU H W (lo (at0 i l)) n := by
  rw [GU, dif_pos n.isLt]
  pointwise [guT]
  refine Finset.sum_congr rfl fun k _ => congrArg₂ (fun x y => x * y) rfl (congrArg W (congrArg (ix2 k) (Fin.ext ?_)))
  simp [lo, at0]

theorem gu_hi (i : Fin 4) (n : Fin 8192) (l : Fin 704) : guT H W (ix4 i 1 n l) = GU H W (hi (at0 i l)) n := by
  rw [GU, dif_pos n.isLt]
  pointwise [guT]
  refine Finset.sum_congr rfl fun k _ => congrArg₂ (fun x y => x * y) rfl (congrArg W (congrArg (ix2 k) (Fin.ext ?_)))
  simp [hi, at0]; omega

theorem d_at (i : Fin 4) (n : Fin 8192) (l : Fin 704) : dT D (ix3 i n l) = DA D (at0 i l) n := by
  rw [DA, dif_pos n.isLt]
  pointwise [dT]
  rfl

theorem taps_at (i : Fin 4) (j : Fin 8) (hj : j.val < 3) (l : Fin 704) : tapsT K (ix3 i j l) = WC K (at0 i l) j := by
  rw [WC, dif_pos hj]
  pointwise [tapsT]
  rw [dif_pos (by omega)]
  rfl

theorem bias_at (i : Fin 4) (l : Fin 704) : biasT B (ix3 i 0 l) = B (ix1 (at0 i l)) := by
  pointwise [biasT]
  rfl

theorem w_lo (i : Fin 4) (l : Fin 704) (e : Fin 1024) : wT W (ix3 (i.castLE (by omega)) l e) = W (ix2 e (lo (at0 i l))) := by
  pointwise [wT]
  rfl

theorem w_hi (i : Fin 4) (l : Fin 704) (e : Fin 1024) : wT W (ix3 (i.natAdd 4) l e) = W (ix2 e (hi (at0 i l))) := by
  pointwise [wT]
  refine congrArg W (congrArg (ix2 e) (Fin.ext ?_))
  simp [hi, at0]; omega

end

variable (t : Fin cfg0.N)

theorem small : t.val < 32 := by have := idx t; tauto

theorem b0 (i : Fin 4) (p : Fin 2) (r : Fin 256) (l : Fin 704) : (iblk m c 0 t : FVec Ideal S4x2x256x704 .f32) (ix4 i p r l) = guT (A0 m c) (A1 m c) (ix4 i p ⟨256 * t.val + r, by have := small t; omega⟩ l) := by
  show (V m c main_v2) (((cfg0.win 0).blk t).view.emb _) = _
  rw [V_gu]
  refine congrArg (guT _ _) ?_
  blk_ext [idx t]

theorem b1 (h : 0 < t.val) (i : Fin 4) (j : Fin 8) (l : Fin 704) : (iblk m c 1 t : FVec Ideal S4x1x8x704 .f32) (ix4 i 0 j l) = guT (A0 m c) (A1 m c) (ix4 i 0 ⟨256 * t.val - 8 + j, by have := small t; omega⟩ l) := by
  show (V m c main_v2) (((cfg0.win 1).blk t).view.emb _) = _
  rw [V_gu]
  refine congrArg (guT _ _) ?_
  blk_ext [idx t]

theorem b2 (h : t.val < 31) (i : Fin 4) (p : Fin 2) (j : Fin 8) (l : Fin 704) : (iblk m c 2 t : FVec Ideal S4x2x8x704 .f32) (ix4 i p j l) = guT (A0 m c) (A1 m c) (ix4 i p ⟨256 * t.val + 256 + j, by omega⟩ l) := by
  show (V m c main_v2) (((cfg0.win 2).blk t).view.emb _) = _
  rw [V_gu]
  refine congrArg (guT _ _) ?_
  blk_ext [idx t]

theorem b3 (i : Fin 4) (r : Fin 256) (l : Fin 704) : (iblk m c 3 t : FVec Ideal S4x256x704 .f32) (ix3 i r l) = dT (A4 m c) (ix3 i ⟨256 * t.val + r, by have := small t; omega⟩ l) := by
  show (V m c main_v11) (((cfg0.win 3).blk t).view.emb _) = _
  rw [V_d]
  refine congrArg (dT _) ?_
  blk_ext [idx t]

theorem b4 (h : t.val < 31) (i : Fin 4) (j : Fin 8) (l : Fin 704) : (iblk m c 4 t : FVec Ideal S4x8x704 .f32) (ix3 i j l) = dT (A4 m c) (ix3 i ⟨256 * t.val + 256 + j, by omega⟩ l) := by
  show (V m c main_v11) (((cfg0.win 4).blk t).view.emb _) = _
  rw [V_d]
  refine congrArg (dT _) ?_
  blk_ext [idx t]

theorem b5 (i : Fin 4) (j : Fin 8) (l : Fin 704) : (iblk m c 5 t : FVec Ideal S4x8x704 .f32) (ix3 i j l) = tapsT (A2 m c) (ix3 i j l) := by
  show (V m c main_v5) (((cfg0.win 5).blk t).view.emb _) = _
  rw [V_taps]
  refine congrArg (tapsT _) ?_
  blk_ext [idx t]

theorem b6 (i : Fin 4) (l : Fin 704) : (iblk m c 6 t : FVec Ideal S4x1x704 .f32) (ix3 i 0 l) = biasT (A3 m c) (ix3 i 0 l) := by
  show (V m c main_v6) (((cfg0.win 6).blk t).view.emb _) = _
  rw [V_bias]
  refine congrArg (biasT _) ?_
  blk_ext [idx t]

theorem b7 (i : Fin 8) (l : Fin 704) (e : Fin 1024) : (iblk m c 7 t : FVec Ideal S8x704x1024 .bf16) (ix3 i l e) = wT (A1 m c) (ix3 i l e) := by
  show (V m c main_v9) (((cfg0.win 7).blk t).view.emb _) = _
  rw [V_w]
  refine congrArg (wT _) ?_
  blk_ext [idx t]

theorem b8 (r : Fin 256) (e : Fin 1024) : (iblk m c 8 t : FVec Ideal S256x1024 .f32) (ix2 r e) = A5 m c (ix2 ⟨256 * t.val + r, by have := small t; omega⟩ e) := by
  show (V m c main_arg5) (((cfg0.win 8).blk t).view.emb _) = _
  rw [V_res]
  refine congrArg (A5 m c) ?_
  blk_ext [idx t]

end Cert.Kernel5Ideal.Conv

end
-- ==== Proof.Conv.Chunks.lean ====
module

public import proofs.«01_k».proof.Proof.Conv.Pay

/-! The four chunks of columns compute the same functions, each of its own loads. -/

@[expose] public section

set_option maxRecDepth 16384

noncomputable section

namespace Cert.Kernel5Ideal.Conv

open Cert.Kernel5Ideal Cert.Kernel5Ideal.Gen Idealize.ShloMosaic Idealize.ShloMosaic.TcCoe Idealize.SL.Sem

/-- Whether a point is the first, and whether it is the last. -/
abbrev V0 (t : Fin cfg0.N) : BitVec 1 := Scalar.cmpi CmpIPredicate.eq (BitVec.ofNat 32 ↑(grid0.coords t 0)) 0#32
abbrev V1 (t : Fin cfg0.N) : BitVec 1 := Scalar.cmpi CmpIPredicate.eq (BitVec.ofNat 32 ↑(grid0.coords t 0)) 31#32

variable (t : Fin cfg0.N) (cw : FVec Ideal S1x8x704 .f32) (cb : FVec Ideal S1x1x704 .f32) (g up : FVec Ideal S1x1x256x704 .f32) (h gn un : FVec Ideal S1x1x8x704 .f32)
  (da : FVec Ideal S1x256x704 .f32) (dn : FVec Ideal S1x8x704 .f32) (old : FVec Ideal S1x8x704 .f32) (wg wu : FVec Ideal S1x704x1024 .bf16)

theorem dup0 : k0_pay28 (k0_pay15 (V0 t) (k0_pay4 cw) (k0_pay5 cb) (k0_pay6 g) (k0_pay7 h) (k0_pay8 (grid0.coords t) g h) (iota Kind.tc S256x1 32 [0] iota_S256x1_d0_w32) (k0_pay9 g) (k0_pay10 (grid0.coords t) h) da)
    = k0_pay28 (dup (V0 t) cw cb g h da) := rfl

theorem dg0 : k0_pay27 (V1 t) (k0_pay20 (k0_pay17 gn) (k0_pay18 (k0_pay4 cw) (k0_pay5 cb) (k0_pay6 g) gn) (k0_pay19 (k0_pay4 cw)) un dn) (k0_pay21 (V1 t) (k0_pay4 cw) (k0_pay16 (V0 t) (k0_pay4 cw) (k0_pay5 cb) (k0_pay6 g) (k0_pay7 h) (k0_pay8 (grid0.coords t) g h) (iota Kind.tc S256x1 32 [0] iota_S256x1_d0_w32) (k0_pay9 g) (k0_pay10 (grid0.coords t) h) da up) (k0_pay17 gn) (k0_pay18 (k0_pay4 cw) (k0_pay5 cb) (k0_pay6 g) gn) (k0_pay19 (k0_pay4 cw)) un dn) (k0_pay22 (k0_pay4 cw)) (iota Kind.tc S256x1 32 [0] iota_S256x1_d0_w32) (k0_pay23 (k0_pay16 (V0 t) (k0_pay4 cw) (k0_pay5 cb) (k0_pay6 g) (k0_pay7 h) (k0_pay8 (grid0.coords t) g h) (iota Kind.tc S256x1 32 [0] iota_S256x1_d0_w32) (k0_pay9 g) (k0_pay10 (grid0.coords t) h) da up)) (k0_pay24 (V1 t) (k0_pay17 gn) (k0_pay18 (k0_pay4 cw) (k0_pay5 cb) (k0_pay6 g) gn) (k0_pay19 (k0_pay4 cw)) un dn) k0_pay25
    = k0_pay28 (dg (V0 t) (V1 t) cw cb g h da up gn un dn) := rfl

theorem part0 : k0_pay35 (iota Kind.tc S8x1 32 [0] iota_S8x1_d0_w32) (k0_pay16 (V0 t) (k0_pay4 cw) (k0_pay5 cb) (k0_pay6 g) (k0_pay7 h) (k0_pay8 (grid0.coords t) g h) (iota Kind.tc S256x1 32 [0] iota_S256x1_d0_w32) (k0_pay9 g) (k0_pay10 (grid0.coords t) h) da up) k0_pay30 (k0_pay31 (k0_pay11 (V0 t) (k0_pay7 h) (iota Kind.tc S256x1 32 [0] iota_S256x1_d0_w32) (k0_pay9 g) (k0_pay10 (grid0.coords t) h)) (k0_pay16 (V0 t) (k0_pay4 cw) (k0_pay5 cb) (k0_pay6 g) (k0_pay7 h) (k0_pay8 (grid0.coords t) g h) (iota Kind.tc S256x1 32 [0] iota_S256x1_d0_w32) (k0_pay9 g) (k0_pay10 (grid0.coords t) h) da up)) (k0_pay32 (k0_pay8 (grid0.coords t) g h) (k0_pay16 (V0 t) (k0_pay4 cw) (k0_pay5 cb) (k0_pay6 g) (k0_pay7 h) (k0_pay8 (grid0.coords t) g h) (iota Kind.tc S256x1 32 [0] iota_S256x1_d0_w32) (k0_pay9 g) (k0_pay10 (grid0.coords t) h) da up)) (k0_pay33 (k0_pay6 g) (k0_pay16 (V0 t) (k0_pay4 cw) (k0_pay5 cb) (k0_pay6 g) (k0_pay7 h) (k0_pay8 (grid0.coords t) g h) (iota Kind.tc S256x1 32 [0] iota_S256x1_d0_w32) (k0_pay9 g) (k0_pay10 (grid0.coords t) h) da up)) (k0_pay34 (iota Kind.tc S8x1 32 [0] iota_S8x1_d0_w32)) old
    = part (V0 t) cw cb g h da up old := rfl

theorem dup1 : k0_pay57 (k0_pay46 (k0_pay36 cw) (k0_pay37 cb) (k0_pay38 g) (k0_pay40 (V0 t) g h) (k0_pay42 (V0 t) (k0_pay36 cw) g h) da)
    = k0_pay28 (dup (V0 t) cw cb g h da) := rfl

theorem dg1 : k0_pay56 (k0_pay55 (V1 t) (k0_pay36 cw) (k0_pay47 (k0_pay36 cw) (k0_pay37 cb) (k0_pay38 g) (k0_pay40 (V0 t) g h) (k0_pay42 (V0 t) (k0_pay36 cw) g h) da up) (k0_pay52 (k0_pay36 cw) (k0_pay37 cb) (k0_pay48 gn) (k0_pay49 (k0_pay38 g)) (k0_pay50 (k0_pay38 g) gn) (iota Kind.tc S8x1 32 [0] iota_S8x1_d0_w32) 2#32) (k0_pay53 un dn) (k0_pay54 (k0_pay36 cw) (k0_pay37 cb) (k0_pay48 gn) (k0_pay49 (k0_pay38 g)) (k0_pay50 (k0_pay38 g) gn) (iota Kind.tc S8x1 32 [0] iota_S8x1_d0_w32) 2#32))
    = k0_pay28 (dg (V0 t) (V1 t) cw cb g h da up gn un dn) := rfl

theorem part1 : k0_pay62 (iota Kind.tc S8x1 32 [0] iota_S8x1_d0_w32) (k0_pay47 (k0_pay36 cw) (k0_pay37 cb) (k0_pay38 g) (k0_pay40 (V0 t) g h) (k0_pay42 (V0 t) (k0_pay36 cw) g h) da up) (k0_pay59 (iota Kind.tc S8x1 32 [0] iota_S8x1_d0_w32) (k0_pay40 (V0 t) g h) (k0_pay41 (V0 t) g h) (k0_pay47 (k0_pay36 cw) (k0_pay37 cb) (k0_pay38 g) (k0_pay40 (V0 t) g h) (k0_pay42 (V0 t) (k0_pay36 cw) g h) da up)) (k0_pay60 (iota Kind.tc S8x1 32 [0] iota_S8x1_d0_w32)) (k0_pay61 (k0_pay38 g) (k0_pay47 (k0_pay36 cw) (k0_pay37 cb) (k0_pay38 g) (k0_pay40 (V0 t) g h) (k0_pay42 (V0 t) (k0_pay36 cw) g h) da up)) old
    = part (V0 t) cw cb g h da up old := rfl

theorem dup2 : k0_pay87 (k0_pay74 (V0 t) (k0_pay63 cw) (k0_pay64 cb) (k0_pay65 g) (k0_pay66 h) (iota Kind.tc S256x1 32 [0] iota_S256x1_d0_w32) (k0_pay67 g) (k0_pay68 (V0 t) h) (0#32) da)
    = k0_pay28 (dup (V0 t) cw cb g h da) := rfl

theorem dg2 : k0_pay86 (V1 t) (k0_pay63 cw) (k0_pay75 (k0_pay71 (V0 t) (k0_pay63 cw) (k0_pay64 cb) (k0_pay65 g) (k0_pay66 h) (iota Kind.tc S256x1 32 [0] iota_S256x1_d0_w32) (k0_pay67 g) (k0_pay68 (V0 t) h) 0#32) (k0_pay72 da) (k0_pay73 (V0 t) (k0_pay63 cw) (k0_pay64 cb) (k0_pay65 g) (k0_pay66 h) (iota Kind.tc S256x1 32 [0] iota_S256x1_d0_w32) (k0_pay67 g) (k0_pay68 (V0 t) h) 0#32) up) (k0_pay82 (k0_pay63 cw) (k0_pay64 cb) (k0_pay76 gn) (k0_pay78 (k0_pay65 g) gn) (k0_pay79 (k0_pay65 g) gn) (k0_pay80 (k0_pay65 g)) k0_pay81 un dn) (k0_pay83 (k0_pay63 cw) (k0_pay75 (k0_pay71 (V0 t) (k0_pay63 cw) (k0_pay64 cb) (k0_pay65 g) (k0_pay66 h) (iota Kind.tc S256x1 32 [0] iota_S256x1_d0_w32) (k0_pay67 g) (k0_pay68 (V0 t) h) 0#32) (k0_pay72 da) (k0_pay73 (V0 t) (k0_pay63 cw) (k0_pay64 cb) (k0_pay65 g) (k0_pay66 h) (iota Kind.tc S256x1 32 [0] iota_S256x1_d0_w32) (k0_pay67 g) (k0_pay68 (V0 t) h) 0#32) up)) (k0_pay84 (V1 t) (k0_pay63 cw) (k0_pay64 cb) (k0_pay75 (k0_pay71 (V0 t) (k0_pay63 cw) (k0_pay64 cb) (k0_pay65 g) (k0_pay66 h) (iota Kind.tc S256x1 32 [0] iota_S256x1_d0_w32) (k0_pay67 g) (k0_pay68 (V0 t) h) 0#32) (k0_pay72 da) (k0_pay73 (V0 t) (k0_pay63 cw) (k0_pay64 cb) (k0_pay65 g) (k0_pay66 h) (iota Kind.tc S256x1 32 [0] iota_S256x1_d0_w32) (k0_pay67 g) (k0_pay68 (V0 t) h) 0#32) up) (k0_pay76 gn) (k0_pay78 (k0_pay65 g) gn) (k0_pay79 (k0_pay65 g) gn) (k0_pay80 (k0_pay65 g)) k0_pay81 un dn)
    = k0_pay28 (dg (V0 t) (V1 t) cw cb g h da up gn un dn) := rfl

theorem part2 : k0_pay91 (k0_pay90 (iota Kind.tc S8x1 32 [0] iota_S8x1_d0_w32) (k0_pay65 g) (k0_pay69 (iota Kind.tc S256x1 32 [0] iota_S256x1_d0_w32) (k0_pay67 g) (k0_pay68 (V0 t) h) 0#32) (k0_pay70 (V0 t) (k0_pay65 g) (k0_pay66 h)) (k0_pay75 (k0_pay71 (V0 t) (k0_pay63 cw) (k0_pay64 cb) (k0_pay65 g) (k0_pay66 h) (iota Kind.tc S256x1 32 [0] iota_S256x1_d0_w32) (k0_pay67 g) (k0_pay68 (V0 t) h) 0#32) (k0_pay72 da) (k0_pay73 (V0 t) (k0_pay63 cw) (k0_pay64 cb) (k0_pay65 g) (k0_pay66 h) (iota Kind.tc S256x1 32 [0] iota_S256x1_d0_w32) (k0_pay67 g) (k0_pay68 (V0 t) h) 0#32) up) old)
    = part (V0 t) cw cb g h da up old := rfl

theorem dup3 : k0_pay119 (k0_pay103 (V0 t) (k0_pay92 cw) (k0_pay93 cb) (k0_pay94 g) (k0_pay96 (V0 t) g h) (iota Kind.tc S256x1 32 [0] iota_S256x1_d0_w32) (k0_pay97 (V0 t) g h) (k0_pay98 h) da)
    = k0_pay28 (dup (V0 t) cw cb g h da) := rfl

theorem dg3 : k0_pay118 (k0_pay112 (V1 t) (k0_pay92 cw) (k0_pay104 (V0 t) (k0_pay92 cw) (k0_pay93 cb) (k0_pay94 g) (k0_pay96 (V0 t) g h) (iota Kind.tc S256x1 32 [0] iota_S256x1_d0_w32) (k0_pay97 (V0 t) g h) (k0_pay98 h) da up) (k0_pay109 (k0_pay92 cw) (k0_pay93 cb) (k0_pay105 gn) (k0_pay106 (k0_pay94 g)) (iota Kind.tc S8x1 32 [0] iota_S8x1_d0_w32) (k0_pay107 gn) (k0_pay108 (k0_pay94 g))) (k0_pay110 (k0_pay92 cw) (k0_pay93 cb) (k0_pay105 gn) (k0_pay106 (k0_pay94 g)) (iota Kind.tc S8x1 32 [0] iota_S8x1_d0_w32) (k0_pay107 gn) (k0_pay108 (k0_pay94 g))) un dn) (k0_pay113 (k0_pay92 cw)) (iota Kind.tc S256x1 32 [0] iota_S256x1_d0_w32) (k0_pay114 (V1 t) (k0_pay104 (V0 t) (k0_pay92 cw) (k0_pay93 cb) (k0_pay94 g) (k0_pay96 (V0 t) g h) (iota Kind.tc S256x1 32 [0] iota_S256x1_d0_w32) (k0_pay97 (V0 t) g h) (k0_pay98 h) da up) (k0_pay109 (k0_pay92 cw) (k0_pay93 cb) (k0_pay105 gn) (k0_pay106 (k0_pay94 g)) (iota Kind.tc S8x1 32 [0] iota_S8x1_d0_w32) (k0_pay107 gn) (k0_pay108 (k0_pay94 g))) (k0_pay110 (k0_pay92 cw) (k0_pay93 cb) (k0_pay105 gn) (k0_pay106 (k0_pay94 g)) (iota Kind.tc S8x1 32 [0] iota_S8x1_d0_w32) (k0_pay107 gn) (k0_pay108 (k0_pay94 g))) un dn) (k0_pay115 (V1 t) (k0_pay109 (k0_pay92 cw) (k0_pay93 cb) (k0_pay105 gn) (k0_pay106 (k0_pay94 g)) (iota Kind.tc S8x1 32 [0] iota_S8x1_d0_w32) (k0_pay107 gn) (k0_pay108 (k0_pay94 g))) (k0_pay110 (k0_pay92 cw) (k0_pay93 cb) (k0_pay105 gn) (k0_pay106 (k0_pay94 g)) (iota Kind.tc S8x1 32 [0] iota_S8x1_d0_w32) (k0_pay107 gn) (k0_pay108 (k0_pay94 g))) un dn) k0_pay116
    = k0_pay28 (dg (V0 t) (V1 t) cw cb g h da up gn un dn) := rfl

theorem part3 : k0_pay1 (k0_pay125 (iota Kind.tc S8x1 32 [0] iota_S8x1_d0_w32) (k0_pay104 (V0 t) (k0_pay92 cw) (k0_pay93 cb) (k0_pay94 g) (k0_pay96 (V0 t) g h) (iota Kind.tc S256x1 32 [0] iota_S256x1_d0_w32) (k0_pay97 (V0 t) g h) (k0_pay98 h) da up) (k0_pay121 (k0_pay96 (V0 t) g h) (k0_pay104 (V0 t) (k0_pay92 cw) (k0_pay93 cb) (k0_pay94 g) (k0_pay96 (V0 t) g h) (iota Kind.tc S256x1 32 [0] iota_S256x1_d0_w32) (k0_pay97 (V0 t) g h) (k0_pay98 h) da up)) (k0_pay122 (k0_pay94 g) (k0_pay104 (V0 t) (k0_pay92 cw) (k0_pay93 cb) (k0_pay94 g) (k0_pay96 (V0 t) g h) (iota Kind.tc S256x1 32 [0] iota_S256x1_d0_w32) (k0_pay97 (V0 t) g h) (k0_pay98 h) da up)) (k0_pay123 (iota Kind.tc S8x1 32 [0] iota_S8x1_d0_w32) (k0_pay99 (V0 t) (iota Kind.tc S256x1 32 [0] iota_S256x1_d0_w32) (k0_pay97 (V0 t) g h) (k0_pay98 h)) (k0_pay104 (V0 t) (k0_pay92 cw) (k0_pay93 cb) (k0_pay94 g) (k0_pay96 (V0 t) g h) (iota Kind.tc S256x1 32 [0] iota_S256x1_d0_w32) (k0_pay97 (V0 t) g h) (k0_pay98 h) da up)) k0_pay124 old)
    = part (V0 t) cw cb g h da up old := rfl

/-- A chunk's addend to the gradient of the rows. -/
def step (acc : FVec Ideal S256x1024 .f32) (d u : FVec Ideal S256x704 .bf16) (wg wu : FVec Ideal S1x704x1024 .bf16) : FVec Ideal S256x1024 .f32 :=
  addf (addf acc (matmul dot_S256x704_S704x1024_S256x1024_1_0_0_1_n_n none d (shapeCast S704x1024 wg shapeCasts_S1x704x1024_S704x1024) (constant S256x1024 .f32 0x00000000#32)))
    (matmul dot_S256x704_S704x1024_S256x1024_1_0_0_1_n_n none u (shapeCast S704x1024 wu shapeCasts_S1x704x1024_S704x1024) (constant S256x1024 .f32 0x00000000#32))

theorem rows_eq (cw0 cw1 cw2 cw3 : FVec Ideal S1x8x704 .f32) (cb0 cb1 cb2 cb3 : FVec Ideal S1x1x704 .f32) (g0 g1 g2 g3 : FVec Ideal S1x1x256x704 .f32) (up0 up1 up2 up3 : FVec Ideal S1x1x256x704 .f32) (h0 h1 h2 h3 : FVec Ideal S1x1x8x704 .f32) (gn0 gn1 gn2 gn3 : FVec Ideal S1x1x8x704 .f32) (un0 un1 un2 un3 : FVec Ideal S1x1x8x704 .f32) (da0 da1 da2 da3 : FVec Ideal S1x256x704 .f32) (dn0 dn1 dn2 dn3 : FVec Ideal S1x8x704 .f32) (wg0 wg1 wg2 wg3 : FVec Ideal S1x704x1024 .bf16) (wu0 wu1 wu2 wu3 : FVec Ideal S1x704x1024 .bf16) (res : FVec Ideal S256x1024 .f32) :
    k0_pay120 (k0_pay89 (k0_pay74 (V0 t) (k0_pay63 cw2) (k0_pay64 cb2) (k0_pay65 g2) (k0_pay66 h2) (iota Kind.tc S256x1 32 [0] iota_S256x1_d0_w32) (k0_pay67 g2) (k0_pay68 (V0 t) h2) (0#32) da2) (k0_pay88 (V1 t) (k0_pay58 (k0_pay29 (V1 t) (k0_pay3 res) (k0_pay15 (V0 t) (k0_pay4 cw0) (k0_pay5 cb0) (k0_pay6 g0) (k0_pay7 h0) (k0_pay8 (grid0.coords t) g0 h0) (iota Kind.tc S256x1 32 [0] iota_S256x1_d0_w32) (k0_pay9 g0) (k0_pay10 (grid0.coords t) h0) da0) (k0_pay20 (k0_pay17 gn0) (k0_pay18 (k0_pay4 cw0) (k0_pay5 cb0) (k0_pay6 g0) gn0) (k0_pay19 (k0_pay4 cw0)) un0 dn0) (k0_pay21 (V1 t) (k0_pay4 cw0) (k0_pay16 (V0 t) (k0_pay4 cw0) (k0_pay5 cb0) (k0_pay6 g0) (k0_pay7 h0) (k0_pay8 (grid0.coords t) g0 h0) (iota Kind.tc S256x1 32 [0] iota_S256x1_d0_w32) (k0_pay9 g0) (k0_pay10 (grid0.coords t) h0) da0 up0) (k0_pay17 gn0) (k0_pay18 (k0_pay4 cw0) (k0_pay5 cb0) (k0_pay6 g0) gn0) (k0_pay19 (k0_pay4 cw0)) un0 dn0) (k0_pay22 (k0_pay4 cw0)) (iota Kind.tc S256x1 32 [0] iota_S256x1_d0_w32) (k0_pay23 (k0_pay16 (V0 t) (k0_pay4 cw0) (k0_pay5 cb0) (k0_pay6 g0) (k0_pay7 h0) (k0_pay8 (grid0.coords t) g0 h0) (iota Kind.tc S256x1 32 [0] iota_S256x1_d0_w32) (k0_pay9 g0) (k0_pay10 (grid0.coords t) h0) da0 up0)) (k0_pay24 (V1 t) (k0_pay17 gn0) (k0_pay18 (k0_pay4 cw0) (k0_pay5 cb0) (k0_pay6 g0) gn0) (k0_pay19 (k0_pay4 cw0)) un0 dn0) k0_pay25 wg0 wu0) (k0_pay46 (k0_pay36 cw1) (k0_pay37 cb1) (k0_pay38 g1) (k0_pay40 (V0 t) g1 h1) (k0_pay42 (V0 t) (k0_pay36 cw1) g1 h1) da1) (k0_pay55 (V1 t) (k0_pay36 cw1) (k0_pay47 (k0_pay36 cw1) (k0_pay37 cb1) (k0_pay38 g1) (k0_pay40 (V0 t) g1 h1) (k0_pay42 (V0 t) (k0_pay36 cw1) g1 h1) da1 up1) (k0_pay52 (k0_pay36 cw1) (k0_pay37 cb1) (k0_pay48 gn1) (k0_pay49 (k0_pay38 g1)) (k0_pay50 (k0_pay38 g1) gn1) (iota Kind.tc S8x1 32 [0] iota_S8x1_d0_w32) 2#32) (k0_pay53 un1 dn1) (k0_pay54 (k0_pay36 cw1) (k0_pay37 cb1) (k0_pay48 gn1) (k0_pay49 (k0_pay38 g1)) (k0_pay50 (k0_pay38 g1) gn1) (iota Kind.tc S8x1 32 [0] iota_S8x1_d0_w32) 2#32)) wg1 wu1) (k0_pay63 cw2) (k0_pay75 (k0_pay71 (V0 t) (k0_pay63 cw2) (k0_pay64 cb2) (k0_pay65 g2) (k0_pay66 h2) (iota Kind.tc S256x1 32 [0] iota_S256x1_d0_w32) (k0_pay67 g2) (k0_pay68 (V0 t) h2) 0#32) (k0_pay72 da2) (k0_pay73 (V0 t) (k0_pay63 cw2) (k0_pay64 cb2) (k0_pay65 g2) (k0_pay66 h2) (iota Kind.tc S256x1 32 [0] iota_S256x1_d0_w32) (k0_pay67 g2) (k0_pay68 (V0 t) h2) 0#32) up2) (k0_pay82 (k0_pay63 cw2) (k0_pay64 cb2) (k0_pay76 gn2) (k0_pay78 (k0_pay65 g2) gn2) (k0_pay79 (k0_pay65 g2) gn2) (k0_pay80 (k0_pay65 g2)) k0_pay81 un2 dn2) (k0_pay83 (k0_pay63 cw2) (k0_pay75 (k0_pay71 (V0 t) (k0_pay63 cw2) (k0_pay64 cb2) (k0_pay65 g2) (k0_pay66 h2) (iota Kind.tc S256x1 32 [0] iota_S256x1_d0_w32) (k0_pay67 g2) (k0_pay68 (V0 t) h2) 0#32) (k0_pay72 da2) (k0_pay73 (V0 t) (k0_pay63 cw2) (k0_pay64 cb2) (k0_pay65 g2) (k0_pay66 h2) (iota Kind.tc S256x1 32 [0] iota_S256x1_d0_w32) (k0_pay67 g2) (k0_pay68 (V0 t) h2) 0#32) up2)) (k0_pay84 (V1 t) (k0_pay63 cw2) (k0_pay64 cb2) (k0_pay75 (k0_pay71 (V0 t) (k0_pay63 cw2) (k0_pay64 cb2) (k0_pay65 g2) (k0_pay66 h2) (iota Kind.tc S256x1 32 [0] iota_S256x1_d0_w32) (k0_pay67 g2) (k0_pay68 (V0 t) h2) 0#32) (k0_pay72 da2) (k0_pay73 (V0 t) (k0_pay63 cw2) (k0_pay64 cb2) (k0_pay65 g2) (k0_pay66 h2) (iota Kind.tc S256x1 32 [0] iota_S256x1_d0_w32) (k0_pay67 g2) (k0_pay68 (V0 t) h2) 0#32) up2) (k0_pay76 gn2) (k0_pay78 (k0_pay65 g2) gn2) (k0_pay79 (k0_pay65 g2) gn2) (k0_pay80 (k0_pay65 g2)) k0_pay81 un2 dn2) wg2) wu2) (k0_pay103 (V0 t) (k0_pay92 cw3) (k0_pay93 cb3) (k0_pay94 g3) (k0_pay96 (V0 t) g3 h3) (iota Kind.tc S256x1 32 [0] iota_S256x1_d0_w32) (k0_pay97 (V0 t) g3 h3) (k0_pay98 h3) da3) (k0_pay112 (V1 t) (k0_pay92 cw3) (k0_pay104 (V0 t) (k0_pay92 cw3) (k0_pay93 cb3) (k0_pay94 g3) (k0_pay96 (V0 t) g3 h3) (iota Kind.tc S256x1 32 [0] iota_S256x1_d0_w32) (k0_pay97 (V0 t) g3 h3) (k0_pay98 h3) da3 up3) (k0_pay109 (k0_pay92 cw3) (k0_pay93 cb3) (k0_pay105 gn3) (k0_pay106 (k0_pay94 g3)) (iota Kind.tc S8x1 32 [0] iota_S8x1_d0_w32) (k0_pay107 gn3) (k0_pay108 (k0_pay94 g3))) (k0_pay110 (k0_pay92 cw3) (k0_pay93 cb3) (k0_pay105 gn3) (k0_pay106 (k0_pay94 g3)) (iota Kind.tc S8x1 32 [0] iota_S8x1_d0_w32) (k0_pay107 gn3) (k0_pay108 (k0_pay94 g3))) un3 dn3) (k0_pay113 (k0_pay92 cw3)) (iota Kind.tc S256x1 32 [0] iota_S256x1_d0_w32) (k0_pay114 (V1 t) (k0_pay104 (V0 t) (k0_pay92 cw3) (k0_pay93 cb3) (k0_pay94 g3) (k0_pay96 (V0 t) g3 h3) (iota Kind.tc S256x1 32 [0] iota_S256x1_d0_w32) (k0_pay97 (V0 t) g3 h3) (k0_pay98 h3) da3 up3) (k0_pay109 (k0_pay92 cw3) (k0_pay93 cb3) (k0_pay105 gn3) (k0_pay106 (k0_pay94 g3)) (iota Kind.tc S8x1 32 [0] iota_S8x1_d0_w32) (k0_pay107 gn3) (k0_pay108 (k0_pay94 g3))) (k0_pay110 (k0_pay92 cw3) (k0_pay93 cb3) (k0_pay105 gn3) (k0_pay106 (k0_pay94 g3)) (iota Kind.tc S8x1 32 [0] iota_S8x1_d0_w32) (k0_pay107 gn3) (k0_pay108 (k0_pay94 g3))) un3 dn3) (k0_pay115 (V1 t) (k0_pay109 (k0_pay92 cw3) (k0_pay93 cb3) (k0_pay105 gn3) (k0_pay106 (k0_pay94 g3)) (iota Kind.tc S8x1 32 [0] iota_S8x1_d0_w32) (k0_pay107 gn3) (k0_pay108 (k0_pay94 g3))) (k0_pay110 (k0_pay92 cw3) (k0_pay93 cb3) (k0_pay105 gn3) (k0_pay106 (k0_pay94 g3)) (iota Kind.tc S8x1 32 [0] iota_S8x1_d0_w32) (k0_pay107 gn3) (k0_pay108 (k0_pay94 g3))) un3 dn3) k0_pay116 wg3 wu3
    = step (step (step (step (k0_pay3 res) (dg (V0 t) (V1 t) cw0 cb0 g0 h0 da0 up0 gn0 un0 dn0) (dup (V0 t) cw0 cb0 g0 h0 da0) wg0 wu0)
        (dg (V0 t) (V1 t) cw1 cb1 g1 h1 da1 up1 gn1 un1 dn1) (dup (V0 t) cw1 cb1 g1 h1 da1) wg1 wu1)
        (dg (V0 t) (V1 t) cw2 cb2 g2 h2 da2 up2 gn2 un2 dn2) (dup (V0 t) cw2 cb2 g2 h2 da2) wg2 wu2)
        (dg (V0 t) (V1 t) cw3 cb3 g3 h3 da3 up3 gn3 un3 dn3) (dup (V0 t) cw3 cb3 g3 h3 da3) wg3 wu3 := rfl

end Cert.Kernel5Ideal.Conv

end
-- ==== Proof.Conv.Final.lean ====
module

public import proofs.«01_k».proof.Proof.Conv.Out
public import proofs.«01_k».proof.Proof.Conv.Chunks
public import Idealize.ShloMosaic.Lib.Pipeline.ReadBack

/-! The kernel's results, as functions of its arguments. -/

@[expose] public section

set_option maxRecDepth 16384

noncomputable section

namespace Cert.Kernel5Ideal.Conv

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ) (c : Dev nD)

section
variable (C : Fin 2816)
/-- The gradients of a column, by rows. -/
def dgC (n : ℕ) : EReal := dgate (WC (A2 m c) C) (A3 m c (ix1 C)) (GU (A0 m c) (A1 m c) (lo C)) (GU (A0 m c) (A1 m c) (hi C)) (DA (A4 m c) C) n
def duC (n : ℕ) : EReal := dval (WC (A2 m c) C) (A3 m c (ix1 C)) (GU (A0 m c) (A1 m c) (lo C)) (DA (A4 m c) C) n
def tmC (j n : ℕ) : EReal := term (WC (A2 m c) C) (A3 m c (ix1 C)) (GU (A0 m c) (A1 m c) (lo C)) (GU (A0 m c) (A1 m c) (hi C)) (DA (A4 m c) C) j n
end

variable (t : Fin cfg0.N)

/-- What a chunk loads at a point. -/
structure Chunk (i : Fin 4) (cw : FVec Ideal S1x8x704 .f32) (cb : FVec Ideal S1x1x704 .f32) (g : FVec Ideal S1x1x256x704 .f32) (h : FVec Ideal S1x1x8x704 .f32)
    (da : FVec Ideal S1x256x704 .f32) (up : FVec Ideal S1x1x256x704 .f32) (gn un : FVec Ideal S1x1x8x704 .f32) (dn : FVec Ideal S1x8x704 .f32) : Prop where
  cw : ∀ j l, cw (ix3 0 j l) = (iblk m c 5 t : FVec Ideal S4x8x704 .f32) (ix3 i j l)
  cb : ∀ l, cb (ix3 0 0 l) = (iblk m c 6 t : FVec Ideal S4x1x704 .f32) (ix3 i 0 l)
  g : ∀ r l, g (ix4 0 0 r l) = (iblk m c 0 t : FVec Ideal S4x2x256x704 .f32) (ix4 i 0 r l)
  up : ∀ r l, up (ix4 0 0 r l) = (iblk m c 0 t : FVec Ideal S4x2x256x704 .f32) (ix4 i 1 r l)
  h : ∀ j l, h (ix4 0 0 j l) = (iblk m c 1 t : FVec Ideal S4x1x8x704 .f32) (ix4 i 0 j l)
  gn : ∀ j l, gn (ix4 0 0 j l) = (iblk m c 2 t : FVec Ideal S4x2x8x704 .f32) (ix4 i 0 j l)
  un : ∀ j l, un (ix4 0 0 j l) = (iblk m c 2 t : FVec Ideal S4x2x8x704 .f32) (ix4 i 1 j l)
  da : ∀ r l, da (ix3 0 r l) = (iblk m c 3 t : FVec Ideal S4x256x704 .f32) (ix3 i r l)
  dn : ∀ j l, dn (ix3 0 j l) = (iblk m c 4 t : FVec Ideal S4x8x704 .f32) (ix3 i j l)

section
variable {t} {i : Fin 4} {cw : FVec Ideal S1x8x704 .f32} {cb : FVec Ideal S1x1x704 .f32} {g : FVec Ideal S1x1x256x704 .f32} {h : FVec Ideal S1x1x8x704 .f32}
  {da : FVec Ideal S1x256x704 .f32} {up : FVec Ideal S1x1x256x704 .f32} {gn un : FVec Ideal S1x1x8x704 .f32} {dn : FVec Ideal S1x8x704 .f32}
  (H : Chunk m c t i cw cb g h da up gn un dn) (r : Fin 256) (l : Fin 704)
include H

theorem Chunk.hw : cw (ix3 0 0 l) = WC (A2 m c) (at0 i l) 0 ∧ cw (ix3 0 1 l) = WC (A2 m c) (at0 i l) 1 ∧ cw (ix3 0 2 l) = WC (A2 m c) (at0 i l) 2 := by
  refine ⟨?_, ?_, ?_⟩ <;> rw [H.cw, b5, taps_at _ _ _ (by decide)] <;> rfl
theorem Chunk.hb : cb (ix3 0 0 l) = A3 m c (ix1 (at0 i l)) := by rw [H.cb, b6, bias_at]
theorem Chunk.hg : g (ix4 0 0 r l) = GU (A0 m c) (A1 m c) (lo (at0 i l)) (256 * t.val + r) := by rw [H.g, b0, gu_lo]
theorem Chunk.hu : up (ix4 0 0 r l) = GU (A0 m c) (A1 m c) (hi (at0 i l)) (256 * t.val + r) := by rw [H.up, b0, gu_hi]
theorem Chunk.hd : da (ix3 0 r l) = DA (A4 m c) (at0 i l) (256 * t.val + r) := by rw [H.da, b3, d_at]
theorem Chunk.hh (p : 0 < t.val) (j : Fin 8) : h (ix4 0 0 j l) = GU (A0 m c) (A1 m c) (lo (at0 i l)) (256 * t.val - 8 + j) := by rw [H.h, b1 m c t p, gu_lo]
theorem Chunk.hgn (p : t.val < 31) (j : Fin 8) : gn (ix4 0 0 j l) = GU (A0 m c) (A1 m c) (lo (at0 i l)) (256 * t.val + 256 + j) := by rw [H.gn, b2 m c t p, gu_lo]
theorem Chunk.hun (p : t.val < 31) (j : Fin 8) : un (ix4 0 0 j l) = GU (A0 m c) (A1 m c) (hi (at0 i l)) (256 * t.val + 256 + j) := by rw [H.un, b2 m c t p, gu_hi]
theorem Chunk.hdn (p : t.val < 31) (j : Fin 8) : dn (ix3 0 j l) = DA (A4 m c) (at0 i l) (256 * t.val + 256 + j) := by rw [H.dn, b4 m c t p, d_at]

omit H in
theorem first_eq : V0 t = IntOp.cmpi CmpIPredicate.eq (BitVec.ofNat 32 t.val) 0#32 := by
  have e : (grid0.coords t 0).val = t.val := by have := idx t; tauto
  rw [V0, e]; rfl
omit H in
theorem last_eq : V1 t = IntOp.cmpi CmpIPredicate.eq (BitVec.ofNat 32 t.val) 31#32 := by
  have e : (grid0.coords t 0).val = t.val := by have := idx t; tauto
  rw [V1, e]; rfl

theorem Chunk.dup_eq : dup (V0 t) cw cb g h da (ix2 r l) = duC m c (at0 i l) (256 * t.val + r) :=
  dup_at (V0 t) cw cb g h da r l _ _ _ _ (small t) (H.hw m c l) (H.hb m c l) (fun r => H.hg m c r l) (fun p j => H.hh m c l p j) (fun r => H.hd m c r l) first_eq

theorem Chunk.dg_eq : dg (V0 t) (V1 t) cw cb g h da up gn un dn (ix2 r l) = dgC m c (at0 i l) (256 * t.val + r) :=
  dg_at (V0 t) (V1 t) cw cb g h da up gn un dn r l _ _ _ _ _ (small t) (H.hw m c l) (H.hb m c l) (fun r => H.hg m c r l) (fun p j => H.hh m c l p j) (fun r => H.hu m c r l)
    (fun r => H.hd m c r l) (fun p j => H.hgn m c l p j) (fun p j => H.hun m c l p j) (fun p j => H.hdn m c l p j) first_eq last_eq

theorem Chunk.part_eq (j : Fin 8) (old : FVec Ideal S1x8x704 .f32) : part (V0 t) cw cb g h da up old (ix3 0 j l)
    = old (ix3 0 j l) + ∑ K ∈ Finset.Ico (t.val * 256) ((t.val + 1) * 256), tmC m c (at0 i l) j K := by
  refine (part_at (V0 t) cw cb g h da up l j _ _ _ _ _ (small t) (H.hw m c l) (H.hb m c l) (fun r => H.hg m c r l) (fun p j => H.hh m c l p j) (fun r => H.hu m c r l)
    (fun r => H.hd m c r l) first_eq old).trans (congrArg (old (ix3 0 j l) + ·) ?_)
  rw [Finset.sum_Ico_eq_sum_range, show (t.val + 1) * 256 - t.val * 256 = 256 by omega, Finset.sum_range]
  exact Finset.sum_congr rfl fun r _ => by rw [tmC, Nat.mul_comm]
end

theorem chunk0 : Chunk m c t 0
    (View.ld (iblk m c 5 t) (Rect.unit ![0, 0, 0] ![1, 8, 704] inb_S4x8x704_S1x8x704_0_0_0))
    (View.ld (iblk m c 6 t) (Rect.unit ![0, 0, 0] ![1, 1, 704] inb_S4x1x704_S1x1x704_0_0_0))
    (View.ld (iblk m c 0 t) (Rect.unit ![0, 0, 0, 0] ![1, 1, 256, 704] inb_S4x2x256x704_S1x1x256x704_0_0_0_0))
    (View.ld (iblk m c 1 t) (Rect.unit ![0, 0, 0, 0] ![1, 1, 8, 704] inb_S4x1x8x704_S1x1x8x704_0_0_0_0))
    (View.ld (iblk m c 3 t) (Rect.unit ![0, 0, 0] ![1, 256, 704] inb_S4x256x704_S1x256x704_0_0_0))
    (View.ld (iblk m c 0 t) (Rect.unit ![0, 1, 0, 0] ![1, 1, 256, 704] inb_S4x2x256x704_S1x1x256x704_0_1_0_0))
    (View.ld (iblk m c 2 t) (Rect.unit ![0, 0, 0, 0] ![1, 1, 8, 704] inb_S4x2x8x704_S1x1x8x704_0_0_0_0))
    (View.ld (iblk m c 2 t) (Rect.unit ![0, 1, 0, 0] ![1, 1, 8, 704] inb_S4x2x8x704_S1x1x8x704_0_1_0_0))
    (View.ld (iblk m c 4 t) (Rect.unit ![0, 0, 0] ![1, 8, 704] inb_S4x8x704_S1x8x704_0_0_0)) := by
  constructor <;> intros <;> pointwise

theorem chunk1 : Chunk m c t 1
    (View.ld (iblk m c 5 t) (Rect.unit ![1, 0, 0] ![1, 8, 704] inb_S4x8x704_S1x8x704_1_0_0))
    (View.ld (iblk m c 6 t) (Rect.unit ![1, 0, 0] ![1, 1, 704] inb_S4x1x704_S1x1x704_1_0_0))
    (View.ld (iblk m c 0 t) (Rect.unit ![1, 0, 0, 0] ![1, 1, 256, 704] inb_S4x2x256x704_S1x1x256x704_1_0_0_0))
    (View.ld (iblk m c 1 t) (Rect.unit ![1, 0, 0, 0] ![1, 1, 8, 704] inb_S4x1x8x704_S1x1x8x704_1_0_0_0))
    (View.ld (iblk m c 3 t) (Rect.unit ![1, 0, 0] ![1, 256, 704] inb_S4x256x704_S1x256x704_1_0_0))
    (View.ld (iblk m c 0 t) (Rect.unit ![1, 1, 0, 0] ![1, 1, 256, 704] inb_S4x2x256x704_S1x1x256x704_1_1_0_0))
    (View.ld (iblk m c 2 t) (Rect.unit ![1, 0, 0, 0] ![1, 1, 8, 704] inb_S4x2x8x704_S1x1x8x704_1_0_0_0))
    (View.ld (iblk m c 2 t) (Rect.unit ![1, 1, 0, 0] ![1, 1, 8, 704] inb_S4x2x8x704_S1x1x8x704_1_1_0_0))
    (View.ld (iblk m c 4 t) (Rect.unit ![1, 0, 0] ![1, 8, 704] inb_S4x8x704_S1x8x704_1_0_0)) := by
  constructor <;> intros <;> pointwise

theorem chunk2 : Chunk m c t 2
    (View.ld (iblk m c 5 t) (Rect.unit ![2, 0, 0] ![1, 8, 704] inb_S4x8x704_S1x8x704_2_0_0))
    (View.ld (iblk m c 6 t) (Rect.unit ![2, 0, 0] ![1, 1, 704] inb_S4x1x704_S1x1x704_2_0_0))
    (View.ld (iblk m c 0 t) (Rect.unit ![2, 0, 0, 0] ![1, 1, 256, 704] inb_S4x2x256x704_S1x1x256x704_2_0_0_0))
    (View.ld (iblk m c 1 t) (Rect.unit ![2, 0, 0, 0] ![1, 1, 8, 704] inb_S4x1x8x704_S1x1x8x704_2_0_0_0))
    (View.ld (iblk m c 3 t) (Rect.unit ![2, 0, 0] ![1, 256, 704] inb_S4x256x704_S1x256x704_2_0_0))
    (View.ld (iblk m c 0 t) (Rect.unit ![2, 1, 0, 0] ![1, 1, 256, 704] inb_S4x2x256x704_S1x1x256x704_2_1_0_0))
    (View.ld (iblk m c 2 t) (Rect.unit ![2, 0, 0, 0] ![1, 1, 8, 704] inb_S4x2x8x704_S1x1x8x704_2_0_0_0))
    (View.ld (iblk m c 2 t) (Rect.unit ![2, 1, 0, 0] ![1, 1, 8, 704] inb_S4x2x8x704_S1x1x8x704_2_1_0_0))
    (View.ld (iblk m c 4 t) (Rect.unit ![2, 0, 0] ![1, 8, 704] inb_S4x8x704_S1x8x704_2_0_0)) := by
  constructor <;> intros <;> pointwise

theorem chunk3 : Chunk m c t 3
    (View.ld (iblk m c 5 t) (Rect.unit ![3, 0, 0] ![1, 8, 704] inb_S4x8x704_S1x8x704_3_0_0))
    (View.ld (iblk m c 6 t) (Rect.unit ![3, 0, 0] ![1, 1, 704] inb_S4x1x704_S1x1x704_3_0_0))
    (View.ld (iblk m c 0 t) (Rect.unit ![3, 0, 0, 0] ![1, 1, 256, 704] inb_S4x2x256x704_S1x1x256x704_3_0_0_0))
    (View.ld (iblk m c 1 t) (Rect.unit ![3, 0, 0, 0] ![1, 1, 8, 704] inb_S4x1x8x704_S1x1x8x704_3_0_0_0))
    (View.ld (iblk m c 3 t) (Rect.unit ![3, 0, 0] ![1, 256, 704] inb_S4x256x704_S1x256x704_3_0_0))
    (View.ld (iblk m c 0 t) (Rect.unit ![3, 1, 0, 0] ![1, 1, 256, 704] inb_S4x2x256x704_S1x1x256x704_3_1_0_0))
    (View.ld (iblk m c 2 t) (Rect.unit ![3, 0, 0, 0] ![1, 1, 8, 704] inb_S4x2x8x704_S1x1x8x704_3_0_0_0))
    (View.ld (iblk m c 2 t) (Rect.unit ![3, 1, 0, 0] ![1, 1, 8, 704] inb_S4x2x8x704_S1x1x8x704_3_1_0_0))
    (View.ld (iblk m c 4 t) (Rect.unit ![3, 0, 0] ![1, 8, 704] inb_S4x8x704_S1x8x704_3_0_0)) := by
  constructor <;> intros <;> pointwise

/-! The gradients of the gates and of the values beside them. -/

def G9 (i : Fin 4) (p : Fin 2) (R : Fin 8192) (l : Fin 704) : EReal := if p = 0 then dgC m c (at0 i l) R else duC m c (at0 i l) R

theorem flat (x : FVec Ideal S256x704 .bf16) (a b : Fin 1) (r : Fin 256) (l : Fin 704) : k0_pay28 x (ix4 a b r l) = x (ix2 r l) := by
  obtain rfl : a = 0 := Fin.ext (by omega)
  obtain rfl : b = 0 := Fin.ext (by omega)
  pointwise [k0_pay28]

theorem out9 (i : Fin 4) (p : Fin 2) (r : Fin 256) (l : Fin 704) :
    (outsAt0 m c t.val t.isLt).1 (ix4 i p r l) = G9 m c i p ⟨256 * t.val + r, by have := small t; omega⟩ l := by
  have up (hp : p = 1) (x : FVec Ideal S256x704 .bf16) (a b : Fin 1) (e : x (ix2 r l) = duC m c (at0 i l) (256 * t.val + r)) :
      k0_pay28 x (ix4 a b r l) = G9 m c i p ⟨256 * t.val + r, by have := small t; omega⟩ l := by
    rw [flat, e, G9, if_neg (by rw [hp]; decide)]
  have gate (hp : p = 0) (x : FVec Ideal S256x704 .bf16) (a b : Fin 1) (e : x (ix2 r l) = dgC m c (at0 i l) (256 * t.val + r)) :
      k0_pay28 x (ix4 a b r l) = G9 m c i p ⟨256 * t.val + r, by have := small t; omega⟩ l := by
    rw [flat, e, G9, if_pos hp]
  by_cases t0 : t.val % 32 = 0
  all_goals
    first | rw [outsAt0_A m c t t0] | rw [outsAt0_B m c t t0]
    frame_out
    canon_tiles x h
    all_goals
      idx_vars x
      obtain rfl : r = x2 := Fin.ext h2
      obtain rfl : l = x3 := Fin.ext h3
    · obtain rfl : i = 3 := Fin.ext (by have : i.val = 3 + x0.val := h0; omega)
      exact (congrFun (dup3 ..) _).trans (up (Fin.ext (by have : p.val = 1 + x1.val := h1; omega)) _ _ _ ((chunk3 m c t).dup_eq m c r l))
    · obtain rfl : i = 3 := Fin.ext (by have : i.val = 3 + x0.val := h0; omega)
      exact (congrFun (dg3 ..) _).trans (gate (Fin.ext (by have : p.val = x1.val := h1; omega)) _ _ _ ((chunk3 m c t).dg_eq m c r l))
    · obtain rfl : i = 2 := Fin.ext (by have : i.val = 2 + x0.val := h0; omega)
      exact (congrFun (dup2 ..) _).trans (up (Fin.ext (by have : p.val = 1 + x1.val := h1; omega)) _ _ _ ((chunk2 m c t).dup_eq m c r l))
    · obtain rfl : i = 2 := Fin.ext (by have : i.val = 2 + x0.val := h0; omega)
      exact (congrFun (dg2 ..) _).trans (gate (Fin.ext (by have : p.val = x1.val := h1; omega)) _ _ _ ((chunk2 m c t).dg_eq m c r l))
    · obtain rfl : i = 1 := Fin.ext (by have : i.val = 1 + x0.val := h0; omega)
      exact (congrFun (dup1 ..) _).trans (up (Fin.ext (by have : p.val = 1 + x1.val := h1; omega)) _ _ _ ((chunk1 m c t).dup_eq m c r l))
    · obtain rfl : i = 1 := Fin.ext (by have : i.val = 1 + x0.val := h0; omega)
      exact (congrFun (dg1 ..) _).trans (gate (Fin.ext (by have : p.val = x1.val := h1; omega)) _ _ _ ((chunk1 m c t).dg_eq m c r l))
    · obtain rfl : i = 0 := Fin.ext (by have : i.val = x0.val := h0; omega)
      exact (congrFun (dup0 ..) _).trans (up (Fin.ext (by have : p.val = 1 + x1.val := h1; omega)) _ _ _ ((chunk0 m c t).dup_eq m c r l))
    · obtain rfl : i = 0 := Fin.ext (by have : i.val = x0.val := h0; omega)
      exact (congrFun (dg0 ..) _).trans (gate (Fin.ext (by have : p.val = x1.val := h1; omega)) _ _ _ ((chunk0 m c t).dg_eq m c r l))

/-! The sums over the rows. -/

theorem carry (n : ℕ) (hn : n < cfg0.N) (i : Fin 4) (j : Fin 8) (l : Fin 704) :
    (outsAt0 m c n hn).2.1 (ix3 i j l) = ∑ K ∈ Finset.range ((n + 1) * 256), tmC m c (at0 i l) j K := by
  have hN : n < 32 := lt_of_lt_of_eq hn N_0
  induction n generalizing i j l with
  | zero =>
    rw [outsAt0_A m c ⟨0, hn⟩ rfl]
    frame_out
    simp (disch := decide) only [↓ View.readCov_skip, ↓ View.readCov_fill]
    have one (q : Fin 4) (pay : FVec Ideal S1x8x704 .f32) (old : FVec Ideal S1x8x704 .f32) (a : Fin 1) (j : Fin 8) (l : Fin 704) (z : old (ix3 0 j l) = 0)
        (e : pay (ix3 0 j l) = old (ix3 0 j l) + ∑ K ∈ Finset.Ico (0 * 256) ((0 + 1) * 256), tmC m c (at0 q l) j K) :
        pay (ix3 a j l) = ∑ K ∈ Finset.range ((0 + 1) * 256), tmC m c (at0 q l) j K := by
      obtain rfl : a = 0 := Fin.ext (by omega)
      rw [e, z, zero_add, Finset.range_eq_Ico, zero_mul]
    refine (View.canon_append_of_piecesOf (fun y : S4x8x704.Idx => ∑ K ∈ Finset.range ((0 + 1) * 256), tmC m c (at0 (y 0) (y 2)) (y 1) K) [_] [_, _, _, _] ⟨?_, ?_, ?_, ?_, trivial⟩ (ix3 i j l) ?_).trans rfl
    on_goal 5 =>
      exact View.cover_of_tiledL (s := S4x8x704) _ ![1, 8, 704] (by rfl) _
    all_goals
      intro x
      idx_vars x
    · refine (one 3 _ _ x0 x1 x2 ?_ ((congrFun (part3 ..) _).trans ((chunk3 m c ⟨0, hn⟩).part_eq m c x2 x1 _))).trans ?_
      · pointwise [k0_pay2]
      · refine Finset.sum_congr rfl fun K _ => congr (congrArg₂ (tmC m c) (Fin.ext ?_) ?_) rfl
        · dsimp only [at0]
          blk_simp
          first | rfl | exact (Nat.zero_add _).symm | exact (Nat.zero_add _)
        · blk_simp
    · refine (one 2 _ _ x0 x1 x2 ?_ ((congrFun (part2 ..) _).trans ((chunk2 m c ⟨0, hn⟩).part_eq m c x2 x1 _))).trans ?_
      · pointwise [k0_pay2]
      · refine Finset.sum_congr rfl fun K _ => congr (congrArg₂ (tmC m c) (Fin.ext ?_) ?_) rfl
        · dsimp only [at0]
          blk_simp
          first | rfl | exact (Nat.zero_add _).symm | exact (Nat.zero_add _)
        · blk_simp
    · refine (one 1 _ _ x0 x1 x2 ?_ ((congrFun (part1 ..) _).trans ((chunk1 m c ⟨0, hn⟩).part_eq m c x2 x1 _))).trans ?_
      · pointwise [k0_pay2]
      · refine Finset.sum_congr rfl fun K _ => congr (congrArg₂ (tmC m c) (Fin.ext ?_) ?_) rfl
        · dsimp only [at0]
          blk_simp
          first | rfl | exact (Nat.zero_add _).symm | exact (Nat.zero_add _)
        · blk_simp
    · refine (one 0 _ _ x0 x1 x2 ?_ ((congrFun (part0 ..) _).trans ((chunk0 m c ⟨0, hn⟩).part_eq m c x2 x1 _))).trans ?_
      · pointwise [k0_pay2]
      · refine Finset.sum_congr rfl fun K _ => congr (congrArg₂ (tmC m c) (Fin.ext ?_) ?_) rfl
        · dsimp only [at0]
          blk_simp
          first | rfl | exact (Nat.zero_add _).symm | exact (Nat.zero_add _)
        · blk_simp
  | succ n ih =>
    rw [outsAt0_B m c ⟨n + 1, hn⟩ (by dsimp only; omega)]
    frame_out
    have one (q : Fin 4) (pay : FVec Ideal S1x8x704 .f32) (old : FVec Ideal S1x8x704 .f32) (a : Fin 1) (z : old (ix3 0 j l) = (outsAt0 m c n (Nat.lt_of_succ_lt hn)).2.1 (ix3 q j l))
        (e : pay (ix3 0 j l) = old (ix3 0 j l) + ∑ K ∈ Finset.Ico ((n + 1) * 256) ((n + 1 + 1) * 256), tmC m c (at0 q l) j K) :
        pay (ix3 a j l) = ∑ K ∈ Finset.range ((n + 1 + 1) * 256), tmC m c (at0 q l) j K := by
      obtain rfl : a = 0 := Fin.ext (by omega)
      rw [e, z, ih _ _ _ _ (by omega), Finset.range_eq_Ico, Finset.range_eq_Ico, Finset.sum_Ico_consecutive _ (Nat.zero_le ((n + 1) * 256)) (by omega)]
    canon_tiles x h
    all_goals
      idx_vars x
      obtain rfl : j = x1 := Fin.ext h1
      obtain rfl : l = x2 := Fin.ext h2
    · obtain rfl : i = 3 := Fin.ext (by have : i.val = 3 + x0.val := h0; omega)
      exact one 3 _ _ x0 (by pointwise; rfl) ((congrFun (part3 ..) _).trans ((chunk3 m c ⟨n + 1, hn⟩).part_eq m c l j _))
    · obtain rfl : i = 2 := Fin.ext (by have : i.val = 2 + x0.val := h0; omega)
      exact one 2 _ _ x0 (by pointwise; rfl) ((congrFun (part2 ..) _).trans ((chunk2 m c ⟨n + 1, hn⟩).part_eq m c l j _))
    · obtain rfl : i = 1 := Fin.ext (by have : i.val = 1 + x0.val := h0; omega)
      exact one 1 _ _ x0 (by pointwise; rfl) ((congrFun (part1 ..) _).trans ((chunk1 m c ⟨n + 1, hn⟩).part_eq m c l j _))
    · obtain rfl : i = 0 := Fin.ext (by have : i.val = x0.val := h0; omega)
      exact one 0 _ _ x0 (by pointwise; rfl) ((congrFun (part0 ..) _).trans ((chunk0 m c ⟨n + 1, hn⟩).part_eq m c l j _))

def G10 (i : Fin 4) (j : Fin 8) (l : Fin 704) : EReal := ∑ K ∈ Finset.range 8192, tmC m c (at0 i l) j K

/-! The gradient of the rows. -/

/-- A chunk's addend. -/
def addC (R : Fin 8192) (e : Fin 1024) (i : Fin 4) (x : EReal) : EReal :=
  x + (∑ l : Fin 704, dgC m c (at0 i l) R * A1 m c (ix2 e (lo (at0 i l)))) + ∑ l : Fin 704, duC m c (at0 i l) R * A1 m c (ix2 e (hi (at0 i l)))

def G11 (R : Fin 8192) (e : Fin 1024) : EReal :=
  addC m c R e 3 (addC m c R e 2 (addC m c R e 1 (addC m c R e 0 (Scalar.ofBits (F := Ideal) .f32 0x3FB504F3#32 * A5 m c (ix2 R e)))))

theorem step_at (acc : FVec Ideal S256x1024 .f32) (d u : FVec Ideal S256x704 .bf16) (wg wu : FVec Ideal S1x704x1024 .bf16) (r : Fin 256) (e : Fin 1024) :
    step acc d u wg wu (ix2 r e) = acc (ix2 r e) + (∑ l : Fin 704, d (ix2 r l) * wg (ix3 0 l e)) + ∑ l : Fin 704, u (ix2 r l) * wu (ix3 0 l e) := by
  pointwise [step]

theorem step_eq {i : Fin 4} {d u : FVec Ideal S256x704 .bf16} {wg wu : FVec Ideal S1x704x1024 .bf16} {acc : FVec Ideal S256x1024 .f32} {r : Fin 256} {e : Fin 1024} {x : EReal}
    (ha : acc (ix2 r e) = x) (hd : ∀ l, d (ix2 r l) = dgC m c (at0 i l) (256 * t.val + r)) (hu : ∀ l, u (ix2 r l) = duC m c (at0 i l) (256 * t.val + r))
    (hg : ∀ l, wg (ix3 0 l e) = (iblk m c 7 t : FVec Ideal S8x704x1024 .bf16) (ix3 (i.castLE (by omega)) l e)) (hw : ∀ l, wu (ix3 0 l e) = (iblk m c 7 t : FVec Ideal S8x704x1024 .bf16) (ix3 (i.natAdd 4) l e)) :
    step acc d u wg wu (ix2 r e) = addC m c ⟨256 * t.val + r, by have := small t; omega⟩ e i x := by
  rw [step_at, addC, ha]
  simp only [hd, hu, hg, hw, b7, w_lo, w_hi]

theorem out11 (r : Fin 256) (e : Fin 1024) : (outsAt0 m c t.val t.isLt).2.2 (ix2 r e) = G11 m c ⟨256 * t.val + r, by have := small t; omega⟩ e := by
  have first : k0_pay3 (F := Ideal) (iblk m c 8 t) (ix2 r e) = Scalar.ofBits (F := Ideal) .f32 0x3FB504F3#32 * A5 m c (ix2 ⟨256 * t.val + r, by have := small t; omega⟩ e) := by
    pointwise [k0_pay3]
    rw [b8]
  by_cases t0 : t.val % 32 = 0
  all_goals
    first | rw [outsAt0_A m c t t0] | rw [outsAt0_B m c t t0]
    frame_out
    refine (congrFun (rows_eq ..) _).trans (step_eq m c t (step_eq m c t (step_eq m c t (step_eq m c t first ?_ ?_ ?_ ?_) ?_ ?_ ?_ ?_) ?_ ?_ ?_ ?_) ?_ ?_ ?_ ?_)
    · exact fun l => (chunk0 m c t).dg_eq m c r l
    · exact fun l => (chunk0 m c t).dup_eq m c r l
    · exact fun l => by pointwise; rfl
    · exact fun l => by pointwise; rfl
    · exact fun l => (chunk1 m c t).dg_eq m c r l
    · exact fun l => (chunk1 m c t).dup_eq m c r l
    · exact fun l => by pointwise; rfl
    · exact fun l => by pointwise; rfl
    · exact fun l => (chunk2 m c t).dg_eq m c r l
    · exact fun l => (chunk2 m c t).dup_eq m c r l
    · exact fun l => by pointwise; rfl
    · exact fun l => by pointwise; rfl
    · exact fun l => (chunk3 m c t).dg_eq m c r l
    · exact fun l => (chunk3 m c t).dup_eq m c r l
    · exact fun l => by pointwise; rfl
    · exact fun l => by pointwise; rfl

/-! The arrays the kernel leaves. -/

theorem final9 : (dats m 0 c).arrAt 9 cfg0.N = fun i : S4x2x8192x704.Idx => G9 m c (i 0) (i 1) (i 2) (i 3) := by
  refine (dats m 0 c).arrAt_eq_of_covers 9 _ (by decide +kernel) fun t _ y => ?_
  have ht := small t
  blk_simp
  rw [after0_9]
  idx_vars y
  rw [out9]
  refine congr (congr (congrArg₂ (G9 m c) (Fin.ext ?_) (Fin.ext ?_)) (Fin.ext ?_)) (Fin.ext ?_)
  all_goals (blk_simp [idx t] <;> first | omega | exact congrArg (· + _) (Nat.mul_comm _ _))

theorem lastW : ∀ t : Fin cfg0.N, (cfg0.win 10).flush t = true → t.val = 31 := (by decide +kernel : ∀ t : Fin grid0.N, _)

theorem final10 : (dats m 0 c).arrAt 10 cfg0.N = fun i : S4x8x704.Idx => G10 m c (i 0) (i 1) (i 2) := by
  refine (dats m 0 c).arrAt_eq_of_covers 10 _ (by decide +kernel) fun t hf y => ?_
  have ht := lastW t hf
  blk_simp
  rw [after0_10]
  idx_vars y
  rw [carry]
  have e : (t.val + 1) * 256 = 8192 := by omega
  rw [e]
  show G10 m c _ _ _ = _
  refine congr (congrArg₂ (G10 m c) (Fin.ext ?_) (Fin.ext ?_)) (Fin.ext ?_)
  all_goals (blk_simp [idx t] <;> first | omega | exact congrArg (· + _) (Nat.mul_comm _ _))

theorem final11 : (dats m 0 c).arrAt 11 cfg0.N = fun i : S8192x1024.Idx => G11 m c (i 0) (i 1) := by
  refine (dats m 0 c).arrAt_eq_of_covers 11 _ (by decide +kernel) fun t _ y => ?_
  have ht := small t
  blk_simp
  rw [after0_11]
  idx_vars y
  rw [out11]
  refine congrArg₂ (G11 m c) (Fin.ext ?_) (Fin.ext ?_)
  all_goals (blk_simp [idx t] <;> first | omega | exact congrArg (· + _) (Nat.mul_comm _ _))

end Cert.Kernel5Ideal.Conv

end
-- ==== Proof.Conv.RefTerm.lean ====
/- The gated convolution's gradient as differentiation prints it, read column by column. -/
module

public import proofs.«01_k».proof.Proof.Conv.Out
public import proofs.«01_k».proof.Proof.Gen.Reference5Ideal.Run

@[expose] public section

set_option maxRecDepth 16384

noncomputable section

namespace Cert.Reference5Ideal.Conv

open Cert.Reference5Ideal Cert.Reference5Ideal.Gen Idealize.ShloMosaic Idealize.ShloMosaic.TcCoe Idealize.SL.Sem
open Cert.Kernel5Ideal.Conv (GU DA WC back ahead conv dconv dgate dval term lo hi at0)

variable (H : FVec Ideal S8192x1024 .f32) (W : FVec Ideal S1024x5632 .f32) (K : FVec Ideal S3x2816 .f32) (B : FVec Ideal S2816 .f32) (D : FVec Ideal S8192x2816 .f32)
  (E : FVec Ideal S8192x1024 .f32)

def prodT : FVec Ideal S8192x5632 .f32 := Host.dotGeneral dot_S8192x1024_S1024x5632_S8192x5632_1_0_0_1_n_n none H W
def gateT : FVec Ideal S8192x2816 .f32 := extractStridedSlice S8192x2816 ![0, 0] (prodT H W) slices_S8192x5632_S8192x2816_0_0
def upT : FVec Ideal S8192x2816 .f32 := extractStridedSlice S8192x2816 ![0, 2816] (prodT H W) slices_S8192x5632_S8192x2816_0_2816
def longT : FVec Ideal S8194x2816 .f32 :=
  concatenate S8194x2816 0 [⟨S2x2816, (broadcastInDim S2x2816 ![] bcast_S_S2x2816 (constant S_ .f32 0x00000000#32))⟩, ⟨S8192x2816, gateT H W⟩] concatenates_S2x2816_S8192x2816_S8194x2816_d0
def wide (x : FVec Ideal S2816 .f32) : FVec Ideal S8192x2816 .f32 := broadcastInDim S8192x2816 ![0, 1] bcast_S1x2816_S8192x2816_0_1 (broadcastInDim S1x2816 ![1] bcast_S2816_S1x2816_1 x)
def tap0 : FVec Ideal S8192x2816 .f32 := wide (shapeCast _ (extractStridedSlice S1x2816 ![0, 0] K slices_S3x2816_S1x2816_0_0) shapeCasts_S1x2816_S2816)
def tap1 : FVec Ideal S8192x2816 .f32 := wide (shapeCast _ (extractStridedSlice S1x2816 ![1, 0] K slices_S3x2816_S1x2816_1_0) shapeCasts_S1x2816_S2816)
def tap2 : FVec Ideal S8192x2816 .f32 := wide (shapeCast _ (extractStridedSlice S1x2816 ![2, 0] K slices_S3x2816_S1x2816_2_0) shapeCasts_S1x2816_S2816)
def sh0 : FVec Ideal S8192x2816 .f32 := extractStridedSlice S8192x2816 ![0, 0] (longT H W) slices_S8194x2816_S8192x2816_0_0
def sh1 : FVec Ideal S8192x2816 .f32 := extractStridedSlice S8192x2816 ![1, 0] (longT H W) slices_S8194x2816_S8192x2816_1_0
def sh2 : FVec Ideal S8192x2816 .f32 := extractStridedSlice S8192x2816 ![2, 0] (longT H W) slices_S8194x2816_S8192x2816_2_0
def convT : FVec Ideal S8192x2816 .f32 := addf (addf (addf (wide B) (mulf (tap0 K) (sh0 H W))) (mulf (tap1 K) (sh1 H W))) (mulf (tap2 K) (sh2 H W))
def oneT : FVec Ideal S8192x2816 .f32 := broadcastInDim S8192x2816 ![] bcast_S_S8192x2816 (constant S_ .f32 0x3F800000#32)
def sigT : FVec Ideal S8192x2816 .f32 := Host.divf oneT (addf oneT (Host.exp (Host.negf (convT H W K B))))
def duT : FVec Ideal S8192x2816 .f32 := mulf (mulf (convT H W K B) (sigT H W K B)) D
def dcT : FVec Ideal S8192x2816 .f32 :=
  addf (mulf (mulf D (upT H W)) (sigT H W K B)) (mulf (mulf (convT H W K B) (mulf D (upT H W))) (mulf (sigT H W K B) (subf oneT (sigT H W K B))))
def zeroT : FVec Ideal S_ .f32 := constant S_ .f32 0x00000000#32
def dgT : FVec Ideal S8192x2816 .f32 :=
  extractStridedSlice S8192x2816 ![2, 0] (addf (addf (pad S8194x2816 ![2, 0] ![0, 0] ![0, 0] (mulf (tap2 K) (dcT H W K B D)) zeroT pads_S8192x2816_S8194x2816_200_000 h_S_)
    (pad S8194x2816 ![1, 0] ![1, 0] ![0, 0] (mulf (tap1 K) (dcT H W K B D)) zeroT pads_S8192x2816_S8194x2816_110_000 h_S_))
    (pad S8194x2816 ![0, 0] ![2, 0] ![0, 0] (mulf (tap0 K) (dcT H W K B D)) zeroT pads_S8192x2816_S8194x2816_020_000 h_S_)) slices_S8194x2816_S8192x2816_2_0
def totalT (x : FVec Ideal S8192x2816 .f32) : FVec Ideal S1x2816 .f32 :=
  broadcastInDim S1x2816 ![1] bcast_S2816_S1x2816_1 (Host.reduceAdd (shapeCast S1x2816 (Host.reduceAdd x zeroT reducesTo_S8192x2816_S2816_d0 h_S_) shapeCasts_S2816_S1x2816) zeroT reducesTo_S1x2816_S2816_d0 h_S_)
def tapsT : FVec Ideal S3x2816 .f32 :=
  addf (addf (pad S3x2816 ![2, 0] ![0, 0] ![0, 0] (totalT (mulf (dcT H W K B D) (sh2 H W))) zeroT pads_S1x2816_S3x2816_200_000 h_S_)
    (pad S3x2816 ![1, 0] ![1, 0] ![0, 0] (totalT (mulf (dcT H W K B D) (sh1 H W))) zeroT pads_S1x2816_S3x2816_110_000 h_S_))
    (pad S3x2816 ![0, 0] ![2, 0] ![0, 0] (totalT (mulf (dcT H W K B D) (sh0 H W))) zeroT pads_S1x2816_S3x2816_020_000 h_S_)
def sumsT : FVec Ideal S4x8x704 .f32 :=
  transpose S4x8x704 [1, 0, 2] (shapeCast S8x4x704 (concatenate S8x2816 0 [⟨S3x2816, tapsT H W K B D⟩, ⟨S1x2816, totalT (dcT H W K B D)⟩,
    ⟨S4x2816, (broadcastInDim S4x2816 ![] bcast_S_S4x2816 zeroT)⟩] concatenates_S3x2816_S1x2816_S4x2816_S8x2816_d0) shapeCasts_S8x2816_S8x4x704) transposes_S8x4x704_S4x8x704_1_0_2
def chunks (x : FVec Ideal S8192x2816 .f32) : FVec Ideal S4x1x8192x704 .f32 :=
  broadcastInDim S4x1x8192x704 ![0, 2, 3] bcast_S4x8192x704_S4x1x8192x704_0_2_3 (transpose S4x8192x704 [1, 0, 2] (shapeCast S8192x4x704 x shapeCasts_S8192x2816_S8192x4x704) transposes_S8192x4x704_S4x8192x704_1_0_2)
def guT : FVec Ideal S4x2x8192x704 .bf16 :=
  truncf .bf16 (concatenate S4x2x8192x704 1 [⟨S4x1x8192x704, chunks (dgT H W K B D)⟩, ⟨S4x1x8192x704, chunks (duT H W K B D)⟩] concatenates_S4x1x8192x704_S4x1x8192x704_S4x2x8192x704_d1) bitsLt_bf16_f32
def bothT : FVec Ideal S8192x5632 .f32 :=
  concatenate S8192x5632 1 [⟨S8192x2816, dgT H W K B D⟩, ⟨S8192x2816, duT H W K B D⟩] concatenates_S8192x2816_S8192x2816_S8192x5632_d1
def rowsT : FVec Ideal S8192x1024 .f32 :=
  addf (Host.dotGeneral dot_S8192x5632_S1024x5632_S8192x1024_1_1_0_0_n_n none (bothT H W K B D) W) (mulf (broadcastInDim S8192x1024 ![] bcast_S_S8192x1024 (constant S_ .f32 0x3FB504F3#32)) E)

/-! The results. -/

section
variable (m : (ℓ : Loc nD τ sig) → Buf (Elt Ideal) ℓ) (c : Dev nD)
abbrev M0 : FVec Ideal S8192x1024 .f32 := m ((c : Thread nD τ).loc main_arg0)
abbrev M1 : FVec Ideal S1024x5632 .f32 := m ((c : Thread nD τ).loc main_arg1)
abbrev M2 : FVec Ideal S3x2816 .f32 := m ((c : Thread nD τ).loc main_arg2)
abbrev M3 : FVec Ideal S2816 .f32 := m ((c : Thread nD τ).loc main_arg3)
abbrev M4 : FVec Ideal S8192x2816 .f32 := m ((c : Thread nD τ).loc main_arg4)
abbrev M5 : FVec Ideal S8192x1024 .f32 := m ((c : Thread nD τ).loc main_arg5)
theorem r76 : Value.res_main_v76 m c = rowsT (M0 m c) (M1 m c) (M2 m c) (M3 m c) (M4 m c) (M5 m c) := by unfold Value.res_main_v76; rfl
theorem r84 : Value.res_main_v84 m c = guT (M0 m c) (M1 m c) (M2 m c) (M3 m c) (M4 m c) := by unfold Value.res_main_v84; rfl
theorem r89 : Value.res_main_v89 m c = sumsT (M0 m c) (M1 m c) (M2 m c) (M3 m c) (M4 m c) := by unfold Value.res_main_v89; rfl
end

section
variable (n : Fin 8192) (C : Fin 2816)

theorem gateT_at : gateT H W (ix2 n C) = GU H W (lo C) n := by
  rw [GU, dif_pos n.isLt]
  pointwise [gateT, prodT]
  refine Finset.sum_congr rfl fun k _ => congrArg₂ (fun x y => x * y) rfl (congrArg W (congrArg (ix2 k) (Fin.ext ?_)))
  simp [lo]

theorem upT_at : upT H W (ix2 n C) = GU H W (hi C) n := by
  rw [GU, dif_pos n.isLt]
  pointwise [upT, prodT]
  refine Finset.sum_congr rfl fun k _ => congrArg₂ (fun x y => x * y) rfl (congrArg W (congrArg (ix2 k) (Fin.ext ?_)))
  simp [hi]

theorem D_at : D (ix2 n C) = DA D C n := by
  rw [DA, dif_pos n.isLt]

theorem tap0_at : tap0 K (ix2 n C) = WC K C 0 := by
  rw [WC, dif_pos (by omega)]
  pointwise [tap0, wide]
theorem tap1_at : tap1 K (ix2 n C) = WC K C 1 := by
  rw [WC, dif_pos (by omega)]
  pointwise [tap1, wide]
theorem tap2_at : tap2 K (ix2 n C) = WC K C 2 := by
  rw [WC, dif_pos (by omega)]
  pointwise [tap2, wide]

theorem sh0_at : sh0 H W (ix2 n C) = back (GU H W (lo C)) 2 n := by
  pointwise [sh0, longT]
  rw [back]
  by_cases h : n.val < 2
  · rw [dif_pos h, if_neg (by omega)]
  · rw [dif_neg h]
    exact (gateT_at H W _ C).trans (if_pos (show 2 ≤ n.val by omega)).symm
theorem sh1_at : sh1 H W (ix2 n C) = back (GU H W (lo C)) 1 n := by
  pointwise [sh1, longT]
  rw [back]
  by_cases h : 1 + n.val < 2
  · rw [dif_pos h, if_neg (by omega)]
  · rw [dif_neg h]
    exact (gateT_at H W _ C).trans ((congrArg (GU H W (lo C)) (show 1 + n.val - 2 = n.val - 1 by omega)).trans (if_pos (show 1 ≤ n.val by omega)).symm)
theorem sh2_at : sh2 H W (ix2 n C) = GU H W (lo C) n := by
  pointwise [sh2, longT]
  exact gateT_at H W n C

theorem convT_at : convT H W K B (ix2 n C) = conv (WC K C) (B (ix1 C)) (GU H W (lo C)) n := by
  have e : wide B (ix2 n C) = B (ix1 C) := by pointwise [wide]
  pointwise [convT]
  rw [e, tap0_at, tap1_at, tap2_at, sh0_at, sh1_at, sh2_at, conv]

theorem oneT_at : oneT (ix2 n C) = 1 := by pointwise [oneT]

theorem sigT_at : sigT H W K B (ix2 n C) = Ideal.logistic (conv (WC K C) (B (ix1 C)) (GU H W (lo C)) n) := by
  pointwise [sigT, oneT_at]
  rw [convT_at]
  rfl

theorem duT_at : duT H W K B D (ix2 n C) = dval (WC K C) (B (ix1 C)) (GU H W (lo C)) (DA D C) n := by
  pointwise [duT]
  rw [convT_at, sigT_at, D_at D, dval]
  rw [mul_comm, mul_assoc]

/-- The convolution's gradient as differentiation writes it. -/
def dcR (s c : EReal) (t : EReal) : EReal := t * s + c * t * (s * (1 - s))

theorem dcT_at : dcT H W K B D (ix2 n C) = dcR (Ideal.logistic (conv (WC K C) (B (ix1 C)) (GU H W (lo C)) n)) (conv (WC K C) (B (ix1 C)) (GU H W (lo C)) n) (DA D C n * GU H W (hi C) n) := by
  pointwise [dcT, oneT_at]
  rw [convT_at, sigT_at, upT_at, D_at D, dcR]

theorem totalT_at (x : FVec Ideal S8192x2816 .f32) (z : Fin 1) : totalT x (ix2 z C) = ∑ R : Fin 8192, x (ix2 R C) := by
  pointwise [totalT, zeroT]
  try exact Fin.sum_univ_one _

section
variable (q : ∀ n : Fin 8192, dcT H W K B D (ix2 n C) = dconv (WC K C) (B (ix1 C)) (GU H W (lo C)) (GU H W (hi C)) (DA D C) n)
include q

theorem dgT_at : dgT H W K B D (ix2 n C) = dgate (WC K C) (B (ix1 C)) (GU H W (lo C)) (GU H W (hi C)) (DA D C) n := by
  pointwise [dgT, zeroT]
  rw [dgate, tap2_at, q, ahead, ahead]
  refine congrArg₂ (· + ·) (congrArg₂ (· + ·) rfl ?_) ?_
  · split_ifs with h1 h2 h2
    · rw [tap1_at, q]
      exact congrArg (WC K C 1 * dconv _ _ _ _ _ ·) (by simp; omega)
    · omega
    · omega
    · rw [mul_zero]
  · split_ifs with h1 h2 h2
    · rw [tap0_at, q]
      exact congrArg (WC K C 0 * dconv _ _ _ _ _ ·) (by simp; omega)
    · omega
    · omega
    · rw [mul_zero]

theorem sum_at (j : Fin 8) : (if h : j.val < 3 then tapsT H W K B D (ix2 ⟨j.val, h⟩ C) else if h : j.val - 3 < 1 then totalT (dcT H W K B D) (ix2 ⟨j.val - 3, h⟩ C) else 0)
    = ∑ R : Fin 8192, term (WC K C) (B (ix1 C)) (GU H W (lo C)) (GU H W (hi C)) (DA D C) j R := by
  unfold term
  by_cases h3 : j.val < 3
  · rw [dif_pos h3]
    pointwise [tapsT, zeroT]
    rcases (by omega : j.val = 0 ∨ j.val = 1 ∨ j.val = 2) with h | h | h <;> simp only [h] <;> norm_num <;> rw [totalT_at] <;> refine Finset.sum_congr rfl fun R _ => ?_ <;>
      pointwise <;> rw [q]
    · rw [sh0_at]
    · rw [sh1_at]
    · rw [sh2_at]
  · rw [dif_neg h3]
    by_cases h : j.val = 3
    · simp only [h]
      norm_num
      rw [totalT_at]
      exact Finset.sum_congr rfl fun R _ => q R
    · rw [dif_neg (by omega)]
      refine (Finset.sum_eq_zero fun R _ => ?_).symm
      rw [if_neg h, if_neg (by omega), if_neg (by omega), if_neg (by omega)]
end

theorem sumsT_at (i : Fin 4) (j : Fin 8) (l : Fin 704)
    (q : ∀ n : Fin 8192, dcT H W K B D (ix2 n (at0 i l)) = dconv (WC K (at0 i l)) (B (ix1 (at0 i l))) (GU H W (lo (at0 i l))) (GU H W (hi (at0 i l))) (DA D (at0 i l)) n) :
    sumsT H W K B D (ix3 i j l) = ∑ R : Fin 8192, term (WC K (at0 i l)) (B (ix1 (at0 i l))) (GU H W (lo (at0 i l))) (GU H W (hi (at0 i l))) (DA D (at0 i l)) j R := by
  pointwise [sumsT, zeroT]
  exact sum_at H W K B D (at0 i l) q j

theorem guT_at (i : Fin 4) (p : Fin 2) (n : Fin 8192) (l : Fin 704) : guT H W K B D (ix4 i p n l) = if p = 0 then dgT H W K B D (ix2 n (at0 i l)) else duT H W K B D (ix2 n (at0 i l)) := by
  pointwise [guT, chunks]
  split_ifs with h1 h2 h2
  · rfl
  · exact absurd (Fin.ext (by simpa using h1)) h2
  · exact absurd (by rw [h2]; decide) h1
  · rfl

theorem rowsT_at (e : Fin 1024) : rowsT H W K B D E (ix2 n e) = (∑ C : Fin 2816, dgT H W K B D (ix2 n C) * W (ix2 e (lo C))) + (∑ C : Fin 2816, duT H W K B D (ix2 n C) * W (ix2 e (hi C)))
    + Ideal.ofBits .f32 0x3FB504F3#32 * E (ix2 n e) := by
  pointwise [rowsT, bothT]
  rfl
end

end Cert.Reference5Ideal.Conv

end
-- ==== Proof.Conv.Claim.lean ====
/- The gated convolution's gradient: kernel and reference end with one set of arrays. -/
module

public import proofs.«01_k».proof.Defs
public import proofs.«01_k».proof.Proof.Fox.Finite
public import proofs.«01_k».proof.Proof.Mixer.Claim
public import proofs.«01_k».proof.Proof.Gen.Pre_finite5
public import proofs.«01_k».proof.Proof.Gen.Kernel5Ideal.Value
public import proofs.«01_k».proof.Proof.Conv.Final
public import proofs.«01_k».proof.Proof.Conv.RefTerm

@[expose] public section

set_option maxRecDepth 16384

noncomputable section

namespace Cert.Pre_finite5.Conv

open Cert.Pre_finite5 Idealize.ShloMosaic Idealize.SL.Sem
open Cert.Pre_finite2.Fox (and_one real)

variable [Facts] (a0 a5 : FVec Ideal S8192x1024 .f32) (a1 : FVec Ideal S1024x5632 .f32) (a2 : FVec Ideal S3x2816 .f32) (a3 : FVec Ideal S2816 .f32) (a4 : FVec Ideal S8192x2816 .f32)

/-- The precondition's arrays hold real numbers. -/
theorem reals (h : fn a0 a1 a2 a3 a4 a5 ix0 = 1#1) :
    (∀ i, a0 i = ((a0 i).toReal : EReal)) ∧ (∀ i, a1 i = ((a1 i).toReal : EReal)) ∧ (∀ i, a2 i = ((a2 i).toReal : EReal)) ∧ (∀ i, a3 i = ((a3 i).toReal : EReal)) ∧ ∀ i, a4 i = ((a4 i).toReal : EReal) := by
  dsimp only [fn, fn_part1] at h
  obtain ⟨h, h4⟩ := and_one h
  obtain ⟨h, h3⟩ := and_one h
  obtain ⟨h, h2⟩ := and_one h
  obtain ⟨h0, h1⟩ := and_one h
  haveI : Subsingleton S_.Idx := ⟨fun i j => funext fun k => k.elim0⟩
  exact ⟨fun i => real (Host.reduce_andi_all _ _ _ _ _ h0 i), fun i => real (Host.reduce_andi_all _ _ _ _ _ h1 i), fun i => real (Host.reduce_andi_all _ _ _ _ _ h2 i),
    fun i => real (Host.reduce_andi_all _ _ _ _ _ h3 i), fun i => real (Host.reduce_andi_all _ _ _ _ _ h4 i)⟩

end Cert.Pre_finite5.Conv

namespace Cert.Conv

open Idealize.ShloMosaic Idealize.ShloMosaic.TcCoe Idealize.SL.Sem
open Cert.Kernel5Ideal Cert.Kernel5Ideal.Conv
open Cert.Reference5Ideal.Conv (dcR dcT dcT_at dgT duT dgT_at duT_at sumsT sumsT_at rowsT rowsT_at)

/-! Over real numbers, the convolution's gradient written either way is the same. -/

theorem dcR_eq (s c t : ℝ) : dcR s c t = (t : EReal) * (s * (1 + c * (1 - s))) := by
  rw [dcR]
  norm_cast
  ring

section
variable {H : FVec Ideal S8192x1024 .f32} {W : FVec Ideal S1024x5632 .f32} {K : FVec Ideal S3x2816 .f32} {B : FVec Ideal S2816 .f32} {D : FVec Ideal S8192x2816 .f32}
  (hH : ∀ i, H i = ((H i).toReal : EReal)) (hW : ∀ i, W i = ((W i).toReal : EReal)) (hK : ∀ i, K i = ((K i).toReal : EReal)) (hB : ∀ i, B i = ((B i).toReal : EReal))
  (hD : ∀ i, D i = ((D i).toReal : EReal))

include hH hW in
theorem GU_real (C : Fin 5632) (n : ℕ) : ∃ r : ℝ, GU H W C n = r := by
  rw [GU]
  split_ifs with h
  · exact ⟨_, Attn.coe_sum' (g := fun k => (H (ix2 ⟨n, h⟩ k)).toReal * (W (ix2 k C)).toReal) _ fun k _ => by rw [EReal.coe_mul, ← hH, ← hW]⟩
  · exact ⟨0, rfl⟩

include hD in
theorem DA_real (C : Fin 2816) (n : ℕ) : ∃ r : ℝ, DA D C n = r := by
  rw [DA]
  split_ifs
  · exact ⟨_, hD _⟩
  · exact ⟨0, rfl⟩

include hK in
theorem WC_real (C : Fin 2816) (j : ℕ) : ∃ r : ℝ, WC K C j = r := by
  rw [WC]
  split_ifs
  · exact ⟨_, hK _⟩
  · exact ⟨0, rfl⟩

theorem back_real {F : ℕ → EReal} (h : ∀ n, ∃ r : ℝ, F n = r) (k n : ℕ) : ∃ r : ℝ, back F k n = r := by
  rw [back]
  split_ifs
  · exact h _
  · exact ⟨0, rfl⟩

include hH hW hK hB in
theorem conv_real (C : Fin 2816) (n : ℕ) : ∃ r : ℝ, conv (WC K C) (B (ix1 C)) (GU H W (lo C)) n = r := by
  obtain ⟨w0, e0⟩ := WC_real hK C 0
  obtain ⟨w1, e1⟩ := WC_real hK C 1
  obtain ⟨w2, e2⟩ := WC_real hK C 2
  obtain ⟨g2, f2⟩ := back_real (GU_real hH hW (lo C)) 2 n
  obtain ⟨g1, f1⟩ := back_real (GU_real hH hW (lo C)) 1 n
  obtain ⟨g0, f0⟩ := GU_real hH hW (lo C) n
  refine ⟨(B (ix1 C)).toReal + w0 * g2 + w1 * g1 + w2 * g0, ?_⟩
  rw [conv, e0, e1, e2, f2, f1, f0, hB]
  norm_cast

include hH hW hK hB hD in
theorem dc_eq (C : Fin 2816) (n : Fin 8192) : dcT H W K B D (ix2 n C) = dconv (WC K C) (B (ix1 C)) (GU H W (lo C)) (GU H W (hi C)) (DA D C) n := by
  obtain ⟨x, ex⟩ := conv_real hH hW hK hB C n
  obtain ⟨s, es⟩ := Cert.Mixer.gate_real (x : EReal)
  obtain ⟨u, eu⟩ := GU_real hH hW (hi C) n
  obtain ⟨d, ed⟩ := DA_real hD C n
  rw [dcT_at, dconv, ex, es, eu, ed, ← EReal.coe_mul, dcR_eq]
end

/-- A sum over the columns, chunk by chunk. -/
theorem split (f : Fin 2816 → EReal) : ∑ C, f C = (∑ l, f (at0 0 l)) + (∑ l, f (at0 1 l)) + (∑ l, f (at0 2 l)) + ∑ l, f (at0 3 l) := by
  rw [← (finProdFinEquiv (m := 4) (n := 704)).sum_comp f, Fintype.sum_prod_type, Fin.sum_univ_four]
  have e : ∀ i l, finProdFinEquiv (m := 4) (n := 704) (i, l) = at0 i l := fun i l => Fin.ext (by simp [at0, finProdFinEquiv]; omega)
  simp only [e]

section
variable (m : (ℓ : Loc nD τ sig) → Buf (Elt Ideal) ℓ) (c : Dev nD)
variable (H : Cert.Pre_finite5.fn (F := Ideal) (A0 m c) (A1 m c) (A2 m c) (A3 m c) (A4 m c) (A5 m c) = fun _ => 1#1)

include H in
theorem dc_args (C : Fin 2816) (n : Fin 8192) : dcT (A0 m c) (A1 m c) (A2 m c) (A3 m c) (A4 m c) (ix2 n C)
    = dconv (WC (A2 m c) C) (A3 m c (ix1 C)) (GU (A0 m c) (A1 m c) (lo C)) (GU (A0 m c) (A1 m c) (hi C)) (DA (A4 m c) C) n := by
  obtain ⟨h0, h1, h2, h3, h4⟩ := Cert.Pre_finite5.Conv.reals _ _ _ _ _ _ (congrFun H ix0)
  exact dc_eq h0 h1 h2 h3 h4 C n

include H in
theorem gate_eq (C : Fin 2816) (n : Fin 8192) : dgT (A0 m c) (A1 m c) (A2 m c) (A3 m c) (A4 m c) (ix2 n C) = dgC m c C n :=
  dgT_at _ _ _ _ _ n C (dc_args m c H C)

theorem up_eq (C : Fin 2816) (n : Fin 8192) : duT (A0 m c) (A1 m c) (A2 m c) (A3 m c) (A4 m c) (ix2 n C) = duC m c C n :=
  duT_at _ _ _ _ _ n C

include H in
theorem gu_eq : (fun i : S4x2x8192x704.Idx => G9 m c (i 0) (i 1) (i 2) (i 3)) = Cert.Reference5Ideal.Conv.guT (A0 m c) (A1 m c) (A2 m c) (A3 m c) (A4 m c) := by
  have g : ∀ i p n l, G9 m c i p n l = Cert.Reference5Ideal.Conv.guT (A0 m c) (A1 m c) (A2 m c) (A3 m c) (A4 m c) (ix4 i p n l) := fun i p n l => by
    rw [Cert.Reference5Ideal.Conv.guT_at, gate_eq m c H, up_eq, G9]
  funext i
  rw [eq_ix4 i]
  exact g _ _ _ _

include H in
theorem sums_eq : (fun i : S4x8x704.Idx => G10 m c (i 0) (i 1) (i 2)) = sumsT (A0 m c) (A1 m c) (A2 m c) (A3 m c) (A4 m c) := by
  have g : ∀ i j l, G10 m c i j l = sumsT (A0 m c) (A1 m c) (A2 m c) (A3 m c) (A4 m c) (ix3 i j l) := fun i j l => by
    rw [sumsT_at _ _ _ _ _ i j l (dc_args m c H _), G10, Finset.sum_range]
    rfl
  funext i
  rw [eq_ix3 i]
  exact g _ _ _

include H in
theorem rows_eq' : (fun i : S8192x1024.Idx => G11 m c (i 0) (i 1)) = rowsT (A0 m c) (A1 m c) (A2 m c) (A3 m c) (A4 m c) (A5 m c) := by
  have g : ∀ n e, G11 m c n e = rowsT (A0 m c) (A1 m c) (A2 m c) (A3 m c) (A4 m c) (A5 m c) (ix2 n e) := fun n e => by
    rw [rowsT_at]
    simp only [gate_eq m c H, up_eq]
    rw [split, split]
    simp only [G11, addC]
    show Ideal.ofBits .f32 0x3FB504F3#32 * _ + _ + _ + _ + _ + _ + _ + _ + _ = _
    abel
  funext i
  rw [eq_ix2 i]
  exact g _ _

end

set_option maxHeartbeats 4000000 in
/-- The kernel's gradients are the derivative of the gated convolution and of the product before it. -/
theorem algebraic : Cert.algebraic_Kernel5Ideal_Reference5Ideal_pre_finite5 := by
  intro m ρ m' ρ' hpre hag
  refine ⟨fun c => fun i => G9 m c (i 0) (i 1) (i 2) (i 3), fun c => fun i => G10 m c (i 0) (i 1) (i 2), fun c => fun i => G11 m c (i 0) (i 1), ?_, ?_⟩
  · refine (θ_run _ _ _).mono (fun r h c => ?_) (Cert.Kernel5Ideal.Value.run_blocks m ρ)
    obtain ⟨h9, h10, h11, hk⟩ := h c
    exact ⟨h9.trans (final9 m c), h10.trans (final10 m c), h11.trans (final11 m c), hk⟩
  · refine (θ_run _ _ _).mono (fun r h c => ?_) (Cert.Reference5Ideal.Value.run m' ρ')
    obtain ⟨h84, h89, h76, hk⟩ := h c
    obtain ⟨e0, e1, e2, e3, e4, e5⟩ := hag c
    have w84 := h84.trans (Cert.Reference5Ideal.Conv.r84 m' c)
    have w89 := h89.trans (Cert.Reference5Ideal.Conv.r89 m' c)
    have w76 := h76.trans (Cert.Reference5Ideal.Conv.r76 m' c)
    simp only [Cert.Reference5Ideal.Conv.M0, Cert.Reference5Ideal.Conv.M1, Cert.Reference5Ideal.Conv.M2, Cert.Reference5Ideal.Conv.M3, Cert.Reference5Ideal.Conv.M4, Cert.Reference5Ideal.Conv.M5] at w84 w89 w76
    rw [e0, e1, e2, e3, e4] at w84 w89
    rw [e0, e1, e2, e3, e4, e5] at w76
    exact ⟨w84.trans (gu_eq m c (hpre c)).symm, w89.trans (sums_eq m c (hpre c)).symm, w76.trans (rows_eq' m c (hpre c)).symm, hk⟩

end Cert.Conv

end
-- ==== Proof.Fwd.Trip.lean ====
/- The attention forward: one step of the body's loop over the key blocks, and the state the loop reaches, as plain functions of the point's blocks. -/
module

public import proofs.«01_k».proof.Proof.Gen.Kernel8Ideal.Loops
public import Idealize.ShloMosaic.Lib.VecWindow

@[expose] public section

set_option maxRecDepth 16384
set_option maxHeartbeats 1000000

noncomputable section

namespace Cert.Kernel8Ideal.Fwd

open Cert.Kernel8Ideal Cert.Kernel8Ideal.Gen Idealize.ShloMosaic Idealize.ShloMosaic.TcCoe Idealize.SL.Sem
open Idealize.ShloMosaic.View (ld)

variable {F : FTy → Type} [FloatOps F] [Named F]

/-- What a head carries from block to block: the rows' level, and the weighted sum of the value rows. -/
abbrev Head (F : FTy → Type) [FloatOps F] := FVec F S1024x1 .f32 × FVec F S1024x128 .f32

/-- A block's scores, in units of `log 2`. -/
def score (q k : FVec F S1024x128 .bf16) : FVec F S1024x1024 .f32 := k0_pay3 q k

/-- The scores of the block on the diagonal: what comes after the row is masked. -/
def scoreD (q k : FVec F S1024x128 .bf16) : FVec F S1024x1024 .f32 := k0_pay31 q k

/-- The level after a block. -/
def level (s : FVec F S1024x1024 .f32) (l : FVec F S1024x1 .f32) : FVec F S1024x1 .f32 :=
  maximumf l (ceil (shapeCast S1024x1 (multiReduction .maximumf [1] S1024 s 0xFF800000#32 reduces_S1024x1024_S1024 (.inl rfl) rfl : FVec F S1024 .f32) shapeCasts_S1024_S1024x1))

/-- The weighted sum after a block. -/
def total (s : FVec F S1024x1024 .f32) (l : FVec F S1024x1 .f32) (a : FVec F S1024x128 .f32) (v : FVec F S1024x128 .bf16) : FVec F S1024x128 .f32 :=
  addf (mulf a (broadcastTo S1024x128 (exp2 (subf l (level s l))) broadcasts_S1024x1_S1024x128))
    (matmul dot_S1024x1024_S1024x128_S1024x128_1_0_0_1_n_n none (truncf .bf16 (exp2 (subf s (broadcastTo S1024x1024 (level s l) broadcasts_S1024x1_S1024x1024))) bitsLt_bf16_f32)
      (shapeCast S1024x128 v shapeCasts_S1024x128_S1024x128) (constant S1024x128 .f32 0x00000000#32))

def step (s : FVec F S1024x1024 .f32) (v : FVec F S1024x128 .bf16) (h : Head F) : Head F := (level s h.1, total s h.1 h.2 v)

/-- The blocks a point finds: the queries of its rows, and the pair's keys and values. -/
structure In (F : FTy → Type) [FloatOps F] where
  q : Vec F S1024x256 .bf16
  k : Vec F S8192x256 .bf16
  v : Vec F S8192x256 .bf16

def In.q0 (X : In F) : Vec F S1024x128 .bf16 := ld X.q (Rect.unit (s := S1024x256) ![0, 0] S1024x128.size inb_S1024x256_S1024x128_0_0)
def In.q1 (X : In F) : Vec F S1024x128 .bf16 := ld X.q (Rect.unit (s := S1024x256) ![0, 128] S1024x128.size inb_S1024x256_S1024x128_0_128)

variable (X : In F) (i : grid0.Coords) (k : Fin (k0_t1_loop i).trips)

def k0 : Vec F S1024x128 .bf16 := ld X.k (Rect.unit (s := S8192x256) (k0_off1 i k) S1024x128.size (k0_off1_inb i k))
def v0 : Vec F S1024x128 .bf16 := ld X.v (Rect.unit (s := S8192x256) (k0_off1 i k) S1024x128.size (k0_off1_inb i k))
def k1 : Vec F S1024x128 .bf16 := ld X.k (Rect.unit (s := S8192x256) (k0_off2 i k) S1024x128.size (k0_off2_inb i k))
def v1 : Vec F S1024x128 .bf16 := ld X.v (Rect.unit (s := S8192x256) (k0_off2 i k) S1024x128.size (k0_off2_inb i k))

/-- What a block makes of the two heads. -/
def pairStep (a : Head F × Head F) : Head F × Head F :=
  (step (score (k0_pay19 X.q0) (k0 X i k)) (v0 X i k) a.1, step (score (k0_pay20 X.q1) (k1 X i k)) (v1 X i k) a.2)

/-- The two heads before block `n`. -/
def state (S : Head F × Head F) : ℕ → Head F × Head F
  | 0 => S
  | n + 1 => if h : n < (k0_t1_loop i).trips then pairStep X i ⟨n, h⟩ (state S n) else state S n

def flat (a : Head F × Head F) : FVec F S1024x1 .f32 × FVec F S1024x128 .f32 × FVec F S1024x1 .f32 × FVec F S1024x128 .f32 := (a.1.1, a.1.2, a.2.1, a.2.2)

variable (𝒱 : Variants) (c : Dev nD) (bd : Option 𝒱.V) (arg2 : Memref sig .tc .vmem S1024x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole)

theorem tripR_eq (a : Head F × Head F) :
    tripR_k0_t1 (F := F) 𝒱 c bd i arg2 harg2 arg3 harg3 arg4 harg4 arg5 harg5 arg6 harg6 arg7 harg7 arg8 harg8 X.q0 X.q1 (harg3.unread X.k) (harg4.unread X.v) k (flat a) = flat (pairStep X i k a) := by
  unfold tripR_k0_t1 trip_k0_t1
  unfold trip_k0_t1.sl.r trip_k0_t1.sl.r_1 trip_k0_t1.sl.r_2 trip_k0_t1.sl.r_3 trip_k0_t1.sl.r_4 trip_k0_t1.sl.r_5 trip_k0_t1.sl.cst_41
  unfold pairStep k0 v0 k1 v1 flat
  simp only [View.readAt_eq_ld, Memref.IsWhole.read_unread]
  refine congr (congrArg Prod.mk rfl) (congr (congrArg Prod.mk rfl) (congr (congrArg Prod.mk rfl) rfl))

theorem st_eq (a : Head F × Head F) (n : ℕ) :
    st_k0_t1 (F := F) 𝒱 c bd i arg2 harg2 arg3 harg3 arg4 harg4 arg5 harg5 arg6 harg6 arg7 harg7 arg8 harg8 X.q0 X.q1 (harg3.unread X.k) (harg4.unread X.v) (flat a) n = flat (state X i a n) := by
  induction n with
  | zero => rfl
  | succ n ih =>
    by_cases h : n < (k0_t1_loop i).trips
    · have e := st_k0_t1_succ (F := F) 𝒱 c bd i arg2 harg2 arg3 harg3 arg4 harg4 arg5 harg5 arg6 harg6 arg7 harg7 arg8 harg8 X.q0 X.q1 (harg3.unread X.k) (harg4.unread X.v) (flat a) ⟨n, h⟩
      rw [show (⟨n, h⟩ : Fin (k0_t1_loop i).trips).val + 1 = n + 1 from rfl] at e
      rw [e, show state X i a (n + 1) = _ from dif_pos h]
      dsimp only
      rw [ih, tripR_eq]
    · have e : st_k0_t1 (F := F) 𝒱 c bd i arg2 harg2 arg3 harg3 arg4 harg4 arg5 harg5 arg6 harg6 arg7 harg7 arg8 harg8 X.q0 X.q1 (harg3.unread X.k) (harg4.unread X.v) (flat a) (n + 1)
          = st_k0_t1 (F := F) 𝒱 c bd i arg2 harg2 arg3 harg3 arg4 harg4 arg5 harg5 arg6 harg6 arg7 harg7 arg8 harg8 X.q0 X.q1 (harg3.unread X.k) (harg4.unread X.v) (flat a) n := by
        rw [st_k0_t1.eq_2]; unfold st_k0_t1Step; exact dif_neg h
      rw [e, show state X i a (n + 1) = _ from dif_neg h]
      exact ih

end Cert.Kernel8Ideal.Fwd

end
-- ==== Proof.Fwd.Row.lean ====
/- The attention forward: one query row's level and weighted sum, gathered block by block of key rows. -/
module

public import proofs.«01_k».proof.Proof.Fox.Math

@[expose] public section

noncomputable section

namespace Cert.Attn

open Idealize.ShloMosaic

/-- The level after a block with scores `f`. -/
def lv (M : EReal) (f : Fin 1024 → EReal) : EReal := max M (Ideal.liftRound Int.ceil (Finset.univ.fold max ⊥ f))

/-- The weighted sum after the block. -/
def tot (M : EReal) (f : Fin 1024 → EReal) (A : EReal) (w : Fin 1024 → EReal) : EReal :=
  A * Ideal.exp2 (M - lv M f) + ∑ R, Ideal.exp2 (f R - lv M f) * w R

/-- A level of the first `n` scores: the greatest of them, rounded up. -/
def IsLev (g : ℕ → ℝ) (n : ℕ) (μ : ℝ) : Prop := (∀ R < n, ((⌈g R⌉ : ℤ) : ℝ) ≤ μ) ∧ ∃ R < n, ((⌈g R⌉ : ℤ) : ℝ) = μ

theorem IsLev.unique {g : ℕ → ℝ} {n : ℕ} {μ ν : ℝ} (a : IsLev g n μ) (b : IsLev g n ν) : μ = ν := by
  obtain ⟨ha, i, hi, ei⟩ := a
  obtain ⟨hb, j, hj, ej⟩ := b
  exact le_antisymm (ei ▸ hb i hi) (ej ▸ ha j hj)

/-- What a row carries after its first `n` key rows. -/
def Inv (g w : ℕ → ℝ) (n : ℕ) (M A : EReal) : Prop :=
  (n = 0 ∧ M = ⊥ ∧ A = 0) ∨ ∃ μ : ℝ, M = (μ : EReal) ∧ IsLev g n μ ∧ A = ((∑ R ∈ Finset.range n, (2 : ℝ) ^ (g R - μ) * w R : ℝ) : EReal)

theorem exp2_real (y : ℝ) : Ideal.exp2 (y : EReal) = (((2 : ℝ) ^ y : ℝ) : EReal) := rfl

theorem fold_att {ι : Type*} [Fintype ι] [Nonempty ι] (f : ι → EReal) : (∀ r, f r ≤ Finset.univ.fold max ⊥ f) ∧ ∃ r, Finset.univ.fold max ⊥ f = f r := by
  have e : Finset.univ.fold max ⊥ f = Finset.univ.sup f := rfl
  rw [e]
  refine ⟨fun r => Finset.le_sup (Finset.mem_univ r), ?_⟩
  obtain ⟨r, -, h⟩ := Finset.exists_mem_eq_sup Finset.univ Finset.univ_nonempty f
  exact ⟨r, h⟩

variable {g w : ℕ → ℝ} {b n : ℕ} {M A : EReal} {f v : Fin 1024 → EReal}

/-- The sum over a block, its masked rows left out. -/
theorem block_sum (hn : b < n) (hb : n ≤ b + 1024) (hf : ∀ r : Fin 1024, f r = if b + r.val < n then (g (b + r) : EReal) else ⊥) (hv : ∀ r : Fin 1024, v r = (w (b + r) : EReal)) (μ : ℝ) :
    ∑ R, Ideal.exp2 (f R - (μ : EReal)) * v R = ((∑ R ∈ Finset.range n, (2 : ℝ) ^ (g R - μ) * w R - ∑ R ∈ Finset.range b, (2 : ℝ) ^ (g R - μ) * w R : ℝ) : EReal) := by
  have h1 : ∑ R, Ideal.exp2 (f R - (μ : EReal)) * v R = ((∑ r : Fin 1024, (fun R => if R < n then (2 : ℝ) ^ (g R - μ) * w R else 0) (b + r) : ℝ) : EReal) := by
    refine coe_sum' _ fun r _ => ?_
    rw [hf, hv]
    dsimp only
    split_ifs
    · rw [← EReal.coe_sub, exp2_real, EReal.coe_mul]
    · rw [EReal.bot_sub, show Ideal.exp2 ⊥ = 0 from rfl, zero_mul, EReal.coe_zero]
  rw [h1]
  refine congrArg _ (eq_sub_of_add_eq' ?_)
  have h2 : ∑ R ∈ Finset.range b, (2 : ℝ) ^ (g R - μ) * w R = ∑ R ∈ Finset.range b, (fun R => if R < n then (2 : ℝ) ^ (g R - μ) * w R else 0) R :=
    Finset.sum_congr rfl fun R hR => (if_pos (lt_trans (Finset.mem_range.1 hR) hn)).symm
  have h3 : ∑ R ∈ Finset.range n, (2 : ℝ) ^ (g R - μ) * w R = ∑ R ∈ Finset.range (b + 1024), (fun R => if R < n then (2 : ℝ) ^ (g R - μ) * w R else 0) R := by
    refine (Finset.sum_congr rfl fun R hR => (if_pos (Finset.mem_range.1 hR)).symm).trans (Finset.sum_subset (Finset.range_mono hb) fun R _ hR => if_neg fun h => hR (Finset.mem_range.2 h))
  rw [h2, h3, Finset.sum_range_add, Finset.sum_range (n := 1024)]

theorem block_level (hn : b < n) (hb : n ≤ b + 1024) (hf : ∀ r : Fin 1024, f r = if b + r.val < n then (g (b + r) : EReal) else ⊥) :
    ∃ ν : ℝ, Ideal.liftRound Int.ceil (Finset.univ.fold max ⊥ f) = (ν : EReal) ∧ (∀ R < n, b ≤ R → ((⌈g R⌉ : ℤ) : ℝ) ≤ ν) ∧ ∃ R < n, ((⌈g R⌉ : ℤ) : ℝ) = ν := by
  obtain ⟨hu, r, hr⟩ := fold_att f
  have h0 : (g b : EReal) ≤ f r := by
    have := hu ⟨0, by omega⟩
    rw [hr, hf ⟨0, by omega⟩, if_pos (by simpa using hn)] at this
    simpa using this
  have hlt : b + r.val < n := by
    by_contra hc
    rw [hf r, if_neg hc] at h0
    exact absurd (le_bot_iff.1 h0) (EReal.coe_ne_bot _)
  have e : f r = (g (b + r) : EReal) := by rw [hf, if_pos hlt]
  refine ⟨((⌈g (b + r)⌉ : ℤ) : ℝ), ?_, fun R hR hbR => ?_, b + r, hlt, rfl⟩
  · rw [hr, e]; rfl
  · have h1 := hu ⟨R - b, by omega⟩
    rw [hr, e, hf ⟨R - b, by omega⟩] at h1
    have e2 : b + (R - b) = R := by omega
    simp only [e2] at h1
    rw [if_pos hR, EReal.coe_le_coe_iff] at h1
    exact_mod_cast Int.ceil_le_ceil h1

theorem Inv.step (I : Inv g w b M A) (hn : b < n) (hb : n ≤ b + 1024) (hf : ∀ r : Fin 1024, f r = if b + r.val < n then (g (b + r) : EReal) else ⊥) (hv : ∀ r : Fin 1024, v r = (w (b + r) : EReal)) :
    Inv g w n (lv M f) (tot M f A v) := by
  obtain ⟨ν, hν, hu, R0, hR0, e0⟩ := block_level hn hb hf
  refine Or.inr ?_
  rcases I with ⟨rfl, rfl, rfl⟩ | ⟨μ, rfl, ⟨hl, R1, hR1, e1⟩, rfl⟩
  · have hl : lv ⊥ f = (ν : EReal) := by rw [lv, hν]; exact max_eq_right bot_le
    refine ⟨ν, hl, ⟨fun R hR => hu R hR (Nat.zero_le _), R0, hR0, e0⟩, ?_⟩
    rw [tot, hl, zero_mul, zero_add, block_sum hn hb hf hv, Finset.range_zero, Finset.sum_empty, sub_zero]
  · have hl' : lv (μ : EReal) f = ((max μ ν : ℝ) : EReal) := by rw [lv, hν]; exact (EReal.coe_strictMono.monotone.map_max).symm
    refine ⟨max μ ν, hl', ⟨fun R hR => ?_, ?_⟩, ?_⟩
    · by_cases h : R < b
      · exact (hl R h).trans (le_max_left _ _)
      · exact (hu R hR (not_lt.1 h)).trans (le_max_right _ _)
    · rcases le_total ν μ with h | h
      · exact ⟨R1, lt_trans hR1 hn, by rw [max_eq_left h, e1]⟩
      · exact ⟨R0, hR0, by rw [max_eq_right h, e0]⟩
    · rw [tot, hl', block_sum hn hb hf hv, ← EReal.coe_sub, exp2_real, ← EReal.coe_mul, ← EReal.coe_add]
      refine congrArg _ ?_
      rw [Finset.sum_mul]
      have : ∑ R ∈ Finset.range b, (2 : ℝ) ^ (g R - μ) * w R * (2 : ℝ) ^ (μ - max μ ν) = ∑ R ∈ Finset.range b, (2 : ℝ) ^ (g R - max μ ν) * w R :=
        Finset.sum_congr rfl fun R _ => by
          rw [mul_right_comm, ← Real.rpow_add two_pos, sub_add_sub_cancel]
      rw [this]; ring

end Cert.Attn

end
-- ==== Proof.Fwd.Point.lean ====
/- The attention forward: what a grid point leaves, from the blocks it finds. -/
module

public import proofs.«01_k».proof.Proof.Gen.Kernel8Ideal.Value
public import proofs.«01_k».proof.Proof.Fwd.Trip
public import proofs.«01_k».proof.Proof.Fwd.Row
public import proofs.«01_k».proof.Proof.Fox.Value
public import Idealize.ShloMosaic.Lib.Pointwise
public import Idealize.ShloMosaic.Lib.Pipeline.ReadBack

@[expose] public section

set_option maxRecDepth 16384

noncomputable section

namespace Cert.Kernel8Ideal.Fwd

open Cert.Kernel8Ideal Cert.Kernel8Ideal.Gen Idealize.ShloMosaic Idealize.ShloMosaic.TcCoe Idealize.SL.Sem
open Idealize.ShloMosaic.View (ld)
open Cert.Kernel2Ideal.Fox (sel_sge sel_half row la L2)

theorem log2e_eq : Named.named (F := Ideal) (φ := .f32) κ "log2e" 0x3FB8AA3B#32 = L2 := IdealRules.named_const.ideal_named_scalar κ _ _ _ rfl
theorem mask_eq : Named.named (F := Ideal) (φ := .f32) κ "mask" 0xF149F2CA#32 = (⊥ : EReal) := IdealRules.named_const.ideal_named_scalar κ _ _ _ rfl

/-! ### A block's step, at its entries -/

section
variable (q k v : FVec Ideal S1024x128 .bf16) (s : FVec Ideal S1024x1024 .f32) (h : Head Ideal) (r t : Fin 1024) (l : Fin 128)

theorem pay19_eq : k0_pay19 (F := Ideal) q = q := by funext j; pointwise [k0_pay19]
theorem pay20_eq : k0_pay20 (F := Ideal) q = q := by funext j; pointwise [k0_pay20]

theorem score_at : score q k (ix2 r t) = (∑ l : Fin 128, q (ix2 r l) * k (ix2 t l)) * L2 := by
  pointwise [score, k0_pay3, log2e_eq]
theorem scoreD_at : scoreD q k (ix2 r t) = if t ≤ r then (∑ l : Fin 128, q (ix2 r l) * k (ix2 t l)) * L2 else ⊥ := by
  pointwise [scoreD, k0_pay31, log2e_eq, mask_eq]
  exact sel_sge r t _ _

theorem level_at (a : FVec Ideal S1024x1 .f32) : level s a (ix2 r 0) = Attn.lv (a (ix2 r 0)) fun t => s (ix2 r t) := by
  pointwise [level]
  rw [Cert.Kernel2Ideal.Fox.neg_inf]
  rfl
theorem total_at : total s h.1 h.2 v (ix2 r l) = Attn.tot (h.1 (ix2 r 0)) (fun t => s (ix2 r t)) (h.2 (ix2 r l)) fun t => v (ix2 t l) := by
  pointwise [total, level_at]
  rfl

theorem step_inv {g w : ℕ → ℝ} {b n : ℕ} (I : Attn.Inv g w b (h.1 (ix2 r 0)) (h.2 (ix2 r l))) (hn : b < n) (hb : n ≤ b + 1024)
    (hs : ∀ t : Fin 1024, s (ix2 r t) = if b + t.val < n then (g (b + t) : EReal) else ⊥) (hv : ∀ t : Fin 1024, v (ix2 t l) = (w (b + t) : EReal)) :
    Attn.Inv g w n ((step s v h).1 (ix2 r 0)) ((step s v h).2 (ix2 r l)) := by
  have e1 : (step s v h).1 (ix2 r 0) = _ := level_at s r h.1
  have e2 : (step s v h).2 (ix2 r l) = _ := total_at v s h r l
  rw [e1, e2]
  exact I.step hn hb hs hv
end

/-! ### The offsets of the loads -/

theorem trips1 (i : grid0.Coords) : (k0_t1_loop i).trips = (i 1).val := by
  have h : ∀ j : Fin 8, (Scf.Loop.trips (⟨0#32, Scalar.addi 0#32 (Scalar.muli (Scalar.divsi (Scalar.subi (BitVec.ofNat 32 j.val) 0#32) 1#32) 1#32), 1#32⟩ : Scf.Loop 32)) = j.val := by decide +kernel
  exact h (i 1)
theorem trips2 (i : grid0.Coords) : (k0_t2_loop i).trips = 0 := by
  have h : ∀ j : Fin 8, (Scf.Loop.trips (⟨Scalar.addi 0#32 (Scalar.muli (Scalar.divsi (Scalar.subi (BitVec.ofNat 32 j.val) 0#32) 1#32) 1#32), Scalar.addi 0#32 (Scalar.subi (BitVec.ofNat 32 j.val) 0#32), 1#32⟩ : Scf.Loop 32)) = 0 := by decide +kernel
  exact h (i 1)

theorem offD (j : Fin 8) : (Scalar.indexCast (Scalar.muli (BitVec.ofNat 32 j.val) 1024#32)).toNat = 1024 * j.val := by
  revert j; decide +kernel
theorem offB (k : Fin 8) : (Scalar.indexCast (Scalar.muli (Scf.iv 0#32 1#32 k.val) 1024#32)).toNat = 1024 * k.val := by
  revert k; decide +kernel

variable (X : In Ideal) (i : grid0.Coords) (k : Fin (k0_t1_loop i).trips)

theorem trip_lt : k.val < 8 := by
  have h := k.isLt; have h2 := trips1 i; have h3 : (i 1).val < 8 := (i 1).isLt; omega
/-- The block of key rows a trip is at, and the one on the diagonal. -/
def bT : Fin 8 := ⟨k.val, trip_lt i k⟩
def bD : Fin 8 := ⟨(i 1).val, (i 1).isLt⟩

theorem offB' : (Scalar.indexCast (Scalar.muli (Scf.iv 0#32 1#32 k) 1024#32)).toNat = 1024 * (bT i k).val := offB (bT i k)

def kd0 : Vec Ideal S1024x128 .bf16 := ld X.k (Rect.unit (s := S8192x256) (k0_off5 i) S1024x128.size (k0_off5_inb i))
def vd0 : Vec Ideal S1024x128 .bf16 := ld X.v (Rect.unit (s := S8192x256) (k0_off5 i) S1024x128.size (k0_off5_inb i))
def kd1 : Vec Ideal S1024x128 .bf16 := ld X.k (Rect.unit (s := S8192x256) (k0_off6 i) S1024x128.size (k0_off6_inb i))
def vd1 : Vec Ideal S1024x128 .bf16 := ld X.v (Rect.unit (s := S8192x256) (k0_off6 i) S1024x128.size (k0_off6_inb i))

section
variable (r : Fin 1024) (l : Fin 128)
theorem q0_at : X.q0 (ix2 r l) = X.q (ix2 r (la 0 l)) := by
  unfold In.q0; pointwise
  exact congrArg X.q ((ix2_inj ..).2 ⟨by first | rfl | exact Fin.ext (by simp), Fin.ext (by simp [la])⟩)
theorem q1_at : X.q1 (ix2 r l) = X.q (ix2 r (la 1 l)) := by
  unfold In.q1; pointwise
  exact congrArg X.q ((ix2_inj ..).2 ⟨by first | rfl | exact Fin.ext (by simp), Fin.ext (by simp [la])⟩)
theorem k0_at : k0 X i k (ix2 r l) = X.k (ix2 (row (bT i k) r) (la 0 l)) := by
  unfold k0; pointwise [k0_off1, offB' i k]
  exact congrArg X.k ((ix2_inj ..).2 ⟨Fin.ext (by simp [row]), Fin.ext (by simp [la])⟩)
theorem v0_at : v0 X i k (ix2 r l) = X.v (ix2 (row (bT i k) r) (la 0 l)) := by
  unfold v0; pointwise [k0_off1, offB' i k]
  exact congrArg X.v ((ix2_inj ..).2 ⟨Fin.ext (by simp [row]), Fin.ext (by simp [la])⟩)
theorem k1_at : k1 X i k (ix2 r l) = X.k (ix2 (row (bT i k) r) (la 1 l)) := by
  unfold k1; pointwise [k0_off2, offB' i k]
  exact congrArg X.k ((ix2_inj ..).2 ⟨Fin.ext (by simp [row]), Fin.ext (by simp [la])⟩)
theorem v1_at : v1 X i k (ix2 r l) = X.v (ix2 (row (bT i k) r) (la 1 l)) := by
  unfold v1; pointwise [k0_off2, offB' i k]
  exact congrArg X.v ((ix2_inj ..).2 ⟨Fin.ext (by simp [row]), Fin.ext (by simp [la])⟩)
theorem kd0_at : kd0 X i (ix2 r l) = X.k (ix2 (row (bD i) r) (la 0 l)) := by
  unfold kd0; pointwise [k0_off5, offD (i 1)]
  exact congrArg X.k ((ix2_inj ..).2 ⟨Fin.ext (by simp [row, bD]), Fin.ext (by simp [la])⟩)
theorem vd0_at : vd0 X i (ix2 r l) = X.v (ix2 (row (bD i) r) (la 0 l)) := by
  unfold vd0; pointwise [k0_off5, offD (i 1)]
  exact congrArg X.v ((ix2_inj ..).2 ⟨Fin.ext (by simp [row, bD]), Fin.ext (by simp [la])⟩)
theorem kd1_at : kd1 X i (ix2 r l) = X.k (ix2 (row (bD i) r) (la 1 l)) := by
  unfold kd1; pointwise [k0_off6, offD (i 1)]
  exact congrArg X.k ((ix2_inj ..).2 ⟨Fin.ext (by simp [row, bD]), Fin.ext (by simp [la])⟩)
theorem vd1_at : vd1 X i (ix2 r l) = X.v (ix2 (row (bD i) r) (la 1 l)) := by
  unfold vd1; pointwise [k0_off6, offD (i 1)]
  exact congrArg X.v ((ix2_inj ..).2 ⟨Fin.ext (by simp [row, bD]), Fin.ext (by simp [la])⟩)
end

/-- The heads as the loop finds them, as it leaves them, and after the block on the diagonal. -/
def init : Head Ideal × Head Ideal := ((k0_pay21, k0_pay22), (k0_pay21, k0_pay22))
def left : Head Ideal × Head Ideal := state X i init (i 1).val
def done : Head Ideal × Head Ideal :=
  (step (scoreD (k0_pay19 X.q0) (kd0 X i)) (vd0 X i) (left X i).1, step (scoreD (k0_pay20 X.q1) (kd1 X i)) (vd1 X i) (left X i).2)

def pick (e : Fin 2) (a : Head Ideal × Head Ideal) : Head Ideal := if e = 0 then a.1 else a.2

/-- The rows of head `e`, when the products of the block's rows are the scores `g` and the values' lane is `w`. -/
theorem done_inv (e : Fin 2) (r : Fin 1024) (l : Fin 128) {g w : ℕ → ℝ} (hg : ∀ R : Fin 8192, (∑ l : Fin 128, X.q (ix2 r (la e l)) * X.k (ix2 R (la e l))) * L2 = (g R : EReal))
    (hw : ∀ R : Fin 8192, X.v (ix2 R (la e l)) = (w R : EReal)) :
    Attn.Inv g w (1024 * (bD i).val + r + 1) ((pick e (done X i)).1 (ix2 r 0)) ((pick e (done X i)).2 (ix2 r l)) := by
  have hi : Attn.Inv g w 0 ((pick e init).1 (ix2 r 0)) ((pick e init).2 (ix2 r l)) := by
    refine Or.inl ⟨rfl, ?_, ?_⟩
    · match e with
      | ⟨0, _⟩ => show (k0_pay21 (F := Ideal)) (ix2 r 0) = _; pointwise [k0_pay21, mask_eq]
      | ⟨1, _⟩ => show (k0_pay21 (F := Ideal)) (ix2 r 0) = _; pointwise [k0_pay21, mask_eq]
    · match e with
      | ⟨0, _⟩ => show (k0_pay22 (F := Ideal)) (ix2 r l) = _; pointwise [k0_pay22]
      | ⟨1, _⟩ => show (k0_pay22 (F := Ideal)) (ix2 r l) = _; pointwise [k0_pay22]
  have hl : ∀ n, n ≤ (k0_t1_loop i).trips → Attn.Inv g w (1024 * n) ((pick e (state X i init n)).1 (ix2 r 0)) ((pick e (state X i init n)).2 (ix2 r l)) := by
    intro n
    induction n with
    | zero => intro _; exact hi
    | succ n ih =>
      intro hn
      have h := ih (by omega)
      rw [show state X i init (n + 1) = pairStep X i ⟨n, hn⟩ (state X i init n) from dif_pos hn]
      have hb (t : Fin 1024) : (row (bT i ⟨n, hn⟩) t).val = 1024 * n + t.val := rfl
      have hs (t : Fin 1024) (y : EReal) (hy : y = (∑ l : Fin 128, X.q (ix2 r (la e l)) * X.k (ix2 (row (bT i ⟨n, hn⟩) t) (la e l))) * L2) :
          y = if 1024 * n + t.val < 1024 * (n + 1) then (g (1024 * n + t) : EReal) else ⊥ := by
        rw [if_pos (by omega), hy, hg, hb]
      match e with
      | ⟨0, _⟩ =>
        refine step_inv _ _ (state X i init n).1 r l h (by omega) (by omega) (fun t => hs t _ ?_) fun t => ?_
        · rw [score_at, pay19_eq]; simp only [q0_at, k0_at]; rfl
        · rw [v0_at, ← hb]; exact hw _
      | ⟨1, _⟩ =>
        refine step_inv _ _ (state X i init n).2 r l h (by omega) (by omega) (fun t => hs t _ ?_) fun t => ?_
        · rw [score_at, pay20_eq]; simp only [q1_at, k1_at]; rfl
        · rw [v1_at, ← hb]; exact hw _
  have h := hl (i 1).val (trips1 i).ge
  have hd : (bD i).val = (i 1).val := rfl
  have hb (t : Fin 1024) : (row (bD i) t).val = 1024 * (i 1).val + t.val := rfl
  have hs (t : Fin 1024) (y : EReal) (hy : y = if t ≤ r then (∑ l : Fin 128, X.q (ix2 r (la e l)) * X.k (ix2 (row (bD i) t) (la e l))) * L2 else ⊥) :
      y = if 1024 * (i 1).val + t.val < 1024 * (i 1).val + r + 1 then (g (1024 * (i 1).val + t) : EReal) else ⊥ := by
    rw [hy, hg, hb]
    exact if_congr (by rw [Fin.le_def]; omega) rfl rfl
  match e with
  | ⟨0, _⟩ =>
    refine step_inv _ _ (left X i).1 r l h (by rw [hd]; omega) (by rw [hd]; omega) (fun t => hs t _ ?_) fun t => ?_
    · rw [scoreD_at, pay19_eq]; simp only [q0_at, kd0_at]; rfl
    · rw [vd0_at, ← hb]; exact hw _
  | ⟨1, _⟩ =>
    refine step_inv _ _ (left X i).2 r l h (by rw [hd]; omega) (by rw [hd]; omega) (fun t => hs t _ ?_) fun t => ?_
    · rw [scoreD_at, pay20_eq]; simp only [q1_at, kd1_at]; rfl
    · rw [vd1_at, ← hb]; exact hw _

end Cert.Kernel8Ideal.Fwd

end
-- ==== Proof.Fwd.Final.lean ====
/- The attention forward: what the grid points write back, over the whole arrays. -/
module

public import proofs.«01_k».proof.Proof.Fwd.Point

@[expose] public section

set_option maxRecDepth 16384
set_option maxHeartbeats 4000000

noncomputable section

namespace Cert.Kernel8Ideal.Fwd

open Cert.Kernel8Ideal Cert.Kernel8Ideal.Gen Idealize.ShloMosaic Idealize.ShloMosaic.TcCoe Idealize.SL.Sem
open Idealize.ShloMosaic.Pipeline (Dat)
open Cert.Kernel2Ideal.Fox (sel_sge sel_half row la L2 gl hh ol fl hd pc lc hx dx lanes feat parts ones zero0 eighth hd_val hh_hx col pc_col lc_col)

variable (m : (ℓ : Loc nD τ sig) → Buf (Elt Ideal) ℓ) (c : Dev nD)

theorem idx : ∀ t : Fin cfg0.N, win0_0.index t = ![t.val % 8, t.val / 8] ∧ win0_1.index t = ![0, t.val / 8] ∧ win0_2.index t = ![0, t.val / 8]
    ∧ win0_3.index t = ![t.val % 8, t.val / 8] ∧ win0_4.index t = ![t.val % 8, t.val / 8] ∧ win0_5.index t = ![t.val % 8, t.val / 8] ∧ win0_6.index t = ![t.val % 8, t.val / 8]
    ∧ t.val < 32 :=
  (by decide +kernel : ∀ t : Fin grid0.N, _)

theorem N_lt (t : Fin cfg0.N) : t.val < 32 := Nat.lt_of_lt_of_eq t.isLt N_0

/-- The pair of heads and the block of query rows of a point. -/
def pt (t : Fin cfg0.N) : Fin 4 := ⟨t.val / 8, by have := N_lt t; omega⟩
def jt (t : Fin cfg0.N) : Fin 8 := ⟨t.val % 8, by omega⟩

theorem bD_coords (t : Fin cfg0.N) : bD (grid0.coords t) = jt t := by
  have e1 : (grid0.coords t 1).val = t.val / 1 % 8 := Pipeline.Grid.coords_val t 1 (by decide) rfl
  refine Fin.ext ?_
  show (grid0.coords t 1).val = t.val % 8
  omega

abbrev A0 : FVec Ideal S8192x8x64 .f32 := m ((c : Thread nD τ).loc main_arg0)
abbrev A1 : FVec Ideal S8192x8x64 .f32 := m ((c : Thread nD τ).loc main_arg1)
abbrev A2 : FVec Ideal S8192x8x64 .f32 := m ((c : Thread nD τ).loc main_arg2)
abbrev A3 : FVec Ideal S8192x8 .f32 := m ((c : Thread nD τ).loc main_arg3)

/-- The operands of the call. -/
def qx (q : FVec Ideal S8192x8x64 .f32) (g : FVec Ideal S8192x8 .f32) : FVec Ideal S8192x1024 .bf16 :=
  lanes (mulf q (broadcastInDim S8192x8x64 ![] bcast_S_S8192x8x64 (constant S_ .f32 0x3E000000#32 : FVec Ideal S_ .f32))) (feat (parts g) ones)
def kx (k : FVec Ideal S8192x8x64 .f32) (g : FVec Ideal S8192x8 .f32) : FVec Ideal S8192x1024 .bf16 := lanes k (feat ones (Host.negf (parts g)))
/-- The column of ones beside the values. -/
def one : FVec Ideal S8192x8x64 .f32 :=
  pad S8192x8x64 ![0, 0, 0] ![0, 0, 63] ![0, 0, 0] (extractStridedSlice S8192x8x1 ![0, 0, 0] ones slices_S8192x8x3_S8192x8x1_0_0_0 : FVec Ideal S8192x8x1 .f32) zero0 pads_S8192x8x1_S8192x8x64_000_000_0630 h_S_
def vx (v : FVec Ideal S8192x8x64 .f32) : FVec Ideal S8192x1024 .bf16 := lanes v one

theorem V_q : V m c main_v30 = qx (A0 m c) (A3 m c) := by
  dsimp only [V, hostOps0, hostOps0_1, hostOps0_2, hostOps0_3, hostOps0_4, hostOps0_5, hostOps0_6, List.flatten_cons, List.flatten_nil, List.append_nil, List.cons_append, List.nil_append]
  simp only [StableHlo.TRef.ternary, StableHlo.TRef.binary, StableHlo.TRef.unary, StableHlo.TRef.toBuf, StableHlo.TRef.ofBuf, cast_eq]
  after_results_simp
  rfl
theorem V_k : V m c main_v46 = kx (A1 m c) (A3 m c) := by
  dsimp only [V, hostOps0, hostOps0_1, hostOps0_2, hostOps0_3, hostOps0_4, hostOps0_5, hostOps0_6, List.flatten_cons, List.flatten_nil, List.append_nil, List.cons_append, List.nil_append]
  simp only [StableHlo.TRef.ternary, StableHlo.TRef.binary, StableHlo.TRef.unary, StableHlo.TRef.toBuf, StableHlo.TRef.ofBuf, cast_eq]
  after_results_simp
  rfl
theorem V_v : V m c main_v61 = vx (A2 m c) := by
  dsimp only [V, hostOps0, hostOps0_1, hostOps0_2, hostOps0_3, hostOps0_4, hostOps0_5, hostOps0_6, List.flatten_cons, List.flatten_nil, List.append_nil, List.cons_append, List.nil_append]
  simp only [StableHlo.TRef.ternary, StableHlo.TRef.binary, StableHlo.TRef.unary, StableHlo.TRef.toBuf, StableHlo.TRef.ofBuf, cast_eq]
  after_results_simp
  rfl

def blocks (t : Fin cfg0.N) : In Ideal := ⟨iblk m c 0 t, iblk m c 1 t, iblk m c 2 t⟩

section
variable (t : Fin cfg0.N)

theorem blk_q (r : Fin 1024) (e : Fin 2) (l : Fin 128) : (blocks m c t).q (ix2 r (la e l)) = qx (A0 m c) (A3 m c) (ix2 (row (jt t) r) (gl (pt t) e l)) := by
  show (V m c main_v30) (((cfg0.win 0).blk t).view.emb _) = _
  have h : ((cfg0.win 0).blk t).view.emb (ix2 r (la e l)) = ix2 (row (jt t) r) (gl (pt t) e l) := by blk_ext [idx t] <;> simp [gl, la, pt, row, jt] <;> omega
  rw [h, V_q]
theorem blk_k (R : Fin 8192) (e : Fin 2) (l : Fin 128) : (blocks m c t).k (ix2 R (la e l)) = kx (A1 m c) (A3 m c) (ix2 R (gl (pt t) e l)) := by
  show (V m c main_v46) (((cfg0.win 1).blk t).view.emb _) = _
  have h : ((cfg0.win 1).blk t).view.emb (ix2 R (la e l)) = ix2 R (gl (pt t) e l) := by blk_ext [idx t] <;> simp [gl, la, pt] <;> omega
  rw [h, V_k]
theorem blk_v (R : Fin 8192) (e : Fin 2) (l : Fin 128) : (blocks m c t).v (ix2 R (la e l)) = vx (A2 m c) (ix2 R (gl (pt t) e l)) := by
  show (V m c main_v61) (((cfg0.win 2).blk t).view.emb _) = _
  have h : ((cfg0.win 2).blk t).view.emb (ix2 R (la e l)) = ix2 R (gl (pt t) e l) := by blk_ext [idx t] <;> simp [gl, la, pt] <;> omega
  rw [h, V_v]

/-- The point's heads at its end. -/
def fin : Head Ideal × Head Ideal := done (blocks m c t) (grid0.coords t)

theorem after1 : st_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (blocks m c t).q0 (blocks m c t).q1 ((hs0_1 t).unread (blocks m c t).k) ((hs0_2 t).unread (blocks m c t).v) (flat init) (k0_t1_loop (grid0.coords t)).trips
    = flat (left (blocks m c t) (grid0.coords t)) := by
  rw [st_eq, trips1, left]

theorem none2 : Scf.trips (Scalar.addi (0#32) (Scalar.muli (Scalar.divsi (Scalar.subi (BitVec.ofNat 32 (grid0.coords t 1).val) 0#32) 1#32) 1#32))
    (Scalar.addi (0#32) (Scalar.subi (BitVec.ofNat 32 (grid0.coords t 1).val) 0#32)) 1#32 = 0 := trips2 (grid0.coords t)

section
variable (v3 : FVec Ideal S1024x128 .bf16) (a d : FVec Ideal S1024x1 .f32) (b : FVec Ideal S1024x128 .f32) (v33 : FVec Ideal S1024x1024 .bf16) (v37 : FVec Ideal S1024x128 .f32) (v40 : FVec Ideal S1024x128 .bf16)
  (v44 v67 : Vec Ideal S1024x128 .bf16) (r : Fin 1024) (l : Fin 128)
theorem pay36_at : k0_pay36 v3 a b v33 v37 v40 v44 v67 (ix2 r l)
    = if 64 ≤ l.val then Ideal.div (k0_pay33 v3 a b v44 v67 (ix2 r l)) (k0_pay33 v3 a b v44 v67 (ix2 r 0)) else Ideal.div (k0_pay30 v33 v37 v40 (ix2 r l)) (k0_pay30 v33 v37 v40 (ix2 r 64)) := by
  pointwise [k0_pay36, k0_pay34, k0_pay35]
  exact sel_half _ _ _
theorem pay37_at : k0_pay37 v3 a b v33 v37 v40 v44 v67 (ix2 r l)
    = if 64 ≤ l.val then Ideal.div (k0_pay33 v3 a b v44 v67 (ix2 r l)) (k0_pay33 v3 a b v44 v67 (ix2 r 0)) else Ideal.div (k0_pay30 v33 v37 v40 (ix2 r l)) (k0_pay30 v33 v37 v40 (ix2 r 64)) := by
  pointwise [k0_pay37, pay36_at]
theorem pay1_at : k0_pay1 a d (ix2 r l) = if 64 ≤ l.val then d (ix2 r 0) else a (ix2 r 0) := by
  pointwise [k0_pay1]
  exact sel_half _ _ _
theorem pay2_at : k0_pay2 (k0_pay34 v33 v37 v40) (k0_pay35 v3 a b v44 v67) (ix2 r l) = if 64 ≤ l.val then k0_pay33 v3 a b v44 v67 (ix2 r 0) else k0_pay30 v33 v37 v40 (ix2 r 64) := by
  pointwise [k0_pay2, k0_pay34, k0_pay35]
  exact sel_half _ _ _
end

variable (r : Fin 1024) (l : Fin 128)

theorem out3 : (outsAt0 m c t).1 (ix2 r l) = if 64 ≤ l.val then Ideal.div ((fin m c t).2.2 (ix2 r l)) ((fin m c t).2.2 (ix2 r 0)) else Ideal.div ((fin m c t).1.2 (ix2 r l)) ((fin m c t).1.2 (ix2 r 64)) := by
  unfold outsAt0
  frame_out
  rw [none2]
  simp only [st_k0_t2_zero]
  generalize hS : st_k0_t1 (F := Ideal) _ _ _ _ _ _ _ _ _ _ _ _ _ _ _ _ _ _ _ _ _ _ _ _ = S
  have e : S = flat (left (blocks m c t) (grid0.coords t)) := hS.symm.trans (after1 m c t)
  subst e
  exact pay37_at ..
theorem out4 : (outsAt0 m c t).2.1 (ix2 r l) = if 64 ≤ l.val then Ideal.div ((fin m c t).2.2 (ix2 r l)) ((fin m c t).2.2 (ix2 r 0)) else Ideal.div ((fin m c t).1.2 (ix2 r l)) ((fin m c t).1.2 (ix2 r 64)) := by
  unfold outsAt0
  frame_out
  rw [none2]
  simp only [st_k0_t2_zero]
  generalize hS : st_k0_t1 (F := Ideal) _ _ _ _ _ _ _ _ _ _ _ _ _ _ _ _ _ _ _ _ _ _ _ _ = S
  have e : S = flat (left (blocks m c t) (grid0.coords t)) := hS.symm.trans (after1 m c t)
  subst e
  exact pay36_at ..
theorem out5 : (outsAt0 m c t).2.2.1 (ix2 r l) = if 64 ≤ l.val then (fin m c t).2.1 (ix2 r 0) else (fin m c t).1.1 (ix2 r 0) := by
  unfold outsAt0
  frame_out
  rw [none2]
  simp only [st_k0_t2_zero]
  generalize hS : st_k0_t1 (F := Ideal) _ _ _ _ _ _ _ _ _ _ _ _ _ _ _ _ _ _ _ _ _ _ _ _ = S
  have e : S = flat (left (blocks m c t) (grid0.coords t)) := hS.symm.trans (after1 m c t)
  subst e
  exact pay1_at ..
theorem out6 : (outsAt0 m c t).2.2.2 (ix2 r l) = if 64 ≤ l.val then (fin m c t).2.2 (ix2 r 0) else (fin m c t).1.2 (ix2 r 64) := by
  unfold outsAt0
  frame_out
  rw [none2]
  simp only [st_k0_t2_zero]
  generalize hS : st_k0_t1 (F := Ideal) _ _ _ _ _ _ _ _ _ _ _ _ _ _ _ _ _ _ _ _ _ _ _ _ = S
  have e : S = flat (left (blocks m c t) (grid0.coords t)) := hS.symm.trans (after1 m c t)
  subst e
  exact pay2_at ..
end

end Cert.Kernel8Ideal.Fwd

end
-- ==== Proof.Fwd.Vals.lean ====
/- The attention forward: the kernel's results are the softmax's rows, their levels and their sums. -/
module

public import proofs.«01_k».proof.Proof.Fwd.Final

@[expose] public section

set_option maxRecDepth 16384

noncomputable section

namespace Cert.Kernel8Ideal.Fwd

open Cert.Kernel8Ideal Cert.Kernel8Ideal.Gen Idealize.ShloMosaic Idealize.ShloMosaic.TcCoe Idealize.SL.Sem
open Idealize.ShloMosaic.Pipeline (Dat)
open Cert.Kernel2Ideal.Fox (row la L2 gl hh ol fl hd pc lc hx dx lanes feat parts ones zero0 eighth hd_val hh_hx col pc_col lc_col lanes_own lanes_feat dot_lanes dot_feat ones_at Is scoresT levelT lev lev_eq ln2 scores_at neg_inf two)

/-- A row of the attention's result. -/
def rowP (D : Attn.Data) (h : Fin 8) (K : Fin 8192) (d : Fin 64) : ℝ := ∑ R, Attn.P D h K R * D.v R h d
/-- The sum of a row's exponentials above the level `μ`, in units of `log 2`. -/
def rowZ (D : Attn.Data) (h : Fin 8) (K : Fin 8192) (μ : ℝ) : ℝ := Attn.Z D h K * Real.exp (-(μ * Real.log 2))

theorem rowZ_pos (D : Attn.Data) (h : Fin 8) (K : Fin 8192) (μ : ℝ) : 0 < rowZ D h K μ := Attn.ZM_pos D h K _

/-! ### The level of a whole row -/

section
variable (D : Attn.Data) (h : Fin 8) (K : Fin 8192)
/-- The scores of a row, in units of `log 2`. -/
def gs (n : ℕ) : ℝ := if hn : n < 8192 then Attn.x D h K ⟨n, hn⟩ * (Real.log 2)⁻¹ else 0
theorem gs_at (R : Fin 8192) : gs D h K R = Attn.x D h K R * (Real.log 2)⁻¹ := dif_pos R.isLt

theorem lev_is (q k v : FVec Ideal S8192x8x64 .f32) (g : FVec Ideal S8192x8 .f32) (o : FVec Ideal S8192x8x64 .f32) (I : Is D q k v g o) :
    Attn.IsLev (gs D h K) (K.val + 1) (lev q k g h K) := by
  have hp : (0 : ℝ) ≤ (Real.log 2)⁻¹ := (inv_pos.2 (Real.log_pos one_lt_two)).le
  obtain ⟨hu, R0, h0⟩ := Attn.fold_att fun R => scoresT q k g (ix3 h K R)
  have hle : ∀ R, R ≤ K → (Attn.x D h K R : EReal) ≤ scoresT q k g (ix3 h K R0) := fun R hR => by
    have := hu R
    rw [h0] at this
    rwa [scores_at q k v g o I, if_pos hR] at this
  have hR0 : R0 ≤ K := by
    by_contra hc
    have := hle K le_rfl
    rw [scores_at q k v g o I, if_neg hc] at this
    exact absurd (le_bot_iff.1 this) (EReal.coe_ne_bot _)
  have e : (lev q k g h K : EReal) = ((((⌈gs D h K R0⌉ : ℤ) : ℝ)) : EReal) := by
    rw [← lev_eq q k v g o I h K, gs_at]
    unfold levelT
    pointwise [ln2]
    rw [neg_inf, h0, scores_at q k v g o I, if_pos hR0, two, Ideal.log_coe, if_neg (by norm_num), Ideal.div_coe (Real.log_pos one_lt_two).ne', ← EReal.coe_mul, one_div]
    rfl
  rw [EReal.coe_eq_coe_iff] at e
  refine ⟨fun R hR => ?_, R0, Nat.lt_succ_of_le hR0, e.symm⟩
  have hK := K.isLt
  have := hle ⟨R, by omega⟩ (by rw [Fin.le_def]; dsimp only; omega)
  rw [scores_at q k v g o I, if_pos hR0, EReal.coe_le_coe_iff] at this
  rw [e]
  refine Int.cast_le.2 (Int.ceil_le_ceil ?_)
  rw [gs_at, gs, dif_pos (by omega)]
  exact mul_le_mul_of_nonneg_right this hp

/-- The row's sum, over all the key rows. -/
theorem row_sum (μ : ℝ) (w : ℕ → ℝ) : ∑ R ∈ Finset.range (K.val + 1), (2 : ℝ) ^ (gs D h K R - μ) * w R = ∑ R : Fin 8192, Attn.W D h K R (μ * Real.log 2) * w R := by
  have hl : Real.log 2 ≠ 0 := (Real.log_pos one_lt_two).ne'
  have h1 : ∑ R ∈ Finset.range (K.val + 1), (2 : ℝ) ^ (gs D h K R - μ) * w R = ∑ R ∈ Finset.range 8192, if R < K.val + 1 then (2 : ℝ) ^ (gs D h K R - μ) * w R else 0 :=
    (Finset.sum_congr rfl fun R hR => (if_pos (Finset.mem_range.1 hR)).symm).trans (Finset.sum_subset (Finset.range_mono K.isLt) fun R _ hR => if_neg fun h => hR (Finset.mem_range.2 h))
  rw [h1, Finset.sum_range]
  refine Finset.sum_congr rfl fun R _ => ?_
  unfold Attn.W Attn.E
  by_cases hR : R ≤ K
  · rw [if_pos (Nat.lt_succ_of_le hR), if_pos hR, gs_at, Real.rpow_def_of_pos two_pos, ← Real.exp_add]
    congr 2
    field_simp
    ring
  · rw [if_neg (fun h => hR (Nat.le_of_lt_succ h)), if_neg hR, zero_mul, zero_mul]

theorem sum_div (μ : ℝ) (d : Fin 64) : (∑ R : Fin 8192, Attn.W D h K R (μ * Real.log 2) * D.v R h d) * (1 / rowZ D h K μ) = rowP D h K d := by
  unfold rowP rowZ
  rw [Finset.sum_mul]
  refine Finset.sum_congr rfl fun R _ => ?_
  rw [← Attn.W_div D h K R (μ * Real.log 2)]
  ring
end

variable (m : (ℓ : Loc nD τ sig) → Buf (Elt Ideal) ℓ) (c : Dev nD)
variable {D : Attn.Data} (I : Is D (A0 m c) (A1 m c) (A2 m c) (A3 m c) (A2 m c))

/-! ### The operands' lanes -/

section
variable (p : Fin 4) (e : Fin 2) (K R : Fin 8192)
include I
theorem dot_qk : (∑ l, qx (A0 m c) (A3 m c) (ix2 K (gl p e l)) * kx (A1 m c) (A3 m c) (ix2 R (gl p e l))) = ((Attn.x D (hh p e) K R : ℝ) : EReal) := by
  have hc : (∑ l, qx (A0 m c) (A3 m c) (ix2 K (gl p e l)) * kx (A1 m c) (A3 m c) (ix2 R (gl p e l))) = ∑ l, kx (A1 m c) (A3 m c) (ix2 R (gl p e l)) * qx (A0 m c) (A3 m c) (ix2 K (gl p e l)) :=
    Finset.sum_congr rfl fun l _ => mul_comm _ _
  rw [hc]
  unfold kx qx
  rw [dot_lanes, dot_feat _ D.c I.c, Attn.coe_sum' Finset.univ (g := fun d => D.k R (hh p e) d * (D.q K (hh p e) d * (1 / 8))), ← EReal.coe_add]
  · refine congrArg _ ?_
    unfold Attn.x
    rw [Finset.sum_mul, add_sub_assoc]
    exact congrArg (· + _) (Finset.sum_congr rfl fun d _ => by ring)
  · intro d _
    pointwise
    rw [I.q, I.k, eighth, EReal.coe_mul, EReal.coe_mul]

theorem vx_own (d : Fin 64) : vx (A2 m c) (ix2 R (gl p e (ol e d))) = (D.v R (hh p e) d : EReal) := by
  unfold vx
  rw [lanes_own, I.v]

omit I in
theorem vx_one (v : FVec Ideal S8192x8x64 .f32) : vx v (ix2 R (gl p e (fl e 0))) = ((1 : ℝ) : EReal) := by
  unfold vx
  rw [lanes_feat]
  unfold one
  pointwise
  exact ones_at ..
end

section
variable (t : Fin cfg0.N) (e : Fin 2) (r : Fin 1024)
include I

theorem fin_at (l : Fin 128) (w : ℕ → ℝ) (hw : ∀ R : Fin 8192, vx (A2 m c) (ix2 R (gl (pt t) e l)) = (w R : EReal)) :
    (pick e (fin m c t)).1 (ix2 r 0) = (lev (A0 m c) (A1 m c) (A3 m c) (hh (pt t) e) (row (jt t) r) : EReal)
    ∧ (pick e (fin m c t)).2 (ix2 r l) = ((∑ R : Fin 8192, Attn.W D (hh (pt t) e) (row (jt t) r) R (lev (A0 m c) (A1 m c) (A3 m c) (hh (pt t) e) (row (jt t) r) * Real.log 2) * w R : ℝ) : EReal) := by
  have h := done_inv (blocks m c t) (grid0.coords t) e r l (g := gs D (hh (pt t) e) (row (jt t) r)) (w := w)
    (fun R => by simp only [blk_q, blk_k]; rw [dot_qk m c I, gs_at, EReal.coe_mul]) (fun R => by rw [blk_v, hw])
  rw [bD_coords] at h
  rcases h with ⟨h0, -⟩ | ⟨μ, h1, h2, h3⟩
  · omega
  · have e := h2.unique (lev_is D (hh (pt t) e) (row (jt t) r) _ _ _ _ _ I)
    rw [e] at h1 h3
    exact ⟨h1, h3.trans (congrArg _ (row_sum ..))⟩

theorem fin_own (d : Fin 64) : (pick e (fin m c t)).2 (ix2 r (ol e d))
    = ((∑ R : Fin 8192, Attn.W D (hh (pt t) e) (row (jt t) r) R (lev (A0 m c) (A1 m c) (A3 m c) (hh (pt t) e) (row (jt t) r) * Real.log 2) * D.v R (hh (pt t) e) d : ℝ) : EReal) := by
  have hw (R : Fin 8192) : (fun n : ℕ => if hn : n < 8192 then D.v ⟨n, hn⟩ (hh (pt t) e) d else 0) R.val = D.v R (hh (pt t) e) d := dif_pos R.isLt
  rw [(fin_at m c I t e r (ol e d) (fun n => if hn : n < 8192 then D.v ⟨n, hn⟩ (hh (pt t) e) d else 0) fun R => (vx_own m c I _ _ _ _).trans (congrArg _ (hw R).symm)).2]
  exact congrArg _ (Finset.sum_congr rfl fun R _ => congrArg _ (hw R))

theorem fin_one : (pick e (fin m c t)).2 (ix2 r (fl e 0)) = (rowZ D (hh (pt t) e) (row (jt t) r) (lev (A0 m c) (A1 m c) (A3 m c) (hh (pt t) e) (row (jt t) r)) : EReal) := by
  rw [(fin_at m c I t e r (fl e 0) (fun _ => 1) fun R => vx_one _ _ _ _).2]
  simp only [mul_one]
  rw [Attn.sum_W, rowZ]

theorem fin_div (d : Fin 64) : Ideal.div ((pick e (fin m c t)).2 (ix2 r (ol e d))) ((pick e (fin m c t)).2 (ix2 r (fl e 0))) = (rowP D (hh (pt t) e) (row (jt t) r) d : EReal) := by
  rw [fin_own m c I, fin_one m c I, Ideal.div_coe (rowZ_pos D _ _ _).ne', ← EReal.coe_mul]
  exact congrArg _ (sum_div ..)

theorem fin_lev : (pick e (fin m c t)).1 (ix2 r 0) = (lev (A0 m c) (A1 m c) (A3 m c) (hh (pt t) e) (row (jt t) r) : EReal) :=
  (fin_at m c I t e r (fl e 0) (fun _ => 1) fun R => vx_one _ _ _ _).1
end

/-! ### The arrays of the results -/

theorem hx_col (p : Fin 4) (l : Fin 128) : hx (col p l) = hh p (hd l) := by
  rw [← hh_hx, pc_col, lc_col]
/-- The entry of its head a lane is. -/
def dl (l : Fin 128) : Fin 64 := ⟨l.val % 64, by omega⟩
theorem dx_col (p : Fin 4) (l : Fin 128) : dx (col p l) = dl l := Fin.ext (by simp only [dx, col, dl]; omega)

theorem hd_lo (l : Fin 128) (h : ¬64 ≤ l.val) : hd l = 0 := by unfold hd; rw [if_neg h]
theorem hd_hi (l : Fin 128) (h : 64 ≤ l.val) : hd l = 1 := by unfold hd; rw [if_pos h]
theorem ol_lo (l : Fin 128) (h : ¬64 ≤ l.val) : l = ol 0 (dl l) := Fin.ext (by simp [ol, dl]; omega)
theorem ol_hi (l : Fin 128) (h : 64 ≤ l.val) : l = ol 1 (dl l) := Fin.ext (by simp [ol, dl]; omega)

section
variable (t : Fin cfg0.N) (r : Fin 1024) (l : Fin 128)
include I
theorem pick_div : (if 64 ≤ l.val then Ideal.div ((fin m c t).2.2 (ix2 r l)) ((fin m c t).2.2 (ix2 r 0)) else Ideal.div ((fin m c t).1.2 (ix2 r l)) ((fin m c t).1.2 (ix2 r 64)))
    = (rowP D (hh (pt t) (hd l)) (row (jt t) r) (dl l) : EReal) := by
  by_cases h : 64 ≤ l.val
  · rw [if_pos h, hd_hi l h, ← fin_div m c I]
    exact congrArg₂ Ideal.div (congrArg (fun j => (fin m c t).2.2 (ix2 r j)) (ol_hi l h)) rfl
  · rw [if_neg h, hd_lo l h, ← fin_div m c I]
    exact congrArg₂ Ideal.div (congrArg (fun j => (fin m c t).1.2 (ix2 r j)) (ol_lo l h)) rfl
theorem pick_lev : (if 64 ≤ l.val then (fin m c t).2.1 (ix2 r 0) else (fin m c t).1.1 (ix2 r 0))
    = (lev (A0 m c) (A1 m c) (A3 m c) (hh (pt t) (hd l)) (row (jt t) r) : EReal) := by
  by_cases h : 64 ≤ l.val
  · rw [if_pos h, hd_hi l h, ← fin_lev m c I]; rfl
  · rw [if_neg h, hd_lo l h, ← fin_lev m c I]; rfl
theorem pick_one : (if 64 ≤ l.val then (fin m c t).2.2 (ix2 r 0) else (fin m c t).1.2 (ix2 r 64))
    = (rowZ D (hh (pt t) (hd l)) (row (jt t) r) (lev (A0 m c) (A1 m c) (A3 m c) (hh (pt t) (hd l)) (row (jt t) r)) : EReal) := by
  by_cases h : 64 ≤ l.val
  · rw [if_pos h, hd_hi l h, ← fin_one m c I]; rfl
  · rw [if_neg h, hd_lo l h, ← fin_one m c I]; rfl
end

section
include I
theorem final3 : (dats m 0 c).arrAt 3 cfg0.N = fun i : S8192x512.Idx => ((rowP D (hx (i 1)) (i 0) (dx (i 1)) : ℝ) : EReal) := by
  refine (dats m 0 c).arrAt_eq_of_covers 3 _ (by decide +kernel) fun t hf y => ?_
  blk_simp
  rw [after0_3]
  idx_vars y
  have a0 : ((View.whole main_v62_0).slice (win0_3.rect t)).emb (ix2 y0 y1) = ix2 (row (jt t) y0) (col (pt t) y1) := by blk_ext [idx t] <;> simp [pt, col, row, jt] <;> omega
  rw [a0, out3, pick_div m c I]
  refine congrArg _ ?_
  show _ = rowP D (hx (col (pt t) y1)) (row (jt t) y0) (dx (col (pt t) y1))
  simp only [hx_col, dx_col]

theorem final4 : (dats m 0 c).arrAt 4 cfg0.N = fun i : S8192x512.Idx => ((rowP D (hx (i 1)) (i 0) (dx (i 1)) : ℝ) : EReal) := by
  refine (dats m 0 c).arrAt_eq_of_covers 4 _ (by decide +kernel) fun t hf y => ?_
  blk_simp
  rw [after0_4]
  idx_vars y
  have a0 : ((View.whole main_v62_1).slice (win0_4.rect t)).emb (ix2 y0 y1) = ix2 (row (jt t) y0) (col (pt t) y1) := by blk_ext [idx t] <;> simp [pt, col, row, jt] <;> omega
  rw [a0, out4, pick_div m c I]
  refine congrArg _ ?_
  show _ = rowP D (hx (col (pt t) y1)) (row (jt t) y0) (dx (col (pt t) y1))
  simp only [hx_col, dx_col]

theorem final5 : (dats m 0 c).arrAt 5 cfg0.N = fun i : S8192x512.Idx => ((lev (A0 m c) (A1 m c) (A3 m c) (hx (i 1)) (i 0) : ℝ) : EReal) := by
  refine (dats m 0 c).arrAt_eq_of_covers 5 _ (by decide +kernel) fun t hf y => ?_
  blk_simp
  rw [after0_5]
  idx_vars y
  have a0 : ((View.whole main_v62_2).slice (win0_5.rect t)).emb (ix2 y0 y1) = ix2 (row (jt t) y0) (col (pt t) y1) := by blk_ext [idx t] <;> simp [pt, col, row, jt] <;> omega
  rw [a0, out5, pick_lev m c I]
  refine congrArg _ ?_
  show _ = lev (A0 m c) (A1 m c) (A3 m c) (hx (col (pt t) y1)) (row (jt t) y0)
  simp only [hx_col, dx_col]

theorem final6 : (dats m 0 c).arrAt 6 cfg0.N = fun i : S8192x512.Idx => ((rowZ D (hx (i 1)) (i 0) (lev (A0 m c) (A1 m c) (A3 m c) (hx (i 1)) (i 0)) : ℝ) : EReal) := by
  refine (dats m 0 c).arrAt_eq_of_covers 6 _ (by decide +kernel) fun t hf y => ?_
  blk_simp
  rw [after0_6]
  idx_vars y
  have a0 : ((View.whole main_v62_3).slice (win0_6.rect t)).emb (ix2 y0 y1) = ix2 (row (jt t) y0) (col (pt t) y1) := by blk_ext [idx t] <;> simp [pt, col, row, jt] <;> omega
  rw [a0, out6, pick_one m c I]
  refine congrArg _ ?_
  show _ = rowZ D (hx (col (pt t) y1)) (row (jt t) y0) (lev (A0 m c) (A1 m c) (A3 m c) (hx (col (pt t) y1)) (row (jt t) y0))
  simp only [hx_col, dx_col]

end

end Cert.Kernel8Ideal.Fwd

end
-- ==== Proof.Fwd.Ref.lean ====
/- The attention forward: the reference's results, entry by entry. -/
module

public import proofs.«01_k».proof.Proof.Fox.Ref
public import proofs.«01_k».proof.Proof.Fwd.Vals
public import proofs.«01_k».proof.Proof.Gen.Reference8Ideal.Run

@[expose] public section

set_option maxRecDepth 16384

noncomputable section

namespace Cert.Reference8Ideal.Fwd

open Cert.Reference8Ideal Cert.Reference8Ideal.Gen Cert.Reference8Ideal.Value Idealize.ShloMosaic Idealize.ShloMosaic.TcCoe Idealize.SL.Sem
open Cert.Kernel2Ideal.Fox (scoresT sumT expT levelT Is hx dx lev lev_eq l_eq)
open Cert.Reference2Ideal.Fox (weightT wide tall flatT flat_at p_eq)
open Cert.Kernel8Ideal.Fwd (rowP rowZ)

/-- The rows' weights over their sums. -/
def shareT (w : FVec Ideal S8x8192x8192 .f32) : FVec Ideal S8x8192x8192 .f32 := Host.divf w (wide (tall (sumT w)))

def mixT (v : FVec Ideal S8192x8x64 .f32) (p : FVec Ideal S8x8192x8192 .f32) : FVec Ideal S8192x8x64 .f32 :=
  transpose S8192x8x64 [2, 0, 1] (Host.dotGeneral dot_S8192x8x64_S8x8192x8192_S8x64x8192_0_2_2_1_1_0 none v p : FVec Ideal S8x64x8192 .f32) transposes_S8x64x8192_S8192x8x64_2_0_1

/-- A value of a row and head, over the head's lanes. -/
def spreadT (y : FVec Ideal S8x8192 .f32) : FVec Ideal S8192x512 .f32 :=
  flatT (broadcastInDim S8192x8x64 ![0, 1] bcast_S8192x8_S8192x8x64_0_1 (transpose S8192x8 [1, 0] y transposes_S8x8192_S8192x8_1_0 : FVec Ideal S8192x8 .f32))

section
variable (v : FVec Ideal S8192x8x64 .f32) (w : FVec Ideal S8x8192x8192 .f32) (y : FVec Ideal S8x8192 .f32) (h : Fin 8) (K R : Fin 8192) (n : Fin 64)

theorem share_at : shareT w (ix3 h K R) = Ideal.div (w (ix3 h K R)) (sumT w (ix2 h K)) := by
  unfold shareT
  pointwise [wide, tall]

theorem mix_at : mixT v w (ix3 K h n) = ∑ R, v (ix3 R h n) * w (ix3 h K R) := by
  unfold mixT
  pointwise

theorem spread_at (z : Fin 512) : spreadT y (ix2 K z) = y (ix2 (hx z) K) := by
  unfold spreadT
  refine (flat_at _ _ _).trans ?_
  pointwise
end

variable (m : (ℓ : Loc nD τ sig) → Buf (Elt Ideal) ℓ) (c : Dev nD)

/-- The device's arguments, and the scores they have. -/
abbrev q := m ((c : Thread nD τ).loc main_arg0)
abbrev k := m ((c : Thread nD τ).loc main_arg1)
abbrev v := m ((c : Thread nD τ).loc main_arg2)
abbrev g := m ((c : Thread nD τ).loc main_arg3)
def S : FVec Ideal S8x8192x8192 .f32 := scoresT (q m c) (k m c) (g m c)

theorem r63 : res_main_v63 m c = flatT (mixT (v m c) (shareT (weightT (S m c)))) := by
  unfold res_main_v63; rfl
theorem r64 : res_main_v64 m c = truncf .bf16 (flatT (mixT (v m c) (shareT (weightT (S m c))))) bitsLt_bf16_f32 := by
  unfold res_main_v64; rfl

theorem results (ρ : Dev nD → PrngReg) : θ_run defs (onTc (τ := τ) (main (F := Ideal))) ⟨m, fun _ => 0, ρ⟩ fun r => ∀ c : Dev nD,
    r.2.mem ((c.tc : Thread nD τ).loc main_v64) = truncf .bf16 (flatT (mixT (v m c) (shareT (weightT (S m c))))) bitsLt_bf16_f32
    ∧ r.2.mem ((c.tc : Thread nD τ).loc main_v63) = flatT (mixT (v m c) (shareT (weightT (S m c))))
    ∧ r.2.mem ((c.tc : Thread nD τ).loc main_v67) = spreadT (levelT (S m c))
    ∧ r.2.mem ((c.tc : Thread nD τ).loc main_v70) = spreadT (sumT (expT (S m c) (levelT (S m c))))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run _ _ _).mono (fun r hr c => ⟨(hr c).1.trans (r64 m c), (hr c).2.1.trans (r63 m c), (hr c).2.2.1.trans rfl, (hr c).2.2.2.1.trans rfl, (hr c).2.2.2.2⟩) (Cert.Reference8Ideal.Value.run m ρ)

/-! ### Over the reals -/

section
variable {D : Attn.Data} (I : Is D (q m c) (k m c) (v m c) (g m c) (v m c))
include I

theorem out_at (h : Fin 8) (K : Fin 8192) (n : Fin 64) : mixT (v m c) (shareT (weightT (S m c))) (ix3 K h n) = (rowP D h K n : EReal) := by
  rw [mix_at]
  refine Attn.coe_sum' _ fun R _ => ?_
  rw [share_at, I.v]
  refine (congrArg _ (p_eq _ _ _ _ _ _ _ _ I)).trans ?_
  rw [← EReal.coe_mul, mul_comm]

theorem out_eq : flatT (mixT (v m c) (shareT (weightT (S m c)))) = fun i : S8192x512.Idx => (rowP D (hx (i 1)) (i 0) (dx (i 1)) : EReal) := by
  funext i
  rw [eq_ix2 i]
  exact (flat_at _ _ _).trans (out_at m c I _ _ _)

theorem lev_out : spreadT (levelT (S m c)) = fun i : S8192x512.Idx => (lev (q m c) (k m c) (g m c) (hx (i 1)) (i 0) : EReal) := by
  funext i
  rw [eq_ix2 i]
  exact (spread_at ..).trans (lev_eq _ _ _ _ _ I _ _)

theorem sum_out : spreadT (sumT (expT (S m c) (levelT (S m c)))) = fun i : S8192x512.Idx => (rowZ D (hx (i 1)) (i 0) (lev (q m c) (k m c) (g m c) (hx (i 1)) (i 0)) : EReal) := by
  funext i
  rw [eq_ix2 i]
  exact (spread_at ..).trans (l_eq _ _ _ _ _ I _ _)
end

end Cert.Reference8Ideal.Fwd

end
-- ==== Proof.Fwd.Claim.lean ====
/- The attention forward: kernel and reference end with one set of arrays. -/
module

public import proofs.«01_k».proof.Defs
public import proofs.«01_k».proof.Proof.Fox.Finite
public import proofs.«01_k».proof.Proof.Fwd.Ref
public import proofs.«01_k».proof.Proof.Gen.Pre_finite8

@[expose] public section

set_option maxRecDepth 16384

noncomputable section

namespace Cert.Pre_finite8.Fwd

open Cert.Pre_finite8 Idealize.ShloMosaic Idealize.SL.Sem
open Cert.Pre_finite2.Fox (and_one real)

variable [Facts] (a0 a1 a2 : FVec Ideal S8192x8x64 .f32) (a3 : FVec Ideal S8192x8 .f32)

theorem reals (h : fn a0 a1 a2 a3 ix0 = 1#1) :
    (∀ i, a0 i = ((a0 i).toReal : EReal)) ∧ (∀ i, a1 i = ((a1 i).toReal : EReal)) ∧ (∀ i, a2 i = ((a2 i).toReal : EReal)) ∧ ∀ i, a3 i = ((a3 i).toReal : EReal) := by
  dsimp only [fn, fn_part1] at h
  obtain ⟨h, h3⟩ := and_one h
  obtain ⟨h, h2⟩ := and_one h
  obtain ⟨h0, h1⟩ := and_one h
  haveI : Subsingleton S_.Idx := ⟨fun i j => funext fun k => k.elim0⟩
  exact ⟨fun i => real (Host.reduce_andi_all _ _ _ _ _ h0 i), fun i => real (Host.reduce_andi_all _ _ _ _ _ h1 i), fun i => real (Host.reduce_andi_all _ _ _ _ _ h2 i),
    fun i => real (Host.reduce_andi_all _ _ _ _ _ h3 i)⟩

end Cert.Pre_finite8.Fwd

namespace Cert.Fwd

open Idealize.ShloMosaic Idealize.ShloMosaic.TcCoe Idealize.SL.Sem
open Cert.Kernel8Ideal (S8192x8x64 S8192x8 S8192x512)
open Cert.Kernel2Ideal.Fox (Is hx dx lev)
open Cert.Kernel8Ideal.Fwd (rowP rowZ)

variable (a0 a1 a2 : FVec Ideal S8192x8x64 .f32) (a3 : FVec Ideal S8192x8 .f32)

/-- The arguments, real. -/
def data : Attn.Data where
  q K h d := (a0 (ix3 K h d)).toReal
  k K h d := (a1 (ix3 K h d)).toReal
  v K h d := (a2 (ix3 K h d)).toReal
  o K h d := (a2 (ix3 K h d)).toReal
  c K h := (a3 (ix2 K h)).toReal

theorem data_is (h : Cert.Pre_finite8.fn a0 a1 a2 a3 = fun _ => 1#1) : Is (data a0 a1 a2 a3) a0 a1 a2 a3 a2 := by
  obtain ⟨h0, h1, h2, h3⟩ := Cert.Pre_finite8.Fwd.reals a0 a1 a2 a3 (congrFun h ix0)
  exact ⟨fun _ _ _ => h0 _, fun _ _ _ => h1 _, fun _ _ _ => h2 _, fun _ _ => h3 _, fun _ _ _ => h2 _⟩

/-- The results: the attention's rows twice, the rows' levels and the rows' sums. -/
def G0 : FVec Ideal S8192x512 .bf16 := fun i => (rowP (data a0 a1 a2 a3) (hx (i 1)) (i 0) (dx (i 1)) : EReal)
def G1 : FVec Ideal S8192x512 .f32 := fun i => (rowP (data a0 a1 a2 a3) (hx (i 1)) (i 0) (dx (i 1)) : EReal)
def G2 : FVec Ideal S8192x512 .f32 := fun i => (lev a0 a1 a3 (hx (i 1)) (i 0) : EReal)
def G3 : FVec Ideal S8192x512 .f32 := fun i => (rowZ (data a0 a1 a2 a3) (hx (i 1)) (i 0) (lev a0 a1 a3 (hx (i 1)) (i 0)) : EReal)

section
open Cert.Kernel8Ideal Cert.Kernel8Ideal.Gen Cert.Kernel8Ideal.Fwd
variable (m : (ℓ : Loc nD τ sig) → Buf (Elt Ideal) ℓ)

theorem kernel (ρ : Dev nD → PrngReg) (h : Cert.Pre_Kernel8Ideal_finite8 m) :
    θ_run defs (onTc (τ := τ) (main (F := Ideal))) ⟨m, fun _ => 0, ρ⟩ fun r => ∀ c : Dev nD,
      r.2.mem ((c : Thread nD τ).loc main_v62_0) = G0 (A0 m c) (A1 m c) (A2 m c) (A3 m c)
      ∧ r.2.mem ((c : Thread nD τ).loc main_v62_1) = G1 (A0 m c) (A1 m c) (A2 m c) (A3 m c)
      ∧ r.2.mem ((c : Thread nD τ).loc main_v62_2) = G2 (A0 m c) (A1 m c) (A3 m c)
      ∧ r.2.mem ((c : Thread nD τ).loc main_v62_3) = G3 (A0 m c) (A1 m c) (A2 m c) (A3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run _ _ _).mono (fun r hr c => ?_) (Cert.Kernel8Ideal.Value.run_blocks m ρ)
  have J := data_is _ _ _ _ (h c)
  obtain ⟨h0, h1, h2, h3, hk⟩ := hr c
  exact ⟨h0.trans (final3 m c J), h1.trans (final4 m c J), h2.trans (final5 m c J), h3.trans (final6 m c J), hk⟩
end

/-- The kernel's rows, levels and sums are the attention's. -/
theorem algebraic : Cert.algebraic_Kernel8Ideal_Reference8Ideal_pre_finite8 := by
  intro m ρ m' ρ' hpre hag
  refine ⟨_, _, _, _, kernel m ρ hpre, ?_⟩
  refine (θ_run _ _ _).mono (fun r h c => ?_) (Cert.Reference8Ideal.Fwd.results m' ρ')
  have J := data_is _ _ _ _ (hpre c)
  have e := hag c
  obtain ⟨D, hD⟩ : ∃ D, D = data (m ((c : Thread Cert.Kernel8Ideal.nD Cert.Kernel8Ideal.τ).loc Cert.Kernel8Ideal.main_arg0)) (m ((c : Thread Cert.Kernel8Ideal.nD Cert.Kernel8Ideal.τ).loc Cert.Kernel8Ideal.main_arg1))
    (m ((c : Thread Cert.Kernel8Ideal.nD Cert.Kernel8Ideal.τ).loc Cert.Kernel8Ideal.main_arg2)) (m ((c : Thread Cert.Kernel8Ideal.nD Cert.Kernel8Ideal.τ).loc Cert.Kernel8Ideal.main_arg3)) := ⟨_, rfl⟩
  rw [← hD, ← e.1, ← e.2.1, ← e.2.2.1, ← e.2.2.2] at J
  obtain ⟨h0, h1, h2, h3, hk⟩ := h c
  have l2 := Cert.Reference8Ideal.Fwd.lev_out m' c J
  have l3 := Cert.Reference8Ideal.Fwd.sum_out m' c J
  have l1 := Cert.Reference8Ideal.Fwd.out_eq m' c J
  rw [hD] at l1 l3
  rw [Cert.Reference8Ideal.Fwd.q, Cert.Reference8Ideal.Fwd.k, Cert.Reference8Ideal.Fwd.g, e.1, e.2.1, e.2.2.2] at l2 l3
  exact ⟨h0.trans l1, h1.trans l1, h2.trans l2, h3.trans l3, hk⟩

end Cert.Fwd

end
-- ==== Proof.Loss.Pay.lean ====
/- The last norm and the loss: what one grid point computes, read at an index. -/
module

public import proofs.«01_k».proof.Proof.Gen.Kernel7Ideal.Value
public import proofs.«01_k».proof.Proof.Norm.Math
public import Idealize.ShloMosaic.Lib.Pointwise
public import Idealize.ShloMosaic.Lib.Pipeline.ValueKit

@[expose] public section

set_option maxRecDepth 16384

noncomputable section

namespace Cert.Kernel7Ideal.Loss

open Cert.Kernel7Ideal Cert.Kernel7Ideal.Gen Idealize.ShloMosaic Idealize.ShloMosaic.TcCoe Idealize.SL.Sem Cert.Norm

/-- The weight of the residual, and one half. -/
abbrev alpha : EReal := Ideal.ofBits .f32 0x3FB504F3#32
abbrev hlf : EReal := Ideal.ofBits .f32 0x3F000000#32

/-- A row's distance to its target: the norm of the row, times the gain, plus the bias, minus the target. -/
def err (x g b y : Fin 1024 → EReal) (l : Fin 1024) : EReal := scaled x l * g l + b l - y l

/-- A row's mean squared distance. -/
def miss (x g b y : Fin 1024 → EReal) : EReal := Ideal.div (∑ l, err x g b y l * err x g b y l) W

variable (h x y : FVec Ideal S512x1024 .f32) (g b : FVec Ideal S1x1024 .f32) (r : Fin 512) (l : Fin 1024)

theorem u_at (a0 a1 a2 a3 : FVec Ideal S1x512x704 .bf16) (w0 w1 w2 w3 : FVec Ideal S1x704x1024 .bf16) :
    k0_pay2 (F := Ideal) h a0 w0 a1 w1 a2 w2 a3 w3 (ix2 r l)
      = alpha * h (ix2 r l) + (∑ f : Fin 704, a0 (ix3 0 r f) * w0 (ix3 0 f l)) + (∑ f : Fin 704, a1 (ix3 0 r f) * w1 (ix3 0 f l))
        + (∑ f : Fin 704, a2 (ix3 0 r f) * w2 (ix3 0 f l)) + ∑ f : Fin 704, a3 (ix3 0 r f) * w3 (ix3 0 f l) := by
  pointwise [k0_pay2]

theorem err_at : k0_pay4 (F := Ideal) x g b y (ix2 r l)
    = err (fun k => x (ix2 r k)) (fun k => g (ix2 0 k)) (fun k => b (ix2 0 k)) (fun k => y (ix2 r k)) l := by
  pointwise [k0_pay4]
  rfl

theorem dy_at : k0_pay5 (F := Ideal) x g b y (ix2 r l)
    = Ideal.div (err (fun k => x (ix2 r k)) (fun k => g (ix2 0 k)) (fun k => b (ix2 0 k)) (fun k => y (ix2 r k)) l) W := by
  pointwise [k0_pay5]
  rw [err_at]

theorem loss_at (w : FVec Ideal S8x128 .f32) (i : Fin 8) (j : Fin 128) : k0_pay1 (F := Ideal) (k0_pay6 w) (k0_pay7 x g b y) (ix2 i j)
    = w (ix2 i j) + hlf * ∑ r : Fin 512, miss (fun k => x (ix2 r k)) (fun k => g (ix2 0 k)) (fun k => b (ix2 0 k)) (fun k => y (ix2 r k)) := by
  pointwise [k0_pay1, k0_pay6, k0_pay7]
  simp only [err_at]
  rfl

theorem zero_at (i : Fin 8) (j : Fin 128) : k0_pay3 (F := Ideal) (ix2 i j) = 0 := by pointwise [k0_pay3]

end Cert.Kernel7Ideal.Loss

end
-- ==== Proof.Loss.Out.lean ====
/- The last norm and the loss: what the grid points write back, over the whole arrays. -/
module

public import proofs.«01_k».proof.Proof.Loss.Pay
public import Idealize.ShloMosaic.Lib.Pipeline.ReadBack

@[expose] public section

set_option maxRecDepth 16384

noncomputable section

namespace Cert.Kernel7Ideal.Loss

open Cert.Kernel7Ideal Cert.Kernel7Ideal.Gen Idealize.ShloMosaic Idealize.ShloMosaic.TcCoe Idealize.SL.Sem Cert.Norm
open Idealize.ShloMosaic.Pipeline (Dat)

variable (m : (ℓ : Loc nD τ sig) → Buf (Elt Ideal) ℓ) (c : Dev nD)

theorem idx : ∀ t : Fin cfg0.N, win0_0.index t = ![0, t.val, 0] ∧ win0_1.index t = ![0, 0, 0] ∧ win0_2.index t = ![t.val, 0] ∧ win0_3.index t = ![0, 0]
    ∧ win0_4.index t = ![0, 0] ∧ win0_5.index t = ![t.val, 0] ∧ win0_6.index t = ![t.val, 0] ∧ win0_7.index t = ![t.val, 0] ∧ win0_8.index t = ![0, 0] ∧ t.val < 16 :=
  (by decide +kernel : ∀ t : Fin grid0.N, _)

theorem lt (t : Fin cfg0.N) : t.val < 16 := (idx t).2.2.2.2.2.2.2.2.2

/-! The arguments, entry by entry. -/

abbrev A0 (R : Fin 8192) (l : Fin 1024) : EReal := (m ((c : Thread nD τ).loc main_arg0) : FVec Ideal S8192x1024 .f32) (ix2 R l)
abbrev A1 (R : Fin 8192) (f : Fin 2816) : EReal := (m ((c : Thread nD τ).loc main_arg1) : FVec Ideal S8192x2816 .f32) (ix2 R f)
abbrev A2 (f : Fin 2816) (l : Fin 1024) : EReal := (m ((c : Thread nD τ).loc main_arg2) : FVec Ideal S2816x1024 .f32) (ix2 f l)
abbrev A3 (l : Fin 1024) : EReal := (m ((c : Thread nD τ).loc main_arg3) : FVec Ideal S1024 .f32) (ix1 l)
abbrev A4 (l : Fin 1024) : EReal := (m ((c : Thread nD τ).loc main_arg4) : FVec Ideal S1024 .f32) (ix1 l)
abbrev A5 (R : Fin 8192) (l : Fin 1024) : EReal := (m ((c : Thread nD τ).loc main_arg5) : FVec Ideal S8192x1024 .f32) (ix2 R l)

theorem V_a : V m c main_v2 = (truncf (F := Ideal) .bf16 (transpose S4x8192x704 [1, 0, 2] (shapeCast S8192x4x704 (m ((c : Thread nD τ).loc main_arg1) : FVec Ideal S8192x2816 .f32) shapeCasts_S8192x2816_S8192x4x704 : FVec Ideal S8192x4x704 .f32)
    transposes_S8192x4x704_S4x8192x704_1_0_2 : FVec Ideal S4x8192x704 .f32) bitsLt_bf16_f32 : FVec Ideal S4x8192x704 .bf16) := by
  dsimp only [V, hostOps0, List.flatten_cons, List.flatten_nil, List.append_nil, List.cons_append, List.nil_append]
  after_results_simp
  rfl

theorem V_w : V m c main_v4 = (truncf (F := Ideal) .bf16 (shapeCast S4x704x1024 (m ((c : Thread nD τ).loc main_arg2) : FVec Ideal S2816x1024 .f32) shapeCasts_S2816x1024_S4x704x1024 : FVec Ideal S4x704x1024 .f32) bitsLt_bf16_f32 : FVec Ideal S4x704x1024 .bf16) := by
  dsimp only [V, hostOps0, List.flatten_cons, List.flatten_nil, List.append_nil, List.cons_append, List.nil_append]
  after_results_simp
  rfl

theorem V_h : V m c main_arg0 = m ((c : Thread nD τ).loc main_arg0) := by
  dsimp only [V, hostOps0, List.flatten_cons, List.flatten_nil, List.append_nil, List.cons_append, List.nil_append]
  after_results_simp

theorem V_y : V m c main_arg5 = m ((c : Thread nD τ).loc main_arg5) := by
  dsimp only [V, hostOps0, List.flatten_cons, List.flatten_nil, List.append_nil, List.cons_append, List.nil_append]
  after_results_simp

theorem V_g : V m c main_v5 = broadcastInDim S1x1024 ![1] bcast_S1024_S1x1024_1 (m ((c : Thread nD τ).loc main_arg3) : FVec Ideal S1024 .f32) := by
  dsimp only [V, hostOps0, List.flatten_cons, List.flatten_nil, List.append_nil, List.cons_append, List.nil_append]
  after_results_simp

theorem V_b : V m c main_v6 = broadcastInDim S1x1024 ![1] bcast_S1024_S1x1024_1 (m ((c : Thread nD τ).loc main_arg4) : FVec Ideal S1024 .f32) := by
  dsimp only [V, hostOps0, List.flatten_cons, List.flatten_nil, List.append_nil, List.cons_append, List.nil_append]
  after_results_simp

variable (t : Fin cfg0.N) (r : Fin 512)

/-- The array's row of a block's row, and a piece's channel. -/
def row : Fin 8192 := ⟨t.val * 512 + r, by have := lt t; omega⟩
def ch (q : Fin 4) (f : Fin 704) : Fin 2816 := ⟨q.val * 704 + f, by omega⟩

theorem a_read (x : FVec Ideal S8192x2816 .f32) (q : Fin 4) (R : Fin 8192) (f : Fin 704) :
    (truncf (F := Ideal) .bf16 (transpose S4x8192x704 [1, 0, 2] (shapeCast S8192x4x704 x shapeCasts_S8192x2816_S8192x4x704 : FVec Ideal S8192x4x704 .f32)
    transposes_S8192x4x704_S4x8192x704_1_0_2 : FVec Ideal S4x8192x704 .f32) bitsLt_bf16_f32 : FVec Ideal S4x8192x704 .bf16) (ix3 q R f) = x (ix2 R (ch q f)) := by
  unfold ch
  pointwise

theorem w_read (x : FVec Ideal S2816x1024 .f32) (q : Fin 4) (f : Fin 704) (l : Fin 1024) :
    (truncf (F := Ideal) .bf16 (shapeCast S4x704x1024 x shapeCasts_S2816x1024_S4x704x1024 : FVec Ideal S4x704x1024 .f32) bitsLt_bf16_f32 : FVec Ideal S4x704x1024 .bf16) (ix3 q f l) = x (ix2 (ch q f) l) := by
  unfold ch
  pointwise

theorem a_block (q : Fin 4) (f : Fin 704) : (iblk m c 0 t : FVec Ideal S4x512x704 .bf16) (ix3 q r f) = A1 m c (row t r) (ch q f) := by
  show (V m c main_v2) (((cfg0.win 0).blk t).view.emb _) = _
  rw [V_a]
  have e : ((cfg0.win 0).blk t).view.emb (ix3 q r f) = ix3 q (row t r) f := by unfold row; blk_ext [idx t]
  rw [e]
  exact a_read _ q _ f

theorem w_block (q : Fin 4) (f : Fin 704) (l : Fin 1024) : (iblk m c 1 t : FVec Ideal S4x704x1024 .bf16) (ix3 q f l) = A2 m c (ch q f) l := by
  show (V m c main_v4) (((cfg0.win 1).blk t).view.emb _) = _
  rw [V_w]
  have e : ((cfg0.win 1).blk t).view.emb (ix3 q f l) = ix3 q f l := by blk_ext [idx t]
  rw [e]
  exact w_read _ q f l

theorem h_block (l : Fin 1024) : (iblk m c 2 t : FVec Ideal S512x1024 .f32) (ix2 r l) = A0 m c (row t r) l := by
  show (V m c main_arg0) (((cfg0.win 2).blk t).view.emb _) = _
  rw [V_h]
  refine congrArg (m ((c : Thread nD τ).loc main_arg0) : FVec Ideal S8192x1024 .f32) ?_
  unfold row
  blk_ext [idx t]

theorem y_block (l : Fin 1024) : (iblk m c 5 t : FVec Ideal S512x1024 .f32) (ix2 r l) = A5 m c (row t r) l := by
  show (V m c main_arg5) (((cfg0.win 5).blk t).view.emb _) = _
  rw [V_y]
  refine congrArg (m ((c : Thread nD τ).loc main_arg5) : FVec Ideal S8192x1024 .f32) ?_
  unfold row
  blk_ext [idx t]

theorem g_block (z : Fin 1) (l : Fin 1024) : (iblk m c 3 t : FVec Ideal S1x1024 .f32) (ix2 z l) = A3 m c l := by
  show (V m c main_v5) (((cfg0.win 3).blk t).view.emb _) = _
  rw [V_g]
  have e : ((cfg0.win 3).blk t).view.emb (ix2 z l) = ix2 z l := by blk_ext [idx t]
  rw [e]
  pointwise

theorem b_block (z : Fin 1) (l : Fin 1024) : (iblk m c 4 t : FVec Ideal S1x1024 .f32) (ix2 z l) = A4 m c l := by
  show (V m c main_v6) (((cfg0.win 4).blk t).view.emb _) = _
  rw [V_b]
  have e : ((cfg0.win 4).blk t).view.emb (ix2 z l) = ix2 z l := by blk_ext [idx t]
  rw [e]
  pointwise

/-! The results. -/

def U (R : Fin 8192) (l : Fin 1024) : EReal := alpha * A0 m c R l + ∑ f : Fin 2816, A1 m c R f * A2 m c f l

/-- A sum over all channels is the sum over the four pieces. -/
theorem pieces (f : Fin 2816 → EReal) : ∑ k, f k = ∑ q : Fin 4, ∑ j : Fin 704, f (ch q j) := by
  rw [← (finProdFinEquiv (m := 4) (n := 704)).sum_comp f, Fintype.sum_prod_type]
  refine Finset.sum_congr rfl fun q _ => Finset.sum_congr rfl fun j _ => congrArg f (Fin.ext ?_)
  simp [ch, finProdFinEquiv]
  omega

theorem u_row (a0 a1 a2 a3 : FVec Ideal S1x512x704 .bf16) (w0 w1 w2 w3 : FVec Ideal S1x704x1024 .bf16) (l : Fin 1024)
    (ha : ∀ f, a0 (ix3 0 r f) = A1 m c (row t r) (ch 0 f) ∧ a1 (ix3 0 r f) = A1 m c (row t r) (ch 1 f) ∧ a2 (ix3 0 r f) = A1 m c (row t r) (ch 2 f) ∧ a3 (ix3 0 r f) = A1 m c (row t r) (ch 3 f))
    (hw : ∀ f, w0 (ix3 0 f l) = A2 m c (ch 0 f) l ∧ w1 (ix3 0 f l) = A2 m c (ch 1 f) l ∧ w2 (ix3 0 f l) = A2 m c (ch 2 f) l ∧ w3 (ix3 0 f l) = A2 m c (ch 3 f) l) :
    k0_pay2 (F := Ideal) (iblk m c 2 t) a0 w0 a1 w1 a2 w2 a3 w3 (ix2 r l) = U m c (row t r) l := by
  rw [u_at, U, pieces, Fin.sum_univ_four]
  simp only [h_block, ha, hw, add_assoc]

/-- A cut piece of the activations, and of the weight. -/
theorem a_piece (f : Fin 704) :
    View.ld (iblk m c 0 t : FVec Ideal S4x512x704 .bf16) (Rect.unit ![0, 0, 0] ![1, 512, 704] inb_S4x512x704_S1x512x704_0_0_0) (ix3 0 r f) = A1 m c (row t r) (ch 0 f)
    ∧ View.ld (iblk m c 0 t : FVec Ideal S4x512x704 .bf16) (Rect.unit ![1, 0, 0] ![1, 512, 704] inb_S4x512x704_S1x512x704_1_0_0) (ix3 0 r f) = A1 m c (row t r) (ch 1 f)
    ∧ View.ld (iblk m c 0 t : FVec Ideal S4x512x704 .bf16) (Rect.unit ![2, 0, 0] ![1, 512, 704] inb_S4x512x704_S1x512x704_2_0_0) (ix3 0 r f) = A1 m c (row t r) (ch 2 f)
    ∧ View.ld (iblk m c 0 t : FVec Ideal S4x512x704 .bf16) (Rect.unit ![3, 0, 0] ![1, 512, 704] inb_S4x512x704_S1x512x704_3_0_0) (ix3 0 r f) = A1 m c (row t r) (ch 3 f) := by
  simp only [← a_block m c t r]
  refine ⟨?_, ?_, ?_, ?_⟩ <;> pointwise

theorem w_piece (f : Fin 704) (l : Fin 1024) :
    View.ld (iblk m c 1 t : FVec Ideal S4x704x1024 .bf16) (Rect.unit ![0, 0, 0] ![1, 704, 1024] inb_S4x704x1024_S1x704x1024_0_0_0) (ix3 0 f l) = A2 m c (ch 0 f) l
    ∧ View.ld (iblk m c 1 t : FVec Ideal S4x704x1024 .bf16) (Rect.unit ![1, 0, 0] ![1, 704, 1024] inb_S4x704x1024_S1x704x1024_1_0_0) (ix3 0 f l) = A2 m c (ch 1 f) l
    ∧ View.ld (iblk m c 1 t : FVec Ideal S4x704x1024 .bf16) (Rect.unit ![2, 0, 0] ![1, 704, 1024] inb_S4x704x1024_S1x704x1024_2_0_0) (ix3 0 f l) = A2 m c (ch 2 f) l
    ∧ View.ld (iblk m c 1 t : FVec Ideal S4x704x1024 .bf16) (Rect.unit ![3, 0, 0] ![1, 704, 1024] inb_S4x704x1024_S1x704x1024_3_0_0) (ix3 0 f l) = A2 m c (ch 3 f) l := by
  simp only [← w_block m c t]
  refine ⟨?_, ?_, ?_, ?_⟩ <;> pointwise

/-- The residual stream's block. -/
abbrev ublk : FVec Ideal S512x1024 .f32 := k0_pay2 (F := Ideal) (iblk m c 2 t)
  (View.ld (iblk m c 0 t : FVec Ideal S4x512x704 .bf16) (Rect.unit ![0, 0, 0] ![1, 512, 704] inb_S4x512x704_S1x512x704_0_0_0))
  (View.ld (iblk m c 1 t : FVec Ideal S4x704x1024 .bf16) (Rect.unit ![0, 0, 0] ![1, 704, 1024] inb_S4x704x1024_S1x704x1024_0_0_0))
  (View.ld (iblk m c 0 t : FVec Ideal S4x512x704 .bf16) (Rect.unit ![1, 0, 0] ![1, 512, 704] inb_S4x512x704_S1x512x704_1_0_0))
  (View.ld (iblk m c 1 t : FVec Ideal S4x704x1024 .bf16) (Rect.unit ![1, 0, 0] ![1, 704, 1024] inb_S4x704x1024_S1x704x1024_1_0_0))
  (View.ld (iblk m c 0 t : FVec Ideal S4x512x704 .bf16) (Rect.unit ![2, 0, 0] ![1, 512, 704] inb_S4x512x704_S1x512x704_2_0_0))
  (View.ld (iblk m c 1 t : FVec Ideal S4x704x1024 .bf16) (Rect.unit ![2, 0, 0] ![1, 704, 1024] inb_S4x704x1024_S1x704x1024_2_0_0))
  (View.ld (iblk m c 0 t : FVec Ideal S4x512x704 .bf16) (Rect.unit ![3, 0, 0] ![1, 512, 704] inb_S4x512x704_S1x512x704_3_0_0))
  (View.ld (iblk m c 1 t : FVec Ideal S4x704x1024 .bf16) (Rect.unit ![3, 0, 0] ![1, 704, 1024] inb_S4x704x1024_S1x704x1024_3_0_0))

theorem ublk_at (l : Fin 1024) : ublk m c t (ix2 r l) = U m c (row t r) l :=
  u_row m c t r _ _ _ _ _ _ _ _ l (a_piece m c t r) fun f => w_piece m c t f l

/-- A row's gradient at the loss, and its share of the loss. -/
def G7 (R : Fin 8192) (l : Fin 1024) : EReal := Ideal.div (err (U m c R) (A3 m c) (A4 m c) (A5 m c R) l) W
def T8 (K : ℕ) : EReal := if h : K < 8192 then miss (U m c ⟨K, h⟩) (A3 m c) (A4 m c) (A5 m c ⟨K, h⟩) else 0
def G8 : EReal := hlf * ∑ R : Fin 8192, miss (U m c R) (A3 m c) (A4 m c) (A5 m c R)

theorem dy (l : Fin 1024) : k0_pay5 (F := Ideal) (ublk m c t) (iblk m c 3 t) (iblk m c 4 t) (iblk m c 5 t) (ix2 r l) = G7 m c (row t r) l := by
  rw [dy_at]
  simp only [ublk_at, g_block, b_block, y_block]
  rfl

theorem loss (w : FVec Ideal S8x128 .f32) (i : Fin 8) (j : Fin 128) :
    k0_pay1 (F := Ideal) (k0_pay6 w) (k0_pay7 (ublk m c t) (iblk m c 3 t) (iblk m c 4 t) (iblk m c 5 t)) (ix2 i j)
      = w (ix2 i j) + hlf * ∑ K ∈ Finset.Ico (t.val * 512) ((t.val + 1) * 512), T8 m c K := by
  rw [loss_at]
  simp only [ublk_at, g_block, b_block, y_block]
  rw [Finset.sum_Ico_eq_sum_range, show (t.val + 1) * 512 - t.val * 512 = 512 by omega, Finset.sum_range]
  refine congrArg (fun z => _ + hlf * z) (Finset.sum_congr rfl fun r _ => ?_)
  rw [T8, dif_pos (show t.val * 512 + r.val < 8192 from (row t r).isLt)]
  rfl

theorem hlf_eq : hlf = ((1 / 2 : ℝ) : EReal) := by
  simp [hlf, Ideal.ofBits, Ideal.ieee, -EReal.coe_mul]; norm_num

theorem hlf_add (x y : EReal) : hlf * (x + y) = hlf * x + hlf * y := by
  rw [hlf_eq]
  exact EReal.left_distrib_of_nonneg_of_ne_top (by norm_num) (EReal.coe_ne_top _) _ _

theorem carry8 (n : ℕ) (hn : n < cfg0.N) (i : Fin 8) (j : Fin 128) :
    (outsAt0 m c n hn).2.2 (ix2 i j) = hlf * ∑ K ∈ Finset.range ((n + 1) * 512), T8 m c K := by
  have hN : n < 16 := lt_of_lt_of_eq hn N_0
  induction n with
  | zero =>
    rw [outsAt0_A m c ⟨0, hn⟩ rfl]; frame_out
    refine (loss m c ⟨0, hn⟩ _ i j).trans ?_
    rw [zero_at, zero_add, Finset.range_eq_Ico]
    simp only [zero_mul]
  | succ n ih =>
    rw [outsAt0_B m c ⟨n + 1, hn⟩ (by dsimp only; omega)]; frame_out
    refine (loss m c ⟨n + 1, hn⟩ _ i j).trans ?_
    rw [Finset.range_eq_Ico, ← Finset.sum_Ico_consecutive _ (Nat.zero_le ((n + 1) * 512)) (by omega), ← Finset.range_eq_Ico, hlf_add]
    exact congrArg (· + _) (ih (Nat.lt_of_succ_lt hn) (by omega))

theorem sum8 : hlf * ∑ K ∈ Finset.range ((15 + 1) * 512), T8 m c K = G8 m c := by
  rw [G8, show (15 + 1) * 512 = 8192 from rfl, Finset.sum_range]
  exact congrArg (hlf * ·) (Finset.sum_congr rfl fun R _ => by rw [T8, dif_pos R.isLt])

theorem out6 (l : Fin 1024) : (outsAt0 m c t.val t.isLt).1 (ix2 r l) = U m c (row t r) l := by
  by_cases h0 : t.val % 16 = 0
  · rw [outsAt0_A m c t h0]; frame_out
    exact ublk_at m c t r l
  · rw [outsAt0_B m c t h0]; frame_out
    exact ublk_at m c t r l

theorem out7 (l : Fin 1024) : (outsAt0 m c t.val t.isLt).2.1 (ix2 r l) = G7 m c (row t r) l := by
  by_cases h0 : t.val % 16 = 0
  · rw [outsAt0_A m c t h0]; frame_out
    exact dy m c t r l
  · rw [outsAt0_B m c t h0]; frame_out
    exact dy m c t r l

theorem final6 : (dats m 0 c).arrAt 6 cfg0.N = fun i : S8192x1024.Idx => U m c (i 0) (i 1) := by
  refine (dats m 0 c).arrAt_eq_of_covers 6 _ (by decide +kernel) fun t _ y => ?_
  have ht := lt t
  blk_simp
  rw [after0_6]
  idx_vars y
  rw [out6]
  refine congrArg₂ (U m c) (Fin.ext ?_) (Fin.ext ?_)
  all_goals (blk_simp [idx t, row] <;> try omega)

theorem final7 : (dats m 0 c).arrAt 7 cfg0.N = fun i : S8192x1024.Idx => G7 m c (i 0) (i 1) := by
  refine (dats m 0 c).arrAt_eq_of_covers 7 _ (by decide +kernel) fun t _ y => ?_
  have ht := lt t
  blk_simp
  rw [after0_7]
  idx_vars y
  rw [out7]
  refine congrArg₂ (G7 m c) (Fin.ext ?_) (Fin.ext ?_)
  all_goals (blk_simp [idx t, row] <;> try omega)

theorem last8 : ∀ t : Fin cfg0.N, (cfg0.win 8).flush t = true → t.val = 15 :=
  (by decide +kernel : ∀ t : Fin grid0.N, _)

theorem final8 : (dats m 0 c).arrAt 8 cfg0.N = fun _ : S8x128.Idx => G8 m c := by
  refine (dats m 0 c).arrAt_eq_of_covers 8 _ (by decide +kernel) fun t hf y => ?_
  have ht := last8 t hf
  blk_simp
  rw [after0_8]
  idx_vars y
  rw [carry8, ht, sum8]

end Cert.Kernel7Ideal.Loss

end
-- ==== Proof.Loss.Ref.lean ====
/- The norm, the loss and its derivative as the reference prints them, entry by entry. -/
module

public import proofs.«01_k».proof.Proof.Loss.Pay
public import proofs.«01_k».proof.Proof.Norm.RefTerm
public import proofs.«01_k».proof.Proof.Gen.Reference7Ideal.Run

@[expose] public section

set_option maxRecDepth 16384

noncomputable section

namespace Cert.Reference7Ideal.Loss

open Cert.Reference7Ideal Cert.Reference7Ideal.Gen Idealize.ShloMosaic Idealize.ShloMosaic.TcCoe Idealize.SL.Sem Cert.Norm
open Cert.Reference3Ideal.Norm (preT scaledT scaledT_at sumT sumT_at at')
open Cert.Kernel7Ideal.Loss (err miss hlf alpha)

variable (u y : FVec Ideal S8192x1024 .f32) (g b : FVec Ideal S1024 .f32)

def spreadRow (g : FVec Ideal S1024 .f32) : FVec Ideal S8192x1024 .f32 :=
  broadcastInDim S8192x1024 ![0, 1] bcast_S1x1024_S8192x1024_0_1 (broadcastInDim S1x1024 ![1] bcast_S1024_S1x1024_1 g)
def errT : FVec Ideal S8192x1024 .f32 := subf (addf (mulf (scaledT u) (spreadRow g)) (spreadRow b)) y
def missT : FVec Ideal S8192 .f32 := Host.divf (sumT (mulf (errT u y g b) (errT u y g b))) (broadcastInDim S8192 ![] bcast_S_S8192 (constant S_ .f32 0x44800000#32))
def lossT : FVec Ideal S8x128 .f32 :=
  broadcastInDim S8x128 ![] bcast_S_S8x128 (mulf (constant S_ .f32 0x3F000000#32) (Host.reduceAdd (missT u y g b) (constant S_ .f32 0x00000000#32) reducesTo_S8192_S_d0 h_S_))
def dyT : FVec Ideal S8192x1024 .f32 :=
  mulf (broadcastInDim S8192x1024 ![0] bcast_S8192_S8192x1024_0 (Host.divf (broadcastInDim S8192 ![] bcast_S_S8192 (mulf (constant S_ .f32 0x3F000000#32) (constant S_ .f32 0x3F800000#32)))
    (broadcastInDim S8192 ![] bcast_S_S8192 (constant S_ .f32 0x44800000#32)))) (mulf (broadcastInDim S8192x1024 ![] bcast_S_S8192x1024 (constant S_ .f32 0x40000000#32)) (errT u y g b))

variable (R : Fin 8192) (l : Fin 1024)

abbrev row (g : FVec Ideal S1024 .f32) (l : Fin 1024) : EReal := g (ix1 l)

theorem spreadRow_at : spreadRow g (ix2 R l) = row g l := by pointwise [spreadRow]
theorem errT_at : errT u y g b (ix2 R l) = err (at' u R) (row g) (row b) (at' y R) l := by
  pointwise [errT, spreadRow_at, scaledT_at]
  rfl
theorem missT_at : missT u y g b (ix1 R) = miss (at' u R) (row g) (row b) (at' y R) := by
  pointwise [missT, sumT_at, errT_at]
  rfl
theorem lossT_at (i : Fin 8) (j : Fin 128) : lossT u y g b (ix2 i j) = hlf * ∑ R : Fin 8192, miss (at' u R) (row g) (row b) (at' y R) := by
  pointwise [lossT, missT_at]
theorem dyT_at : dyT u y g b (ix2 R l) = Ideal.div (hlf * Ideal.ofBits .f32 0x3F800000#32) W * (two * err (at' u R) (row g) (row b) (at' y R) l) := by
  pointwise [dyT, errT_at]
theorem preT_at (h : FVec Ideal S8192x1024 .f32) (a : FVec Ideal S8192x2816 .f32) (w : FVec Ideal S2816x1024 .f32) :
    preT h a w (ix2 R l) = alpha * h (ix2 R l) + ∑ f : Fin 2816, a (ix2 R f) * w (ix2 f l) := by
  pointwise [preT]

variable (m : (ℓ : Loc nD τ sig) → Buf (Elt Ideal) ℓ) (c : Dev nD)

abbrev uT : FVec Ideal S8192x1024 .f32 := preT (m ((c : Thread nD τ).loc main_arg0)) (m ((c : Thread nD τ).loc main_arg1)) (m ((c : Thread nD τ).loc main_arg2))

theorem r43 : Value.res_main_v43 m c = lossT (uT m c) (m ((c : Thread nD τ).loc main_arg5)) (m ((c : Thread nD τ).loc main_arg3)) (m ((c : Thread nD τ).loc main_arg4)) := by
  unfold Value.res_main_v43
  rfl

end Cert.Reference7Ideal.Loss

end
-- ==== Proof.Loss.Claim.lean ====
/- The last norm, the loss and its derivative: kernel and reference end with one set of arrays. -/
module

public import proofs.«01_k».proof.Defs
public import proofs.«01_k».proof.Proof.Loss.Out
public import proofs.«01_k».proof.Proof.Loss.Ref

@[expose] public section

set_option maxRecDepth 16384

noncomputable section

namespace Cert.Loss

open Idealize.ShloMosaic Idealize.ShloMosaic.TcCoe Idealize.SL.Sem Cert.Norm
open Cert.Kernel7Ideal Cert.Kernel7Ideal.Loss
open Cert.Reference7Ideal.Loss (uT lossT lossT_at dyT dyT_at)
open Cert.Reference3Ideal.Norm (preT)

theorem one_eq : Ideal.ofBits .f32 0x3F800000#32 = ((1 : ℝ) : EReal) := by
  simp [Ideal.ofBits, Ideal.ieee, -EReal.coe_mul]; norm_num

/-- The derivative of half the mean of the squares is the mean's share of the distance. -/
theorem share (e : EReal) : Ideal.div (hlf * Ideal.ofBits .f32 0x3F800000#32) W * (two * e) = Ideal.div e W := by
  have n0 : (1024 : ℝ) ≠ 0 := by norm_num
  rw [hlf_eq, one_eq, W_eq, two_eq, Ideal.div_coe n0, Ideal.div_coe n0, ← mul_assoc, ← EReal.coe_mul, ← EReal.coe_mul, ← EReal.coe_mul, mul_comm]
  norm_num

section
variable (m : (ℓ : Loc nD τ sig) → Buf (Elt Ideal) ℓ) (c : Dev nD)

abbrev pre : FVec Ideal S8192x1024 .f32 := preT (m ((c : Thread nD τ).loc main_arg0)) (m ((c : Thread nD τ).loc main_arg1)) (m ((c : Thread nD τ).loc main_arg2))

theorem pre_at (R : Fin 8192) (l : Fin 1024) : pre m c (ix2 R l) = U m c R l := Cert.Reference7Ideal.Loss.preT_at _ _ _ _ _

theorem pre_row (R : Fin 8192) : Cert.Reference3Ideal.Norm.at' (pre m c) R = U m c R := funext fun l => pre_at m c R l

theorem u_eq : (fun i : S8192x1024.Idx => U m c (i 0) (i 1)) = pre m c := by
  funext i
  rw [eq_ix2 i]
  exact (pre_at m c _ _).symm

theorem dy_row (R : Fin 8192) (l : Fin 1024) : G7 m c R l = dyT (pre m c) (m ((c : Thread nD τ).loc main_arg5)) (m ((c : Thread nD τ).loc main_arg3)) (m ((c : Thread nD τ).loc main_arg4)) (ix2 R l) := by
  refine Eq.trans ?_ (dyT_at _ _ _ _ _ _).symm
  rw [share, pre_row]
  rfl

theorem loss_row (i : Fin 8) (j : Fin 128) : G8 m c = lossT (pre m c) (m ((c : Thread nD τ).loc main_arg5)) (m ((c : Thread nD τ).loc main_arg3)) (m ((c : Thread nD τ).loc main_arg4)) (ix2 i j) := by
  refine Eq.trans ?_ (lossT_at _ _ _ _ _ _).symm
  simp only [pre_row]
  rfl

theorem dy_eq : (fun i : S8192x1024.Idx => G7 m c (i 0) (i 1)) = dyT (pre m c) (m ((c : Thread nD τ).loc main_arg5)) (m ((c : Thread nD τ).loc main_arg3)) (m ((c : Thread nD τ).loc main_arg4)) := by
  funext i
  rw [eq_ix2 i]
  exact dy_row m c _ _

theorem loss_eq : (fun _ : S8x128.Idx => G8 m c) = lossT (pre m c) (m ((c : Thread nD τ).loc main_arg5)) (m ((c : Thread nD τ).loc main_arg3)) (m ((c : Thread nD τ).loc main_arg4)) := by
  funext i
  rw [eq_ix2 i]
  exact loss_row m c _ _

end

/-- The kernel ends with the norm's sum, the loss and the loss's derivative. -/
theorem algebraic : Cert.algebraic_Kernel7Ideal_Reference7Ideal := by
  intro m ρ m' ρ' _ hag
  refine ⟨fun c => fun i => U m c (i 0) (i 1), fun c => fun i => G7 m c (i 0) (i 1), fun c => fun _ => G8 m c, ?_, ?_⟩
  · refine (θ_run _ _ _).mono (fun r h c => ?_) (Cert.Kernel7Ideal.Value.run_blocks m ρ)
    obtain ⟨h6, h7, h8, hk⟩ := h c
    exact ⟨h6.trans (final6 m c), h7.trans (final7 m c), h8.trans (final8 m c), hk⟩
  · refine (θ_run _ _ _).mono (fun r h c => ?_) (Cert.Reference7Ideal.Value.run m' ρ')
    obtain ⟨h6, h7, h8, hk⟩ := h c
    obtain ⟨e0, e1, e2, e3, e4, e5⟩ := hag c
    have w6 := h6.trans (show _ = uT m' c from rfl)
    have w7 := h7.trans (show _ = dyT (uT m' c) (m' ((c : Thread Cert.Reference7Ideal.nD Cert.Reference7Ideal.τ).loc Cert.Reference7Ideal.main_arg5))
      (m' ((c : Thread Cert.Reference7Ideal.nD Cert.Reference7Ideal.τ).loc Cert.Reference7Ideal.main_arg3)) (m' ((c : Thread Cert.Reference7Ideal.nD Cert.Reference7Ideal.τ).loc Cert.Reference7Ideal.main_arg4)) from rfl)
    have w8 := h8.trans (Cert.Reference7Ideal.Loss.r43 m' c)
    unfold uT at w6 w7 w8
    rw [e0, e1, e2] at w6
    rw [e0, e1, e2, e3, e4, e5] at w7 w8
    exact ⟨w6.trans (u_eq m c).symm, w7.trans (dy_eq m c).symm, w8.trans (loss_eq m c).symm, hk⟩

end Cert.Loss

end
-- ==== Proof.Stats.Pay.lean ====
/- The saved rows of the attention's gradient: what one grid point computes for a pair of heads, entry by entry. -/
module

public import proofs.«01_k».proof.Proof.Gen.Kernel9Ideal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel9Ideal.Stats

open Cert.Kernel9Ideal Cert.Kernel9Ideal.Gen Idealize.ShloMosaic Idealize.ShloMosaic.TcCoe Idealize.SL.Sem

variable (d : FVec Ideal S512x128 .bf16) (o m l : FVec Ideal S512x128 .f32) (r : Fin 512)

abbrev lanes : IVec S1x128 32 := iota .tc S1x128 32 [1] iota_S1x128_d1_w32

/-- A pair's eight saved rows, and the gradient of its first and second head alone. -/
def rows : FVec Ideal S1x8x512 .f32 :=
  k0_pay13 (F := Ideal) lanes (k0_pay5 l) (k0_pay10 lanes (k0_pay4 m) (k0_pay5 l) (k0_pay7 m) (k0_pay8 d o)) (k0_pay11 lanes) (k0_pay12 (k0_pay3 d o))
def even : FVec Ideal S512x128 .bf16 := k0_pay6 (F := Ideal) d
def odd : FVec Ideal S512x128 .bf16 := k0_pay9 (F := Ideal) (k0_pay2 d)

/-- The first and the second half of the lanes. -/
theorem second : ∀ j : Fin 128, IntOp.cmpi .sge (BitVec.ofNat 32 j.val) 64#32 = if j.val < 64 then 0#1 else 1#1 := by decide +kernel
theorem first : ∀ j : Fin 128, IntOp.xori (IntOp.cmpi .sge (BitVec.ofNat 32 j.val) 64#32) 1#1 = if j.val < 64 then 1#1 else 0#1 := by decide +kernel

theorem even_at (j : Fin 128) : even d (ix2 r j) = if j.val < 64 then d (ix2 r j) else 0 := by
  pointwise [even, k0_pay6, k0_pay2]
  rw [first]
  split <;> rfl

theorem odd_at (j : Fin 128) : odd d (ix2 r j) = if j.val < 64 then 0 else d (ix2 r j) := by
  pointwise [odd, k0_pay9, k0_pay2]
  rw [second]
  split <;> rfl

/-- A sum over one half of the lanes. -/
theorem sum_first (f : Fin 128 → EReal) : ∑ j, Scalar.select (IntOp.xori (IntOp.cmpi .sge (BitVec.ofNat 32 j.val) 64#32) 1#1) (f j) 0 = ∑ x : Fin 64, f ⟨x.val, by omega⟩ := by
  rw [show (∑ j, Scalar.select (IntOp.xori (IntOp.cmpi .sge (BitVec.ofNat 32 j.val) 64#32) 1#1) (f j) 0) = ∑ j : Fin (64 + 64), if j.val < 64 then f j else 0 from
    Finset.sum_congr rfl fun j _ => by rw [first]; split <;> rfl, Fin.sum_univ_add]
  simp [Fin.castAdd, Fin.castLE]

theorem sum_second (f : Fin 128 → EReal) : ∑ j, Scalar.select (IntOp.cmpi .sge (BitVec.ofNat 32 j.val) 64#32) (f j) 0 = ∑ x : Fin 64, f ⟨64 + x.val, by omega⟩ := by
  rw [show (∑ j, Scalar.select (IntOp.cmpi .sge (BitVec.ofNat 32 j.val) 64#32) (f j) 0) = ∑ j : Fin (64 + 64), if j.val < 64 then 0 else f j from
    Finset.sum_congr rfl fun j _ => by rw [second]; split <;> rfl, Fin.sum_univ_add]
  simp [Fin.natAdd]

/-- Row `k` of a pair of heads: the levels, the products' sums, the inverted sums, and two rows of zeros. -/
def saved (mv lv : Fin 128 → EReal) (dv : Fin 128 → EReal) (k : Fin 8) : EReal :=
  ![mv 0, mv 64, ∑ x : Fin 64, dv ⟨x.val, by omega⟩, ∑ x : Fin 64, dv ⟨64 + x.val, by omega⟩, Ideal.div 1 (lv 0), Ideal.div 1 (lv 64), 0, 0] k

theorem rows_at (z : Fin 1) (k : Fin 8) : rows d o m l (ix3 z k r) = saved (fun j => m (ix2 r j)) (fun j => l (ix2 r j)) (fun j => o (ix2 r j) * d (ix2 r j)) k := by
  fin_cases k
  all_goals
    pointwise [rows, k0_pay13, k0_pay10, k0_pay11, k0_pay12, k0_pay3, k0_pay4, k0_pay5, k0_pay7, k0_pay8, k0_pay2]
    try simp only [sum_first (fun j => o (ix2 r j) * d (ix2 r j)), sum_second (fun j => o (ix2 r j) * d (ix2 r j))]
    rfl

end Cert.Kernel9Ideal.Stats

end
-- ==== Proof.Stats.Out.lean ====
/- The saved rows of the attention's gradient: what the grid points write back, over the whole arrays. -/
module

public import proofs.«01_k».proof.Proof.Stats.Pay
public import proofs.«01_k».proof.Proof.Fwd.Ref

@[expose] public section

set_option maxRecDepth 16384

noncomputable section

namespace Cert.Kernel9Ideal.Stats

open Cert.Kernel9Ideal Cert.Kernel9Ideal.Gen Idealize.ShloMosaic Idealize.ShloMosaic.TcCoe Idealize.SL.Sem
open Cert.Kernel2Ideal.Fox (scoresT sumT expT levelT hx dx)
open Cert.Reference2Ideal.Fox (weightT flatT flat_at)
open Cert.Reference8Ideal.Fwd (mixT shareT spreadT spread_at)

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![0, 0, t.val] ∧ t.val < 16 :=
  (by decide +kernel : ∀ t : Fin grid0.N, _)

theorem lt (t : Fin cfg0.N) : t.val < 16 := (idx t).2.2.2.2.2.2

/-! The saved values. -/

section
variable (q k v : FVec Ideal S8192x8x64 .f32) (g : FVec Ideal S8192x8 .f32)
def oT : FVec Ideal S8192x8x64 .f32 := mixT v (shareT (weightT (scoresT q k g)))
def mT : FVec Ideal S8x8192 .f32 := levelT (scoresT q k g)
def lT : FVec Ideal S8x8192 .f32 := sumT (expT (scoresT q k g) (levelT (scoresT q k g)))
end

abbrev oV : FVec Ideal S8192x8x64 .f32 := oT (m ((c : Thread nD τ).loc main_arg0)) (m ((c : Thread nD τ).loc main_arg1)) (m ((c : Thread nD τ).loc main_arg2)) (m ((c : Thread nD τ).loc main_arg3))
abbrev mV : FVec Ideal S8x8192 .f32 := mT (m ((c : Thread nD τ).loc main_arg0)) (m ((c : Thread nD τ).loc main_arg1)) (m ((c : Thread nD τ).loc main_arg3))
abbrev lV : FVec Ideal S8x8192 .f32 := lT (m ((c : Thread nD τ).loc main_arg0)) (m ((c : Thread nD τ).loc main_arg1)) (m ((c : Thread nD τ).loc main_arg3))
abbrev dV : FVec Ideal S8192x8x64 .f32 := m ((c : Thread nD τ).loc main_arg4)

theorem V_o : V m c main_v63 = flatT (oV m c) := by
  dsimp only [V, hostOps0, hostOps0_1, hostOps0_2, hostOps0_3, hostOps0_4, List.flatten_cons, List.flatten_nil, List.append_nil, List.cons_append, List.nil_append]
  simp only [StableHlo.TRef.ternary, StableHlo.TRef.binary, StableHlo.TRef.unary, StableHlo.TRef.toBuf, StableHlo.TRef.ofBuf, cast_eq]
  after_results_simp
  rfl

theorem V_d : V m c main_v65 = truncf (F := Ideal) .bf16 (flatT (dV m c)) bitsLt_bf16_f32 := by
  dsimp only [V, hostOps0, hostOps0_1, hostOps0_2, hostOps0_3, hostOps0_4, List.flatten_cons, List.flatten_nil, List.append_nil, List.cons_append, List.nil_append]
  simp only [StableHlo.TRef.ternary, StableHlo.TRef.binary, StableHlo.TRef.unary, StableHlo.TRef.toBuf, StableHlo.TRef.ofBuf, cast_eq]
  after_results_simp
  rfl

theorem V_m : V m c main_v68 = spreadT (mV m c) := by
  dsimp only [V, hostOps0, hostOps0_1, hostOps0_2, hostOps0_3, hostOps0_4, List.flatten_cons, List.flatten_nil, List.append_nil, List.cons_append, List.nil_append]
  simp only [StableHlo.TRef.ternary, StableHlo.TRef.binary, StableHlo.TRef.unary, StableHlo.TRef.toBuf, StableHlo.TRef.ofBuf, cast_eq]
  after_results_simp
  rfl

theorem V_l : V m c main_v71 = spreadT (lV m c) := by
  dsimp only [V, hostOps0, hostOps0_1, hostOps0_2, hostOps0_3, hostOps0_4, List.flatten_cons, List.flatten_nil, List.append_nil, List.cons_append, List.nil_append]
  simp only [StableHlo.TRef.ternary, StableHlo.TRef.binary, StableHlo.TRef.unary, StableHlo.TRef.toBuf, StableHlo.TRef.ofBuf, cast_eq]
  after_results_simp
  rfl

variable (t : Fin cfg0.N) (r : Fin 512) (z : Fin 512)

/-- The array's row of a block's row. -/
def row : Fin 8192 := ⟨t.val * 512 + r, by have := lt t; omega⟩

theorem o_block : (iblk m c 0 t : FVec Ideal S512x512 .f32) (ix2 r z) = oV m c (ix3 (row t r) (hx z) (dx z)) := by
  show (V m c main_v63) (((cfg0.win 0).blk t).view.emb _) = _
  rw [V_o]
  have e : ((cfg0.win 0).blk t).view.emb (ix2 r z) = ix2 (row t r) z := by unfold row; blk_ext [idx t]
  rw [e]
  exact flat_at _ _ _

theorem d_block : (iblk m c 1 t : FVec Ideal S512x512 .bf16) (ix2 r z) = dV m c (ix3 (row t r) (hx z) (dx z)) := by
  show (V m c main_v65) (((cfg0.win 1).blk t).view.emb _) = _
  rw [V_d]
  have e : ((cfg0.win 1).blk t).view.emb (ix2 r z) = ix2 (row t r) z := by unfold row; blk_ext [idx t]
  rw [e]
  exact flat_at _ _ _

theorem m_block : (iblk m c 2 t : FVec Ideal S512x512 .f32) (ix2 r z) = mV m c (ix2 (hx z) (row t r)) := by
  show (V m c main_v68) (((cfg0.win 2).blk t).view.emb _) = _
  rw [V_m]
  have e : ((cfg0.win 2).blk t).view.emb (ix2 r z) = ix2 (row t r) z := by unfold row; blk_ext [idx t]
  rw [e]
  exact spread_at _ _ _

theorem l_block : (iblk m c 3 t : FVec Ideal S512x512 .f32) (ix2 r z) = lV m c (ix2 (hx z) (row t r)) := by
  show (V m c main_v71) (((cfg0.win 3).blk t).view.emb _) = _
  rw [V_l]
  have e : ((cfg0.win 3).blk t).view.emb (ix2 r z) = ix2 (row t r) z := by unfold row; blk_ext [idx t]
  rw [e]
  exact spread_at _ _ _

/-! The results, for the four pairs of heads. -/

def lane (p : Fin 4) (j : Fin 128) : Fin 512 := ⟨p.val * 128 + j, by omega⟩
def hd (p : Fin 4) (s : Fin 2) : Fin 8 := ⟨p.val * 2 + s, by omega⟩

theorem hx_first (p : Fin 4) (x : Fin 64) : hx (lane p ⟨x.val, by omega⟩) = hd p 0 ∧ dx (lane p ⟨x.val, by omega⟩) = x := by
  constructor <;> apply Fin.ext <;> simp only [hx, dx, lane, hd] <;> (try simp) <;> omega

theorem hx_second (p : Fin 4) (x : Fin 64) : hx (lane p ⟨64 + x.val, by omega⟩) = hd p 1 ∧ dx (lane p ⟨64 + x.val, by omega⟩) = x := by
  constructor <;> apply Fin.ext <;> simp only [hx, dx, lane, hd] <;> (try simp) <;> omega

/-- A row of a pair's saved rows, and a lane of the spread gradient. -/
def dot (h : Fin 8) (R : Fin 8192) : EReal := ∑ x : Fin 64, oV m c (ix3 R h x) * dV m c (ix3 R h x)
def G5 (p : Fin 4) (k : Fin 8) (R : Fin 8192) : EReal :=
  ![mV m c (ix2 (hd p 0) R), mV m c (ix2 (hd p 1) R), dot m c (hd p 0) R, dot m c (hd p 1) R, Ideal.div 1 (lV m c (ix2 (hd p 0) R)), Ideal.div 1 (lV m c (ix2 (hd p 1) R)), 0, 0] k
def G4 (p : Fin 4) (s : Fin 2) (j : Fin 128) (R : Fin 8192) : EReal :=
  if j.val / 64 = s.val then dV m c (ix3 R (hd p s) ⟨j.val % 64, by omega⟩) else 0

theorem rows_blk (p : Fin 4) (d : FVec Ideal S512x128 .bf16) (o μ l : FVec Ideal S512x128 .f32) (y : Fin 1) (k : Fin 8)
    (hd' : ∀ j, d (ix2 r j) = dV m c (ix3 (row t r) (hx (lane p j)) (dx (lane p j)))) (ho : ∀ j, o (ix2 r j) = oV m c (ix3 (row t r) (hx (lane p j)) (dx (lane p j))))
    (hm : ∀ j, μ (ix2 r j) = mV m c (ix2 (hx (lane p j)) (row t r))) (hl : ∀ j, l (ix2 r j) = lV m c (ix2 (hx (lane p j)) (row t r))) :
    rows d o μ l (ix3 y k r) = G5 m c p k (row t r) := by
  have a0 := hx_first p 0
  have a1 := hx_second p 0
  simp only [rows_at, saved, hd', ho, hm, hl, hx_first, hx_second, G5, dot]
  rw [show (0 : Fin 128) = ⟨(0 : Fin 64).val, by omega⟩ from rfl, show (64 : Fin 128) = ⟨64 + (0 : Fin 64).val, by omega⟩ from rfl, a0.1, a1.1]

theorem even_blk (p : Fin 4) (d : FVec Ideal S512x128 .bf16) (j : Fin 128) (hd' : ∀ j, d (ix2 r j) = dV m c (ix3 (row t r) (hx (lane p j)) (dx (lane p j)))) :
    even d (ix2 r j) = G4 m c p 0 j (row t r) := by
  rw [even_at, G4, hd']
  by_cases h : j.val < 64
  · rw [if_pos h, if_pos (show j.val / 64 = (0 : Fin 2).val by show j.val / 64 = 0; omega)]
    congr 2 <;> apply Fin.ext <;> simp only [hx, dx, lane, hd] <;> (try simp) <;> omega
  · rw [if_neg h, if_neg (show ¬ j.val / 64 = (0 : Fin 2).val by show ¬ j.val / 64 = 0; omega)]

theorem odd_blk (p : Fin 4) (d : FVec Ideal S512x128 .bf16) (j : Fin 128) (hd' : ∀ j, d (ix2 r j) = dV m c (ix3 (row t r) (hx (lane p j)) (dx (lane p j)))) :
    odd d (ix2 r j) = G4 m c p 1 j (row t r) := by
  rw [odd_at, G4, hd']
  by_cases h : j.val < 64
  · rw [if_pos h, if_neg (show ¬ j.val / 64 = (1 : Fin 2).val by show ¬ j.val / 64 = 1; omega)]
  · rw [if_neg h, if_pos (show j.val / 64 = (1 : Fin 2).val by show j.val / 64 = 1; omega)]
    congr 2 <;> apply Fin.ext <;> simp only [hx, dx, lane, hd] <;> (try simp) <;> omega

/-- A pair's lanes of a block. -/
theorem piece {e : EltTy} (x : Vec Ideal S512x512 e) (j : Fin 128) :
    View.ld x r0_0 (ix2 r j) = x (ix2 r (lane 0 j)) ∧ View.ld x r0_4 (ix2 r j) = x (ix2 r (lane 1 j))
    ∧ View.ld x r0_8 (ix2 r j) = x (ix2 r (lane 2 j)) ∧ View.ld x r0_12 (ix2 r j) = x (ix2 r (lane 3 j)) := by
  refine ⟨?_, ?_, ?_, ?_⟩ <;> unfold lane <;> pointwise

theorem out5 (p : Fin 4) (k : Fin 8) : out0_5 (F := Ideal) (iblk m c 0 t) (iblk m c 1 t) (iblk m c 2 t) (iblk m c 3 t) (ix3 p k r) = G5 m c p k (row t r) := by
  unfold out0_5
  canon_tiles x h
  all_goals
    idx_vars x
    obtain rfl : k = x1 := Fin.ext h1
    obtain rfl : r = x2 := Fin.ext h2
  · obtain rfl : p = 3 := Fin.ext (by have : p.val = 3 + x0.val := h0; omega)
    refine Eq.trans (show _ = rows (View.ld (iblk m c 1 t) r0_12) (View.ld (iblk m c 0 t) r0_12) (View.ld (iblk m c 2 t) r0_12) (View.ld (iblk m c 3 t) r0_12) (ix3 x0 k r) from rfl) ?_
    exact rows_blk m c t r 3 _ _ _ _ _ _ (fun j => ((piece r _ j).2.2.2).trans (d_block ..)) (fun j => ((piece r _ j).2.2.2).trans (o_block ..)) (fun j => ((piece r _ j).2.2.2).trans (m_block ..)) (fun j => ((piece r _ j).2.2.2).trans (l_block ..))
  · obtain rfl : p = 2 := Fin.ext (by have : p.val = 2 + x0.val := h0; omega)
    refine Eq.trans (show _ = rows (View.ld (iblk m c 1 t) r0_8) (View.ld (iblk m c 0 t) r0_8) (View.ld (iblk m c 2 t) r0_8) (View.ld (iblk m c 3 t) r0_8) (ix3 x0 k r) from rfl) ?_
    exact rows_blk m c t r 2 _ _ _ _ _ _ (fun j => ((piece r _ j).2.2.1).trans (d_block ..)) (fun j => ((piece r _ j).2.2.1).trans (o_block ..)) (fun j => ((piece r _ j).2.2.1).trans (m_block ..)) (fun j => ((piece r _ j).2.2.1).trans (l_block ..))
  · obtain rfl : p = 1 := Fin.ext (by have : p.val = 1 + x0.val := h0; omega)
    refine Eq.trans (show _ = rows (View.ld (iblk m c 1 t) r0_4) (View.ld (iblk m c 0 t) r0_4) (View.ld (iblk m c 2 t) r0_4) (View.ld (iblk m c 3 t) r0_4) (ix3 x0 k r) from rfl) ?_
    exact rows_blk m c t r 1 _ _ _ _ _ _ (fun j => ((piece r _ j).2.1).trans (d_block ..)) (fun j => ((piece r _ j).2.1).trans (o_block ..)) (fun j => ((piece r _ j).2.1).trans (m_block ..)) (fun j => ((piece r _ j).2.1).trans (l_block ..))
  · obtain rfl : p = 0 := Fin.ext (by have : p.val = x0.val := h0; omega)
    refine Eq.trans (show _ = rows (View.ld (iblk m c 1 t) r0_0) (View.ld (iblk m c 0 t) r0_0) (View.ld (iblk m c 2 t) r0_0) (View.ld (iblk m c 3 t) r0_0) (ix3 x0 k r) from rfl) ?_
    exact rows_blk m c t r 0 _ _ _ _ _ _ (fun j => ((piece r _ j).1).trans (d_block ..)) (fun j => ((piece r _ j).1).trans (o_block ..)) (fun j => ((piece r _ j).1).trans (m_block ..)) (fun j => ((piece r _ j).1).trans (l_block ..))

/-- A lane of the spread gradient: its pair, its head and its place. -/
def wide (p : Fin 4) (s : Fin 2) (j : Fin 128) : Fin 1024 := ⟨p.val * 256 + s.val * 128 + j, by omega⟩

theorem wide_eq {p : Fin 4} {s : Fin 2} {j : Fin 128} {n : ℕ} (p' : Fin 4) (s' : Fin 2) {j' : Fin 128} (h : p.val * 256 + s.val * 128 + j.val = n + j'.val)
    (hn : n = p'.val * 256 + s'.val * 128) : p = p' ∧ s = s' ∧ j = j' := by
  refine ⟨Fin.ext ?_, Fin.ext ?_, Fin.ext ?_⟩ <;> omega

theorem out4 (p : Fin 4) (s : Fin 2) (j : Fin 128) : out0_4 (F := Ideal) (iblk m c 0 t) (iblk m c 1 t) (iblk m c 2 t) (iblk m c 3 t) (ix2 r (wide p s j)) = G4 m c p s j (row t r) := by
  unfold out0_4
  canon_tiles x h
  all_goals
    idx_vars x
    obtain rfl : r = x0 := Fin.ext h0
  · obtain ⟨rfl, rfl, rfl⟩ : p = 3 ∧ s = 1 ∧ j = x1 := wide_eq 3 1 h1 rfl
    refine Eq.trans (show _ = odd (View.ld (iblk m c 1 t) r0_12) (ix2 r j) from rfl) ?_
    exact odd_blk m c t r 3 _ _ fun j => (piece r _ j).2.2.2.trans (d_block ..)
  · obtain ⟨rfl, rfl, rfl⟩ : p = 3 ∧ s = 0 ∧ j = x1 := wide_eq 3 0 h1 rfl
    refine Eq.trans (show _ = even (View.ld (iblk m c 1 t) r0_12) (ix2 r j) from rfl) ?_
    exact even_blk m c t r 3 _ _ fun j => (piece r _ j).2.2.2.trans (d_block ..)
  · obtain ⟨rfl, rfl, rfl⟩ : p = 2 ∧ s = 1 ∧ j = x1 := wide_eq 2 1 h1 rfl
    refine Eq.trans (show _ = odd (View.ld (iblk m c 1 t) r0_8) (ix2 r j) from rfl) ?_
    exact odd_blk m c t r 2 _ _ fun j => (piece r _ j).2.2.1.trans (d_block ..)
  · obtain ⟨rfl, rfl, rfl⟩ : p = 2 ∧ s = 0 ∧ j = x1 := wide_eq 2 0 h1 rfl
    refine Eq.trans (show _ = even (View.ld (iblk m c 1 t) r0_8) (ix2 r j) from rfl) ?_
    exact even_blk m c t r 2 _ _ fun j => (piece r _ j).2.2.1.trans (d_block ..)
  · obtain ⟨rfl, rfl, rfl⟩ : p = 1 ∧ s = 1 ∧ j = x1 := wide_eq 1 1 h1 rfl
    refine Eq.trans (show _ = odd (View.ld (iblk m c 1 t) r0_4) (ix2 r j) from rfl) ?_
    exact odd_blk m c t r 1 _ _ fun j => (piece r _ j).2.1.trans (d_block ..)
  · obtain ⟨rfl, rfl, rfl⟩ : p = 1 ∧ s = 0 ∧ j = x1 := wide_eq 1 0 h1 rfl
    refine Eq.trans (show _ = even (View.ld (iblk m c 1 t) r0_4) (ix2 r j) from rfl) ?_
    exact even_blk m c t r 1 _ _ fun j => (piece r _ j).2.1.trans (d_block ..)
  · obtain ⟨rfl, rfl, rfl⟩ : p = 0 ∧ s = 1 ∧ j = x1 := wide_eq 0 1 h1 rfl
    refine Eq.trans (show _ = odd (View.ld (iblk m c 1 t) r0_0) (ix2 r j) from rfl) ?_
    exact odd_blk m c t r 0 _ _ fun j => (piece r _ j).1.trans (d_block ..)
  · obtain ⟨rfl, rfl, rfl⟩ : p = 0 ∧ s = 0 ∧ j = x1 := wide_eq 0 0 (h1.trans (Nat.zero_add _).symm) rfl
    refine Eq.trans (show _ = even (View.ld (iblk m c 1 t) r0_0) (ix2 r j) from rfl) ?_
    exact even_blk m c t r 0 _ _ fun j => (piece r _ j).1.trans (d_block ..)

/-! The arrays. -/

def F4 (R : Fin 8192) (y : Fin 1024) : EReal := G4 m c ⟨y.val / 256, by omega⟩ ⟨y.val / 128 % 2, by omega⟩ ⟨y.val % 128, by omega⟩ R

theorem out4' (y : Fin 1024) : out0_4 (F := Ideal) (iblk m c 0 t) (iblk m c 1 t) (iblk m c 2 t) (iblk m c 3 t) (ix2 r y) = F4 m c (row t r) y := by
  have e : y = wide ⟨y.val / 256, by omega⟩ ⟨y.val / 128 % 2, by omega⟩ ⟨y.val % 128, by omega⟩ := Fin.ext (by show y.val = y.val / 256 * 256 + y.val / 128 % 2 * 128 + y.val % 128; omega)
  conv_lhs => rw [e]
  exact out4 m c t r _ _ _

theorem final4 : (dats m 0 c).arrAt 4 cfg0.N = fun i : S8192x1024.Idx => F4 m c (i 0) (i 1) := by
  refine (dats m 0 c).arrAt_eq_of_covers 4 _ (by decide +kernel) fun t _ y => ?_
  have ht := lt t
  blk_simp
  rw [after0_4]
  idx_vars y
  rw [out4']
  refine congrArg₂ (F4 m c) (Fin.ext ?_) (Fin.ext ?_)
  all_goals (blk_simp [idx t, row] <;> try omega)

theorem G5_congr {p p' : Fin 4} {k k' : Fin 8} {R R' : Fin 8192} (hp : p = p') (hk : k = k') (hR : R = R') : G5 m c p k R = G5 m c p' k' R' := by
  rw [hp, hk, hR]

theorem final5 : (dats m 0 c).arrAt 5 cfg0.N = fun i : S4x8x8192.Idx => G5 m c (i 0) (i 1) (i 2) := by
  refine (dats m 0 c).arrAt_eq_of_covers 5 _ (by decide +kernel) fun t _ y => ?_
  have ht := lt t
  blk_simp
  rw [after0_5]
  idx_vars y
  rw [out5]
  refine G5_congr m c (Fin.ext ?_) (Fin.ext ?_) (Fin.ext ?_)
  all_goals (blk_simp [idx t, row] <;> try omega)

end Cert.Kernel9Ideal.Stats

end
-- ==== Proof.Stats.Claim.lean ====
/- The saved rows of the attention's gradient: kernel and reference end with one set of arrays. -/
module

public import proofs.«01_k».proof.Defs
public import proofs.«01_k».proof.Proof.Stats.Out
public import proofs.«01_k».proof.Proof.Gen.Reference9Ideal.Run

@[expose] public section

set_option maxRecDepth 16384

noncomputable section

namespace Cert.Reference9Ideal.Stats

open Cert.Reference9Ideal Cert.Reference9Ideal.Gen Cert.Reference9Ideal.Value Idealize.ShloMosaic Idealize.ShloMosaic.TcCoe Idealize.SL.Sem
open Cert.Kernel9Ideal.Stats (oT mT lT)

/-! The reference's results, from the saved values. -/

def zeroT : FVec Ideal S_ .f32 := constant S_ .f32 0x00000000#32

def headT (d : FVec Ideal S8192x8x64 .f32) : FVec Ideal S8192x4x2x64 .f32 := shapeCast S8192x4x2x64 d shapeCasts_S8192x8x64_S8192x4x2x64

def doxT (d : FVec Ideal S8192x8x64 .f32) : FVec Ideal S8192x1024 .bf16 :=
  truncf .bf16 (shapeCast S8192x1024 (concatenate S8192x4x256 2
    [⟨S8192x4x64, (shapeCast S8192x4x64 (extractStridedSlice S8192x4x1x64 ![0, 0, 0, 0] (headT d) slices_S8192x4x2x64_S8192x4x1x64_0_0_0_0 : FVec Ideal S8192x4x1x64 .f32) shapeCasts_S8192x4x1x64_S8192x4x64 : FVec Ideal S8192x4x64 .f32)⟩,
     ⟨S8192x4x64, (broadcastInDim S8192x4x64 ![] bcast_S_S8192x4x64 zeroT : FVec Ideal S8192x4x64 .f32)⟩,
     ⟨S8192x4x64, (broadcastInDim S8192x4x64 ![] bcast_S_S8192x4x64 zeroT : FVec Ideal S8192x4x64 .f32)⟩,
     ⟨S8192x4x64, (shapeCast S8192x4x64 (extractStridedSlice S8192x4x1x64 ![0, 0, 1, 0] (headT d) slices_S8192x4x2x64_S8192x4x1x64_0_0_1_0 : FVec Ideal S8192x4x1x64 .f32) shapeCasts_S8192x4x1x64_S8192x4x64 : FVec Ideal S8192x4x64 .f32)⟩]
    concatenates_S8192x4x64_S8192x4x64_S8192x4x64_S8192x4x64_S8192x4x256_d2 : FVec Ideal S8192x4x256 .f32) shapeCasts_S8192x4x256_S8192x1024 : FVec Ideal S8192x1024 .f32) bitsLt_bf16_f32

def midT (y : FVec Ideal S8x8192 .f32) : FVec Ideal S8x1x8192 .f32 := broadcastInDim S8x1x8192 ![0, 2] bcast_S8x8192_S8x1x8192_0_2 y

def dotT (o d : FVec Ideal S8192x8x64 .f32) : FVec Ideal S8x8192 .f32 :=
  transpose S8x8192 [1, 0] (Host.reduceAdd (mulf o d) zeroT reducesTo_S8192x8x64_S8192x8_d2 h_S_ : FVec Ideal S8192x8 .f32) transposes_S8192x8_S8x8192_1_0
def invT (l : FVec Ideal S8x8192 .f32) : FVec Ideal S8x8192 .f32 :=
  Host.divf (broadcastInDim S8x8192 ![] bcast_S_S8x8192 (constant S_ .f32 0x3F800000#32 : FVec Ideal S_ .f32)) l

def threeT (a b e : FVec Ideal S8x8192 .f32) : FVec Ideal S8x3x8192 .f32 :=
  concatenate S8x3x8192 1 [⟨S8x1x8192, midT a⟩, ⟨S8x1x8192, midT b⟩, ⟨S8x1x8192, midT e⟩] concatenates_S8x1x8192_S8x1x8192_S8x1x8192_S8x3x8192_d1

def statsT (a b e : FVec Ideal S8x8192 .f32) : FVec Ideal S4x8x8192 .f32 :=
  concatenate S4x8x8192 1
    [⟨S4x6x8192, (shapeCast S4x6x8192 (transpose S4x3x2x8192 [0, 2, 1, 3] (shapeCast S4x2x3x8192 (threeT a b e) shapeCasts_S8x3x8192_S4x2x3x8192 : FVec Ideal S4x2x3x8192 .f32) transposes_S4x2x3x8192_S4x3x2x8192_0_2_1_3 : FVec Ideal S4x3x2x8192 .f32) shapeCasts_S4x3x2x8192_S4x6x8192 : FVec Ideal S4x6x8192 .f32)⟩,
     ⟨S4x2x8192, (broadcastInDim S4x2x8192 ![] bcast_S_S4x2x8192 zeroT : FVec Ideal S4x2x8192 .f32)⟩] concatenates_S4x6x8192_S4x2x8192_S4x8x8192_d1

section
variable (o d : FVec Ideal S8192x8x64 .f32) (a b e : FVec Ideal S8x8192 .f32) (h : Fin 8) (R : Fin 8192)

theorem zero_eq : zeroT (fun i => i.elim0) = 0 := by
  unfold zeroT
  pointwise

theorem dot_at : dotT o d (ix2 h R) = ∑ x : Fin 64, o (ix3 R h x) * d (ix3 R h x) := by
  pointwise [dotT, zeroT]

theorem inv_at : invT e (ix2 h R) = Ideal.div 1 (e (ix2 h R)) := by
  pointwise [invT]

theorem three_at (k : Fin 3) : threeT a b e (ix3 h k R) = ![a (ix2 h R), b (ix2 h R), e (ix2 h R)] k := by
  fin_cases k <;> pointwise [threeT, midT]

theorem stats_at (p : Fin 4) (k : Fin 8) : statsT a b e (ix3 p k R)
    = ![a (ix2 (Cert.Kernel9Ideal.Stats.hd p 0) R), a (ix2 (Cert.Kernel9Ideal.Stats.hd p 1) R), b (ix2 (Cert.Kernel9Ideal.Stats.hd p 0) R), b (ix2 (Cert.Kernel9Ideal.Stats.hd p 1) R), e (ix2 (Cert.Kernel9Ideal.Stats.hd p 0) R), e (ix2 (Cert.Kernel9Ideal.Stats.hd p 1) R), 0, 0] k := by
  fin_cases k <;> pointwise [statsT, zeroT, threeT, midT]
  all_goals rfl

theorem dox_at (p : Fin 4) (s : Fin 2) (j : Fin 128) : doxT d (ix2 R (Cert.Kernel9Ideal.Stats.wide p s j))
    = if j.val / 64 = s.val then d (ix3 R (Cert.Kernel9Ideal.Stats.hd p s) ⟨j.val % 64, by omega⟩) else 0 := by
  have hp := p.isLt
  have hs := s.isLt
  have hj := j.isLt
  fin_cases s
  · unfold Cert.Kernel9Ideal.Stats.wide
    pointwise [doxT, headT, zeroT]
    by_cases h : j.val < 64
    · rw [dif_pos (by omega)]
      refine Eq.trans ?_ (if_pos (show j.val / 64 = 0 by omega)).symm
      refine congrArg₂ (fun h x => d (ix3 R h x)) (Fin.ext ?_) (Fin.ext ?_)
      · show p.val * 2 = p.val * 2 + 0
        omega
      · show (p.val * 256 + j.val) % 256 = j.val % 64
        omega
    · rw [dif_neg (by omega), dif_pos (by omega)]
      exact (if_neg (show ¬ j.val / 64 = 0 by omega)).symm
  · unfold Cert.Kernel9Ideal.Stats.wide
    pointwise [doxT, headT, zeroT]
    by_cases h : j.val < 64
    · rw [dif_neg (by omega), dif_neg (by omega), dif_pos (by omega)]
      exact (if_neg (show ¬ j.val / 64 = 1 by omega)).symm
    · rw [dif_neg (by omega), dif_neg (by omega), dif_neg (by omega)]
      refine Eq.trans ?_ (if_pos (show j.val / 64 = 1 by omega)).symm
      refine congrArg₂ (fun h x => d (ix3 R h x)) (Fin.ext rfl) (Fin.ext ?_)
      show (p.val * 256 + 128 + j.val) % 256 - 64 - 64 - 64 = j.val % 64
      omega
end

variable (m : (ℓ : Loc nD τ sig) → Buf (Elt Ideal) ℓ) (c : Dev nD)

theorem r85 : res_main_v85 m c = statsT (mT (m ((c.tc : Thread nD τ).loc main_arg0)) (m ((c.tc : Thread nD τ).loc main_arg1)) (m ((c.tc : Thread nD τ).loc main_arg3)))
    (dotT (oT (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)))
    (invT (lT (m ((c.tc : Thread nD τ).loc main_arg0)) (m ((c.tc : Thread nD τ).loc main_arg1)) (m ((c.tc : Thread nD τ).loc main_arg3)))) := by
  unfold res_main_v85; rfl

end Cert.Reference9Ideal.Stats

namespace Cert.Stats

open Idealize.ShloMosaic Idealize.ShloMosaic.TcCoe Idealize.SL.Sem
open Cert.Kernel9Ideal Cert.Kernel9Ideal.Stats
open Cert.Reference9Ideal.Stats (doxT dox_at statsT stats_at dotT dot_at invT inv_at)

section
variable (m : (ℓ : Loc nD τ sig) → Buf (Elt Ideal) ℓ) (c : Dev nD)

theorem dox_row (R : Fin 8192) (y : Fin 1024) : F4 m c R y = doxT (dV m c) (ix2 R y) := by
  have e : y = wide ⟨y.val / 256, by omega⟩ ⟨y.val / 128 % 2, by omega⟩ ⟨y.val % 128, by omega⟩ := Fin.ext (by show y.val = y.val / 256 * 256 + y.val / 128 % 2 * 128 + y.val % 128; omega)
  conv_rhs => rw [e]
  exact (dox_at _ _ _ _ _).symm

theorem dox_eq : (fun i : S8192x1024.Idx => F4 m c (i 0) (i 1)) = doxT (dV m c) := by
  funext i
  rw [eq_ix2 i]
  exact dox_row m c _ _

theorem stats_row (p : Fin 4) (k : Fin 8) (R : Fin 8192) : G5 m c p k R = statsT (mV m c) (dotT (oV m c) (dV m c)) (invT (lV m c)) (ix3 p k R) := by
  rw [stats_at]
  simp only [dot_at, inv_at]
  rfl

theorem stats_eq : (fun i : S4x8x8192.Idx => G5 m c (i 0) (i 1) (i 2)) = statsT (mV m c) (dotT (oV m c) (dV m c)) (invT (lV m c)) := by
  funext i
  rw [eq_ix3 i]
  exact stats_row m c _ _ _

end

/-- The kernel ends with the cotangent spread over the heads' own lanes, and with the saved rows. -/
theorem algebraic : Cert.algebraic_Kernel9Ideal_Reference9Ideal := by
  intro m ρ m' ρ' _ hag
  refine ⟨fun c => fun i => F4 m c (i 0) (i 1), fun c => fun i => G5 m c (i 0) (i 1) (i 2), ?_, ?_⟩
  · refine (θ_run _ _ _).mono (fun r h c => ?_) (Cert.Kernel9Ideal.Value.run_blocks m ρ)
    obtain ⟨h4, h5, hk⟩ := h c
    exact ⟨h4.trans (final4 m c), h5.trans (final5 m c), hk⟩
  · refine (θ_run _ _ _).mono (fun r h c => ?_) (Cert.Reference9Ideal.Value.run m' ρ')
    obtain ⟨h4, h5, hk⟩ := h c
    obtain ⟨e0, e1, e2, e3, e4⟩ := hag c
    have w4 := h4.trans (show _ = doxT (m' ((c : Thread Cert.Reference9Ideal.nD Cert.Reference9Ideal.τ).loc Cert.Reference9Ideal.main_arg4)) from rfl)
    have w5 := h5.trans (Cert.Reference9Ideal.Stats.r85 m' c)
    rw [e4] at w4
    rw [e0, e1, e2, e3, e4] at w5
    exact ⟨w4.trans (dox_eq m c).symm, w5.trans (stats_eq m c).symm, hk⟩

end Cert.Stats

end
-- ==== Proof.Merge.Out.lean ====
/- The mixer's output and its norm: what the grid points write back, over the whole arrays. -/
module

public import proofs.«01_k».proof.Proof.Gen.Kernel10Ideal.Value
public import proofs.«01_k».proof.Proof.Mixer.RefTerm
public import proofs.«01_k».proof.Proof.Loss.Ref
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel10Ideal.Merge

open Cert.Kernel10Ideal Cert.Kernel10Ideal.Gen Idealize.ShloMosaic Idealize.ShloMosaic.TcCoe Idealize.SL.Sem Cert.Norm
open Cert.Kernel4Ideal.Mixer (gatesT gates_left gates_right)
open Cert.Kernel7Ideal.Loss (alpha)

/-! What one grid point computes. -/

/-- A row's norm, times the gain, plus the bias. -/
def normed (x g b : Fin 1024 → EReal) (l : Fin 1024) : EReal := scaled x l * g l + b l

/-- The two heads' products, weighed by their gates. -/
def merged (ga gb : EReal) (a b p q : Fin 512 → EReal) : EReal := Ideal.logistic ga * (∑ j, a j * p j) + Ideal.logistic gb * ∑ j, b j * q j

section
variable (x h : FVec Ideal S512x1024 .f32) (g b : FVec Ideal S1x1024 .f32) (r : Fin 512) (l : Fin 1024)
variable (A B : FVec Ideal S512x512 .bf16) (P Q : FVec Ideal S512x1024 .bf16) (ga gb : FVec Ideal S512x1024 .f32) (w : FVec Ideal S1024x1024 .bf16)

theorem norm_at : k0_pay1 (F := Ideal) x (k0_pay5 g) (k0_pay6 b) (ix2 r l) = normed (fun k => x (ix2 r k)) (fun k => g (ix2 0 k)) (fun k => b (ix2 0 k)) l := by
  pointwise [k0_pay1, k0_pay5, k0_pay6]
  rfl

theorem norm_narrow : k0_pay2 (F := Ideal) x (k0_pay5 g) (k0_pay6 b) (ix2 r l) = k0_pay1 (F := Ideal) x (k0_pay5 g) (k0_pay6 b) (ix2 r l) := by
  pointwise [k0_pay2]

theorem merged_at : k0_pay3 (F := Ideal) A P B Q ga gb (ix2 r l)
    = merged (ga (ix2 r l)) (gb (ix2 r l)) (fun j => A (ix2 r j)) (fun j => B (ix2 r j)) (fun j => P (ix2 j l)) (fun j => Q (ix2 j l)) := by
  pointwise [k0_pay3]
  rfl

theorem sum_at : k0_pay4 (F := Ideal) A P B Q ga gb h w (ix2 r l) = alpha * h (ix2 r l) + ∑ k : Fin 1024, k0_pay3 (F := Ideal) A P B Q ga gb (ix2 r k) * w (ix2 k l) := by
  pointwise [k0_pay4]
end

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 1]
    ∧ win0_4.index t = ![t.val, 0] ∧ win0_5.index t = ![0, 0] ∧ win0_6.index t = ![0, 0] ∧ win0_7.index t = ![0, 0] ∧ win0_8.index t = ![0, 0] ∧ win0_9.index t = ![0, 0]
    ∧ win0_10.index t = ![t.val, 0] ∧ win0_11.index t = ![t.val, 0] ∧ win0_12.index t = ![t.val, 0] ∧ win0_13.index t = ![t.val, 0] ∧ t.val < 16 :=
  (by decide +kernel : ∀ t : Fin grid0.N, _)

theorem lt (t : Fin cfg0.N) : t.val < 16 := (idx t).2.2.2.2.2.2.2.2.2.2.2.2.2.2

/-! The arguments, entry by entry. -/

abbrev A0 (R : Fin 8192) (l : Fin 1024) : EReal := (m ((c : Thread nD τ).loc main_arg0) : FVec Ideal S8192x1024 .f32) (ix2 R l)
abbrev A1 (R : Fin 8192) (j : Fin 512) : EReal := (m ((c : Thread nD τ).loc main_arg1) : FVec Ideal S8192x512 .f32) (ix2 R j)
abbrev A2 (R : Fin 8192) (j : Fin 512) : EReal := (m ((c : Thread nD τ).loc main_arg2) : FVec Ideal S8192x512 .f32) (ix2 R j)
abbrev A3 (R : Fin 8192) (l : Fin 1024) : EReal := (m ((c : Thread nD τ).loc main_arg3) : FVec Ideal S8192x1024 .f32) (ix2 R l)
abbrev A4 (R : Fin 8192) (l : Fin 1024) : EReal := (m ((c : Thread nD τ).loc main_arg4) : FVec Ideal S8192x1024 .f32) (ix2 R l)
abbrev A5 (j : Fin 512) (l : Fin 1024) : EReal := (m ((c : Thread nD τ).loc main_arg5) : FVec Ideal S512x1024 .f32) (ix2 j l)
abbrev A6 (j : Fin 512) (l : Fin 1024) : EReal := (m ((c : Thread nD τ).loc main_arg6) : FVec Ideal S512x1024 .f32) (ix2 j l)
abbrev A7 (k l : Fin 1024) : EReal := (m ((c : Thread nD τ).loc main_arg7) : FVec Ideal S1024x1024 .f32) (ix2 k l)
abbrev A8 (l : Fin 1024) : EReal := (m ((c : Thread nD τ).loc main_arg8) : FVec Ideal S1024 .f32) (ix1 l)
abbrev A9 (l : Fin 1024) : EReal := (m ((c : Thread nD τ).loc main_arg9) : FVec Ideal S1024 .f32) (ix1 l)

theorem V_gates : V m c main_v1 = gatesT (m ((c : Thread nD τ).loc main_arg3)) (m ((c : Thread nD τ).loc main_arg4)) := by
  dsimp only [V, hostOps0, hostOps0_1, hostOps0_2, List.flatten_cons, List.flatten_nil, List.append_nil, List.cons_append, List.nil_append]
  simp only [StableHlo.TRef.binary, StableHlo.TRef.unary, StableHlo.TRef.toBuf, StableHlo.TRef.ofBuf, cast_eq]
  after_results_simp
  change gatesT _ _ = gatesT _ _
  refine congr (congrArg gatesT ?_) ?_ <;> after_results_simp

theorem V_all : V m c main_v2 = (truncf (F := Ideal) .bf16 (m ((c : Thread nD τ).loc main_arg1) : FVec Ideal S8192x512 .f32) bitsLt_bf16_f32 : FVec Ideal S8192x512 .bf16)
    ∧ V m c main_v3 = (truncf (F := Ideal) .bf16 (m ((c : Thread nD τ).loc main_arg2) : FVec Ideal S8192x512 .f32) bitsLt_bf16_f32 : FVec Ideal S8192x512 .bf16)
    ∧ V m c main_v4 = (truncf (F := Ideal) .bf16 (m ((c : Thread nD τ).loc main_arg5) : FVec Ideal S512x1024 .f32) bitsLt_bf16_f32 : FVec Ideal S512x1024 .bf16)
    ∧ V m c main_v5 = (truncf (F := Ideal) .bf16 (m ((c : Thread nD τ).loc main_arg6) : FVec Ideal S512x1024 .f32) bitsLt_bf16_f32 : FVec Ideal S512x1024 .bf16)
    ∧ V m c main_v6 = (truncf (F := Ideal) .bf16 (m ((c : Thread nD τ).loc main_arg7) : FVec Ideal S1024x1024 .f32) bitsLt_bf16_f32 : FVec Ideal S1024x1024 .bf16)
    ∧ V m c main_v7 = broadcastInDim S1x1024 ![1] bcast_S1024_S1x1024_1 (m ((c : Thread nD τ).loc main_arg8) : FVec Ideal S1024 .f32)
    ∧ V m c main_v8 = broadcastInDim S1x1024 ![1] bcast_S1024_S1x1024_1 (m ((c : Thread nD τ).loc main_arg9) : FVec Ideal S1024 .f32)
    ∧ V m c main_arg0 = m ((c : Thread nD τ).loc main_arg0) := by
  refine ⟨?_, ?_, ?_, ?_, ?_, ?_, ?_, ?_⟩
  all_goals
    dsimp only [V, hostOps0, hostOps0_1, hostOps0_2, List.flatten_cons, List.flatten_nil, List.append_nil, List.cons_append, List.nil_append]
    simp only [StableHlo.TRef.binary, StableHlo.TRef.unary, StableHlo.TRef.toBuf, StableHlo.TRef.ofBuf, cast_eq]
    after_results_simp

variable (t : Fin cfg0.N) (r : Fin 512)

/-- The array's row of a block's row. -/
def row : Fin 8192 := ⟨t.val * 512 + r, by have := lt t; omega⟩

theorem a_block (j : Fin 512) : (iblk m c 0 t : FVec Ideal S512x512 .bf16) (ix2 r j) = A1 m c (row t r) j := by
  show (V m c main_v2) (((cfg0.win 0).blk t).view.emb _) = _
  rw [(V_all m c).1]
  refine congrArg (m ((c : Thread nD τ).loc main_arg1) : FVec Ideal S8192x512 .f32) ?_
  unfold row
  blk_ext [idx t]

theorem b_block (j : Fin 512) : (iblk m c 1 t : FVec Ideal S512x512 .bf16) (ix2 r j) = A2 m c (row t r) j := by
  show (V m c main_v3) (((cfg0.win 1).blk t).view.emb _) = _
  rw [(V_all m c).2.1]
  refine congrArg (m ((c : Thread nD τ).loc main_arg2) : FVec Ideal S8192x512 .f32) ?_
  unfold row
  blk_ext [idx t]

theorem ga_block (l : Fin 1024) : (X0_2 m c t : FVec Ideal S512x1024 .f32) (ix2 r l) = A3 m c (row t r) l := by
  unfold X0_2 Pipeline.Window.fill
  rw [dif_pos (moved0_2 t _)]
  show (V m c main_v1) (((cfg0.win 2).blk t).view.emb _) = _
  rw [V_gates]
  refine Eq.trans (congrArg (gatesT _ _) ?_) (gates_left _ _ (row t r) ⟨l, by omega⟩ l rfl)
  unfold row
  blk_ext [idx t]

theorem gb_block (l : Fin 1024) : (X0_3 m c t : FVec Ideal S512x1024 .f32) (ix2 r l) = A4 m c (row t r) l := by
  unfold X0_3 Pipeline.Window.fill
  rw [dif_pos (moved0_3 t _)]
  show (V m c main_v1) (((cfg0.win 3).blk t).view.emb _) = _
  rw [V_gates]
  refine Eq.trans (congrArg (gatesT _ _) ?_) (gates_right _ _ (row t r) ⟨1024 + l, by omega⟩ l rfl)
  unfold row
  blk_ext [idx t]

theorem h_block (l : Fin 1024) : (iblk m c 4 t : FVec Ideal S512x1024 .f32) (ix2 r l) = A0 m c (row t r) l := by
  show (V m c main_arg0) (((cfg0.win 4).blk t).view.emb _) = _
  rw [(V_all m c).2.2.2.2.2.2.2]
  refine congrArg (m ((c : Thread nD τ).loc main_arg0) : FVec Ideal S8192x1024 .f32) ?_
  unfold row
  blk_ext [idx t]

theorem p_block (j : Fin 512) (l : Fin 1024) : (iblk m c 5 t : FVec Ideal S512x1024 .bf16) (ix2 j l) = A5 m c j l := by
  show (V m c main_v4) (((cfg0.win 5).blk t).view.emb _) = _
  rw [(V_all m c).2.2.1]
  refine congrArg (m ((c : Thread nD τ).loc main_arg5) : FVec Ideal S512x1024 .f32) ?_
  blk_ext [idx t]

theorem q_block (j : Fin 512) (l : Fin 1024) : (iblk m c 6 t : FVec Ideal S512x1024 .bf16) (ix2 j l) = A6 m c j l := by
  show (V m c main_v5) (((cfg0.win 6).blk t).view.emb _) = _
  rw [(V_all m c).2.2.2.1]
  refine congrArg (m ((c : Thread nD τ).loc main_arg6) : FVec Ideal S512x1024 .f32) ?_
  blk_ext [idx t]

theorem w_block (k l : Fin 1024) : (iblk m c 7 t : FVec Ideal S1024x1024 .bf16) (ix2 k l) = A7 m c k l := by
  show (V m c main_v6) (((cfg0.win 7).blk t).view.emb _) = _
  rw [(V_all m c).2.2.2.2.1]
  refine congrArg (m ((c : Thread nD τ).loc main_arg7) : FVec Ideal S1024x1024 .f32) ?_
  blk_ext [idx t]

theorem g_block (z : Fin 1) (l : Fin 1024) : (iblk m c 8 t : FVec Ideal S1x1024 .f32) (ix2 z l) = A8 m c l := by
  show (V m c main_v7) (((cfg0.win 8).blk t).view.emb _) = _
  rw [(V_all m c).2.2.2.2.2.1]
  have e : ((cfg0.win 8).blk t).view.emb (ix2 z l) = ix2 z l := by blk_ext [idx t]
  rw [e]
  pointwise

theorem bias_block (z : Fin 1) (l : Fin 1024) : (iblk m c 9 t : FVec Ideal S1x1024 .f32) (ix2 z l) = A9 m c l := by
  show (V m c main_v8) (((cfg0.win 9).blk t).view.emb _) = _
  rw [(V_all m c).2.2.2.2.2.2.1]
  have e : ((cfg0.win 9).blk t).view.emb (ix2 z l) = ix2 z l := by blk_ext [idx t]
  rw [e]
  pointwise

/-! The results. -/

def G12 (R : Fin 8192) (l : Fin 1024) : EReal := merged (A3 m c R l) (A4 m c R l) (A1 m c R) (A2 m c R) (fun j => A5 m c j l) (fun j => A6 m c j l)
def G11 (R : Fin 8192) (l : Fin 1024) : EReal := alpha * A0 m c R l + ∑ k : Fin 1024, G12 m c R k * A7 m c k l
def G10 (R : Fin 8192) (l : Fin 1024) : EReal := normed (G11 m c R) (A8 m c) (A9 m c) l

abbrev ublk : FVec Ideal S512x1024 .f32 := k0_pay4 (F := Ideal) (iblk m c 0 t) (iblk m c 5 t) (iblk m c 1 t) (iblk m c 6 t) (X0_2 m c t) (X0_3 m c t) (iblk m c 4 t) (iblk m c 7 t)

theorem mblk_at (l : Fin 1024) : k0_pay3 (F := Ideal) (iblk m c 0 t) (iblk m c 5 t) (iblk m c 1 t) (iblk m c 6 t) (X0_2 m c t) (X0_3 m c t) (ix2 r l) = G12 m c (row t r) l := by
  rw [merged_at]
  simp only [a_block, b_block, ga_block, gb_block, p_block, q_block]
  rfl

theorem ublk_at (l : Fin 1024) : ublk m c t (ix2 r l) = G11 m c (row t r) l := by
  refine (sum_at ..).trans ?_
  simp only [mblk_at, h_block, w_block]
  rfl

theorem nblk_at (l : Fin 1024) : k0_pay1 (F := Ideal) (ublk m c t) (k0_pay5 (iblk m c 8 t)) (k0_pay6 (iblk m c 9 t)) (ix2 r l) = G10 m c (row t r) l := by
  rw [norm_at]
  simp only [ublk_at, g_block, bias_block]
  rfl

theorem out10 (l : Fin 1024) : (outsAt0 m c t).1 (ix2 r l) = G10 m c (row t r) l := by
  unfold outsAt0; frame_out
  exact nblk_at m c t r l

theorem out11 (l : Fin 1024) : (outsAt0 m c t).2.1 (ix2 r l) = G11 m c (row t r) l := by
  unfold outsAt0; frame_out
  exact ublk_at m c t r l

theorem out12 (l : Fin 1024) : (outsAt0 m c t).2.2.1 (ix2 r l) = G12 m c (row t r) l := by
  unfold outsAt0; frame_out
  exact mblk_at m c t r l

theorem out13 (l : Fin 1024) : (outsAt0 m c t).2.2.2 (ix2 r l) = G10 m c (row t r) l := by
  unfold outsAt0; frame_out
  exact (norm_narrow ..).trans (nblk_at m c t r l)

theorem final10 : (dats m 0 c).arrAt 10 cfg0.N = fun i : S8192x1024.Idx => G10 m c (i 0) (i 1) := by
  refine (dats m 0 c).arrAt_eq_of_covers 10 _ (by decide +kernel) fun t _ y => ?_
  have ht := lt t
  blk_simp
  rw [after0_10]
  idx_vars y
  rw [out10]
  refine congrArg₂ (G10 m c) (Fin.ext ?_) (Fin.ext ?_)
  all_goals (blk_simp [idx t, row] <;> try omega)

theorem final11 : (dats m 0 c).arrAt 11 cfg0.N = fun i : S8192x1024.Idx => G11 m c (i 0) (i 1) := by
  refine (dats m 0 c).arrAt_eq_of_covers 11 _ (by decide +kernel) fun t _ y => ?_
  have ht := lt t
  blk_simp
  rw [after0_11]
  idx_vars y
  rw [out11]
  refine congrArg₂ (G11 m c) (Fin.ext ?_) (Fin.ext ?_)
  all_goals (blk_simp [idx t, row] <;> try omega)

theorem final12 : (dats m 0 c).arrAt 12 cfg0.N = fun i : S8192x1024.Idx => G12 m c (i 0) (i 1) := by
  refine (dats m 0 c).arrAt_eq_of_covers 12 _ (by decide +kernel) fun t _ y => ?_
  have ht := lt t
  blk_simp
  rw [after0_12]
  idx_vars y
  rw [out12]
  refine congrArg₂ (G12 m c) (Fin.ext ?_) (Fin.ext ?_)
  all_goals (blk_simp [idx t, row] <;> try omega)

theorem final13 : (dats m 0 c).arrAt 13 cfg0.N = fun i : S8192x1024.Idx => G10 m c (i 0) (i 1) := by
  refine (dats m 0 c).arrAt_eq_of_covers 13 _ (by decide +kernel) fun t _ y => ?_
  have ht := lt t
  blk_simp
  rw [after0_13]
  idx_vars y
  rw [out13]
  refine congrArg₂ (G10 m c) (Fin.ext ?_) (Fin.ext ?_)
  all_goals (blk_simp [idx t, row] <;> try omega)

end Cert.Kernel10Ideal.Merge

end
-- ==== Proof.Merge.Claim.lean ====
/- The mixer's output: kernel and reference end with one set of arrays. -/
module

public import proofs.«01_k».proof.Defs
public import proofs.«01_k».proof.Proof.Gen.Reference10Ideal.Run
public import proofs.«01_k».proof.Proof.Merge.Out

@[expose] public section

set_option maxRecDepth 16384

noncomputable section

namespace Cert.Merge

open Cert.Kernel10Ideal Idealize.ShloMosaic Idealize.ShloMosaic.TcCoe Idealize.SL.Sem Cert.Norm
open Cert.Kernel10Ideal.Merge
open Cert.Kernel4Ideal.Mixer (gateT headT pre)
open Cert.Reference4Ideal.Mixer (gateT_at headT_at)
open Cert.Reference3Ideal.Norm (scaledT scaledT_at at')
open Cert.Reference7Ideal.Loss (spreadRow spreadRow_at)
open Cert.Kernel7Ideal.Loss (alpha)

/-! The reference's terms, entry by entry. -/

section
variable (h ga gb : FVec Ideal S8192x1024 .f32) (a b : FVec Ideal S8192x512 .f32) (p q : FVec Ideal S512x1024 .f32) (w : FVec Ideal S1024x1024 .f32) (g bias : FVec Ideal S1024 .f32)

def mergedT : FVec Ideal S8192x1024 .f32 := addf (mulf (gateT ga) (headT a p)) (mulf (gateT gb) (headT b q))
def mergedNarrowT : FVec Ideal S8192x1024 .bf16 := truncf .bf16 (mergedT ga gb a b p q) Cert.Kernel10Ideal.Gen.bitsLt_bf16_f32
def normT (u : FVec Ideal S8192x1024 .f32) : FVec Ideal S8192x1024 .f32 := addf (mulf (scaledT u) (spreadRow g)) (spreadRow bias)
def normNarrowT (u : FVec Ideal S8192x1024 .f32) : FVec Ideal S8192x1024 .bf16 := truncf .bf16 (normT g bias u) Cert.Kernel10Ideal.Gen.bitsLt_bf16_f32

variable (R : Fin 8192) (l : Fin 1024)

theorem mergedT_at : mergedT ga gb a b p q (ix2 R l) = merged (ga (ix2 R l)) (gb (ix2 R l)) (fun j => a (ix2 R j)) (fun j => b (ix2 R j)) (fun j => p (ix2 j l)) (fun j => q (ix2 j l)) := by
  pointwise [mergedT, gateT_at, headT_at]
  rfl

theorem mergedNarrowT_at : mergedNarrowT ga gb a b p q (ix2 R l) = mergedT ga gb a b p q (ix2 R l) := by
  pointwise [mergedNarrowT]

theorem pre_at : pre h a b ga gb p q w (ix2 R l) = alpha * h (ix2 R l)
    + ∑ k : Fin 1024, merged (ga (ix2 R k)) (gb (ix2 R k)) (fun j => a (ix2 R j)) (fun j => b (ix2 R j)) (fun j => p (ix2 j k)) (fun j => q (ix2 j k)) * w (ix2 k l) := by
  pointwise [pre, gateT_at, headT_at]
  rfl

theorem normT_at (u : FVec Ideal S8192x1024 .f32) : normT g bias u (ix2 R l) = normed (at' u R) (fun k => g (ix1 k)) (fun k => bias (ix1 k)) l := by
  pointwise [normT, scaledT_at, spreadRow_at]
  rfl

theorem normNarrowT_at (u : FVec Ideal S8192x1024 .f32) : normNarrowT g bias u (ix2 R l) = normT g bias u (ix2 R l) := by
  pointwise [normNarrowT]
end

/-! The kernel's arrays are the reference's. -/

variable (m : (ℓ : Loc nD τ sig) → Buf (Elt Ideal) ℓ) (c : Dev nD)

abbrev preOf : FVec Ideal S8192x1024 .f32 := pre (m ((c : Thread nD τ).loc main_arg0)) (m ((c : Thread nD τ).loc main_arg1)) (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7))

theorem pre_row (R : Fin 8192) : at' (preOf m c) R = G11 m c R := funext fun l => pre_at _ _ _ _ _ _ _ _ R l

theorem pre_eq : (fun i : S8192x1024.Idx => G11 m c (i 0) (i 1)) = preOf m c := by
  funext i
  rw [eq_ix2 i]
  exact (congrFun (pre_row m c (i 0)) (i 1)).symm

theorem norm_eq : (fun i : S8192x1024.Idx => G10 m c (i 0) (i 1)) = normT (m ((c : Thread nD τ).loc main_arg8)) (m ((c : Thread nD τ).loc main_arg9)) (preOf m c) := by
  funext i
  rw [eq_ix2 i]
  exact ((normT_at _ _ _ _ _).trans (congrArg (fun x => normed x (A8 m c) (A9 m c) (i 1)) (pre_row m c (i 0)))).symm

theorem norm_narrow_eq : (fun i : S8192x1024.Idx => G10 m c (i 0) (i 1)) = normNarrowT (m ((c : Thread nD τ).loc main_arg8)) (m ((c : Thread nD τ).loc main_arg9)) (preOf m c) := by
  refine (norm_eq m c).trans (funext fun i => ?_)
  rw [eq_ix2 i]
  exact (normNarrowT_at _ _ _ _ _).symm

theorem merged_eq : (fun i : S8192x1024.Idx => G12 m c (i 0) (i 1)) = mergedNarrowT (m ((c : Thread nD τ).loc main_arg3)) (m ((c : Thread nD τ).loc main_arg4)) (m ((c : Thread nD τ).loc main_arg1)) (m ((c : Thread nD τ).loc main_arg2))
    (m ((c : Thread nD τ).loc main_arg5)) (m ((c : Thread nD τ).loc main_arg6)) := by
  funext i
  rw [eq_ix2 i]
  exact ((mergedNarrowT_at ..).trans (mergedT_at ..)).symm

/-- The sum before the norm, from the reference's arguments. -/
abbrev refPre (m' : (ℓ : Loc Cert.Reference10Ideal.nD Cert.Reference10Ideal.τ Cert.Reference10Ideal.sig) → Buf (Elt Ideal) ℓ) (c : Dev Cert.Reference10Ideal.nD) : FVec Ideal S8192x1024 .f32 :=
  pre (m' ((c : Thread Cert.Reference10Ideal.nD Cert.Reference10Ideal.τ).loc Cert.Reference10Ideal.main_arg0)) (m' ((c : Thread Cert.Reference10Ideal.nD Cert.Reference10Ideal.τ).loc Cert.Reference10Ideal.main_arg1)) (m' ((c : Thread Cert.Reference10Ideal.nD Cert.Reference10Ideal.τ).loc Cert.Reference10Ideal.main_arg2)) (m' ((c : Thread Cert.Reference10Ideal.nD Cert.Reference10Ideal.τ).loc Cert.Reference10Ideal.main_arg3))
    (m' ((c : Thread Cert.Reference10Ideal.nD Cert.Reference10Ideal.τ).loc Cert.Reference10Ideal.main_arg4)) (m' ((c : Thread Cert.Reference10Ideal.nD Cert.Reference10Ideal.τ).loc Cert.Reference10Ideal.main_arg5)) (m' ((c : Thread Cert.Reference10Ideal.nD Cert.Reference10Ideal.τ).loc Cert.Reference10Ideal.main_arg6)) (m' ((c : Thread Cert.Reference10Ideal.nD Cert.Reference10Ideal.τ).loc Cert.Reference10Ideal.main_arg7))

theorem algebraic : Cert.algebraic_Kernel10Ideal_Reference10Ideal := by
  intro m ρ m' ρ' _ hag
  refine ⟨fun c => fun i => G10 m c (i 0) (i 1), fun c => fun i => G11 m c (i 0) (i 1), fun c => fun i => G12 m c (i 0) (i 1), fun c => fun i => G10 m c (i 0) (i 1), ?_, ?_⟩
  · refine (θ_run _ _ _).mono (fun r h c => ?_) (Cert.Kernel10Ideal.Value.run_blocks m ρ)
    obtain ⟨h0, h1, h2, h3, hk⟩ := h c
    exact ⟨h0.trans (final10 m c), h1.trans (final11 m c), h2.trans (final12 m c), h3.trans (final13 m c), hk⟩
  · refine (θ_run _ _ _).mono (fun r h c => ?_) (Cert.Reference10Ideal.Value.run m' ρ')
    obtain ⟨h0, h1, h2, h3, hk⟩ := h c
    obtain ⟨e0, e1, e2, e3, e4, e5, e6, e7, e8, e9⟩ := hag c
    have w0 := h0.trans (show _ = normT (m' ((c : Thread Cert.Reference10Ideal.nD Cert.Reference10Ideal.τ).loc Cert.Reference10Ideal.main_arg8)) (m' ((c : Thread Cert.Reference10Ideal.nD Cert.Reference10Ideal.τ).loc Cert.Reference10Ideal.main_arg9)) (refPre m' c) from rfl)
    have w1 := h1.trans (show _ = refPre m' c from rfl)
    have w2 := h2.trans (show _ = mergedNarrowT (m' ((c : Thread Cert.Reference10Ideal.nD Cert.Reference10Ideal.τ).loc Cert.Reference10Ideal.main_arg3)) (m' ((c : Thread Cert.Reference10Ideal.nD Cert.Reference10Ideal.τ).loc Cert.Reference10Ideal.main_arg4))
      (m' ((c : Thread Cert.Reference10Ideal.nD Cert.Reference10Ideal.τ).loc Cert.Reference10Ideal.main_arg1)) (m' ((c : Thread Cert.Reference10Ideal.nD Cert.Reference10Ideal.τ).loc Cert.Reference10Ideal.main_arg2)) (m' ((c : Thread Cert.Reference10Ideal.nD Cert.Reference10Ideal.τ).loc Cert.Reference10Ideal.main_arg5)) (m' ((c : Thread Cert.Reference10Ideal.nD Cert.Reference10Ideal.τ).loc Cert.Reference10Ideal.main_arg6)) from rfl)
    have w3 := h3.trans (show _ = normNarrowT (m' ((c : Thread Cert.Reference10Ideal.nD Cert.Reference10Ideal.τ).loc Cert.Reference10Ideal.main_arg8)) (m' ((c : Thread Cert.Reference10Ideal.nD Cert.Reference10Ideal.τ).loc Cert.Reference10Ideal.main_arg9)) (refPre m' c) from rfl)
    simp only [refPre] at w0 w1 w3
    rw [e0, e1, e2, e3, e4, e5, e6, e7, e8, e9] at w0 w3
    rw [e0, e1, e2, e3, e4, e5, e6, e7] at w1
    rw [e1, e2, e3, e4, e5, e6] at w2
    exact ⟨w0.trans (norm_eq m c).symm, w1.trans (pre_eq m c).symm, w2.trans (merged_eq m c).symm, w3.trans (norm_narrow_eq m c).symm, hk⟩

end Cert.Merge

end
-- ==== Proof.lean ====
module

public import proofs.«01_k».proof.Defs
public import proofs.«01_k».proof.Proof.Gen.Kernel.Frame
public import proofs.«01_k».proof.Proof.Gen.KernelIdeal.Frame
public import proofs.«01_k».proof.Proof.Forget.Carry
public import proofs.«01_k».proof.Proof.Forget.Ref
public import proofs.«01_k».proof.Proof.Gen.KernelIdeal.Value
public import proofs.«01_k».proof.Proof.Gen.ReferenceIdeal.Run
public import proofs.«01_k».proof.Proof.Fox.Claim
public import proofs.«01_k».proof.Proof.Gen.Kernel2
public import proofs.«01_k».proof.Proof.Gen.Pre_finite2
public import proofs.«01_k».proof.Proof.Gen.Reference2Ideal.Run
public import proofs.«01_k».proof.Proof.Norm.Claim
public import proofs.«01_k».proof.Proof.Mixer.Claim
public import proofs.«01_k».proof.Proof.Conv.Claim
public import proofs.«01_k».proof.Proof.Fwd.Claim
public import proofs.«01_k».proof.Proof.Loss.Claim
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Pre_finite3
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Pre_finite4
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Pre_finite5
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Pre_finite8
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Reference10Ideal.Run
public import proofs.«01_k».proof.Proof.Stats.Claim
public import proofs.«01_k».proof.Proof.Merge.Claim
public import Idealize.ShloMosaic.Lib.Claim
public import Idealize.ShloMosaic.Adequacy
public import Idealize.ShloMosaic.Init

@[expose] public section

noncomputable section

namespace Cert.Proof

open Idealize.ShloMosaic Idealize.SL.Sem

theorem reference_frame : Cert.quiescent_ReferenceIdeal := fun m ρ _ =>
  (θ_run _ _ _).mono (fun r h => ⟨fun c => (h c).2, sem_eq_zero_of_no_sems (by decide) r.2⟩) (Cert.ReferenceIdeal.Forget.run m ρ)

/-- The forget gate's gradient: the kernel's blocks and the derivative are one array. -/
theorem forget : Cert.algebraic_KernelIdeal_ReferenceIdeal := by
  intro m ρ m' ρ' hpre hag
  refine ⟨fun c => Cert.ReferenceIdeal.Forget.term (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · refine (θ_run _ _ _).mono (fun r h c => ?_) (Cert.KernelIdeal.Value.run_blocks m ρ)
    obtain ⟨h1, h2, h3⟩ := h c
    exact ⟨h1.trans ((Cert.KernelIdeal.Forget.final m c).trans (Cert.ReferenceIdeal.Forget.term_eq _ _).symm), h2, h3⟩
  · refine (θ_run _ _ _).mono (fun r h c => ?_) (Cert.ReferenceIdeal.Forget.run m' ρ')
    obtain ⟨h1, h2, h3⟩ := h c
    rw [(hag c).1, (hag c).2] at h1
    exact ⟨h1, h2, h3⟩

theorem reference2_frame : Cert.quiescent_Reference2Ideal := fun m ρ _ =>
  (θ_run _ _ _).mono (fun r h => ⟨fun c => (h c).2.2.2.2, sem_eq_zero_of_no_sems (by decide) r.2⟩) (Cert.Reference2Ideal.Value.run m ρ)

/-- A named constant of the floating-point program is its bit pattern. -/
local instance : Named Bits := ⟨fun _ _ {φ} b => FloatOps.ofBits φ b⟩

set_option maxRecDepth 100000 in
/-- The floating-point program is the idealized text read at the machine's floats. -/
theorem kernel2_text : Cert.quiescent_Kernel2 =
    ∀ (m : (ℓ : Loc Cert.Kernel2Ideal.nD Cert.Kernel2Ideal.τ Cert.Kernel2Ideal.sig) → Buf (Elt Bits) ℓ) (g : Dev Cert.Kernel2Ideal.nD → PrngReg), True →
    θ_run (Cert.Kernel2Ideal.defs (F := Bits)) (onTc (τ := Cert.Kernel2Ideal.τ) (Cert.Kernel2Ideal.main (F := Bits))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0) := by sl_kernel_rfl

theorem kernel2_frame : Cert.quiescent_Kernel2 :=
  kernel2_text.mpr fun m ρ _ => Cert.Kernel2Ideal.Fox.unchanged_quiet (F := Bits) m ρ

theorem reference3_frame : Cert.quiescent_Reference3Ideal := fun m ρ _ =>
  (θ_run _ _ _).mono (fun r h => ⟨fun c => (h c).2.2.2.2, sem_eq_zero_of_no_sems (by decide) r.2⟩) (Cert.Reference3Ideal.Value.run m ρ)

theorem reference4_frame : Cert.quiescent_Reference4Ideal := fun m ρ _ =>
  (θ_run _ _ _).mono (fun r h => ⟨fun c => (h c).2.2.2.2.2.2.2.2.2, sem_eq_zero_of_no_sems (by decide) r.2⟩) (Cert.Reference4Ideal.Value.run m ρ)

theorem reference5_frame : Cert.quiescent_Reference5Ideal := fun m ρ _ =>
  (θ_run _ _ _).mono (fun r h => ⟨fun c => (h c).2.2.2, sem_eq_zero_of_no_sems (by decide) r.2⟩) (Cert.Reference5Ideal.Value.run m ρ)

theorem reference8_frame : Cert.quiescent_Reference8Ideal := fun m ρ _ =>
  (θ_run _ _ _).mono (fun r h => ⟨fun c => (h c).2.2.2.2, sem_eq_zero_of_no_sems (by decide) r.2⟩) (Cert.Reference8Ideal.Value.run m ρ)

theorem reference7_frame : Cert.quiescent_Reference7Ideal := fun m ρ _ =>
  (θ_run _ _ _).mono (fun r h => ⟨fun c => (h c).2.2.2, sem_eq_zero_of_no_sems (by decide) r.2⟩) (Cert.Reference7Ideal.Value.run m ρ)

theorem reference9_frame : Cert.quiescent_Reference9Ideal := fun m ρ _ =>
  (θ_run _ _ _).mono (fun r h => ⟨fun c => (h c).2.2, sem_eq_zero_of_no_sems (by decide) r.2⟩) (Cert.Reference9Ideal.Value.run m ρ)

theorem reference10_frame : Cert.quiescent_Reference10Ideal := fun m ρ _ =>
  (θ_run _ _ _).mono (fun r h => ⟨fun c => (h c).2.2.2.2, sem_eq_zero_of_no_sems (by decide) r.2⟩) (Cert.Reference10Ideal.Value.run m ρ)

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel8.Gen.facts, Cert.Kernel8Ideal.Gen.facts, Cert.Reference8Ideal.Gen.facts, Cert.Kernel7.Gen.facts, Cert.Kernel7Ideal.Gen.facts, Cert.Reference7Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Pre_finite2.Gen.facts, Cert.Pre_finite3.Gen.facts, Cert.Pre_finite4.Gen.facts, Cert.Pre_finite5.Gen.facts, Cert.Pre_finite8.Gen.facts,
   fun m ρ _ => Cert.Kernel.Gen.frame m ρ, fun m ρ _ => Cert.KernelIdeal.Gen.frame m ρ, reference_frame,
   kernel2_frame, fun m ρ _ => Cert.Kernel2Ideal.Fox.unchanged_quiet m ρ, fun m ρ _ => Cert.Kernel2Ideal.Fox.unchanged_quiet m ρ,
   reference2_frame, fun m ρ _ => reference2_frame m ρ trivial,
   fun m ρ _ => Cert.Kernel3.Gen.frame m ρ, fun m ρ _ => Cert.Kernel3Ideal.Gen.frame m ρ, fun m ρ _ => Cert.Kernel3Ideal.Gen.frame m ρ, reference3_frame, fun m ρ _ => reference3_frame m ρ trivial,
   fun m ρ _ => Cert.Kernel4.Gen.frame m ρ, fun m ρ _ => Cert.Kernel4Ideal.Gen.frame m ρ, fun m ρ _ => Cert.Kernel4Ideal.Gen.frame m ρ, reference4_frame, fun m ρ _ => reference4_frame m ρ trivial,
   fun m ρ _ => Cert.Kernel5.Gen.frame m ρ, fun m ρ _ => Cert.Kernel5Ideal.Gen.frame m ρ, fun m ρ _ => Cert.Kernel5Ideal.Gen.frame m ρ, reference5_frame, fun m ρ _ => reference5_frame m ρ trivial,
   fun m ρ _ => Cert.Kernel8.Gen.frame m ρ, fun m ρ _ => Cert.Kernel8Ideal.Gen.frame m ρ, fun m ρ _ => Cert.Kernel8Ideal.Gen.frame m ρ, reference8_frame, fun m ρ _ => reference8_frame m ρ trivial,
   fun m ρ _ => Cert.Kernel7.Gen.frame m ρ, fun m ρ _ => Cert.Kernel7Ideal.Gen.frame m ρ, reference7_frame,
   fun m ρ _ => Cert.Kernel9.Gen.frame m ρ, fun m ρ _ => Cert.Kernel9Ideal.Gen.frame m ρ, reference9_frame,
   fun m ρ _ => Cert.Kernel10.Gen.frame m ρ, fun m ρ _ => Cert.Kernel10Ideal.Gen.frame m ρ, reference10_frame,
   trivial, forget, ⟨IdealRules.named_const.statement _ _ _ _ _ rfl, IdealRules.named_const.statement _ _ _ _ _ rfl⟩, Cert.Fox.algebraic,
   trivial, Cert.Norm.algebraic,
   trivial, Cert.Mixer.algebraic,
   trivial, Cert.Conv.algebraic,
   ⟨IdealRules.named_const.statement _ _ _ _ _ rfl, IdealRules.named_const.statement _ _ _ _ _ rfl⟩, Cert.Fwd.algebraic,
   trivial, Cert.Loss.algebraic,
   trivial, Cert.Stats.algebraic,
   trivial, Cert.Merge.algebraic⟩

end Cert.Proof

end
